-- ==== Defs.lean ====
def Pre_SbPrompt (m : (ℓ : Loc Cert.SbPrompt.nD Cert.SbPrompt.τ Cert.SbPrompt.sig) → Buf (Elt Bits) ℓ) : Prop :=
  True

def Pre_SbPromptIdeal (m : (ℓ : Loc Cert.SbPromptIdeal.nD Cert.SbPromptIdeal.τ Cert.SbPromptIdeal.sig) → Buf (Elt Ideal) ℓ) : Prop :=
  True

def Pre_SbPromptIdeal_finite [hPre_finite : Cert.Pre_finite.Facts] (m : (ℓ : Loc Cert.SbPromptIdeal.nD Cert.SbPromptIdeal.τ Cert.SbPromptIdeal.sig) → Buf (Elt Ideal) ℓ) : Prop :=
  ∀ c : Dev Cert.SbPromptIdeal.nD,
    (Cert.Pre_finite.fn (F := Ideal) (m ((c.tc : Thread Cert.SbPromptIdeal.nD Cert.SbPromptIdeal.τ).loc Cert.SbPromptIdeal.main_arg0)) (m ((c.tc : Thread Cert.SbPromptIdeal.nD Cert.SbPromptIdeal.τ).loc Cert.SbPromptIdeal.main_arg1)) (m ((c.tc : Thread Cert.SbPromptIdeal.nD Cert.SbPromptIdeal.τ).loc Cert.SbPromptIdeal.main_arg2))) = (fun _ => 1#1)

def Pre_SbPromptRefIdeal (m : (ℓ : Loc Cert.SbPromptRefIdeal.nD Cert.SbPromptRefIdeal.τ Cert.SbPromptRefIdeal.sig) → Buf (Elt Ideal) ℓ) : Prop :=
  True

def Pre_SbPromptRefIdeal_finite [hPre_finite : Cert.Pre_finite.Facts] (m : (ℓ : Loc Cert.SbPromptRefIdeal.nD Cert.SbPromptRefIdeal.τ Cert.SbPromptRefIdeal.sig) → Buf (Elt Ideal) ℓ) : Prop :=
  ∀ c : Dev Cert.SbPromptRefIdeal.nD,
    (Cert.Pre_finite.fn (F := Ideal) (m ((c.tc : Thread Cert.SbPromptRefIdeal.nD Cert.SbPromptRefIdeal.τ).loc Cert.SbPromptRefIdeal.main_arg0)) (m ((c.tc : Thread Cert.SbPromptRefIdeal.nD Cert.SbPromptRefIdeal.τ).loc Cert.SbPromptRefIdeal.main_arg1)) (m ((c.tc : Thread Cert.SbPromptRefIdeal.nD Cert.SbPromptRefIdeal.τ).loc Cert.SbPromptRefIdeal.main_arg2))) = (fun _ => 1#1)

def Pre_OutMlpFinal (m : (ℓ : Loc Cert.OutMlpFinal.nD Cert.OutMlpFinal.τ Cert.OutMlpFinal.sig) → Buf (Elt Bits) ℓ) : Prop :=
  True

def Pre_OutMlpFinalIdeal (m : (ℓ : Loc Cert.OutMlpFinalIdeal.nD Cert.OutMlpFinalIdeal.τ Cert.OutMlpFinalIdeal.sig) → Buf (Elt Ideal) ℓ) : Prop :=
  True

def Pre_OutMlpFinalRefIdeal (m : (ℓ : Loc Cert.OutMlpFinalRefIdeal.nD Cert.OutMlpFinalRefIdeal.τ Cert.OutMlpFinalRefIdeal.sig) → Buf (Elt Ideal) ℓ) : Prop :=
  True

def Pre_OutMlpFirst (m : (ℓ : Loc Cert.OutMlpFirst.nD Cert.OutMlpFirst.τ Cert.OutMlpFirst.sig) → Buf (Elt Bits) ℓ) : Prop :=
  True

def Pre_OutMlpFirstIdeal (m : (ℓ : Loc Cert.OutMlpFirstIdeal.nD Cert.OutMlpFirstIdeal.τ Cert.OutMlpFirstIdeal.sig) → Buf (Elt Ideal) ℓ) : Prop :=
  True

def Pre_OutMlpFirstRefIdeal (m : (ℓ : Loc Cert.OutMlpFirstRefIdeal.nD Cert.OutMlpFirstRefIdeal.τ Cert.OutMlpFirstRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_CIn (m : (ℓ : Loc Cert.CIn.nD Cert.CIn.τ Cert.CIn.sig) → Buf (Elt Bits) ℓ) : Prop :=
  True

def Pre_CInIdeal (m : (ℓ : Loc Cert.CInIdeal.nD Cert.CInIdeal.τ Cert.CInIdeal.sig) → Buf (Elt Ideal) ℓ) : Prop :=
  True

def Pre_CInRefIdeal (m : (ℓ : Loc Cert.CInRefIdeal.nD Cert.CInRefIdeal.τ Cert.CInRefIdeal.sig) → Buf (Elt Ideal) ℓ) : Prop :=
  True

def Pre_FinalSample (m : (ℓ : Loc Cert.FinalSample.nD Cert.FinalSample.τ Cert.FinalSample.sig) → Buf (Elt Bits) ℓ) : Prop :=
  True

def Pre_FinalSampleIdeal (m : (ℓ : Loc Cert.FinalSampleIdeal.nD Cert.FinalSampleIdeal.τ Cert.FinalSampleIdeal.sig) → Buf (Elt Ideal) ℓ) : Prop :=
  True

def Pre_FinalSampleRefIdeal (m : (ℓ : Loc Cert.FinalSampleRefIdeal.nD Cert.FinalSampleRefIdeal.τ Cert.FinalSampleRefIdeal.sig) → Buf (Elt Ideal) ℓ) : Prop :=
  True

def Pre_FirstSample (m : (ℓ : Loc Cert.FirstSample.nD Cert.FirstSample.τ Cert.FirstSample.sig) → Buf (Elt Bits) ℓ) : Prop :=
  True

def Pre_FirstSampleIdeal (m : (ℓ : Loc Cert.FirstSampleIdeal.nD Cert.FirstSampleIdeal.τ Cert.FirstSampleIdeal.sig) → Buf (Elt Ideal) ℓ) : Prop :=
  True

def Pre_FirstSampleRefIdeal (m : (ℓ : Loc Cert.FirstSampleRefIdeal.nD Cert.FirstSampleRefIdeal.τ Cert.FirstSampleRefIdeal.sig) → Buf (Elt Ideal) ℓ) : Prop :=
  True

def Pre_AbSample (m : (ℓ : Loc Cert.AbSample.nD Cert.AbSample.τ Cert.AbSample.sig) → Buf (Elt Bits) ℓ) : Prop :=
  True

def Pre_AbSampleIdeal (m : (ℓ : Loc Cert.AbSampleIdeal.nD Cert.AbSampleIdeal.τ Cert.AbSampleIdeal.sig) → Buf (Elt Ideal) ℓ) : Prop :=
  True

def Pre_AbSampleRefIdeal (m : (ℓ : Loc Cert.AbSampleRefIdeal.nD Cert.AbSampleRefIdeal.τ Cert.AbSampleRefIdeal.sig) → Buf (Elt Ideal) ℓ) : Prop :=
  True

def Pre_CSample (m : (ℓ : Loc Cert.CSample.nD Cert.CSample.τ Cert.CSample.sig) → Buf (Elt Bits) ℓ) : Prop :=
  True

def Pre_CSampleIdeal (m : (ℓ : Loc Cert.CSampleIdeal.nD Cert.CSampleIdeal.τ Cert.CSampleIdeal.sig) → Buf (Elt Ideal) ℓ) : Prop :=
  True

def Pre_CSampleRefIdeal (m : (ℓ : Loc Cert.CSampleRefIdeal.nD Cert.CSampleRefIdeal.τ Cert.CSampleRefIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleRefIdeal (m : (ℓ : Loc Cert.ConvSampleRefIdeal.nD Cert.ConvSampleRefIdeal.τ Cert.ConvSampleRefIdeal.sig) → Buf (Elt Ideal) ℓ) : Prop :=
  True

def quiescent_SbPrompt [hSbPrompt : Cert.SbPrompt.Facts] : Prop :=
  ∀ (m : (ℓ : Loc Cert.SbPrompt.nD Cert.SbPrompt.τ Cert.SbPrompt.sig) → Buf (Elt Bits) ℓ) (g : Dev Cert.SbPrompt.nD → PrngReg), Pre_SbPrompt m →
    θ_run (Cert.SbPrompt.defs (F := Bits)) (onTc (τ := Cert.SbPrompt.τ) (Cert.SbPrompt.main (F := Bits))) ⟨m, fun _ => 0, g⟩ (fun r => (∀ c : Dev Cert.SbPrompt.nD,
      r.2.mem ((c.tc : Thread Cert.SbPrompt.nD Cert.SbPrompt.τ).loc Cert.SbPrompt.main_arg0) = m ((c.tc : Thread Cert.SbPrompt.nD Cert.SbPrompt.τ).loc Cert.SbPrompt.main_arg0)
      ∧ r.2.mem ((c.tc : Thread Cert.SbPrompt.nD Cert.SbPrompt.τ).loc Cert.SbPrompt.main_arg1) = m ((c.tc : Thread Cert.SbPrompt.nD Cert.SbPrompt.τ).loc Cert.SbPrompt.main_arg1)
      ∧ r.2.mem ((c.tc : Thread Cert.SbPrompt.nD Cert.SbPrompt.τ).loc Cert.SbPrompt.main_arg2) = m ((c.tc : Thread Cert.SbPrompt.nD Cert.SbPrompt.τ).loc Cert.SbPrompt.main_arg2))
      ∧ r.2.sem = fun _ => 0)

def quiescent_SbPromptIdeal [hSbPromptIdeal : Cert.SbPromptIdeal.Facts] : Prop :=
  ∀ (m : (ℓ : Loc Cert.SbPromptIdeal.nD Cert.SbPromptIdeal.τ Cert.SbPromptIdeal.sig) → Buf (Elt Ideal) ℓ) (g : Dev Cert.SbPromptIdeal.nD → PrngReg), Pre_SbPromptIdeal m →
    θ_run (Cert.SbPromptIdeal.defs (F := Ideal)) (onTc (τ := Cert.SbPromptIdeal.τ) (Cert.SbPromptIdeal.main (F := Ideal))) ⟨m, fun _ => 0, g⟩ (fun r => (∀ c : Dev Cert.SbPromptIdeal.nD,
      r.2.mem ((c.tc : Thread Cert.SbPromptIdeal.nD Cert.SbPromptIdeal.τ).loc Cert.SbPromptIdeal.main_arg0) = m ((c.tc : Thread Cert.SbPromptIdeal.nD Cert.SbPromptIdeal.τ).loc Cert.SbPromptIdeal.main_arg0)
      ∧ r.2.mem ((c.tc : Thread Cert.SbPromptIdeal.nD Cert.SbPromptIdeal.τ).loc Cert.SbPromptIdeal.main_arg1) = m ((c.tc : Thread Cert.SbPromptIdeal.nD Cert.SbPromptIdeal.τ).loc Cert.SbPromptIdeal.main_arg1)
      ∧ r.2.mem ((c.tc : Thread Cert.SbPromptIdeal.nD Cert.SbPromptIdeal.τ).loc Cert.SbPromptIdeal.main_arg2) = m ((c.tc : Thread Cert.SbPromptIdeal.nD Cert.SbPromptIdeal.τ).loc Cert.SbPromptIdeal.main_arg2))
      ∧ r.2.sem = fun _ => 0)

def quiescent_SbPromptIdeal_pre_finite [hSbPromptIdeal : Cert.SbPromptIdeal.Facts] [hPre_finite : Cert.Pre_finite.Facts] : Prop :=
  ∀ (m : (ℓ : Loc Cert.SbPromptIdeal.nD Cert.SbPromptIdeal.τ Cert.SbPromptIdeal.sig) → Buf (Elt Ideal) ℓ) (g : Dev Cert.SbPromptIdeal.nD → PrngReg), Pre_SbPromptIdeal_finite m →
    θ_run (Cert.SbPromptIdeal.defs (F := Ideal)) (onTc (τ := Cert.SbPromptIdeal.τ) (Cert.SbPromptIdeal.main (F := Ideal))) ⟨m, fun _ => 0, g⟩ (fun r => (∀ c : Dev Cert.SbPromptIdeal.nD,
      r.2.mem ((c.tc : Thread Cert.SbPromptIdeal.nD Cert.SbPromptIdeal.τ).loc Cert.SbPromptIdeal.main_arg0) = m ((c.tc : Thread Cert.SbPromptIdeal.nD Cert.SbPromptIdeal.τ).loc Cert.SbPromptIdeal.main_arg0)
      ∧ r.2.mem ((c.tc : Thread Cert.SbPromptIdeal.nD Cert.SbPromptIdeal.τ).loc Cert.SbPromptIdeal.main_arg1) = m ((c.tc : Thread Cert.SbPromptIdeal.nD Cert.SbPromptIdeal.τ).loc Cert.SbPromptIdeal.main_arg1)
      ∧ r.2.mem ((c.tc : Thread Cert.SbPromptIdeal.nD Cert.SbPromptIdeal.τ).loc Cert.SbPromptIdeal.main_arg2) = m ((c.tc : Thread Cert.SbPromptIdeal.nD Cert.SbPromptIdeal.τ).loc Cert.SbPromptIdeal.main_arg2))
      ∧ r.2.sem = fun _ => 0)

def quiescent_SbPromptRefIdeal [hSbPromptRefIdeal : Cert.SbPromptRefIdeal.Facts] : Prop :=
  ∀ (m : (ℓ : Loc Cert.SbPromptRefIdeal.nD Cert.SbPromptRefIdeal.τ Cert.SbPromptRefIdeal.sig) → Buf (Elt Ideal) ℓ) (g : Dev Cert.SbPromptRefIdeal.nD → PrngReg), Pre_SbPromptRefIdeal m →
    θ_run (Cert.SbPromptRefIdeal.defs (F := Ideal)) (onTc (τ := Cert.SbPromptRefIdeal.τ) (Cert.SbPromptRefIdeal.main (F := Ideal))) ⟨m, fun _ => 0, g⟩ (fun r => (∀ c : Dev Cert.SbPromptRefIdeal.nD,
      r.2.mem ((c.tc : Thread Cert.SbPromptRefIdeal.nD Cert.SbPromptRefIdeal.τ).loc Cert.SbPromptRefIdeal.main_arg0) = m ((c.tc : Thread Cert.SbPromptRefIdeal.nD Cert.SbPromptRefIdeal.τ).loc Cert.SbPromptRefIdeal.main_arg0)
      ∧ r.2.mem ((c.tc : Thread Cert.SbPromptRefIdeal.nD Cert.SbPromptRefIdeal.τ).loc Cert.SbPromptRefIdeal.main_arg1) = m ((c.tc : Thread Cert.SbPromptRefIdeal.nD Cert.SbPromptRefIdeal.τ).loc Cert.SbPromptRefIdeal.main_arg1)
      ∧ r.2.mem ((c.tc : Thread Cert.SbPromptRefIdeal.nD Cert.SbPromptRefIdeal.τ).loc Cert.SbPromptRefIdeal.main_arg2) = m ((c.tc : Thread Cert.SbPromptRefIdeal.nD Cert.SbPromptRefIdeal.τ).loc Cert.SbPromptRefIdeal.main_arg2))
      ∧ r.2.sem = fun _ => 0)

def quiescent_SbPromptRefIdeal_pre_finite [hSbPromptRefIdeal : Cert.SbPromptRefIdeal.Facts] [hPre_finite : Cert.Pre_finite.Facts] : Prop :=
  ∀ (m : (ℓ : Loc Cert.SbPromptRefIdeal.nD Cert.SbPromptRefIdeal.τ Cert.SbPromptRefIdeal.sig) → Buf (Elt Ideal) ℓ) (g : Dev Cert.SbPromptRefIdeal.nD → PrngReg), Pre_SbPromptRefIdeal_finite m →
    θ_run (Cert.SbPromptRefIdeal.defs (F := Ideal)) (onTc (τ := Cert.SbPromptRefIdeal.τ) (Cert.SbPromptRefIdeal.main (F := Ideal))) ⟨m, fun _ => 0, g⟩ (fun r => (∀ c : Dev Cert.SbPromptRefIdeal.nD,
      r.2.mem ((c.tc : Thread Cert.SbPromptRefIdeal.nD Cert.SbPromptRefIdeal.τ).loc Cert.SbPromptRefIdeal.main_arg0) = m ((c.tc : Thread Cert.SbPromptRefIdeal.nD Cert.SbPromptRefIdeal.τ).loc Cert.SbPromptRefIdeal.main_arg0)
      ∧ r.2.mem ((c.tc : Thread Cert.SbPromptRefIdeal.nD Cert.SbPromptRefIdeal.τ).loc Cert.SbPromptRefIdeal.main_arg1) = m ((c.tc : Thread Cert.SbPromptRefIdeal.nD Cert.SbPromptRefIdeal.τ).loc Cert.SbPromptRefIdeal.main_arg1)
      ∧ r.2.mem ((c.tc : Thread Cert.SbPromptRefIdeal.nD Cert.SbPromptRefIdeal.τ).loc Cert.SbPromptRefIdeal.main_arg2) = m ((c.tc : Thread Cert.SbPromptRefIdeal.nD Cert.SbPromptRefIdeal.τ).loc Cert.SbPromptRefIdeal.main_arg2))
      ∧ r.2.sem = fun _ => 0)

def quiescent_OutMlpFinal [hOutMlpFinal : Cert.OutMlpFinal.Facts] : Prop :=
  ∀ (m : (ℓ : Loc Cert.OutMlpFinal.nD Cert.OutMlpFinal.τ Cert.OutMlpFinal.sig) → Buf (Elt Bits) ℓ) (g : Dev Cert.OutMlpFinal.nD → PrngReg), Pre_OutMlpFinal m →
    θ_run (Cert.OutMlpFinal.defs (F := Bits)) (onTc (τ := Cert.OutMlpFinal.τ) (Cert.OutMlpFinal.main (F := Bits))) ⟨m, fun _ => 0, g⟩ (fun r => (∀ c : Dev Cert.OutMlpFinal.nD,
      r.2.mem ((c.tc : Thread Cert.OutMlpFinal.nD Cert.OutMlpFinal.τ).loc Cert.OutMlpFinal.main_arg0) = m ((c.tc : Thread Cert.OutMlpFinal.nD Cert.OutMlpFinal.τ).loc Cert.OutMlpFinal.main_arg0)
      ∧ r.2.mem ((c.tc : Thread Cert.OutMlpFinal.nD Cert.OutMlpFinal.τ).loc Cert.OutMlpFinal.main_arg1) = m ((c.tc : Thread Cert.OutMlpFinal.nD Cert.OutMlpFinal.τ).loc Cert.OutMlpFinal.main_arg1)
      ∧ r.2.mem ((c.tc : Thread Cert.OutMlpFinal.nD Cert.OutMlpFinal.τ).loc Cert.OutMlpFinal.main_arg2) = m ((c.tc : Thread Cert.OutMlpFinal.nD Cert.OutMlpFinal.τ).loc Cert.OutMlpFinal.main_arg2)
      ∧ r.2.mem ((c.tc : Thread Cert.OutMlpFinal.nD Cert.OutMlpFinal.τ).loc Cert.OutMlpFinal.main_arg3) = m ((c.tc : Thread Cert.OutMlpFinal.nD Cert.OutMlpFinal.τ).loc Cert.OutMlpFinal.main_arg3)
      ∧ r.2.mem ((c.tc : Thread Cert.OutMlpFinal.nD Cert.OutMlpFinal.τ).loc Cert.OutMlpFinal.main_arg4) = m ((c.tc : Thread Cert.OutMlpFinal.nD Cert.OutMlpFinal.τ).loc Cert.OutMlpFinal.main_arg4)
      ∧ r.2.mem ((c.tc : Thread Cert.OutMlpFinal.nD Cert.OutMlpFinal.τ).loc Cert.OutMlpFinal.main_arg5) = m ((c.tc : Thread Cert.OutMlpFinal.nD Cert.OutMlpFinal.τ).loc Cert.OutMlpFinal.main_arg5)
      ∧ r.2.mem ((c.tc : Thread Cert.OutMlpFinal.nD Cert.OutMlpFinal.τ).loc Cert.OutMlpFinal.main_arg6) = m ((c.tc : Thread Cert.OutMlpFinal.nD Cert.OutMlpFinal.τ).loc Cert.OutMlpFinal.main_arg6))
      ∧ r.2.sem = fun _ => 0)

def quiescent_OutMlpFinalIdeal [hOutMlpFinalIdeal : Cert.OutMlpFinalIdeal.Facts] : Prop :=
  ∀ (m : (ℓ : Loc Cert.OutMlpFinalIdeal.nD Cert.OutMlpFinalIdeal.τ Cert.OutMlpFinalIdeal.sig) → Buf (Elt Ideal) ℓ) (g : Dev Cert.OutMlpFinalIdeal.nD → PrngReg), Pre_OutMlpFinalIdeal m →
    θ_run (Cert.OutMlpFinalIdeal.defs (F := Ideal)) (onTc (τ := Cert.OutMlpFinalIdeal.τ) (Cert.OutMlpFinalIdeal.main (F := Ideal))) ⟨m, fun _ => 0, g⟩ (fun r => (∀ c : Dev Cert.OutMlpFinalIdeal.nD,
      r.2.mem ((c.tc : Thread Cert.OutMlpFinalIdeal.nD Cert.OutMlpFinalIdeal.τ).loc Cert.OutMlpFinalIdeal.main_arg0) = m ((c.tc : Thread Cert.OutMlpFinalIdeal.nD Cert.OutMlpFinalIdeal.τ).loc Cert.OutMlpFinalIdeal.main_arg0)
      ∧ r.2.mem ((c.tc : Thread Cert.OutMlpFinalIdeal.nD Cert.OutMlpFinalIdeal.τ).loc Cert.OutMlpFinalIdeal.main_arg1) = m ((c.tc : Thread Cert.OutMlpFinalIdeal.nD Cert.OutMlpFinalIdeal.τ).loc Cert.OutMlpFinalIdeal.main_arg1)
      ∧ r.2.mem ((c.tc : Thread Cert.OutMlpFinalIdeal.nD Cert.OutMlpFinalIdeal.τ).loc Cert.OutMlpFinalIdeal.main_arg2) = m ((c.tc : Thread Cert.OutMlpFinalIdeal.nD Cert.OutMlpFinalIdeal.τ).loc Cert.OutMlpFinalIdeal.main_arg2)
      ∧ r.2.mem ((c.tc : Thread Cert.OutMlpFinalIdeal.nD Cert.OutMlpFinalIdeal.τ).loc Cert.OutMlpFinalIdeal.main_arg3) = m ((c.tc : Thread Cert.OutMlpFinalIdeal.nD Cert.OutMlpFinalIdeal.τ).loc Cert.OutMlpFinalIdeal.main_arg3)
      ∧ r.2.mem ((c.tc : Thread Cert.OutMlpFinalIdeal.nD Cert.OutMlpFinalIdeal.τ).loc Cert.OutMlpFinalIdeal.main_arg4) = m ((c.tc : Thread Cert.OutMlpFinalIdeal.nD Cert.OutMlpFinalIdeal.τ).loc Cert.OutMlpFinalIdeal.main_arg4)
      ∧ r.2.mem ((c.tc : Thread Cert.OutMlpFinalIdeal.nD Cert.OutMlpFinalIdeal.τ).loc Cert.OutMlpFinalIdeal.main_arg5) = m ((c.tc : Thread Cert.OutMlpFinalIdeal.nD Cert.OutMlpFinalIdeal.τ).loc Cert.OutMlpFinalIdeal.main_arg5)
      ∧ r.2.mem ((c.tc : Thread Cert.OutMlpFinalIdeal.nD Cert.OutMlpFinalIdeal.τ).loc Cert.OutMlpFinalIdeal.main_arg6) = m ((c.tc : Thread Cert.OutMlpFinalIdeal.nD Cert.OutMlpFinalIdeal.τ).loc Cert.OutMlpFinalIdeal.main_arg6))
      ∧ r.2.sem = fun _ => 0)

def quiescent_OutMlpFinalRefIdeal [hOutMlpFinalRefIdeal : Cert.OutMlpFinalRefIdeal.Facts] : Prop :=
  ∀ (m : (ℓ : Loc Cert.OutMlpFinalRefIdeal.nD Cert.OutMlpFinalRefIdeal.τ Cert.OutMlpFinalRefIdeal.sig) → Buf (Elt Ideal) ℓ) (g : Dev Cert.OutMlpFinalRefIdeal.nD → PrngReg), Pre_OutMlpFinalRefIdeal m →
    θ_run (Cert.OutMlpFinalRefIdeal.defs (F := Ideal)) (onTc (τ := Cert.OutMlpFinalRefIdeal.τ) (Cert.OutMlpFinalRefIdeal.main (F := Ideal))) ⟨m, fun _ => 0, g⟩ (fun r => (∀ c : Dev Cert.OutMlpFinalRefIdeal.nD,
      r.2.mem ((c.tc : Thread Cert.OutMlpFinalRefIdeal.nD Cert.OutMlpFinalRefIdeal.τ).loc Cert.OutMlpFinalRefIdeal.main_arg0) = m ((c.tc : Thread Cert.OutMlpFinalRefIdeal.nD Cert.OutMlpFinalRefIdeal.τ).loc Cert.OutMlpFinalRefIdeal.main_arg0)
      ∧ r.2.mem ((c.tc : Thread Cert.OutMlpFinalRefIdeal.nD Cert.OutMlpFinalRefIdeal.τ).loc Cert.OutMlpFinalRefIdeal.main_arg1) = m ((c.tc : Thread Cert.OutMlpFinalRefIdeal.nD Cert.OutMlpFinalRefIdeal.τ).loc Cert.OutMlpFinalRefIdeal.main_arg1)
      ∧ r.2.mem ((c.tc : Thread Cert.OutMlpFinalRefIdeal.nD Cert.OutMlpFinalRefIdeal.τ).loc Cert.OutMlpFinalRefIdeal.main_arg2) = m ((c.tc : Thread Cert.OutMlpFinalRefIdeal.nD Cert.OutMlpFinalRefIdeal.τ).loc Cert.OutMlpFinalRefIdeal.main_arg2)
      ∧ r.2.mem ((c.tc : Thread Cert.OutMlpFinalRefIdeal.nD Cert.OutMlpFinalRefIdeal.τ).loc Cert.OutMlpFinalRefIdeal.main_arg3) = m ((c.tc : Thread Cert.OutMlpFinalRefIdeal.nD Cert.OutMlpFinalRefIdeal.τ).loc Cert.OutMlpFinalRefIdeal.main_arg3)
      ∧ r.2.mem ((c.tc : Thread Cert.OutMlpFinalRefIdeal.nD Cert.OutMlpFinalRefIdeal.τ).loc Cert.OutMlpFinalRefIdeal.main_arg4) = m ((c.tc : Thread Cert.OutMlpFinalRefIdeal.nD Cert.OutMlpFinalRefIdeal.τ).loc Cert.OutMlpFinalRefIdeal.main_arg4)
      ∧ r.2.mem ((c.tc : Thread Cert.OutMlpFinalRefIdeal.nD Cert.OutMlpFinalRefIdeal.τ).loc Cert.OutMlpFinalRefIdeal.main_arg5) = m ((c.tc : Thread Cert.OutMlpFinalRefIdeal.nD Cert.OutMlpFinalRefIdeal.τ).loc Cert.OutMlpFinalRefIdeal.main_arg5)
      ∧ r.2.mem ((c.tc : Thread Cert.OutMlpFinalRefIdeal.nD Cert.OutMlpFinalRefIdeal.τ).loc Cert.OutMlpFinalRefIdeal.main_arg6) = m ((c.tc : Thread Cert.OutMlpFinalRefIdeal.nD Cert.OutMlpFinalRefIdeal.τ).loc Cert.OutMlpFinalRefIdeal.main_arg6))
      ∧ r.2.sem = fun _ => 0)

def quiescent_OutMlpFirst [hOutMlpFirst : Cert.OutMlpFirst.Facts] : Prop :=
  ∀ (m : (ℓ : Loc Cert.OutMlpFirst.nD Cert.OutMlpFirst.τ Cert.OutMlpFirst.sig) → Buf (Elt Bits) ℓ) (g : Dev Cert.OutMlpFirst.nD → PrngReg), Pre_OutMlpFirst m →
    θ_run (Cert.OutMlpFirst.defs (F := Bits)) (onTc (τ := Cert.OutMlpFirst.τ) (Cert.OutMlpFirst.main (F := Bits))) ⟨m, fun _ => 0, g⟩ (fun r => (∀ c : Dev Cert.OutMlpFirst.nD,
      r.2.mem ((c.tc : Thread Cert.OutMlpFirst.nD Cert.OutMlpFirst.τ).loc Cert.OutMlpFirst.main_arg0) = m ((c.tc : Thread Cert.OutMlpFirst.nD Cert.OutMlpFirst.τ).loc Cert.OutMlpFirst.main_arg0)
      ∧ r.2.mem ((c.tc : Thread Cert.OutMlpFirst.nD Cert.OutMlpFirst.τ).loc Cert.OutMlpFirst.main_arg1) = m ((c.tc : Thread Cert.OutMlpFirst.nD Cert.OutMlpFirst.τ).loc Cert.OutMlpFirst.main_arg1)
      ∧ r.2.mem ((c.tc : Thread Cert.OutMlpFirst.nD Cert.OutMlpFirst.τ).loc Cert.OutMlpFirst.main_arg2) = m ((c.tc : Thread Cert.OutMlpFirst.nD Cert.OutMlpFirst.τ).loc Cert.OutMlpFirst.main_arg2)
      ∧ r.2.mem ((c.tc : Thread Cert.OutMlpFirst.nD Cert.OutMlpFirst.τ).loc Cert.OutMlpFirst.main_arg3) = m ((c.tc : Thread Cert.OutMlpFirst.nD Cert.OutMlpFirst.τ).loc Cert.OutMlpFirst.main_arg3)
      ∧ r.2.mem ((c.tc : Thread Cert.OutMlpFirst.nD Cert.OutMlpFirst.τ).loc Cert.OutMlpFirst.main_arg4) = m ((c.tc : Thread Cert.OutMlpFirst.nD Cert.OutMlpFirst.τ).loc Cert.OutMlpFirst.main_arg4)
      ∧ r.2.mem ((c.tc : Thread Cert.OutMlpFirst.nD Cert.OutMlpFirst.τ).loc Cert.OutMlpFirst.main_arg5) = m ((c.tc : Thread Cert.OutMlpFirst.nD Cert.OutMlpFirst.τ).loc Cert.OutMlpFirst.main_arg5)
      ∧ r.2.mem ((c.tc : Thread Cert.OutMlpFirst.nD Cert.OutMlpFirst.τ).loc Cert.OutMlpFirst.main_arg6) = m ((c.tc : Thread Cert.OutMlpFirst.nD Cert.OutMlpFirst.τ).loc Cert.OutMlpFirst.main_arg6)
      ∧ r.2.mem ((c.tc : Thread Cert.OutMlpFirst.nD Cert.OutMlpFirst.τ).loc Cert.OutMlpFirst.main_arg7) = m ((c.tc : Thread Cert.OutMlpFirst.nD Cert.OutMlpFirst.τ).loc Cert.OutMlpFirst.main_arg7))
      ∧ r.2.sem = fun _ => 0)

def quiescent_OutMlpFirstIdeal [hOutMlpFirstIdeal : Cert.OutMlpFirstIdeal.Facts] : Prop :=
  ∀ (m : (ℓ : Loc Cert.OutMlpFirstIdeal.nD Cert.OutMlpFirstIdeal.τ Cert.OutMlpFirstIdeal.sig) → Buf (Elt Ideal) ℓ) (g : Dev Cert.OutMlpFirstIdeal.nD → PrngReg), Pre_OutMlpFirstIdeal m →
    θ_run (Cert.OutMlpFirstIdeal.defs (F := Ideal)) (onTc (τ := Cert.OutMlpFirstIdeal.τ) (Cert.OutMlpFirstIdeal.main (F := Ideal))) ⟨m, fun _ => 0, g⟩ (fun r => (∀ c : Dev Cert.OutMlpFirstIdeal.nD,
      r.2.mem ((c.tc : Thread Cert.OutMlpFirstIdeal.nD Cert.OutMlpFirstIdeal.τ).loc Cert.OutMlpFirstIdeal.main_arg0) = m ((c.tc : Thread Cert.OutMlpFirstIdeal.nD Cert.OutMlpFirstIdeal.τ).loc Cert.OutMlpFirstIdeal.main_arg0)
      ∧ r.2.mem ((c.tc : Thread Cert.OutMlpFirstIdeal.nD Cert.OutMlpFirstIdeal.τ).loc Cert.OutMlpFirstIdeal.main_arg1) = m ((c.tc : Thread Cert.OutMlpFirstIdeal.nD Cert.OutMlpFirstIdeal.τ).loc Cert.OutMlpFirstIdeal.main_arg1)
      ∧ r.2.mem ((c.tc : Thread Cert.OutMlpFirstIdeal.nD Cert.OutMlpFirstIdeal.τ).loc Cert.OutMlpFirstIdeal.main_arg2) = m ((c.tc : Thread Cert.OutMlpFirstIdeal.nD Cert.OutMlpFirstIdeal.τ).loc Cert.OutMlpFirstIdeal.main_arg2)
      ∧ r.2.mem ((c.tc : Thread Cert.OutMlpFirstIdeal.nD Cert.OutMlpFirstIdeal.τ).loc Cert.OutMlpFirstIdeal.main_arg3) = m ((c.tc : Thread Cert.OutMlpFirstIdeal.nD Cert.OutMlpFirstIdeal.τ).loc Cert.OutMlpFirstIdeal.main_arg3)
      ∧ r.2.mem ((c.tc : Thread Cert.OutMlpFirstIdeal.nD Cert.OutMlpFirstIdeal.τ).loc Cert.OutMlpFirstIdeal.main_arg4) = m ((c.tc : Thread Cert.OutMlpFirstIdeal.nD Cert.OutMlpFirstIdeal.τ).loc Cert.OutMlpFirstIdeal.main_arg4)
      ∧ r.2.mem ((c.tc : Thread Cert.OutMlpFirstIdeal.nD Cert.OutMlpFirstIdeal.τ).loc Cert.OutMlpFirstIdeal.main_arg5) = m ((c.tc : Thread Cert.OutMlpFirstIdeal.nD Cert.OutMlpFirstIdeal.τ).loc Cert.OutMlpFirstIdeal.main_arg5)
      ∧ r.2.mem ((c.tc : Thread Cert.OutMlpFirstIdeal.nD Cert.OutMlpFirstIdeal.τ).loc Cert.OutMlpFirstIdeal.main_arg6) = m ((c.tc : Thread Cert.OutMlpFirstIdeal.nD Cert.OutMlpFirstIdeal.τ).loc Cert.OutMlpFirstIdeal.main_arg6)
      ∧ r.2.mem ((c.tc : Thread Cert.OutMlpFirstIdeal.nD Cert.OutMlpFirstIdeal.τ).loc Cert.OutMlpFirstIdeal.main_arg7) = m ((c.tc : Thread Cert.OutMlpFirstIdeal.nD Cert.OutMlpFirstIdeal.τ).loc Cert.OutMlpFirstIdeal.main_arg7))
      ∧ r.2.sem = fun _ => 0)

def quiescent_OutMlpFirstRefIdeal [hOutMlpFirstRefIdeal : Cert.OutMlpFirstRefIdeal.Facts] : Prop :=
  ∀ (m : (ℓ : Loc Cert.OutMlpFirstRefIdeal.nD Cert.OutMlpFirstRefIdeal.τ Cert.OutMlpFirstRefIdeal.sig) → Buf (Elt Ideal) ℓ) (g : Dev Cert.OutMlpFirstRefIdeal.nD → PrngReg), Pre_OutMlpFirstRefIdeal m →
    θ_run (Cert.OutMlpFirstRefIdeal.defs (F := Ideal)) (onTc (τ := Cert.OutMlpFirstRefIdeal.τ) (Cert.OutMlpFirstRefIdeal.main (F := Ideal))) ⟨m, fun _ => 0, g⟩ (fun r => (∀ c : Dev Cert.OutMlpFirstRefIdeal.nD,
      r.2.mem ((c.tc : Thread Cert.OutMlpFirstRefIdeal.nD Cert.OutMlpFirstRefIdeal.τ).loc Cert.OutMlpFirstRefIdeal.main_arg0) = m ((c.tc : Thread Cert.OutMlpFirstRefIdeal.nD Cert.OutMlpFirstRefIdeal.τ).loc Cert.OutMlpFirstRefIdeal.main_arg0)
      ∧ r.2.mem ((c.tc : Thread Cert.OutMlpFirstRefIdeal.nD Cert.OutMlpFirstRefIdeal.τ).loc Cert.OutMlpFirstRefIdeal.main_arg1) = m ((c.tc : Thread Cert.OutMlpFirstRefIdeal.nD Cert.OutMlpFirstRefIdeal.τ).loc Cert.OutMlpFirstRefIdeal.main_arg1)
      ∧ r.2.mem ((c.tc : Thread Cert.OutMlpFirstRefIdeal.nD Cert.OutMlpFirstRefIdeal.τ).loc Cert.OutMlpFirstRefIdeal.main_arg2) = m ((c.tc : Thread Cert.OutMlpFirstRefIdeal.nD Cert.OutMlpFirstRefIdeal.τ).loc Cert.OutMlpFirstRefIdeal.main_arg2)
      ∧ r.2.mem ((c.tc : Thread Cert.OutMlpFirstRefIdeal.nD Cert.OutMlpFirstRefIdeal.τ).loc Cert.OutMlpFirstRefIdeal.main_arg3) = m ((c.tc : Thread Cert.OutMlpFirstRefIdeal.nD Cert.OutMlpFirstRefIdeal.τ).loc Cert.OutMlpFirstRefIdeal.main_arg3)
      ∧ r.2.mem ((c.tc : Thread Cert.OutMlpFirstRefIdeal.nD Cert.OutMlpFirstRefIdeal.τ).loc Cert.OutMlpFirstRefIdeal.main_arg4) = m ((c.tc : Thread Cert.OutMlpFirstRefIdeal.nD Cert.OutMlpFirstRefIdeal.τ).loc Cert.OutMlpFirstRefIdeal.main_arg4)
      ∧ r.2.mem ((c.tc : Thread Cert.OutMlpFirstRefIdeal.nD Cert.OutMlpFirstRefIdeal.τ).loc Cert.OutMlpFirstRefIdeal.main_arg5) = m ((c.tc : Thread Cert.OutMlpFirstRefIdeal.nD Cert.OutMlpFirstRefIdeal.τ).loc Cert.OutMlpFirstRefIdeal.main_arg5)
      ∧ r.2.mem ((c.tc : Thread Cert.OutMlpFirstRefIdeal.nD Cert.OutMlpFirstRefIdeal.τ).loc Cert.OutMlpFirstRefIdeal.main_arg6) = m ((c.tc : Thread Cert.OutMlpFirstRefIdeal.nD Cert.OutMlpFirstRefIdeal.τ).loc Cert.OutMlpFirstRefIdeal.main_arg6)
      ∧ r.2.mem ((c.tc : Thread Cert.OutMlpFirstRefIdeal.nD Cert.OutMlpFirstRefIdeal.τ).loc Cert.OutMlpFirstRefIdeal.main_arg7) = m ((c.tc : Thread Cert.OutMlpFirstRefIdeal.nD Cert.OutMlpFirstRefIdeal.τ).loc Cert.OutMlpFirstRefIdeal.main_arg7))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1)
      ∧ r.2.mem ((c.tc : Thread Cert.AbIn.nD Cert.AbIn.τ).loc Cert.AbIn.main_arg2) = m ((c.tc : Thread Cert.AbIn.nD Cert.AbIn.τ).loc Cert.AbIn.main_arg2))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
      ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1)
      ∧ r.2.mem ((c.tc : Thread Cert.AbInRefIdeal.nD Cert.AbInRefIdeal.τ).loc Cert.AbInRefIdeal.main_arg2) = m ((c.tc : Thread Cert.AbInRefIdeal.nD Cert.AbInRefIdeal.τ).loc Cert.AbInRefIdeal.main_arg2))
      ∧ r.2.sem = fun _ => 0)

def quiescent_CIn [hCIn : Cert.CIn.Facts] : Prop :=
  ∀ (m : (ℓ : Loc Cert.CIn.nD Cert.CIn.τ Cert.CIn.sig) → Buf (Elt Bits) ℓ) (g : Dev Cert.CIn.nD → PrngReg), Pre_CIn m →
    θ_run (Cert.CIn.defs (F := Bits)) (onTc (τ := Cert.CIn.τ) (Cert.CIn.main (F := Bits))) ⟨m, fun _ => 0, g⟩ (fun r => (∀ c : Dev Cert.CIn.nD,
      r.2.mem ((c.tc : Thread Cert.CIn.nD Cert.CIn.τ).loc Cert.CIn.main_arg0) = m ((c.tc : Thread Cert.CIn.nD Cert.CIn.τ).loc Cert.CIn.main_arg0)
      ∧ r.2.mem ((c.tc : Thread Cert.CIn.nD Cert.CIn.τ).loc Cert.CIn.main_arg1) = m ((c.tc : Thread Cert.CIn.nD Cert.CIn.τ).loc Cert.CIn.main_arg1)
      ∧ r.2.mem ((c.tc : Thread Cert.CIn.nD Cert.CIn.τ).loc Cert.CIn.main_arg2) = m ((c.tc : Thread Cert.CIn.nD Cert.CIn.τ).loc Cert.CIn.main_arg2))
      ∧ r.2.sem = fun _ => 0)

def quiescent_CInIdeal [hCInIdeal : Cert.CInIdeal.Facts] : Prop :=
  ∀ (m : (ℓ : Loc Cert.CInIdeal.nD Cert.CInIdeal.τ Cert.CInIdeal.sig) → Buf (Elt Ideal) ℓ) (g : Dev Cert.CInIdeal.nD → PrngReg), Pre_CInIdeal m →
    θ_run (Cert.CInIdeal.defs (F := Ideal)) (onTc (τ := Cert.CInIdeal.τ) (Cert.CInIdeal.main (F := Ideal))) ⟨m, fun _ => 0, g⟩ (fun r => (∀ c : Dev Cert.CInIdeal.nD,
      r.2.mem ((c.tc : Thread Cert.CInIdeal.nD Cert.CInIdeal.τ).loc Cert.CInIdeal.main_arg0) = m ((c.tc : Thread Cert.CInIdeal.nD Cert.CInIdeal.τ).loc Cert.CInIdeal.main_arg0)
      ∧ r.2.mem ((c.tc : Thread Cert.CInIdeal.nD Cert.CInIdeal.τ).loc Cert.CInIdeal.main_arg1) = m ((c.tc : Thread Cert.CInIdeal.nD Cert.CInIdeal.τ).loc Cert.CInIdeal.main_arg1)
      ∧ r.2.mem ((c.tc : Thread Cert.CInIdeal.nD Cert.CInIdeal.τ).loc Cert.CInIdeal.main_arg2) = m ((c.tc : Thread Cert.CInIdeal.nD Cert.CInIdeal.τ).loc Cert.CInIdeal.main_arg2))
      ∧ r.2.sem = fun _ => 0)

def quiescent_CInRefIdeal [hCInRefIdeal : Cert.CInRefIdeal.Facts] : Prop :=
  ∀ (m : (ℓ : Loc Cert.CInRefIdeal.nD Cert.CInRefIdeal.τ Cert.CInRefIdeal.sig) → Buf (Elt Ideal) ℓ) (g : Dev Cert.CInRefIdeal.nD → PrngReg), Pre_CInRefIdeal m →
    θ_run (Cert.CInRefIdeal.defs (F := Ideal)) (onTc (τ := Cert.CInRefIdeal.τ) (Cert.CInRefIdeal.main (F := Ideal))) ⟨m, fun _ => 0, g⟩ (fun r => (∀ c : Dev Cert.CInRefIdeal.nD,
      r.2.mem ((c.tc : Thread Cert.CInRefIdeal.nD Cert.CInRefIdeal.τ).loc Cert.CInRefIdeal.main_arg0) = m ((c.tc : Thread Cert.CInRefIdeal.nD Cert.CInRefIdeal.τ).loc Cert.CInRefIdeal.main_arg0)
      ∧ r.2.mem ((c.tc : Thread Cert.CInRefIdeal.nD Cert.CInRefIdeal.τ).loc Cert.CInRefIdeal.main_arg1) = m ((c.tc : Thread Cert.CInRefIdeal.nD Cert.CInRefIdeal.τ).loc Cert.CInRefIdeal.main_arg1)
      ∧ r.2.mem ((c.tc : Thread Cert.CInRefIdeal.nD Cert.CInRefIdeal.τ).loc Cert.CInRefIdeal.main_arg2) = m ((c.tc : Thread Cert.CInRefIdeal.nD Cert.CInRefIdeal.τ).loc Cert.CInRefIdeal.main_arg2))
      ∧ r.2.sem = fun _ => 0)

def quiescent_FinalSample [hFinalSample : Cert.FinalSample.Facts] : Prop :=
  ∀ (m : (ℓ : Loc Cert.FinalSample.nD Cert.FinalSample.τ Cert.FinalSample.sig) → Buf (Elt Bits) ℓ) (g : Dev Cert.FinalSample.nD → PrngReg), Pre_FinalSample m →
    θ_run (Cert.FinalSample.defs (F := Bits)) (onTc (τ := Cert.FinalSample.τ) (Cert.FinalSample.main (F := Bits))) ⟨m, fun _ => 0, g⟩ (fun r => (∀ c : Dev Cert.FinalSample.nD,
      r.2.mem ((c.tc : Thread Cert.FinalSample.nD Cert.FinalSample.τ).loc Cert.FinalSample.main_arg0) = m ((c.tc : Thread Cert.FinalSample.nD Cert.FinalSample.τ).loc Cert.FinalSample.main_arg0)
      ∧ r.2.mem ((c.tc : Thread Cert.FinalSample.nD Cert.FinalSample.τ).loc Cert.FinalSample.main_arg1) = m ((c.tc : Thread Cert.FinalSample.nD Cert.FinalSample.τ).loc Cert.FinalSample.main_arg1)
      ∧ r.2.mem ((c.tc : Thread Cert.FinalSample.nD Cert.FinalSample.τ).loc Cert.FinalSample.main_arg2) = m ((c.tc : Thread Cert.FinalSample.nD Cert.FinalSample.τ).loc Cert.FinalSample.main_arg2)
      ∧ r.2.mem ((c.tc : Thread Cert.FinalSample.nD Cert.FinalSample.τ).loc Cert.FinalSample.main_arg3) = m ((c.tc : Thread Cert.FinalSample.nD Cert.FinalSample.τ).loc Cert.FinalSample.main_arg3)
      ∧ r.2.mem ((c.tc : Thread Cert.FinalSample.nD Cert.FinalSample.τ).loc Cert.FinalSample.main_arg4) = m ((c.tc : Thread Cert.FinalSample.nD Cert.FinalSample.τ).loc Cert.FinalSample.main_arg4)
      ∧ r.2.mem ((c.tc : Thread Cert.FinalSample.nD Cert.FinalSample.τ).loc Cert.FinalSample.main_arg5) = m ((c.tc : Thread Cert.FinalSample.nD Cert.FinalSample.τ).loc Cert.FinalSample.main_arg5)
      ∧ r.2.mem ((c.tc : Thread Cert.FinalSample.nD Cert.FinalSample.τ).loc Cert.FinalSample.main_arg6) = m ((c.tc : Thread Cert.FinalSample.nD Cert.FinalSample.τ).loc Cert.FinalSample.main_arg6))
      ∧ r.2.sem = fun _ => 0)

def quiescent_FinalSampleIdeal [hFinalSampleIdeal : Cert.FinalSampleIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg), Pre_FinalSampleIdeal m →
    θ_run (Cert.FinalSampleIdeal.defs (F := Ideal)) (onTc (τ := Cert.FinalSampleIdeal.τ) (Cert.FinalSampleIdeal.main (F := Ideal))) ⟨m, fun _ => 0, g⟩ (fun r => (∀ c : Dev Cert.FinalSampleIdeal.nD,
      r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
      ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
      ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2)
      ∧ r.2.mem ((c.tc : Thread Cert.FinalSampleIdeal.nD Cert.FinalSampleIdeal.τ).loc Cert.FinalSampleIdeal.main_arg3) = m ((c.tc : Thread Cert.FinalSampleIdeal.nD Cert.FinalSampleIdeal.τ).loc Cert.FinalSampleIdeal.main_arg3)
      ∧ r.2.mem ((c.tc : Thread Cert.FinalSampleIdeal.nD Cert.FinalSampleIdeal.τ).loc Cert.FinalSampleIdeal.main_arg4) = m ((c.tc : Thread Cert.FinalSampleIdeal.nD Cert.FinalSampleIdeal.τ).loc Cert.FinalSampleIdeal.main_arg4)
      ∧ r.2.mem ((c.tc : Thread Cert.FinalSampleIdeal.nD Cert.FinalSampleIdeal.τ).loc Cert.FinalSampleIdeal.main_arg5) = m ((c.tc : Thread Cert.FinalSampleIdeal.nD Cert.FinalSampleIdeal.τ).loc Cert.FinalSampleIdeal.main_arg5)
      ∧ r.2.mem ((c.tc : Thread Cert.FinalSampleIdeal.nD Cert.FinalSampleIdeal.τ).loc Cert.FinalSampleIdeal.main_arg6) = m ((c.tc : Thread Cert.FinalSampleIdeal.nD Cert.FinalSampleIdeal.τ).loc Cert.FinalSampleIdeal.main_arg6))
      ∧ r.2.sem = fun _ => 0)

def quiescent_FinalSampleRefIdeal [hFinalSampleRefIdeal : Cert.FinalSampleRefIdeal.Facts] : Prop :=
  ∀ (m : (ℓ : Loc Cert.FinalSampleRefIdeal.nD Cert.FinalSampleRefIdeal.τ Cert.FinalSampleRefIdeal.sig) → Buf (Elt Ideal) ℓ) (g : Dev Cert.FinalSampleRefIdeal.nD → PrngReg), Pre_FinalSampleRefIdeal m →
    θ_run (Cert.FinalSampleRefIdeal.defs (F := Ideal)) (onTc (τ := Cert.FinalSampleRefIdeal.τ) (Cert.FinalSampleRefIdeal.main (F := Ideal))) ⟨m, fun _ => 0, g⟩ (fun r => (∀ c : Dev Cert.FinalSampleRefIdeal.nD,
      r.2.mem ((c.tc : Thread Cert.FinalSampleRefIdeal.nD Cert.FinalSampleRefIdeal.τ).loc Cert.FinalSampleRefIdeal.main_arg0) = m ((c.tc : Thread Cert.FinalSampleRefIdeal.nD Cert.FinalSampleRefIdeal.τ).loc Cert.FinalSampleRefIdeal.main_arg0)
      ∧ r.2.mem ((c.tc : Thread Cert.FinalSampleRefIdeal.nD Cert.FinalSampleRefIdeal.τ).loc Cert.FinalSampleRefIdeal.main_arg1) = m ((c.tc : Thread Cert.FinalSampleRefIdeal.nD Cert.FinalSampleRefIdeal.τ).loc Cert.FinalSampleRefIdeal.main_arg1)
      ∧ r.2.mem ((c.tc : Thread Cert.FinalSampleRefIdeal.nD Cert.FinalSampleRefIdeal.τ).loc Cert.FinalSampleRefIdeal.main_arg2) = m ((c.tc : Thread Cert.FinalSampleRefIdeal.nD Cert.FinalSampleRefIdeal.τ).loc Cert.FinalSampleRefIdeal.main_arg2)
      ∧ r.2.mem ((c.tc : Thread Cert.FinalSampleRefIdeal.nD Cert.FinalSampleRefIdeal.τ).loc Cert.FinalSampleRefIdeal.main_arg3) = m ((c.tc : Thread Cert.FinalSampleRefIdeal.nD Cert.FinalSampleRefIdeal.τ).loc Cert.FinalSampleRefIdeal.main_arg3)
      ∧ r.2.mem ((c.tc : Thread Cert.FinalSampleRefIdeal.nD Cert.FinalSampleRefIdeal.τ).loc Cert.FinalSampleRefIdeal.main_arg4) = m ((c.tc : Thread Cert.FinalSampleRefIdeal.nD Cert.FinalSampleRefIdeal.τ).loc Cert.FinalSampleRefIdeal.main_arg4)
      ∧ r.2.mem ((c.tc : Thread Cert.FinalSampleRefIdeal.nD Cert.FinalSampleRefIdeal.τ).loc Cert.FinalSampleRefIdeal.main_arg5) = m ((c.tc : Thread Cert.FinalSampleRefIdeal.nD Cert.FinalSampleRefIdeal.τ).loc Cert.FinalSampleRefIdeal.main_arg5)
      ∧ r.2.mem ((c.tc : Thread Cert.FinalSampleRefIdeal.nD Cert.FinalSampleRefIdeal.τ).loc Cert.FinalSampleRefIdeal.main_arg6) = m ((c.tc : Thread Cert.FinalSampleRefIdeal.nD Cert.FinalSampleRefIdeal.τ).loc Cert.FinalSampleRefIdeal.main_arg6))
      ∧ r.2.sem = fun _ => 0)

def quiescent_FirstSample [hFirstSample : Cert.FirstSample.Facts] : Prop :=
  ∀ (m : (ℓ : Loc Cert.FirstSample.nD Cert.FirstSample.τ Cert.FirstSample.sig) → Buf (Elt Bits) ℓ) (g : Dev Cert.FirstSample.nD → PrngReg), Pre_FirstSample m →
    θ_run (Cert.FirstSample.defs (F := Bits)) (onTc (τ := Cert.FirstSample.τ) (Cert.FirstSample.main (F := Bits))) ⟨m, fun _ => 0, g⟩ (fun r => (∀ c : Dev Cert.FirstSample.nD,
      r.2.mem ((c.tc : Thread Cert.FirstSample.nD Cert.FirstSample.τ).loc Cert.FirstSample.main_arg0) = m ((c.tc : Thread Cert.FirstSample.nD Cert.FirstSample.τ).loc Cert.FirstSample.main_arg0)
      ∧ r.2.mem ((c.tc : Thread Cert.FirstSample.nD Cert.FirstSample.τ).loc Cert.FirstSample.main_arg1) = m ((c.tc : Thread Cert.FirstSample.nD Cert.FirstSample.τ).loc Cert.FirstSample.main_arg1)
      ∧ r.2.mem ((c.tc : Thread Cert.FirstSample.nD Cert.FirstSample.τ).loc Cert.FirstSample.main_arg2) = m ((c.tc : Thread Cert.FirstSample.nD Cert.FirstSample.τ).loc Cert.FirstSample.main_arg2)
      ∧ r.2.mem ((c.tc : Thread Cert.FirstSample.nD Cert.FirstSample.τ).loc Cert.FirstSample.main_arg3) = m ((c.tc : Thread Cert.FirstSample.nD Cert.FirstSample.τ).loc Cert.FirstSample.main_arg3)
      ∧ r.2.mem ((c.tc : Thread Cert.FirstSample.nD Cert.FirstSample.τ).loc Cert.FirstSample.main_arg4) = m ((c.tc : Thread Cert.FirstSample.nD Cert.FirstSample.τ).loc Cert.FirstSample.main_arg4)
      ∧ r.2.mem ((c.tc : Thread Cert.FirstSample.nD Cert.FirstSample.τ).loc Cert.FirstSample.main_arg5) = m ((c.tc : Thread Cert.FirstSample.nD Cert.FirstSample.τ).loc Cert.FirstSample.main_arg5)
      ∧ r.2.mem ((c.tc : Thread Cert.FirstSample.nD Cert.FirstSample.τ).loc Cert.FirstSample.main_arg6) = m ((c.tc : Thread Cert.FirstSample.nD Cert.FirstSample.τ).loc Cert.FirstSample.main_arg6)
      ∧ r.2.mem ((c.tc : Thread Cert.FirstSample.nD Cert.FirstSample.τ).loc Cert.FirstSample.main_arg7) = m ((c.tc : Thread Cert.FirstSample.nD Cert.FirstSample.τ).loc Cert.FirstSample.main_arg7))
      ∧ r.2.sem = fun _ => 0)

def quiescent_FirstSampleIdeal [hFirstSampleIdeal : Cert.FirstSampleIdeal.Facts] : Prop :=
  ∀ (m : (ℓ : Loc Cert.FirstSampleIdeal.nD Cert.FirstSampleIdeal.τ Cert.FirstSampleIdeal.sig) → Buf (Elt Ideal) ℓ) (g : Dev Cert.FirstSampleIdeal.nD → PrngReg), Pre_FirstSampleIdeal m →
    θ_run (Cert.FirstSampleIdeal.defs (F := Ideal)) (onTc (τ := Cert.FirstSampleIdeal.τ) (Cert.FirstSampleIdeal.main (F := Ideal))) ⟨m, fun _ => 0, g⟩ (fun r => (∀ c : Dev Cert.FirstSampleIdeal.nD,
      r.2.mem ((c.tc : Thread Cert.FirstSampleIdeal.nD Cert.FirstSampleIdeal.τ).loc Cert.FirstSampleIdeal.main_arg0) = m ((c.tc : Thread Cert.FirstSampleIdeal.nD Cert.FirstSampleIdeal.τ).loc Cert.FirstSampleIdeal.main_arg0)
      ∧ r.2.mem ((c.tc : Thread Cert.FirstSampleIdeal.nD Cert.FirstSampleIdeal.τ).loc Cert.FirstSampleIdeal.main_arg1) = m ((c.tc : Thread Cert.FirstSampleIdeal.nD Cert.FirstSampleIdeal.τ).loc Cert.FirstSampleIdeal.main_arg1)
      ∧ r.2.mem ((c.tc : Thread Cert.FirstSampleIdeal.nD Cert.FirstSampleIdeal.τ).loc Cert.FirstSampleIdeal.main_arg2) = m ((c.tc : Thread Cert.FirstSampleIdeal.nD Cert.FirstSampleIdeal.τ).loc Cert.FirstSampleIdeal.main_arg2)
      ∧ r.2.mem ((c.tc : Thread Cert.FirstSampleIdeal.nD Cert.FirstSampleIdeal.τ).loc Cert.FirstSampleIdeal.main_arg3) = m ((c.tc : Thread Cert.FirstSampleIdeal.nD Cert.FirstSampleIdeal.τ).loc Cert.FirstSampleIdeal.main_arg3)
      ∧ r.2.mem ((c.tc : Thread Cert.FirstSampleIdeal.nD Cert.FirstSampleIdeal.τ).loc Cert.FirstSampleIdeal.main_arg4) = m ((c.tc : Thread Cert.FirstSampleIdeal.nD Cert.FirstSampleIdeal.τ).loc Cert.FirstSampleIdeal.main_arg4)
      ∧ r.2.mem ((c.tc : Thread Cert.FirstSampleIdeal.nD Cert.FirstSampleIdeal.τ).loc Cert.FirstSampleIdeal.main_arg5) = m ((c.tc : Thread Cert.FirstSampleIdeal.nD Cert.FirstSampleIdeal.τ).loc Cert.FirstSampleIdeal.main_arg5)
      ∧ r.2.mem ((c.tc : Thread Cert.FirstSampleIdeal.nD Cert.FirstSampleIdeal.τ).loc Cert.FirstSampleIdeal.main_arg6) = m ((c.tc : Thread Cert.FirstSampleIdeal.nD Cert.FirstSampleIdeal.τ).loc Cert.FirstSampleIdeal.main_arg6)
      ∧ r.2.mem ((c.tc : Thread Cert.FirstSampleIdeal.nD Cert.FirstSampleIdeal.τ).loc Cert.FirstSampleIdeal.main_arg7) = m ((c.tc : Thread Cert.FirstSampleIdeal.nD Cert.FirstSampleIdeal.τ).loc Cert.FirstSampleIdeal.main_arg7))
      ∧ r.2.sem = fun _ => 0)

def quiescent_FirstSampleRefIdeal [hFirstSampleRefIdeal : Cert.FirstSampleRefIdeal.Facts] : Prop :=
  ∀ (m : (ℓ : Loc Cert.FirstSampleRefIdeal.nD Cert.FirstSampleRefIdeal.τ Cert.FirstSampleRefIdeal.sig) → Buf (Elt Ideal) ℓ) (g : Dev Cert.FirstSampleRefIdeal.nD → PrngReg), Pre_FirstSampleRefIdeal m →
    θ_run (Cert.FirstSampleRefIdeal.defs (F := Ideal)) (onTc (τ := Cert.FirstSampleRefIdeal.τ) (Cert.FirstSampleRefIdeal.main (F := Ideal))) ⟨m, fun _ => 0, g⟩ (fun r => (∀ c : Dev Cert.FirstSampleRefIdeal.nD,
      r.2.mem ((c.tc : Thread Cert.FirstSampleRefIdeal.nD Cert.FirstSampleRefIdeal.τ).loc Cert.FirstSampleRefIdeal.main_arg0) = m ((c.tc : Thread Cert.FirstSampleRefIdeal.nD Cert.FirstSampleRefIdeal.τ).loc Cert.FirstSampleRefIdeal.main_arg0)
      ∧ r.2.mem ((c.tc : Thread Cert.FirstSampleRefIdeal.nD Cert.FirstSampleRefIdeal.τ).loc Cert.FirstSampleRefIdeal.main_arg1) = m ((c.tc : Thread Cert.FirstSampleRefIdeal.nD Cert.FirstSampleRefIdeal.τ).loc Cert.FirstSampleRefIdeal.main_arg1)
      ∧ r.2.mem ((c.tc : Thread Cert.FirstSampleRefIdeal.nD Cert.FirstSampleRefIdeal.τ).loc Cert.FirstSampleRefIdeal.main_arg2) = m ((c.tc : Thread Cert.FirstSampleRefIdeal.nD Cert.FirstSampleRefIdeal.τ).loc Cert.FirstSampleRefIdeal.main_arg2)
      ∧ r.2.mem ((c.tc : Thread Cert.FirstSampleRefIdeal.nD Cert.FirstSampleRefIdeal.τ).loc Cert.FirstSampleRefIdeal.main_arg3) = m ((c.tc : Thread Cert.FirstSampleRefIdeal.nD Cert.FirstSampleRefIdeal.τ).loc Cert.FirstSampleRefIdeal.main_arg3)
      ∧ r.2.mem ((c.tc : Thread Cert.FirstSampleRefIdeal.nD Cert.FirstSampleRefIdeal.τ).loc Cert.FirstSampleRefIdeal.main_arg4) = m ((c.tc : Thread Cert.FirstSampleRefIdeal.nD Cert.FirstSampleRefIdeal.τ).loc Cert.FirstSampleRefIdeal.main_arg4)
      ∧ r.2.mem ((c.tc : Thread Cert.FirstSampleRefIdeal.nD Cert.FirstSampleRefIdeal.τ).loc Cert.FirstSampleRefIdeal.main_arg5) = m ((c.tc : Thread Cert.FirstSampleRefIdeal.nD Cert.FirstSampleRefIdeal.τ).loc Cert.FirstSampleRefIdeal.main_arg5)
      ∧ r.2.mem ((c.tc : Thread Cert.FirstSampleRefIdeal.nD Cert.FirstSampleRefIdeal.τ).loc Cert.FirstSampleRefIdeal.main_arg6) = m ((c.tc : Thread Cert.FirstSampleRefIdeal.nD Cert.FirstSampleRefIdeal.τ).loc Cert.FirstSampleRefIdeal.main_arg6)
      ∧ r.2.mem ((c.tc : Thread Cert.FirstSampleRefIdeal.nD Cert.FirstSampleRefIdeal.τ).loc Cert.FirstSampleRefIdeal.main_arg7) = m ((c.tc : Thread Cert.FirstSampleRefIdeal.nD Cert.FirstSampleRefIdeal.τ).loc Cert.FirstSampleRefIdeal.main_arg7))
      ∧ r.2.sem = fun _ => 0)

def quiescent_AbSample [hAbSample : Cert.AbSample.Facts] : Prop :=
  ∀ (m : (ℓ : Loc Cert.AbSample.nD Cert.AbSample.τ Cert.AbSample.sig) → Buf (Elt Bits) ℓ) (g : Dev Cert.AbSample.nD → PrngReg), Pre_AbSample m →
    θ_run (Cert.AbSample.defs (F := Bits)) (onTc (τ := Cert.AbSample.τ) (Cert.AbSample.main (F := Bits))) ⟨m, fun _ => 0, g⟩ (fun r => (∀ c : Dev Cert.AbSample.nD,
      r.2.mem ((c.tc : Thread Cert.AbSample.nD Cert.AbSample.τ).loc Cert.AbSample.main_arg0) = m ((c.tc : Thread Cert.AbSample.nD Cert.AbSample.τ).loc Cert.AbSample.main_arg0)
      ∧ r.2.mem ((c.tc : Thread Cert.AbSample.nD Cert.AbSample.τ).loc Cert.AbSample.main_arg1) = m ((c.tc : Thread Cert.AbSample.nD Cert.AbSample.τ).loc Cert.AbSample.main_arg1)
      ∧ r.2.mem ((c.tc : Thread Cert.AbSample.nD Cert.AbSample.τ).loc Cert.AbSample.main_arg2) = m ((c.tc : Thread Cert.AbSample.nD Cert.AbSample.τ).loc Cert.AbSample.main_arg2))
      ∧ r.2.sem = fun _ => 0)

def quiescent_AbSampleIdeal [hAbSampleIdeal : Cert.AbSampleIdeal.Facts] : Prop :=
  ∀ (m : (ℓ : Loc Cert.AbSampleIdeal.nD Cert.AbSampleIdeal.τ Cert.AbSampleIdeal.sig) → Buf (Elt Ideal) ℓ) (g : Dev Cert.AbSampleIdeal.nD → PrngReg), Pre_AbSampleIdeal m →
    θ_run (Cert.AbSampleIdeal.defs (F := Ideal)) (onTc (τ := Cert.AbSampleIdeal.τ) (Cert.AbSampleIdeal.main (F := Ideal))) ⟨m, fun _ => 0, g⟩ (fun r => (∀ c : Dev Cert.AbSampleIdeal.nD,
      r.2.mem ((c.tc : Thread Cert.AbSampleIdeal.nD Cert.AbSampleIdeal.τ).loc Cert.AbSampleIdeal.main_arg0) = m ((c.tc : Thread Cert.AbSampleIdeal.nD Cert.AbSampleIdeal.τ).loc Cert.AbSampleIdeal.main_arg0)
      ∧ r.2.mem ((c.tc : Thread Cert.AbSampleIdeal.nD Cert.AbSampleIdeal.τ).loc Cert.AbSampleIdeal.main_arg1) = m ((c.tc : Thread Cert.AbSampleIdeal.nD Cert.AbSampleIdeal.τ).loc Cert.AbSampleIdeal.main_arg1)
      ∧ r.2.mem ((c.tc : Thread Cert.AbSampleIdeal.nD Cert.AbSampleIdeal.τ).loc Cert.AbSampleIdeal.main_arg2) = m ((c.tc : Thread Cert.AbSampleIdeal.nD Cert.AbSampleIdeal.τ).loc Cert.AbSampleIdeal.main_arg2))
      ∧ r.2.sem = fun _ => 0)

def quiescent_AbSampleRefIdeal [hAbSampleRefIdeal : Cert.AbSampleRefIdeal.Facts] : Prop :=
  ∀ (m : (ℓ : Loc Cert.AbSampleRefIdeal.nD Cert.AbSampleRefIdeal.τ Cert.AbSampleRefIdeal.sig) → Buf (Elt Ideal) ℓ) (g : Dev Cert.AbSampleRefIdeal.nD → PrngReg), Pre_AbSampleRefIdeal m →
    θ_run (Cert.AbSampleRefIdeal.defs (F := Ideal)) (onTc (τ := Cert.AbSampleRefIdeal.τ) (Cert.AbSampleRefIdeal.main (F := Ideal))) ⟨m, fun _ => 0, g⟩ (fun r => (∀ c : Dev Cert.AbSampleRefIdeal.nD,
      r.2.mem ((c.tc : Thread Cert.AbSampleRefIdeal.nD Cert.AbSampleRefIdeal.τ).loc Cert.AbSampleRefIdeal.main_arg0) = m ((c.tc : Thread Cert.AbSampleRefIdeal.nD Cert.AbSampleRefIdeal.τ).loc Cert.AbSampleRefIdeal.main_arg0)
      ∧ r.2.mem ((c.tc : Thread Cert.AbSampleRefIdeal.nD Cert.AbSampleRefIdeal.τ).loc Cert.AbSampleRefIdeal.main_arg1) = m ((c.tc : Thread Cert.AbSampleRefIdeal.nD Cert.AbSampleRefIdeal.τ).loc Cert.AbSampleRefIdeal.main_arg1)
      ∧ r.2.mem ((c.tc : Thread Cert.AbSampleRefIdeal.nD Cert.AbSampleRefIdeal.τ).loc Cert.AbSampleRefIdeal.main_arg2) = m ((c.tc : Thread Cert.AbSampleRefIdeal.nD Cert.AbSampleRefIdeal.τ).loc Cert.AbSampleRefIdeal.main_arg2))
      ∧ r.2.sem = fun _ => 0)

def quiescent_CSample [hCSample : Cert.CSample.Facts] : Prop :=
  ∀ (m : (ℓ : Loc Cert.CSample.nD Cert.CSample.τ Cert.CSample.sig) → Buf (Elt Bits) ℓ) (g : Dev Cert.CSample.nD → PrngReg), Pre_CSample m →
    θ_run (Cert.CSample.defs (F := Bits)) (onTc (τ := Cert.CSample.τ) (Cert.CSample.main (F := Bits))) ⟨m, fun _ => 0, g⟩ (fun r => (∀ c : Dev Cert.CSample.nD,
      r.2.mem ((c.tc : Thread Cert.CSample.nD Cert.CSample.τ).loc Cert.CSample.main_arg0) = m ((c.tc : Thread Cert.CSample.nD Cert.CSample.τ).loc Cert.CSample.main_arg0)
      ∧ r.2.mem ((c.tc : Thread Cert.CSample.nD Cert.CSample.τ).loc Cert.CSample.main_arg1) = m ((c.tc : Thread Cert.CSample.nD Cert.CSample.τ).loc Cert.CSample.main_arg1)
      ∧ r.2.mem ((c.tc : Thread Cert.CSample.nD Cert.CSample.τ).loc Cert.CSample.main_arg2) = m ((c.tc : Thread Cert.CSample.nD Cert.CSample.τ).loc Cert.CSample.main_arg2))
      ∧ r.2.sem = fun _ => 0)

def quiescent_CSampleIdeal [hCSampleIdeal : Cert.CSampleIdeal.Facts] : Prop :=
  ∀ (m : (ℓ : Loc Cert.CSampleIdeal.nD Cert.CSampleIdeal.τ Cert.CSampleIdeal.sig) → Buf (Elt Ideal) ℓ) (g : Dev Cert.CSampleIdeal.nD → PrngReg), Pre_CSampleIdeal m →
    θ_run (Cert.CSampleIdeal.defs (F := Ideal)) (onTc (τ := Cert.CSampleIdeal.τ) (Cert.CSampleIdeal.main (F := Ideal))) ⟨m, fun _ => 0, g⟩ (fun r => (∀ c : Dev Cert.CSampleIdeal.nD,
      r.2.mem ((c.tc : Thread Cert.CSampleIdeal.nD Cert.CSampleIdeal.τ).loc Cert.CSampleIdeal.main_arg0) = m ((c.tc : Thread Cert.CSampleIdeal.nD Cert.CSampleIdeal.τ).loc Cert.CSampleIdeal.main_arg0)
      ∧ r.2.mem ((c.tc : Thread Cert.CSampleIdeal.nD Cert.CSampleIdeal.τ).loc Cert.CSampleIdeal.main_arg1) = m ((c.tc : Thread Cert.CSampleIdeal.nD Cert.CSampleIdeal.τ).loc Cert.CSampleIdeal.main_arg1)
      ∧ r.2.mem ((c.tc : Thread Cert.CSampleIdeal.nD Cert.CSampleIdeal.τ).loc Cert.CSampleIdeal.main_arg2) = m ((c.tc : Thread Cert.CSampleIdeal.nD Cert.CSampleIdeal.τ).loc Cert.CSampleIdeal.main_arg2))
      ∧ r.2.sem = fun _ => 0)

def quiescent_CSampleRefIdeal [hCSampleRefIdeal : Cert.CSampleRefIdeal.Facts] : Prop :=
  ∀ (m : (ℓ : Loc Cert.CSampleRefIdeal.nD Cert.CSampleRefIdeal.τ Cert.CSampleRefIdeal.sig) → Buf (Elt Ideal) ℓ) (g : Dev Cert.CSampleRefIdeal.nD → PrngReg), Pre_CSampleRefIdeal m →
    θ_run (Cert.CSampleRefIdeal.defs (F := Ideal)) (onTc (τ := Cert.CSampleRefIdeal.τ) (Cert.CSampleRefIdeal.main (F := Ideal))) ⟨m, fun _ => 0, g⟩ (fun r => (∀ c : Dev Cert.CSampleRefIdeal.nD,
      r.2.mem ((c.tc : Thread Cert.CSampleRefIdeal.nD Cert.CSampleRefIdeal.τ).loc Cert.CSampleRefIdeal.main_arg0) = m ((c.tc : Thread Cert.CSampleRefIdeal.nD Cert.CSampleRefIdeal.τ).loc Cert.CSampleRefIdeal.main_arg0)
      ∧ r.2.mem ((c.tc : Thread Cert.CSampleRefIdeal.nD Cert.CSampleRefIdeal.τ).loc Cert.CSampleRefIdeal.main_arg1) = m ((c.tc : Thread Cert.CSampleRefIdeal.nD Cert.CSampleRefIdeal.τ).loc Cert.CSampleRefIdeal.main_arg1)
      ∧ r.2.mem ((c.tc : Thread Cert.CSampleRefIdeal.nD Cert.CSampleRefIdeal.τ).loc Cert.CSampleRefIdeal.main_arg2) = m ((c.tc : Thread Cert.CSampleRefIdeal.nD Cert.CSampleRefIdeal.τ).loc Cert.CSampleRefIdeal.main_arg2))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2)
      ∧ r.2.mem ((c.tc : Thread Cert.ConvSample.nD Cert.ConvSample.τ).loc Cert.ConvSample.main_arg3) = m ((c.tc : Thread Cert.ConvSample.nD Cert.ConvSample.τ).loc Cert.ConvSample.main_arg3)
      ∧ r.2.mem ((c.tc : Thread Cert.ConvSample.nD Cert.ConvSample.τ).loc Cert.ConvSample.main_arg4) = m ((c.tc : Thread Cert.ConvSample.nD Cert.ConvSample.τ).loc Cert.ConvSample.main_arg4)
      ∧ r.2.mem ((c.tc : Thread Cert.ConvSample.nD Cert.ConvSample.τ).loc Cert.ConvSample.main_arg5) = m ((c.tc : Thread Cert.ConvSample.nD Cert.ConvSample.τ).loc Cert.ConvSample.main_arg5))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
      ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
      ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
      ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5))
      ∧ r.2.sem = fun _ => 0)

def quiescent_ConvSampleRefIdeal [hConvSampleRefIdeal : Cert.ConvSampleRefIdeal.Facts] : Prop :=
  ∀ (m : (ℓ : Loc Cert.ConvSampleRefIdeal.nD Cert.ConvSampleRefIdeal.τ Cert.ConvSampleRefIdeal.sig) → Buf (Elt Ideal) ℓ) (g : Dev Cert.ConvSampleRefIdeal.nD → PrngReg), Pre_ConvSampleRefIdeal m →
    θ_run (Cert.ConvSampleRefIdeal.defs (F := Ideal)) (onTc (τ := Cert.ConvSampleRefIdeal.τ) (Cert.ConvSampleRefIdeal.main (F := Ideal))) ⟨m, fun _ => 0, g⟩ (fun r => (∀ c : Dev Cert.ConvSampleRefIdeal.nD,
      r.2.mem ((c.tc : Thread Cert.ConvSampleRefIdeal.nD Cert.ConvSampleRefIdeal.τ).loc Cert.ConvSampleRefIdeal.main_arg0) = m ((c.tc : Thread Cert.ConvSampleRefIdeal.nD Cert.ConvSampleRefIdeal.τ).loc Cert.ConvSampleRefIdeal.main_arg0)
      ∧ r.2.mem ((c.tc : Thread Cert.ConvSampleRefIdeal.nD Cert.ConvSampleRefIdeal.τ).loc Cert.ConvSampleRefIdeal.main_arg1) = m ((c.tc : Thread Cert.ConvSampleRefIdeal.nD Cert.ConvSampleRefIdeal.τ).loc Cert.ConvSampleRefIdeal.main_arg1)
      ∧ r.2.mem ((c.tc : Thread Cert.ConvSampleRefIdeal.nD Cert.ConvSampleRefIdeal.τ).loc Cert.ConvSampleRefIdeal.main_arg2) = m ((c.tc : Thread Cert.ConvSampleRefIdeal.nD Cert.ConvSampleRefIdeal.τ).loc Cert.ConvSampleRefIdeal.main_arg2)
      ∧ r.2.mem ((c.tc : Thread Cert.ConvSampleRefIdeal.nD Cert.ConvSampleRefIdeal.τ).loc Cert.ConvSampleRefIdeal.main_arg3) = m ((c.tc : Thread Cert.ConvSampleRefIdeal.nD Cert.ConvSampleRefIdeal.τ).loc Cert.ConvSampleRefIdeal.main_arg3)
      ∧ r.2.mem ((c.tc : Thread Cert.ConvSampleRefIdeal.nD Cert.ConvSampleRefIdeal.τ).loc Cert.ConvSampleRefIdeal.main_arg4) = m ((c.tc : Thread Cert.ConvSampleRefIdeal.nD Cert.ConvSampleRefIdeal.τ).loc Cert.ConvSampleRefIdeal.main_arg4)
      ∧ r.2.mem ((c.tc : Thread Cert.ConvSampleRefIdeal.nD Cert.ConvSampleRefIdeal.τ).loc Cert.ConvSampleRefIdeal.main_arg5) = m ((c.tc : Thread Cert.ConvSampleRefIdeal.nD Cert.ConvSampleRefIdeal.τ).loc Cert.ConvSampleRefIdeal.main_arg5))
      ∧ r.2.sem = fun _ => 0)

def preserves_SbPrompt_SbPromptIdeal : Prop :=
  IdealRules.named_const.Statement Cert.SbPromptIdeal.κ "neg_log2e" .f32 0xBFB8AA3B#32 ((-((Real.log 2)⁻¹) : ℝ) : EReal)
  ∧ IdealRules.named_const.Statement Cert.SbPromptIdeal.κ "log2e" .f32 0x3FB8AA3B#32 (((Real.log 2)⁻¹ : ℝ) : EReal)

def algebraic_SbPromptIdeal_SbPromptRefIdeal_pre_finite [hSbPromptIdeal : Cert.SbPromptIdeal.Facts] [hSbPromptRefIdeal : Cert.SbPromptRefIdeal.Facts] [hPre_finite : Cert.Pre_finite.Facts] : Prop :=
  ∀ (m : (ℓ : Loc Cert.SbPromptIdeal.nD Cert.SbPromptIdeal.τ Cert.SbPromptIdeal.sig) → Buf (Elt Ideal) ℓ) (g : Dev Cert.SbPromptIdeal.nD → PrngReg)
    (m' : (ℓ : Loc Cert.SbPromptRefIdeal.nD Cert.SbPromptRefIdeal.τ Cert.SbPromptRefIdeal.sig) → Buf (Elt Ideal) ℓ) (g' : Dev Cert.SbPromptRefIdeal.nD → PrngReg), Pre_SbPromptIdeal_finite m →
    (∀ c : Dev Cert.SbPromptIdeal.nD,
      m' ((c.tc : Thread Cert.SbPromptRefIdeal.nD Cert.SbPromptRefIdeal.τ).loc Cert.SbPromptRefIdeal.main_arg0) = m ((c.tc : Thread Cert.SbPromptIdeal.nD Cert.SbPromptIdeal.τ).loc Cert.SbPromptIdeal.main_arg0)
      ∧ m' ((c.tc : Thread Cert.SbPromptRefIdeal.nD Cert.SbPromptRefIdeal.τ).loc Cert.SbPromptRefIdeal.main_arg1) = m ((c.tc : Thread Cert.SbPromptIdeal.nD Cert.SbPromptIdeal.τ).loc Cert.SbPromptIdeal.main_arg1)
      ∧ m' ((c.tc : Thread Cert.SbPromptRefIdeal.nD Cert.SbPromptRefIdeal.τ).loc Cert.SbPromptRefIdeal.main_arg2) = m ((c.tc : Thread Cert.SbPromptIdeal.nD Cert.SbPromptIdeal.τ).loc Cert.SbPromptIdeal.main_arg2)) →
    ∃ (v0 : (c : Dev Cert.SbPromptIdeal.nD) → Buf (Elt Ideal) ((c.tc : Thread Cert.SbPromptIdeal.nD Cert.SbPromptIdeal.τ).loc Cert.SbPromptIdeal.main_v0)),
      θ_run (Cert.SbPromptIdeal.defs (F := Ideal)) (onTc (τ := Cert.SbPromptIdeal.τ) (Cert.SbPromptIdeal.main (F := Ideal))) ⟨m, fun _ => 0, g⟩ (fun r => ∀ c : Dev Cert.SbPromptIdeal.nD,
          r.2.mem ((c.tc : Thread Cert.SbPromptIdeal.nD Cert.SbPromptIdeal.τ).loc Cert.SbPromptIdeal.main_v0) = v0 c
          ∧ r.2.mem ((c.tc : Thread Cert.SbPromptIdeal.nD Cert.SbPromptIdeal.τ).loc Cert.SbPromptIdeal.main_arg0) = m ((c.tc : Thread Cert.SbPromptIdeal.nD Cert.SbPromptIdeal.τ).loc Cert.SbPromptIdeal.main_arg0)
          ∧ r.2.mem ((c.tc : Thread Cert.SbPromptIdeal.nD Cert.SbPromptIdeal.τ).loc Cert.SbPromptIdeal.main_arg1) = m ((c.tc : Thread Cert.SbPromptIdeal.nD Cert.SbPromptIdeal.τ).loc Cert.SbPromptIdeal.main_arg1)
          ∧ r.2.mem ((c.tc : Thread Cert.SbPromptIdeal.nD Cert.SbPromptIdeal.τ).loc Cert.SbPromptIdeal.main_arg2) = m ((c.tc : Thread Cert.SbPromptIdeal.nD Cert.SbPromptIdeal.τ).loc Cert.SbPromptIdeal.main_arg2))
      ∧ θ_run (Cert.SbPromptRefIdeal.defs (F := Ideal)) (onTc (τ := Cert.SbPromptRefIdeal.τ) (Cert.SbPromptRefIdeal.main (F := Ideal))) ⟨m', fun _ => 0, g'⟩ (fun r => ∀ c : Dev Cert.SbPromptRefIdeal.nD,
          r.2.mem ((c.tc : Thread Cert.SbPromptRefIdeal.nD Cert.SbPromptRefIdeal.τ).loc Cert.SbPromptRefIdeal.main_v27) = v0 c
          ∧ r.2.mem ((c.tc : Thread Cert.SbPromptRefIdeal.nD Cert.SbPromptRefIdeal.τ).loc Cert.SbPromptRefIdeal.main_arg0) = m' ((c.tc : Thread Cert.SbPromptRefIdeal.nD Cert.SbPromptRefIdeal.τ).loc Cert.SbPromptRefIdeal.main_arg0)
          ∧ r.2.mem ((c.tc : Thread Cert.SbPromptRefIdeal.nD Cert.SbPromptRefIdeal.τ).loc Cert.SbPromptRefIdeal.main_arg1) = m' ((c.tc : Thread Cert.SbPromptRefIdeal.nD Cert.SbPromptRefIdeal.τ).loc Cert.SbPromptRefIdeal.main_arg1)
          ∧ r.2.mem ((c.tc : Thread Cert.SbPromptRefIdeal.nD Cert.SbPromptRefIdeal.τ).loc Cert.SbPromptRefIdeal.main_arg2) = m' ((c.tc : Thread Cert.SbPromptRefIdeal.nD Cert.SbPromptRefIdeal.τ).loc Cert.SbPromptRefIdeal.main_arg2))

def preserves_OutMlpFinal_OutMlpFinalIdeal : Prop :=
  True

def algebraic_OutMlpFinalIdeal_OutMlpFinalRefIdeal [hOutMlpFinalIdeal : Cert.OutMlpFinalIdeal.Facts] [hOutMlpFinalRefIdeal : Cert.OutMlpFinalRefIdeal.Facts] : Prop :=
  ∀ (m : (ℓ : Loc Cert.OutMlpFinalIdeal.nD Cert.OutMlpFinalIdeal.τ Cert.OutMlpFinalIdeal.sig) → Buf (Elt Ideal) ℓ) (g : Dev Cert.OutMlpFinalIdeal.nD → PrngReg)
    (m' : (ℓ : Loc Cert.OutMlpFinalRefIdeal.nD Cert.OutMlpFinalRefIdeal.τ Cert.OutMlpFinalRefIdeal.sig) → Buf (Elt Ideal) ℓ) (g' : Dev Cert.OutMlpFinalRefIdeal.nD → PrngReg), Pre_OutMlpFinalIdeal m →
    (∀ c : Dev Cert.OutMlpFinalIdeal.nD,
      m' ((c.tc : Thread Cert.OutMlpFinalRefIdeal.nD Cert.OutMlpFinalRefIdeal.τ).loc Cert.OutMlpFinalRefIdeal.main_arg0) = m ((c.tc : Thread Cert.OutMlpFinalIdeal.nD Cert.OutMlpFinalIdeal.τ).loc Cert.OutMlpFinalIdeal.main_arg0)
      ∧ m' ((c.tc : Thread Cert.OutMlpFinalRefIdeal.nD Cert.OutMlpFinalRefIdeal.τ).loc Cert.OutMlpFinalRefIdeal.main_arg1) = m ((c.tc : Thread Cert.OutMlpFinalIdeal.nD Cert.OutMlpFinalIdeal.τ).loc Cert.OutMlpFinalIdeal.main_arg1)
      ∧ m' ((c.tc : Thread Cert.OutMlpFinalRefIdeal.nD Cert.OutMlpFinalRefIdeal.τ).loc Cert.OutMlpFinalRefIdeal.main_arg2) = m ((c.tc : Thread Cert.OutMlpFinalIdeal.nD Cert.OutMlpFinalIdeal.τ).loc Cert.OutMlpFinalIdeal.main_arg2)
      ∧ m' ((c.tc : Thread Cert.OutMlpFinalRefIdeal.nD Cert.OutMlpFinalRefIdeal.τ).loc Cert.OutMlpFinalRefIdeal.main_arg3) = m ((c.tc : Thread Cert.OutMlpFinalIdeal.nD Cert.OutMlpFinalIdeal.τ).loc Cert.OutMlpFinalIdeal.main_arg3)
      ∧ m' ((c.tc : Thread Cert.OutMlpFinalRefIdeal.nD Cert.OutMlpFinalRefIdeal.τ).loc Cert.OutMlpFinalRefIdeal.main_arg4) = m ((c.tc : Thread Cert.OutMlpFinalIdeal.nD Cert.OutMlpFinalIdeal.τ).loc Cert.OutMlpFinalIdeal.main_arg4)
      ∧ m' ((c.tc : Thread Cert.OutMlpFinalRefIdeal.nD Cert.OutMlpFinalRefIdeal.τ).loc Cert.OutMlpFinalRefIdeal.main_arg5) = m ((c.tc : Thread Cert.OutMlpFinalIdeal.nD Cert.OutMlpFinalIdeal.τ).loc Cert.OutMlpFinalIdeal.main_arg5)
      ∧ m' ((c.tc : Thread Cert.OutMlpFinalRefIdeal.nD Cert.OutMlpFinalRefIdeal.τ).loc Cert.OutMlpFinalRefIdeal.main_arg6) = m ((c.tc : Thread Cert.OutMlpFinalIdeal.nD Cert.OutMlpFinalIdeal.τ).loc Cert.OutMlpFinalIdeal.main_arg6)) →
    ∃ (v0 : (c : Dev Cert.OutMlpFinalIdeal.nD) → Buf (Elt Ideal) ((c.tc : Thread Cert.OutMlpFinalIdeal.nD Cert.OutMlpFinalIdeal.τ).loc Cert.OutMlpFinalIdeal.main_v12)),
      θ_run (Cert.OutMlpFinalIdeal.defs (F := Ideal)) (onTc (τ := Cert.OutMlpFinalIdeal.τ) (Cert.OutMlpFinalIdeal.main (F := Ideal))) ⟨m, fun _ => 0, g⟩ (fun r => ∀ c : Dev Cert.OutMlpFinalIdeal.nD,
          r.2.mem ((c.tc : Thread Cert.OutMlpFinalIdeal.nD Cert.OutMlpFinalIdeal.τ).loc Cert.OutMlpFinalIdeal.main_v12) = v0 c
          ∧ r.2.mem ((c.tc : Thread Cert.OutMlpFinalIdeal.nD Cert.OutMlpFinalIdeal.τ).loc Cert.OutMlpFinalIdeal.main_arg0) = m ((c.tc : Thread Cert.OutMlpFinalIdeal.nD Cert.OutMlpFinalIdeal.τ).loc Cert.OutMlpFinalIdeal.main_arg0)
          ∧ r.2.mem ((c.tc : Thread Cert.OutMlpFinalIdeal.nD Cert.OutMlpFinalIdeal.τ).loc Cert.OutMlpFinalIdeal.main_arg1) = m ((c.tc : Thread Cert.OutMlpFinalIdeal.nD Cert.OutMlpFinalIdeal.τ).loc Cert.OutMlpFinalIdeal.main_arg1)
          ∧ r.2.mem ((c.tc : Thread Cert.OutMlpFinalIdeal.nD Cert.OutMlpFinalIdeal.τ).loc Cert.OutMlpFinalIdeal.main_arg2) = m ((c.tc : Thread Cert.OutMlpFinalIdeal.nD Cert.OutMlpFinalIdeal.τ).loc Cert.OutMlpFinalIdeal.main_arg2)
          ∧ r.2.mem ((c.tc : Thread Cert.OutMlpFinalIdeal.nD Cert.OutMlpFinalIdeal.τ).loc Cert.OutMlpFinalIdeal.main_arg3) = m ((c.tc : Thread Cert.OutMlpFinalIdeal.nD Cert.OutMlpFinalIdeal.τ).loc Cert.OutMlpFinalIdeal.main_arg3)
          ∧ r.2.mem ((c.tc : Thread Cert.OutMlpFinalIdeal.nD Cert.OutMlpFinalIdeal.τ).loc Cert.OutMlpFinalIdeal.main_arg4) = m ((c.tc : Thread Cert.OutMlpFinalIdeal.nD Cert.OutMlpFinalIdeal.τ).loc Cert.OutMlpFinalIdeal.main_arg4)
          ∧ r.2.mem ((c.tc : Thread Cert.OutMlpFinalIdeal.nD Cert.OutMlpFinalIdeal.τ).loc Cert.OutMlpFinalIdeal.main_arg5) = m ((c.tc : Thread Cert.OutMlpFinalIdeal.nD Cert.OutMlpFinalIdeal.τ).loc Cert.OutMlpFinalIdeal.main_arg5)
          ∧ r.2.mem ((c.tc : Thread Cert.OutMlpFinalIdeal.nD Cert.OutMlpFinalIdeal.τ).loc Cert.OutMlpFinalIdeal.main_arg6) = m ((c.tc : Thread Cert.OutMlpFinalIdeal.nD Cert.OutMlpFinalIdeal.τ).loc Cert.OutMlpFinalIdeal.main_arg6))
      ∧ θ_run (Cert.OutMlpFinalRefIdeal.defs (F := Ideal)) (onTc (τ := Cert.OutMlpFinalRefIdeal.τ) (Cert.OutMlpFinalRefIdeal.main (F := Ideal))) ⟨m', fun _ => 0, g'⟩ (fun r => ∀ c : Dev Cert.OutMlpFinalRefIdeal.nD,
          r.2.mem ((c.tc : Thread Cert.OutMlpFinalRefIdeal.nD Cert.OutMlpFinalRefIdeal.τ).loc Cert.OutMlpFinalRefIdeal.main_v40) = v0 c
          ∧ r.2.mem ((c.tc : Thread Cert.OutMlpFinalRefIdeal.nD Cert.OutMlpFinalRefIdeal.τ).loc Cert.OutMlpFinalRefIdeal.main_arg0) = m' ((c.tc : Thread Cert.OutMlpFinalRefIdeal.nD Cert.OutMlpFinalRefIdeal.τ).loc Cert.OutMlpFinalRefIdeal.main_arg0)
          ∧ r.2.mem ((c.tc : Thread Cert.OutMlpFinalRefIdeal.nD Cert.OutMlpFinalRefIdeal.τ).loc Cert.OutMlpFinalRefIdeal.main_arg1) = m' ((c.tc : Thread Cert.OutMlpFinalRefIdeal.nD Cert.OutMlpFinalRefIdeal.τ).loc Cert.OutMlpFinalRefIdeal.main_arg1)
          ∧ r.2.mem ((c.tc : Thread Cert.OutMlpFinalRefIdeal.nD Cert.OutMlpFinalRefIdeal.τ).loc Cert.OutMlpFinalRefIdeal.main_arg2) = m' ((c.tc : Thread Cert.OutMlpFinalRefIdeal.nD Cert.OutMlpFinalRefIdeal.τ).loc Cert.OutMlpFinalRefIdeal.main_arg2)
          ∧ r.2.mem ((c.tc : Thread Cert.OutMlpFinalRefIdeal.nD Cert.OutMlpFinalRefIdeal.τ).loc Cert.OutMlpFinalRefIdeal.main_arg3) = m' ((c.tc : Thread Cert.OutMlpFinalRefIdeal.nD Cert.OutMlpFinalRefIdeal.τ).loc Cert.OutMlpFinalRefIdeal.main_arg3)
          ∧ r.2.mem ((c.tc : Thread Cert.OutMlpFinalRefIdeal.nD Cert.OutMlpFinalRefIdeal.τ).loc Cert.OutMlpFinalRefIdeal.main_arg4) = m' ((c.tc : Thread Cert.OutMlpFinalRefIdeal.nD Cert.OutMlpFinalRefIdeal.τ).loc Cert.OutMlpFinalRefIdeal.main_arg4)
          ∧ r.2.mem ((c.tc : Thread Cert.OutMlpFinalRefIdeal.nD Cert.OutMlpFinalRefIdeal.τ).loc Cert.OutMlpFinalRefIdeal.main_arg5) = m' ((c.tc : Thread Cert.OutMlpFinalRefIdeal.nD Cert.OutMlpFinalRefIdeal.τ).loc Cert.OutMlpFinalRefIdeal.main_arg5)
          ∧ r.2.mem ((c.tc : Thread Cert.OutMlpFinalRefIdeal.nD Cert.OutMlpFinalRefIdeal.τ).loc Cert.OutMlpFinalRefIdeal.main_arg6) = m' ((c.tc : Thread Cert.OutMlpFinalRefIdeal.nD Cert.OutMlpFinalRefIdeal.τ).loc Cert.OutMlpFinalRefIdeal.main_arg6))

def preserves_OutMlpFirst_OutMlpFirstIdeal : Prop :=
  True

def algebraic_OutMlpFirstIdeal_OutMlpFirstRefIdeal [hOutMlpFirstIdeal : Cert.OutMlpFirstIdeal.Facts] [hOutMlpFirstRefIdeal : Cert.OutMlpFirstRefIdeal.Facts] : Prop :=
  ∀ (m : (ℓ : Loc Cert.OutMlpFirstIdeal.nD Cert.OutMlpFirstIdeal.τ Cert.OutMlpFirstIdeal.sig) → Buf (Elt Ideal) ℓ) (g : Dev Cert.OutMlpFirstIdeal.nD → PrngReg)
    (m' : (ℓ : Loc Cert.OutMlpFirstRefIdeal.nD Cert.OutMlpFirstRefIdeal.τ Cert.OutMlpFirstRefIdeal.sig) → Buf (Elt Ideal) ℓ) (g' : Dev Cert.OutMlpFirstRefIdeal.nD → PrngReg), Pre_OutMlpFirstIdeal m →
    (∀ c : Dev Cert.OutMlpFirstIdeal.nD,
      m' ((c.tc : Thread Cert.OutMlpFirstRefIdeal.nD Cert.OutMlpFirstRefIdeal.τ).loc Cert.OutMlpFirstRefIdeal.main_arg0) = m ((c.tc : Thread Cert.OutMlpFirstIdeal.nD Cert.OutMlpFirstIdeal.τ).loc Cert.OutMlpFirstIdeal.main_arg0)
      ∧ m' ((c.tc : Thread Cert.OutMlpFirstRefIdeal.nD Cert.OutMlpFirstRefIdeal.τ).loc Cert.OutMlpFirstRefIdeal.main_arg1) = m ((c.tc : Thread Cert.OutMlpFirstIdeal.nD Cert.OutMlpFirstIdeal.τ).loc Cert.OutMlpFirstIdeal.main_arg1)
      ∧ m' ((c.tc : Thread Cert.OutMlpFirstRefIdeal.nD Cert.OutMlpFirstRefIdeal.τ).loc Cert.OutMlpFirstRefIdeal.main_arg2) = m ((c.tc : Thread Cert.OutMlpFirstIdeal.nD Cert.OutMlpFirstIdeal.τ).loc Cert.OutMlpFirstIdeal.main_arg2)
      ∧ m' ((c.tc : Thread Cert.OutMlpFirstRefIdeal.nD Cert.OutMlpFirstRefIdeal.τ).loc Cert.OutMlpFirstRefIdeal.main_arg3) = m ((c.tc : Thread Cert.OutMlpFirstIdeal.nD Cert.OutMlpFirstIdeal.τ).loc Cert.OutMlpFirstIdeal.main_arg3)
      ∧ m' ((c.tc : Thread Cert.OutMlpFirstRefIdeal.nD Cert.OutMlpFirstRefIdeal.τ).loc Cert.OutMlpFirstRefIdeal.main_arg4) = m ((c.tc : Thread Cert.OutMlpFirstIdeal.nD Cert.OutMlpFirstIdeal.τ).loc Cert.OutMlpFirstIdeal.main_arg4)
      ∧ m' ((c.tc : Thread Cert.OutMlpFirstRefIdeal.nD Cert.OutMlpFirstRefIdeal.τ).loc Cert.OutMlpFirstRefIdeal.main_arg5) = m ((c.tc : Thread Cert.OutMlpFirstIdeal.nD Cert.OutMlpFirstIdeal.τ).loc Cert.OutMlpFirstIdeal.main_arg5)
      ∧ m' ((c.tc : Thread Cert.OutMlpFirstRefIdeal.nD Cert.OutMlpFirstRefIdeal.τ).loc Cert.OutMlpFirstRefIdeal.main_arg6) = m ((c.tc : Thread Cert.OutMlpFirstIdeal.nD Cert.OutMlpFirstIdeal.τ).loc Cert.OutMlpFirstIdeal.main_arg6)
      ∧ m' ((c.tc : Thread Cert.OutMlpFirstRefIdeal.nD Cert.OutMlpFirstRefIdeal.τ).loc Cert.OutMlpFirstRefIdeal.main_arg7) = m ((c.tc : Thread Cert.OutMlpFirstIdeal.nD Cert.OutMlpFirstIdeal.τ).loc Cert.OutMlpFirstIdeal.main_arg7)) →
    ∃ (v0 : (c : Dev Cert.OutMlpFirstIdeal.nD) → Buf (Elt Ideal) ((c.tc : Thread Cert.OutMlpFirstIdeal.nD Cert.OutMlpFirstIdeal.τ).loc Cert.OutMlpFirstIdeal.main_v12)),
      θ_run (Cert.OutMlpFirstIdeal.defs (F := Ideal)) (onTc (τ := Cert.OutMlpFirstIdeal.τ) (Cert.OutMlpFirstIdeal.main (F := Ideal))) ⟨m, fun _ => 0, g⟩ (fun r => ∀ c : Dev Cert.OutMlpFirstIdeal.nD,
          r.2.mem ((c.tc : Thread Cert.OutMlpFirstIdeal.nD Cert.OutMlpFirstIdeal.τ).loc Cert.OutMlpFirstIdeal.main_v12) = v0 c
          ∧ r.2.mem ((c.tc : Thread Cert.OutMlpFirstIdeal.nD Cert.OutMlpFirstIdeal.τ).loc Cert.OutMlpFirstIdeal.main_arg0) = m ((c.tc : Thread Cert.OutMlpFirstIdeal.nD Cert.OutMlpFirstIdeal.τ).loc Cert.OutMlpFirstIdeal.main_arg0)
          ∧ r.2.mem ((c.tc : Thread Cert.OutMlpFirstIdeal.nD Cert.OutMlpFirstIdeal.τ).loc Cert.OutMlpFirstIdeal.main_arg1) = m ((c.tc : Thread Cert.OutMlpFirstIdeal.nD Cert.OutMlpFirstIdeal.τ).loc Cert.OutMlpFirstIdeal.main_arg1)
          ∧ r.2.mem ((c.tc : Thread Cert.OutMlpFirstIdeal.nD Cert.OutMlpFirstIdeal.τ).loc Cert.OutMlpFirstIdeal.main_arg2) = m ((c.tc : Thread Cert.OutMlpFirstIdeal.nD Cert.OutMlpFirstIdeal.τ).loc Cert.OutMlpFirstIdeal.main_arg2)
          ∧ r.2.mem ((c.tc : Thread Cert.OutMlpFirstIdeal.nD Cert.OutMlpFirstIdeal.τ).loc Cert.OutMlpFirstIdeal.main_arg3) = m ((c.tc : Thread Cert.OutMlpFirstIdeal.nD Cert.OutMlpFirstIdeal.τ).loc Cert.OutMlpFirstIdeal.main_arg3)
          ∧ r.2.mem ((c.tc : Thread Cert.OutMlpFirstIdeal.nD Cert.OutMlpFirstIdeal.τ).loc Cert.OutMlpFirstIdeal.main_arg4) = m ((c.tc : Thread Cert.OutMlpFirstIdeal.nD Cert.OutMlpFirstIdeal.τ).loc Cert.OutMlpFirstIdeal.main_arg4)
          ∧ r.2.mem ((c.tc : Thread Cert.OutMlpFirstIdeal.nD Cert.OutMlpFirstIdeal.τ).loc Cert.OutMlpFirstIdeal.main_arg5) = m ((c.tc : Thread Cert.OutMlpFirstIdeal.nD Cert.OutMlpFirstIdeal.τ).loc Cert.OutMlpFirstIdeal.main_arg5)
          ∧ r.2.mem ((c.tc : Thread Cert.OutMlpFirstIdeal.nD Cert.OutMlpFirstIdeal.τ).loc Cert.OutMlpFirstIdeal.main_arg6) = m ((c.tc : Thread Cert.OutMlpFirstIdeal.nD Cert.OutMlpFirstIdeal.τ).loc Cert.OutMlpFirstIdeal.main_arg6)
          ∧ r.2.mem ((c.tc : Thread Cert.OutMlpFirstIdeal.nD Cert.OutMlpFirstIdeal.τ).loc Cert.OutMlpFirstIdeal.main_arg7) = m ((c.tc : Thread Cert.OutMlpFirstIdeal.nD Cert.OutMlpFirstIdeal.τ).loc Cert.OutMlpFirstIdeal.main_arg7))
      ∧ θ_run (Cert.OutMlpFirstRefIdeal.defs (F := Ideal)) (onTc (τ := Cert.OutMlpFirstRefIdeal.τ) (Cert.OutMlpFirstRefIdeal.main (F := Ideal))) ⟨m', fun _ => 0, g'⟩ (fun r => ∀ c : Dev Cert.OutMlpFirstRefIdeal.nD,
          r.2.mem ((c.tc : Thread Cert.OutMlpFirstRefIdeal.nD Cert.OutMlpFirstRefIdeal.τ).loc Cert.OutMlpFirstRefIdeal.main_v29) = v0 c
          ∧ r.2.mem ((c.tc : Thread Cert.OutMlpFirstRefIdeal.nD Cert.OutMlpFirstRefIdeal.τ).loc Cert.OutMlpFirstRefIdeal.main_arg0) = m' ((c.tc : Thread Cert.OutMlpFirstRefIdeal.nD Cert.OutMlpFirstRefIdeal.τ).loc Cert.OutMlpFirstRefIdeal.main_arg0)
          ∧ r.2.mem ((c.tc : Thread Cert.OutMlpFirstRefIdeal.nD Cert.OutMlpFirstRefIdeal.τ).loc Cert.OutMlpFirstRefIdeal.main_arg1) = m' ((c.tc : Thread Cert.OutMlpFirstRefIdeal.nD Cert.OutMlpFirstRefIdeal.τ).loc Cert.OutMlpFirstRefIdeal.main_arg1)
          ∧ r.2.mem ((c.tc : Thread Cert.OutMlpFirstRefIdeal.nD Cert.OutMlpFirstRefIdeal.τ).loc Cert.OutMlpFirstRefIdeal.main_arg2) = m' ((c.tc : Thread Cert.OutMlpFirstRefIdeal.nD Cert.OutMlpFirstRefIdeal.τ).loc Cert.OutMlpFirstRefIdeal.main_arg2)
          ∧ r.2.mem ((c.tc : Thread Cert.OutMlpFirstRefIdeal.nD Cert.OutMlpFirstRefIdeal.τ).loc Cert.OutMlpFirstRefIdeal.main_arg3) = m' ((c.tc : Thread Cert.OutMlpFirstRefIdeal.nD Cert.OutMlpFirstRefIdeal.τ).loc Cert.OutMlpFirstRefIdeal.main_arg3)
          ∧ r.2.mem ((c.tc : Thread Cert.OutMlpFirstRefIdeal.nD Cert.OutMlpFirstRefIdeal.τ).loc Cert.OutMlpFirstRefIdeal.main_arg4) = m' ((c.tc : Thread Cert.OutMlpFirstRefIdeal.nD Cert.OutMlpFirstRefIdeal.τ).loc Cert.OutMlpFirstRefIdeal.main_arg4)
          ∧ r.2.mem ((c.tc : Thread Cert.OutMlpFirstRefIdeal.nD Cert.OutMlpFirstRefIdeal.τ).loc Cert.OutMlpFirstRefIdeal.main_arg5) = m' ((c.tc : Thread Cert.OutMlpFirstRefIdeal.nD Cert.OutMlpFirstRefIdeal.τ).loc Cert.OutMlpFirstRefIdeal.main_arg5)
          ∧ r.2.mem ((c.tc : Thread Cert.OutMlpFirstRefIdeal.nD Cert.OutMlpFirstRefIdeal.τ).loc Cert.OutMlpFirstRefIdeal.main_arg6) = m' ((c.tc : Thread Cert.OutMlpFirstRefIdeal.nD Cert.OutMlpFirstRefIdeal.τ).loc Cert.OutMlpFirstRefIdeal.main_arg6)
          ∧ r.2.mem ((c.tc : Thread Cert.OutMlpFirstRefIdeal.nD Cert.OutMlpFirstRefIdeal.τ).loc Cert.OutMlpFirstRefIdeal.main_arg7) = m' ((c.tc : Thread Cert.OutMlpFirstRefIdeal.nD Cert.OutMlpFirstRefIdeal.τ).loc Cert.OutMlpFirstRefIdeal.main_arg7))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)
      ∧ m' ((c.tc : Thread Cert.AbInRefIdeal.nD Cert.AbInRefIdeal.τ).loc Cert.AbInRefIdeal.main_arg2) = m ((c.tc : Thread Cert.AbInIdeal.nD Cert.AbInIdeal.τ).loc Cert.AbInIdeal.main_arg2)) →
    ∃ (v0 : (c : Dev Cert.AbInIdeal.nD) → Buf (Elt Ideal) ((c.tc : Thread Cert.AbInIdeal.nD Cert.AbInIdeal.τ).loc Cert.AbInIdeal.main_v8_0)) (v1 : (c : Dev Cert.AbInIdeal.nD) → Buf (Elt Ideal) ((c.tc : Thread Cert.AbInIdeal.nD Cert.AbInIdeal.τ).loc Cert.AbInIdeal.main_v8_1)) (v2 : (c : Dev Cert.AbInIdeal.nD) → Buf (Elt Ideal) ((c.tc : Thread Cert.AbInIdeal.nD Cert.AbInIdeal.τ).loc Cert.AbInIdeal.main_v8_2)) (v3 : (c : Dev Cert.AbInIdeal.nD) → Buf (Elt Ideal) ((c.tc : Thread Cert.AbInIdeal.nD Cert.AbInIdeal.τ).loc Cert.AbInIdeal.main_v8_3)) (v4 : (c : Dev Cert.AbInIdeal.nD) → Buf (Elt Ideal) ((c.tc : Thread Cert.AbInIdeal.nD Cert.AbInIdeal.τ).loc Cert.AbInIdeal.main_v8_4)) (v5 : (c : Dev Cert.AbInIdeal.nD) → Buf (Elt Ideal) ((c.tc : Thread Cert.AbInIdeal.nD Cert.AbInIdeal.τ).loc Cert.AbInIdeal.main_v8_5)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v8_0) = v0 c
          ∧ r.2.mem ((c.tc : Thread Cert.AbInIdeal.nD Cert.AbInIdeal.τ).loc Cert.AbInIdeal.main_v8_1) = v1 c
          ∧ r.2.mem ((c.tc : Thread Cert.AbInIdeal.nD Cert.AbInIdeal.τ).loc Cert.AbInIdeal.main_v8_2) = v2 c
          ∧ r.2.mem ((c.tc : Thread Cert.AbInIdeal.nD Cert.AbInIdeal.τ).loc Cert.AbInIdeal.main_v8_3) = v3 c
          ∧ r.2.mem ((c.tc : Thread Cert.AbInIdeal.nD Cert.AbInIdeal.τ).loc Cert.AbInIdeal.main_v8_4) = v4 c
          ∧ r.2.mem ((c.tc : Thread Cert.AbInIdeal.nD Cert.AbInIdeal.τ).loc Cert.AbInIdeal.main_v8_5) = v5 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
          ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v27) = v0 c
          ∧ r.2.mem ((c.tc : Thread Cert.AbInRefIdeal.nD Cert.AbInRefIdeal.τ).loc Cert.AbInRefIdeal.main_v28) = v1 c
          ∧ r.2.mem ((c.tc : Thread Cert.AbInRefIdeal.nD Cert.AbInRefIdeal.τ).loc Cert.AbInRefIdeal.main_v29) = v2 c
          ∧ r.2.mem ((c.tc : Thread Cert.AbInRefIdeal.nD Cert.AbInRefIdeal.τ).loc Cert.AbInRefIdeal.main_v22) = v3 c
          ∧ r.2.mem ((c.tc : Thread Cert.AbInRefIdeal.nD Cert.AbInRefIdeal.τ).loc Cert.AbInRefIdeal.main_v23) = v4 c
          ∧ r.2.mem ((c.tc : Thread Cert.AbInRefIdeal.nD Cert.AbInRefIdeal.τ).loc Cert.AbInRefIdeal.main_v37) = v5 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1)
          ∧ r.2.mem ((c.tc : Thread Cert.AbInRefIdeal.nD Cert.AbInRefIdeal.τ).loc Cert.AbInRefIdeal.main_arg2) = m' ((c.tc : Thread Cert.AbInRefIdeal.nD Cert.AbInRefIdeal.τ).loc Cert.AbInRefIdeal.main_arg2))

def preserves_CIn_CInIdeal : Prop :=
  True

def algebraic_CInIdeal_CInRefIdeal [hCInIdeal : Cert.CInIdeal.Facts] [hCInRefIdeal : Cert.CInRefIdeal.Facts] : Prop :=
  ∀ (m : (ℓ : Loc Cert.CInIdeal.nD Cert.CInIdeal.τ Cert.CInIdeal.sig) → Buf (Elt Ideal) ℓ) (g : Dev Cert.CInIdeal.nD → PrngReg)
    (m' : (ℓ : Loc Cert.CInRefIdeal.nD Cert.CInRefIdeal.τ Cert.CInRefIdeal.sig) → Buf (Elt Ideal) ℓ) (g' : Dev Cert.CInRefIdeal.nD → PrngReg), Pre_CInIdeal m →
    (∀ c : Dev Cert.CInIdeal.nD,
      m' ((c.tc : Thread Cert.CInRefIdeal.nD Cert.CInRefIdeal.τ).loc Cert.CInRefIdeal.main_arg0) = m ((c.tc : Thread Cert.CInIdeal.nD Cert.CInIdeal.τ).loc Cert.CInIdeal.main_arg0)
      ∧ m' ((c.tc : Thread Cert.CInRefIdeal.nD Cert.CInRefIdeal.τ).loc Cert.CInRefIdeal.main_arg1) = m ((c.tc : Thread Cert.CInIdeal.nD Cert.CInIdeal.τ).loc Cert.CInIdeal.main_arg1)
      ∧ m' ((c.tc : Thread Cert.CInRefIdeal.nD Cert.CInRefIdeal.τ).loc Cert.CInRefIdeal.main_arg2) = m ((c.tc : Thread Cert.CInIdeal.nD Cert.CInIdeal.τ).loc Cert.CInIdeal.main_arg2)) →
    ∃ (v0 : (c : Dev Cert.CInIdeal.nD) → Buf (Elt Ideal) ((c.tc : Thread Cert.CInIdeal.nD Cert.CInIdeal.τ).loc Cert.CInIdeal.main_v8_0)) (v1 : (c : Dev Cert.CInIdeal.nD) → Buf (Elt Ideal) ((c.tc : Thread Cert.CInIdeal.nD Cert.CInIdeal.τ).loc Cert.CInIdeal.main_v8_1)) (v2 : (c : Dev Cert.CInIdeal.nD) → Buf (Elt Ideal) ((c.tc : Thread Cert.CInIdeal.nD Cert.CInIdeal.τ).loc Cert.CInIdeal.main_v8_2)) (v3 : (c : Dev Cert.CInIdeal.nD) → Buf (Elt Ideal) ((c.tc : Thread Cert.CInIdeal.nD Cert.CInIdeal.τ).loc Cert.CInIdeal.main_v8_3)) (v4 : (c : Dev Cert.CInIdeal.nD) → Buf (Elt Ideal) ((c.tc : Thread Cert.CInIdeal.nD Cert.CInIdeal.τ).loc Cert.CInIdeal.main_v8_4)),
      θ_run (Cert.CInIdeal.defs (F := Ideal)) (onTc (τ := Cert.CInIdeal.τ) (Cert.CInIdeal.main (F := Ideal))) ⟨m, fun _ => 0, g⟩ (fun r => ∀ c : Dev Cert.CInIdeal.nD,
          r.2.mem ((c.tc : Thread Cert.CInIdeal.nD Cert.CInIdeal.τ).loc Cert.CInIdeal.main_v8_0) = v0 c
          ∧ r.2.mem ((c.tc : Thread Cert.CInIdeal.nD Cert.CInIdeal.τ).loc Cert.CInIdeal.main_v8_1) = v1 c
          ∧ r.2.mem ((c.tc : Thread Cert.CInIdeal.nD Cert.CInIdeal.τ).loc Cert.CInIdeal.main_v8_2) = v2 c
          ∧ r.2.mem ((c.tc : Thread Cert.CInIdeal.nD Cert.CInIdeal.τ).loc Cert.CInIdeal.main_v8_3) = v3 c
          ∧ r.2.mem ((c.tc : Thread Cert.CInIdeal.nD Cert.CInIdeal.τ).loc Cert.CInIdeal.main_v8_4) = v4 c
          ∧ r.2.mem ((c.tc : Thread Cert.CInIdeal.nD Cert.CInIdeal.τ).loc Cert.CInIdeal.main_arg0) = m ((c.tc : Thread Cert.CInIdeal.nD Cert.CInIdeal.τ).loc Cert.CInIdeal.main_arg0)
          ∧ r.2.mem ((c.tc : Thread Cert.CInIdeal.nD Cert.CInIdeal.τ).loc Cert.CInIdeal.main_arg1) = m ((c.tc : Thread Cert.CInIdeal.nD Cert.CInIdeal.τ).loc Cert.CInIdeal.main_arg1)
          ∧ r.2.mem ((c.tc : Thread Cert.CInIdeal.nD Cert.CInIdeal.τ).loc Cert.CInIdeal.main_arg2) = m ((c.tc : Thread Cert.CInIdeal.nD Cert.CInIdeal.τ).loc Cert.CInIdeal.main_arg2))
      ∧ θ_run (Cert.CInRefIdeal.defs (F := Ideal)) (onTc (τ := Cert.CInRefIdeal.τ) (Cert.CInRefIdeal.main (F := Ideal))) ⟨m', fun _ => 0, g'⟩ (fun r => ∀ c : Dev Cert.CInRefIdeal.nD,
          r.2.mem ((c.tc : Thread Cert.CInRefIdeal.nD Cert.CInRefIdeal.τ).loc Cert.CInRefIdeal.main_v26) = v0 c
          ∧ r.2.mem ((c.tc : Thread Cert.CInRefIdeal.nD Cert.CInRefIdeal.τ).loc Cert.CInRefIdeal.main_v27) = v1 c
          ∧ r.2.mem ((c.tc : Thread Cert.CInRefIdeal.nD Cert.CInRefIdeal.τ).loc Cert.CInRefIdeal.main_v28) = v2 c
          ∧ r.2.mem ((c.tc : Thread Cert.CInRefIdeal.nD Cert.CInRefIdeal.τ).loc Cert.CInRefIdeal.main_v29) = v3 c
          ∧ r.2.mem ((c.tc : Thread Cert.CInRefIdeal.nD Cert.CInRefIdeal.τ).loc Cert.CInRefIdeal.main_v30) = v4 c
          ∧ r.2.mem ((c.tc : Thread Cert.CInRefIdeal.nD Cert.CInRefIdeal.τ).loc Cert.CInRefIdeal.main_arg0) = m' ((c.tc : Thread Cert.CInRefIdeal.nD Cert.CInRefIdeal.τ).loc Cert.CInRefIdeal.main_arg0)
          ∧ r.2.mem ((c.tc : Thread Cert.CInRefIdeal.nD Cert.CInRefIdeal.τ).loc Cert.CInRefIdeal.main_arg1) = m' ((c.tc : Thread Cert.CInRefIdeal.nD Cert.CInRefIdeal.τ).loc Cert.CInRefIdeal.main_arg1)
          ∧ r.2.mem ((c.tc : Thread Cert.CInRefIdeal.nD Cert.CInRefIdeal.τ).loc Cert.CInRefIdeal.main_arg2) = m' ((c.tc : Thread Cert.CInRefIdeal.nD Cert.CInRefIdeal.τ).loc Cert.CInRefIdeal.main_arg2))

def preserves_FinalSample_FinalSampleIdeal : Prop :=
  True

def algebraic_FinalSampleIdeal_FinalSampleRefIdeal [hFinalSampleIdeal : Cert.FinalSampleIdeal.Facts] [hFinalSampleRefIdeal : Cert.FinalSampleRefIdeal.Facts] : Prop :=
  ∀ (m : (ℓ : Loc Cert.FinalSampleIdeal.nD Cert.FinalSampleIdeal.τ Cert.FinalSampleIdeal.sig) → Buf (Elt Ideal) ℓ) (g : Dev Cert.FinalSampleIdeal.nD → PrngReg)
    (m' : (ℓ : Loc Cert.FinalSampleRefIdeal.nD Cert.FinalSampleRefIdeal.τ Cert.FinalSampleRefIdeal.sig) → Buf (Elt Ideal) ℓ) (g' : Dev Cert.FinalSampleRefIdeal.nD → PrngReg), Pre_FinalSampleIdeal m →
    (∀ c : Dev Cert.FinalSampleIdeal.nD,
      m' ((c.tc : Thread Cert.FinalSampleRefIdeal.nD Cert.FinalSampleRefIdeal.τ).loc Cert.FinalSampleRefIdeal.main_arg0) = m ((c.tc : Thread Cert.FinalSampleIdeal.nD Cert.FinalSampleIdeal.τ).loc Cert.FinalSampleIdeal.main_arg0)
      ∧ m' ((c.tc : Thread Cert.FinalSampleRefIdeal.nD Cert.FinalSampleRefIdeal.τ).loc Cert.FinalSampleRefIdeal.main_arg1) = m ((c.tc : Thread Cert.FinalSampleIdeal.nD Cert.FinalSampleIdeal.τ).loc Cert.FinalSampleIdeal.main_arg1)
      ∧ m' ((c.tc : Thread Cert.FinalSampleRefIdeal.nD Cert.FinalSampleRefIdeal.τ).loc Cert.FinalSampleRefIdeal.main_arg2) = m ((c.tc : Thread Cert.FinalSampleIdeal.nD Cert.FinalSampleIdeal.τ).loc Cert.FinalSampleIdeal.main_arg2)
      ∧ m' ((c.tc : Thread Cert.FinalSampleRefIdeal.nD Cert.FinalSampleRefIdeal.τ).loc Cert.FinalSampleRefIdeal.main_arg3) = m ((c.tc : Thread Cert.FinalSampleIdeal.nD Cert.FinalSampleIdeal.τ).loc Cert.FinalSampleIdeal.main_arg3)
      ∧ m' ((c.tc : Thread Cert.FinalSampleRefIdeal.nD Cert.FinalSampleRefIdeal.τ).loc Cert.FinalSampleRefIdeal.main_arg4) = m ((c.tc : Thread Cert.FinalSampleIdeal.nD Cert.FinalSampleIdeal.τ).loc Cert.FinalSampleIdeal.main_arg4)
      ∧ m' ((c.tc : Thread Cert.FinalSampleRefIdeal.nD Cert.FinalSampleRefIdeal.τ).loc Cert.FinalSampleRefIdeal.main_arg5) = m ((c.tc : Thread Cert.FinalSampleIdeal.nD Cert.FinalSampleIdeal.τ).loc Cert.FinalSampleIdeal.main_arg5)
      ∧ m' ((c.tc : Thread Cert.FinalSampleRefIdeal.nD Cert.FinalSampleRefIdeal.τ).loc Cert.FinalSampleRefIdeal.main_arg6) = m ((c.tc : Thread Cert.FinalSampleIdeal.nD Cert.FinalSampleIdeal.τ).loc Cert.FinalSampleIdeal.main_arg6)) →
    ∃ (v0 : (c : Dev Cert.FinalSampleIdeal.nD) → Buf (Elt Ideal) ((c.tc : Thread Cert.FinalSampleIdeal.nD Cert.FinalSampleIdeal.τ).loc Cert.FinalSampleIdeal.main_v12)),
      θ_run (Cert.FinalSampleIdeal.defs (F := Ideal)) (onTc (τ := Cert.FinalSampleIdeal.τ) (Cert.FinalSampleIdeal.main (F := Ideal))) ⟨m, fun _ => 0, g⟩ (fun r => ∀ c : Dev Cert.FinalSampleIdeal.nD,
          r.2.mem ((c.tc : Thread Cert.FinalSampleIdeal.nD Cert.FinalSampleIdeal.τ).loc Cert.FinalSampleIdeal.main_v12) = v0 c
          ∧ r.2.mem ((c.tc : Thread Cert.FinalSampleIdeal.nD Cert.FinalSampleIdeal.τ).loc Cert.FinalSampleIdeal.main_arg0) = m ((c.tc : Thread Cert.FinalSampleIdeal.nD Cert.FinalSampleIdeal.τ).loc Cert.FinalSampleIdeal.main_arg0)
          ∧ r.2.mem ((c.tc : Thread Cert.FinalSampleIdeal.nD Cert.FinalSampleIdeal.τ).loc Cert.FinalSampleIdeal.main_arg1) = m ((c.tc : Thread Cert.FinalSampleIdeal.nD Cert.FinalSampleIdeal.τ).loc Cert.FinalSampleIdeal.main_arg1)
          ∧ r.2.mem ((c.tc : Thread Cert.FinalSampleIdeal.nD Cert.FinalSampleIdeal.τ).loc Cert.FinalSampleIdeal.main_arg2) = m ((c.tc : Thread Cert.FinalSampleIdeal.nD Cert.FinalSampleIdeal.τ).loc Cert.FinalSampleIdeal.main_arg2)
          ∧ r.2.mem ((c.tc : Thread Cert.FinalSampleIdeal.nD Cert.FinalSampleIdeal.τ).loc Cert.FinalSampleIdeal.main_arg3) = m ((c.tc : Thread Cert.FinalSampleIdeal.nD Cert.FinalSampleIdeal.τ).loc Cert.FinalSampleIdeal.main_arg3)
          ∧ r.2.mem ((c.tc : Thread Cert.FinalSampleIdeal.nD Cert.FinalSampleIdeal.τ).loc Cert.FinalSampleIdeal.main_arg4) = m ((c.tc : Thread Cert.FinalSampleIdeal.nD Cert.FinalSampleIdeal.τ).loc Cert.FinalSampleIdeal.main_arg4)
          ∧ r.2.mem ((c.tc : Thread Cert.FinalSampleIdeal.nD Cert.FinalSampleIdeal.τ).loc Cert.FinalSampleIdeal.main_arg5) = m ((c.tc : Thread Cert.FinalSampleIdeal.nD Cert.FinalSampleIdeal.τ).loc Cert.FinalSampleIdeal.main_arg5)
          ∧ r.2.mem ((c.tc : Thread Cert.FinalSampleIdeal.nD Cert.FinalSampleIdeal.τ).loc Cert.FinalSampleIdeal.main_arg6) = m ((c.tc : Thread Cert.FinalSampleIdeal.nD Cert.FinalSampleIdeal.τ).loc Cert.FinalSampleIdeal.main_arg6))
      ∧ θ_run (Cert.FinalSampleRefIdeal.defs (F := Ideal)) (onTc (τ := Cert.FinalSampleRefIdeal.τ) (Cert.FinalSampleRefIdeal.main (F := Ideal))) ⟨m', fun _ => 0, g'⟩ (fun r => ∀ c : Dev Cert.FinalSampleRefIdeal.nD,
          r.2.mem ((c.tc : Thread Cert.FinalSampleRefIdeal.nD Cert.FinalSampleRefIdeal.τ).loc Cert.FinalSampleRefIdeal.main_v40) = v0 c
          ∧ r.2.mem ((c.tc : Thread Cert.FinalSampleRefIdeal.nD Cert.FinalSampleRefIdeal.τ).loc Cert.FinalSampleRefIdeal.main_arg0) = m' ((c.tc : Thread Cert.FinalSampleRefIdeal.nD Cert.FinalSampleRefIdeal.τ).loc Cert.FinalSampleRefIdeal.main_arg0)
          ∧ r.2.mem ((c.tc : Thread Cert.FinalSampleRefIdeal.nD Cert.FinalSampleRefIdeal.τ).loc Cert.FinalSampleRefIdeal.main_arg1) = m' ((c.tc : Thread Cert.FinalSampleRefIdeal.nD Cert.FinalSampleRefIdeal.τ).loc Cert.FinalSampleRefIdeal.main_arg1)
          ∧ r.2.mem ((c.tc : Thread Cert.FinalSampleRefIdeal.nD Cert.FinalSampleRefIdeal.τ).loc Cert.FinalSampleRefIdeal.main_arg2) = m' ((c.tc : Thread Cert.FinalSampleRefIdeal.nD Cert.FinalSampleRefIdeal.τ).loc Cert.FinalSampleRefIdeal.main_arg2)
          ∧ r.2.mem ((c.tc : Thread Cert.FinalSampleRefIdeal.nD Cert.FinalSampleRefIdeal.τ).loc Cert.FinalSampleRefIdeal.main_arg3) = m' ((c.tc : Thread Cert.FinalSampleRefIdeal.nD Cert.FinalSampleRefIdeal.τ).loc Cert.FinalSampleRefIdeal.main_arg3)
          ∧ r.2.mem ((c.tc : Thread Cert.FinalSampleRefIdeal.nD Cert.FinalSampleRefIdeal.τ).loc Cert.FinalSampleRefIdeal.main_arg4) = m' ((c.tc : Thread Cert.FinalSampleRefIdeal.nD Cert.FinalSampleRefIdeal.τ).loc Cert.FinalSampleRefIdeal.main_arg4)
          ∧ r.2.mem ((c.tc : Thread Cert.FinalSampleRefIdeal.nD Cert.FinalSampleRefIdeal.τ).loc Cert.FinalSampleRefIdeal.main_arg5) = m' ((c.tc : Thread Cert.FinalSampleRefIdeal.nD Cert.FinalSampleRefIdeal.τ).loc Cert.FinalSampleRefIdeal.main_arg5)
          ∧ r.2.mem ((c.tc : Thread Cert.FinalSampleRefIdeal.nD Cert.FinalSampleRefIdeal.τ).loc Cert.FinalSampleRefIdeal.main_arg6) = m' ((c.tc : Thread Cert.FinalSampleRefIdeal.nD Cert.FinalSampleRefIdeal.τ).loc Cert.FinalSampleRefIdeal.main_arg6))

def preserves_FirstSample_FirstSampleIdeal : Prop :=
  True

def algebraic_FirstSampleIdeal_FirstSampleRefIdeal [hFirstSampleIdeal : Cert.FirstSampleIdeal.Facts] [hFirstSampleRefIdeal : Cert.FirstSampleRefIdeal.Facts] : Prop :=
  ∀ (m : (ℓ : Loc Cert.FirstSampleIdeal.nD Cert.FirstSampleIdeal.τ Cert.FirstSampleIdeal.sig) → Buf (Elt Ideal) ℓ) (g : Dev Cert.FirstSampleIdeal.nD → PrngReg)
    (m' : (ℓ : Loc Cert.FirstSampleRefIdeal.nD Cert.FirstSampleRefIdeal.τ Cert.FirstSampleRefIdeal.sig) → Buf (Elt Ideal) ℓ) (g' : Dev Cert.FirstSampleRefIdeal.nD → PrngReg), Pre_FirstSampleIdeal m →
    (∀ c : Dev Cert.FirstSampleIdeal.nD,
      m' ((c.tc : Thread Cert.FirstSampleRefIdeal.nD Cert.FirstSampleRefIdeal.τ).loc Cert.FirstSampleRefIdeal.main_arg0) = m ((c.tc : Thread Cert.FirstSampleIdeal.nD Cert.FirstSampleIdeal.τ).loc Cert.FirstSampleIdeal.main_arg0)
      ∧ m' ((c.tc : Thread Cert.FirstSampleRefIdeal.nD Cert.FirstSampleRefIdeal.τ).loc Cert.FirstSampleRefIdeal.main_arg1) = m ((c.tc : Thread Cert.FirstSampleIdeal.nD Cert.FirstSampleIdeal.τ).loc Cert.FirstSampleIdeal.main_arg1)
      ∧ m' ((c.tc : Thread Cert.FirstSampleRefIdeal.nD Cert.FirstSampleRefIdeal.τ).loc Cert.FirstSampleRefIdeal.main_arg2) = m ((c.tc : Thread Cert.FirstSampleIdeal.nD Cert.FirstSampleIdeal.τ).loc Cert.FirstSampleIdeal.main_arg2)
      ∧ m' ((c.tc : Thread Cert.FirstSampleRefIdeal.nD Cert.FirstSampleRefIdeal.τ).loc Cert.FirstSampleRefIdeal.main_arg3) = m ((c.tc : Thread Cert.FirstSampleIdeal.nD Cert.FirstSampleIdeal.τ).loc Cert.FirstSampleIdeal.main_arg3)
      ∧ m' ((c.tc : Thread Cert.FirstSampleRefIdeal.nD Cert.FirstSampleRefIdeal.τ).loc Cert.FirstSampleRefIdeal.main_arg4) = m ((c.tc : Thread Cert.FirstSampleIdeal.nD Cert.FirstSampleIdeal.τ).loc Cert.FirstSampleIdeal.main_arg4)
      ∧ m' ((c.tc : Thread Cert.FirstSampleRefIdeal.nD Cert.FirstSampleRefIdeal.τ).loc Cert.FirstSampleRefIdeal.main_arg5) = m ((c.tc : Thread Cert.FirstSampleIdeal.nD Cert.FirstSampleIdeal.τ).loc Cert.FirstSampleIdeal.main_arg5)
      ∧ m' ((c.tc : Thread Cert.FirstSampleRefIdeal.nD Cert.FirstSampleRefIdeal.τ).loc Cert.FirstSampleRefIdeal.main_arg6) = m ((c.tc : Thread Cert.FirstSampleIdeal.nD Cert.FirstSampleIdeal.τ).loc Cert.FirstSampleIdeal.main_arg6)
      ∧ m' ((c.tc : Thread Cert.FirstSampleRefIdeal.nD Cert.FirstSampleRefIdeal.τ).loc Cert.FirstSampleRefIdeal.main_arg7) = m ((c.tc : Thread Cert.FirstSampleIdeal.nD Cert.FirstSampleIdeal.τ).loc Cert.FirstSampleIdeal.main_arg7)) →
    ∃ (v0 : (c : Dev Cert.FirstSampleIdeal.nD) → Buf (Elt Ideal) ((c.tc : Thread Cert.FirstSampleIdeal.nD Cert.FirstSampleIdeal.τ).loc Cert.FirstSampleIdeal.main_v12)),
      θ_run (Cert.FirstSampleIdeal.defs (F := Ideal)) (onTc (τ := Cert.FirstSampleIdeal.τ) (Cert.FirstSampleIdeal.main (F := Ideal))) ⟨m, fun _ => 0, g⟩ (fun r => ∀ c : Dev Cert.FirstSampleIdeal.nD,
          r.2.mem ((c.tc : Thread Cert.FirstSampleIdeal.nD Cert.FirstSampleIdeal.τ).loc Cert.FirstSampleIdeal.main_v12) = v0 c
          ∧ r.2.mem ((c.tc : Thread Cert.FirstSampleIdeal.nD Cert.FirstSampleIdeal.τ).loc Cert.FirstSampleIdeal.main_arg0) = m ((c.tc : Thread Cert.FirstSampleIdeal.nD Cert.FirstSampleIdeal.τ).loc Cert.FirstSampleIdeal.main_arg0)
          ∧ r.2.mem ((c.tc : Thread Cert.FirstSampleIdeal.nD Cert.FirstSampleIdeal.τ).loc Cert.FirstSampleIdeal.main_arg1) = m ((c.tc : Thread Cert.FirstSampleIdeal.nD Cert.FirstSampleIdeal.τ).loc Cert.FirstSampleIdeal.main_arg1)
          ∧ r.2.mem ((c.tc : Thread Cert.FirstSampleIdeal.nD Cert.FirstSampleIdeal.τ).loc Cert.FirstSampleIdeal.main_arg2) = m ((c.tc : Thread Cert.FirstSampleIdeal.nD Cert.FirstSampleIdeal.τ).loc Cert.FirstSampleIdeal.main_arg2)
          ∧ r.2.mem ((c.tc : Thread Cert.FirstSampleIdeal.nD Cert.FirstSampleIdeal.τ).loc Cert.FirstSampleIdeal.main_arg3) = m ((c.tc : Thread Cert.FirstSampleIdeal.nD Cert.FirstSampleIdeal.τ).loc Cert.FirstSampleIdeal.main_arg3)
          ∧ r.2.mem ((c.tc : Thread Cert.FirstSampleIdeal.nD Cert.FirstSampleIdeal.τ).loc Cert.FirstSampleIdeal.main_arg4) = m ((c.tc : Thread Cert.FirstSampleIdeal.nD Cert.FirstSampleIdeal.τ).loc Cert.FirstSampleIdeal.main_arg4)
          ∧ r.2.mem ((c.tc : Thread Cert.FirstSampleIdeal.nD Cert.FirstSampleIdeal.τ).loc Cert.FirstSampleIdeal.main_arg5) = m ((c.tc : Thread Cert.FirstSampleIdeal.nD Cert.FirstSampleIdeal.τ).loc Cert.FirstSampleIdeal.main_arg5)
          ∧ r.2.mem ((c.tc : Thread Cert.FirstSampleIdeal.nD Cert.FirstSampleIdeal.τ).loc Cert.FirstSampleIdeal.main_arg6) = m ((c.tc : Thread Cert.FirstSampleIdeal.nD Cert.FirstSampleIdeal.τ).loc Cert.FirstSampleIdeal.main_arg6)
          ∧ r.2.mem ((c.tc : Thread Cert.FirstSampleIdeal.nD Cert.FirstSampleIdeal.τ).loc Cert.FirstSampleIdeal.main_arg7) = m ((c.tc : Thread Cert.FirstSampleIdeal.nD Cert.FirstSampleIdeal.τ).loc Cert.FirstSampleIdeal.main_arg7))
      ∧ θ_run (Cert.FirstSampleRefIdeal.defs (F := Ideal)) (onTc (τ := Cert.FirstSampleRefIdeal.τ) (Cert.FirstSampleRefIdeal.main (F := Ideal))) ⟨m', fun _ => 0, g'⟩ (fun r => ∀ c : Dev Cert.FirstSampleRefIdeal.nD,
          r.2.mem ((c.tc : Thread Cert.FirstSampleRefIdeal.nD Cert.FirstSampleRefIdeal.τ).loc Cert.FirstSampleRefIdeal.main_v29) = v0 c
          ∧ r.2.mem ((c.tc : Thread Cert.FirstSampleRefIdeal.nD Cert.FirstSampleRefIdeal.τ).loc Cert.FirstSampleRefIdeal.main_arg0) = m' ((c.tc : Thread Cert.FirstSampleRefIdeal.nD Cert.FirstSampleRefIdeal.τ).loc Cert.FirstSampleRefIdeal.main_arg0)
          ∧ r.2.mem ((c.tc : Thread Cert.FirstSampleRefIdeal.nD Cert.FirstSampleRefIdeal.τ).loc Cert.FirstSampleRefIdeal.main_arg1) = m' ((c.tc : Thread Cert.FirstSampleRefIdeal.nD Cert.FirstSampleRefIdeal.τ).loc Cert.FirstSampleRefIdeal.main_arg1)
          ∧ r.2.mem ((c.tc : Thread Cert.FirstSampleRefIdeal.nD Cert.FirstSampleRefIdeal.τ).loc Cert.FirstSampleRefIdeal.main_arg2) = m' ((c.tc : Thread Cert.FirstSampleRefIdeal.nD Cert.FirstSampleRefIdeal.τ).loc Cert.FirstSampleRefIdeal.main_arg2)
          ∧ r.2.mem ((c.tc : Thread Cert.FirstSampleRefIdeal.nD Cert.FirstSampleRefIdeal.τ).loc Cert.FirstSampleRefIdeal.main_arg3) = m' ((c.tc : Thread Cert.FirstSampleRefIdeal.nD Cert.FirstSampleRefIdeal.τ).loc Cert.FirstSampleRefIdeal.main_arg3)
          ∧ r.2.mem ((c.tc : Thread Cert.FirstSampleRefIdeal.nD Cert.FirstSampleRefIdeal.τ).loc Cert.FirstSampleRefIdeal.main_arg4) = m' ((c.tc : Thread Cert.FirstSampleRefIdeal.nD Cert.FirstSampleRefIdeal.τ).loc Cert.FirstSampleRefIdeal.main_arg4)
          ∧ r.2.mem ((c.tc : Thread Cert.FirstSampleRefIdeal.nD Cert.FirstSampleRefIdeal.τ).loc Cert.FirstSampleRefIdeal.main_arg5) = m' ((c.tc : Thread Cert.FirstSampleRefIdeal.nD Cert.FirstSampleRefIdeal.τ).loc Cert.FirstSampleRefIdeal.main_arg5)
          ∧ r.2.mem ((c.tc : Thread Cert.FirstSampleRefIdeal.nD Cert.FirstSampleRefIdeal.τ).loc Cert.FirstSampleRefIdeal.main_arg6) = m' ((c.tc : Thread Cert.FirstSampleRefIdeal.nD Cert.FirstSampleRefIdeal.τ).loc Cert.FirstSampleRefIdeal.main_arg6)
          ∧ r.2.mem ((c.tc : Thread Cert.FirstSampleRefIdeal.nD Cert.FirstSampleRefIdeal.τ).loc Cert.FirstSampleRefIdeal.main_arg7) = m' ((c.tc : Thread Cert.FirstSampleRefIdeal.nD Cert.FirstSampleRefIdeal.τ).loc Cert.FirstSampleRefIdeal.main_arg7))

def preserves_AbSample_AbSampleIdeal : Prop :=
  True

def algebraic_AbSampleIdeal_AbSampleRefIdeal [hAbSampleIdeal : Cert.AbSampleIdeal.Facts] [hAbSampleRefIdeal : Cert.AbSampleRefIdeal.Facts] : Prop :=
  ∀ (m : (ℓ : Loc Cert.AbSampleIdeal.nD Cert.AbSampleIdeal.τ Cert.AbSampleIdeal.sig) → Buf (Elt Ideal) ℓ) (g : Dev Cert.AbSampleIdeal.nD → PrngReg)
    (m' : (ℓ : Loc Cert.AbSampleRefIdeal.nD Cert.AbSampleRefIdeal.τ Cert.AbSampleRefIdeal.sig) → Buf (Elt Ideal) ℓ) (g' : Dev Cert.AbSampleRefIdeal.nD → PrngReg), Pre_AbSampleIdeal m →
    (∀ c : Dev Cert.AbSampleIdeal.nD,
      m' ((c.tc : Thread Cert.AbSampleRefIdeal.nD Cert.AbSampleRefIdeal.τ).loc Cert.AbSampleRefIdeal.main_arg0) = m ((c.tc : Thread Cert.AbSampleIdeal.nD Cert.AbSampleIdeal.τ).loc Cert.AbSampleIdeal.main_arg0)
      ∧ m' ((c.tc : Thread Cert.AbSampleRefIdeal.nD Cert.AbSampleRefIdeal.τ).loc Cert.AbSampleRefIdeal.main_arg1) = m ((c.tc : Thread Cert.AbSampleIdeal.nD Cert.AbSampleIdeal.τ).loc Cert.AbSampleIdeal.main_arg1)
      ∧ m' ((c.tc : Thread Cert.AbSampleRefIdeal.nD Cert.AbSampleRefIdeal.τ).loc Cert.AbSampleRefIdeal.main_arg2) = m ((c.tc : Thread Cert.AbSampleIdeal.nD Cert.AbSampleIdeal.τ).loc Cert.AbSampleIdeal.main_arg2)) →
    ∃ (v0 : (c : Dev Cert.AbSampleIdeal.nD) → Buf (Elt Ideal) ((c.tc : Thread Cert.AbSampleIdeal.nD Cert.AbSampleIdeal.τ).loc Cert.AbSampleIdeal.main_v6_0)) (v1 : (c : Dev Cert.AbSampleIdeal.nD) → Buf (Elt Ideal) ((c.tc : Thread Cert.AbSampleIdeal.nD Cert.AbSampleIdeal.τ).loc Cert.AbSampleIdeal.main_v6_1)) (v2 : (c : Dev Cert.AbSampleIdeal.nD) → Buf (Elt Ideal) ((c.tc : Thread Cert.AbSampleIdeal.nD Cert.AbSampleIdeal.τ).loc Cert.AbSampleIdeal.main_v6_2)) (v3 : (c : Dev Cert.AbSampleIdeal.nD) → Buf (Elt Ideal) ((c.tc : Thread Cert.AbSampleIdeal.nD Cert.AbSampleIdeal.τ).loc Cert.AbSampleIdeal.main_v6_3)) (v4 : (c : Dev Cert.AbSampleIdeal.nD) → Buf (Elt Ideal) ((c.tc : Thread Cert.AbSampleIdeal.nD Cert.AbSampleIdeal.τ).loc Cert.AbSampleIdeal.main_v6_4)) (v5 : (c : Dev Cert.AbSampleIdeal.nD) → Buf (Elt Ideal) ((c.tc : Thread Cert.AbSampleIdeal.nD Cert.AbSampleIdeal.τ).loc Cert.AbSampleIdeal.main_v6_5)),
      θ_run (Cert.AbSampleIdeal.defs (F := Ideal)) (onTc (τ := Cert.AbSampleIdeal.τ) (Cert.AbSampleIdeal.main (F := Ideal))) ⟨m, fun _ => 0, g⟩ (fun r => ∀ c : Dev Cert.AbSampleIdeal.nD,
          r.2.mem ((c.tc : Thread Cert.AbSampleIdeal.nD Cert.AbSampleIdeal.τ).loc Cert.AbSampleIdeal.main_v6_0) = v0 c
          ∧ r.2.mem ((c.tc : Thread Cert.AbSampleIdeal.nD Cert.AbSampleIdeal.τ).loc Cert.AbSampleIdeal.main_v6_1) = v1 c
          ∧ r.2.mem ((c.tc : Thread Cert.AbSampleIdeal.nD Cert.AbSampleIdeal.τ).loc Cert.AbSampleIdeal.main_v6_2) = v2 c
          ∧ r.2.mem ((c.tc : Thread Cert.AbSampleIdeal.nD Cert.AbSampleIdeal.τ).loc Cert.AbSampleIdeal.main_v6_3) = v3 c
          ∧ r.2.mem ((c.tc : Thread Cert.AbSampleIdeal.nD Cert.AbSampleIdeal.τ).loc Cert.AbSampleIdeal.main_v6_4) = v4 c
          ∧ r.2.mem ((c.tc : Thread Cert.AbSampleIdeal.nD Cert.AbSampleIdeal.τ).loc Cert.AbSampleIdeal.main_v6_5) = v5 c
          ∧ r.2.mem ((c.tc : Thread Cert.AbSampleIdeal.nD Cert.AbSampleIdeal.τ).loc Cert.AbSampleIdeal.main_arg0) = m ((c.tc : Thread Cert.AbSampleIdeal.nD Cert.AbSampleIdeal.τ).loc Cert.AbSampleIdeal.main_arg0)
          ∧ r.2.mem ((c.tc : Thread Cert.AbSampleIdeal.nD Cert.AbSampleIdeal.τ).loc Cert.AbSampleIdeal.main_arg1) = m ((c.tc : Thread Cert.AbSampleIdeal.nD Cert.AbSampleIdeal.τ).loc Cert.AbSampleIdeal.main_arg1)
          ∧ r.2.mem ((c.tc : Thread Cert.AbSampleIdeal.nD Cert.AbSampleIdeal.τ).loc Cert.AbSampleIdeal.main_arg2) = m ((c.tc : Thread Cert.AbSampleIdeal.nD Cert.AbSampleIdeal.τ).loc Cert.AbSampleIdeal.main_arg2))
      ∧ θ_run (Cert.AbSampleRefIdeal.defs (F := Ideal)) (onTc (τ := Cert.AbSampleRefIdeal.τ) (Cert.AbSampleRefIdeal.main (F := Ideal))) ⟨m', fun _ => 0, g'⟩ (fun r => ∀ c : Dev Cert.AbSampleRefIdeal.nD,
          r.2.mem ((c.tc : Thread Cert.AbSampleRefIdeal.nD Cert.AbSampleRefIdeal.τ).loc Cert.AbSampleRefIdeal.main_v25) = v0 c
          ∧ r.2.mem ((c.tc : Thread Cert.AbSampleRefIdeal.nD Cert.AbSampleRefIdeal.τ).loc Cert.AbSampleRefIdeal.main_v27) = v1 c
          ∧ r.2.mem ((c.tc : Thread Cert.AbSampleRefIdeal.nD Cert.AbSampleRefIdeal.τ).loc Cert.AbSampleRefIdeal.main_v29) = v2 c
          ∧ r.2.mem ((c.tc : Thread Cert.AbSampleRefIdeal.nD Cert.AbSampleRefIdeal.τ).loc Cert.AbSampleRefIdeal.main_v30) = v3 c
          ∧ r.2.mem ((c.tc : Thread Cert.AbSampleRefIdeal.nD Cert.AbSampleRefIdeal.τ).loc Cert.AbSampleRefIdeal.main_v31) = v4 c
          ∧ r.2.mem ((c.tc : Thread Cert.AbSampleRefIdeal.nD Cert.AbSampleRefIdeal.τ).loc Cert.AbSampleRefIdeal.main_v39) = v5 c
          ∧ r.2.mem ((c.tc : Thread Cert.AbSampleRefIdeal.nD Cert.AbSampleRefIdeal.τ).loc Cert.AbSampleRefIdeal.main_arg0) = m' ((c.tc : Thread Cert.AbSampleRefIdeal.nD Cert.AbSampleRefIdeal.τ).loc Cert.AbSampleRefIdeal.main_arg0)
          ∧ r.2.mem ((c.tc : Thread Cert.AbSampleRefIdeal.nD Cert.AbSampleRefIdeal.τ).loc Cert.AbSampleRefIdeal.main_arg1) = m' ((c.tc : Thread Cert.AbSampleRefIdeal.nD Cert.AbSampleRefIdeal.τ).loc Cert.AbSampleRefIdeal.main_arg1)
          ∧ r.2.mem ((c.tc : Thread Cert.AbSampleRefIdeal.nD Cert.AbSampleRefIdeal.τ).loc Cert.AbSampleRefIdeal.main_arg2) = m' ((c.tc : Thread Cert.AbSampleRefIdeal.nD Cert.AbSampleRefIdeal.τ).loc Cert.AbSampleRefIdeal.main_arg2))

def preserves_CSample_CSampleIdeal : Prop :=
  True

def algebraic_CSampleIdeal_CSampleRefIdeal [hCSampleIdeal : Cert.CSampleIdeal.Facts] [hCSampleRefIdeal : Cert.CSampleRefIdeal.Facts] : Prop :=
  ∀ (m : (ℓ : Loc Cert.CSampleIdeal.nD Cert.CSampleIdeal.τ Cert.CSampleIdeal.sig) → Buf (Elt Ideal) ℓ) (g : Dev Cert.CSampleIdeal.nD → PrngReg)
    (m' : (ℓ : Loc Cert.CSampleRefIdeal.nD Cert.CSampleRefIdeal.τ Cert.CSampleRefIdeal.sig) → Buf (Elt Ideal) ℓ) (g' : Dev Cert.CSampleRefIdeal.nD → PrngReg), Pre_CSampleIdeal m →
    (∀ c : Dev Cert.CSampleIdeal.nD,
      m' ((c.tc : Thread Cert.CSampleRefIdeal.nD Cert.CSampleRefIdeal.τ).loc Cert.CSampleRefIdeal.main_arg0) = m ((c.tc : Thread Cert.CSampleIdeal.nD Cert.CSampleIdeal.τ).loc Cert.CSampleIdeal.main_arg0)
      ∧ m' ((c.tc : Thread Cert.CSampleRefIdeal.nD Cert.CSampleRefIdeal.τ).loc Cert.CSampleRefIdeal.main_arg1) = m ((c.tc : Thread Cert.CSampleIdeal.nD Cert.CSampleIdeal.τ).loc Cert.CSampleIdeal.main_arg1)
      ∧ m' ((c.tc : Thread Cert.CSampleRefIdeal.nD Cert.CSampleRefIdeal.τ).loc Cert.CSampleRefIdeal.main_arg2) = m ((c.tc : Thread Cert.CSampleIdeal.nD Cert.CSampleIdeal.τ).loc Cert.CSampleIdeal.main_arg2)) →
    ∃ (v0 : (c : Dev Cert.CSampleIdeal.nD) → Buf (Elt Ideal) ((c.tc : Thread Cert.CSampleIdeal.nD Cert.CSampleIdeal.τ).loc Cert.CSampleIdeal.main_v5_0)) (v1 : (c : Dev Cert.CSampleIdeal.nD) → Buf (Elt Ideal) ((c.tc : Thread Cert.CSampleIdeal.nD Cert.CSampleIdeal.τ).loc Cert.CSampleIdeal.main_v5_1)) (v2 : (c : Dev Cert.CSampleIdeal.nD) → Buf (Elt Ideal) ((c.tc : Thread Cert.CSampleIdeal.nD Cert.CSampleIdeal.τ).loc Cert.CSampleIdeal.main_v5_2)) (v3 : (c : Dev Cert.CSampleIdeal.nD) → Buf (Elt Ideal) ((c.tc : Thread Cert.CSampleIdeal.nD Cert.CSampleIdeal.τ).loc Cert.CSampleIdeal.main_v5_3)) (v4 : (c : Dev Cert.CSampleIdeal.nD) → Buf (Elt Ideal) ((c.tc : Thread Cert.CSampleIdeal.nD Cert.CSampleIdeal.τ).loc Cert.CSampleIdeal.main_v5_4)),
      θ_run (Cert.CSampleIdeal.defs (F := Ideal)) (onTc (τ := Cert.CSampleIdeal.τ) (Cert.CSampleIdeal.main (F := Ideal))) ⟨m, fun _ => 0, g⟩ (fun r => ∀ c : Dev Cert.CSampleIdeal.nD,
          r.2.mem ((c.tc : Thread Cert.CSampleIdeal.nD Cert.CSampleIdeal.τ).loc Cert.CSampleIdeal.main_v5_0) = v0 c
          ∧ r.2.mem ((c.tc : Thread Cert.CSampleIdeal.nD Cert.CSampleIdeal.τ).loc Cert.CSampleIdeal.main_v5_1) = v1 c
          ∧ r.2.mem ((c.tc : Thread Cert.CSampleIdeal.nD Cert.CSampleIdeal.τ).loc Cert.CSampleIdeal.main_v5_2) = v2 c
          ∧ r.2.mem ((c.tc : Thread Cert.CSampleIdeal.nD Cert.CSampleIdeal.τ).loc Cert.CSampleIdeal.main_v5_3) = v3 c
          ∧ r.2.mem ((c.tc : Thread Cert.CSampleIdeal.nD Cert.CSampleIdeal.τ).loc Cert.CSampleIdeal.main_v5_4) = v4 c
          ∧ r.2.mem ((c.tc : Thread Cert.CSampleIdeal.nD Cert.CSampleIdeal.τ).loc Cert.CSampleIdeal.main_arg0) = m ((c.tc : Thread Cert.CSampleIdeal.nD Cert.CSampleIdeal.τ).loc Cert.CSampleIdeal.main_arg0)
          ∧ r.2.mem ((c.tc : Thread Cert.CSampleIdeal.nD Cert.CSampleIdeal.τ).loc Cert.CSampleIdeal.main_arg1) = m ((c.tc : Thread Cert.CSampleIdeal.nD Cert.CSampleIdeal.τ).loc Cert.CSampleIdeal.main_arg1)
          ∧ r.2.mem ((c.tc : Thread Cert.CSampleIdeal.nD Cert.CSampleIdeal.τ).loc Cert.CSampleIdeal.main_arg2) = m ((c.tc : Thread Cert.CSampleIdeal.nD Cert.CSampleIdeal.τ).loc Cert.CSampleIdeal.main_arg2))
      ∧ θ_run (Cert.CSampleRefIdeal.defs (F := Ideal)) (onTc (τ := Cert.CSampleRefIdeal.τ) (Cert.CSampleRefIdeal.main (F := Ideal))) ⟨m', fun _ => 0, g'⟩ (fun r => ∀ c : Dev Cert.CSampleRefIdeal.nD,
          r.2.mem ((c.tc : Thread Cert.CSampleRefIdeal.nD Cert.CSampleRefIdeal.τ).loc Cert.CSampleRefIdeal.main_v22) = v0 c
          ∧ r.2.mem ((c.tc : Thread Cert.CSampleRefIdeal.nD Cert.CSampleRefIdeal.τ).loc Cert.CSampleRefIdeal.main_v23) = v1 c
          ∧ r.2.mem ((c.tc : Thread Cert.CSampleRefIdeal.nD Cert.CSampleRefIdeal.τ).loc Cert.CSampleRefIdeal.main_v24) = v2 c
          ∧ r.2.mem ((c.tc : Thread Cert.CSampleRefIdeal.nD Cert.CSampleRefIdeal.τ).loc Cert.CSampleRefIdeal.main_v25) = v3 c
          ∧ r.2.mem ((c.tc : Thread Cert.CSampleRefIdeal.nD Cert.CSampleRefIdeal.τ).loc Cert.CSampleRefIdeal.main_v26) = v4 c
          ∧ r.2.mem ((c.tc : Thread Cert.CSampleRefIdeal.nD Cert.CSampleRefIdeal.τ).loc Cert.CSampleRefIdeal.main_arg0) = m' ((c.tc : Thread Cert.CSampleRefIdeal.nD Cert.CSampleRefIdeal.τ).loc Cert.CSampleRefIdeal.main_arg0)
          ∧ r.2.mem ((c.tc : Thread Cert.CSampleRefIdeal.nD Cert.CSampleRefIdeal.τ).loc Cert.CSampleRefIdeal.main_arg1) = m' ((c.tc : Thread Cert.CSampleRefIdeal.nD Cert.CSampleRefIdeal.τ).loc Cert.CSampleRefIdeal.main_arg1)
          ∧ r.2.mem ((c.tc : Thread Cert.CSampleRefIdeal.nD Cert.CSampleRefIdeal.τ).loc Cert.CSampleRefIdeal.main_arg2) = m' ((c.tc : Thread Cert.CSampleRefIdeal.nD Cert.CSampleRefIdeal.τ).loc Cert.CSampleRefIdeal.main_arg2))

def preserves_ConvSample_ConvSampleIdeal : Prop :=
  True

def algebraic_ConvSampleIdeal_ConvSampleRefIdeal [hConvSampleIdeal : Cert.ConvSampleIdeal.Facts] [hConvSampleRefIdeal : Cert.ConvSampleRefIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleRefIdeal.nD Cert.ConvSampleRefIdeal.τ Cert.ConvSampleRefIdeal.sig) → Buf (Elt Ideal) ℓ) (g' : Dev Cert.ConvSampleRefIdeal.nD → PrngReg), Pre_ConvSampleIdeal m →
    (∀ c : Dev Cert.ConvSampleIdeal.nD,
      m' ((c.tc : Thread Cert.ConvSampleRefIdeal.nD Cert.ConvSampleRefIdeal.τ).loc Cert.ConvSampleRefIdeal.main_arg0) = m ((c.tc : Thread Cert.ConvSampleIdeal.nD Cert.ConvSampleIdeal.τ).loc Cert.ConvSampleIdeal.main_arg0)
      ∧ m' ((c.tc : Thread Cert.ConvSampleRefIdeal.nD Cert.ConvSampleRefIdeal.τ).loc Cert.ConvSampleRefIdeal.main_arg1) = m ((c.tc : Thread Cert.ConvSampleIdeal.nD Cert.ConvSampleIdeal.τ).loc Cert.ConvSampleIdeal.main_arg1)
      ∧ m' ((c.tc : Thread Cert.ConvSampleRefIdeal.nD Cert.ConvSampleRefIdeal.τ).loc Cert.ConvSampleRefIdeal.main_arg2) = m ((c.tc : Thread Cert.ConvSampleIdeal.nD Cert.ConvSampleIdeal.τ).loc Cert.ConvSampleIdeal.main_arg2)
      ∧ m' ((c.tc : Thread Cert.ConvSampleRefIdeal.nD Cert.ConvSampleRefIdeal.τ).loc Cert.ConvSampleRefIdeal.main_arg3) = m ((c.tc : Thread Cert.ConvSampleIdeal.nD Cert.ConvSampleIdeal.τ).loc Cert.ConvSampleIdeal.main_arg3)
      ∧ m' ((c.tc : Thread Cert.ConvSampleRefIdeal.nD Cert.ConvSampleRefIdeal.τ).loc Cert.ConvSampleRefIdeal.main_arg4) = m ((c.tc : Thread Cert.ConvSampleIdeal.nD Cert.ConvSampleIdeal.τ).loc Cert.ConvSampleIdeal.main_arg4)
      ∧ m' ((c.tc : Thread Cert.ConvSampleRefIdeal.nD Cert.ConvSampleRefIdeal.τ).loc Cert.ConvSampleRefIdeal.main_arg5) = m ((c.tc : Thread Cert.ConvSampleIdeal.nD Cert.ConvSampleIdeal.τ).loc Cert.ConvSampleIdeal.main_arg5)) →
    ∃ (v0 : (c : Dev Cert.ConvSampleIdeal.nD) → Buf (Elt Ideal) ((c.tc : Thread Cert.ConvSampleIdeal.nD Cert.ConvSampleIdeal.τ).loc Cert.ConvSampleIdeal.main_v10)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v10) = v0 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
          ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
          ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
          ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5))
      ∧ θ_run (Cert.ConvSampleRefIdeal.defs (F := Ideal)) (onTc (τ := Cert.ConvSampleRefIdeal.τ) (Cert.ConvSampleRefIdeal.main (F := Ideal))) ⟨m', fun _ => 0, g'⟩ (fun r => ∀ c : Dev Cert.ConvSampleRefIdeal.nD,
          r.2.mem ((c.tc : Thread Cert.ConvSampleRefIdeal.nD Cert.ConvSampleRefIdeal.τ).loc Cert.ConvSampleRefIdeal.main_v249) = v0 c
          ∧ r.2.mem ((c.tc : Thread Cert.ConvSampleRefIdeal.nD Cert.ConvSampleRefIdeal.τ).loc Cert.ConvSampleRefIdeal.main_arg0) = m' ((c.tc : Thread Cert.ConvSampleRefIdeal.nD Cert.ConvSampleRefIdeal.τ).loc Cert.ConvSampleRefIdeal.main_arg0)
          ∧ r.2.mem ((c.tc : Thread Cert.ConvSampleRefIdeal.nD Cert.ConvSampleRefIdeal.τ).loc Cert.ConvSampleRefIdeal.main_arg1) = m' ((c.tc : Thread Cert.ConvSampleRefIdeal.nD Cert.ConvSampleRefIdeal.τ).loc Cert.ConvSampleRefIdeal.main_arg1)
          ∧ r.2.mem ((c.tc : Thread Cert.ConvSampleRefIdeal.nD Cert.ConvSampleRefIdeal.τ).loc Cert.ConvSampleRefIdeal.main_arg2) = m' ((c.tc : Thread Cert.ConvSampleRefIdeal.nD Cert.ConvSampleRefIdeal.τ).loc Cert.ConvSampleRefIdeal.main_arg2)
          ∧ r.2.mem ((c.tc : Thread Cert.ConvSampleRefIdeal.nD Cert.ConvSampleRefIdeal.τ).loc Cert.ConvSampleRefIdeal.main_arg3) = m' ((c.tc : Thread Cert.ConvSampleRefIdeal.nD Cert.ConvSampleRefIdeal.τ).loc Cert.ConvSampleRefIdeal.main_arg3)
          ∧ r.2.mem ((c.tc : Thread Cert.ConvSampleRefIdeal.nD Cert.ConvSampleRefIdeal.τ).loc Cert.ConvSampleRefIdeal.main_arg4) = m' ((c.tc : Thread Cert.ConvSampleRefIdeal.nD Cert.ConvSampleRefIdeal.τ).loc Cert.ConvSampleRefIdeal.main_arg4)
          ∧ r.2.mem ((c.tc : Thread Cert.ConvSampleRefIdeal.nD Cert.ConvSampleRefIdeal.τ).loc Cert.ConvSampleRefIdeal.main_arg5) = m' ((c.tc : Thread Cert.ConvSampleRefIdeal.nD Cert.ConvSampleRefIdeal.τ).loc Cert.ConvSampleRefIdeal.main_arg5))

def Claim : Prop :=
  ∃ (hSbPrompt : Cert.SbPrompt.Facts) (hSbPromptIdeal : Cert.SbPromptIdeal.Facts) (hSbPromptRefIdeal : Cert.SbPromptRefIdeal.Facts) (hOutMlpFinal : Cert.OutMlpFinal.Facts) (hOutMlpFinalIdeal : Cert.OutMlpFinalIdeal.Facts) (hOutMlpFinalRefIdeal : Cert.OutMlpFinalRefIdeal.Facts) (hOutMlpFirst : Cert.OutMlpFirst.Facts) (hOutMlpFirstIdeal : Cert.OutMlpFirstIdeal.Facts) (hOutMlpFirstRefIdeal : Cert.OutMlpFirstRefIdeal.Facts) (hAbIn : Cert.AbIn.Facts) (hAbInIdeal : Cert.AbInIdeal.Facts) (hAbInRefIdeal : Cert.AbInRefIdeal.Facts) (hCIn : Cert.CIn.Facts) (hCInIdeal : Cert.CInIdeal.Facts) (hCInRefIdeal : Cert.CInRefIdeal.Facts) (hFinalSample : Cert.FinalSample.Facts) (hFinalSampleIdeal : Cert.FinalSampleIdeal.Facts) (hFinalSampleRefIdeal : Cert.FinalSampleRefIdeal.Facts) (hFirstSample : Cert.FirstSample.Facts) (hFirstSampleIdeal : Cert.FirstSampleIdeal.Facts) (hFirstSampleRefIdeal : Cert.FirstSampleRefIdeal.Facts) (hAbSample : Cert.AbSample.Facts) (hAbSampleIdeal : Cert.AbSampleIdeal.Facts) (hAbSampleRefIdeal : Cert.AbSampleRefIdeal.Facts) (hCSample : Cert.CSample.Facts) (hCSampleIdeal : Cert.CSampleIdeal.Facts) (hCSampleRefIdeal : Cert.CSampleRefIdeal.Facts) (hConvSample : Cert.ConvSample.Facts) (hConvSampleIdeal : Cert.ConvSampleIdeal.Facts) (hConvSampleRefIdeal : Cert.ConvSampleRefIdeal.Facts) (hPre_finite : Cert.Pre_finite.Facts),
    quiescent_SbPrompt (hSbPrompt := hSbPrompt)
    ∧ quiescent_SbPromptIdeal (hSbPromptIdeal := hSbPromptIdeal)
    ∧ quiescent_SbPromptIdeal_pre_finite (hSbPromptIdeal := hSbPromptIdeal) (hPre_finite := hPre_finite)
    ∧ quiescent_SbPromptRefIdeal (hSbPromptRefIdeal := hSbPromptRefIdeal)
    ∧ quiescent_SbPromptRefIdeal_pre_finite (hSbPromptRefIdeal := hSbPromptRefIdeal) (hPre_finite := hPre_finite)
    ∧ quiescent_OutMlpFinal (hOutMlpFinal := hOutMlpFinal)
    ∧ quiescent_OutMlpFinalIdeal (hOutMlpFinalIdeal := hOutMlpFinalIdeal)
    ∧ quiescent_OutMlpFinalRefIdeal (hOutMlpFinalRefIdeal := hOutMlpFinalRefIdeal)
    ∧ quiescent_OutMlpFirst (hOutMlpFirst := hOutMlpFirst)
    ∧ quiescent_OutMlpFirstIdeal (hOutMlpFirstIdeal := hOutMlpFirstIdeal)
    ∧ quiescent_OutMlpFirstRefIdeal (hOutMlpFirstRefIdeal := hOutMlpFirstRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_CIn (hCIn := hCIn)
    ∧ quiescent_CInIdeal (hCInIdeal := hCInIdeal)
    ∧ quiescent_CInRefIdeal (hCInRefIdeal := hCInRefIdeal)
    ∧ quiescent_FinalSample (hFinalSample := hFinalSample)
    ∧ quiescent_FinalSampleIdeal (hFinalSampleIdeal := hFinalSampleIdeal)
    ∧ quiescent_FinalSampleRefIdeal (hFinalSampleRefIdeal := hFinalSampleRefIdeal)
    ∧ quiescent_FirstSample (hFirstSample := hFirstSample)
    ∧ quiescent_FirstSampleIdeal (hFirstSampleIdeal := hFirstSampleIdeal)
    ∧ quiescent_FirstSampleRefIdeal (hFirstSampleRefIdeal := hFirstSampleRefIdeal)
    ∧ quiescent_AbSample (hAbSample := hAbSample)
    ∧ quiescent_AbSampleIdeal (hAbSampleIdeal := hAbSampleIdeal)
    ∧ quiescent_AbSampleRefIdeal (hAbSampleRefIdeal := hAbSampleRefIdeal)
    ∧ quiescent_CSample (hCSample := hCSample)
    ∧ quiescent_CSampleIdeal (hCSampleIdeal := hCSampleIdeal)
    ∧ quiescent_CSampleRefIdeal (hCSampleRefIdeal := hCSampleRefIdeal)
    ∧ quiescent_ConvSample (hConvSample := hConvSample)
    ∧ quiescent_ConvSampleIdeal (hConvSampleIdeal := hConvSampleIdeal)
    ∧ quiescent_ConvSampleRefIdeal (hConvSampleRefIdeal := hConvSampleRefIdeal)
    ∧ preserves_SbPrompt_SbPromptIdeal
    ∧ algebraic_SbPromptIdeal_SbPromptRefIdeal_pre_finite (hSbPromptIdeal := hSbPromptIdeal) (hSbPromptRefIdeal := hSbPromptRefIdeal) (hPre_finite := hPre_finite)
    ∧ preserves_OutMlpFinal_OutMlpFinalIdeal
    ∧ algebraic_OutMlpFinalIdeal_OutMlpFinalRefIdeal (hOutMlpFinalIdeal := hOutMlpFinalIdeal) (hOutMlpFinalRefIdeal := hOutMlpFinalRefIdeal)
    ∧ preserves_OutMlpFirst_OutMlpFirstIdeal
    ∧ algebraic_OutMlpFirstIdeal_OutMlpFirstRefIdeal (hOutMlpFirstIdeal := hOutMlpFirstIdeal) (hOutMlpFirstRefIdeal := hOutMlpFirstRefIdeal)
    ∧ preserves_AbIn_AbInIdeal
    ∧ algebraic_AbInIdeal_AbInRefIdeal (hAbInIdeal := hAbInIdeal) (hAbInRefIdeal := hAbInRefIdeal)
    ∧ preserves_CIn_CInIdeal
    ∧ algebraic_CInIdeal_CInRefIdeal (hCInIdeal := hCInIdeal) (hCInRefIdeal := hCInRefIdeal)
    ∧ preserves_FinalSample_FinalSampleIdeal
    ∧ algebraic_FinalSampleIdeal_FinalSampleRefIdeal (hFinalSampleIdeal := hFinalSampleIdeal) (hFinalSampleRefIdeal := hFinalSampleRefIdeal)
    ∧ preserves_FirstSample_FirstSampleIdeal
    ∧ algebraic_FirstSampleIdeal_FirstSampleRefIdeal (hFirstSampleIdeal := hFirstSampleIdeal) (hFirstSampleRefIdeal := hFirstSampleRefIdeal)
    ∧ preserves_AbSample_AbSampleIdeal
    ∧ algebraic_AbSampleIdeal_AbSampleRefIdeal (hAbSampleIdeal := hAbSampleIdeal) (hAbSampleRefIdeal := hAbSampleRefIdeal)
    ∧ preserves_CSample_CSampleIdeal
    ∧ algebraic_CSampleIdeal_CSampleRefIdeal (hCSampleIdeal := hCSampleIdeal) (hCSampleRefIdeal := hCSampleRefIdeal)
    ∧ preserves_ConvSample_ConvSampleIdeal
    ∧ algebraic_ConvSampleIdeal_ConvSampleRefIdeal (hConvSampleIdeal := hConvSampleIdeal) (hConvSampleRefIdeal := hConvSampleRefIdeal)
-- ==== Pre_finite.lean ====
abbrev S16x2048x512 : Shape := ⟨3, ![16, 2048, 512]⟩
abbrev S16x512x2048 : Shape := ⟨3, ![16, 512, 2048]⟩
abbrev S_ : Shape := ⟨0, ![]⟩

class Facts : Prop where
  bitsLt_bf16_f32 : FTy.bits .bf16 < FTy.bits .f32
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x512x2048 : S_.BroadcastsInDim S16x512x2048 (![] : Fin 0 → Fin S16x512x2048.rank)
  reducesTo_S16x512x2048_S_d0_1_2 : S16x512x2048.ReducesTo [0, 1, 2] S_

variable [Facts]

def fn {F : FTy → Type} [FloatOps F] (main_arg0 : FVec F S16x2048x512 .bf16) (main_arg1 : FVec F S16x512x2048 .bf16) (main_arg2 : FVec F S16x512x2048 .bf16) : IVec S_ 1 :=
  let main_v0 : FVec F S16x2048x512 .f32 := (extf .f32 · bitsLt_bf16_f32) main_arg0
  let main_v1 : FVec F S16x2048x512 .f32 := Host.absf main_v0
  let main_cst : FVec F S_ .f32 := constant S_ .f32 0x7F800000#32
  let main_v2 : FVec F S16x2048x512 .f32 := broadcastInDim S16x2048x512 ![] bcast_S_S16x2048x512 main_cst
  let main_v3 : IVec S16x2048x512 1 := cmpf .olt main_v1 main_v2
  let main_c : IVec S_ 1 := constantI S_ 1 1#1
  let main_v4 : IVec S_ 1 := (fun x v => Host.reduce IntOp.andi x v reducesTo_S16x2048x512_S_d0_1_2 h_S_) main_v3 main_c
  let main_v5 : FVec F S16x512x2048 .f32 := (extf .f32 · bitsLt_bf16_f32) main_arg1
  let main_v6 : FVec F S16x512x2048 .f32 := Host.absf main_v5
  let main_cst_0 : FVec F S_ .f32 := constant S_ .f32 0x7F800000#32
  let main_v7 : FVec F S16x512x2048 .f32 := broadcastInDim S16x512x2048 ![] bcast_S_S16x512x2048 main_cst_0
  let main_v8 : IVec S16x512x2048 1 := cmpf .olt main_v6 main_v7
  let main_c_1 : IVec S_ 1 := constantI S_ 1 1#1
  let main_v9 : IVec S_ 1 := (fun x v => Host.reduce IntOp.andi x v reducesTo_S16x512x2048_S_d0_1_2 h_S_) main_v8 main_c_1
  let main_v10 : IVec S_ 1 := andi main_v4 main_v9
  main_v10
-- ==== SbPrompt.lean ====
abbrev S16x2048x512 : Shape := ⟨3, ![16, 2048, 512]⟩
abbrev S16x512x2048 : Shape := ⟨3, ![16, 512, 2048]⟩
abbrev S1x256x512 : Shape := ⟨3, ![1, 256, 512]⟩
abbrev S1x512x2048 : Shape := ⟨3, ![1, 512, 2048]⟩
abbrev S512x256 : Shape := ⟨2, ![512, 256]⟩
abbrev S1x128 : Shape := ⟨2, ![1, 128]⟩
abbrev S128x1 : Shape := ⟨2, ![128, 1]⟩
abbrev S1x256x128 : Shape := ⟨3, ![1, 256, 128]⟩
abbrev S256x128 : Shape := ⟨2, ![256, 128]⟩
abbrev S512x128 : Shape := ⟨2, ![512, 128]⟩
abbrev S512x1 : Shape := ⟨2, ![512, 1]⟩
abbrev S1x128x256 : Shape := ⟨3, ![1, 128, 256]⟩
abbrev S128x256 : Shape := ⟨2, ![128, 256]⟩
abbrev S512x512 : Shape := ⟨2, ![512, 512]⟩
abbrev S256x256 : Shape := ⟨2, ![256, 256]⟩
abbrev S256x512 : Shape := ⟨2, ![256, 512]⟩
abbrev S128x512 : Shape := ⟨2, ![128, 512]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x512, .bf16⟩
  | .hbm, ⟨1, _⟩ => ⟨S16x512x2048, .bf16⟩
  | .hbm, ⟨2, _⟩ => ⟨S16x512x2048, .bf16⟩
  | .hbm, ⟨3, _⟩ => ⟨S16x2048x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x256x512, .bf16⟩
  | .local _ .vmem, ⟨7, _⟩ => ⟨S1x256x512, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 8], ![false, false, false]⟩

def k0_mult1 (i : grid0.Coords) : BitVec 32 :=
  let arg2 : BitVec 32 := BitVec.ofNat 32 (i 2).val
  let c256_i32 : BitVec 32 := 256#32
  let v62 : BitVec 32 := Scalar.muli arg2 c256_i32
  v62
def k0_off1 (i : grid0.Coords) : Fin 3 → Nat :=
  let c0_17 : Index := 0#32
  let c0_18 : Index := 0#32
  let arg2 : BitVec 32 := BitVec.ofNat 32 (i 2).val
  let c256_i32 : BitVec 32 := 256#32
  let v62 : BitVec 32 := Scalar.muli arg2 c256_i32
  let v63 : BitVec 32 := v62
  let v64 : Index := Scalar.indexCast v63
  ![0, 0, v64.toNat]
def k0_off2 (i : grid0.Coords) : Fin 3 → Nat :=
  let c0_19 : Index := 0#32
  let c128_20 : Index := 128#32
  let arg2 : BitVec 32 := BitVec.ofNat 32 (i 2).val
  let c256_i32 : BitVec 32 := 256#32
  let v62 : BitVec 32 := Scalar.muli arg2 c256_i32
  let v63 : BitVec 32 := v62
  let v67 : Index := Scalar.indexCast v63
  ![0, 128, v67.toNat]
def k0_off3 (i : grid0.Coords) : Fin 3 → Nat :=
  let c0_21 : Index := 0#32
  let c256_22 : Index := 256#32
  let arg2 : BitVec 32 := BitVec.ofNat 32 (i 2).val
  let c256_i32 : BitVec 32 := 256#32
  let v62 : BitVec 32 := Scalar.muli arg2 c256_i32
  let v63 : BitVec 32 := v62
  let v70 : Index := Scalar.indexCast v63
  ![0, 256, v70.toNat]
def k0_off4 (i : grid0.Coords) : Fin 3 → Nat :=
  let c0_23 : Index := 0#32
  let c384_24 : Index := 384#32
  let arg2 : BitVec 32 := BitVec.ofNat 32 (i 2).val
  let c256_i32 : BitVec 32 := 256#32
  let v62 : BitVec 32 := Scalar.muli arg2 c256_i32
  let v63 : BitVec 32 := v62
  let v73 : Index := Scalar.indexCast v63
  ![0, 384, v73.toNat]
@[reducible] def k0_t1_loop (i : grid0.Coords) : Scf.Loop 32 :=
  let c0_i32_77 : BitVec 32 := 0#32
  let arg2 : BitVec 32 := BitVec.ofNat 32 (i 2).val
  let c0_i32 : BitVec 32 := 0#32
  let v261 : BitVec 1 := Scalar.cmpi .sgt arg2 c0_i32
  let v262 : BitVec 32 := Scalar.extui v261
  let c0_i32_73 : BitVec 32 := 0#32
  let v263 : BitVec 1 := Scalar.cmpi .slt arg2 c0_i32_73
  let v264 : BitVec 32 := Scalar.extui v263
  let v265 : BitVec 32 := Scalar.subi v262 v264
  let c2_i32 : BitVec 32 := 2#32
  let c0_i32_74 : BitVec 32 := 0#32
  let v266 : BitVec 1 := Scalar.cmpi .sgt c2_i32 c0_i32_74
  let v267 : BitVec 32 := Scalar.extui v266
  let c0_i32_75 : BitVec 32 := 0#32
  let v268 : BitVec 1 := Scalar.cmpi .slt c2_i32 c0_i32_75
  let v269 : BitVec 32 := Scalar.extui v268
  let v270 : BitVec 32 := Scalar.subi v267 v269
  let v271 : BitVec 1 := Scalar.cmpi .ne v265 v270
  let v272 : BitVec 32 := Scalar.remsi arg2 c2_i32
  let c0_i32_76 : BitVec 32 := 0#32
  let v273 : BitVec 1 := Scalar.cmpi .ne v272 c0_i32_76
  let v274 : BitVec 1 := Scalar.andi v271 v273
  let v260 : BitVec 32 := Scalar.divsi arg2 c2_i32
  let c1_i32 : BitVec 32 := 1#32
  let v275 : BitVec 32 := Scalar.subi v260 c1_i32
  let v276 : BitVec 32 := Scalar.select v274 v275 v260
  let v277 : BitVec 32 := Scalar.subi v276 c0_i32_77
  let c1_i32_78 : BitVec 32 := 1#32
  let v279 : BitVec 32 := Scalar.divsi v277 c1_i32_78
  let v280 : BitVec 32 := Scalar.muli v279 c1_i32_78
  let v281 : BitVec 32 := Scalar.addi c0_i32_77 v280
  let c1_i32_79 : BitVec 32 := 1#32
  ⟨c0_i32_77, v281, c1_i32_79⟩
def k0_mult2 (i : grid0.Coords) (k0_t1 : Fin (k0_t1_loop i).trips) : BitVec 32 :=
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c1_i32_79 : BitVec 32 := 1#32
  let arg7 : BitVec 32 := Scf.iv c0_i32_77 c1_i32_79 k0_t1
  let v315 : BitVec 32 := Scalar.muli c2_i32_102 arg7
  let v316 : BitVec 32 := Scalar.subi v314 v315
  let c256_i32_103 : BitVec 32 := 256#32
  let v317 : BitVec 32 := Scalar.muli v316 c256_i32_103
  v317
def k0_off5 (i : grid0.Coords) (k0_t1 : Fin (k0_t1_loop i).trips) : Fin 3 → Nat :=
  let c0_104 : Index := 0#32
  let c0_105 : Index := 0#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c1_i32_79 : BitVec 32 := 1#32
  let arg7 : BitVec 32 := Scf.iv c0_i32_77 c1_i32_79 k0_t1
  let v315 : BitVec 32 := Scalar.muli c2_i32_102 arg7
  let v316 : BitVec 32 := Scalar.subi v314 v315
  let c256_i32_103 : BitVec 32 := 256#32
  let v317 : BitVec 32 := Scalar.muli v316 c256_i32_103
  let v318 : BitVec 32 := v317
  let v319 : Index := Scalar.indexCast v318
  ![0, 0, v319.toNat]
def k0_off6 (i : grid0.Coords) (k0_t1 : Fin (k0_t1_loop i).trips) : Fin 3 → Nat :=
  let c0_106 : Index := 0#32
  let c128_107 : Index := 128#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c1_i32_79 : BitVec 32 := 1#32
  let arg7 : BitVec 32 := Scf.iv c0_i32_77 c1_i32_79 k0_t1
  let v315 : BitVec 32 := Scalar.muli c2_i32_102 arg7
  let v316 : BitVec 32 := Scalar.subi v314 v315
  let c256_i32_103 : BitVec 32 := 256#32
  let v317 : BitVec 32 := Scalar.muli v316 c256_i32_103
  let v318 : BitVec 32 := v317
  let v322 : Index := Scalar.indexCast v318
  ![0, 128, v322.toNat]
def k0_off7 (i : grid0.Coords) (k0_t1 : Fin (k0_t1_loop i).trips) : Fin 3 → Nat :=
  let c0_108 : Index := 0#32
  let c256_109 : Index := 256#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c1_i32_79 : BitVec 32 := 1#32
  let arg7 : BitVec 32 := Scf.iv c0_i32_77 c1_i32_79 k0_t1
  let v315 : BitVec 32 := Scalar.muli c2_i32_102 arg7
  let v316 : BitVec 32 := Scalar.subi v314 v315
  let c256_i32_103 : BitVec 32 := 256#32
  let v317 : BitVec 32 := Scalar.muli v316 c256_i32_103
  let v318 : BitVec 32 := v317
  let v325 : Index := Scalar.indexCast v318
  ![0, 256, v325.toNat]
def k0_off8 (i : grid0.Coords) (k0_t1 : Fin (k0_t1_loop i).trips) : Fin 3 → Nat :=
  let c0_110 : Index := 0#32
  let c384_111 : Index := 384#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c1_i32_79 : BitVec 32 := 1#32
  let arg7 : BitVec 32 := Scf.iv c0_i32_77 c1_i32_79 k0_t1
  let v315 : BitVec 32 := Scalar.muli c2_i32_102 arg7
  let v316 : BitVec 32 := Scalar.subi v314 v315
  let c256_i32_103 : BitVec 32 := 256#32
  let v317 : BitVec 32 := Scalar.muli v316 c256_i32_103
  let v318 : BitVec 32 := v317
  let v328 : Index := Scalar.indexCast v318
  ![0, 384, v328.toNat]
def k0_mult3 (i : grid0.Coords) (k0_t1 : Fin (k0_t1_loop i).trips) : BitVec 32 :=
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c1_i32_79 : BitVec 32 := 1#32
  let arg7 : BitVec 32 := Scf.iv c0_i32_77 c1_i32_79 k0_t1
  let v315 : BitVec 32 := Scalar.muli c2_i32_102 arg7
  let v316 : BitVec 32 := Scalar.subi v314 v315
  let c1_i32_120 : BitVec 32 := 1#32
  let v343 : BitVec 32 := Scalar.subi v316 c1_i32_120
  let c256_i32_121 : BitVec 32 := 256#32
  let v344 : BitVec 32 := Scalar.muli v343 c256_i32_121
  v344
def k0_off9 (i : grid0.Coords) (k0_t1 : Fin (k0_t1_loop i).trips) : Fin 3 → Nat :=
  let c0_122 : Index := 0#32
  let c0_123 : Index := 0#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c1_i32_79 : BitVec 32 := 1#32
  let arg7 : BitVec 32 := Scf.iv c0_i32_77 c1_i32_79 k0_t1
  let v315 : BitVec 32 := Scalar.muli c2_i32_102 arg7
  let v316 : BitVec 32 := Scalar.subi v314 v315
  let c1_i32_120 : BitVec 32 := 1#32
  let v343 : BitVec 32 := Scalar.subi v316 c1_i32_120
  let c256_i32_121 : BitVec 32 := 256#32
  let v344 : BitVec 32 := Scalar.muli v343 c256_i32_121
  let v345 : BitVec 32 := v344
  let v346 : Index := Scalar.indexCast v345
  ![0, 0, v346.toNat]
def k0_off10 (i : grid0.Coords) (k0_t1 : Fin (k0_t1_loop i).trips) : Fin 3 → Nat :=
  let c0_124 : Index := 0#32
  let c128_125 : Index := 128#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c1_i32_79 : BitVec 32 := 1#32
  let arg7 : BitVec 32 := Scf.iv c0_i32_77 c1_i32_79 k0_t1
  let v315 : BitVec 32 := Scalar.muli c2_i32_102 arg7
  let v316 : BitVec 32 := Scalar.subi v314 v315
  let c1_i32_120 : BitVec 32 := 1#32
  let v343 : BitVec 32 := Scalar.subi v316 c1_i32_120
  let c256_i32_121 : BitVec 32 := 256#32
  let v344 : BitVec 32 := Scalar.muli v343 c256_i32_121
  let v345 : BitVec 32 := v344
  let v349 : Index := Scalar.indexCast v345
  ![0, 128, v349.toNat]
def k0_off11 (i : grid0.Coords) (k0_t1 : Fin (k0_t1_loop i).trips) : Fin 3 → Nat :=
  let c0_126 : Index := 0#32
  let c256_127 : Index := 256#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c1_i32_79 : BitVec 32 := 1#32
  let arg7 : BitVec 32 := Scf.iv c0_i32_77 c1_i32_79 k0_t1
  let v315 : BitVec 32 := Scalar.muli c2_i32_102 arg7
  let v316 : BitVec 32 := Scalar.subi v314 v315
  let c1_i32_120 : BitVec 32 := 1#32
  let v343 : BitVec 32 := Scalar.subi v316 c1_i32_120
  let c256_i32_121 : BitVec 32 := 256#32
  let v344 : BitVec 32 := Scalar.muli v343 c256_i32_121
  let v345 : BitVec 32 := v344
  let v352 : Index := Scalar.indexCast v345
  ![0, 256, v352.toNat]
def k0_off12 (i : grid0.Coords) (k0_t1 : Fin (k0_t1_loop i).trips) : Fin 3 → Nat :=
  let c0_128 : Index := 0#32
  let c384_129 : Index := 384#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c1_i32_79 : BitVec 32 := 1#32
  let arg7 : BitVec 32 := Scf.iv c0_i32_77 c1_i32_79 k0_t1
  let v315 : BitVec 32 := Scalar.muli c2_i32_102 arg7
  let v316 : BitVec 32 := Scalar.subi v314 v315
  let c1_i32_120 : BitVec 32 := 1#32
  let v343 : BitVec 32 := Scalar.subi v316 c1_i32_120
  let c256_i32_121 : BitVec 32 := 256#32
  let v344 : BitVec 32 := Scalar.muli v343 c256_i32_121
  let v345 : BitVec 32 := v344
  let v355 : Index := Scalar.indexCast v345
  ![0, 384, v355.toNat]
@[reducible] def k0_t2_loop (i : grid0.Coords) : Scf.Loop 32 :=
  let c0_i32_77 : BitVec 32 := 0#32
  let arg2 : BitVec 32 := BitVec.ofNat 32 (i 2).val
  let c0_i32 : BitVec 32 := 0#32
  let v261 : BitVec 1 := Scalar.cmpi .sgt arg2 c0_i32
  let v262 : BitVec 32 := Scalar.extui v261
  let c0_i32_73 : BitVec 32 := 0#32
  let v263 : BitVec 1 := Scalar.cmpi .slt arg2 c0_i32_73
  let v264 : BitVec 32 := Scalar.extui v263
  let v265 : BitVec 32 := Scalar.subi v262 v264
  let c2_i32 : BitVec 32 := 2#32
  let c0_i32_74 : BitVec 32 := 0#32
  let v266 : BitVec 1 := Scalar.cmpi .sgt c2_i32 c0_i32_74
  let v267 : BitVec 32 := Scalar.extui v266
  let c0_i32_75 : BitVec 32 := 0#32
  let v268 : BitVec 1 := Scalar.cmpi .slt c2_i32 c0_i32_75
  let v269 : BitVec 32 := Scalar.extui v268
  let v270 : BitVec 32 := Scalar.subi v267 v269
  let v271 : BitVec 1 := Scalar.cmpi .ne v265 v270
  let v272 : BitVec 32 := Scalar.remsi arg2 c2_i32
  let c0_i32_76 : BitVec 32 := 0#32
  let v273 : BitVec 1 := Scalar.cmpi .ne v272 c0_i32_76
  let v274 : BitVec 1 := Scalar.andi v271 v273
  let v260 : BitVec 32 := Scalar.divsi arg2 c2_i32
  let c1_i32 : BitVec 32 := 1#32
  let v275 : BitVec 32 := Scalar.subi v260 c1_i32
  let v276 : BitVec 32 := Scalar.select v274 v275 v260
  let v277 : BitVec 32 := Scalar.subi v276 c0_i32_77
  let c1_i32_78 : BitVec 32 := 1#32
  let v279 : BitVec 32 := Scalar.divsi v277 c1_i32_78
  let v280 : BitVec 32 := Scalar.muli v279 c1_i32_78
  let v281 : BitVec 32 := Scalar.addi c0_i32_77 v280
  let v278 : BitVec 32 := Scalar.addi c0_i32_77 v277
  let c1_i32_80 : BitVec 32 := 1#32
  ⟨v281, v278, c1_i32_80⟩
def k0_mult4 (i : grid0.Coords) (k0_t2 : Fin (k0_t2_loop i).trips) : BitVec 32 :=
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c0_i32 : BitVec 32 := 0#32
  let v261 : BitVec 1 := Scalar.cmpi .sgt arg2 c0_i32
  let v262 : BitVec 32 := Scalar.extui v261
  let c0_i32_73 : BitVec 32 := 0#32
  let v263 : BitVec 1 := Scalar.cmpi .slt arg2 c0_i32_73
  let v264 : BitVec 32 := Scalar.extui v263
  let v265 : BitVec 32 := Scalar.subi v262 v264
  let c2_i32 : BitVec 32 := 2#32
  let c0_i32_74 : BitVec 32 := 0#32
  let v266 : BitVec 1 := Scalar.cmpi .sgt c2_i32 c0_i32_74
  let v267 : BitVec 32 := Scalar.extui v266
  let c0_i32_75 : BitVec 32 := 0#32
  let v268 : BitVec 1 := Scalar.cmpi .slt c2_i32 c0_i32_75
  let v269 : BitVec 32 := Scalar.extui v268
  let v270 : BitVec 32 := Scalar.subi v267 v269
  let v271 : BitVec 1 := Scalar.cmpi .ne v265 v270
  let v272 : BitVec 32 := Scalar.remsi arg2 c2_i32
  let c0_i32_76 : BitVec 32 := 0#32
  let v273 : BitVec 1 := Scalar.cmpi .ne v272 c0_i32_76
  let v274 : BitVec 1 := Scalar.andi v271 v273
  let v260 : BitVec 32 := Scalar.divsi arg2 c2_i32
  let c1_i32 : BitVec 32 := 1#32
  let v275 : BitVec 32 := Scalar.subi v260 c1_i32
  let v276 : BitVec 32 := Scalar.select v274 v275 v260
  let v277 : BitVec 32 := Scalar.subi v276 c0_i32_77
  let c1_i32_78 : BitVec 32 := 1#32
  let v279 : BitVec 32 := Scalar.divsi v277 c1_i32_78
  let v280 : BitVec 32 := Scalar.muli v279 c1_i32_78
  let v281 : BitVec 32 := Scalar.addi c0_i32_77 v280
  let c1_i32_80 : BitVec 32 := 1#32
  let arg7 : BitVec 32 := Scf.iv v281 c1_i32_80 k0_t2
  let v315 : BitVec 32 := Scalar.muli c2_i32_102 arg7
  let v316 : BitVec 32 := Scalar.subi v314 v315
  let c256_i32_103 : BitVec 32 := 256#32
  let v317 : BitVec 32 := Scalar.muli v316 c256_i32_103
  v317
def k0_off13 (i : grid0.Coords) (k0_t2 : Fin (k0_t2_loop i).trips) : Fin 3 → Nat :=
  let c0_104 : Index := 0#32
  let c0_105 : Index := 0#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c0_i32 : BitVec 32 := 0#32
  let v261 : BitVec 1 := Scalar.cmpi .sgt arg2 c0_i32
  let v262 : BitVec 32 := Scalar.extui v261
  let c0_i32_73 : BitVec 32 := 0#32
  let v263 : BitVec 1 := Scalar.cmpi .slt arg2 c0_i32_73
  let v264 : BitVec 32 := Scalar.extui v263
  let v265 : BitVec 32 := Scalar.subi v262 v264
  let c2_i32 : BitVec 32 := 2#32
  let c0_i32_74 : BitVec 32 := 0#32
  let v266 : BitVec 1 := Scalar.cmpi .sgt c2_i32 c0_i32_74
  let v267 : BitVec 32 := Scalar.extui v266
  let c0_i32_75 : BitVec 32 := 0#32
  let v268 : BitVec 1 := Scalar.cmpi .slt c2_i32 c0_i32_75
  let v269 : BitVec 32 := Scalar.extui v268
  let v270 : BitVec 32 := Scalar.subi v267 v269
  let v271 : BitVec 1 := Scalar.cmpi .ne v265 v270
  let v272 : BitVec 32 := Scalar.remsi arg2 c2_i32
  let c0_i32_76 : BitVec 32 := 0#32
  let v273 : BitVec 1 := Scalar.cmpi .ne v272 c0_i32_76
  let v274 : BitVec 1 := Scalar.andi v271 v273
  let v260 : BitVec 32 := Scalar.divsi arg2 c2_i32
  let c1_i32 : BitVec 32 := 1#32
  let v275 : BitVec 32 := Scalar.subi v260 c1_i32
  let v276 : BitVec 32 := Scalar.select v274 v275 v260
  let v277 : BitVec 32 := Scalar.subi v276 c0_i32_77
  let c1_i32_78 : BitVec 32 := 1#32
  let v279 : BitVec 32 := Scalar.divsi v277 c1_i32_78
  let v280 : BitVec 32 := Scalar.muli v279 c1_i32_78
  let v281 : BitVec 32 := Scalar.addi c0_i32_77 v280
  let c1_i32_80 : BitVec 32 := 1#32
  let arg7 : BitVec 32 := Scf.iv v281 c1_i32_80 k0_t2
  let v315 : BitVec 32 := Scalar.muli c2_i32_102 arg7
  let v316 : BitVec 32 := Scalar.subi v314 v315
  let c256_i32_103 : BitVec 32 := 256#32
  let v317 : BitVec 32 := Scalar.muli v316 c256_i32_103
  let v318 : BitVec 32 := v317
  let v319 : Index := Scalar.indexCast v318
  ![0, 0, v319.toNat]
def k0_off14 (i : grid0.Coords) (k0_t2 : Fin (k0_t2_loop i).trips) : Fin 3 → Nat :=
  let c0_106 : Index := 0#32
  let c128_107 : Index := 128#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c0_i32 : BitVec 32 := 0#32
  let v261 : BitVec 1 := Scalar.cmpi .sgt arg2 c0_i32
  let v262 : BitVec 32 := Scalar.extui v261
  let c0_i32_73 : BitVec 32 := 0#32
  let v263 : BitVec 1 := Scalar.cmpi .slt arg2 c0_i32_73
  let v264 : BitVec 32 := Scalar.extui v263
  let v265 : BitVec 32 := Scalar.subi v262 v264
  let c2_i32 : BitVec 32 := 2#32
  let c0_i32_74 : BitVec 32 := 0#32
  let v266 : BitVec 1 := Scalar.cmpi .sgt c2_i32 c0_i32_74
  let v267 : BitVec 32 := Scalar.extui v266
  let c0_i32_75 : BitVec 32 := 0#32
  let v268 : BitVec 1 := Scalar.cmpi .slt c2_i32 c0_i32_75
  let v269 : BitVec 32 := Scalar.extui v268
  let v270 : BitVec 32 := Scalar.subi v267 v269
  let v271 : BitVec 1 := Scalar.cmpi .ne v265 v270
  let v272 : BitVec 32 := Scalar.remsi arg2 c2_i32
  let c0_i32_76 : BitVec 32 := 0#32
  let v273 : BitVec 1 := Scalar.cmpi .ne v272 c0_i32_76
  let v274 : BitVec 1 := Scalar.andi v271 v273
  let v260 : BitVec 32 := Scalar.divsi arg2 c2_i32
  let c1_i32 : BitVec 32 := 1#32
  let v275 : BitVec 32 := Scalar.subi v260 c1_i32
  let v276 : BitVec 32 := Scalar.select v274 v275 v260
  let v277 : BitVec 32 := Scalar.subi v276 c0_i32_77
  let c1_i32_78 : BitVec 32 := 1#32
  let v279 : BitVec 32 := Scalar.divsi v277 c1_i32_78
  let v280 : BitVec 32 := Scalar.muli v279 c1_i32_78
  let v281 : BitVec 32 := Scalar.addi c0_i32_77 v280
  let c1_i32_80 : BitVec 32 := 1#32
  let arg7 : BitVec 32 := Scf.iv v281 c1_i32_80 k0_t2
  let v315 : BitVec 32 := Scalar.muli c2_i32_102 arg7
  let v316 : BitVec 32 := Scalar.subi v314 v315
  let c256_i32_103 : BitVec 32 := 256#32
  let v317 : BitVec 32 := Scalar.muli v316 c256_i32_103
  let v318 : BitVec 32 := v317
  let v322 : Index := Scalar.indexCast v318
  ![0, 128, v322.toNat]
def k0_off15 (i : grid0.Coords) (k0_t2 : Fin (k0_t2_loop i).trips) : Fin 3 → Nat :=
  let c0_108 : Index := 0#32
  let c256_109 : Index := 256#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c0_i32 : BitVec 32 := 0#32
  let v261 : BitVec 1 := Scalar.cmpi .sgt arg2 c0_i32
  let v262 : BitVec 32 := Scalar.extui v261
  let c0_i32_73 : BitVec 32 := 0#32
  let v263 : BitVec 1 := Scalar.cmpi .slt arg2 c0_i32_73
  let v264 : BitVec 32 := Scalar.extui v263
  let v265 : BitVec 32 := Scalar.subi v262 v264
  let c2_i32 : BitVec 32 := 2#32
  let c0_i32_74 : BitVec 32 := 0#32
  let v266 : BitVec 1 := Scalar.cmpi .sgt c2_i32 c0_i32_74
  let v267 : BitVec 32 := Scalar.extui v266
  let c0_i32_75 : BitVec 32 := 0#32
  let v268 : BitVec 1 := Scalar.cmpi .slt c2_i32 c0_i32_75
  let v269 : BitVec 32 := Scalar.extui v268
  let v270 : BitVec 32 := Scalar.subi v267 v269
  let v271 : BitVec 1 := Scalar.cmpi .ne v265 v270
  let v272 : BitVec 32 := Scalar.remsi arg2 c2_i32
  let c0_i32_76 : BitVec 32 := 0#32
  let v273 : BitVec 1 := Scalar.cmpi .ne v272 c0_i32_76
  let v274 : BitVec 1 := Scalar.andi v271 v273
  let v260 : BitVec 32 := Scalar.divsi arg2 c2_i32
  let c1_i32 : BitVec 32 := 1#32
  let v275 : BitVec 32 := Scalar.subi v260 c1_i32
  let v276 : BitVec 32 := Scalar.select v274 v275 v260
  let v277 : BitVec 32 := Scalar.subi v276 c0_i32_77
  let c1_i32_78 : BitVec 32 := 1#32
  let v279 : BitVec 32 := Scalar.divsi v277 c1_i32_78
  let v280 : BitVec 32 := Scalar.muli v279 c1_i32_78
  let v281 : BitVec 32 := Scalar.addi c0_i32_77 v280
  let c1_i32_80 : BitVec 32 := 1#32
  let arg7 : BitVec 32 := Scf.iv v281 c1_i32_80 k0_t2
  let v315 : BitVec 32 := Scalar.muli c2_i32_102 arg7
  let v316 : BitVec 32 := Scalar.subi v314 v315
  let c256_i32_103 : BitVec 32 := 256#32
  let v317 : BitVec 32 := Scalar.muli v316 c256_i32_103
  let v318 : BitVec 32 := v317
  let v325 : Index := Scalar.indexCast v318
  ![0, 256, v325.toNat]
def k0_off16 (i : grid0.Coords) (k0_t2 : Fin (k0_t2_loop i).trips) : Fin 3 → Nat :=
  let c0_110 : Index := 0#32
  let c384_111 : Index := 384#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c0_i32 : BitVec 32 := 0#32
  let v261 : BitVec 1 := Scalar.cmpi .sgt arg2 c0_i32
  let v262 : BitVec 32 := Scalar.extui v261
  let c0_i32_73 : BitVec 32 := 0#32
  let v263 : BitVec 1 := Scalar.cmpi .slt arg2 c0_i32_73
  let v264 : BitVec 32 := Scalar.extui v263
  let v265 : BitVec 32 := Scalar.subi v262 v264
  let c2_i32 : BitVec 32 := 2#32
  let c0_i32_74 : BitVec 32 := 0#32
  let v266 : BitVec 1 := Scalar.cmpi .sgt c2_i32 c0_i32_74
  let v267 : BitVec 32 := Scalar.extui v266
  let c0_i32_75 : BitVec 32 := 0#32
  let v268 : BitVec 1 := Scalar.cmpi .slt c2_i32 c0_i32_75
  let v269 : BitVec 32 := Scalar.extui v268
  let v270 : BitVec 32 := Scalar.subi v267 v269
  let v271 : BitVec 1 := Scalar.cmpi .ne v265 v270
  let v272 : BitVec 32 := Scalar.remsi arg2 c2_i32
  let c0_i32_76 : BitVec 32 := 0#32
  let v273 : BitVec 1 := Scalar.cmpi .ne v272 c0_i32_76
  let v274 : BitVec 1 := Scalar.andi v271 v273
  let v260 : BitVec 32 := Scalar.divsi arg2 c2_i32
  let c1_i32 : BitVec 32 := 1#32
  let v275 : BitVec 32 := Scalar.subi v260 c1_i32
  let v276 : BitVec 32 := Scalar.select v274 v275 v260
  let v277 : BitVec 32 := Scalar.subi v276 c0_i32_77
  let c1_i32_78 : BitVec 32 := 1#32
  let v279 : BitVec 32 := Scalar.divsi v277 c1_i32_78
  let v280 : BitVec 32 := Scalar.muli v279 c1_i32_78
  let v281 : BitVec 32 := Scalar.addi c0_i32_77 v280
  let c1_i32_80 : BitVec 32 := 1#32
  let arg7 : BitVec 32 := Scf.iv v281 c1_i32_80 k0_t2
  let v315 : BitVec 32 := Scalar.muli c2_i32_102 arg7
  let v316 : BitVec 32 := Scalar.subi v314 v315
  let c256_i32_103 : BitVec 32 := 256#32
  let v317 : BitVec 32 := Scalar.muli v316 c256_i32_103
  let v318 : BitVec 32 := v317
  let v328 : Index := Scalar.indexCast v318
  ![0, 384, v328.toNat]
def k0_mult5 (i : grid0.Coords) (k0_t2 : Fin (k0_t2_loop i).trips) : BitVec 32 :=
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c0_i32 : BitVec 32 := 0#32
  let v261 : BitVec 1 := Scalar.cmpi .sgt arg2 c0_i32
  let v262 : BitVec 32 := Scalar.extui v261
  let c0_i32_73 : BitVec 32 := 0#32
  let v263 : BitVec 1 := Scalar.cmpi .slt arg2 c0_i32_73
  let v264 : BitVec 32 := Scalar.extui v263
  let v265 : BitVec 32 := Scalar.subi v262 v264
  let c2_i32 : BitVec 32 := 2#32
  let c0_i32_74 : BitVec 32 := 0#32
  let v266 : BitVec 1 := Scalar.cmpi .sgt c2_i32 c0_i32_74
  let v267 : BitVec 32 := Scalar.extui v266
  let c0_i32_75 : BitVec 32 := 0#32
  let v268 : BitVec 1 := Scalar.cmpi .slt c2_i32 c0_i32_75
  let v269 : BitVec 32 := Scalar.extui v268
  let v270 : BitVec 32 := Scalar.subi v267 v269
  let v271 : BitVec 1 := Scalar.cmpi .ne v265 v270
  let v272 : BitVec 32 := Scalar.remsi arg2 c2_i32
  let c0_i32_76 : BitVec 32 := 0#32
  let v273 : BitVec 1 := Scalar.cmpi .ne v272 c0_i32_76
  let v274 : BitVec 1 := Scalar.andi v271 v273
  let v260 : BitVec 32 := Scalar.divsi arg2 c2_i32
  let c1_i32 : BitVec 32 := 1#32
  let v275 : BitVec 32 := Scalar.subi v260 c1_i32
  let v276 : BitVec 32 := Scalar.select v274 v275 v260
  let v277 : BitVec 32 := Scalar.subi v276 c0_i32_77
  let c1_i32_78 : BitVec 32 := 1#32
  let v279 : BitVec 32 := Scalar.divsi v277 c1_i32_78
  let v280 : BitVec 32 := Scalar.muli v279 c1_i32_78
  let v281 : BitVec 32 := Scalar.addi c0_i32_77 v280
  let c1_i32_80 : BitVec 32 := 1#32
  let arg7 : BitVec 32 := Scf.iv v281 c1_i32_80 k0_t2
  let v315 : BitVec 32 := Scalar.muli c2_i32_102 arg7
  let v316 : BitVec 32 := Scalar.subi v314 v315
  let c1_i32_120 : BitVec 32 := 1#32
  let v343 : BitVec 32 := Scalar.subi v316 c1_i32_120
  let c256_i32_121 : BitVec 32 := 256#32
  let v344 : BitVec 32 := Scalar.muli v343 c256_i32_121
  v344
def k0_off17 (i : grid0.Coords) (k0_t2 : Fin (k0_t2_loop i).trips) : Fin 3 → Nat :=
  let c0_122 : Index := 0#32
  let c0_123 : Index := 0#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c0_i32 : BitVec 32 := 0#32
  let v261 : BitVec 1 := Scalar.cmpi .sgt arg2 c0_i32
  let v262 : BitVec 32 := Scalar.extui v261
  let c0_i32_73 : BitVec 32 := 0#32
  let v263 : BitVec 1 := Scalar.cmpi .slt arg2 c0_i32_73
  let v264 : BitVec 32 := Scalar.extui v263
  let v265 : BitVec 32 := Scalar.subi v262 v264
  let c2_i32 : BitVec 32 := 2#32
  let c0_i32_74 : BitVec 32 := 0#32
  let v266 : BitVec 1 := Scalar.cmpi .sgt c2_i32 c0_i32_74
  let v267 : BitVec 32 := Scalar.extui v266
  let c0_i32_75 : BitVec 32 := 0#32
  let v268 : BitVec 1 := Scalar.cmpi .slt c2_i32 c0_i32_75
  let v269 : BitVec 32 := Scalar.extui v268
  let v270 : BitVec 32 := Scalar.subi v267 v269
  let v271 : BitVec 1 := Scalar.cmpi .ne v265 v270
  let v272 : BitVec 32 := Scalar.remsi arg2 c2_i32
  let c0_i32_76 : BitVec 32 := 0#32
  let v273 : BitVec 1 := Scalar.cmpi .ne v272 c0_i32_76
  let v274 : BitVec 1 := Scalar.andi v271 v273
  let v260 : BitVec 32 := Scalar.divsi arg2 c2_i32
  let c1_i32 : BitVec 32 := 1#32
  let v275 : BitVec 32 := Scalar.subi v260 c1_i32
  let v276 : BitVec 32 := Scalar.select v274 v275 v260
  let v277 : BitVec 32 := Scalar.subi v276 c0_i32_77
  let c1_i32_78 : BitVec 32 := 1#32
  let v279 : BitVec 32 := Scalar.divsi v277 c1_i32_78
  let v280 : BitVec 32 := Scalar.muli v279 c1_i32_78
  let v281 : BitVec 32 := Scalar.addi c0_i32_77 v280
  let c1_i32_80 : BitVec 32 := 1#32
  let arg7 : BitVec 32 := Scf.iv v281 c1_i32_80 k0_t2
  let v315 : BitVec 32 := Scalar.muli c2_i32_102 arg7
  let v316 : BitVec 32 := Scalar.subi v314 v315
  let c1_i32_120 : BitVec 32 := 1#32
  let v343 : BitVec 32 := Scalar.subi v316 c1_i32_120
  let c256_i32_121 : BitVec 32 := 256#32
  let v344 : BitVec 32 := Scalar.muli v343 c256_i32_121
  let v345 : BitVec 32 := v344
  let v346 : Index := Scalar.indexCast v345
  ![0, 0, v346.toNat]
def k0_off18 (i : grid0.Coords) (k0_t2 : Fin (k0_t2_loop i).trips) : Fin 3 → Nat :=
  let c0_124 : Index := 0#32
  let c128_125 : Index := 128#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c0_i32 : BitVec 32 := 0#32
  let v261 : BitVec 1 := Scalar.cmpi .sgt arg2 c0_i32
  let v262 : BitVec 32 := Scalar.extui v261
  let c0_i32_73 : BitVec 32 := 0#32
  let v263 : BitVec 1 := Scalar.cmpi .slt arg2 c0_i32_73
  let v264 : BitVec 32 := Scalar.extui v263
  let v265 : BitVec 32 := Scalar.subi v262 v264
  let c2_i32 : BitVec 32 := 2#32
  let c0_i32_74 : BitVec 32 := 0#32
  let v266 : BitVec 1 := Scalar.cmpi .sgt c2_i32 c0_i32_74
  let v267 : BitVec 32 := Scalar.extui v266
  let c0_i32_75 : BitVec 32 := 0#32
  let v268 : BitVec 1 := Scalar.cmpi .slt c2_i32 c0_i32_75
  let v269 : BitVec 32 := Scalar.extui v268
  let v270 : BitVec 32 := Scalar.subi v267 v269
  let v271 : BitVec 1 := Scalar.cmpi .ne v265 v270
  let v272 : BitVec 32 := Scalar.remsi arg2 c2_i32
  let c0_i32_76 : BitVec 32 := 0#32
  let v273 : BitVec 1 := Scalar.cmpi .ne v272 c0_i32_76
  let v274 : BitVec 1 := Scalar.andi v271 v273
  let v260 : BitVec 32 := Scalar.divsi arg2 c2_i32
  let c1_i32 : BitVec 32 := 1#32
  let v275 : BitVec 32 := Scalar.subi v260 c1_i32
  let v276 : BitVec 32 := Scalar.select v274 v275 v260
  let v277 : BitVec 32 := Scalar.subi v276 c0_i32_77
  let c1_i32_78 : BitVec 32 := 1#32
  let v279 : BitVec 32 := Scalar.divsi v277 c1_i32_78
  let v280 : BitVec 32 := Scalar.muli v279 c1_i32_78
  let v281 : BitVec 32 := Scalar.addi c0_i32_77 v280
  let c1_i32_80 : BitVec 32 := 1#32
  let arg7 : BitVec 32 := Scf.iv v281 c1_i32_80 k0_t2
  let v315 : BitVec 32 := Scalar.muli c2_i32_102 arg7
  let v316 : BitVec 32 := Scalar.subi v314 v315
  let c1_i32_120 : BitVec 32 := 1#32
  let v343 : BitVec 32 := Scalar.subi v316 c1_i32_120
  let c256_i32_121 : BitVec 32 := 256#32
  let v344 : BitVec 32 := Scalar.muli v343 c256_i32_121
  let v345 : BitVec 32 := v344
  let v349 : Index := Scalar.indexCast v345
  ![0, 128, v349.toNat]
def k0_off19 (i : grid0.Coords) (k0_t2 : Fin (k0_t2_loop i).trips) : Fin 3 → Nat :=
  let c0_126 : Index := 0#32
  let c256_127 : Index := 256#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c0_i32 : BitVec 32 := 0#32
  let v261 : BitVec 1 := Scalar.cmpi .sgt arg2 c0_i32
  let v262 : BitVec 32 := Scalar.extui v261
  let c0_i32_73 : BitVec 32 := 0#32
  let v263 : BitVec 1 := Scalar.cmpi .slt arg2 c0_i32_73
  let v264 : BitVec 32 := Scalar.extui v263
  let v265 : BitVec 32 := Scalar.subi v262 v264
  let c2_i32 : BitVec 32 := 2#32
  let c0_i32_74 : BitVec 32 := 0#32
  let v266 : BitVec 1 := Scalar.cmpi .sgt c2_i32 c0_i32_74
  let v267 : BitVec 32 := Scalar.extui v266
  let c0_i32_75 : BitVec 32 := 0#32
  let v268 : BitVec 1 := Scalar.cmpi .slt c2_i32 c0_i32_75
  let v269 : BitVec 32 := Scalar.extui v268
  let v270 : BitVec 32 := Scalar.subi v267 v269
  let v271 : BitVec 1 := Scalar.cmpi .ne v265 v270
  let v272 : BitVec 32 := Scalar.remsi arg2 c2_i32
  let c0_i32_76 : BitVec 32 := 0#32
  let v273 : BitVec 1 := Scalar.cmpi .ne v272 c0_i32_76
  let v274 : BitVec 1 := Scalar.andi v271 v273
  let v260 : BitVec 32 := Scalar.divsi arg2 c2_i32
  let c1_i32 : BitVec 32 := 1#32
  let v275 : BitVec 32 := Scalar.subi v260 c1_i32
  let v276 : BitVec 32 := Scalar.select v274 v275 v260
  let v277 : BitVec 32 := Scalar.subi v276 c0_i32_77
  let c1_i32_78 : BitVec 32 := 1#32
  let v279 : BitVec 32 := Scalar.divsi v277 c1_i32_78
  let v280 : BitVec 32 := Scalar.muli v279 c1_i32_78
  let v281 : BitVec 32 := Scalar.addi c0_i32_77 v280
  let c1_i32_80 : BitVec 32 := 1#32
  let arg7 : BitVec 32 := Scf.iv v281 c1_i32_80 k0_t2
  let v315 : BitVec 32 := Scalar.muli c2_i32_102 arg7
  let v316 : BitVec 32 := Scalar.subi v314 v315
  let c1_i32_120 : BitVec 32 := 1#32
  let v343 : BitVec 32 := Scalar.subi v316 c1_i32_120
  let c256_i32_121 : BitVec 32 := 256#32
  let v344 : BitVec 32 := Scalar.muli v343 c256_i32_121
  let v345 : BitVec 32 := v344
  let v352 : Index := Scalar.indexCast v345
  ![0, 256, v352.toNat]
def k0_off20 (i : grid0.Coords) (k0_t2 : Fin (k0_t2_loop i).trips) : Fin 3 → Nat :=
  let c0_128 : Index := 0#32
  let c384_129 : Index := 384#32
  let arg2 : BitVec 32 := BitVec.ofNat 32 (i 2).val
  let c1_i32_101 : BitVec 32 := 1#32
  let v314 : BitVec 32 := Scalar.subi arg2 c1_i32_101
  let c2_i32_102 : BitVec 32 := 2#32
  let c0_i32_77 : BitVec 32 := 0#32
  let c0_i32 : BitVec 32 := 0#32
  let v261 : BitVec 1 := Scalar.cmpi .sgt arg2 c0_i32
  let v262 : BitVec 32 := Scalar.extui v261
  let c0_i32_73 : BitVec 32 := 0#32
  let v263 : BitVec 1 := Scalar.cmpi .slt arg2 c0_i32_73
  let v264 : BitVec 32 := Scalar.extui v263
  let v265 : BitVec 32 := Scalar.subi v262 v264
  let c2_i32 : BitVec 32 := 2#32
  let c0_i32_74 : BitVec 32 := 0#32
  let v266 : BitVec 1 := Scalar.cmpi .sgt c2_i32 c0_i32_74
  let v267 : BitVec 32 := Scalar.extui v266
  let c0_i32_75 : BitVec 32 := 0#32
  let v268 : BitVec 1 := Scalar.cmpi .slt c2_i32 c0_i32_75
  let v269 : BitVec 32 := Scalar.extui v268
  let v270 : BitVec 32 := Scalar.subi v267 v269
  let v271 : BitVec 1 := Scalar.cmpi .ne v265 v270
  let v272 : BitVec 32 := Scalar.remsi arg2 c2_i32
  let c0_i32_76 : BitVec 32 := 0#32
  let v273 : BitVec 1 := Scalar.cmpi .ne v272 c0_i32_76
  let v274 : BitVec 1 := Scalar.andi v271 v273
  let v260 : BitVec 32 := Scalar.divsi arg2 c2_i32
  let c1_i32 : BitVec 32 := 1#32
  let v275 : BitVec 32 := Scalar.subi v260 c1_i32
  let v276 : BitVec 32 := Scalar.select v274 v275 v260
  let v277 : BitVec 32 := Scalar.subi v276 c0_i32_77
  let c1_i32_78 : BitVec 32 := 1#32
  let v279 : BitVec 32 := Scalar.divsi v277 c1_i32_78
  let v280 : BitVec 32 := Scalar.muli v279 c1_i32_78
  let v281 : BitVec 32 := Scalar.addi c0_i32_77 v280
  let c1_i32_80 : BitVec 32 := 1#32
  let arg7 : BitVec 32 := Scf.iv v281 c1_i32_80 k0_t2
  let v315 : BitVec 32 := Scalar.muli c2_i32_102 arg7
  let v316 : BitVec 32 := Scalar.subi v314 v315
  let c1_i32_120 : BitVec 32 := 1#32
  let v343 : BitVec 32 := Scalar.subi v316 c1_i32_120
  let c256_i32_121 : BitVec 32 := 256#32
  let v344 : BitVec 32 := Scalar.muli v343 c256_i32_121
  let v345 : BitVec 32 := v344
  let v355 : Index := Scalar.indexCast v345
  ![0, 384, v355.toNat]
def k0_cond1 (i : grid0.Coords) : BitVec 1 :=
  let arg2 : BitVec 32 := BitVec.ofNat 32 (i 2).val
  let c2_i32_81 : BitVec 32 := 2#32
  let c0_i32_82 : BitVec 32 := 0#32
  let v284 : BitVec 1 := Scalar.cmpi .eq c2_i32_81 c0_i32_82
  let c1_i32_83 : BitVec 32 := 1#32
  let v285 : BitVec 32 := Scalar.select v284 c1_i32_83 c2_i32_81
  let v286 : BitVec 32 := Scalar.remsi arg2 v285
  let c0_i32_85 : BitVec 32 := 0#32
  let v288 : BitVec 1 := Scalar.cmpi .slt v286 c0_i32_85
  let c0_i32_86 : BitVec 32 := 0#32
  let v289 : BitVec 1 := Scalar.cmpi .slt v285 c0_i32_86
  let v290 : BitVec 1 := Scalar.xori v288 v289
  let c0_i32_84 : BitVec 32 := 0#32
  let v287 : BitVec 1 := Scalar.cmpi .ne v286 c0_i32_84
  let v291 : BitVec 1 := Scalar.andi v290 v287
  let v292 : BitVec 32 := Scalar.addi v286 v285
  let v293 : BitVec 32 := Scalar.select v291 v292 v286
  let c1_i32_87 : BitVec 32 := 1#32
  let v294 : BitVec 1 := Scalar.cmpi .eq v293 c1_i32_87
  let v295 : BitVec 32 := Scalar.extui v294
  let c0_i32_88 : BitVec 32 := 0#32
  let v296 : BitVec 1 := Scalar.cmpi .ne v295 c0_i32_88
  v296

def k0_mult6 : BitVec 32 :=
  let c0_i32_101 : BitVec 32 := 0#32
  c0_i32_101
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== SbPromptIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== SbPromptRefIdeal.lean ====
abbrev S16x2048x512 : Shape := ⟨3, ![16, 2048, 512]⟩
abbrev S16x512x2048 : Shape := ⟨3, ![16, 512, 2048]⟩
abbrev S16x2048x8x64 : Shape := ⟨4, ![16, 2048, 8, 64]⟩
abbrev S2048 : Shape := ⟨1, ![2048]⟩
abbrev S16x8x64x2048 : Shape := ⟨4, ![16, 8, 64, 2048]⟩
abbrev S16x8x2048x2048 : Shape := ⟨4, ![16, 8, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x512x2048, .bf16⟩
  | .hbm, ⟨2, _⟩ => ⟨S16x512x2048, .bf16⟩
  | .hbm, ⟨3, _⟩ => ⟨S16x2048x512, .f32⟩
  | .hbm, ⟨4, _⟩ => ⟨S16x2048x8x64, .f32⟩
  | .hbm, ⟨5, _⟩ => ⟨S2048, .i32⟩
  | .hbm, ⟨6, _⟩ => ⟨S16x512x2048, .f32⟩
  | .hbm, ⟨7, _⟩ => ⟨S16x8x64x2048, .f32⟩
  | .hbm, ⟨8, _⟩ => ⟨S16x2048x8x64, .f32⟩
  | .hbm, ⟨9, _⟩ => ⟨S16x512x2048, .f32⟩
  | .hbm, ⟨10, _⟩ => ⟨S16x8x64x2048, .f32⟩
  | .hbm, ⟨11, _⟩ => ⟨S16x2048x8x64, .f32⟩
  | .hbm, ⟨12, _⟩ => ⟨S16x8x2048x2048, .f32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S16x8x2048x2048, .f32⟩
  | .hbm, ⟨19, _⟩ => ⟨S16x8x2048x2048, .f32⟩
  | .hbm, ⟨20, _⟩ => ⟨S_, .f32⟩
  | .hbm, ⟨21, _⟩ => ⟨S16x8x2048x2048, .f32⟩
  | .hbm, ⟨22, _⟩ => ⟨S16x8x2048x2048, .f32⟩
  | .hbm, ⟨23, _⟩ => ⟨S16x8x2048x2048, .f32⟩
  | .hbm, ⟨24, _⟩ => ⟨S16x8x2048x2048, .f32⟩
  | .hbm, ⟨25, _⟩ => ⟨S16x8x2048x2048, .i1⟩
  | .hbm, ⟨26, _⟩ => ⟨S16x8x2048x2048, .f32⟩
  | .hbm, ⟨27, _⟩ => ⟨S16x8x2048x2048, .f32⟩
  | .hbm, ⟨28, _⟩ => ⟨S16x8x2048x2048, .f32⟩
  | .hbm, ⟨29, _⟩ => ⟨S16x8x2048x2048, .f32⟩
  | .hbm, ⟨30, _⟩ => ⟨S16x8x2048x2048, .f32⟩
  | .hbm, ⟨31, _⟩ => ⟨S16x8x2048x2048, .f32⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S_, .f32⟩
  | .hbm, ⟨36, _⟩ => ⟨S_, .f32⟩
  | .hbm, ⟨37, _⟩ => ⟨S16x8x2048x2048, .i1⟩
  | .hbm, ⟨38, _⟩ => ⟨S16x8x2048x2048, .f32⟩
  | .hbm, ⟨39, _⟩ => ⟨S16x8x2048x2048, .f32⟩
  | .hbm, ⟨40, _⟩ => ⟨S_, .f32⟩
  | .hbm, ⟨41, _⟩ => ⟨S_, .f32⟩
  | .hbm, ⟨42, _⟩ => ⟨S16x8x2048x2048, .f32⟩
  | .hbm, ⟨43, _⟩ => ⟨S16x8x2048x2048, .f32⟩
  | .hbm, ⟨44, _⟩ => ⟨S16x8x2048x2048, .f32⟩
  | .hbm, ⟨45, _⟩ => ⟨S_, .f32⟩
  | .hbm, ⟨46, _⟩ => ⟨S16x8x2048x2048, .f32⟩
  | .hbm, ⟨47, _⟩ => ⟨S16x8x2048x2048, .f32⟩
  | .hbm, ⟨48, _⟩ => ⟨S16x8x2048x2048, .f32⟩
  | .hbm, ⟨49, _⟩ => ⟨S16x8x2048x2048, .f32⟩
  | .hbm, ⟨50, _⟩ => ⟨S16x8x2048x2048, .i1⟩
  | .hbm, ⟨51, _⟩ => ⟨S16x8x2048x2048, .f32⟩
  | .hbm, ⟨52, _⟩ => ⟨S16x8x2048x2048, .f32⟩
  | .hbm, ⟨53, _⟩ => ⟨S16x8x2048x2048, .f32⟩
  | .hbm, ⟨54, _⟩ => ⟨S16x8x2048x2048, .f32⟩
  | .hbm, ⟨55, _⟩ => ⟨S16x8x2048x2048, .f32⟩
  | .hbm, ⟨56, _⟩ => ⟨S16x8x2048x2048, .f32⟩
  | .hbm, ⟨57, _⟩ => ⟨S16x8x2048x2048, .f32⟩
  | .hbm, ⟨58, _⟩ => ⟨S16x8x2048x2048, .f32⟩
  | .hbm, ⟨59, _⟩ => ⟨S16x8x2048x2048, .f32⟩
  | .hbm, ⟨60, _⟩ => ⟨S16x8x2048x2048, .f32⟩
  | .hbm, ⟨61, _⟩ => ⟨S16x8x2048x2048, .f32⟩
  | .hbm, ⟨62, _⟩ => ⟨S_, .f32⟩
  | .hbm, ⟨63, _⟩ => ⟨S_, .f32⟩
  | .hbm, ⟨64, _⟩ => ⟨S16x8x2048x2048, .i1⟩
  | .hbm, ⟨65, _⟩ => ⟨S16x8x2048x2048, .f32⟩
  | .hbm, ⟨66, _⟩ => ⟨S16x8x2048x2048, .f32⟩
  | .hbm, ⟨67, _⟩ => ⟨S16x8x64x2048, .f32⟩
  | .hbm, ⟨68, _⟩ => ⟨S16x2048x8x64, .f32⟩
  | .hbm, ⟨69, _⟩ => ⟨S16x2048x512, .f32⟩
  | .hbm, ⟨70, _⟩ => ⟨S16x2048x512, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_call2_cst : Ref sig .tc := ⟨.hbm, 40, rfl⟩
abbrev main_call2_v0 : Ref sig .tc := ⟨.hbm, 41, rfl⟩
abbrev main_v18 : Ref sig .tc := ⟨.hbm, 42, rfl⟩
abbrev main_v19 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_0 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩

abbrev nD : Nat := 1
abbrev τ : Topo := Topo.v7x

variable {F : FTy → Type} [FloatOps F]
-- ==== OutMlpFinal.lean ====
abbrev S32768x1024 : Shape := ⟨2, ![32768, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 20
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024x4096, .f32⟩
  | .hbm, ⟨13, _⟩ => ⟨S1024x4096, .f32⟩
  | .hbm, ⟨14, _⟩ => ⟨S1024x4096, .bf16⟩
  | .hbm, ⟨15, _⟩ => ⟨S1x4096x1024, .f32⟩
  | .hbm, ⟨16, _⟩ => ⟨S4096x1024, .f32⟩
  | .hbm, ⟨17, _⟩ => ⟨S4096x1024, .bf16⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutMlpFinalRefIdeal.lean ====
abbrev S32768x1024 : Shape := ⟨2, ![32768, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32768x4096 : Shape := ⟨2, ![32768, 4096]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S32768x1024, .f32⟩
  | .hbm, ⟨8, _⟩ => ⟨S1024x1024, .f32⟩
  | .hbm, ⟨9, _⟩ => ⟨S32768x1024, .f32⟩
  | .hbm, ⟨10, _⟩ => ⟨S32768x1024, .f32⟩
  | .hbm, ⟨11, _⟩ => ⟨S1x1024, .f32⟩
  | .hbm, ⟨12, _⟩ => ⟨S1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S1x1024x4096, .f32⟩
  | .hbm, ⟨30, _⟩ => ⟨S1024x4096, .f32⟩
  | .hbm, ⟨31, _⟩ => ⟨S1x4096x1024, .f32⟩
  | .hbm, ⟨32, _⟩ => ⟨S4096x1024, .f32⟩
  | .hbm, ⟨33, _⟩ => ⟨S32768x4096, .f32⟩
  | .hbm, ⟨34, _⟩ => ⟨S_, .f32⟩
  | .hbm, ⟨35, _⟩ => ⟨S32768x4096, .f32⟩
  | .hbm, ⟨36, _⟩ => ⟨S32768x4096, .f32⟩
  | .hbm, ⟨37, _⟩ => ⟨S32768x4096, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== OutMlpFirst.lean ====
abbrev S32768x1024 : Shape := ⟨2, ![32768, 1024]⟩
abbrev S32768x512 : Shape := ⟨2, ![32768, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 21
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024x4096, .f32⟩
  | .hbm, ⟨14, _⟩ => ⟨S1024x4096, .f32⟩
  | .hbm, ⟨15, _⟩ => ⟨S1024x4096, .bf16⟩
  | .hbm, ⟨16, _⟩ => ⟨S1x4096x1024, .f32⟩
  | .hbm, ⟨17, _⟩ => ⟨S4096x1024, .f32⟩
  | .hbm, ⟨18, _⟩ => ⟨S4096x1024, .bf16⟩
  | .hbm, ⟨19, _⟩ => ⟨S1x1024, .f32⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutMlpFirstRefIdeal.lean ====
abbrev S32768x1024 : Shape := ⟨2, ![32768, 1024]⟩
abbrev S32768x512 : Shape := ⟨2, ![32768, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32768x4096 : Shape := ⟨2, ![32768, 4096]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S32768x512, .f32⟩
  | .hbm, ⟨9, _⟩ => ⟨S32768x512, .f32⟩
  | .hbm, ⟨10, _⟩ => ⟨S32768x1024, .f32⟩
  | .hbm, ⟨11, _⟩ => ⟨S1024x1024, .f32⟩
  | .hbm, ⟨12, _⟩ => ⟨S32768x1024, .f32⟩
  | .hbm, ⟨13, _⟩ => ⟨S32768x1024, .f32⟩
  | .hbm, ⟨14, _⟩ => ⟨S1x1024, .f32⟩
  | .hbm, ⟨15, _⟩ => ⟨S1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S1x1024x4096, .f32⟩
  | .hbm, ⟨33, _⟩ => ⟨S1024x4096, .f32⟩
  | .hbm, ⟨34, _⟩ => ⟨S1x4096x1024, .f32⟩
  | .hbm, ⟨35, _⟩ => ⟨S4096x1024, .f32⟩
  | .hbm, ⟨36, _⟩ => ⟨S32768x4096, .f32⟩
  | .hbm, ⟨37, _⟩ => ⟨S_, .f32⟩
  | .hbm, ⟨38, _⟩ => ⟨S32768x4096, .f32⟩
  | .hbm, ⟨39, _⟩ => ⟨S32768x4096, .f32⟩
  | .hbm, ⟨40, _⟩ => ⟨S32768x4096, .f32⟩
  | .hbm, ⟨41, _⟩ => ⟨S32768x1024, .f32⟩
  | .hbm, ⟨42, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AbIn.lean ====
abbrev S16x2048x1024 : Shape := ⟨3, ![16, 2048, 1024]⟩
abbrev S2x1024 : Shape := ⟨2, ![2, 1024]⟩
abbrev S1x1024x2560 : Shape := ⟨3, ![1, 1024, 2560]⟩
abbrev S1024x2560 : Shape := ⟨2, ![1024, 2560]⟩
abbrev S1024x1024 : Shape := ⟨2, ![1024, 1024]⟩
abbrev S32768x1024 : Shape := ⟨2, ![32768, 1024]⟩
abbrev S1x1024 : Shape := ⟨2, ![1, 1024]⟩
abbrev S1024 : Shape := ⟨1, ![1024]⟩
abbrev S32768x512 : Shape := ⟨2, ![32768, 512]⟩
abbrev S16x512x2048 : Shape := ⟨3, ![16, 512, 2048]⟩
abbrev S512x1024 : Shape := ⟨2, ![512, 1024]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1024x512 : Shape := ⟨2, ![1024, 512]⟩

abbrev nBuf : Space → Nat
  | .hbm => 17
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S1x1024x2560, .f32⟩
  | .hbm, ⟨3, _⟩ => ⟨S1024x2560, .f32⟩
  | .hbm, ⟨4, _⟩ => ⟨S1024x2560, .bf16⟩
  | .hbm, ⟨5, _⟩ => ⟨S1024x1024, .bf16⟩
  | .hbm, ⟨6, _⟩ => ⟨S1024x1024, .bf16⟩
  | .hbm, ⟨7, _⟩ => ⟨S32768x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S32768x512, .bf16⟩
  | .hbm, ⟨12, _⟩ => ⟨S16x512x2048, .bf16⟩
  | .hbm, ⟨13, _⟩ => ⟨S16x512x2048, .bf16⟩
  | .hbm, ⟨14, _⟩ => ⟨S16x512x2048, .f32⟩
  | .hbm, ⟨15, _⟩ => ⟨S16x512x2048, .f32⟩
  | .hbm, ⟨16, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x1024, .bf16⟩
  | .local _ .vmem, ⟨5, _⟩ => ⟨S512x512, .bf16⟩
  | .local _ .vmem, ⟨6, _⟩ => ⟨S512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S512x512, .f32⟩
  | .local _ .vmem, ⟨16, _⟩ => ⟨S512x512, .f32⟩
  | .local _ .vmem, ⟨17, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v8_3 : Ref sig .tc := ⟨.hbm, 14, rfl⟩
abbrev main_v8_4 : Ref sig .tc := ⟨.hbm, 15, rfl⟩
abbrev main_v8_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AbInRefIdeal.lean ====
abbrev S16x2048x1024 : Shape := ⟨3, ![16, 2048, 1024]⟩
abbrev S2x1024 : Shape := ⟨2, ![2, 1024]⟩
abbrev S1x1024x2560 : Shape := ⟨3, ![1, 1024, 2560]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2560 : Shape := ⟨2, ![1024, 2560]⟩
abbrev S16x2048x2560 : Shape := ⟨3, ![16, 2048, 2560]⟩
abbrev S16x2048x512 : Shape := ⟨3, ![16, 2048, 512]⟩
abbrev S16x512x2048 : Shape := ⟨3, ![16, 512, 2048]⟩
abbrev S32768x512 : Shape := ⟨2, ![32768, 512]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S1x1024x2560, .f32⟩
  | .hbm, ⟨3, _⟩ => ⟨S1x1024, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S1024x2560, .f32⟩
  | .hbm, ⟨22, _⟩ => ⟨S16x2048x2560, .f32⟩
  | .hbm, ⟨23, _⟩ => ⟨S16x2048x512, .f32⟩
  | .hbm, ⟨24, _⟩ => ⟨S16x2048x512, .f32⟩
  | .hbm, ⟨25, _⟩ => ⟨S16x2048x512, .f32⟩
  | .hbm, ⟨26, _⟩ => ⟨S16x2048x512, .f32⟩
  | .hbm, ⟨27, _⟩ => ⟨S16x2048x512, .f32⟩
  | .hbm, ⟨28, _⟩ => ⟨S16x512x2048, .f32⟩
  | .hbm, ⟨29, _⟩ => ⟨S16x512x2048, .f32⟩
  | .hbm, ⟨30, _⟩ => ⟨S_, .f32⟩
  | .hbm, ⟨31, _⟩ => ⟨S16x2048x512, .f32⟩
  | .hbm, ⟨32, _⟩ => ⟨S16x2048x512, .f32⟩
  | .hbm, ⟨33, _⟩ => ⟨S16x2048x512, .bf16⟩
  | .hbm, ⟨34, _⟩ => ⟨S32768x512, .bf16⟩
  | .hbm, ⟨35, _⟩ => ⟨S16x512x2048, .bf16⟩
  | .hbm, ⟨36, _⟩ => ⟨S16x512x2048, .bf16⟩
  | .hbm, ⟨37, _⟩ => ⟨S16x2048x512, .f32⟩
  | .hbm, ⟨38, _⟩ => ⟨S16x2048x512, .f32⟩
  | .hbm, ⟨39, _⟩ => ⟨S_, .f32⟩
  | .hbm, ⟨40, _⟩ => ⟨S16x2048x512, .f32⟩
  | .hbm, ⟨41, _⟩ => ⟨S16x2048x512, .f32⟩
  | .hbm, ⟨42, _⟩ => ⟨S_, .f32⟩
  | .hbm, ⟨43, _⟩ => ⟨S16x2048x512, .f32⟩
  | .hbm, ⟨44, _⟩ => ⟨S16x2048x512, .f32⟩
  | .hbm, ⟨45, _⟩ => ⟨S16x2048x512, .f32⟩
  | .hbm, ⟨46, _⟩ => ⟨S32768x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== CIn.lean ====
abbrev S32768x1024 : Shape := ⟨2, ![32768, 1024]⟩
abbrev S2x1024 : Shape := ⟨2, ![2, 1024]⟩
abbrev S1x1024x3072 : Shape := ⟨3, ![1, 1024, 3072]⟩
abbrev S1024x3072 : Shape := ⟨2, ![1024, 3072]⟩
abbrev S1x1024 : Shape := ⟨2, ![1, 1024]⟩
abbrev S1024 : Shape := ⟨1, ![1024]⟩
abbrev S1024x1024 : Shape := ⟨2, ![1024, 1024]⟩
abbrev S1024x2048 : Shape := ⟨2, ![1024, 2048]⟩
abbrev S2048x1024 : Shape := ⟨2, ![2048, 1024]⟩
abbrev S16x1024x2048 : Shape := ⟨3, ![16, 1024, 2048]⟩
abbrev S16x1024x512 : Shape := ⟨3, ![16, 1024, 512]⟩
abbrev S512x1024 : Shape := ⟨2, ![512, 1024]⟩
abbrev S1x1024x512 : Shape := ⟨3, ![1, 1024, 512]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 16
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x3072, .f32⟩
  | .hbm, ⟨3, _⟩ => ⟨S1024x3072, .f32⟩
  | .hbm, ⟨4, _⟩ => ⟨S1024x3072, .bf16⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x1024, .bf16⟩
  | .hbm, ⟨9, _⟩ => ⟨S1024x2048, .bf16⟩
  | .hbm, ⟨10, _⟩ => ⟨S2048x1024, .bf16⟩
  | .hbm, ⟨11, _⟩ => ⟨S32768x1024, .bf16⟩
  | .hbm, ⟨12, _⟩ => ⟨S16x1024x2048, .bf16⟩
  | .hbm, ⟨13, _⟩ => ⟨S16x1024x2048, .bf16⟩
  | .hbm, ⟨14, _⟩ => ⟨S16x1024x512, .f32⟩
  | .hbm, ⟨15, _⟩ => ⟨S16x1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v8_3 : Ref sig .tc := ⟨.hbm, 14, rfl⟩
abbrev main_v8_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CInRefIdeal.lean ====
abbrev S32768x1024 : Shape := ⟨2, ![32768, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x3072 : Shape := ⟨2, ![1024, 3072]⟩
abbrev S32768x3072 : Shape := ⟨2, ![32768, 3072]⟩
abbrev S16x2048x1024 : Shape := ⟨3, ![16, 2048, 1024]⟩
abbrev S16x1024x2048 : Shape := ⟨3, ![16, 1024, 2048]⟩
abbrev S16x1024x512 : Shape := ⟨3, ![16, 1024, 512]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x3072, .f32⟩
  | .hbm, ⟨22, _⟩ => ⟨S32768x3072, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S16x2048x1024, .f32⟩
  | .hbm, ⟨27, _⟩ => ⟨S16x1024x2048, .f32⟩
  | .hbm, ⟨28, _⟩ => ⟨S16x2048x1024, .f32⟩
  | .hbm, ⟨29, _⟩ => ⟨S16x1024x2048, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .bf16⟩
  | .hbm, ⟨34, _⟩ => ⟨S16x1024x2048, .bf16⟩
  | .hbm, ⟨35, _⟩ => ⟨S16x1024x2048, .bf16⟩
  | .hbm, ⟨36, _⟩ => ⟨S16x1024x512, .f32⟩
  | .hbm, ⟨37, _⟩ => ⟨S16x1024x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== FinalSample.lean ====
abbrev S512x1024 : Shape := ⟨2, ![512, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 20
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S512x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024x4096, .f32⟩
  | .hbm, ⟨13, _⟩ => ⟨S1024x4096, .f32⟩
  | .hbm, ⟨14, _⟩ => ⟨S1024x4096, .bf16⟩
  | .hbm, ⟨15, _⟩ => ⟨S1x4096x1024, .f32⟩
  | .hbm, ⟨16, _⟩ => ⟨S4096x1024, .f32⟩
  | .hbm, ⟨17, _⟩ => ⟨S4096x1024, .bf16⟩
  | .hbm, ⟨18, _⟩ => ⟨S1x1024, .f32⟩
  | .hbm, ⟨19, _⟩ => ⟨S512x1024, .f32⟩
  | .local _ .vmem, ⟨0, _⟩ => ⟨S512x1024, .f32⟩
  | .local _ .vmem, ⟨1, _⟩ => ⟨S512x512, .bf16⟩
  | .local _ .vmem, ⟨2, _⟩ => ⟨S512x512, .bf16⟩
  | .local _ .vmem, ⟨3, _⟩ => ⟨S1024x1024, .bf16⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FinalSampleRefIdeal.lean ====
abbrev S512x1024 : Shape := ⟨2, ![512, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S512x4096 : Shape := ⟨2, ![512, 4096]⟩

abbrev nBuf : Space → Nat
  | .hbm => 56
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S512x1024, .f32⟩
  | .hbm, ⟨8, _⟩ => ⟨S1024x1024, .f32⟩
  | .hbm, ⟨9, _⟩ => ⟨S512x1024, .f32⟩
  | .hbm, ⟨10, _⟩ => ⟨S512x1024, .f32⟩
  | .hbm, ⟨11, _⟩ => ⟨S1x1024, .f32⟩
  | .hbm, ⟨12, _⟩ => ⟨S1024, .f32⟩
  | .hbm, ⟨13, _⟩ => ⟨S512x1024, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1024, .f32⟩
  | .hbm, ⟨25, _⟩ => ⟨S512x1024, .f32⟩
  | .hbm, ⟨26, _⟩ => ⟨S1x1024, .f32⟩
  | .hbm, ⟨27, _⟩ => ⟨S512x1024, .f32⟩
  | .hbm, ⟨28, _⟩ => ⟨S512x1024, .f32⟩
  | .hbm, ⟨29, _⟩ => ⟨S1x1024x4096, .f32⟩
  | .hbm, ⟨30, _⟩ => ⟨S1024x4096, .f32⟩
  | .hbm, ⟨31, _⟩ => ⟨S1x4096x1024, .f32⟩
  | .hbm, ⟨32, _⟩ => ⟨S4096x1024, .f32⟩
  | .hbm, ⟨33, _⟩ => ⟨S512x4096, .f32⟩
  | .hbm, ⟨34, _⟩ => ⟨S_, .f32⟩
  | .hbm, ⟨35, _⟩ => ⟨S512x4096, .f32⟩
  | .hbm, ⟨36, _⟩ => ⟨S512x4096, .f32⟩
  | .hbm, ⟨37, _⟩ => ⟨S512x4096, .f32⟩
  | .hbm, ⟨38, _⟩ => ⟨S512x1024, .f32⟩
  | .hbm, ⟨39, _⟩ => ⟨S512x1024, .f32⟩
  | .hbm, ⟨40, _⟩ => ⟨S512x1024, .f32⟩
  | .hbm, ⟨41, _⟩ => ⟨S_, .f32⟩
  | .hbm, ⟨42, _⟩ => ⟨S512, .f32⟩
  | .hbm, ⟨43, _⟩ => ⟨S512x1, .f32⟩
  | .hbm, ⟨44, _⟩ => ⟨S_, .f32⟩
  | .hbm, ⟨45, _⟩ => ⟨S512x1, .f32⟩
  | .hbm, ⟨46, _⟩ => ⟨S512x1, .f32⟩
  | .hbm, ⟨47, _⟩ => ⟨S_, .f32⟩
  | .hbm, ⟨48, _⟩ => ⟨S512x1, .f32⟩
  | .hbm, ⟨49, _⟩ => ⟨S512x1, .f32⟩
  | .hbm, ⟨50, _⟩ => ⟨S512x1, .f32⟩
  | .hbm, ⟨51, _⟩ => ⟨S512x1024, .f32⟩
  | .hbm, ⟨52, _⟩ => ⟨S512x1024, .f32⟩
  | .hbm, ⟨53, _⟩ => ⟨S1x1024, .f32⟩
  | .hbm, ⟨54, _⟩ => ⟨S512x1024, .f32⟩
  | .hbm, ⟨55, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== FirstSample.lean ====
abbrev S512x1024 : Shape := ⟨2, ![512, 1024]⟩
abbrev S512x512 : Shape := ⟨2, ![512, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S512 : Shape := ⟨1, ![512]⟩
abbrev S512x1 : Shape := ⟨2, ![512, 1]⟩
abbrev S1024x512 : Shape := ⟨2, ![1024, 512]⟩

abbrev nBuf : Space → Nat
  | .hbm => 21
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .bf16⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024x4096, .f32⟩
  | .hbm, ⟨14, _⟩ => ⟨S1024x4096, .f32⟩
  | .hbm, ⟨15, _⟩ => ⟨S1024x4096, .bf16⟩
  | .hbm, ⟨16, _⟩ => ⟨S1x4096x1024, .f32⟩
  | .hbm, ⟨17, _⟩ => ⟨S4096x1024, .f32⟩
  | .hbm, ⟨18, _⟩ => ⟨S4096x1024, .bf16⟩
  | .hbm, ⟨19, _⟩ => ⟨S1x1024, .f32⟩
  | .hbm, ⟨20, _⟩ => ⟨S512x1024, .f32⟩
  | .local _ .vmem, ⟨0, _⟩ => ⟨S512x1024, .f32⟩
  | .local _ .vmem, ⟨1, _⟩ => ⟨S512x512, .bf16⟩
  | .local _ .vmem, ⟨2, _⟩ => ⟨S512x512, .bf16⟩
  | .local _ .vmem, ⟨3, _⟩ => ⟨S1024x1024, .bf16⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FirstSampleRefIdeal.lean ====
abbrev S512x1024 : Shape := ⟨2, ![512, 1024]⟩
abbrev S512x512 : Shape := ⟨2, ![512, 512]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S512x4096 : Shape := ⟨2, ![512, 4096]⟩

abbrev nBuf : Space → Nat
  | .hbm => 43
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .bf16⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S512x512, .f32⟩
  | .hbm, ⟨9, _⟩ => ⟨S512x512, .f32⟩
  | .hbm, ⟨10, _⟩ => ⟨S512x1024, .f32⟩
  | .hbm, ⟨11, _⟩ => ⟨S1024x1024, .f32⟩
  | .hbm, ⟨12, _⟩ => ⟨S512x1024, .f32⟩
  | .hbm, ⟨13, _⟩ => ⟨S512x1024, .f32⟩
  | .hbm, ⟨14, _⟩ => ⟨S1x1024, .f32⟩
  | .hbm, ⟨15, _⟩ => ⟨S1024, .f32⟩
  | .hbm, ⟨16, _⟩ => ⟨S512x1024, .f32⟩
  | .hbm, ⟨17, _⟩ => ⟨S_, .f32⟩
  | .hbm, ⟨18, _⟩ => ⟨S512, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S512x1024, .f32⟩
  | .hbm, ⟨28, _⟩ => ⟨S512x1024, .f32⟩
  | .hbm, ⟨29, _⟩ => ⟨S1x1024, .f32⟩
  | .hbm, ⟨30, _⟩ => ⟨S512x1024, .f32⟩
  | .hbm, ⟨31, _⟩ => ⟨S512x1024, .f32⟩
  | .hbm, ⟨32, _⟩ => ⟨S1x1024x4096, .f32⟩
  | .hbm, ⟨33, _⟩ => ⟨S1024x4096, .f32⟩
  | .hbm, ⟨34, _⟩ => ⟨S1x4096x1024, .f32⟩
  | .hbm, ⟨35, _⟩ => ⟨S4096x1024, .f32⟩
  | .hbm, ⟨36, _⟩ => ⟨S512x4096, .f32⟩
  | .hbm, ⟨37, _⟩ => ⟨S_, .f32⟩
  | .hbm, ⟨38, _⟩ => ⟨S512x4096, .f32⟩
  | .hbm, ⟨39, _⟩ => ⟨S512x4096, .f32⟩
  | .hbm, ⟨40, _⟩ => ⟨S512x4096, .f32⟩
  | .hbm, ⟨41, _⟩ => ⟨S512x1024, .f32⟩
  | .hbm, ⟨42, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AbSample.lean ====
abbrev S32x16x1024 : Shape := ⟨3, ![32, 16, 1024]⟩
abbrev S2x1024 : Shape := ⟨2, ![2, 1024]⟩
abbrev S1x1024x2560 : Shape := ⟨3, ![1, 1024, 2560]⟩
abbrev S512x1024 : Shape := ⟨2, ![512, 1024]⟩
abbrev S1x1024 : Shape := ⟨2, ![1, 1024]⟩
abbrev S1024 : Shape := ⟨1, ![1024]⟩
abbrev S1024x2560 : Shape := ⟨2, ![1024, 2560]⟩
abbrev S512x512 : Shape := ⟨2, ![512, 512]⟩
abbrev S512x8x64 : Shape := ⟨3, ![512, 8, 64]⟩
abbrev S512 : Shape := ⟨1, ![512]⟩
abbrev S512x1 : Shape := ⟨2, ![512, 1]⟩
abbrev S1024x512 : Shape := ⟨2, ![1024, 512]⟩
abbrev S512x64 : Shape := ⟨2, ![512, 64]⟩
abbrev S1x512x64 : Shape := ⟨3, ![1, 512, 64]⟩
abbrev S8x512x64 : Shape := ⟨3, ![8, 512, 64]⟩

abbrev nBuf : Space → Nat
  | .hbm => 15
  | .vmem => 12
  | .smem => 0
  | _ => 0

abbrev bufTy : (tb : Table) → Fin (tcTables nBuf tb) → BufTy
  | .hbm, ⟨0, _⟩ => ⟨S32x16x1024, .f32⟩
  | .hbm, ⟨1, _⟩ => ⟨S2x1024, .f32⟩
  | .hbm, ⟨2, _⟩ => ⟨S1x1024x2560, .f32⟩
  | .hbm, ⟨3, _⟩ => ⟨S512x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024x2560, .f32⟩
  | .hbm, ⟨8, _⟩ => ⟨S1024x2560, .bf16⟩
  | .hbm, ⟨9, _⟩ => ⟨S512x512, .bf16⟩
  | .hbm, ⟨10, _⟩ => ⟨S512x512, .bf16⟩
  | .hbm, ⟨11, _⟩ => ⟨S512x512, .bf16⟩
  | .hbm, ⟨12, _⟩ => ⟨S512x8x64, .f32⟩
  | .hbm, ⟨13, _⟩ => ⟨S512x8x64, .f32⟩
  | .hbm, ⟨14, _⟩ => ⟨S512x512, .f32⟩
  | .local _ .vmem, ⟨0, _⟩ => ⟨S512x1024, .f32⟩
  | .local _ .vmem, ⟨1, _⟩ => ⟨S1x1024, .f32⟩
  | .local _ .vmem, ⟨2, _⟩ => ⟨S1024x2560, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x8x64, .f32⟩
  | .local _ .vmem, ⟨7, _⟩ => ⟨S512x8x64, .f32⟩
  | .local _ .vmem, ⟨8, _⟩ => ⟨S512x512, .f32⟩
  | .local _ .vmem, ⟨9, _⟩ => ⟨S512x1024, .bf16⟩
  | .local _ .vmem, ⟨10, _⟩ => ⟨S512x512, .f32⟩
  | .local _ .vmem, ⟨11, _⟩ => ⟨S512x512, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev main_v6_4 : Ref sig .tc := ⟨.hbm, 13, rfl⟩
abbrev main_v6_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AbSampleRefIdeal.lean ====
abbrev S32x16x1024 : Shape := ⟨3, ![32, 16, 1024]⟩
abbrev S2x1024 : Shape := ⟨2, ![2, 1024]⟩
abbrev S1x1024x2560 : Shape := ⟨3, ![1, 1024, 2560]⟩
abbrev S1x1024 : Shape := ⟨2, ![1, 1024]⟩
abbrev S1024 : Shape := ⟨1, ![1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩
abbrev S1024x2560 : Shape := ⟨2, ![1024, 2560]⟩
abbrev S32x16x2560 : Shape := ⟨3, ![32, 16, 2560]⟩
abbrev S32x16x512 : Shape := ⟨3, ![32, 16, 512]⟩
abbrev S512x512 : Shape := ⟨2, ![512, 512]⟩
abbrev S512x8x64 : Shape := ⟨3, ![512, 8, 64]⟩

abbrev nBuf : Space → Nat
  | .hbm => 49
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S2x1024, .f32⟩
  | .hbm, ⟨2, _⟩ => ⟨S1x1024x2560, .f32⟩
  | .hbm, ⟨3, _⟩ => ⟨S1x1024, .f32⟩
  | .hbm, ⟨4, _⟩ => ⟨S1024, .f32⟩
  | .hbm, ⟨5, _⟩ => ⟨S32x16x1024, .f32⟩
  | .hbm, ⟨6, _⟩ => ⟨S_, .f32⟩
  | .hbm, ⟨7, _⟩ => ⟨S32x16, .f32⟩
  | .hbm, ⟨8, _⟩ => ⟨S32x16x1, .f32⟩
  | .hbm, ⟨9, _⟩ => ⟨S_, .f32⟩
  | .hbm, ⟨10, _⟩ => ⟨S32x16x1, .f32⟩
  | .hbm, ⟨11, _⟩ => ⟨S32x16x1, .f32⟩
  | .hbm, ⟨12, _⟩ => ⟨S_, .f32⟩
  | .hbm, ⟨13, _⟩ => ⟨S32x16x1, .f32⟩
  | .hbm, ⟨14, _⟩ => ⟨S32x16x1, .f32⟩
  | .hbm, ⟨15, _⟩ => ⟨S32x16x1, .f32⟩
  | .hbm, ⟨16, _⟩ => ⟨S32x16x1024, .f32⟩
  | .hbm, ⟨17, _⟩ => ⟨S32x16x1024, .f32⟩
  | .hbm, ⟨18, _⟩ => ⟨S1x1x1024, .f32⟩
  | .hbm, ⟨19, _⟩ => ⟨S32x16x1024, .f32⟩
  | .hbm, ⟨20, _⟩ => ⟨S32x16x1024, .f32⟩
  | .hbm, ⟨21, _⟩ => ⟨S1024x2560, .f32⟩
  | .hbm, ⟨22, _⟩ => ⟨S32x16x2560, .f32⟩
  | .hbm, ⟨23, _⟩ => ⟨S32x16x512, .f32⟩
  | .hbm, ⟨24, _⟩ => ⟨S32x16x512, .f32⟩
  | .hbm, ⟨25, _⟩ => ⟨S32x16x512, .f32⟩
  | .hbm, ⟨26, _⟩ => ⟨S32x16x512, .f32⟩
  | .hbm, ⟨27, _⟩ => ⟨S32x16x512, .f32⟩
  | .hbm, ⟨28, _⟩ => ⟨S_, .f32⟩
  | .hbm, ⟨29, _⟩ => ⟨S32x16x512, .f32⟩
  | .hbm, ⟨30, _⟩ => ⟨S32x16x512, .f32⟩
  | .hbm, ⟨31, _⟩ => ⟨S32x16x512, .bf16⟩
  | .hbm, ⟨32, _⟩ => ⟨S512x512, .bf16⟩
  | .hbm, ⟨33, _⟩ => ⟨S32x16x512, .bf16⟩
  | .hbm, ⟨34, _⟩ => ⟨S512x512, .bf16⟩
  | .hbm, ⟨35, _⟩ => ⟨S32x16x512, .bf16⟩
  | .hbm, ⟨36, _⟩ => ⟨S512x512, .bf16⟩
  | .hbm, ⟨37, _⟩ => ⟨S512x8x64, .f32⟩
  | .hbm, ⟨38, _⟩ => ⟨S512x8x64, .f32⟩
  | .hbm, ⟨39, _⟩ => ⟨S32x16x512, .f32⟩
  | .hbm, ⟨40, _⟩ => ⟨S32x16x512, .f32⟩
  | .hbm, ⟨41, _⟩ => ⟨S_, .f32⟩
  | .hbm, ⟨42, _⟩ => ⟨S32x16x512, .f32⟩
  | .hbm, ⟨43, _⟩ => ⟨S32x16x512, .f32⟩
  | .hbm, ⟨44, _⟩ => ⟨S_, .f32⟩
  | .hbm, ⟨45, _⟩ => ⟨S32x16x512, .f32⟩
  | .hbm, ⟨46, _⟩ => ⟨S32x16x512, .f32⟩
  | .hbm, ⟨47, _⟩ => ⟨S32x16x512, .f32⟩
  | .hbm, ⟨48, _⟩ => ⟨S512x512, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== CSample.lean ====
abbrev S512x1024 : Shape := ⟨2, ![512, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S1024x3072 : Shape := ⟨2, ![1024, 3072]⟩
abbrev S512x16x64 : Shape := ⟨3, ![512, 16, 64]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x64 : Shape := ⟨2, ![512, 64]⟩
abbrev S1x512x64 : Shape := ⟨3, ![1, 512, 64]⟩
abbrev S16x512x64 : Shape := ⟨3, ![16, 512, 64]⟩

abbrev nBuf : Space → Nat
  | .hbm => 13
  | .vmem => 11
  | .smem => 0
  | _ => 0

abbrev bufTy : (tb : Table) → Fin (tcTables nBuf tb) → BufTy
  | .hbm, ⟨0, _⟩ => ⟨S512x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1024x3072, .f32⟩
  | .hbm, ⟨7, _⟩ => ⟨S1024x3072, .bf16⟩
  | .hbm, ⟨8, _⟩ => ⟨S512x1024, .bf16⟩
  | .hbm, ⟨9, _⟩ => ⟨S512x1024, .bf16⟩
  | .hbm, ⟨10, _⟩ => ⟨S512x1024, .bf16⟩
  | .hbm, ⟨11, _⟩ => ⟨S512x16x64, .f32⟩
  | .hbm, ⟨12, _⟩ => ⟨S512x16x64, .f32⟩
  | .local _ .vmem, ⟨0, _⟩ => ⟨S512x1024, .f32⟩
  | .local _ .vmem, ⟨1, _⟩ => ⟨S1x1024, .f32⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x16x64, .f32⟩
  | .local _ .vmem, ⟨7, _⟩ => ⟨S512x16x64, .f32⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c1_i32 : BitVec 32 := 1#32
  let v75 : BitVec 32 := Scalar.addi arg0 c1_i32
  let c1_i32_62 : BitVec 32 := 1#32
  let c0_i32 : BitVec 32 := 0#32
  let v76 : BitVec 1 := Scalar.cmpi .eq c1_i32_62 c0_i32
  let c1_i32_63 : BitVec 32 := 1#32
  let v77 : BitVec 32 := Scalar.select v76 c1_i32_63 c1_i32_62
  let v78 : BitVec 32 := Scalar.remsi v75 v77
  let c0_i32_65 : BitVec 32 := 0#32
  let v80 : BitVec 1 := Scalar.cmpi .slt v78 c0_i32_65
  let c0_i32_66 : BitVec 32 := 0#32
  let v81 : BitVec 1 := Scalar.cmpi .slt v77 c0_i32_66
  let v82 : BitVec 1 := Scalar.xori v80 v81
  let c0_i32_64 : BitVec 32 := 0#32
  let v79 : BitVec 1 := Scalar.cmpi .ne v78 c0_i32_64
  let v83 : BitVec 1 := Scalar.andi v82 v79
  let v84 : BitVec 32 := Scalar.addi v78 v77
  let v85 : BitVec 32 := Scalar.select v83 v84 v78
  let c0_i32_67 : BitVec 32 := 0#32
  let v86 : BitVec 1 := Scalar.cmpi .eq v85 c0_i32_67
  let v87 : BitVec 32 := Scalar.extui v86
  let c0_i32_68 : BitVec 32 := 0#32
  let v88 : BitVec 1 := Scalar.cmpi .ne v87 c0_i32_68
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== CSampleRefIdeal.lean ====
abbrev S512x1024 : Shape := ⟨2, ![512, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1024x3072 : Shape := ⟨2, ![1024, 3072]⟩
abbrev S512x3072 : Shape := ⟨2, ![512, 3072]⟩
abbrev S512x16x64 : Shape := ⟨3, ![512, 16, 64]⟩

abbrev nBuf : Space → Nat
  | .hbm => 34
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S2x1024, .f32⟩
  | .hbm, ⟨2, _⟩ => ⟨S1x1024x3072, .f32⟩
  | .hbm, ⟨3, _⟩ => ⟨S1x1024, .f32⟩
  | .hbm, ⟨4, _⟩ => ⟨S1024, .f32⟩
  | .hbm, ⟨5, _⟩ => ⟨S512x1024, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x1024, .f32⟩
  | .hbm, ⟨17, _⟩ => ⟨S512x1024, .f32⟩
  | .hbm, ⟨18, _⟩ => ⟨S1x1024, .f32⟩
  | .hbm, ⟨19, _⟩ => ⟨S512x1024, .f32⟩
  | .hbm, ⟨20, _⟩ => ⟨S512x1024, .f32⟩
  | .hbm, ⟨21, _⟩ => ⟨S1024x3072, .f32⟩
  | .hbm, ⟨22, _⟩ => ⟨S512x3072, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .bf16⟩
  | .hbm, ⟨30, _⟩ => ⟨S512x1024, .bf16⟩
  | .hbm, ⟨31, _⟩ => ⟨S512x1024, .bf16⟩
  | .hbm, ⟨32, _⟩ => ⟨S512x16x64, .f32⟩
  | .hbm, ⟨33, _⟩ => ⟨S512x16x64, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== ConvSample.lean ====
abbrev S32x16x512 : Shape := ⟨3, ![32, 16, 512]⟩
abbrev S1x32x30x512 : Shape := ⟨4, ![1, 32, 30, 512]⟩
abbrev S1x31x512 : Shape := ⟨3, ![1, 31, 512]⟩
abbrev S1x512 : Shape := ⟨2, ![1, 512]⟩
abbrev S31x512 : Shape := ⟨2, ![31, 512]⟩
abbrev S_ : Shape := ⟨0, ![]⟩
abbrev S32x512 : Shape := ⟨2, ![32, 512]⟩
abbrev S32x30x512 : Shape := ⟨3, ![32, 30, 512]⟩
abbrev S32x32x512 : Shape := ⟨3, ![32, 32, 512]⟩
abbrev S512 : Shape := ⟨1, ![512]⟩
abbrev S1x16x512 : Shape := ⟨3, ![1, 16, 512]⟩
abbrev S1x32x512 : Shape := ⟨3, ![1, 32, 512]⟩
abbrev S48x512 : Shape := ⟨2, ![48, 512]⟩
abbrev S7x40x512 : Shape := ⟨3, ![7, 40, 512]⟩
abbrev S16x512 : Shape := ⟨2, ![16, 512]⟩
abbrev S40x512 : Shape := ⟨2, ![40, 512]⟩
abbrev S1x40x512 : Shape := ⟨3, ![1, 40, 512]⟩
abbrev S16 : Shape := ⟨1, ![16]⟩
abbrev S16x1 : Shape := ⟨2, ![16, 1]⟩

abbrev nBuf : Space → Nat
  | .hbm => 21
  | .vmem => 12
  | .smem => 0
  | _ => 0

abbrev bufTy : (tb : Table) → Fin (tcTables nBuf tb) → BufTy
  | .hbm, ⟨0, _⟩ => ⟨S32x16x512, .f32⟩
  | .hbm, ⟨1, _⟩ => ⟨S1x32x30x512, .f32⟩
  | .hbm, ⟨2, _⟩ => ⟨S1x31x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S31x512, .f32⟩
  | .hbm, ⟨7, _⟩ => ⟨S_, .i32⟩
  | .hbm, ⟨8, _⟩ => ⟨S_, .f32⟩
  | .hbm, ⟨9, _⟩ => ⟨S32x512, .f32⟩
  | .hbm, ⟨10, _⟩ => ⟨S32x30x512, .f32⟩
  | .hbm, ⟨11, _⟩ => ⟨S_, .i32⟩
  | .hbm, ⟨12, _⟩ => ⟨S_, .f32⟩
  | .hbm, ⟨13, _⟩ => ⟨S32x32x512, .f32⟩
  | .hbm, ⟨14, _⟩ => ⟨S512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S32x16x512, .bf16⟩
  | .local _ .vmem, ⟨0, _⟩ => ⟨S1x16x512, .f32⟩
  | .local _ .vmem, ⟨1, _⟩ => ⟨S1x16x512, .f32⟩
  | .local _ .vmem, ⟨2, _⟩ => ⟨S1x32x512, .f32⟩
  | .local _ .vmem, ⟨3, _⟩ => ⟨S1x32x512, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x16x512, .bf16⟩
  | .local _ .vmem, ⟨9, _⟩ => ⟨S1x16x512, .bf16⟩
  | .local _ .vmem, ⟨10, _⟩ => ⟨S48x512, .f32⟩
  | .local _ .vmem, ⟨11, _⟩ => ⟨S7x40x512, .f32⟩
  | _, _ => ⟨S32x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvSampleRefIdeal.lean ====
abbrev S32x16x512 : Shape := ⟨3, ![32, 16, 512]⟩
abbrev S1x32x30x512 : Shape := ⟨4, ![1, 32, 30, 512]⟩
abbrev S1x31x512 : Shape := ⟨3, ![1, 31, 512]⟩
abbrev S1x512 : Shape := ⟨2, ![1, 512]⟩
abbrev S32x30x512 : Shape := ⟨3, ![32, 30, 512]⟩
abbrev S32x46x512 : Shape := ⟨3, ![32, 46, 512]⟩
abbrev S1x1x512 : Shape := ⟨3, ![1, 1, 512]⟩
abbrev S512 : Shape := ⟨1, ![512]⟩
abbrev S_ : Shape := ⟨0, ![]⟩
abbrev S32x16 : Shape := ⟨2, ![32, 16]⟩
abbrev S32x16x1 : Shape := ⟨3, ![32, 16, 1]⟩

abbrev nBuf : Space → Nat
  | .hbm => 269
  | .vmem => 0
  | .smem => 0
  | _ => 0

abbrev hbmTy0_0 (i : Nat) : BufTy := match i % 128 with
  | 0 => ⟨S32x16x512, .f32⟩
  | 1 => ⟨S1x32x30x512, .f32⟩
  | 2 => ⟨S1x31x512, .f32⟩
  | 3 => ⟨S1x512, .f32⟩
  | 4 => ⟨S1x512, .f32⟩
  | 5 => ⟨S1x512, .f32⟩
  | 6 => ⟨S32x30x512, .f32⟩
  | 7 => ⟨S32x46x512, .f32⟩
  | 8 => ⟨S32x16x512, .f32⟩
  | 9 => ⟨S1x1x512, .f32⟩
  | 10 => ⟨S512, .f32⟩
  | 11 => ⟨S1x1x512, .f32⟩
  | 12 => ⟨S32x16x512, .f32⟩
  | 13 => ⟨S32x16x512, .f32⟩
  | 14 => ⟨S32x16x512, .f32⟩
  | 15 => ⟨S1x1x512, .f32⟩
  | 16 => ⟨S512, .f32⟩
  | 17 => ⟨S1x1x512, .f32⟩
  | 18 => ⟨S32x16x512, .f32⟩
  | 19 => ⟨S32x16x512, .f32⟩
  | 20 => ⟨S32x16x512, .f32⟩
  | 21 => ⟨S32x16x512, .f32⟩
  | 22 => ⟨S1x1x512, .f32⟩
  | 23 => ⟨S512, .f32⟩
  | 24 => ⟨S1x1x512, .f32⟩
  | 25 => ⟨S32x16x512, .f32⟩
  | 26 => ⟨S32x16x512, .f32⟩
  | 27 => ⟨S32x16x512, .f32⟩
  | 28 => ⟨S32x16x512, .f32⟩
  | 29 => ⟨S1x1x512, .f32⟩
  | 30 => ⟨S512, .f32⟩
  | 31 => ⟨S1x1x512, .f32⟩
  | 32 => ⟨S32x16x512, .f32⟩
  | 33 => ⟨S32x16x512, .f32⟩
  | 34 => ⟨S32x16x512, .f32⟩
  | 35 => ⟨S32x16x512, .f32⟩
  | 36 => ⟨S1x1x512, .f32⟩
  | 37 => ⟨S512, .f32⟩
  | 38 => ⟨S1x1x512, .f32⟩
  | 39 => ⟨S32x16x512, .f32⟩
  | 40 => ⟨S32x16x512, .f32⟩
  | 41 => ⟨S32x16x512, .f32⟩
  | 42 => ⟨S32x16x512, .f32⟩
  | 43 => ⟨S1x1x512, .f32⟩
  | 44 => ⟨S512, .f32⟩
  | 45 => ⟨S1x1x512, .f32⟩
  | 46 => ⟨S32x16x512, .f32⟩
  | 47 => ⟨S32x16x512, .f32⟩
  | 48 => ⟨S32x16x512, .f32⟩
  | 49 => ⟨S32x16x512, .f32⟩
  | 50 => ⟨S1x1x512, .f32⟩
  | 51 => ⟨S512, .f32⟩
  | 52 => ⟨S1x1x512, .f32⟩
  | 53 => ⟨S32x16x512, .f32⟩
  | 54 => ⟨S32x16x512, .f32⟩
  | 55 => ⟨S32x16x512, .f32⟩
  | 56 => ⟨S32x16x512, .f32⟩
  | 57 => ⟨S1x1x512, .f32⟩
  | 58 => ⟨S512, .f32⟩
  | 59 => ⟨S1x1x512, .f32⟩
  | 60 => ⟨S32x16x512, .f32⟩
  | 61 => ⟨S32x16x512, .f32⟩
  | 62 => ⟨S32x16x512, .f32⟩
  | 63 => ⟨S32x16x512, .f32⟩
  | 64 => ⟨S1x1x512, .f32⟩
  | 65 => ⟨S512, .f32⟩
  | 66 => ⟨S1x1x512, .f32⟩
  | 67 => ⟨S32x16x512, .f32⟩
  | 68 => ⟨S32x16x512, .f32⟩
  | 69 => ⟨S32x16x512, .f32⟩
  | 70 => ⟨S32x16x512, .f32⟩
  | 71 => ⟨S1x1x512, .f32⟩
  | 72 => ⟨S512, .f32⟩
  | 73 => ⟨S1x1x512, .f32⟩
  | 74 => ⟨S32x16x512, .f32⟩
  | 75 => ⟨S32x16x512, .f32⟩
  | 76 => ⟨S32x16x512, .f32⟩
  | 77 => ⟨S32x16x512, .f32⟩
  | 78 => ⟨S1x1x512, .f32⟩
  | 79 => ⟨S512, .f32⟩
  | 80 => ⟨S1x1x512, .f32⟩
  | 81 => ⟨S32x16x512, .f32⟩
  | 82 => ⟨S32x16x512, .f32⟩
  | 83 => ⟨S32x16x512, .f32⟩
  | 84 => ⟨S32x16x512, .f32⟩
  | 85 => ⟨S1x1x512, .f32⟩
  | 86 => ⟨S512, .f32⟩
  | 87 => ⟨S1x1x512, .f32⟩
  | 88 => ⟨S32x16x512, .f32⟩
  | 89 => ⟨S32x16x512, .f32⟩
  | 90 => ⟨S32x16x512, .f32⟩
  | 91 => ⟨S32x16x512, .f32⟩
  | 92 => ⟨S1x1x512, .f32⟩
  | 93 => ⟨S512, .f32⟩
  | 94 => ⟨S1x1x512, .f32⟩
  | 95 => ⟨S32x16x512, .f32⟩
  | 96 => ⟨S32x16x512, .f32⟩
  | 97 => ⟨S32x16x512, .f32⟩
  | 98 => ⟨S32x16x512, .f32⟩
  | 99 => ⟨S1x1x512, .f32⟩
  | 100 => ⟨S512, .f32⟩
  | 101 => ⟨S1x1x512, .f32⟩
  | 102 => ⟨S32x16x512, .f32⟩
  | 103 => ⟨S32x16x512, .f32⟩
  | 104 => ⟨S32x16x512, .f32⟩
  | 105 => ⟨S32x16x512, .f32⟩
  | 106 => ⟨S1x1x512, .f32⟩
  | 107 => ⟨S512, .f32⟩
  | 108 => ⟨S1x1x512, .f32⟩
  | 109 => ⟨S32x16x512, .f32⟩
  | 110 => ⟨S32x16x512, .f32⟩
  | 111 => ⟨S32x16x512, .f32⟩
  | 112 => ⟨S32x16x512, .f32⟩
  | 113 => ⟨S1x1x512, .f32⟩
  | 114 => ⟨S512, .f32⟩
  | 115 => ⟨S1x1x512, .f32⟩
  | 116 => ⟨S32x16x512, .f32⟩
  | 117 => ⟨S32x16x512, .f32⟩
  | 118 => ⟨S32x16x512, .f32⟩
  | 119 => ⟨S32x16x512, .f32⟩
  | 120 => ⟨S1x1x512, .f32⟩
  | 121 => ⟨S512, .f32⟩
  | 122 => ⟨S1x1x512, .f32⟩
  | 123 => ⟨S32x16x512, .f32⟩
  | 124 => ⟨S32x16x512, .f32⟩
  | 125 => ⟨S32x16x512, .f32⟩
  | 126 => ⟨S32x16x512, .f32⟩
  | 127 => ⟨S1x1x512, .f32⟩
  | _ => ⟨S32x16x512, .f32⟩

abbrev hbmTy0_1 (i : Nat) : BufTy := match i % 128 with
  | 0 => ⟨S512, .f32⟩
  | 1 => ⟨S1x1x512, .f32⟩
  | 2 => ⟨S32x16x512, .f32⟩
  | 3 => ⟨S32x16x512, .f32⟩
  | 4 => ⟨S32x16x512, .f32⟩
  | 5 => ⟨S32x16x512, .f32⟩
  | 6 => ⟨S1x1x512, .f32⟩
  | 7 => ⟨S512, .f32⟩
  | 8 => ⟨S1x1x512, .f32⟩
  | 9 => ⟨S32x16x512, .f32⟩
  | 10 => ⟨S32x16x512, .f32⟩
  | 11 => ⟨S32x16x512, .f32⟩
  | 12 => ⟨S32x16x512, .f32⟩
  | 13 => ⟨S1x1x512, .f32⟩
  | 14 => ⟨S512, .f32⟩
  | 15 => ⟨S1x1x512, .f32⟩
  | 16 => ⟨S32x16x512, .f32⟩
  | 17 => ⟨S32x16x512, .f32⟩
  | 18 => ⟨S32x16x512, .f32⟩
  | 19 => ⟨S32x16x512, .f32⟩
  | 20 => ⟨S1x1x512, .f32⟩
  | 21 => ⟨S512, .f32⟩
  | 22 => ⟨S1x1x512, .f32⟩
  | 23 => ⟨S32x16x512, .f32⟩
  | 24 => ⟨S32x16x512, .f32⟩
  | 25 => ⟨S32x16x512, .f32⟩
  | 26 => ⟨S32x16x512, .f32⟩
  | 27 => ⟨S1x1x512, .f32⟩
  | 28 => ⟨S512, .f32⟩
  | 29 => ⟨S1x1x512, .f32⟩
  | 30 => ⟨S32x16x512, .f32⟩
  | 31 => ⟨S32x16x512, .f32⟩
  | 32 => ⟨S32x16x512, .f32⟩
  | 33 => ⟨S32x16x512, .f32⟩
  | 34 => ⟨S1x1x512, .f32⟩
  | 35 => ⟨S512, .f32⟩
  | 36 => ⟨S1x1x512, .f32⟩
  | 37 => ⟨S32x16x512, .f32⟩
  | 38 => ⟨S32x16x512, .f32⟩
  | 39 => ⟨S32x16x512, .f32⟩
  | 40 => ⟨S32x16x512, .f32⟩
  | 41 => ⟨S1x1x512, .f32⟩
  | 42 => ⟨S512, .f32⟩
  | 43 => ⟨S1x1x512, .f32⟩
  | 44 => ⟨S32x16x512, .f32⟩
  | 45 => ⟨S32x16x512, .f32⟩
  | 46 => ⟨S32x16x512, .f32⟩
  | 47 => ⟨S32x16x512, .f32⟩
  | 48 => ⟨S1x1x512, .f32⟩
  | 49 => ⟨S512, .f32⟩
  | 50 => ⟨S1x1x512, .f32⟩
  | 51 => ⟨S32x16x512, .f32⟩
  | 52 => ⟨S32x16x512, .f32⟩
  | 53 => ⟨S32x16x512, .f32⟩
  | 54 => ⟨S32x16x512, .f32⟩
  | 55 => ⟨S1x1x512, .f32⟩
  | 56 => ⟨S512, .f32⟩
  | 57 => ⟨S1x1x512, .f32⟩
  | 58 => ⟨S32x16x512, .f32⟩
  | 59 => ⟨S32x16x512, .f32⟩
  | 60 => ⟨S32x16x512, .f32⟩
  | 61 => ⟨S32x16x512, .f32⟩
  | 62 => ⟨S1x1x512, .f32⟩
  | 63 => ⟨S512, .f32⟩
  | 64 => ⟨S1x1x512, .f32⟩
  | 65 => ⟨S32x16x512, .f32⟩
  | 66 => ⟨S32x16x512, .f32⟩
  | 67 => ⟨S32x16x512, .f32⟩
  | 68 => ⟨S32x16x512, .f32⟩
  | 69 => ⟨S1x1x512, .f32⟩
  | 70 => ⟨S512, .f32⟩
  | 71 => ⟨S1x1x512, .f32⟩
  | 72 => ⟨S32x16x512, .f32⟩
  | 73 => ⟨S32x16x512, .f32⟩
  | 74 => ⟨S32x16x512, .f32⟩
  | 75 => ⟨S32x16x512, .f32⟩
  | 76 => ⟨S1x1x512, .f32⟩
  | 77 => ⟨S512, .f32⟩
  | 78 => ⟨S1x1x512, .f32⟩
  | 79 => ⟨S32x16x512, .f32⟩
  | 80 => ⟨S32x16x512, .f32⟩
  | 81 => ⟨S32x16x512, .f32⟩
  | 82 => ⟨S32x16x512, .f32⟩
  | 83 => ⟨S1x1x512, .f32⟩
  | 84 => ⟨S512, .f32⟩
  | 85 => ⟨S1x1x512, .f32⟩
  | 86 => ⟨S32x16x512, .f32⟩
  | 87 => ⟨S32x16x512, .f32⟩
  | 88 => ⟨S32x16x512, .f32⟩
  | 89 => ⟨S32x16x512, .f32⟩
  | 90 => ⟨S1x1x512, .f32⟩
  | 91 => ⟨S512, .f32⟩
  | 92 => ⟨S1x1x512, .f32⟩
  | 93 => ⟨S32x16x512, .f32⟩
  | 94 => ⟨S32x16x512, .f32⟩
  | 95 => ⟨S32x16x512, .f32⟩
  | 96 => ⟨S512, .f32⟩
  | 97 => ⟨S1x1x512, .f32⟩
  | 98 => ⟨S32x16x512, .f32⟩
  | 99 => ⟨S32x16x512, .f32⟩
  | 100 => ⟨S512, .f32⟩
  | 101 => ⟨S512, .f32⟩
  | 102 => ⟨S_, .f32⟩
  | 103 => ⟨S32x16, .f32⟩
  | 104 => ⟨S32x16x1, .f32⟩
  | 105 => ⟨S_, .f32⟩
  | 106 => ⟨S32x16x1, .f32⟩
  | 107 => ⟨S32x16x1, .f32⟩
  | 108 => ⟨S32x16x512, .f32⟩
  | 109 => ⟨S32x16x512, .f32⟩
  | 110 => ⟨S32x16x512, .f32⟩
  | 111 => ⟨S_, .f32⟩
  | 112 => ⟨S32x16, .f32⟩
  | 113 => ⟨S32x16x1, .f32⟩
  | 114 => ⟨S_, .f32⟩
  | 115 => ⟨S32x16x1, .f32⟩
  | 116 => ⟨S32x16x1, .f32⟩
  | 117 => ⟨S32x16x512, .f32⟩
  | 118 => ⟨S32x16x512, .f32⟩
  | 119 => ⟨S_, .f32⟩
  | 120 => ⟨S32x16x1, .f32⟩
  | 121 => ⟨S32x16x1, .f32⟩
  | 122 => ⟨S32x16x1, .f32⟩
  | 123 => ⟨S32x16x512, .f32⟩
  | 124 => ⟨S32x16x512, .f32⟩
  | 125 => ⟨S1x1x512, .f32⟩
  | 126 => ⟨S32x16x512, .f32⟩
  | 127 => ⟨S32x16x512, .f32⟩
  | _ => ⟨S32x16x512, .f32⟩

abbrev hbmTy0_2 (i : Nat) : BufTy := match i % 128 with
  | 0 => ⟨S1x1x512, .f32⟩
  | 1 => ⟨S32x16x512, .f32⟩
  | 2 => ⟨S32x16x512, .f32⟩
  | 3 => ⟨S32x16x512, .f32⟩
  | 4 => ⟨S32x16x512, .f32⟩
  | 5 => ⟨S_, .f32⟩
  | 6 => ⟨S32x16x512, .f32⟩
  | 7 => ⟨S32x16x512, .f32⟩
  | 8 => ⟨S_, .f32⟩
  | 9 => ⟨S32x16x512, .f32⟩
  | 10 => ⟨S32x16x512, .f32⟩
  | 11 => ⟨S32x16x512, .f32⟩
  | 12 => ⟨S32x16x512, .bf16⟩
  | _ => ⟨S32x16x512, .f32⟩

abbrev hbmTy (i : Nat) : BufTy := match i / 128 with
  | 0 => hbmTy0_0 i
  | 1 => hbmTy0_1 i
  | 2 => hbmTy0_2 i
  | _ => ⟨S32x16x512, .f32⟩

abbrev bufTy : (tb : Table) → Fin (tcTables nBuf tb) → BufTy
  | .hbm, ⟨i, _⟩ => hbmTy i
  | _, _ => ⟨S32x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_cst : Ref sig .tc := ⟨.hbm, 230, rfl⟩
abbrev main_v224 : Ref sig .tc := ⟨.hbm, 231, rfl⟩
abbrev main_v225 : Ref sig .tc := ⟨.hbm, 232, rfl⟩
abbrev main_cst_0 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_cst_1 : Ref sig .tc := ⟨.hbm, 239, rfl⟩
abbrev main_v231 : Ref sig .tc := ⟨.hbm, 240, rfl⟩
abbrev main_v232 : Ref sig .tc := ⟨.hbm, 241, rfl⟩
abbrev main_cst_2 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_cst_3 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_call0_v0 : Ref sig .tc := ⟨.hbm, 259, rfl⟩
abbrev main_call0_v1 : Ref sig .tc := ⟨.hbm, 260, rfl⟩
abbrev main_call0_cst : Ref sig .tc := ⟨.hbm, 261, rfl⟩
abbrev main_call0_v2 : Ref sig .tc := ⟨.hbm, 262, rfl⟩
abbrev main_call0_v3 : Ref sig .tc := ⟨.hbm, 263, rfl⟩
abbrev main_call0_cst_0 : Ref sig .tc := ⟨.hbm, 264, rfl⟩
abbrev main_call0_v4 : Ref sig .tc := ⟨.hbm, 265, rfl⟩
abbrev main_call0_v5 : Ref sig .tc := ⟨.hbm, 266, rfl⟩
abbrev main_v248 : Ref sig .tc := ⟨.hbm, 267, rfl⟩
abbrev main_v249 : Ref sig .tc := ⟨.hbm, 268, rfl⟩

abbrev nD : Nat := 1
abbrev τ : Topo := Topo.v7x

variable {F : FTy → Type} [FloatOps F]
-- ==== Proof.SbPromptIdealRunEven.lean ====
/-
  The run of the stick-breaking attention's grid step on whole staging buffers: what it stores into the result's block,
  in each of the two cases of its last branch (an odd number of earlier key blocks, an even number).
-/
module

public import proofs.«01_k».proof.Proof.Gen.SbPromptIdeal.Frame
public import proofs.«01_k».proof.Proof.Gen.SbPromptIdeal.Loops

@[expose] public section

set_option maxRecDepth 16384

noncomputable section

namespace Cert.SbPromptIdeal.Hand

open Cert.SbPromptIdeal Cert.SbPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The pieces the step stores into the result's block, with the proof that it stores them (an even number of earlier key blocks). -/
noncomputable def runEven (c : Dev nD) (i : grid0.Coords) (arg3 : Memref sig .tc .vmem S1x256x512 .bf16) (harg3 : arg3.IsWhole)
    (arg4 : Memref sig .tc .vmem S1x512x2048 .bf16) (harg4 : arg4.IsWhole) (arg5 : Memref sig .tc .vmem S1x512x2048 .bf16) (harg5 : arg5.IsWhole)
    (arg6 : Memref sig .tc .vmem S1x256x512 .bf16) (harg6 : arg6.IsWhole) (hc : ¬ k0_cond1 i = 1#1)
    (x0 : Vec F S1x256x512 .bf16) (x1 x2 : Vec F S1x512x2048 .bf16) :
    { L : List (View.Piece (Elt F) S1x256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0_sb_attn_prompt i arg3 harg3 arg4 harg4 arg5 harg5 arg6 harg6) K } := by
  refine ⟨?_, fun E K => ?run⟩
  case run =>
    simp only [cc0_sb_attn_prompt_eq_skeleton]; unfold cc0_sb_attn_prompt_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.SbPromptIdeal.Hand

end
-- ==== Proof.SbPromptIdealRunOdd.lean ====
/-
  The run of the stick-breaking attention's grid step on whole staging buffers: what it stores into the result's block,
  in each of the two cases of its last branch (an odd number of earlier key blocks, an even number).
-/
module

public import proofs.«01_k».proof.Proof.Gen.SbPromptIdeal.Frame
public import proofs.«01_k».proof.Proof.Gen.SbPromptIdeal.Loops

@[expose] public section

set_option maxRecDepth 16384

noncomputable section

namespace Cert.SbPromptIdeal.Hand

open Cert.SbPromptIdeal Cert.SbPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The pieces the step stores into the result's block, with the proof that it stores them (an odd number of earlier key blocks). -/
noncomputable def runOdd (c : Dev nD) (i : grid0.Coords) (arg3 : Memref sig .tc .vmem S1x256x512 .bf16) (harg3 : arg3.IsWhole)
    (arg4 : Memref sig .tc .vmem S1x512x2048 .bf16) (harg4 : arg4.IsWhole) (arg5 : Memref sig .tc .vmem S1x512x2048 .bf16) (harg5 : arg5.IsWhole)
    (arg6 : Memref sig .tc .vmem S1x256x512 .bf16) (harg6 : arg6.IsWhole) (hc : k0_cond1 i = 1#1)
    (x0 : Vec F S1x256x512 .bf16) (x1 x2 : Vec F S1x512x2048 .bf16) :
    { L : List (View.Piece (Elt F) S1x256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L)) -∗ K ⟨⟩))
          ⊢ wp frame (wpE (defs₀ (F := F)) Variants.none c none) E (cc0_sb_attn_prompt i arg3 harg3 arg4 harg4 arg5 harg5 arg6 harg6) K } := by
  refine ⟨?_, fun E K => ?run⟩
  case run =>
    simp only [cc0_sb_attn_prompt_eq_skeleton]; unfold cc0_sb_attn_prompt_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.SbPromptIdeal.Hand

end
-- ==== Proof.SbPromptIdealFrame.lean ====
/-
  The frame of the stick-breaking attention: the proof data of its one pipeline, the grid step's triple at every point,
  the run of the whole program, and its conclusion that the arguments end unchanged with every semaphore at zero.
-/
module

public import proofs.«01_k».proof.Proof.SbPromptIdealRunEven
public import proofs.«01_k».proof.Proof.SbPromptIdealRunOdd
public import Idealize.ShloMosaic.Lib.Claim

@[expose] public section

set_option maxRecDepth 16384

noncomputable section

namespace Cert.SbPromptIdeal.Hand

open Cert.SbPromptIdeal Cert.SbPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A staging buffer of the result, through which what the step leaves is stated. -/
abbrev VO : View sig .tc .vmem S1x256x512 .bf16 := (Memref.whole cc0_stg3_0 : Memref sig .tc .vmem S1x256x512 .bf16).view
/-- Each window's staging memref at a point, and that it is a whole buffer. -/
abbrev ms0 (t : Fin cfg0.N) : Memref sig .tc .vmem S1x256x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x512 .bf16 := win0_3.stage (cfg0.slots t 3)
abbrev hs3 (t : Fin cfg0.N) : (ms3 t).IsWhole := hstage0_3 ((cfg0.slots t 3).cast nbuf0_3)

section Step

variable (c : Dev nD) (i : grid0.Coords) (arg3 : Memref sig .tc .vmem S1x256x512 .bf16) (harg3 : arg3.IsWhole)
    (arg4 : Memref sig .tc .vmem S1x512x2048 .bf16) (harg4 : arg4.IsWhole) (arg5 : Memref sig .tc .vmem S1x512x2048 .bf16) (harg5 : arg5.IsWhole)
    (arg6 : Memref sig .tc .vmem S1x256x512 .bf16) (harg6 : arg6.IsWhole)
    (x0 : Vec F S1x256x512 .bf16) (x1 x2 : Vec F S1x512x2048 .bf16)

/-- The four stores tile the block. -/
theorem coverEven (hc : ¬ k0_cond1 i = 1#1) (y : S1x256x512.Idx) :
    ∃ pc ∈ (runEven c i arg3 harg3 arg4 harg4 arg5 harg5 arg6 harg6 hc x0 x1 x2).1, y ∈ pc.1.set :=
  View.cover_of_tiledL (runEven c i arg3 harg3 arg4 harg4 arg5 harg5 arg6 harg6 hc x0 x1 x2).1 S1x256x128.size (by sl_kernel_rfl) y

theorem coverOdd (hc : k0_cond1 i = 1#1) (y : S1x256x512.Idx) :
    ∃ pc ∈ (runOdd c i arg3 harg3 arg4 harg4 arg5 harg5 arg6 harg6 hc x0 x1 x2).1, y ∈ pc.1.set :=
  View.cover_of_tiledL (runOdd c i arg3 harg3 arg4 harg4 arg5 harg5 arg6 harg6 hc x0 x1 x2).1 S1x256x128.size (by sl_kernel_rfl) y

/-- What the step leaves in the result's block, in each case. -/
def outEven (hc : ¬ k0_cond1 i = 1#1) : Vec F S1x256x512 .bf16 :=
  VO.read (Elt F) (VO.writes (Elt F) VO.junk (runEven c i arg3 harg3 arg4 harg4 arg5 harg5 arg6 harg6 hc x0 x1 x2).1)

def outOdd (hc : k0_cond1 i = 1#1) : Vec F S1x256x512 .bf16 :=
  VO.read (Elt F) (VO.writes (Elt F) VO.junk (runOdd c i arg3 harg3 arg4 harg4 arg5 harg5 arg6 harg6 hc x0 x1 x2).1)

end Step

/-- What the result's staging buffer holds after the step at point `t`. -/
def outsAt (c : Dev nD) (t : Fin cfg0.N) : Vec F S1x256x512 .bf16 :=
  if hc : k0_cond1 (grid0.coords t) = 1#1 then
    outOdd c (grid0.coords t) (ms0 t) (hs0 t) (ms1 t) (hs1 t) (ms2 t) (hs2 t) (ms3 t) (hs3 t) (iblk m c 0 t) (iblk m c 1 t) (iblk m c 2 t) hc
  else
    outEven c (grid0.coords t) (ms0 t) (hs0 t) (ms1 t) (hs1 t) (ms2 t) (hs2 t) (ms3 t) (hs3 t) (iblk m c 0 t) (iblk m c 1 t) (iblk m c 2 t) hc

/-- The pipeline's proof data on core `c`: the arrays as launched, each input's buffer at its block after the step, the
    result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outsAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the step is entered with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The step at any point: the inputs hold their blocks, so the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  unfold outsAt
  by_cases hc : k0_cond1 (grid0.coords t) = 1#1
  · rw [dif_pos hc]
    unfold outOdd
    iintro ⟨HΦ, Ho, ⟨%d0, H0⟩, ⟨%d1, H1⟩, ⟨%d2, H2⟩, ⟨%d3, H3⟩⟩
    iapply ((runOdd c (grid0.coords t) _ _ _ _ _ _ _ _ hc (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverOdd c _ _ _ _ _ _ _ _ _ _ _ _ hc)
  · rw [dif_neg hc]
    unfold outEven
    iintro ⟨HΦ, Ho, ⟨%d0, H0⟩, ⟨%d1, H1⟩, ⟨%d2, H2⟩, ⟨%d3, H3⟩⟩
    iapply ((runEven c (grid0.coords t) _ _ _ _ _ _ _ _ hc (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverEven c _ _ _ _ _ _ _ _ _ _ _ _ hc)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every weakly fair execution ends, each array at what the proof data give, the semaphores at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.SbPromptIdeal.Hand

end
-- ==== Proof.SbStep.lean ====
/-
  One key block of the stick-breaking attention, on the two heads of a pair stacked along the rows: the running sum of the
  softplus of the scores to the right (`Col`, one number per row) and the weighted sum of the values (`Acc`), before and
  after the block. `stepD` is the block on the diagonal, masked; `stepU` a block wholly to the left of it.
-/
module

public import proofs.«01_k».proof.Proof.SbPromptIdealFrame
public import Idealize.ShloMosaic.Lib.ValueIdx
public import Idealize.ShloMosaic.Lib.WholeRead

@[expose] public section

noncomputable section

namespace Cert.SbPromptIdeal.Hand

open Cert.SbPromptIdeal Cert.SbPromptIdeal.Gen
open Idealize.ShloMosaic Idealize.ShloMosaic.ValueIdx

variable {F : FTy → Type} [FloatOps F] [Named F]

/-- One number per row of the two stacked heads: the sum carried from the blocks to the right. -/
abbrev Col (F : FTy → Type) := FVec F S512x1 .f32
/-- The weighted values of the two heads, side by side on the lanes. -/
abbrev Acc (F : FTy → Type) := FVec F S256x128 .f32

/-- A block of 128 rows and 256 columns of the transposed keys or values: pair `p`, key block `j`. -/
def blk (x : Vec F S1x512x2048 .bf16) (p j : ℕ) : FVec F S128x256 .bf16 := fun y =>
  x (ix3 (0 : Fin 1) (⟨min (128 * p + (y 0).val) 511, by omega⟩ : Fin 512) (⟨min (256 * j + (y 1).val) 2047, by omega⟩ : Fin 2048))

/-- The queries of pair `p`, the two heads stacked along the rows, each with the other head's lanes zeroed. -/
def qOf (x : Vec F S1x256x512 .bf16) (p : ℕ) : FVec F S512x128 .bf16 :=
  k0_pay136 (fun y => x (ix3 (0 : Fin 1) (⟨min (y 1).val 255, by omega⟩ : Fin 256) (⟨min (128 * p + (y 2).val) 511, by omega⟩ : Fin 512)))

/-- The scores of a block. -/
def scores (q : FVec F S512x128 .bf16) (k : FVec F S128x256 .bf16) : FVec F S512x256 .f32 := k0_pay16 q k

/-- The softplus of the scores. -/
def soft (z : FVec F S512x256 .f32) : FVec F S512x256 .f32 :=
  addf (maximumf z (broadcast S512x256 (Scalar.ofBits .f32 0x00000000#32)))
    (log (addf (broadcast S512x256 (Scalar.ofBits .f32 0x3F800000#32))
      (exp2 (mulf (absf z) (broadcast S512x256 (Named.named κ "neg_log2e" 0xBFB8AA3B#32))))))

/-- The sums from each key of a block to the block's last key, by a product with a triangle of ones. -/
def cums (sp : FVec F S512x256 .f32) : FVec F S512x256 .f32 := k0_pay157 k0_pay132 sp (truncf .bf16 sp bitsLt_bf16_f32)

/-- The weights: the exponential of the score less the sums to the right, in this block and in the later ones. -/
def wts (z c : FVec F S512x256 .f32) (carry : Col F) : FVec F S512x256 .f32 := k0_pay160 carry z c

/-- A block masked at and above the diagonal. -/
def masked (z : FVec F S512x256 .f32) : FVec F S512x256 .f32 :=
  select k0_pay133 z (broadcast S512x256 (Scalar.ofBits .f32 0x00000000#32))

/-- The weighted values of a block added to those so far. -/
def mixed (w : FVec F S512x256 .f32) (v : FVec F S128x256 .bf16) (acc : Acc F) : Acc F :=
  k0_pay52 k0_pay135 acc v
    (concatenate S256x512 1 [⟨S256x256, extractStridedSlice S256x256 ![0, 0] (truncf .bf16 w bitsLt_bf16_f32) slices_S512x256_o0_0_S256x256⟩,
      ⟨S256x256, extractStridedSlice S256x256 ![256, 0] (truncf .bf16 w bitsLt_bf16_f32) slices_S512x256_o256_0_S256x256⟩]
      concatenates_S256x256_S256x256_S256x512_d1) k0_pay51

/-- A block left of the diagonal. -/
def stepU (q : FVec F S512x128 .bf16) (k v : FVec F S128x256 .bf16) (s : Col F × Acc F) : Col F × Acc F :=
  (k0_pay41 s.1 (cums (soft (scores q k))), mixed (wts (scores q k) (cums (soft (scores q k))) s.1) v s.2)

/-- The block on the diagonal. -/
def stepD (q : FVec F S512x128 .bf16) (k v : FVec F S128x256 .bf16) (s : Col F × Acc F) : Col F × Acc F :=
  (k0_pay41 s.1 (cums (masked (soft (scores q k)))), mixed (masked (wts (scores q k) (cums (masked (soft (scores q k)))) s.1)) v s.2)

/-- The four pairs' sums, in the order in which the step carries them. -/
abbrev St (F : FTy → Type) := FVec F S512x1 .f32 × FVec F S256x128 .f32 × FVec F S512x1 .f32 × FVec F S256x128 .f32 × FVec F S512x1 .f32 × FVec F S256x128 .f32
  × FVec F S512x1 .f32 × FVec F S256x128 .f32

/-- Four pairs as one state. -/
def pack (f : ℕ → Col F × Acc F) : St F := ((f 0).1, (f 0).2, (f 1).1, (f 1).2, (f 2).1, (f 2).2, (f 3).1, (f 3).2)

/-- One state as four pairs. -/
def unpack (s : St F) (p : ℕ) : Col F × Acc F :=
  if p = 0 then (s.1, s.2.1) else if p = 1 then (s.2.2.1, s.2.2.2.1) else if p = 2 then (s.2.2.2.2.1, s.2.2.2.2.2.1)
  else (s.2.2.2.2.2.2.1, s.2.2.2.2.2.2.2)

theorem unpack_pack (f : ℕ → Col F × Acc F) (p : ℕ) (hp : p < 4) : unpack (pack f) p = f p := by
  obtain rfl | rfl | rfl | rfl : p = 0 ∨ p = 1 ∨ p = 2 ∨ p = 3 := by omega
  all_goals rfl

/-- The key block `j` for the four pairs. -/
def quadU (q : ℕ → FVec F S512x128 .bf16) (x1 x2 : Vec F S1x512x2048 .bf16) (j : ℕ) (f : ℕ → Col F × Acc F) : ℕ → Col F × Acc F :=
  fun p => stepU (q p) (blk x1 p j) (blk x2 p j) (f p)

end Cert.SbPromptIdeal.Hand

end
-- ==== Proof.SbRun.lean ====
/-
  The stick-breaking attention's grid step read as key blocks: the loop's trip is two blocks for each pair, and what the
  step stores is the last state's weighted values.
-/
module

public import proofs.«01_k».proof.Proof.SbStep
public import Idealize.ShloMosaic.Lib.ValueLayout

@[expose] public section

set_option maxRecDepth 16384
set_option maxHeartbeats 4000000

noncomputable section

namespace Cert.SbPromptIdeal.Hand

open Cert.SbPromptIdeal Cert.SbPromptIdeal.Gen
open Idealize.ShloMosaic Idealize.ShloMosaic.TcCoe Idealize.ShloMosaic.ValueIdx

variable {F : FTy → Type} [FloatOps F] [Named F]

/-- A load of a block of the transposed keys or values held whole. -/
abbrev ldB (m : Memref sig .tc .vmem S1x512x2048 .bf16) (h : m.IsWhole) (x : Vec F S1x512x2048 .bf16) (off : Fin 3 → ℕ)
    (inb : ∀ a, off a + S1x128x256.size a ≤ S1x512x2048.size a) : FVec F S128x256 .bf16 :=
  shapeCast S128x256 (View.readAt (Elt F) m.view (Rect.unit (s := S1x512x2048) off S1x128x256.size inb).toLoadRect (h.unread x)) shapeCasts_S1x128x256_S128x256

/-- Its entries are the array's. -/
theorem ldB_eq (m : Memref sig .tc .vmem S1x512x2048 .bf16) (h : m.IsWhole) (x : Vec F S1x512x2048 .bf16) (off : Fin 3 → ℕ)
    (inb : ∀ a, off a + S1x128x256.size a ≤ S1x512x2048.size a) (p j : ℕ) (ho : off = ![0, 128 * p, 256 * j]) : ldB m h x off inb = blk x p j := by
  subst ho
  funext y
  have h1 := inb 1
  have h2 := inb 2
  rw [eq_ix2 y]
  refine (shapeCast_1ab_ab_apply _ _ (y 0) (y 1)).trans ((Memref.IsWhole.readAt_unread h x (Rect.unit (s := S1x512x2048) ![0, 128 * p, 256 * j] S1x128x256.size inb).toLoadRect _).trans (congrArg x ?_))
  funext a
  match a with
  | ⟨0, _⟩ => rfl
  | ⟨1, _⟩ => exact Fin.ext (by show 128 * p + 1 * (y 0).val = min (128 * p + (y 0).val) 511; have : (y 0).val < 128 := (y 0).isLt; have : 128 * p + 128 ≤ 512 := h1; omega)
  | ⟨2, _⟩ => exact Fin.ext (by show 256 * j + 1 * (y 1).val = min (256 * j + (y 1).val) 2047; have : (y 1).val < 256 := (y 1).isLt; have : 256 * j + 256 ≤ 2048 := h2; omega)

/-- A load of a pair's queries held whole. -/
abbrev ldQ (m : Memref sig .tc .vmem S1x256x512 .bf16) (h : m.IsWhole) (x : Vec F S1x256x512 .bf16) (off : Fin 3 → ℕ)
    (inb : ∀ a, off a + S1x256x128.size a ≤ S1x256x512.size a) : Vec F S1x256x128 .bf16 :=
  View.readAt (Elt F) m.view (Rect.unit (s := S1x256x512) off S1x256x128.size inb).toLoadRect (h.unread x)

/-- Its entries are the array's. -/
theorem ldQ_eq (m : Memref sig .tc .vmem S1x256x512 .bf16) (h : m.IsWhole) (x : Vec F S1x256x512 .bf16) (off : Fin 3 → ℕ)
    (inb : ∀ a, off a + S1x256x128.size a ≤ S1x256x512.size a) (p : ℕ) (ho : off = ![0, 0, 128 * p]) : k0_pay136 (ldQ m h x off inb) = qOf x p := by
  subst ho
  refine congrArg k0_pay136 (funext fun y => ?_)
  refine (Memref.IsWhole.readAt_unread h x (Rect.unit (s := S1x256x512) ![0, 0, 128 * p] S1x256x128.size inb).toLoadRect y).trans (congrArg x ?_)
  have h2 := inb 2
  funext a
  match a with
  | ⟨0, _⟩ => exact Fin.ext (by show 0 + 1 * (y 0).val = 0; have : (y 0).val < 1 := (y 0).isLt; omega)
  | ⟨1, _⟩ => exact Fin.ext (by show 0 + 1 * (y 1).val = min (y 1).val 255; have : (y 1).val < 256 := (y 1).isLt; omega)
  | ⟨2, _⟩ => exact Fin.ext (by show 128 * p + 1 * (y 2).val = min (128 * p + (y 2).val) 511; have : (y 2).val < 128 := (y 2).isLt; have : 128 * p + 128 ≤ 512 := h2; omega)

/-- Four pairs, given one by one, as one state. -/
abbrev pack4 (s0 s1 s2 s3 : Col F × Acc F) : St F := (s0.1, s0.2, s1.1, s1.2, s2.1, s2.2, s3.1, s3.2)

/-- A trip of the loop is two key blocks for each of the four pairs. -/
theorem trip_loads (c : Dev nD) (i : grid0.Coords) (arg3 : Memref sig .tc .vmem S1x256x512 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x256x512 .bf16) (harg6 : arg6.IsWhole) (arg2 : BitVec 32) (v29 v39 v49 v59 : FVec F S512x128 .bf16) (v177 : FVec F S512x1 .f32) (v187 : FVec F S256x128 .f32) (v201 : FVec F S512x1 .f32) (v211 : FVec F S256x128 .f32) (v225 : FVec F S512x1 .f32) (v235 : FVec F S256x128 .f32) (v249 : FVec F S512x1 .f32) (v259 : FVec F S256x128 .f32) (c2_i32 : BitVec 32) (v260 : BitVec 32) (v265 : BitVec 32) (v270 : BitVec 32) (x1 x2 : Vec F S1x512x2048 .bf16) (k : Fin (k0_t1_loop i).trips) (f : ℕ → Col F × Acc F) :
    tripR_k0_t1 (F := F) Variants.none c none i arg3 harg3 arg4 harg4 arg5 harg5 arg6 harg6 arg2 k0_pay132 k0_pay135 v29 v39 v49 v59 v177 v187 v201 v211 v225 v235 v249 v259 c2_i32 v260 v265 v270 (harg4.unread x1) (harg5.unread x2) k (pack f)
      = pack4 (stepU v29 (ldB arg4 harg4 x1 (k0_off9 i k) (k0_off9_inb i k)) (ldB arg5 harg5 x2 (k0_off9 i k) (k0_off9_inb i k)) (stepU v29 (ldB arg4 harg4 x1 (k0_off5 i k) (k0_off5_inb i k)) (ldB arg5 harg5 x2 (k0_off5 i k) (k0_off5_inb i k)) (f 0)))
        (stepU v39 (ldB arg4 harg4 x1 (k0_off10 i k) (k0_off10_inb i k)) (ldB arg5 harg5 x2 (k0_off10 i k) (k0_off10_inb i k)) (stepU v39 (ldB arg4 harg4 x1 (k0_off6 i k) (k0_off6_inb i k)) (ldB arg5 harg5 x2 (k0_off6 i k) (k0_off6_inb i k)) (f 1)))
        (stepU v49 (ldB arg4 harg4 x1 (k0_off11 i k) (k0_off11_inb i k)) (ldB arg5 harg5 x2 (k0_off11 i k) (k0_off11_inb i k)) (stepU v49 (ldB arg4 harg4 x1 (k0_off7 i k) (k0_off7_inb i k)) (ldB arg5 harg5 x2 (k0_off7 i k) (k0_off7_inb i k)) (f 2)))
        (stepU v59 (ldB arg4 harg4 x1 (k0_off12 i k) (k0_off12_inb i k)) (ldB arg5 harg5 x2 (k0_off12 i k) (k0_off12_inb i k)) (stepU v59 (ldB arg4 harg4 x1 (k0_off8 i k) (k0_off8_inb i k)) (ldB arg5 harg5 x2 (k0_off8 i k) (k0_off8_inb i k)) (f 3))) := by
  unfold tripR_k0_t1 trip_k0_t1
  rfl

theorem trips1 : ∀ i : grid0.Coords, (k0_t1_loop i).trips = (i 2).val / 2 := by decide +kernel
theorem trips2 : ∀ i : grid0.Coords, (k0_t2_loop i).trips = 0 := by decide +kernel
theorem odd_iff : ∀ i : grid0.Coords, k0_cond1 i = 1#1 ↔ (i 2).val % 2 = 1 := by decide +kernel
theorem off5 : ∀ (i : grid0.Coords) (k : Fin (k0_t1_loop i).trips), k0_off5 i k = ![0, 128 * 0, 256 * ((i 2).val - 1 - 2 * k.val)] := by decide +kernel
theorem off6 : ∀ (i : grid0.Coords) (k : Fin (k0_t1_loop i).trips), k0_off6 i k = ![0, 128 * 1, 256 * ((i 2).val - 1 - 2 * k.val)] := by decide +kernel
theorem off7 : ∀ (i : grid0.Coords) (k : Fin (k0_t1_loop i).trips), k0_off7 i k = ![0, 128 * 2, 256 * ((i 2).val - 1 - 2 * k.val)] := by decide +kernel
theorem off8 : ∀ (i : grid0.Coords) (k : Fin (k0_t1_loop i).trips), k0_off8 i k = ![0, 128 * 3, 256 * ((i 2).val - 1 - 2 * k.val)] := by decide +kernel
theorem off9 : ∀ (i : grid0.Coords) (k : Fin (k0_t1_loop i).trips), k0_off9 i k = ![0, 128 * 0, 256 * ((i 2).val - 2 - 2 * k.val)] := by decide +kernel
theorem off10 : ∀ (i : grid0.Coords) (k : Fin (k0_t1_loop i).trips), k0_off10 i k = ![0, 128 * 1, 256 * ((i 2).val - 2 - 2 * k.val)] := by decide +kernel
theorem off11 : ∀ (i : grid0.Coords) (k : Fin (k0_t1_loop i).trips), k0_off11 i k = ![0, 128 * 2, 256 * ((i 2).val - 2 - 2 * k.val)] := by decide +kernel
theorem off12 : ∀ (i : grid0.Coords) (k : Fin (k0_t1_loop i).trips), k0_off12 i k = ![0, 128 * 3, 256 * ((i 2).val - 2 - 2 * k.val)] := by decide +kernel

/-- The step's queries. -/
abbrev qs (x0 : Vec F S1x256x512 .bf16) : ℕ → FVec F S512x128 .bf16 := fun p => qOf x0 p

/-- A trip of the loop is the key blocks `i - 1 - 2 k` and `i - 2 - 2 k`. -/
theorem trip_quad (c : Dev nD) (i : grid0.Coords) (arg3 : Memref sig .tc .vmem S1x256x512 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x256x512 .bf16) (harg6 : arg6.IsWhole) (arg2 : BitVec 32) (q : ℕ → FVec F S512x128 .bf16) (v177 : FVec F S512x1 .f32) (v187 : FVec F S256x128 .f32) (v201 : FVec F S512x1 .f32) (v211 : FVec F S256x128 .f32) (v225 : FVec F S512x1 .f32) (v235 : FVec F S256x128 .f32) (v249 : FVec F S512x1 .f32) (v259 : FVec F S256x128 .f32) (c2_i32 : BitVec 32) (v260 : BitVec 32) (v265 : BitVec 32) (v270 : BitVec 32) (x1 x2 : Vec F S1x512x2048 .bf16) (k : Fin (k0_t1_loop i).trips) (f : ℕ → Col F × Acc F) :
    tripR_k0_t1 (F := F) Variants.none c none i arg3 harg3 arg4 harg4 arg5 harg5 arg6 harg6 arg2 k0_pay132 k0_pay135 (q 0) (q 1) (q 2) (q 3) v177 v187 v201 v211 v225 v235 v249 v259 c2_i32 v260 v265 v270 (harg4.unread x1) (harg5.unread x2) k (pack f)
      = pack (quadU q x1 x2 ((i 2).val - 2 - 2 * k.val) (quadU q x1 x2 ((i 2).val - 1 - 2 * k.val) f)) := by
  rw [trip_loads,
    ldB_eq arg4 harg4 x1 _ _ 0 _ (off5 i k),
    ldB_eq arg4 harg4 x1 _ _ 1 _ (off6 i k),
    ldB_eq arg4 harg4 x1 _ _ 2 _ (off7 i k),
    ldB_eq arg4 harg4 x1 _ _ 3 _ (off8 i k),
    ldB_eq arg4 harg4 x1 _ _ 0 _ (off9 i k),
    ldB_eq arg4 harg4 x1 _ _ 1 _ (off10 i k),
    ldB_eq arg4 harg4 x1 _ _ 2 _ (off11 i k),
    ldB_eq arg4 harg4 x1 _ _ 3 _ (off12 i k),
    ldB_eq arg5 harg5 x2 _ _ 0 _ (off5 i k),
    ldB_eq arg5 harg5 x2 _ _ 1 _ (off6 i k),
    ldB_eq arg5 harg5 x2 _ _ 2 _ (off7 i k),
    ldB_eq arg5 harg5 x2 _ _ 3 _ (off8 i k),
    ldB_eq arg5 harg5 x2 _ _ 0 _ (off9 i k),
    ldB_eq arg5 harg5 x2 _ _ 1 _ (off10 i k),
    ldB_eq arg5 harg5 x2 _ _ 2 _ (off11 i k),
    ldB_eq arg5 harg5 x2 _ _ 3 _ (off12 i k)]
  rfl

/-- The state after the block on the diagonal. -/
def after0 (i : grid0.Coords) (x0 : Vec F S1x256x512 .bf16) (x1 x2 : Vec F S1x512x2048 .bf16) : ℕ → Col F × Acc F :=
  fun p => stepD (qOf x0 p) (blk x1 p (i 2).val) (blk x2 p (i 2).val) (k0_pay140, k0_pay141)

/-- The state after `n` further key blocks, to the left of it. -/
def afterN (i : grid0.Coords) (x0 : Vec F S1x256x512 .bf16) (x1 x2 : Vec F S1x512x2048 .bf16) : ℕ → ℕ → Col F × Acc F
  | 0 => after0 i x0 x1 x2
  | n + 1 => quadU (qs x0) x1 x2 ((i 2).val - 1 - n) (afterN i x0 x1 x2 n)

/-- The state after the loop, with its operands as loaded. -/
abbrev loop1 (c : Dev nD) (i : grid0.Coords) (arg3 : Memref sig .tc .vmem S1x256x512 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x256x512 .bf16) (harg6 : arg6.IsWhole) (x0 : Vec F S1x256x512 .bf16) (x1 x2 : Vec F S1x512x2048 .bf16) (s : St F) (w0 w1 w2 w3 : BitVec 32) (n : ℕ) : St F :=
  st_k0_t1 (F := F) Variants.none c none i arg3 harg3 arg4 harg4 arg5 harg5 arg6 harg6 (BitVec.ofNat 32 (i 2).val) k0_pay132 k0_pay135
    (k0_pay136 (ldQ arg3 harg3 x0 ![0, 0, 0] inb_S1x256x512_S1x256x128_0_0_0)) (k0_pay136 (ldQ arg3 harg3 x0 ![0, 0, 128] inb_S1x256x512_S1x256x128_0_0_128)) (k0_pay136 (ldQ arg3 harg3 x0 ![0, 0, 256] inb_S1x256x512_S1x256x128_0_0_256)) (k0_pay136 (ldQ arg3 harg3 x0 ![0, 0, 384] inb_S1x256x512_S1x256x128_0_0_384)) s.1 s.2.1 s.2.2.1 s.2.2.2.1 s.2.2.2.2.1 s.2.2.2.2.2.1 s.2.2.2.2.2.2.1 s.2.2.2.2.2.2.2 w0 w1 w2 w3 (harg4.unread x1) (harg5.unread x2) s n

/-- The state after the second loop, with its operands as loaded. -/
abbrev loop2 (c : Dev nD) (i : grid0.Coords) (arg3 : Memref sig .tc .vmem S1x256x512 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x256x512 .bf16) (harg6 : arg6.IsWhole) (x0 : Vec F S1x256x512 .bf16) (x1 x2 : Vec F S1x512x2048 .bf16) (s s' : St F) (w0 w1 w2 w3 w4 : BitVec 32) (n : ℕ) : St F :=
  st_k0_t2 (F := F) Variants.none c none i arg3 harg3 arg4 harg4 arg5 harg5 arg6 harg6 (BitVec.ofNat 32 (i 2).val) k0_pay132 k0_pay135
    (k0_pay136 (ldQ arg3 harg3 x0 ![0, 0, 0] inb_S1x256x512_S1x256x128_0_0_0)) (k0_pay136 (ldQ arg3 harg3 x0 ![0, 0, 128] inb_S1x256x512_S1x256x128_0_0_128)) (k0_pay136 (ldQ arg3 harg3 x0 ![0, 0, 256] inb_S1x256x512_S1x256x128_0_0_256)) (k0_pay136 (ldQ arg3 harg3 x0 ![0, 0, 384] inb_S1x256x512_S1x256x128_0_0_384)) s.1 s.2.1 s.2.2.1 s.2.2.2.1 s.2.2.2.2.1 s.2.2.2.2.2.1 s.2.2.2.2.2.2.1 s.2.2.2.2.2.2.2 w0 w1 w2 w3 w4 (harg4.unread x1) (harg5.unread x2) s' n

/-- The diagonal block with its operands as loaded. -/
theorem diag_loads (c : Dev nD) (i : grid0.Coords) (arg3 : Memref sig .tc .vmem S1x256x512 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x256x512 .bf16) (harg6 : arg6.IsWhole) (x0 : Vec F S1x256x512 .bf16) (x1 x2 : Vec F S1x512x2048 .bf16) : (pack4 (stepD (k0_pay136 (ldQ arg3 harg3 x0 ![0, 0, 0] inb_S1x256x512_S1x256x128_0_0_0)) (ldB arg4 harg4 x1 (k0_off1 i) (k0_off1_inb i)) (ldB arg5 harg5 x2 (k0_off1 i) (k0_off1_inb i)) (k0_pay140, k0_pay141)) (stepD (k0_pay136 (ldQ arg3 harg3 x0 ![0, 0, 128] inb_S1x256x512_S1x256x128_0_0_128)) (ldB arg4 harg4 x1 (k0_off2 i) (k0_off2_inb i)) (ldB arg5 harg5 x2 (k0_off2 i) (k0_off2_inb i)) (k0_pay140, k0_pay141)) (stepD (k0_pay136 (ldQ arg3 harg3 x0 ![0, 0, 256] inb_S1x256x512_S1x256x128_0_0_256)) (ldB arg4 harg4 x1 (k0_off3 i) (k0_off3_inb i)) (ldB arg5 harg5 x2 (k0_off3 i) (k0_off3_inb i)) (k0_pay140, k0_pay141)) (stepD (k0_pay136 (ldQ arg3 harg3 x0 ![0, 0, 384] inb_S1x256x512_S1x256x128_0_0_384)) (ldB arg4 harg4 x1 (k0_off4 i) (k0_off4_inb i)) (ldB arg5 harg5 x2 (k0_off4 i) (k0_off4_inb i)) (k0_pay140, k0_pay141))) = pack (after0 i x0 x1 x2) := by
  rw [ldQ_eq arg3 harg3 x0 _ _ 0 rfl, ldQ_eq arg3 harg3 x0 _ _ 1 rfl, ldQ_eq arg3 harg3 x0 _ _ 2 rfl, ldQ_eq arg3 harg3 x0 _ _ 3 rfl,
    ldB_eq arg4 harg4 x1 _ _ 0 _ (k0_off1_eq i), ldB_eq arg4 harg4 x1 _ _ 1 _ (k0_off2_eq i), ldB_eq arg4 harg4 x1 _ _ 2 _ (k0_off3_eq i), ldB_eq arg4 harg4 x1 _ _ 3 _ (k0_off4_eq i), ldB_eq arg5 harg5 x2 _ _ 0 _ (k0_off1_eq i), ldB_eq arg5 harg5 x2 _ _ 1 _ (k0_off2_eq i), ldB_eq arg5 harg5 x2 _ _ 2 _ (k0_off3_eq i), ldB_eq arg5 harg5 x2 _ _ 3 _ (k0_off4_eq i)]
  rfl

/-- The loop is two further key blocks a trip. -/
theorem loop1_eq (c : Dev nD) (i : grid0.Coords) (arg3 : Memref sig .tc .vmem S1x256x512 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x256x512 .bf16) (harg6 : arg6.IsWhole) (x0 : Vec F S1x256x512 .bf16) (x1 x2 : Vec F S1x512x2048 .bf16) (w0 w1 w2 w3 : BitVec 32) (n : ℕ) (hn : n ≤ (k0_t1_loop i).trips) :
    loop1 c i arg3 harg3 arg4 harg4 arg5 harg5 arg6 harg6 x0 x1 x2 (pack (after0 i x0 x1 x2)) w0 w1 w2 w3 n = pack (afterN i x0 x1 x2 (2 * n)) := by
  unfold loop1
  rw [ldQ_eq arg3 harg3 x0 _ _ 0 rfl, ldQ_eq arg3 harg3 x0 _ _ 1 rfl, ldQ_eq arg3 harg3 x0 _ _ 2 rfl, ldQ_eq arg3 harg3 x0 _ _ 3 rfl]
  induction n with
  | zero => rfl
  | succ n ih =>
    refine (st_k0_t1_succ (F := F) Variants.none c none i arg3 harg3 arg4 harg4 arg5 harg5 arg6 harg6 _ k0_pay132 k0_pay135 _ _ _ _ _ _ _ _ _ _ _ _ _ _ _ _ _ _ _ (⟨n, hn⟩ : Fin (k0_t1_loop i).trips)).trans ?_
    rw [show (⟨n, hn⟩ : Fin (k0_t1_loop i).trips).val = n from rfl, ih (by omega)]
    refine (trip_quad c i arg3 harg3 arg4 harg4 arg5 harg5 arg6 harg6 _ (qs x0) _ _ _ _ _ _ _ _ _ _ _ _ x1 x2 ⟨n, hn⟩ (afterN i x0 x1 x2 (2 * n))).trans ?_
    have e : (i 2).val - 2 - 2 * n = (i 2).val - 1 - (2 * n + 1) := by omega
    rw [show (⟨n, hn⟩ : Fin (k0_t1_loop i).trips).val = n from rfl, e]
    rfl

/-- What is stored of a pair. -/
def outOf (a : Acc F) : FVec F S1x256x128 .bf16 := shapeCast S1x256x128 (truncf .bf16 a bitsLt_bf16_f32) shapeCasts_S256x128_S1x256x128

/-- The four pieces stored. -/
abbrev pieces (s : St F) : List (View.Piece (Elt F) S1x256x512 .bf16) :=
  [⟨Rect.unit (s := S1x256x512) ![0, 0, 384] ![1, 256, 128] inb_S1x256x512_S1x256x128_0_0_384, outOf s.2.2.2.2.2.2.2⟩,
   ⟨Rect.unit (s := S1x256x512) ![0, 0, 256] ![1, 256, 128] inb_S1x256x512_S1x256x128_0_0_256, outOf s.2.2.2.2.2.1⟩,
   ⟨Rect.unit (s := S1x256x512) ![0, 0, 128] ![1, 256, 128] inb_S1x256x512_S1x256x128_0_0_128, outOf s.2.2.2.1⟩,
   ⟨Rect.unit (s := S1x256x512) ![0, 0, 0] ![1, 256, 128] inb_S1x256x512_S1x256x128_0_0_0, outOf s.2.1⟩]

theorem pieces_even (c : Dev nD) (i : grid0.Coords) (arg3 : Memref sig .tc .vmem S1x256x512 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x256x512 .bf16) (harg6 : arg6.IsWhole) (hc : ¬ k0_cond1 i = 1#1) (x0 : Vec F S1x256x512 .bf16) (x1 x2 : Vec F S1x512x2048 .bf16) :
    (runEven c i arg3 harg3 arg4 harg4 arg5 harg5 arg6 harg6 hc x0 x1 x2).1 = pieces (pack (afterN i x0 x1 x2 (i 2).val)) := by
  let s0 : St F := (pack4 (stepD (k0_pay136 (ldQ arg3 harg3 x0 ![0, 0, 0] inb_S1x256x512_S1x256x128_0_0_0)) (ldB arg4 harg4 x1 (k0_off1 i) (k0_off1_inb i)) (ldB arg5 harg5 x2 (k0_off1 i) (k0_off1_inb i)) (k0_pay140, k0_pay141)) (stepD (k0_pay136 (ldQ arg3 harg3 x0 ![0, 0, 128] inb_S1x256x512_S1x256x128_0_0_128)) (ldB arg4 harg4 x1 (k0_off2 i) (k0_off2_inb i)) (ldB arg5 harg5 x2 (k0_off2 i) (k0_off2_inb i)) (k0_pay140, k0_pay141)) (stepD (k0_pay136 (ldQ arg3 harg3 x0 ![0, 0, 256] inb_S1x256x512_S1x256x128_0_0_256)) (ldB arg4 harg4 x1 (k0_off3 i) (k0_off3_inb i)) (ldB arg5 harg5 x2 (k0_off3 i) (k0_off3_inb i)) (k0_pay140, k0_pay141)) (stepD (k0_pay136 (ldQ arg3 harg3 x0 ![0, 0, 384] inb_S1x256x512_S1x256x128_0_0_384)) (ldB arg4 harg4 x1 (k0_off4 i) (k0_off4_inb i)) (ldB arg5 harg5 x2 (k0_off4 i) (k0_off4_inb i)) (k0_pay140, k0_pay141)))
  let s1 := loop1 c i arg3 harg3 arg4 harg4 arg5 harg5 arg6 harg6 x0 x1 x2 s0 (2#32) (runEven.sl.v260 i) (runEven.sl.v265 i) (1#32) (k0_t1_loop i).trips
  let s2 := loop2 c i arg3 harg3 arg4 harg4 arg5 harg5 arg6 harg6 x0 x1 x2 s0 s1 (2#32) (runEven.sl.v260 i) (runEven.sl.v265 i) (1#32) (runEven.sl.v281 i) (k0_t2_loop i).trips
  have e : (runEven c i arg3 harg3 arg4 harg4 arg5 harg5 arg6 harg6 hc x0 x1 x2).1 = pieces s2 := rfl
  rw [e]
  refine congrArg pieces ?_
  show loop2 c i arg3 harg3 arg4 harg4 arg5 harg5 arg6 harg6 x0 x1 x2 s0 s1 (2#32) (runEven.sl.v260 i) (runEven.sl.v265 i) (1#32) (runEven.sl.v281 i) (k0_t2_loop i).trips = _
  rw [trips2 i]
  show loop1 c i arg3 harg3 arg4 harg4 arg5 harg5 arg6 harg6 x0 x1 x2 (pack4 (stepD (k0_pay136 (ldQ arg3 harg3 x0 ![0, 0, 0] inb_S1x256x512_S1x256x128_0_0_0)) (ldB arg4 harg4 x1 (k0_off1 i) (k0_off1_inb i)) (ldB arg5 harg5 x2 (k0_off1 i) (k0_off1_inb i)) (k0_pay140, k0_pay141)) (stepD (k0_pay136 (ldQ arg3 harg3 x0 ![0, 0, 128] inb_S1x256x512_S1x256x128_0_0_128)) (ldB arg4 harg4 x1 (k0_off2 i) (k0_off2_inb i)) (ldB arg5 harg5 x2 (k0_off2 i) (k0_off2_inb i)) (k0_pay140, k0_pay141)) (stepD (k0_pay136 (ldQ arg3 harg3 x0 ![0, 0, 256] inb_S1x256x512_S1x256x128_0_0_256)) (ldB arg4 harg4 x1 (k0_off3 i) (k0_off3_inb i)) (ldB arg5 harg5 x2 (k0_off3 i) (k0_off3_inb i)) (k0_pay140, k0_pay141)) (stepD (k0_pay136 (ldQ arg3 harg3 x0 ![0, 0, 384] inb_S1x256x512_S1x256x128_0_0_384)) (ldB arg4 harg4 x1 (k0_off4 i) (k0_off4_inb i)) (ldB arg5 harg5 x2 (k0_off4 i) (k0_off4_inb i)) (k0_pay140, k0_pay141))) (2#32) (runEven.sl.v260 i) (runEven.sl.v265 i) (1#32) (k0_t1_loop i).trips = _
  rw [diag_loads c i arg3 harg3 arg4 harg4 arg5 harg5 arg6 harg6, loop1_eq c i arg3 harg3 arg4 harg4 arg5 harg5 arg6 harg6 x0 x1 x2 _ _ _ _ _ le_rfl, trips1 i]
  have := (odd_iff i).not.1 hc
  rw [show 2 * ((i 2).val / 2) = (i 2).val by omega]

theorem pieces_odd (c : Dev nD) (i : grid0.Coords) (arg3 : Memref sig .tc .vmem S1x256x512 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x256x512 .bf16) (harg6 : arg6.IsWhole) (hc : k0_cond1 i = 1#1) (x0 : Vec F S1x256x512 .bf16) (x1 x2 : Vec F S1x512x2048 .bf16) :
    (runOdd c i arg3 harg3 arg4 harg4 arg5 harg5 arg6 harg6 hc x0 x1 x2).1 = pieces (pack (afterN i x0 x1 x2 (i 2).val)) := by
  let s0 : St F := (pack4 (stepD (k0_pay136 (ldQ arg3 harg3 x0 ![0, 0, 0] inb_S1x256x512_S1x256x128_0_0_0)) (ldB arg4 harg4 x1 (k0_off1 i) (k0_off1_inb i)) (ldB arg5 harg5 x2 (k0_off1 i) (k0_off1_inb i)) (k0_pay140, k0_pay141)) (stepD (k0_pay136 (ldQ arg3 harg3 x0 ![0, 0, 128] inb_S1x256x512_S1x256x128_0_0_128)) (ldB arg4 harg4 x1 (k0_off2 i) (k0_off2_inb i)) (ldB arg5 harg5 x2 (k0_off2 i) (k0_off2_inb i)) (k0_pay140, k0_pay141)) (stepD (k0_pay136 (ldQ arg3 harg3 x0 ![0, 0, 256] inb_S1x256x512_S1x256x128_0_0_256)) (ldB arg4 harg4 x1 (k0_off3 i) (k0_off3_inb i)) (ldB arg5 harg5 x2 (k0_off3 i) (k0_off3_inb i)) (k0_pay140, k0_pay141)) (stepD (k0_pay136 (ldQ arg3 harg3 x0 ![0, 0, 384] inb_S1x256x512_S1x256x128_0_0_384)) (ldB arg4 harg4 x1 (k0_off4 i) (k0_off4_inb i)) (ldB arg5 harg5 x2 (k0_off4 i) (k0_off4_inb i)) (k0_pay140, k0_pay141)))
  let s1 := loop1 c i arg3 harg3 arg4 harg4 arg5 harg5 arg6 harg6 x0 x1 x2 s0 (2#32) (runOdd.sl.v260 i) (runOdd.sl.v265 i) (1#32) (k0_t1_loop i).trips
  let s2 := loop2 c i arg3 harg3 arg4 harg4 arg5 harg5 arg6 harg6 x0 x1 x2 s0 s1 (2#32) (runOdd.sl.v260 i) (runOdd.sl.v265 i) (1#32) (runOdd.sl.v281 i) (k0_t2_loop i).trips
  let last : St F → St F := fun s => pack4 (stepU (k0_pay136 (ldQ arg3 harg3 x0 ![0, 0, 0] inb_S1x256x512_S1x256x128_0_0_0)) (ldB arg4 harg4 x1 ![0, 0, 0] inb_S1x512x2048_S1x128x256_0_0_0) (ldB arg5 harg5 x2 ![0, 0, 0] inb_S1x512x2048_S1x128x256_0_0_0) (s.1, s.2.1)) (stepU (k0_pay136 (ldQ arg3 harg3 x0 ![0, 0, 128] inb_S1x256x512_S1x256x128_0_0_128)) (ldB arg4 harg4 x1 ![0, 128, 0] inb_S1x512x2048_S1x128x256_0_128_0) (ldB arg5 harg5 x2 ![0, 128, 0] inb_S1x512x2048_S1x128x256_0_128_0) (s.2.2.1, s.2.2.2.1)) (stepU (k0_pay136 (ldQ arg3 harg3 x0 ![0, 0, 256] inb_S1x256x512_S1x256x128_0_0_256)) (ldB arg4 harg4 x1 ![0, 256, 0] inb_S1x512x2048_S1x128x256_0_256_0) (ldB arg5 harg5 x2 ![0, 256, 0] inb_S1x512x2048_S1x128x256_0_256_0) (s.2.2.2.2.1, s.2.2.2.2.2.1)) (stepU (k0_pay136 (ldQ arg3 harg3 x0 ![0, 0, 384] inb_S1x256x512_S1x256x128_0_0_384)) (ldB arg4 harg4 x1 ![0, 384, 0] inb_S1x512x2048_S1x128x256_0_384_0) (ldB arg5 harg5 x2 ![0, 384, 0] inb_S1x512x2048_S1x128x256_0_384_0) (s.2.2.2.2.2.2.1, s.2.2.2.2.2.2.2))
  have e : (runOdd c i arg3 harg3 arg4 harg4 arg5 harg5 arg6 harg6 hc x0 x1 x2).1 = pieces (last s2) := rfl
  rw [e]
  refine congrArg pieces ?_
  have e2 : s2 = pack (afterN i x0 x1 x2 (2 * ((i 2).val / 2))) := by
    show loop2 c i arg3 harg3 arg4 harg4 arg5 harg5 arg6 harg6 x0 x1 x2 s0 s1 (2#32) (runOdd.sl.v260 i) (runOdd.sl.v265 i) (1#32) (runOdd.sl.v281 i) (k0_t2_loop i).trips = _
    rw [trips2 i]
    show loop1 c i arg3 harg3 arg4 harg4 arg5 harg5 arg6 harg6 x0 x1 x2 (pack4 (stepD (k0_pay136 (ldQ arg3 harg3 x0 ![0, 0, 0] inb_S1x256x512_S1x256x128_0_0_0)) (ldB arg4 harg4 x1 (k0_off1 i) (k0_off1_inb i)) (ldB arg5 harg5 x2 (k0_off1 i) (k0_off1_inb i)) (k0_pay140, k0_pay141)) (stepD (k0_pay136 (ldQ arg3 harg3 x0 ![0, 0, 128] inb_S1x256x512_S1x256x128_0_0_128)) (ldB arg4 harg4 x1 (k0_off2 i) (k0_off2_inb i)) (ldB arg5 harg5 x2 (k0_off2 i) (k0_off2_inb i)) (k0_pay140, k0_pay141)) (stepD (k0_pay136 (ldQ arg3 harg3 x0 ![0, 0, 256] inb_S1x256x512_S1x256x128_0_0_256)) (ldB arg4 harg4 x1 (k0_off3 i) (k0_off3_inb i)) (ldB arg5 harg5 x2 (k0_off3 i) (k0_off3_inb i)) (k0_pay140, k0_pay141)) (stepD (k0_pay136 (ldQ arg3 harg3 x0 ![0, 0, 384] inb_S1x256x512_S1x256x128_0_0_384)) (ldB arg4 harg4 x1 (k0_off4 i) (k0_off4_inb i)) (ldB arg5 harg5 x2 (k0_off4 i) (k0_off4_inb i)) (k0_pay140, k0_pay141))) (2#32) (runOdd.sl.v260 i) (runOdd.sl.v265 i) (1#32) (k0_t1_loop i).trips = _
    rw [diag_loads c i arg3 harg3 arg4 harg4 arg5 harg5 arg6 harg6, loop1_eq c i arg3 harg3 arg4 harg4 arg5 harg5 arg6 harg6 x0 x1 x2 _ _ _ _ _ le_rfl, trips1 i]
  rw [e2]
  show pack4 (stepU (k0_pay136 (ldQ arg3 harg3 x0 ![0, 0, 0] inb_S1x256x512_S1x256x128_0_0_0)) (ldB arg4 harg4 x1 ![0, 0, 0] inb_S1x512x2048_S1x128x256_0_0_0) (ldB arg5 harg5 x2 ![0, 0, 0] inb_S1x512x2048_S1x128x256_0_0_0) (afterN i x0 x1 x2 (2 * ((i 2).val / 2)) 0)) (stepU (k0_pay136 (ldQ arg3 harg3 x0 ![0, 0, 128] inb_S1x256x512_S1x256x128_0_0_128)) (ldB arg4 harg4 x1 ![0, 128, 0] inb_S1x512x2048_S1x128x256_0_128_0) (ldB arg5 harg5 x2 ![0, 128, 0] inb_S1x512x2048_S1x128x256_0_128_0) (afterN i x0 x1 x2 (2 * ((i 2).val / 2)) 1)) (stepU (k0_pay136 (ldQ arg3 harg3 x0 ![0, 0, 256] inb_S1x256x512_S1x256x128_0_0_256)) (ldB arg4 harg4 x1 ![0, 256, 0] inb_S1x512x2048_S1x128x256_0_256_0) (ldB arg5 harg5 x2 ![0, 256, 0] inb_S1x512x2048_S1x128x256_0_256_0) (afterN i x0 x1 x2 (2 * ((i 2).val / 2)) 2)) (stepU (k0_pay136 (ldQ arg3 harg3 x0 ![0, 0, 384] inb_S1x256x512_S1x256x128_0_0_384)) (ldB arg4 harg4 x1 ![0, 384, 0] inb_S1x512x2048_S1x128x256_0_384_0) (ldB arg5 harg5 x2 ![0, 384, 0] inb_S1x512x2048_S1x128x256_0_384_0) (afterN i x0 x1 x2 (2 * ((i 2).val / 2)) 3)) = _
  rw [ldQ_eq arg3 harg3 x0 _ _ 0 rfl, ldQ_eq arg3 harg3 x0 _ _ 1 rfl, ldQ_eq arg3 harg3 x0 _ _ 2 rfl, ldQ_eq arg3 harg3 x0 _ _ 3 rfl,
    ldB_eq arg4 harg4 x1 _ _ 0 0 rfl, ldB_eq arg4 harg4 x1 _ _ 1 0 rfl, ldB_eq arg4 harg4 x1 _ _ 2 0 rfl, ldB_eq arg4 harg4 x1 _ _ 3 0 rfl, ldB_eq arg5 harg5 x2 _ _ 0 0 rfl, ldB_eq arg5 harg5 x2 _ _ 1 0 rfl, ldB_eq arg5 harg5 x2 _ _ 2 0 rfl, ldB_eq arg5 harg5 x2 _ _ 3 0 rfl]
  have := (odd_iff i).1 hc
  obtain ⟨m, hm⟩ : ∃ m, (i 2).val = 2 * m + 1 := ⟨(i 2).val / 2, by omega⟩
  have hm' : (i 2).val / 2 = m := by omega
  rw [hm']
  have : afterN i x0 x1 x2 (i 2).val = quadU (qs x0) x1 x2 0 (afterN i x0 x1 x2 (2 * m)) := by
    conv_lhs => rw [hm]
    show quadU (qs x0) x1 x2 ((i 2).val - 1 - 2 * m) (afterN i x0 x1 x2 (2 * m)) = _
    rw [show (i 2).val - 1 - 2 * m = 0 by omega]
  rw [this]
  rfl

end Cert.SbPromptIdeal.Hand

end
-- ==== Proof.SbMath.lean ====
/-
  Stick-breaking attention of one query on the reals: the softplus, the weights, and how the sum over the keys left of the
  query splits into blocks.
-/
module

public import Idealize.ShloMosaic.PureOps.Ideal
public import Idealize.ShloMosaic.PureOps.Ideal.Laws
public import Idealize.ShloMosaic.Lib.Pointwise

@[expose] public section

noncomputable section

namespace Cert.StickBreaking

open Idealize.ShloMosaic Finset

/-- The softplus. -/
def sp (x : ℝ) : ℝ := max x 0 + Real.log (1 + Real.exp (-|x|))

/-- The weight that a query at `T` gives key `K`: its score `z K` less the softplus of the scores from `K` up to `T`, exponentiated. -/
def weight (z : ℕ → ℝ) (T K : ℕ) : ℝ := Real.exp (z K - ∑ k ∈ Ico K T, sp (z k))

/-- The weighted values of the keys from `L` up to `T`. -/
def attn (z : ℕ → ℝ) (v : ℕ → EReal) (L T : ℕ) : EReal := ∑ K ∈ Ico L T, (weight z T K : EReal) * v K

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- `exp2` of a real times the reciprocal of the logarithm of two is the exponential. -/
theorem exp2_log2e (x : ℝ) : Ideal.exp2 ((x : EReal) * ((Real.log 2)⁻¹ : ℝ)) = (Real.exp x : ℝ) := by
  rw [← EReal.coe_mul, Ideal.exp2_coe]
  refine congrArg _ ?_
  show (2 : ℝ) ^ (x * (Real.log 2)⁻¹) = _
  have h2 : Real.log 2 ≠ 0 := (Real.log_pos (by norm_num)).ne'
  rw [Real.rpow_def_of_pos (by norm_num)]
  congr 1
  field_simp

theorem coe_max (x y : ℝ) : ((max x y : ℝ) : EReal) = max (x : EReal) y := EReal.coe_strictMono.monotone.map_max

theorem max_neg (x : ℝ) : max (x : EReal) (-(x : EReal)) = (|x| : ℝ) := by
  rw [← EReal.coe_neg, ← coe_max]; rfl

/-- The logarithm of one plus an exponential. -/
theorem log_one_add_exp (x : ℝ) : Ideal.log (1 + ((Real.exp x : ℝ) : EReal)) = (Real.log (1 + Real.exp x) : ℝ) := by
  rw [← EReal.coe_one, ← EReal.coe_add, Ideal.log_coe, if_neg (not_le.2 (by positivity))]

/-- The softplus, as the step computes it. -/
theorem soft_eq (x : ℝ) : max (x : EReal) 0 + Ideal.log (1 + Ideal.exp2 ((max (x : EReal) (-(x : EReal))) * ((-((Real.log 2)⁻¹) : ℝ) : EReal))) = (sp x : ℝ) := by
  have e : (|x| : ℝ) * -((Real.log 2)⁻¹) = (-|x|) * (Real.log 2)⁻¹ := by ring
  rw [max_neg, ← EReal.coe_mul, e, EReal.coe_mul, exp2_log2e, log_one_add_exp, ← EReal.coe_zero, ← coe_max, ← EReal.coe_add]
  rfl

/-- The sum over a block of 256 keys joins the sum over the keys right of it. -/
theorem carry_block (z : ℕ → ℝ) (b T : ℕ) (h : b + 256 ≤ T) :
    ∑ k ∈ Ico (b + 256) T, sp (z k) + ∑ k ∈ range 256, sp (z (b + k)) = ∑ k ∈ Ico b T, sp (z k) := by
  rw [← sum_Ico_consecutive _ (show b ≤ b + 256 by omega) h, add_comm, sum_Ico_eq_sum_range _ b]
  simp

/-- A weight of the block, from the block's own sum and the carried one. -/
theorem weight_block (z : ℕ → ℝ) (b T k : ℕ) (hk : k < 256) (h : b + 256 ≤ T) :
    Real.exp (z (b + k) - ∑ k' ∈ Ico k 256, sp (z (b + k')) - ∑ k' ∈ Ico (b + 256) T, sp (z k')) = weight z T (b + k) := by
  unfold weight
  rw [← sum_Ico_consecutive _ (show b + k ≤ b + 256 by omega) h, sum_Ico_eq_sum_range, sum_Ico_eq_sum_range (fun k => sp (z k)) (b + k)]
  rw [show b + 256 - (b + k) = 256 - k by omega, sub_sub]
  simp only [Nat.add_assoc]

/-- The weighted values of the block join those of the keys right of it. -/
theorem attn_block (z : ℕ → ℝ) (v : ℕ → EReal) (b T : ℕ) (h : b + 256 ≤ T) :
    attn z v (b + 256) T + ∑ k : Fin 256, (weight z T (b + k.val) : EReal) * v (b + k.val) = attn z v b T := by
  unfold attn
  rw [← sum_Ico_consecutive _ (show b ≤ b + 256 by omega) h, add_comm, sum_Ico_eq_sum_range _ b (b + 256),
    show b + 256 - b = 256 by omega, ← Fin.sum_univ_eq_sum_range (fun k => (weight z T (b + k) : EReal) * v (b + k)) 256]

/-- On the diagonal the keys of the block left of the query are summed. -/
theorem carry_diag (z : ℕ → ℝ) (b t k : ℕ) (hk : k ≤ t) (ht : t < 256) :
    ∑ k' ∈ Ico k 256, (if k' < t then sp (z (b + k')) else 0) = ∑ k' ∈ Ico (b + k) (b + t), sp (z k') := by
  rw [← sum_Ico_consecutive _ hk ht.le, sum_Ico_eq_sum_range (fun k => sp (z k)), sum_Ico_eq_sum_range _ k t,
    show b + t - (b + k) = t - k by omega]
  have h2 : ∑ k' ∈ Ico t 256, (if k' < t then sp (z (b + k')) else 0) = 0 :=
    sum_eq_zero fun k' hk' => if_neg (by have := (mem_Ico.1 hk').1; omega)
  rw [h2, add_zero]
  refine sum_congr rfl fun k' hk' => ?_
  have := mem_range.1 hk'
  rw [if_pos (by omega), Nat.add_assoc]

/-- The weighted values on the diagonal. -/
theorem attn_diag (z : ℕ → ℝ) (v : ℕ → EReal) (b t : ℕ) (ht : t < 256) :
    ∑ k : Fin 256, (if k.val < t then (weight z (b + t) (b + k.val) : EReal) else 0) * v (b + k.val) = attn z v b (b + t) := by
  unfold attn
  rw [Fin.sum_univ_eq_sum_range (fun k => (if k < t then (weight z (b + t) (b + k) : EReal) else 0) * v (b + k)) 256,
    sum_Ico_eq_sum_range _ b, show b + t - b = t by omega]
  symm
  refine Eq.trans (sum_congr rfl fun k hk => ?_) (sum_subset (range_subset_range.2 ht.le) fun k _ hk => ?_)
  · rw [if_pos (by simpa using hk)]
  · rw [if_neg (by simpa using hk), zero_mul]

end Cert.StickBreaking

end
-- ==== Proof.SbIdeal.lean ====
/-
  The key block of the stick-breaking attention at the ideal values, element by element, and the state after `n` blocks:
  for every row the sum of the softplus over the keys seen, and their weighted values.
-/
module

public import proofs.«01_k».proof.Proof.SbRun
public import proofs.«01_k».proof.Proof.SbMath
public import Idealize.ShloMosaic.Lib.WordCmp

@[expose] public section

noncomputable section

namespace Cert.SbPromptIdeal.Hand

open Cert.SbPromptIdeal Cert.SbPromptIdeal.Gen Cert.StickBreaking
open Idealize.ShloMosaic Idealize.ShloMosaic.WordCmp Idealize.ShloMosaic.Scalar Finset

theorem neg_log2e : Named.named (F := Ideal) κ "neg_log2e" (φ := .f32) 0xBFB8AA3B#32 = ((-((Real.log 2)⁻¹) : ℝ) : EReal) :=
  IdealRules.named_const.ideal_named_scalar _ _ _ _ rfl

theorem log2e : Named.named (F := Ideal) κ "log2e" (φ := .f32) 0x3FB8AA3B#32 = (((Real.log 2)⁻¹ : ℝ) : EReal) :=
  IdealRules.named_const.ideal_named_scalar _ _ _ _ rfl

theorem and255 (x : ℕ) (hx : x < 512) : IntOp.andi (BitVec.ofNat 32 x) 255#32 = BitVec.ofNat 32 (x % 256) := by
  apply BitVec.eq_of_toNat_eq
  show (BitVec.ofNat 32 x &&& 255#32).toNat = _
  rw [BitVec.toNat_and, BitVec.toNat_ofNat, BitVec.toNat_ofNat, BitVec.toNat_ofNat, Nat.mod_eq_of_lt (by omega : x < 2 ^ 32),
    Nat.mod_eq_of_lt (by omega : x % 256 < 2 ^ 32)]
  exact Nat.and_two_pow_sub_one_eq_mod x 8

/-- The softplus at a real score. -/
theorem soft_apply (z : FVec Ideal S512x256 .f32) (r : Fin 512) (c : Fin 256) (x : ℝ) (h : z (ix2 r c) = (x : EReal)) :
    soft z (ix2 r c) = (sp x : ℝ) := by
  pointwise [soft]
  rw [neg_log2e, h]
  exact soft_eq x

/-- The sums within a block, of real numbers. -/
theorem cums_apply (s : FVec Ideal S512x256 .f32) (r : Fin 512) (c : Fin 256) (f : ℕ → ℝ) (h : ∀ k : Fin 256, s (ix2 r k) = ((f k.val : ℝ) : EReal)) :
    cums s (ix2 r c) = ((∑ k ∈ Ico c.val 256, f k : ℝ) : EReal) := by
  pointwise [cums, k0_pay157, k0_pay132]
  have e1 : ∀ x : Fin 256, Scalar.select (IntOp.cmpi CmpIPredicate.sge (IntOp.andi (BitVec.ofNat 32 x.val) 255#32) (BitVec.ofNat 32 c.val)) (s (ix2 r x)) 0
      = (((if c.val ≤ x.val then f x.val else 0) : ℝ) : EReal) := fun x => by
    rw [and255 _ (by omega), cmpi_sge_ofNat (by norm_num; omega) (by norm_num; omega), Nat.mod_eq_of_lt x.isLt, Scalar.select_decide, h]
    split <;> rfl
  have e2 : ∀ x : Fin 256, Scalar.select (IntOp.cmpi CmpIPredicate.sge (IntOp.andi (BitVec.ofNat 32 (256 + x.val)) 255#32) (BitVec.ofNat 32 c.val)) (s (ix2 r x) - s (ix2 r x)) 0
      = 0 := fun x => by
    rw [h, ← EReal.coe_sub, sub_self, EReal.coe_zero, select_same]
  rw [sum_congr rfl fun x _ => e1 x, sum_congr rfl fun x _ => e2 x, sum_const_zero, add_zero, ← coe_sum,
    Fin.sum_univ_eq_sum_range (fun k => if c.val ≤ k then f k else 0) 256]
  refine congrArg _ ?_
  rw [← sum_filter]
  refine sum_congr (Finset.ext fun k => ?_) fun _ _ => rfl
  simp [and_comm]

/-- A weight, of real numbers. -/
theorem wts_apply (z c : FVec Ideal S512x256 .f32) (carry : Col Ideal) (r : Fin 512) (l : Fin 256) (x y w : ℝ)
    (hz : z (ix2 r l) = (x : EReal)) (hc : c (ix2 r l) = (y : EReal)) (hw : carry (ix2 r 0) = (w : EReal)) :
    wts z c carry (ix2 r l) = (Real.exp (x - y - w) : ℝ) := by
  pointwise [wts, k0_pay160]
  rw [hz, hc, hw, log2e, ← EReal.coe_sub, ← EReal.coe_sub]
  exact exp2_log2e _

/-- The mask of the diagonal. -/
theorem masked_apply (z : FVec Ideal S512x256 .f32) (r : Fin 512) (l : Fin 256) :
    masked z (ix2 r l) = if l.val < r.val % 256 then z (ix2 r l) else 0 := by
  pointwise [masked, k0_pay133]
  rw [and255 _ r.isLt, cmpi_slt_ofNat (by norm_num; omega) (by norm_num; omega), Scalar.select_decide]

/-- The stacked row of the head that lane `d` belongs to. -/
def rowOf (t : Fin 256) (d : Fin 128) : Fin 512 := ⟨256 * (d.val / 64) + t.val, by omega⟩

/-- The weighted values of a block: every lane uses its own head's weights. -/
theorem mixed_apply (w : FVec Ideal S512x256 .f32) (v : FVec Ideal S128x256 .bf16) (acc : Acc Ideal) (t : Fin 256) (d : Fin 128) :
    mixed w v acc (ix2 t d) = acc (ix2 t d) + ∑ k : Fin 256, w (ix2 (rowOf t d) k) * v (ix2 d k) := by
  pointwise [mixed, k0_pay52, k0_pay135, k0_pay51]
  refine congrArg (acc (ix2 t d) + ·) ?_
  simp only [cmpi_slt_ofNat (show d.val < 2 ^ (32 - 1) by norm_num; omega) (show 64 < 2 ^ (32 - 1) by norm_num), Scalar.select_decide]
  by_cases hd : d.val < 64
  · simp only [if_pos hd, sum_const_zero, add_zero]
    refine sum_congr rfl fun k _ => ?_
    rw [show rowOf t d = ⟨t.val, by omega⟩ from Fin.ext (by show 256 * (d.val / 64) + t.val = t.val; omega)]
  · simp only [if_neg hd, sum_const_zero, zero_add]
    refine sum_congr rfl fun k _ => ?_
    rw [show rowOf t d = ⟨256 + t.val, by omega⟩ from Fin.ext (by show 256 * (d.val / 64) + t.val = 256 + t.val; omega)]

/-- The score of stacked row `r` of pair `p` with key `K`, from the step's queries and keys. -/
def rowScore (x0 : Vec Ideal S1x256x512 .bf16) (x1 : Vec Ideal S1x512x2048 .bf16) (p r K : ℕ) : EReal :=
  ∑ d : Fin 64, x0 (ValueIdx.ix3 (0 : Fin 1) (⟨min (r % 256) 255, by omega⟩ : Fin 256) (⟨min (128 * p + (64 * (r / 256) + d.val)) 511, by omega⟩ : Fin 512))
    * x1 (ValueIdx.ix3 (0 : Fin 1) (⟨min (128 * p + (64 * (r / 256) + d.val)) 511, by omega⟩ : Fin 512) (⟨min K 2047, by omega⟩ : Fin 2048))

/-- The value that lane `d` of pair `p` has at key `K`. -/
def laneValue (x2 : Vec Ideal S1x512x2048 .bf16) (p d K : ℕ) : EReal :=
  x2 (ValueIdx.ix3 (0 : Fin 1) (⟨min (128 * p + d) 511, by omega⟩ : Fin 512) (⟨min K 2047, by omega⟩ : Fin 2048))

theorem scores_apply (x0 : Vec Ideal S1x256x512 .bf16) (x1 : Vec Ideal S1x512x2048 .bf16) (p j : ℕ) (r : Fin 512) (k : Fin 256) :
    scores (qOf x0 p) (blk x1 p j) (ix2 r k) = rowScore x0 x1 p r.val (256 * j + k.val) := by
  pointwise [scores, k0_pay16, qOf, k0_pay136, k0_pay134, blk]
  unfold rowScore
  have hlt : ∀ d : Fin 128, IntOp.cmpi CmpIPredicate.slt (BitVec.ofNat 32 d.val) 64#32 = BitVec.ofBool (decide (d.val < 64)) := fun d =>
    cmpi_slt_ofNat (show d.val < 2 ^ (32 - 1) by norm_num; omega) (show 64 < 2 ^ (32 - 1) by norm_num)
  simp only [hlt, Scalar.select_decide]
  by_cases hr : r.val < 256
  · simp only [dif_pos hr]
    refine (Fin.sum_univ_add (a := 64) (b := 64) _).trans ?_
    have e0 : r.val / 256 = 0 := by omega
    have e1 : r.val % 256 = r.val := by omega
    refine (congrArg₂ (· + ·) (sum_congr rfl fun d _ => ?_) (sum_eq_zero fun d _ => ?_)).trans (add_zero _)
    · rw [if_pos (show (Fin.castAdd 64 d).val < 64 from d.isLt)]
      simp only [e0, e1, Nat.mul_zero, Nat.zero_add]
      rfl
    · rw [if_neg (show ¬ (Fin.natAdd 64 d).val < 64 from Nat.not_lt.2 (Nat.le_add_right _ _)), zero_mul]
  · simp only [dif_neg hr]
    refine (Fin.sum_univ_add (a := 64) (b := 64) _).trans ?_
    have e0 : r.val / 256 = 1 := by omega
    have e1 : r.val % 256 = r.val - 256 := by omega
    refine (congrArg₂ (· + ·) (sum_eq_zero fun d _ => ?_) (sum_congr rfl fun d _ => ?_)).trans (zero_add _)
    · rw [if_pos (show (Fin.castAdd 64 d).val < 64 from d.isLt), zero_mul]
    · rw [if_neg (show ¬ (Fin.natAdd 64 d).val < 64 from Nat.not_lt.2 (Nat.le_add_right _ _))]
      simp only [e0, e1, Nat.mul_one]
      rfl

end Cert.SbPromptIdeal.Hand

end
-- ==== Proof.SbInvariant.lean ====
/-
  The state after `n` key blocks of the stick-breaking attention, where the scores are real numbers: every row's carried sum
  is the softplus summed over the keys seen, every lane's accumulator the weighted values of those keys.
-/
module

public import proofs.«01_k».proof.Proof.SbIdeal

@[expose] public section

noncomputable section

namespace Cert.SbPromptIdeal.Hand

open Cert.SbPromptIdeal Cert.SbPromptIdeal.Gen Cert.StickBreaking
open Idealize.ShloMosaic Finset

theorem carry_apply (carry : Col Ideal) (c : FVec Ideal S512x256 .f32) (r : Fin 512) :
    k0_pay41 carry c (ix2 r 0) = carry (ix2 r 0) + c (ix2 r 0) := by
  pointwise [k0_pay41]

theorem zero_carry (r : Fin 512) : (k0_pay140 : Col Ideal) (ix2 r 0) = 0 := by
  pointwise [k0_pay140]

theorem zero_acc (t : Fin 256) (d : Fin 128) : (k0_pay141 : Acc Ideal) (ix2 t d) = 0 := by
  pointwise [k0_pay141]

section

variable (x0 : Vec Ideal S1x256x512 .bf16) (x1 x2 : Vec Ideal S1x512x2048 .bf16) (p : ℕ) (z : ℕ → ℕ → ℝ)
  (hz : ∀ r K, rowScore x0 x1 p r K = ((z r K : ℝ) : EReal))

/-- What the state holds once the keys from `L` on, up to each row's own query in the block that begins at `b`, are in. -/
def Holds (b L : ℕ) (s : Col Ideal × Acc Ideal) : Prop :=
  (∀ r : Fin 512, s.1 (ix2 r 0) = ((∑ k ∈ Ico L (b + r.val % 256), sp (z r.val k) : ℝ) : EReal))
  ∧ ∀ (t : Fin 256) (d : Fin 128), s.2 (ix2 t d) = attn (z (rowOf t d).val) (laneValue x2 p d.val) L (b + t.val)

theorem rowOf_mod (t : Fin 256) (d : Fin 128) : (rowOf t d).val % 256 = t.val := by
  show (256 * (d.val / 64) + t.val) % 256 = t.val
  omega

theorem blk_value (j : ℕ) (d : Fin 128) (k : Fin 256) : blk x2 p j (ix2 d k) = laneValue x2 p d.val (256 * j + k.val) := rfl

include hz

/-- The block on the diagonal. -/
theorem diag_holds (i : ℕ) :
    Holds x2 p z (256 * i) (256 * i) (stepD (qOf x0 p) (blk x1 p i) (blk x2 p i) (k0_pay140, k0_pay141)) := by
  have hs : ∀ (r : Fin 512) (k : Fin 256), scores (qOf x0 p) (blk x1 p i) (ix2 r k) = ((z r.val (256 * i + k.val) : ℝ) : EReal) :=
    fun r k => (scores_apply x0 x1 p i r k).trans (hz _ _)
  have hc : ∀ (r : Fin 512) (c : Fin 256), cums (masked (soft (scores (qOf x0 p) (blk x1 p i)))) (ix2 r c)
      = ((∑ k ∈ Ico c.val 256, (if k < r.val % 256 then sp (z r.val (256 * i + k)) else 0) : ℝ) : EReal) := fun r c =>
    cums_apply _ r c (fun k => if k < r.val % 256 then sp (z r.val (256 * i + k)) else 0) fun k => by
      rw [masked_apply, soft_apply _ _ _ _ (hs r k)]
      split <;> rfl
  refine ⟨fun r => ?_, fun t d => ?_⟩
  · show k0_pay41 k0_pay140 (cums (masked (soft (scores (qOf x0 p) (blk x1 p i))))) (ix2 r 0) = _
    rw [carry_apply, zero_carry, zero_add, hc r 0]
    exact congrArg _ (carry_diag (z r.val) (256 * i) (r.val % 256) 0 (Nat.zero_le _) (Nat.mod_lt _ (by norm_num)))
  · show mixed (masked (wts (scores (qOf x0 p) (blk x1 p i)) (cums (masked (soft (scores (qOf x0 p) (blk x1 p i))))) k0_pay140)) (blk x2 p i) k0_pay141 (ix2 t d) = _
    rw [mixed_apply, zero_acc, zero_add, ← attn_diag _ _ _ _ t.isLt]
    refine sum_congr rfl fun k _ => ?_
    rw [blk_value, masked_apply, rowOf_mod]
    refine congrArg (· * _) ?_
    by_cases hk : k.val < t.val
    · rw [if_pos hk, if_pos hk, wts_apply _ _ _ _ _ _ _ 0 (hs _ k) (hc _ k) (zero_carry _), rowOf_mod, carry_diag _ _ _ _ hk.le t.isLt, sub_zero]
      rfl
    · rw [if_neg hk, if_neg hk]

/-- A block to the left of it. -/
theorem block_holds (i j : ℕ) (hj : j < i) (s : Col Ideal × Acc Ideal) (h : Holds x2 p z (256 * i) (256 * (j + 1)) s) :
    Holds x2 p z (256 * i) (256 * j) (stepU (qOf x0 p) (blk x1 p j) (blk x2 p j) s) := by
  have hs : ∀ (r : Fin 512) (k : Fin 256), scores (qOf x0 p) (blk x1 p j) (ix2 r k) = ((z r.val (256 * j + k.val) : ℝ) : EReal) :=
    fun r k => (scores_apply x0 x1 p j r k).trans (hz _ _)
  have hc : ∀ (r : Fin 512) (c : Fin 256), cums (soft (scores (qOf x0 p) (blk x1 p j))) (ix2 r c)
      = ((∑ k ∈ Ico c.val 256, sp (z r.val (256 * j + k)) : ℝ) : EReal) := fun r c =>
    cums_apply _ r c (fun k => sp (z r.val (256 * j + k))) fun k => soft_apply _ _ _ _ (hs r k)
  have e : 256 * (j + 1) = 256 * j + 256 := by ring
  rw [e] at h
  refine ⟨fun r => ?_, fun t d => ?_⟩
  · show k0_pay41 s.1 (cums (soft (scores (qOf x0 p) (blk x1 p j)))) (ix2 r 0) = _
    rw [carry_apply, h.1 r, hc r 0, ← EReal.coe_add]
    refine congrArg _ ?_
    rw [← carry_block (z r.val) (256 * j) _ (by omega : 256 * j + 256 ≤ 256 * i + r.val % 256), range_eq_Ico]
    rfl
  · show mixed (wts (scores (qOf x0 p) (blk x1 p j)) (cums (soft (scores (qOf x0 p) (blk x1 p j)))) s.1) (blk x2 p j) s.2 (ix2 t d) = _
    rw [mixed_apply, h.2 t d, ← attn_block _ _ (256 * j) _ (by omega : 256 * j + 256 ≤ 256 * i + t.val)]
    refine congrArg (_ + ·) (sum_congr rfl fun k _ => ?_)
    rw [blk_value, wts_apply _ _ _ _ _ _ _ _ (hs _ k) (hc _ k) (h.1 _), rowOf_mod,
      weight_block _ _ _ _ k.isLt (by omega : 256 * j + 256 ≤ 256 * i + t.val)]

theorem afterN_holds (i : grid0.Coords) (n : ℕ) (hn : n ≤ (i 2).val) :
    Holds x2 p z (256 * (i 2).val) (256 * ((i 2).val - n)) (afterN i x0 x1 x2 n p) := by
  induction n with
  | zero => exact diag_holds x0 x1 x2 p z hz (i 2).val
  | succ n ih =>
    have h := ih (by omega)
    rw [show (i 2).val - n = ((i 2).val - 1 - n) + 1 by omega] at h
    rw [show (i 2).val - (n + 1) = (i 2).val - 1 - n by omega]
    exact block_holds x0 x1 x2 p z hz (i 2).val _ (by omega) _ h

/-- The accumulators at the end: each query's weighted values over all the keys before it. -/
theorem afterN_acc (i : grid0.Coords) (t : Fin 256) (d : Fin 128) :
    (afterN i x0 x1 x2 (i 2).val p).2 (ix2 t d) = attn (z (rowOf t d).val) (laneValue x2 p d.val) 0 (256 * (i 2).val + t.val) := by
  have h := (afterN_holds x0 x1 x2 p z hz i (i 2).val le_rfl).2 t d
  rwa [Nat.sub_self, Nat.mul_zero] at h

end

end Cert.SbPromptIdeal.Hand

end
-- ==== Proof.SbValue.lean ====
/-
  What the stick-breaking attention's result array holds after the run: at batch `b`, query `T` and column `c`, the values of
  the earlier keys, each weighted by the exponential of its score less the softplus of the scores from it up to the query.
-/
module

public import proofs.«01_k».proof.Proof.SbInvariant
public import Idealize.ShloMosaic.Lib.Pipeline.Value

@[expose] public section

noncomputable section

namespace Cert.SbPromptIdeal.Hand

open Cert.SbPromptIdeal Cert.SbPromptIdeal.Gen Cert.StickBreaking
open Idealize.ShloMosaic Idealize.ShloMosaic.TcCoe Idealize.SL.Sem Finset

/-- The score of key `K` with query `T` in the head of column `col`, batch `b`. -/
def score (q : Vec Ideal S16x2048x512 .bf16) (kt : Vec Ideal S16x512x2048 .bf16) (b : Fin 16) (T : Fin 2048) (col : Fin 512) (K : ℕ) : EReal :=
  ∑ d : Fin 64, q (ix3 b T (⟨64 * (col.val / 64) + d.val, by omega⟩ : Fin 512))
    * kt (ix3 b (⟨64 * (col.val / 64) + d.val, by omega⟩ : Fin 512) (⟨min K 2047, by omega⟩ : Fin 2048))

/-- The attention's result, from its queries, keys and values. -/
def result (q : Vec Ideal S16x2048x512 .bf16) (kt vt : Vec Ideal S16x512x2048 .bf16) : Vec Ideal S16x2048x512 .bf16 := fun y =>
  attn (fun K => (score q kt (y 0) (y 1) (y 2) K).toReal) (fun K => vt (ix3 (y 0) (y 2) (⟨min K 2047, by omega⟩ : Fin 2048))) 0 (y 1).val

theorem outOf_apply (a : Acc Ideal) (x : S1x256x128.Idx) : outOf a x = a (ix2 (x 1) (x 2)) := by
  obtain ⟨t, d, rfl⟩ : ∃ (t : Fin 256) (d : Fin 128), x = ix3 (0 : Fin 1) t d := ⟨x 1, x 2, by
    funext a; match a with | ⟨0, _⟩ => exact Subsingleton.elim (α := Fin 1) _ _ | ⟨1, _⟩ => rfl | ⟨2, _⟩ => rfl⟩
  show outOf a (ix3 0 t d) = a (ix2 t d)
  pointwise [outOf]

/-- The four stores, element by element: column `c` belongs to pair `c / 128`. -/
theorem pieces_apply (f : ℕ → Col Ideal × Acc Ideal) (y : S1x256x512.Idx) (hy : ∃ p ∈ pieces (pack f), y ∈ p.1.set) :
    View.canon (pieces (pack f)) y = (f ((y 2).val / 128)).2 (ix2 (y 1) (⟨(y 2).val % 128, Nat.mod_lt _ (by norm_num)⟩ : Fin 128)) := by
  refine View.canon_apply_of_pieces (fun y : S1x256x512.Idx => (f ((y 2).val / 128)).2 (ix2 (y 1) (⟨(y 2).val % 128, Nat.mod_lt _ (by norm_num)⟩ : Fin 128))) _ ?_ y hy
  intro p hp x
  have key : ∀ (k : ℕ) (hk : k < 4) (h : ∀ a, (![0, 0, 128 * k] : Fin 3 → ℕ) a + (![1, 256, 128] : Fin 3 → ℕ) a ≤ S1x256x512.size a) (x : S1x256x128.Idx),
      outOf (f k).2 x = (fun y : S1x256x512.Idx => (f ((y 2).val / 128)).2 (ix2 (y 1) (⟨(y 2).val % 128, Nat.mod_lt _ (by norm_num)⟩ : Fin 128)))
        ((Rect.unit (s := S1x256x512) ![0, 0, 128 * k] ![1, 256, 128] h).emb x) := by
    intro k hk h x
    have hx2 : (x 2).val < 128 := (x 2).isLt
    have e2 : (((Rect.unit (s := S1x256x512) ![0, 0, 128 * k] ![1, 256, 128] h).emb x) 2).val = 128 * k + (x 2).val := by
      show 128 * k + 1 * (x 2).val = _
      omega
    have e1 : (((Rect.unit (s := S1x256x512) ![0, 0, 128 * k] ![1, 256, 128] h).emb x) 1).val = (x 1).val := by
      show 0 + 1 * (x 1).val = _
      omega
    rw [outOf_apply]
    dsimp only
    refine congrArg₂ (fun (k : ℕ) z => (f k).2 z) (by rw [e2]; omega) (congrArg₂ ix2 (Fin.ext e1.symm) (Fin.ext (by show (x 2).val = _ % 128; rw [e2]; omega)))
  simp only [List.mem_cons, List.not_mem_nil, or_false] at hp
  rcases hp with rfl | rfl | rfl | rfl
  · exact key 3 (by norm_num) inb_S1x256x512_S1x256x128_0_0_384 x
  · exact key 2 (by norm_num) inb_S1x256x512_S1x256x128_0_0_256 x
  · exact key 1 (by norm_num) inb_S1x256x512_S1x256x128_0_0_128 x
  · exact key 0 (by norm_num) inb_S1x256x512_S1x256x128_0_0_0 x

variable (m : (ℓ : Loc nD τ sig) → Buf (Elt Ideal) ℓ) (ρ : Dev nD → PrngReg)

/-- What the step leaves in the result's block. -/
theorem outsAt_apply (c : Dev nD) (t : Fin cfg0.N) (y : S1x256x512.Idx) :
    outsAt m c t y = (afterN (grid0.coords t) (iblk m c 0 t) (iblk m c 1 t) (iblk m c 2 t) (grid0.coords t 2).val ((y 2).val / 128)).2
      (ix2 (y 1) (⟨(y 2).val % 128, Nat.mod_lt _ (by norm_num)⟩ : Fin 128)) := by
  unfold outsAt
  by_cases hc : k0_cond1 (grid0.coords t) = 1#1
  · rw [dif_pos hc]
    unfold outOdd
    have hcov := coverOdd c (grid0.coords t) (ms0 t) (hs0 t) (ms1 t) (hs1 t) (ms2 t) (hs2 t) (ms3 t) (hs3 t) (iblk m c 0 t) (iblk m c 1 t) (iblk m c 2 t) hc
    rw [View.read_writes_eq_canon _ _ _ hcov]
    rw [pieces_odd c (grid0.coords t) (ms0 t) (hs0 t) (ms1 t) (hs1 t) (ms2 t) (hs2 t) (ms3 t) (hs3 t) hc (iblk m c 0 t) (iblk m c 1 t) (iblk m c 2 t)] at hcov ⊢
    exact pieces_apply _ y (hcov y)
  · rw [dif_neg hc]
    unfold outEven
    have hcov := coverEven c (grid0.coords t) (ms0 t) (hs0 t) (ms1 t) (hs1 t) (ms2 t) (hs2 t) (ms3 t) (hs3 t) (iblk m c 0 t) (iblk m c 1 t) (iblk m c 2 t) hc
    rw [View.read_writes_eq_canon _ _ _ hcov]
    rw [pieces_even c (grid0.coords t) (ms0 t) (hs0 t) (ms1 t) (hs1 t) (ms2 t) (hs2 t) (ms3 t) (hs3 t) hc (iblk m c 0 t) (iblk m c 1 t) (iblk m c 2 t)] at hcov ⊢
    exact pieces_apply _ y (hcov y)

theorem index3 (t : Fin cfg0.N) : win0_3.index t 0 = (grid0.coords t 0).val ∧ win0_3.index t 1 = (grid0.coords t 2).val ∧ win0_3.index t 2 = 0 :=
  (by decide +kernel : ∀ t : Fin grid0.N, win0_3.index t 0 = (grid0.coords t 0).val ∧ win0_3.index t 1 = (grid0.coords t 2).val ∧ win0_3.index t 2 = 0) t
theorem index0 (t : Fin cfg0.N) : win0_0.index t 0 = (grid0.coords t 0).val ∧ win0_0.index t 1 = (grid0.coords t 2).val ∧ win0_0.index t 2 = 0 :=
  (by decide +kernel : ∀ t : Fin grid0.N, win0_0.index t 0 = (grid0.coords t 0).val ∧ win0_0.index t 1 = (grid0.coords t 2).val ∧ win0_0.index t 2 = 0) t
theorem index1 (t : Fin cfg0.N) : win0_1.index t 0 = (grid0.coords t 0).val ∧ win0_1.index t 1 = 0 ∧ win0_1.index t 2 = 0 :=
  (by decide +kernel : ∀ t : Fin grid0.N, win0_1.index t 0 = (grid0.coords t 0).val ∧ win0_1.index t 1 = 0 ∧ win0_1.index t 2 = 0) t
theorem index2 (t : Fin cfg0.N) : win0_2.index t 0 = (grid0.coords t 0).val ∧ win0_2.index t 1 = 0 ∧ win0_2.index t 2 = 0 :=
  (by decide +kernel : ∀ t : Fin grid0.N, win0_2.index t 0 = (grid0.coords t 0).val ∧ win0_2.index t 1 = 0 ∧ win0_2.index t 2 = 0) t

/-- The batch and the block of queries of a point. -/
abbrev bOf (t : Fin cfg0.N) : Fin 16 := grid0.coords t 0
abbrev iOf (t : Fin cfg0.N) : Fin 8 := grid0.coords t 2

theorem q_block (c : Dev nD) (t : Fin cfg0.N) (r : Fin 256) (col : Fin 512) :
    iblk m c 0 t (ValueIdx.ix3 (0 : Fin 1) r col) = m ((c : Thread nD τ).loc main_arg0) (ix3 (bOf t) (⟨256 * (iOf t).val + r.val, by omega⟩ : Fin 2048) col) := by
  show V m c (Pipeline.arrRef spec0 0) ((win0_0.rect t).emb (ValueIdx.ix3 (0 : Fin 1) r col)) = _
  rw [show V m c (Pipeline.arrRef spec0 0) = m ((c : Thread nD τ).loc main_arg0) from V_main_arg0 m c]
  obtain ⟨h0, h1, h2⟩ := index0 t
  refine congrArg _ (funext fun a => Fin.ext ?_)
  refine (win0_0.rect_emb_val t _ a).trans ?_
  match a with
  | ⟨0, _⟩ => show win0_0.index t 0 * 1 + 0 = _; rw [h0]; exact Nat.mul_one _
  | ⟨1, _⟩ => show win0_0.index t 1 * 256 + r.val = _; rw [h1]; show (iOf t).val * 256 + r.val = 256 * (iOf t).val + r.val; omega
  | ⟨2, _⟩ => show win0_0.index t 2 * 512 + col.val = col.val; rw [h2]; omega

theorem k_block (c : Dev nD) (t : Fin cfg0.N) (col : Fin 512) (k : Fin 2048) :
    iblk m c 1 t (ValueIdx.ix3 (0 : Fin 1) col k) = m ((c : Thread nD τ).loc main_arg1) (ix3 (bOf t) col k) := by
  show V m c (Pipeline.arrRef spec0 1) ((win0_1.rect t).emb (ValueIdx.ix3 (0 : Fin 1) col k)) = _
  rw [show V m c (Pipeline.arrRef spec0 1) = m ((c : Thread nD τ).loc main_arg1) from V_main_arg1 m c]
  obtain ⟨h0, h1, h2⟩ := index1 t
  refine congrArg _ (funext fun a => Fin.ext ?_)
  refine (win0_1.rect_emb_val t _ a).trans ?_
  match a with
  | ⟨0, _⟩ => show win0_1.index t 0 * 1 + 0 = _; rw [h0]; exact Nat.mul_one _
  | ⟨1, _⟩ => show win0_1.index t 1 * 512 + col.val = col.val; rw [h1]; omega
  | ⟨2, _⟩ => show win0_1.index t 2 * 2048 + k.val = k.val; rw [h2]; omega

theorem v_block (c : Dev nD) (t : Fin cfg0.N) (col : Fin 512) (k : Fin 2048) :
    iblk m c 2 t (ValueIdx.ix3 (0 : Fin 1) col k) = m ((c : Thread nD τ).loc main_arg2) (ix3 (bOf t) col k) := by
  show V m c (Pipeline.arrRef spec0 2) ((win0_2.rect t).emb (ValueIdx.ix3 (0 : Fin 1) col k)) = _
  rw [show V m c (Pipeline.arrRef spec0 2) = m ((c : Thread nD τ).loc main_arg2) from V_main_arg2 m c]
  obtain ⟨h0, h1, h2⟩ := index2 t
  refine congrArg _ (funext fun a => Fin.ext ?_)
  refine (win0_2.rect_emb_val t _ a).trans ?_
  match a with
  | ⟨0, _⟩ => show win0_2.index t 0 * 1 + 0 = _; rw [h0]; exact Nat.mul_one _
  | ⟨1, _⟩ => show win0_2.index t 1 * 512 + col.val = col.val; rw [h1]; omega
  | ⟨2, _⟩ => show win0_2.index t 2 * 2048 + k.val = k.val; rw [h2]; omega

/-- Every entry a real number. -/
def Real3 {s : Shape} (x : s.Idx → EReal) : Prop := ∀ y, x y = ((x y).toReal : EReal)

theorem sum_mul_real {n : ℕ} (f g : Fin n → EReal) (hf : ∀ d, f d = ((f d).toReal : EReal)) (hg : ∀ d, g d = ((g d).toReal : EReal)) :
    ∑ d, f d * g d = ((∑ d, f d * g d).toReal : EReal) := by
  have e : ∑ d, f d * g d = ((∑ d, (f d).toReal * (g d).toReal : ℝ) : EReal) := by
    rw [coe_sum]
    exact sum_congr rfl fun d _ => by rw [EReal.coe_mul, ← hf, ← hg]
  rw [e, EReal.toReal_coe]

theorem score_real (q : Vec Ideal S16x2048x512 .bf16) (kt : Vec Ideal S16x512x2048 .bf16) (hq : Real3 q) (hk : Real3 kt) (b : Fin 16) (T : Fin 2048) (col : Fin 512) (K : ℕ) :
    score q kt b T col K = ((score q kt b T col K).toReal : EReal) :=
  sum_mul_real _ _ (fun _ => hq _) fun _ => hk _

/-- The blocks cover the array. -/
theorem covered (b i : ℕ) (hb : b < 16) (hi : i < 8) : ∃ t : Fin cfg0.N, (bOf t).val = b ∧ (iOf t).val = i := by
  obtain ⟨t, h0, h1⟩ := (by decide +kernel : ∀ (b : Fin 16) (i : Fin 8), ∃ t : Fin grid0.N, (grid0.coords t 0).val = b.val ∧ (grid0.coords t 2).val = i.val) ⟨b, hb⟩ ⟨i, hi⟩
  exact ⟨t, h0, h1⟩

section

variable (hq : ∀ c : Dev nD, Real3 (s := S16x2048x512) (m ((c : Thread nD τ).loc main_arg0))) (hk : ∀ c : Dev nD, Real3 (s := S16x512x2048) (m ((c : Thread nD τ).loc main_arg1)))

include hq hk

/-- The step's block of the result. -/
theorem outsAt_result (c : Dev nD) (t : Fin cfg0.N) (r : Fin 256) (col : Fin 512) :
    outsAt m c t (ValueIdx.ix3 (0 : Fin 1) r col) = result (m ((c : Thread nD τ).loc main_arg0)) (m ((c : Thread nD τ).loc main_arg1)) (m ((c : Thread nD τ).loc main_arg2))
      (ix3 (bOf t) (⟨256 * (iOf t).val + r.val, by omega⟩ : Fin 2048) col) := by
  rw [outsAt_apply]
  show (afterN (grid0.coords t) (iblk m c 0 t) (iblk m c 1 t) (iblk m c 2 t) (grid0.coords t 2).val (col.val / 128)).2
      (ix2 r (⟨col.val % 128, Nat.mod_lt _ (by norm_num)⟩ : Fin 128)) = _
  have hr : ∀ (r' K : ℕ), rowScore (iblk m c 0 t) (iblk m c 1 t) (col.val / 128) r' K
      = ((rowScore (iblk m c 0 t) (iblk m c 1 t) (col.val / 128) r' K).toReal : EReal) := fun r' K => by
    unfold rowScore
    exact sum_mul_real _ _ (fun d => by rw [q_block]; exact hq c _) fun d => by rw [k_block]; exact hk c _
  rw [afterN_acc (iblk m c 0 t) (iblk m c 1 t) (iblk m c 2 t) (col.val / 128) (fun r' K => (rowScore (iblk m c 0 t) (iblk m c 1 t) (col.val / 128) r' K).toReal) hr]
  unfold result
  show attn _ _ 0 (256 * (iOf t).val + r.val) = attn _ _ 0 (256 * (iOf t).val + r.val)
  have ez : ∀ K, rowScore (iblk m c 0 t) (iblk m c 1 t) (col.val / 128) (rowOf r (⟨col.val % 128, Nat.mod_lt _ (by norm_num)⟩ : Fin 128)).val K
      = score (m ((c : Thread nD τ).loc main_arg0)) (m ((c : Thread nD τ).loc main_arg1)) (bOf t) (⟨256 * (iOf t).val + r.val, by omega⟩ : Fin 2048) col K := fun K => by
    unfold rowScore score
    simp only [q_block, k_block]
    refine sum_congr rfl fun d _ => ?_
    have e1 : min ((rowOf r (⟨col.val % 128, Nat.mod_lt _ (by norm_num)⟩ : Fin 128)).val % 256) 255 = r.val := by
      rw [rowOf_mod]; omega
    have e2 : min (128 * (col.val / 128) + (64 * ((rowOf r (⟨col.val % 128, Nat.mod_lt _ (by norm_num)⟩ : Fin 128)).val / 256) + d.val)) 511 = 64 * (col.val / 64) + d.val := by
      show min (128 * (col.val / 128) + (64 * ((256 * (col.val % 128 / 64) + r.val) / 256) + d.val)) 511 = _
      have := d.isLt
      have := r.isLt
      have := col.isLt
      omega
    simp only [e1, e2]
  have ev : ∀ K, laneValue (iblk m c 2 t) (col.val / 128) (col.val % 128) K = m ((c : Thread nD τ).loc main_arg2) (ix3 (bOf t) col (⟨min K 2047, by omega⟩ : Fin 2048)) := fun K => by
    unfold laneValue
    rw [v_block]
    refine congrArg _ (congrArg (fun x => ix3 (bOf t) x (⟨min K 2047, by omega⟩ : Fin 2048)) (Fin.ext ?_))
    show min (128 * (col.val / 128) + col.val % 128) 511 = col.val
    omega
  refine congrArg₂ (fun z v => attn z v 0 (256 * (iOf t).val + r.val)) (funext fun K => congrArg EReal.toReal (ez K)) (funext fun K => ev K)

/-- The whole array. -/
theorem final (c : Dev nD) : (dats m 0 c).arrAt 3 cfg0.N
    = result (m ((c : Thread nD τ).loc main_arg0)) (m ((c : Thread nD τ).loc main_arg1)) (m ((c : Thread nD τ).loc main_arg2)) := by
  have hemb : ∀ (t : Fin cfg0.N) (r : Fin 256) (col : Fin 512), (win0_3.rect t).emb (ValueIdx.ix3 (0 : Fin 1) r col) = ix3 (bOf t) (⟨256 * (iOf t).val + r.val, by omega⟩ : Fin 2048) col := by
    intro t r col
    obtain ⟨h0, h1, h2⟩ := index3 t
    refine funext fun a => Fin.ext ?_
    refine (win0_3.rect_emb_val t _ a).trans ?_
    match a with
    | ⟨0, _⟩ => show win0_3.index t 0 * 1 + 0 = _; rw [h0]; exact Nat.mul_one _
    | ⟨1, _⟩ => show win0_3.index t 1 * 256 + r.val = _; rw [h1]; show (iOf t).val * 256 + r.val = 256 * (iOf t).val + r.val; omega
    | ⟨2, _⟩ => show win0_3.index t 2 * 512 + col.val = col.val; rw [h2]; omega
  refine (dats m 0 c).arrAt_eq_of_cover 3 _ (fun t _ => ?_) (fun y => ?_)
  · show (cfg0.win 3).cut (grid0.coords t) ((dats m 0 c).after 3 t) = _
    rw [after_3]
    funext y
    obtain ⟨r, col, rfl⟩ : ∃ (r : Fin 256) (col : Fin 512), y = ValueIdx.ix3 (0 : Fin 1) r col := ⟨y 1, y 2, by
      funext a; match a with | ⟨0, _⟩ => exact Subsingleton.elim (α := Fin 1) _ _ | ⟨1, _⟩ => rfl | ⟨2, _⟩ => rfl⟩
    refine (outsAt_result m hq hk c t r col).trans ?_
    exact congrArg _ (hemb t r col).symm
  · have hb0 : (y 0).val < 16 := (y 0).isLt
    have hT : (y 1).val < 2048 := (y 1).isLt
    obtain ⟨t, hb, hi⟩ := covered (y 0).val ((y 1).val / 256) hb0 (by omega)
    refine ⟨t, flush0_3 t, ?_⟩
    have e : y = (win0_3.rect t).emb (ValueIdx.ix3 (0 : Fin 1) (⟨(y 1).val % 256, Nat.mod_lt _ (by norm_num)⟩ : Fin 256) (show Fin 512 from y 2)) := by
      refine Eq.trans ?_ (hemb t _ (show Fin 512 from y 2)).symm
      funext a
      match a with
      | ⟨0, _⟩ => exact Fin.ext hb.symm
      | ⟨1, _⟩ => exact Fin.ext (by show (y 1).val = 256 * (iOf t).val + (y 1).val % 256; rw [hi]; omega)
      | ⟨2, _⟩ => rfl
    rw [e]
    exact Finset.mem_map_of_mem _ (Finset.mem_univ _)

end

/-- The run, with the result named. -/
theorem run_result (hq : ∀ c : Dev nD, Real3 (s := S16x2048x512) (m ((c : Thread nD τ).loc main_arg0))) (hk : ∀ c : Dev nD, Real3 (s := S16x512x2048) (m ((c : Thread nD τ).loc main_arg1))) :
    θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m hq hk c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.SbPromptIdeal.Hand

end
-- ==== Proof.SbReference.lean ====
/-
  What the reference of the stick-breaking attention computes, element by element: its composed term, named stage by stage,
  and each stage read at an index where the queries and keys are real numbers.
-/
module

public import proofs.«01_k».proof.Proof.Gen.SbPromptRefIdeal.Run
public import proofs.«01_k».proof.Proof.SbMath
public import Idealize.ShloMosaic.Lib.WordCmp
public import Idealize.ShloMosaic.Lib.Pointwise
public import Idealize.ShloMosaic.Lib.ValueIdx

@[expose] public section

noncomputable section

namespace Cert.SbPromptRefIdeal.Hand

open Cert.SbPromptRefIdeal Cert.SbPromptRefIdeal.Gen Cert.StickBreaking
open Idealize.ShloMosaic Idealize.ShloMosaic.TcCoe Idealize.ShloMosaic.WordCmp Idealize.ShloMosaic.Scalar Finset

/-- The scores of all the heads: every query with every key. -/
def scoresR (q : FVec Ideal S16x2048x512 .bf16) (kt : FVec Ideal S16x512x2048 .bf16) : FVec Ideal S16x8x2048x2048 .f32 :=
  Host.dotGeneral dot_S16x2048x8x64_S16x2048x8x64_S16x8x2048x2048_3_3_1_1_02_02 none
    (shapeCast _ (extf .f32 q bitsLt_bf16_f32) shapeCasts_S16x2048x512_S16x2048x8x64)
    (transpose S16x2048x8x64 [0, 3, 1, 2] (shapeCast _ (extf .f32 kt bitsLt_bf16_f32) shapeCasts_S16x512x2048_S16x8x64x2048) transposes_S16x8x64x2048_S16x2048x8x64_0_3_1_2)

/-- Zero everywhere. -/
abbrev zeroR : FVec Ideal S16x8x2048x2048 .f32 := broadcastInDim S16x8x2048x2048 ![] bcast_S_S16x8x2048x2048 (constant S_ .f32 0x00000000#32)

/-- The logarithm of the sigmoid. -/
def logSig (n : FVec Ideal S16x8x2048x2048 .f32) : FVec Ideal S16x8x2048x2048 .f32 :=
  Host.negf (select (cmpf .une (subf (Host.negf n) zeroR) (subf (Host.negf n) zeroR)) (addf (Host.negf n) zeroR)
    (addf (maximumf (Host.negf n) zeroR) (Host.log1p (Host.exp (Host.negf (Host.absf (subf (Host.negf n) zeroR)))))))

/-- Whether the key comes before the query. -/
def maskR : IVec S16x8x2048x2048 1 :=
  broadcastInDim S16x8x2048x2048 ![2, 3] bcast_S2048x2048_S16x8x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The logarithm of what a key leaves to the keys before it. -/
def keepR (z : FVec Ideal S16x8x2048x2048 .f32) : FVec Ideal S16x8x2048x2048 .f32 := select maskR (logSig (Host.negf z)) zeroR

/-- The running sum from the last key back. -/
def cumR (x : FVec Ideal S16x8x2048x2048 .f32) : FVec Ideal S16x8x2048x2048 .f32 :=
  Host.reduceWindowAdd ![1, 1, 1, 2048] ![1, 1, 1, 1] ![0, 0, 0, 0] ![0, 0, 0, 2047] x (broadcastInDim S_ ![] bcast_S_S_ (constant S_ .f32 0x00000000#32)) reduceWindows_S16x8x2048x2048_S16x8x2048x2048_w1s1p0_0_w1s1p0_0_w1s1p0_0_w2048s1p0_2047 h_S_

/-- The weights. -/
def weightR (z : FVec Ideal S16x8x2048x2048 .f32) : FVec Ideal S16x8x2048x2048 .f32 :=
  select maskR (Host.exp (addf (logSig z) (subf (cumR (keepR z)) (keepR z)))) zeroR

/-- The weighted values, the heads side by side. -/
def outR (w : FVec Ideal S16x8x2048x2048 .f32) (vt : FVec Ideal S16x512x2048 .bf16) : FVec Ideal S16x2048x512 .bf16 :=
  truncf .bf16 (shapeCast _ (transpose S16x2048x8x64 [0, 3, 1, 2] (Host.dotGeneral dot_S16x2048x8x64_S16x8x2048x2048_S16x8x64x2048_1_3_3_2_02_01 none (transpose S16x2048x8x64 [0, 3, 1, 2] (shapeCast _ (extf .f32 vt bitsLt_bf16_f32) shapeCasts_S16x512x2048_S16x8x64x2048) transposes_S16x8x64x2048_S16x2048x8x64_0_3_1_2) w) transposes_S16x8x64x2048_S16x2048x8x64_0_3_1_2) shapeCasts_S16x2048x8x64_S16x2048x512) bitsLt_bf16_f32

/-- The composed term is these stages. -/
theorem res_eq (m : (ℓ : Loc nD τ sig) → Buf (Elt Ideal) ℓ) (c : Dev nD) : Value.res_out0 m c
    = outR (weightR (scoresR (m ((c : Thread nD τ).loc main_arg0)) (m ((c : Thread nD τ).loc main_arg1)))) (m ((c : Thread nD τ).loc main_arg2)) := rfl

/-- The softplus at a number and at its opposite. -/
theorem sp_neg (x : ℝ) : sp (-x) = sp x - x := by
  unfold sp
  rw [abs_neg]
  rcases le_total x 0 with hx | hx
  · rw [max_eq_left (by linarith : (0:ℝ) ≤ -x), max_eq_right hx]; ring
  · rw [max_eq_right (by linarith : -x ≤ (0:ℝ)), max_eq_left hx]; ring

theorem foldl_add {ι : Type*} (l : List ι) (g : ι → EReal) (a : EReal) : l.foldl (fun r n => r + g n) a = a + (l.map g).sum := by
  induction l generalizing a with
  | nil => simp
  | cons x l ih => rw [List.foldl_cons, ih, List.map_cons, List.sum_cons, add_assoc]

theorem maskR_apply (b : Fin 16) (h : Fin 8) (T K : Fin 2048) : maskR (ix4 b h T K) = BitVec.ofBool (decide (K.val < T.val)) := by
  pointwise [maskR]
  exact cmpi_slt_ofNat (by norm_num; omega) (by norm_num; omega)

theorem zeroR_apply (y : S16x8x2048x2048.Idx) : zeroR y = 0 := Ideal.ofBits_zero_f32

theorem logSig_apply (n : FVec Ideal S16x8x2048x2048 .f32) (y : S16x8x2048x2048.Idx) (x : ℝ) (h : n y = (x : EReal)) : logSig n y = ((-sp (-x) : ℝ) : EReal) := by
  show -(Scalar.select (Ideal.cmp .une (-(n y) - zeroR y) (-(n y) - zeroR y)) (-(n y) + zeroR y) (max (-(n y)) (zeroR y) + Ideal.log1p (Ideal.exp (-(max (-(n y) - zeroR y) (-(-(n y) - zeroR y))))))) = _
  rw [zeroR_apply]
  have e0 : -(x : EReal) - 0 = ((-x : ℝ) : EReal) := by rw [sub_zero, EReal.coe_neg]
  rw [h, e0, show Ideal.cmp .une ((-x : ℝ) : EReal) ((-x : ℝ) : EReal) = 0#1 by simp [Ideal.cmp], ValueIdx.select_zero, max_neg, ← EReal.coe_neg, ← EReal.coe_neg, Ideal.exp_coe]
  unfold Ideal.log1p
  rw [log_one_add_exp, ← EReal.coe_zero, ← coe_max, ← EReal.coe_add, ← EReal.coe_neg]
  rfl

theorem keepR_apply (z : FVec Ideal S16x8x2048x2048 .f32) (b : Fin 16) (h : Fin 8) (T K : Fin 2048) (x : ℝ) (hz : z (ix4 b h T K) = (x : EReal)) :
    keepR z (ix4 b h T K) = (((if K.val < T.val then -sp x else 0) : ℝ) : EReal) := by
  show Scalar.select (maskR (ix4 b h T K)) (logSig (Host.negf z) (ix4 b h T K)) (zeroR (ix4 b h T K)) = _
  have e : Host.negf z (ix4 b h T K) = ((-x : ℝ) : EReal) := by
    show -(z (ix4 b h T K)) = _
    rw [hz, EReal.coe_neg]
  rw [maskR_apply, Scalar.select_decide, logSig_apply _ _ _ e, neg_neg, zeroR_apply]
  split <;> rfl

/-- The window of the running sum: all the positions of a row. -/
abbrev winS : Shape := ⟨4, ![1, 1, 1, 2048]⟩

/-- A sum over the window, by its last coordinate. -/
theorem sum_window (G : winS.Idx → EReal) : ∑ n : Fin winS.numel, G (winS.rowMajor.symm n) = ∑ l : Fin 2048, G (ix4 (0 : Fin 1) (0 : Fin 1) (0 : Fin 1) l) := by
  refine (Equiv.sum_comp winS.rowMajor.symm G).trans ?_
  symm
  refine Fintype.sum_equiv ⟨fun l => ix4 (0 : Fin 1) (0 : Fin 1) (0 : Fin 1) l, fun w => w 3, fun _ => rfl, fun w => ?_⟩ _ _ fun _ => rfl
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-- The running sum reads, at window position `w`, the array at the index moved by `w`, where there is one. -/
def reach (x : FVec Ideal S16x8x2048x2048 .f32) (j : S16x8x2048x2048.Idx) (w : winS.Idx) : EReal :=
  if hin : ∀ a : Fin 4, (![0, 0, 0, 0] : Fin 4 → ℕ) a ≤ (j a).val * (![1, 1, 1, 1] : Fin 4 → ℕ) a + (w a).val
      ∧ (j a).val * (![1, 1, 1, 1] : Fin 4 → ℕ) a + (w a).val - (![0, 0, 0, 0] : Fin 4 → ℕ) a < S16x8x2048x2048.size a
    then x (fun a => ⟨(j a).val * (![1, 1, 1, 1] : Fin 4 → ℕ) a + (w a).val - (![0, 0, 0, 0] : Fin 4 → ℕ) a, (hin a).2⟩) else 0

theorem reach_apply (x : FVec Ideal S16x8x2048x2048 .f32) (b : Fin 16) (h : Fin 8) (T K : Fin 2048) (f : ℕ → ℝ)
    (hx : ∀ k : Fin 2048, x (ix4 b h T k) = ((f k.val : ℝ) : EReal)) (l : Fin 2048) :
    reach x (ix4 b h T K) (ix4 (0 : Fin 1) (0 : Fin 1) (0 : Fin 1) l) = (((if K.val + l.val < 2048 then f (K.val + l.val) else 0) : ℝ) : EReal) := by
  unfold reach
  by_cases hl : K.val + l.val < 2048
  · rw [if_pos hl, dif_pos]
    · refine Eq.trans (congrArg x ?_) (hx (⟨K.val + l.val, hl⟩ : Fin 2048))
      funext a
      apply Fin.ext
      match a with
      | ⟨0, _⟩ => show b.val * 1 + 0 - 0 = b.val; omega
      | ⟨1, _⟩ => show h.val * 1 + 0 - 0 = h.val; omega
      | ⟨2, _⟩ => show T.val * 1 + 0 - 0 = T.val; omega
      | ⟨3, _⟩ => show K.val * 1 + l.val - 0 = K.val + l.val; omega
    · intro a
      match a with
      | ⟨0, _⟩ => exact ⟨Nat.zero_le _, by show b.val * 1 + 0 - 0 < 16; omega⟩
      | ⟨1, _⟩ => exact ⟨Nat.zero_le _, by show h.val * 1 + 0 - 0 < 8; omega⟩
      | ⟨2, _⟩ => exact ⟨Nat.zero_le _, by show T.val * 1 + 0 - 0 < 2048; omega⟩
      | ⟨3, _⟩ => exact ⟨Nat.zero_le _, by show K.val * 1 + l.val - 0 < 2048; omega⟩
  · rw [if_neg hl, dif_neg]
    · rfl
    · intro hin
      have h3 : K.val * 1 + l.val - 0 < 2048 := (hin 3).2
      omega

theorem cumR_eq (x : FVec Ideal S16x8x2048x2048 .f32) (j : S16x8x2048x2048.Idx) : cumR x j = ∑ n : Fin winS.numel, reach x j (winS.rowMajor.symm n) := by
  unfold cumR Host.reduceWindowAdd
  rw [Ideal.hostReduceWindowAdd_def]
  unfold Ideal.hostReduceWindowAdd Host.reduceWindow
  dsimp only
  rw [foldl_add, ← Fin.sum_univ_def]
  have hv : (broadcastInDim S_ ![] bcast_S_S_ (constant (F := Ideal) S_ .f32 0x00000000#32)) (Shape.Idx.first h_S_) = 0 := Ideal.ofBits_zero_f32
  rw [hv, zero_add]
  refine sum_congr rfl fun n _ => ?_
  unfold reach
  split_ifs with h1 h2 h2
  · rfl
  · exact absurd h1 h2
  · exact absurd h2 h1
  · rfl

/-- The running sum, of real numbers. -/
theorem cumR_apply (x : FVec Ideal S16x8x2048x2048 .f32) (b : Fin 16) (h : Fin 8) (T K : Fin 2048) (f : ℕ → ℝ)
    (hx : ∀ k : Fin 2048, x (ix4 b h T k) = ((f k.val : ℝ) : EReal)) : cumR x (ix4 b h T K) = ((∑ k ∈ Ico K.val 2048, f k : ℝ) : EReal) := by
  rw [cumR_eq, sum_window, sum_congr rfl fun l _ => reach_apply x b h T K f hx l, ← coe_sum,
    Fin.sum_univ_eq_sum_range (fun l => if K.val + l < 2048 then f (K.val + l) else 0) 2048, sum_Ico_eq_sum_range]
  refine congrArg _ ?_
  symm
  refine Eq.trans (sum_congr rfl fun k hk => ?_) (sum_subset (range_subset_range.2 (Nat.sub_le 2048 K.val)) fun k _ hk => ?_)
  · rw [if_pos (by have := mem_range.1 hk; omega)]
  · rw [if_neg (by have := mt mem_range.2 hk; omega)]

/-- A weight, of real scores. -/
theorem weightR_apply (z : FVec Ideal S16x8x2048x2048 .f32) (b : Fin 16) (h : Fin 8) (T K : Fin 2048) (f : ℕ → ℝ)
    (hz : ∀ k : Fin 2048, z (ix4 b h T k) = ((f k.val : ℝ) : EReal)) :
    weightR z (ix4 b h T K) = if K.val < T.val then ((weight f T.val K.val : ℝ) : EReal) else 0 := by
  show Scalar.select (maskR (ix4 b h T K)) (Ideal.exp (logSig z (ix4 b h T K) + (cumR (keepR z) (ix4 b h T K) - keepR z (ix4 b h T K)))) (zeroR (ix4 b h T K)) = _
  rw [maskR_apply, Scalar.select_decide]
  by_cases hK : K.val < T.val
  · rw [if_pos hK, if_pos hK, cumR_apply (keepR z) b h T K (fun k => if k < T.val then -sp (f k) else 0) fun k => keepR_apply z b h T k _ (hz k),
      keepR_apply z b h T K _ (hz K), logSig_apply _ _ _ (hz K), ← EReal.coe_sub, ← EReal.coe_add, Ideal.exp_coe]
    refine congrArg _ ?_
    unfold weight
    refine congrArg _ ?_
    have e : ∑ k ∈ Ico K.val 2048, (if k < T.val then -sp (f k) else 0) = -∑ k ∈ Ico K.val T.val, sp (f k) := by
      rw [← sum_neg_distrib, ← sum_Ico_consecutive _ hK.le (by omega : T.val ≤ 2048)]
      rw [sum_congr (g := fun k => -sp (f k)) rfl fun k hk => if_pos (mem_Ico.1 hk).2,
        sum_eq_zero (s := Ico T.val 2048) fun k hk => if_neg (not_lt.2 (mem_Ico.1 hk).1), add_zero]
    rw [e, if_pos hK]
    have := sp_neg (f K.val)
    linarith
  · rw [if_neg hK, if_neg hK, zeroR_apply]

theorem scoresR_apply (q : FVec Ideal S16x2048x512 .bf16) (kt : FVec Ideal S16x512x2048 .bf16) (b : Fin 16) (h : Fin 8) (T K : Fin 2048) :
    scoresR q kt (ix4 b h T K) = ∑ d : Fin 64, q (ix3 b T (⟨h.val * 64 + d.val, by omega⟩ : Fin 512)) * kt (ix3 b (⟨h.val * 64 + d.val, by omega⟩ : Fin 512) K) := by
  pointwise [scoresR]

theorem outR_apply (w : FVec Ideal S16x8x2048x2048 .f32) (vt : FVec Ideal S16x512x2048 .bf16) (b : Fin 16) (T : Fin 2048) (c : Fin 512) :
    outR w vt (ix3 b T c) = ∑ K : Fin 2048, vt (ix3 b c K) * w (ix4 b (⟨c.val / 64, by omega⟩ : Fin 8) T K) := by
  pointwise [outR]

end Cert.SbPromptRefIdeal.Hand

end
-- ==== Proof.SbEquation.lean ====
/-
  The equation: where every query and key is a real number, the attention that the grid of key blocks computes is the
  reference's.
-/
module

public import proofs.«01_k».proof.Proof.SbValue
public import proofs.«01_k».proof.Proof.SbReference

@[expose] public section

noncomputable section

namespace Cert.SbEquation

open Cert.StickBreaking Cert.SbPromptIdeal.Hand Cert.SbPromptRefIdeal.Hand
open Idealize.ShloMosaic Idealize.ShloMosaic.TcCoe Finset

theorem result_eq (q : Vec Ideal Cert.SbPromptIdeal.S16x2048x512 .bf16) (kt vt : Vec Ideal Cert.SbPromptIdeal.S16x512x2048 .bf16) (hq : Real3 q) (hk : Real3 kt) :
    result q kt vt = outR (weightR (scoresR q kt)) vt := by
  funext y
  obtain ⟨b, T, c, rfl⟩ : ∃ (b : Fin 16) (T : Fin 2048) (c : Fin 512), y = ix3 b T c := ⟨y 0, y 1, y 2, by
    funext a; match a with | ⟨0, _⟩ => rfl | ⟨1, _⟩ => rfl | ⟨2, _⟩ => rfl⟩
  refine Eq.trans ?_ (outR_apply (weightR (scoresR q kt)) vt b T c).symm
  have hz : ∀ k : Fin 2048, scoresR q kt (ix4 b (⟨c.val / 64, by omega⟩ : Fin 8) T k) = (((score q kt b T c k.val).toReal : ℝ) : EReal) := fun k => by
    rw [← score_real q kt hq hk, scoresR_apply]
    unfold score
    have e : min k.val 2047 = k.val := by omega
    simp only [e, Nat.mul_comm (c.val / 64) 64]
  simp only [weightR_apply (scoresR q kt) b (⟨c.val / 64, by omega⟩ : Fin 8) T _ (fun k => (score q kt b T c k).toReal) hz]
  show attn (fun K => (score q kt b T c K).toReal) (fun K => vt (ix3 b c (⟨min K 2047, by omega⟩ : Fin 2048))) 0 T.val = _
  unfold attn
  have e : ∀ K : Fin 2048, vt (ix3 b c K) * (if K.val < T.val then ((weight (fun k => (score q kt b T c k).toReal) T.val K.val : ℝ) : EReal) else 0)
      = (fun K : ℕ => (if K < T.val then ((weight (fun k => (score q kt b T c k).toReal) T.val K : ℝ) : EReal) else 0) * vt (ix3 b c (⟨min K 2047, by omega⟩ : Fin 2048))) K.val := fun K => by
    have e : (⟨min K.val 2047, by omega⟩ : Fin 2048) = K := Fin.ext (by show min K.val 2047 = K.val; omega)
    dsimp only
    rw [e, mul_comm]
  rw [sum_congr rfl fun K _ => e K, Fin.sum_univ_eq_sum_range (fun K : ℕ => (if K < T.val then ((weight (fun k => (score q kt b T c k).toReal) T.val K : ℝ) : EReal) else 0) * vt (ix3 b c (⟨min K 2047, by omega⟩ : Fin 2048))) 2048,
    ← range_eq_Ico]
  refine Eq.trans (sum_congr rfl fun k hk => ?_) (sum_subset (range_subset_range.2 T.isLt.le) fun k _ hk => ?_)
  · rw [if_pos (mem_range.1 hk)]
  · rw [if_neg (mt mem_range.2 hk), zero_mul]

end Cert.SbEquation

end
-- ==== Proof.SbFinite.lean ====
/-
  The precondition read back: every query and every key is a real number.
-/
module

public import proofs.«01_k».proof.Defs
public import proofs.«01_k».proof.Proof.SbValue
public import Idealize.ShloMosaic.Lib.ReduceAll

@[expose] public section

noncomputable section

namespace Cert.Pre_finite.Hand

open Cert.Pre_finite Cert.SbPromptIdeal.Hand
open Idealize.ShloMosaic

theorem facts : Facts where
  bitsLt_bf16_f32 := by decide
  bcast_S_S16x2048x512 := by decide
  reducesTo_S16x2048x512_S_d0_1_2 := by decide
  h_S_ := by decide
  bcast_S_S16x512x2048 := by decide
  reducesTo_S16x512x2048_S_d0_1_2 := by decide

instance : Subsingleton S_.Idx := ⟨fun a b => funext fun i => i.elim0⟩

/-- A number whose size is below the largest is real. -/
theorem real_of_lt {x : EReal} (h : max x (-x) < ⊤) : x = ((x.toReal : ℝ) : EReal) := by
  refine (EReal.coe_toReal ?_ ?_).symm
  · rintro rfl
    exact absurd (lt_of_le_of_lt (le_max_left _ _) h) (lt_irrefl _)
  · rintro rfl
    exact absurd (lt_of_le_of_lt (le_max_right _ _) h) (by simp)

theorem real_of_cmp {x : EReal} (h : Ideal.cmp .olt (max x (-x)) (Ideal.ofBits .f32 0x7F800000#32) = 1#1) : x = ((x.toReal : ℝ) : EReal) := by
  have e : Ideal.ofBits .f32 0x7F800000#32 = ⊤ := by simp [Ideal.ofBits, Ideal.ieee]
  rw [e] at h
  unfold Ideal.cmp at h
  apply real_of_lt
  by_contra hn
  simp [hn] at h

theorem real (q : FVec Ideal S16x2048x512 .bf16) (kt vt : FVec Ideal S16x512x2048 .bf16)
    (h : @Cert.Pre_finite.fn facts Ideal _ q kt vt = fun _ => 1#1) : Real3 q ∧ Real3 kt := by
  have h0 := congrFun h (fun i : Fin 0 => i.elim0)
  unfold fn at h0
  dsimp only at h0
  obtain ⟨h1, h2⟩ := IntOp.andi_eq_one.1 h0
  exact ⟨fun y => real_of_cmp (Host.reduce_andi_all _ _ _ _ _ h1 y), fun y => real_of_cmp (Host.reduce_andi_all _ _ _ _ _ h2 y)⟩

end Cert.Pre_finite.Hand

end
-- ==== Proof.SbClaims.lean ====
/-
  The claims on the stick-breaking attention of the prompts: the frames, the named constants, and the equality with the
  reference over the extended reals.
-/
module

public import proofs.«01_k».proof.Defs
public import proofs.«01_k».proof.Proof.SbPromptFrame
public import proofs.«01_k».proof.Proof.SbPromptIdealFrame
public import proofs.«01_k».proof.Proof.SbEquation
public import proofs.«01_k».proof.Proof.SbFinite
public import Idealize.ShloMosaic.Lib.Quiescent

@[expose] public section

noncomputable section

namespace Cert.SbClaims

open Idealize.ShloMosaic Idealize.ShloMosaic.TcCoe Idealize.SL.Sem

theorem frame_p : quiescent_SbPrompt (hSbPrompt := Cert.SbPrompt.Gen.facts) := fun m ρ _ => Cert.SbPrompt.Hand.frame m ρ

theorem frame_pi : quiescent_SbPromptIdeal (hSbPromptIdeal := Cert.SbPromptIdeal.Gen.facts) := fun m ρ _ => Cert.SbPromptIdeal.Hand.frame m ρ

theorem frame_pi_finite : quiescent_SbPromptIdeal_pre_finite (hSbPromptIdeal := Cert.SbPromptIdeal.Gen.facts) (hPre_finite := Cert.Pre_finite.Hand.facts) :=
  fun m ρ _ => Cert.SbPromptIdeal.Hand.frame m ρ

theorem frame_ri : quiescent_SbPromptRefIdeal (hSbPromptRefIdeal := Cert.SbPromptRefIdeal.Gen.facts) := fun m ρ _ =>
  (θ_run Cert.SbPromptRefIdeal.defs _ _).mono (fun r h => ⟨fun c => (h c).2, sem_eq_zero_of_no_sems (by decide) r.2⟩) (Cert.SbPromptRefIdeal.Value.run m ρ)

theorem frame_ri_finite : quiescent_SbPromptRefIdeal_pre_finite (hSbPromptRefIdeal := Cert.SbPromptRefIdeal.Gen.facts) (hPre_finite := Cert.Pre_finite.Hand.facts) :=
  fun m ρ _ => frame_ri m ρ trivial

theorem preserves : preserves_SbPrompt_SbPromptIdeal :=
  ⟨IdealRules.named_const.statement Cert.SbPromptIdeal.κ "neg_log2e" .f32 0xBFB8AA3B#32 _ rfl,
    IdealRules.named_const.statement Cert.SbPromptIdeal.κ "log2e" .f32 0x3FB8AA3B#32 _ rfl⟩

theorem algebraic : algebraic_SbPromptIdeal_SbPromptRefIdeal_pre_finite (hSbPromptIdeal := Cert.SbPromptIdeal.Gen.facts)
    (hSbPromptRefIdeal := Cert.SbPromptRefIdeal.Gen.facts) (hPre_finite := Cert.Pre_finite.Hand.facts) := by
  intro m ρ m' ρ' hpre hagree
  have hreal := fun c => Cert.Pre_finite.Hand.real _ _ _ (hpre c)
  refine ⟨fun c : Dev Cert.SbPromptIdeal.nD => Cert.SbPromptIdeal.Hand.result (m ((c.tc : Thread Cert.SbPromptIdeal.nD Cert.SbPromptIdeal.τ).loc Cert.SbPromptIdeal.main_arg0)) (m ((c.tc : Thread Cert.SbPromptIdeal.nD Cert.SbPromptIdeal.τ).loc Cert.SbPromptIdeal.main_arg1)) (m ((c.tc : Thread Cert.SbPromptIdeal.nD Cert.SbPromptIdeal.τ).loc Cert.SbPromptIdeal.main_arg2)),
    Cert.SbPromptIdeal.Hand.run_result m ρ (fun c => (hreal c).1) (fun c => (hreal c).2), ?_⟩
  refine (θ_run Cert.SbPromptRefIdeal.defs _ _).mono (fun _ h c => ⟨(h c).1.trans ?_, (h c).2⟩) (Cert.SbPromptRefIdeal.Value.run m' ρ')
  refine (Cert.SbPromptRefIdeal.Hand.res_eq m' c).trans ?_
  rw [(hagree c).1, (hagree c).2.1, (hagree c).2.2]
  exact (Cert.SbEquation.result_eq _ _ _ (hreal c).1 (hreal c).2).symm

end Cert.SbClaims

end
-- ==== Proof.Rows.lean ====
/-
  Rows of the model's layers, over the extended reals: a row's root-mean-square normalisation, and the feed-forward part
  applied to a row; the feed-forward sum split into eight chunks and a sum over a row split into its halves.
-/
module

public import Idealize.ShloMosaic.Lib.Pointwise

@[expose] public section

noncomputable section

namespace Cert.Rows

open Idealize.ShloMosaic Finset

/-- The row divided by the root of the mean of its squares, times the gains. -/
def rmsRow (x g : Fin 1024 → EReal) (l : Fin 1024) : EReal :=
  x l * Ideal.rsqrt (Ideal.div (∑ k, x k * x k) (Ideal.ofBits .f32 0x44800000#32) + Ideal.ofBits .f32 0x358637BD#32) * g l

/-- A hidden feature's contribution to an output column: the squared positive part of its input, times its weight. -/
def term (h : Fin 1024 → EReal) (wu : Fin 1024 → Fin 4096 → EReal) (wd : Fin 4096 → Fin 1024 → EReal) (l : Fin 1024) (f : Fin 4096) : EReal :=
  max (∑ k, h k * wu k f) 0 * max (∑ k, h k * wu k f) 0 * wd f l

/-- The row plus its feed-forward part. -/
def mlpRow (x g : Fin 1024 → EReal) (wu : Fin 1024 → Fin 4096 → EReal) (wd : Fin 4096 → Fin 1024 → EReal) (l : Fin 1024) : EReal :=
  x l + ∑ f, term (rmsRow x g) wu wd l f

theorem mlpRow_congr {x x' g g' : Fin 1024 → EReal} {wu wu' : Fin 1024 → Fin 4096 → EReal} {wd wd' : Fin 4096 → Fin 1024 → EReal}
    (hx : x = x') (hg : g = g') (hu : wu = wu') (hd : wd = wd') : mlpRow x g wu wd = mlpRow x' g' wu' wd' := by
  subst hx hg hu hd
  rfl

/-- The part of a sum over the hidden features that chunk `c` adds. -/
def chunk (t : Fin 4096 → EReal) (c : Fin 8) : EReal := ∑ x : Fin 512, t ⟨512 * c.val + x.val, by omega⟩

theorem sum_chunks (t : Fin 4096 → EReal) : ∑ f, t f = ∑ c : Fin 8, chunk t c := by
  unfold chunk
  rw [← sum_product' univ univ fun (c : Fin 8) (x : Fin 512) => t ⟨512 * c.val + x.val, by omega⟩]
  symm
  refine Fintype.sum_equiv (⟨fun p => ⟨512 * p.1.val + p.2.val, by omega⟩, fun f => (⟨f.val / 512, by omega⟩, ⟨f.val % 512, by omega⟩), fun p => ?_, fun f => ?_⟩ : Fin 8 × Fin 512 ≃ Fin 4096) _ _ fun _ => rfl
  · refine Prod.ext (Fin.ext ?_) (Fin.ext ?_)
    · show (512 * p.1.val + p.2.val) / 512 = p.1.val
      omega
    · show (512 * p.1.val + p.2.val) % 512 = p.2.val
      omega
  · refine Fin.ext ?_
    show 512 * (f.val / 512) + f.val % 512 = f.val
    omega

/-- The chunks, added one after the other. -/
theorem add_chunks (a : EReal) (t : Fin 4096 → EReal) :
    a + chunk t 0 + chunk t 1 + chunk t 2 + chunk t 3 + chunk t 4 + chunk t 5 + chunk t 6 + chunk t 7 = a + ∑ f, t f := by
  rw [sum_chunks, Fin.sum_univ_eight]
  simp only [add_assoc]

/-- A sum over a row, by its two halves. -/
theorem sum_halves (t : Fin 1024 → EReal) : ∑ k, t k = (∑ x : Fin 512, t ⟨x.val, by omega⟩) + ∑ x : Fin 512, t ⟨512 + x.val, by omega⟩ :=
  Fin.sum_univ_add (a := 512) (b := 512) t

end Cert.Rows

end
-- ==== Proof.FinalBlock.lean ====
/-
  What a grid point of the output projection and feed-forward call with the final norm writes: the values its kernel stores, one
  after the other, read at a row and a column.
-/
module

public import proofs.«01_k».proof.Proof.Gen.OutMlpFinalIdeal.Value
public import proofs.«01_k».proof.Proof.Rows
public import Idealize.ShloMosaic.Lib.Pipeline.ValueKit.Acc
public import Idealize.ShloMosaic.Lib.Pipeline.ValueKit.Tiles

@[expose] public section

noncomputable section

namespace Cert.OutMlpFinalIdeal.Hand

open Cert.OutMlpFinalIdeal Cert.OutMlpFinalIdeal.Gen Cert.Rows
open Idealize.ShloMosaic Idealize.ShloMosaic.TcCoe Finset

/-- What a chunk adds to the row `r`, column `l`. -/
def part (h : Vec Ideal S512x1024 .bf16) (u : Vec Ideal S1024x512 .bf16) (d : Vec Ideal S512x1024 .bf16) (r : Fin 512) (l : Fin 1024) : EReal :=
  ∑ x : Fin 512, max (∑ k : Fin 1024, h (ix2 r k) * u (ix2 k x)) 0 * max (∑ k : Fin 1024, h (ix2 r k) * u (ix2 k x)) 0 * d (ix2 x l)

section

variable (h : Vec Ideal S512x1024 .bf16) (u : Vec Ideal S1024x512 .bf16) (y : Vec Ideal S512x1024 .f32) (d : Vec Ideal S512x1024 .bf16) (r : Fin 512) (l : Fin 1024)

theorem chunk0_apply : k0_pay4 h u y d (ix2 r l) = y (ix2 r l) + part h u d r l := by
  pointwise [k0_pay4, part]

theorem chunk1_apply : k0_pay5 h u y d (ix2 r l) = y (ix2 r l) + part h u d r l := by
  pointwise [k0_pay5, part]

theorem chunk2_apply : k0_pay7 h (k0_pay6 u) (constant S512x512 .f32 0x00000000#32) y d (ix2 r l) = y (ix2 r l) + part h u d r l := by
  pointwise [k0_pay7, k0_pay6, part]

theorem chunk3_apply : k0_pay8 h u y d (ix2 r l) = y (ix2 r l) + part h u d r l := by
  pointwise [k0_pay8, part]

theorem chunk4_apply : k0_pay10 (k0_pay9 h u) (FloatOps.ofBits .f32 0x00000000#32) y d (ix2 r l) = y (ix2 r l) + part h u d r l := by
  pointwise [k0_pay10, k0_pay9, part]

theorem chunk5_apply : k0_pay11 h u y d (ix2 r l) = y (ix2 r l) + part h u d r l := by
  pointwise [k0_pay11, part]

theorem chunk6_apply : k0_pay13 (k0_pay12 h u) y d (ix2 r l) = y (ix2 r l) + part h u d r l := by
  pointwise [k0_pay13, k0_pay12, part]

theorem chunk7_apply : k0_pay14 h u y d (ix2 r l) = y (ix2 r l) + part h u d r l := by
  pointwise [k0_pay14, part]

end

theorem stream_apply (x : Vec Ideal S512x1024 .f32) (a : Vec Ideal S512x512 .bf16) (u : Vec Ideal S512x1024 .bf16) (b : Vec Ideal S512x512 .bf16) (v : Vec Ideal S512x1024 .bf16) (r : Fin 512) (l : Fin 1024) :
    k0_pay2 x a u b v (ix2 r l) = x (ix2 r l) + ∑ k : Fin 512, a (ix2 r k) * u (ix2 k l) + ∑ k : Fin 512, b (ix2 r k) * v (ix2 k l) := by
  pointwise [k0_pay2]

theorem norm_apply (x : Vec Ideal S512x1024 .f32) (a : Vec Ideal S512x512 .bf16) (u : Vec Ideal S512x1024 .bf16) (b : Vec Ideal S512x512 .bf16) (v : Vec Ideal S512x1024 .bf16) (g : Vec Ideal S1x1024 .f32) (r : Fin 512) (l : Fin 1024) :
    k0_pay3 x a u b v g (ix2 r l) = rmsRow (fun k => k0_pay2 x a u b v (ix2 r k)) (fun k => g (ix2 0 k)) l := by
  pointwise [k0_pay3, rmsRow]

theorem final_apply (y : Vec Ideal S512x1024 .f32) (g : Vec Ideal S1x1024 .f32) (r : Fin 512) (l : Fin 1024) :
    k0_pay1 (k0_pay15 y) (k0_pay16 g) (k0_pay17 y) k0_pay18 (ix2 r l) = rmsRow (fun k => y (ix2 r k)) (fun k => g (ix2 0 k)) l := by
  pointwise [k0_pay1, k0_pay15, k0_pay16, k0_pay17, k0_pay18, rmsRow]

/-- A chunk whose weights are loaded from the whole matrices at chunk `c`. -/
theorem part_ld (h : Vec Ideal S512x1024 .bf16) (wu : Vec Ideal S1024x4096 .bf16) (wd : Vec Ideal S4096x1024 .bf16) (n : ℕ) (c : Fin 8) (e : n = 512 * c.val) (i1) (i2) (r : Fin 512) (l : Fin 1024) :
    part h (View.ld wu (Rect.unit (s := S1024x4096) ![0, n] ![1024, 512] i1)) (View.ld wd (Rect.unit (s := S4096x1024) ![n, 0] ![512, 1024] i2)) r l
      = chunk (term (fun k => h (ix2 r k)) (fun k f => wu (ix2 k f)) (fun f k => wd (ix2 f k)) l) c := by
  subst e
  unfold part chunk term
  have e1 : ∀ (k : Fin 1024) (x : Fin 512), View.ld wu (Rect.unit (s := S1024x4096) ![0, 512 * c.val] ![1024, 512] i1) (ix2 k x) = wu (ix2 k (⟨512 * c.val + x.val, by omega⟩ : Fin 4096)) := fun k x =>
    View.ld_unit_apply_of _ _ _ _ _ _ fun a => match a with
      | ⟨0, _⟩ => (Nat.zero_add _).symm
      | ⟨1, _⟩ => rfl
  have e2 : ∀ (x : Fin 512), View.ld wd (Rect.unit (s := S4096x1024) ![512 * c.val, 0] ![512, 1024] i2) (ix2 x l) = wd (ix2 (⟨512 * c.val + x.val, by omega⟩ : Fin 4096) l) := fun x =>
    View.ld_unit_apply_of _ _ _ _ _ _ fun a => match a with
      | ⟨0, _⟩ => rfl
      | ⟨1, _⟩ => (Nat.zero_add _).symm
  simp only [e1, e2]

/-- The two products with the halves of the projection are one sum over the two halves. -/
theorem wo_lo (wo : Vec Ideal S1024x1024 .bf16) (i) (k : Fin 512) (l : Fin 1024) :
    View.ld wo (Rect.unit (s := S1024x1024) ![0, 0] ![512, 1024] i) (ix2 k l) = wo (ix2 (⟨k.val, by omega⟩ : Fin 1024) l) :=
  View.ld_unit_apply_of _ _ _ _ _ _ fun a => match a with
    | ⟨0, _⟩ => (Nat.zero_add _).symm
    | ⟨1, _⟩ => (Nat.zero_add _).symm

theorem wo_hi (wo : Vec Ideal S1024x1024 .bf16) (i) (k : Fin 512) (l : Fin 1024) :
    View.ld wo (Rect.unit (s := S1024x1024) ![512, 0] ![512, 1024] i) (ix2 k l) = wo (ix2 (⟨512 + k.val, by omega⟩ : Fin 1024) l) :=
  View.ld_unit_apply_of _ _ _ _ _ _ fun a => match a with
    | ⟨0, _⟩ => rfl
    | ⟨1, _⟩ => (Nat.zero_add _).symm

theorem hz : (![0, 0] : Fin 2 → ℕ) = fun _ => 0 := by decide

/-- The residual stream's row after the projection, in a point's block. -/
def streamRow (x : Vec Ideal S512x1024 .f32) (a b : Vec Ideal S512x512 .bf16) (wo : Vec Ideal S1024x1024 .bf16) (r : Fin 512) (l : Fin 1024) : EReal :=
  x (ix2 r l) + (∑ k : Fin 512, a (ix2 r k) * wo (ix2 (⟨k.val, by omega⟩ : Fin 1024) l)) + ∑ k : Fin 512, b (ix2 r k) * wo (ix2 (⟨512 + k.val, by omega⟩ : Fin 1024) l)

theorem stream_ld (x : Vec Ideal S512x1024 .f32) (a b : Vec Ideal S512x512 .bf16) (wo : Vec Ideal S1024x1024 .bf16) (i1) (i2) (r : Fin 512) (l : Fin 1024) :
    k0_pay2 x a (View.ld wo (Rect.unit (s := S1024x1024) ![0, 0] ![512, 1024] i1)) b (View.ld wo (Rect.unit (s := S1024x1024) ![512, 0] ![512, 1024] i2)) (ix2 r l)
      = streamRow x a b wo r l :=
  (stream_apply _ _ _ _ _ r l).trans (congrArg₂ (fun s t => x (ix2 r l) + s + t)
    (sum_congr rfl fun k _ => congrArg (a (ix2 r k) * ·) (wo_lo wo i1 k l)) (sum_congr rfl fun k _ => congrArg (b (ix2 r k) * ·) (wo_hi wo i2 k l)))

theorem norm_ld (x : Vec Ideal S512x1024 .f32) (a b : Vec Ideal S512x512 .bf16) (wo : Vec Ideal S1024x1024 .bf16) (i1) (i2) (g : Vec Ideal S1x1024 .f32) (r : Fin 512) (l : Fin 1024) :
    k0_pay3 x a (View.ld wo (Rect.unit (s := S1024x1024) ![0, 0] ![512, 1024] i1)) b (View.ld wo (Rect.unit (s := S1024x1024) ![512, 0] ![512, 1024] i2)) g (ix2 r l)
      = rmsRow (streamRow x a b wo r) (fun k => g (ix2 0 k)) l :=
  (norm_apply _ _ _ _ _ g r l).trans (congrArg (fun z => rmsRow z (fun k => g (ix2 0 k)) l) (funext fun k => stream_ld x a b wo i1 i2 r k))

set_option maxHeartbeats 1000000 in
/-- The block a point writes, at row `r` and column `l`. -/
theorem out_apply (c : Dev nD) (i : grid0.Coords) (a1 : Memref sig .tc .vmem S512x1024 .f32) (h1 : a1.IsWhole) (a2 : Memref sig .tc .vmem S512x512 .bf16) (h2 : a2.IsWhole) (a3 : Memref sig .tc .vmem S512x512 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1024x4096 .bf16) (h6 : a6.IsWhole) (a7 : Memref sig .tc .vmem S4096x1024 .bf16) (h7 : a7.IsWhole) (a8 : Memref sig .tc .vmem S1x1024 .f32) (h8 : a8.IsWhole) (a9 : Memref sig .tc .vmem S512x1024 .f32) (h9 : a9.IsWhole)
    (a10 : Memref sig .tc .vmem S512x1024 .bf16) (h10 : a10.IsWhole)
    (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1024x4096 .bf16) (x6 : Vec Ideal S4096x1024 .bf16) (x7 : Vec Ideal S1x1024 .f32) (r : Fin 512) (l : Fin 1024) :
    out0_A_8 c i a1 h1 a2 h2 a3 h3 a4 h4 a5 h5 a6 h6 a7 h7 a8 h8 a9 h9 a10 h10 x0 x1 x2 x3 x4 x5 x6 x7 (ix2 r l)
      = rmsRow (mlpRow (streamRow x0 x1 x2 x3 r) (fun k => x4 (ix2 0 k)) (fun k f => x5 (ix2 k f)) (fun f k => x6 (ix2 f k))) (fun k => x7 (ix2 0 k)) l := by
  unfold out0_A_8
  rw [View.read_writes_eq_canon _ _ _ (cover0_A_8 c i a1 h1 a2 h2 a3 h3 a4 h4 a5 h5 a6 h6 a7 h7 a8 h8 a9 h9 a10 h10 x0 x1 x2 x3 x4 x5 x6 x7)]
  unfold kernelRun0_A
  dsimp only
  sl_unfold_words
  rw [View.canon_cons_unit_zero (S := S512x1024) hz]
  simp only [View.readAt_eq_ld, h1.read_unread, h2.read_unread, h3.read_unread, h4.read_unread, h5.read_unread, h6.read_unread, h7.read_unread, h8.read_unread,
    View.readCov_unit_zero (S := S512x1024) _ hz, View.ld_unit_zero (S := S512x1024) hz, View.ld_unit_zero (S := S512x512) hz, View.ld_unit_zero (S := S1x1024) hz,
    View.readCov_cons_unit_lit' (S := S512x1024) _ _ _ _ _ (congrFun hz) (congrFun hz)]
  refine (final_apply _ _ r l).trans (congrArg (fun z => rmsRow z (fun k => x7 (ix2 0 k)) l) (funext fun l => ?_))
  rw [chunk7_apply, chunk6_apply, chunk5_apply, chunk4_apply, chunk3_apply, chunk2_apply, chunk1_apply, chunk0_apply]
  rw [part_ld _ _ _ 3584 7 rfl, part_ld _ _ _ 3072 6 rfl, part_ld _ _ _ 2560 5 rfl, part_ld _ _ _ 2048 4 rfl, part_ld _ _ _ 1536 3 rfl, part_ld _ _ _ 1024 2 rfl, part_ld _ _ _ 512 1 rfl, part_ld _ _ _ 0 0 rfl]
  rw [add_chunks]
  simp only [norm_ld, stream_ld]
  rfl

end Cert.OutMlpFinalIdeal.Hand

end
-- ==== Proof.FinalValue.lean ====
/-
  What the output projection and feed-forward call with the final norm leaves in its result array after the run: every
  row of the residual stream plus the mixer's output times the projection, plus the feed-forward part, normalised.
-/
module

public import proofs.«01_k».proof.Proof.FinalBlock
public import Idealize.ShloMosaic.Lib.Pipeline.Value

@[expose] public section

noncomputable section

namespace Cert.OutMlpFinalIdeal.Hand

open Cert.OutMlpFinalIdeal Cert.OutMlpFinalIdeal.Gen Cert.Rows
open Idealize.ShloMosaic Idealize.ShloMosaic.TcCoe Idealize.SL.Sem Finset

/-- The residual stream's row after the projection. -/
def stream (x : FVec Ideal S32768x1024 .f32) (o : FVec Ideal S32768x1024 .bf16) (wo : FVec Ideal S1x1024x1024 .f32) (R : Fin 32768) (l : Fin 1024) : EReal :=
  x (ix2 R l) + (∑ k : Fin 512, o (ix2 R (⟨k.val, by omega⟩ : Fin 1024)) * wo (ix3 (0 : Fin 1) (⟨k.val, by omega⟩ : Fin 1024) l))
    + ∑ k : Fin 512, o (ix2 R (⟨512 + k.val, by omega⟩ : Fin 1024)) * wo (ix3 (0 : Fin 1) (⟨512 + k.val, by omega⟩ : Fin 1024) l)

/-- The result, from the arguments. -/
def result (x : FVec Ideal S32768x1024 .f32) (o : FVec Ideal S32768x1024 .bf16) (wo : FVec Ideal S1x1024x1024 .f32) (g : FVec Ideal S2x1024 .f32)
    (wu : FVec Ideal S2x1024x4096 .f32) (wd : FVec Ideal S2x4096x1024 .f32) (gf : FVec Ideal S1024 .f32) : FVec Ideal S32768x1024 .f32 := fun y =>
  rmsRow (mlpRow (stream x o wo (y 0)) (fun k => g (ix2 (1 : Fin 2) k)) (fun k f => wu (ix3 (1 : Fin 2) k f)) (fun f k => wd (ix3 (1 : Fin 2) f k))) (fun k => gf (ix1 k)) (y 1)

theorem read_wo (w : FVec Ideal S1x1024x1024 .f32) (k l : Fin 1024) : (truncf .bf16 (shapeCast S1024x1024 w shapeCasts_S1x1024x1024_S1024x1024) bitsLt_bf16_f32 : FVec Ideal S1024x1024 .bf16) (ix2 k l) = w (ix3 (0 : Fin 1) k l) := by
  pointwise []

theorem read_g (w : FVec Ideal S2x1024 .f32) (k : Fin 1024) : (shapeCast S1x1024 (shapeCast S1024 (extractStridedSlice S1x1024 ![1, 0] w slices_S2x1024_S1x1024_1_0) shapeCasts_S1x1024_S1024) shapeCasts_S1024_S1x1024 : FVec Ideal S1x1024 .f32) (ix2 (0 : Fin 1) k) = w (ix2 (1 : Fin 2) k) := by
  pointwise []

theorem read_wu (w : FVec Ideal S2x1024x4096 .f32) (k : Fin 1024) (l : Fin 4096) : (truncf .bf16 (shapeCast S1024x4096 (extractStridedSlice S1x1024x4096 ![1, 0, 0] w slices_S2x1024x4096_S1x1024x4096_1_0_0) shapeCasts_S1x1024x4096_S1024x4096) bitsLt_bf16_f32 : FVec Ideal S1024x4096 .bf16) (ix2 k l) = w (ix3 (1 : Fin 2) k l) := by
  pointwise []

theorem read_wd (w : FVec Ideal S2x4096x1024 .f32) (k : Fin 4096) (l : Fin 1024) : (truncf .bf16 (shapeCast S4096x1024 (extractStridedSlice S1x4096x1024 ![1, 0, 0] w slices_S2x4096x1024_S1x4096x1024_1_0_0) shapeCasts_S1x4096x1024_S4096x1024) bitsLt_bf16_f32 : FVec Ideal S4096x1024 .bf16) (ix2 k l) = w (ix3 (1 : Fin 2) k l) := by
  pointwise []

theorem read_gf (w : FVec Ideal S1024 .f32) (k : Fin 1024) : (shapeCast S1x1024 w shapeCasts_S1024_S1x1024 : FVec Ideal S1x1024 .f32) (ix2 (0 : Fin 1) k) = w (ix1 k) := by
  pointwise []

variable (m : (ℓ : Loc nD τ sig) → Buf (Elt Ideal) ℓ) (ρ : Dev nD → PrngReg)

/-! What the region finds in the arrays the host operations wrote. -/

theorem V_wo (c : Dev nD) (k l : Fin 1024) : (V m c main_v1 : FVec Ideal S1024x1024 .bf16) (ix2 k l) = (m ((c : Thread nD τ).loc main_arg2) : FVec Ideal S1x1024x1024 .f32) (ix3 (0 : Fin 1) k l) := by
  have e : V m c main_v1 = (truncf .bf16 (shapeCast S1024x1024 (m ((c : Thread nD τ).loc main_arg2) : FVec Ideal S1x1024x1024 .f32) shapeCasts_S1x1024x1024_S1024x1024) bitsLt_bf16_f32 : FVec Ideal S1024x1024 .bf16) := by
    unfold V
    simp only [hostOps0]
    after_results <;> rfl
  exact (congrFun e _).trans (read_wo _ k l)

theorem V_g (c : Dev nD) (k : Fin 1024) : (V m c main_v4 : FVec Ideal S1x1024 .f32) (ix2 (0 : Fin 1) k) = (m ((c : Thread nD τ).loc main_arg3) : FVec Ideal S2x1024 .f32) (ix2 (1 : Fin 2) k) := by
  have e : V m c main_v4 = (shapeCast S1x1024 (shapeCast S1024 (extractStridedSlice S1x1024 ![1, 0] (m ((c : Thread nD τ).loc main_arg3) : FVec Ideal S2x1024 .f32) slices_S2x1024_S1x1024_1_0) shapeCasts_S1x1024_S1024) shapeCasts_S1024_S1x1024 : FVec Ideal S1x1024 .f32) := by
    unfold V
    simp only [hostOps0]
    after_results <;> rfl
  exact (congrFun e _).trans (read_g _ k)

theorem V_wu (c : Dev nD) (k : Fin 1024) (l : Fin 4096) : (V m c main_v7 : FVec Ideal S1024x4096 .bf16) (ix2 k l) = (m ((c : Thread nD τ).loc main_arg4) : FVec Ideal S2x1024x4096 .f32) (ix3 (1 : Fin 2) k l) := by
  have e : V m c main_v7 = (truncf .bf16 (shapeCast S1024x4096 (extractStridedSlice S1x1024x4096 ![1, 0, 0] (m ((c : Thread nD τ).loc main_arg4) : FVec Ideal S2x1024x4096 .f32) slices_S2x1024x4096_S1x1024x4096_1_0_0) shapeCasts_S1x1024x4096_S1024x4096) bitsLt_bf16_f32 : FVec Ideal S1024x4096 .bf16) := by
    unfold V
    simp only [hostOps0]
    after_results <;> rfl
  exact (congrFun e _).trans (read_wu _ k l)

theorem V_wd (c : Dev nD) (k : Fin 4096) (l : Fin 1024) : (V m c main_v10 : FVec Ideal S4096x1024 .bf16) (ix2 k l) = (m ((c : Thread nD τ).loc main_arg5) : FVec Ideal S2x4096x1024 .f32) (ix3 (1 : Fin 2) k l) := by
  have e : V m c main_v10 = (truncf .bf16 (shapeCast S4096x1024 (extractStridedSlice S1x4096x1024 ![1, 0, 0] (m ((c : Thread nD τ).loc main_arg5) : FVec Ideal S2x4096x1024 .f32) slices_S2x4096x1024_S1x4096x1024_1_0_0) shapeCasts_S1x4096x1024_S4096x1024) bitsLt_bf16_f32 : FVec Ideal S4096x1024 .bf16) := by
    unfold V
    simp only [hostOps0]
    after_results <;> rfl
  exact (congrFun e _).trans (read_wd _ k l)

theorem V_gf (c : Dev nD) (k : Fin 1024) : (V m c main_v11 : FVec Ideal S1x1024 .f32) (ix2 (0 : Fin 1) k) = (m ((c : Thread nD τ).loc main_arg6) : FVec Ideal S1024 .f32) (ix1 k) := by
  have e : V m c main_v11 = (shapeCast S1x1024 (m ((c : Thread nD τ).loc main_arg6) : FVec Ideal S1024 .f32) shapeCasts_S1024_S1x1024 : FVec Ideal S1x1024 .f32) := by
    unfold V
    simp only [hostOps0]
    after_results <;> rfl
  exact (congrFun e _).trans (read_gf _ k)

/-! The index maps, decided over the grid. -/

abbrev tOf (t : Fin cfg0.N) : Fin 64 := grid0.coords t 0

theorem index0 (t : Fin cfg0.N) : win0_0.index t 0 = (grid0.coords t 0).val ∧ win0_0.index t 1 = 0 :=
  (by decide +kernel : ∀ t : Fin grid0.N, win0_0.index t 0 = (grid0.coords t 0).val ∧ win0_0.index t 1 = 0) t

theorem index1 (t : Fin cfg0.N) : win0_1.index t 0 = (grid0.coords t 0).val ∧ win0_1.index t 1 = 0 :=
  (by decide +kernel : ∀ t : Fin grid0.N, win0_1.index t 0 = (grid0.coords t 0).val ∧ win0_1.index t 1 = 0) t

theorem index2 (t : Fin cfg0.N) : win0_2.index t 0 = (grid0.coords t 0).val ∧ win0_2.index t 1 = 1 :=
  (by decide +kernel : ∀ t : Fin grid0.N, win0_2.index t 0 = (grid0.coords t 0).val ∧ win0_2.index t 1 = 1) t

theorem index3 (t : Fin cfg0.N) : win0_3.index t 0 = 0 ∧ win0_3.index t 1 = 0 :=
  (by decide +kernel : ∀ t : Fin grid0.N, win0_3.index t 0 = 0 ∧ win0_3.index t 1 = 0) t

theorem index4 (t : Fin cfg0.N) : win0_4.index t 0 = 0 ∧ win0_4.index t 1 = 0 :=
  (by decide +kernel : ∀ t : Fin grid0.N, win0_4.index t 0 = 0 ∧ win0_4.index t 1 = 0) t

theorem index5 (t : Fin cfg0.N) : win0_5.index t 0 = 0 ∧ win0_5.index t 1 = 0 :=
  (by decide +kernel : ∀ t : Fin grid0.N, win0_5.index t 0 = 0 ∧ win0_5.index t 1 = 0) t

theorem index6 (t : Fin cfg0.N) : win0_6.index t 0 = 0 ∧ win0_6.index t 1 = 0 :=
  (by decide +kernel : ∀ t : Fin grid0.N, win0_6.index t 0 = 0 ∧ win0_6.index t 1 = 0) t

theorem index7 (t : Fin cfg0.N) : win0_7.index t 0 = 0 ∧ win0_7.index t 1 = 0 :=
  (by decide +kernel : ∀ t : Fin grid0.N, win0_7.index t 0 = 0 ∧ win0_7.index t 1 = 0) t

theorem index8 (t : Fin cfg0.N) : win0_8.index t 0 = (grid0.coords t 0).val ∧ win0_8.index t 1 = 0 :=
  (by decide +kernel : ∀ t : Fin grid0.N, win0_8.index t 0 = (grid0.coords t 0).val ∧ win0_8.index t 1 = 0) t

/-! The windows' blocks, in the arrays. -/

theorem x_block (c : Dev nD) (t : Fin cfg0.N) (r : Fin 512) (k : Fin 1024) :
    iblk m c 0 t (ValueIdx.ix2 r k) = (m ((c : Thread nD τ).loc main_arg0) : FVec Ideal S32768x1024 .f32) (ix2 (⟨512 * (tOf t).val + r.val, by omega⟩ : Fin 32768) k) := by
  show V m c (Pipeline.arrRef spec0 0) ((win0_0.rect t).emb (ValueIdx.ix2 r k)) = _
  rw [show V m c (Pipeline.arrRef spec0 0) = m ((c : Thread nD τ).loc main_arg0) from V_main_arg0 m c]
  obtain ⟨h0, h1⟩ := index0 t
  refine congrArg _ (funext fun a => Fin.ext ?_)
  refine (win0_0.rect_emb_val t _ a).trans ?_
  match a with
  | ⟨0, _⟩ => show win0_0.index t 0 * 512 + r.val = _; rw [h0]; show (tOf t).val * 512 + r.val = 512 * (tOf t).val + r.val; omega
  | ⟨1, _⟩ => show win0_0.index t 1 * 1024 + k.val = k.val; rw [h1] <;> omega

theorem a_block (c : Dev nD) (t : Fin cfg0.N) (r : Fin 512) (k : Fin 512) :
    iblk m c 1 t (ValueIdx.ix2 r k) = (m ((c : Thread nD τ).loc main_arg1) : FVec Ideal S32768x1024 .bf16) (ix2 (⟨512 * (tOf t).val + r.val, by omega⟩ : Fin 32768) (⟨k.val, by omega⟩ : Fin 1024)) := by
  show V m c (Pipeline.arrRef spec0 1) ((win0_1.rect t).emb (ValueIdx.ix2 r k)) = _
  rw [show V m c (Pipeline.arrRef spec0 1) = m ((c : Thread nD τ).loc main_arg1) from V_main_arg1 m c]
  obtain ⟨h0, h1⟩ := index1 t
  refine congrArg _ (funext fun a => Fin.ext ?_)
  refine (win0_1.rect_emb_val t _ a).trans ?_
  match a with
  | ⟨0, _⟩ => show win0_1.index t 0 * 512 + r.val = _; rw [h0]; show (tOf t).val * 512 + r.val = 512 * (tOf t).val + r.val; omega
  | ⟨1, _⟩ => show win0_1.index t 1 * 512 + k.val = k.val; rw [h1] <;> omega

theorem b_block (c : Dev nD) (t : Fin cfg0.N) (r : Fin 512) (k : Fin 512) :
    iblk m c 2 t (ValueIdx.ix2 r k) = (m ((c : Thread nD τ).loc main_arg1) : FVec Ideal S32768x1024 .bf16) (ix2 (⟨512 * (tOf t).val + r.val, by omega⟩ : Fin 32768) (⟨512 + k.val, by omega⟩ : Fin 1024)) := by
  show V m c (Pipeline.arrRef spec0 2) ((win0_2.rect t).emb (ValueIdx.ix2 r k)) = _
  rw [show V m c (Pipeline.arrRef spec0 2) = m ((c : Thread nD τ).loc main_arg1) from V_main_arg1 m c]
  obtain ⟨h0, h1⟩ := index2 t
  refine congrArg _ (funext fun a => Fin.ext ?_)
  refine (win0_2.rect_emb_val t _ a).trans ?_
  match a with
  | ⟨0, _⟩ => show win0_2.index t 0 * 512 + r.val = _; rw [h0]; show (tOf t).val * 512 + r.val = 512 * (tOf t).val + r.val; omega
  | ⟨1, _⟩ => show win0_2.index t 1 * 512 + k.val = 512 + k.val; rw [h1] <;> omega

theorem wo_block (c : Dev nD) (t : Fin cfg0.N) (k l : Fin 1024) :
    iblk m c 3 t (ValueIdx.ix2 k l) = (m ((c : Thread nD τ).loc main_arg2) : FVec Ideal S1x1024x1024 .f32) (ix3 (0 : Fin 1) k l) := by
  refine Eq.trans ?_ (V_wo m c k l)
  show V m c (Pipeline.arrRef spec0 3) ((win0_3.rect t).emb (ValueIdx.ix2 k l)) = _
  obtain ⟨h0, h1⟩ := index3 t
  refine congrArg (V m c main_v1) (funext fun a => Fin.ext ?_)
  refine (win0_3.rect_emb_val t _ a).trans ?_
  match a with
  | ⟨0, _⟩ => show win0_3.index t 0 * 1024 + k.val = k.val; rw [h0] <;> omega
  | ⟨1, _⟩ => show win0_3.index t 1 * 1024 + l.val = l.val; rw [h1] <;> omega

theorem g_block (c : Dev nD) (t : Fin cfg0.N) (k : Fin 1024) :
    iblk m c 4 t (ValueIdx.ix2 (0 : Fin 1) k) = (m ((c : Thread nD τ).loc main_arg3) : FVec Ideal S2x1024 .f32) (ix2 (1 : Fin 2) k) := by
  refine Eq.trans ?_ (V_g m c k)
  show V m c (Pipeline.arrRef spec0 4) ((win0_4.rect t).emb (ValueIdx.ix2 (0 : Fin 1) k)) = _
  obtain ⟨h0, h1⟩ := index4 t
  refine congrArg (V m c main_v4) (funext fun a => Fin.ext ?_)
  refine (win0_4.rect_emb_val t _ a).trans ?_
  match a with
  | ⟨0, _⟩ => show win0_4.index t 0 * 1 + 0 = 0; rw [h0] <;> omega
  | ⟨1, _⟩ => show win0_4.index t 1 * 1024 + k.val = k.val; rw [h1] <;> omega

theorem wu_block (c : Dev nD) (t : Fin cfg0.N) (k : Fin 1024) (l : Fin 4096) :
    iblk m c 5 t (ValueIdx.ix2 k l) = (m ((c : Thread nD τ).loc main_arg4) : FVec Ideal S2x1024x4096 .f32) (ix3 (1 : Fin 2) k l) := by
  refine Eq.trans ?_ (V_wu m c k l)
  show V m c (Pipeline.arrRef spec0 5) ((win0_5.rect t).emb (ValueIdx.ix2 k l)) = _
  obtain ⟨h0, h1⟩ := index5 t
  refine congrArg (V m c main_v7) (funext fun a => Fin.ext ?_)
  refine (win0_5.rect_emb_val t _ a).trans ?_
  match a with
  | ⟨0, _⟩ => show win0_5.index t 0 * 1024 + k.val = k.val; rw [h0] <;> omega
  | ⟨1, _⟩ => show win0_5.index t 1 * 4096 + l.val = l.val; rw [h1] <;> omega

theorem wd_block (c : Dev nD) (t : Fin cfg0.N) (k : Fin 4096) (l : Fin 1024) :
    iblk m c 6 t (ValueIdx.ix2 k l) = (m ((c : Thread nD τ).loc main_arg5) : FVec Ideal S2x4096x1024 .f32) (ix3 (1 : Fin 2) k l) := by
  refine Eq.trans ?_ (V_wd m c k l)
  show V m c (Pipeline.arrRef spec0 6) ((win0_6.rect t).emb (ValueIdx.ix2 k l)) = _
  obtain ⟨h0, h1⟩ := index6 t
  refine congrArg (V m c main_v10) (funext fun a => Fin.ext ?_)
  refine (win0_6.rect_emb_val t _ a).trans ?_
  match a with
  | ⟨0, _⟩ => show win0_6.index t 0 * 4096 + k.val = k.val; rw [h0] <;> omega
  | ⟨1, _⟩ => show win0_6.index t 1 * 1024 + l.val = l.val; rw [h1] <;> omega

theorem gf_block (c : Dev nD) (t : Fin cfg0.N) (k : Fin 1024) :
    iblk m c 7 t (ValueIdx.ix2 (0 : Fin 1) k) = (m ((c : Thread nD τ).loc main_arg6) : FVec Ideal S1024 .f32) (ix1 k) := by
  refine Eq.trans ?_ (V_gf m c k)
  show V m c (Pipeline.arrRef spec0 7) ((win0_7.rect t).emb (ValueIdx.ix2 (0 : Fin 1) k)) = _
  obtain ⟨h0, h1⟩ := index7 t
  refine congrArg (V m c main_v11) (funext fun a => Fin.ext ?_)
  refine (win0_7.rect_emb_val t _ a).trans ?_
  match a with
  | ⟨0, _⟩ => show win0_7.index t 0 * 1 + 0 = 0; rw [h0] <;> omega
  | ⟨1, _⟩ => show win0_7.index t 1 * 1024 + k.val = k.val; rw [h1] <;> omega

/-- What a point writes back. -/
theorem block_result (c : Dev nD) (t : Fin cfg0.N) (r : Fin 512) (l : Fin 1024) :
    outsAt0 m c t (ValueIdx.ix2 r l) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (⟨512 * (tOf t).val + r.val, by omega⟩ : Fin 32768) l) := by
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ _ _ _ _ _ _ r l).trans ?_
  have es : streamRow (iblk m c 0 t) (iblk m c 1 t) (iblk m c 2 t) (iblk m c 3 t) r = stream (m ((c : Thread nD τ).loc main_arg0)) (m ((c : Thread nD τ).loc main_arg1)) (m ((c : Thread nD τ).loc main_arg2)) (⟨512 * (tOf t).val + r.val, by omega⟩ : Fin 32768) := by
    funext l
    unfold streamRow stream
    exact congrArg₂ (fun s t => s + t) (congrArg₂ (fun s t => s + t) (x_block m c t r l) (sum_congr rfl fun k _ => congrArg₂ (fun s t => s * t) (a_block m c t r k) (wo_block m c t _ l)))
      (sum_congr rfl fun k _ => congrArg₂ (fun s t => s * t) (b_block m c t r k) (wo_block m c t _ l))
  have eg : (fun k : Fin 1024 => iblk m c 4 t (ValueIdx.ix2 (0 : Fin 1) k)) = fun k : Fin 1024 => (m ((c : Thread nD τ).loc main_arg3) : FVec Ideal S2x1024 .f32) (ix2 (1 : Fin 2) k) := funext fun k => g_block m c t k
  have eu : (fun (k : Fin 1024) (f : Fin 4096) => iblk m c 5 t (ValueIdx.ix2 k f)) = fun k f => (m ((c : Thread nD τ).loc main_arg4) : FVec Ideal S2x1024x4096 .f32) (ix3 (1 : Fin 2) k f) := funext fun k => funext fun f => wu_block m c t k f
  have ed : (fun (f : Fin 4096) (k : Fin 1024) => iblk m c 6 t (ValueIdx.ix2 f k)) = fun f k => (m ((c : Thread nD τ).loc main_arg5) : FVec Ideal S2x4096x1024 .f32) (ix3 (1 : Fin 2) f k) := funext fun f => funext fun k => wd_block m c t f k
  have ef : (fun k : Fin 1024 => iblk m c 7 t (ValueIdx.ix2 (0 : Fin 1) k)) = fun k : Fin 1024 => (m ((c : Thread nD τ).loc main_arg6) : FVec Ideal S1024 .f32) (ix1 k) := funext fun k => gf_block m c t k
  unfold result
  exact congrArg₂ (fun z w => rmsRow z w l) (mlpRow_congr es eg eu ed) ef

/-- The blocks cover the array. -/
theorem covered (i : ℕ) (hi : i < 64) : ∃ t : Fin cfg0.N, (tOf t).val = i := by
  obtain ⟨t, h⟩ := (by decide +kernel : ∀ i : Fin 64, ∃ t : Fin grid0.N, (grid0.coords t 0).val = i.val) ⟨i, hi⟩
  exact ⟨t, h⟩

/-- The whole array. -/
theorem final (c : Dev nD) : (dats m 0 c).arrAt 8 cfg0.N
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hemb : ∀ (t : Fin cfg0.N) (r : Fin 512) (l : Fin 1024), (win0_8.rect t).emb (ValueIdx.ix2 r l) = ix2 (⟨512 * (tOf t).val + r.val, by omega⟩ : Fin 32768) l := by
    intro t r l
    obtain ⟨h0, h1⟩ := index8 t
    refine funext fun a => Fin.ext ?_
    refine (win0_8.rect_emb_val t _ a).trans ?_
    match a with
    | ⟨0, _⟩ => show win0_8.index t 0 * 512 + r.val = _; rw [h0]; show (tOf t).val * 512 + r.val = 512 * (tOf t).val + r.val; omega
    | ⟨1, _⟩ => show win0_8.index t 1 * 1024 + l.val = l.val; rw [h1] <;> omega
  refine (dats m 0 c).arrAt_eq_of_cover 8 _ (fun t _ => ?_) (fun y => ?_)
  · rw [Value.flushed8]
    funext y
    obtain ⟨r, l, rfl⟩ : ∃ (r : Fin 512) (l : Fin 1024), y = ValueIdx.ix2 r l := ⟨y 0, y 1, by
      funext a; match a with | ⟨0, _⟩ => rfl | ⟨1, _⟩ => rfl⟩
    refine (block_result m c t r l).trans ?_
    exact congrArg _ (hemb t r l).symm
  · have hT : (y 0).val < 32768 := (y 0).isLt
    obtain ⟨t, hi⟩ := covered ((y 0).val / 512) (by omega)
    refine ⟨t, flush0_8 t, ?_⟩
    have e : y = (win0_8.rect t).emb (ValueIdx.ix2 (⟨(y 0).val % 512, Nat.mod_lt _ (by norm_num)⟩ : Fin 512) (show Fin 1024 from y 1)) := by
      refine Eq.trans ?_ (hemb t _ (show Fin 1024 from y 1)).symm
      funext a
      match a with
      | ⟨0, _⟩ => exact Fin.ext (by show (y 0).val = 512 * (tOf t).val + (y 0).val % 512; rw [hi]; omega)
      | ⟨1, _⟩ => rfl
    rw [e]
    exact Finset.mem_map_of_mem _ (Finset.mem_univ _)

/-- The run, with the result named. -/
theorem run_result : θ_run defs (onTc (τ := τ) (main (F := Ideal))) ⟨m, fun _ => 0, ρ⟩ fun r => ∀ c : Dev nD,
      r.2.mem ((c : Thread nD τ).loc main_v12) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.OutMlpFinalIdeal.Hand

end
-- ==== Proof.FinalReference.lean ====
/-
  What the reference of the output projection and feed-forward call with the final norm computes, element by element,
  and that the kernel's result is the same.
-/
module

public import proofs.«01_k».proof.Proof.Gen.OutMlpFinalRefIdeal.Run
public import proofs.«01_k».proof.Proof.FinalValue

@[expose] public section

noncomputable section

namespace Cert.OutMlpFinalRefIdeal.Hand

open Cert.OutMlpFinalRefIdeal Cert.OutMlpFinalRefIdeal.Gen Cert.Rows
open Idealize.ShloMosaic Idealize.ShloMosaic.TcCoe Finset

/-- The residual stream plus the mixer's output times the projection. -/
def streamR (x : FVec Ideal S32768x1024 .f32) (o : FVec Ideal S32768x1024 .bf16) (wo : FVec Ideal S1x1024x1024 .f32) : FVec Ideal S32768x1024 .f32 :=
  addf x (Host.dotGeneral dot_S32768x1024_S1024x1024_S32768x1024_1_0_0_1_n_n none (extf .f32 o bitsLt_bf16_f32) (shapeCast _ wo shapeCasts_S1x1024x1024_S1024x1024))

/-- The rows normalised, times the gains. -/
def normR (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The layer's gains. -/
def gainR (g : FVec Ideal S2x1024 .f32) : FVec Ideal S1024 .f32 := shapeCast _ (extractStridedSlice S1x1024 ![1, 0] g slices_S2x1024_S1x1024_1_0) shapeCasts_S1x1024_S1024

/-- The positive part of the hidden features. -/
def actR (h : FVec Ideal S32768x1024 .f32) (wu : FVec Ideal S2x1024x4096 .f32) : FVec Ideal S32768x4096 .f32 :=
  maximumf (Host.dotGeneral dot_S32768x1024_S1024x4096_S32768x4096_1_0_0_1_n_n none h (shapeCast _ (extractStridedSlice S1x1024x4096 ![1, 0, 0] wu slices_S2x1024x4096_S1x1024x4096_1_0_0) shapeCasts_S1x1024x4096_S1024x4096)) (broadcastInDim S32768x4096 ![] bcast_S_S32768x4096 (constant S_ .f32 0x00000000#32))

/-- The stream plus its feed-forward part. -/
def mlpR (x : FVec Ideal S32768x1024 .f32) (a : FVec Ideal S32768x4096 .f32) (wd : FVec Ideal S2x4096x1024 .f32) : FVec Ideal S32768x1024 .f32 :=
  addf x (Host.dotGeneral dot_S32768x4096_S4096x1024_S32768x1024_1_0_0_1_n_n none (mulf a a) (shapeCast _ (extractStridedSlice S1x4096x1024 ![1, 0, 0] wd slices_S2x4096x1024_S1x4096x1024_1_0_0) shapeCasts_S1x4096x1024_S4096x1024))

/-- The layer's feed-forward half. -/
def layerR (x : FVec Ideal S32768x1024 .f32) (g : FVec Ideal S2x1024 .f32) (wu : FVec Ideal S2x1024x4096 .f32) (wd : FVec Ideal S2x4096x1024 .f32) : FVec Ideal S32768x1024 .f32 :=
  mlpR x (actR (normR x (gainR g)) wu) wd

/-- The composed term is these stages. -/
theorem res_eq (m : (ℓ : Loc nD τ sig) → Buf (Elt Ideal) ℓ) (c : Dev nD) : Value.res_out0 m c
    = normR (layerR (streamR (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))) (m ((c : Thread nD τ).loc main_arg6)) := rfl

theorem streamR_apply (x : FVec Ideal S32768x1024 .f32) (o : FVec Ideal S32768x1024 .bf16) (wo : FVec Ideal S1x1024x1024 .f32) (R : Fin 32768) (l : Fin 1024) :
    streamR x o wo (ix2 R l) = OutMlpFinalIdeal.Hand.stream x o wo R l := by
  have e : streamR x o wo (ix2 R l) = x (ix2 R l) + ∑ k : Fin 1024, o (ix2 R k) * wo (ix3 (0 : Fin 1) k l) := by
    pointwise [streamR]
  rw [e, sum_halves, ← add_assoc]
  rfl

theorem normR_apply (x : FVec Ideal S32768x1024 .f32) (g : FVec Ideal S1024 .f32) (R : Fin 32768) (l : Fin 1024) :
    normR x g (ix2 R l) = rmsRow (fun k => x (ix2 R k)) (fun k => g (ix1 k)) l := by
  pointwise [normR, rmsRow]

theorem gainR_apply (g : FVec Ideal S2x1024 .f32) (k : Fin 1024) : gainR g (ix1 k) = g (ix2 (1 : Fin 2) k) := by
  pointwise [gainR]

theorem actR_apply (h : FVec Ideal S32768x1024 .f32) (wu : FVec Ideal S2x1024x4096 .f32) (R : Fin 32768) (f : Fin 4096) :
    actR h wu (ix2 R f) = max (∑ k : Fin 1024, h (ix2 R k) * wu (ix3 (1 : Fin 2) k f)) 0 := by
  pointwise [actR]

theorem mlpR_apply (x : FVec Ideal S32768x1024 .f32) (a : FVec Ideal S32768x4096 .f32) (wd : FVec Ideal S2x4096x1024 .f32) (R : Fin 32768) (l : Fin 1024) :
    mlpR x a wd (ix2 R l) = x (ix2 R l) + ∑ f : Fin 4096, a (ix2 R f) * a (ix2 R f) * wd (ix3 (1 : Fin 2) f l) := by
  pointwise [mlpR]

theorem layerR_apply (x : FVec Ideal S32768x1024 .f32) (g : FVec Ideal S2x1024 .f32) (wu : FVec Ideal S2x1024x4096 .f32) (wd : FVec Ideal S2x4096x1024 .f32) (R : Fin 32768) (l : Fin 1024) :
    layerR x g wu wd (ix2 R l) = mlpRow (fun k => x (ix2 R k)) (fun k => g (ix2 (1 : Fin 2) k)) (fun k f => wu (ix3 (1 : Fin 2) k f)) (fun f k => wd (ix3 (1 : Fin 2) f k)) l := by
  unfold layerR mlpRow term
  rw [mlpR_apply]
  simp only [actR_apply, normR_apply, gainR_apply]

/-- The kernel's result is the reference's. -/
theorem equation (x : FVec Ideal S32768x1024 .f32) (o : FVec Ideal S32768x1024 .bf16) (wo : FVec Ideal S1x1024x1024 .f32) (g : FVec Ideal S2x1024 .f32) (wu : FVec Ideal S2x1024x4096 .f32) (wd : FVec Ideal S2x4096x1024 .f32) (gf : FVec Ideal S1024 .f32) :
    normR (layerR (streamR x o wo) g wu wd) gf = OutMlpFinalIdeal.Hand.result x o wo g wu wd gf := by
  funext y
  obtain ⟨R, l, rfl⟩ : ∃ (R : Fin 32768) (l : Fin 1024), y = ix2 R l := ⟨y 0, y 1, by
    funext a; match a with | ⟨0, _⟩ => rfl | ⟨1, _⟩ => rfl⟩
  rw [normR_apply]
  simp only [layerR_apply, streamR_apply]
  rfl

end Cert.OutMlpFinalRefIdeal.Hand

end
-- ==== Proof.FirstBlock.lean ====
/-
  What a grid point of the output projection and feed-forward call of the first layer writes: the values its kernel stores, one
  after the other, read at a row and a column.
-/
module

public import proofs.«01_k».proof.Proof.Gen.OutMlpFirstIdeal.Value
public import proofs.«01_k».proof.Proof.Rows
public import Idealize.ShloMosaic.Lib.Pipeline.ValueKit.Acc
public import Idealize.ShloMosaic.Lib.Pipeline.ValueKit.Tiles

@[expose] public section

noncomputable section

namespace Cert.OutMlpFirstIdeal.Hand

open Cert.OutMlpFirstIdeal Cert.OutMlpFirstIdeal.Gen Cert.Rows
open Idealize.ShloMosaic Idealize.ShloMosaic.TcCoe Finset

/-- What a chunk adds to the row `r`, column `l`. -/
def part (h : Vec Ideal S512x1024 .bf16) (u : Vec Ideal S1024x512 .bf16) (d : Vec Ideal S512x1024 .bf16) (r : Fin 512) (l : Fin 1024) : EReal :=
  ∑ x : Fin 512, max (∑ k : Fin 1024, h (ix2 r k) * u (ix2 k x)) 0 * max (∑ k : Fin 1024, h (ix2 r k) * u (ix2 k x)) 0 * d (ix2 x l)

section

variable (h : Vec Ideal S512x1024 .bf16) (u : Vec Ideal S1024x512 .bf16) (y : Vec Ideal S512x1024 .f32) (d : Vec Ideal S512x1024 .bf16) (r : Fin 512) (l : Fin 1024)

theorem chunk0_apply : k0_pay5 h u y d (ix2 r l) = y (ix2 r l) + part h u d r l := by
  pointwise [k0_pay5, part]

theorem chunk1_apply : k0_pay6 h u y d (ix2 r l) = y (ix2 r l) + part h u d r l := by
  pointwise [k0_pay6, part]

theorem chunk2_apply : k0_pay8 h (k0_pay7 u) (constant S512x512 .f32 0x00000000#32) y d (ix2 r l) = y (ix2 r l) + part h u d r l := by
  pointwise [k0_pay8, k0_pay7, part]

theorem chunk3_apply : k0_pay9 h u y d (ix2 r l) = y (ix2 r l) + part h u d r l := by
  pointwise [k0_pay9, part]

theorem chunk4_apply : k0_pay11 (k0_pay10 h u) (FloatOps.ofBits .f32 0x00000000#32) y d (ix2 r l) = y (ix2 r l) + part h u d r l := by
  pointwise [k0_pay11, k0_pay10, part]

theorem chunk5_apply : k0_pay12 h u y d (ix2 r l) = y (ix2 r l) + part h u d r l := by
  pointwise [k0_pay12, part]

theorem chunk6_apply : k0_pay1 (k0_pay13 h u) y d (ix2 r l) = y (ix2 r l) + part h u d r l := by
  pointwise [k0_pay1, k0_pay13, part]

theorem chunk7_apply : k0_pay2 h u y d (ix2 r l) = y (ix2 r l) + part h u d r l := by
  pointwise [k0_pay2, part]

end

theorem stream_apply (x : Vec Ideal S512x1024 .f32) (a : Vec Ideal S512x512 .bf16) (u : Vec Ideal S512x1024 .bf16) (b : Vec Ideal S512x512 .bf16) (v : Vec Ideal S512x1024 .bf16) (r : Fin 512) (l : Fin 1024) :
    k0_pay3 x a u b v (ix2 r l) = x (ix2 r l) + ∑ k : Fin 512, a (ix2 r k) * u (ix2 k l) + ∑ k : Fin 512, b (ix2 r k) * v (ix2 k l) := by
  pointwise [k0_pay3]

theorem norm_apply (x : Vec Ideal S512x1024 .f32) (a : Vec Ideal S512x512 .bf16) (u : Vec Ideal S512x1024 .bf16) (b : Vec Ideal S512x512 .bf16) (v : Vec Ideal S512x1024 .bf16) (g : Vec Ideal S1x1024 .f32) (r : Fin 512) (l : Fin 1024) :
    k0_pay4 x a u b v g (ix2 r l) = rmsRow (fun k => k0_pay3 x a u b v (ix2 r k)) (fun k => g (ix2 0 k)) l := by
  pointwise [k0_pay4, rmsRow]

/-- A chunk whose weights are loaded from the whole matrices at chunk `c`. -/
theorem part_ld (h : Vec Ideal S512x1024 .bf16) (wu : Vec Ideal S1024x4096 .bf16) (wd : Vec Ideal S4096x1024 .bf16) (n : ℕ) (c : Fin 8) (e : n = 512 * c.val) (i1) (i2) (r : Fin 512) (l : Fin 1024) :
    part h (View.ld wu (Rect.unit (s := S1024x4096) ![0, n] ![1024, 512] i1)) (View.ld wd (Rect.unit (s := S4096x1024) ![n, 0] ![512, 1024] i2)) r l
      = chunk (term (fun k => h (ix2 r k)) (fun k f => wu (ix2 k f)) (fun f k => wd (ix2 f k)) l) c := by
  subst e
  unfold part chunk term
  have e1 : ∀ (k : Fin 1024) (x : Fin 512), View.ld wu (Rect.unit (s := S1024x4096) ![0, 512 * c.val] ![1024, 512] i1) (ix2 k x) = wu (ix2 k (⟨512 * c.val + x.val, by omega⟩ : Fin 4096)) := fun k x =>
    View.ld_unit_apply_of _ _ _ _ _ _ fun a => match a with
      | ⟨0, _⟩ => (Nat.zero_add _).symm
      | ⟨1, _⟩ => rfl
  have e2 : ∀ (x : Fin 512), View.ld wd (Rect.unit (s := S4096x1024) ![512 * c.val, 0] ![512, 1024] i2) (ix2 x l) = wd (ix2 (⟨512 * c.val + x.val, by omega⟩ : Fin 4096) l) := fun x =>
    View.ld_unit_apply_of _ _ _ _ _ _ fun a => match a with
      | ⟨0, _⟩ => rfl
      | ⟨1, _⟩ => (Nat.zero_add _).symm
  simp only [e1, e2]

/-- The two products with the halves of the projection are one sum over the two halves. -/
theorem wo_lo (wo : Vec Ideal S1024x1024 .bf16) (i) (k : Fin 512) (l : Fin 1024) :
    View.ld wo (Rect.unit (s := S1024x1024) ![0, 0] ![512, 1024] i) (ix2 k l) = wo (ix2 (⟨k.val, by omega⟩ : Fin 1024) l) :=
  View.ld_unit_apply_of _ _ _ _ _ _ fun a => match a with
    | ⟨0, _⟩ => (Nat.zero_add _).symm
    | ⟨1, _⟩ => (Nat.zero_add _).symm

theorem wo_hi (wo : Vec Ideal S1024x1024 .bf16) (i) (k : Fin 512) (l : Fin 1024) :
    View.ld wo (Rect.unit (s := S1024x1024) ![512, 0] ![512, 1024] i) (ix2 k l) = wo (ix2 (⟨512 + k.val, by omega⟩ : Fin 1024) l) :=
  View.ld_unit_apply_of _ _ _ _ _ _ fun a => match a with
    | ⟨0, _⟩ => rfl
    | ⟨1, _⟩ => (Nat.zero_add _).symm

theorem hz : (![0, 0] : Fin 2 → ℕ) = fun _ => 0 := by decide

/-- The residual stream's row after the projection, in a point's block. -/
def streamRow (x : Vec Ideal S512x1024 .f32) (a b : Vec Ideal S512x512 .bf16) (wo : Vec Ideal S1024x1024 .bf16) (r : Fin 512) (l : Fin 1024) : EReal :=
  x (ix2 r l) + (∑ k : Fin 512, a (ix2 r k) * wo (ix2 (⟨k.val, by omega⟩ : Fin 1024) l)) + ∑ k : Fin 512, b (ix2 r k) * wo (ix2 (⟨512 + k.val, by omega⟩ : Fin 1024) l)

theorem stream_ld (x : Vec Ideal S512x1024 .f32) (a b : Vec Ideal S512x512 .bf16) (wo : Vec Ideal S1024x1024 .bf16) (i1) (i2) (r : Fin 512) (l : Fin 1024) :
    k0_pay3 x a (View.ld wo (Rect.unit (s := S1024x1024) ![0, 0] ![512, 1024] i1)) b (View.ld wo (Rect.unit (s := S1024x1024) ![512, 0] ![512, 1024] i2)) (ix2 r l)
      = streamRow x a b wo r l :=
  (stream_apply _ _ _ _ _ r l).trans (congrArg₂ (fun s t => x (ix2 r l) + s + t)
    (sum_congr rfl fun k _ => congrArg (a (ix2 r k) * ·) (wo_lo wo i1 k l)) (sum_congr rfl fun k _ => congrArg (b (ix2 r k) * ·) (wo_hi wo i2 k l)))

theorem norm_ld (x : Vec Ideal S512x1024 .f32) (a b : Vec Ideal S512x512 .bf16) (wo : Vec Ideal S1024x1024 .bf16) (i1) (i2) (g : Vec Ideal S1x1024 .f32) (r : Fin 512) (l : Fin 1024) :
    k0_pay4 x a (View.ld wo (Rect.unit (s := S1024x1024) ![0, 0] ![512, 1024] i1)) b (View.ld wo (Rect.unit (s := S1024x1024) ![512, 0] ![512, 1024] i2)) g (ix2 r l)
      = rmsRow (streamRow x a b wo r) (fun k => g (ix2 0 k)) l :=
  (norm_apply _ _ _ _ _ g r l).trans (congrArg (fun z => rmsRow z (fun k => g (ix2 0 k)) l) (funext fun k => stream_ld x a b wo i1 i2 r k))

set_option maxHeartbeats 1000000 in
/-- The block a point writes, at row `r` and column `l`. -/
theorem out_apply (c : Dev nD) (i : grid0.Coords) (a1 : Memref sig .tc .vmem S512x1024 .f32) (h1 : a1.IsWhole) (a2 : Memref sig .tc .vmem S512x512 .bf16) (h2 : a2.IsWhole) (a3 : Memref sig .tc .vmem S512x512 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1024x4096 .bf16) (h6 : a6.IsWhole) (a7 : Memref sig .tc .vmem S4096x1024 .bf16) (h7 : a7.IsWhole) (a8 : Memref sig .tc .vmem S1x1024 .f32) (h8 : a8.IsWhole) (a9 : Memref sig .tc .vmem S512x1024 .f32) (h9 : a9.IsWhole)
    (a10 : Memref sig .tc .vmem S512x1024 .bf16) (h10 : a10.IsWhole)
    (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1024x4096 .bf16) (x6 : Vec Ideal S4096x1024 .bf16) (x7 : Vec Ideal S1x1024 .f32) (r : Fin 512) (l : Fin 1024) :
    out0_A_8 c i a1 h1 a2 h2 a3 h3 a4 h4 a5 h5 a6 h6 a7 h7 a8 h8 a9 h9 a10 h10 x0 x1 x2 x3 x4 x5 x6 x7 (ix2 r l)
      = mlpRow (streamRow x0 x1 x2 x3 r) (fun k => x4 (ix2 0 k)) (fun k f => x5 (ix2 k f)) (fun f k => x6 (ix2 f k)) l := by
  unfold out0_A_8
  rw [View.read_writes_eq_canon _ _ _ (cover0_A_8 c i a1 h1 a2 h2 a3 h3 a4 h4 a5 h5 a6 h6 a7 h7 a8 h8 a9 h9 a10 h10 x0 x1 x2 x3 x4 x5 x6 x7)]
  unfold kernelRun0_A
  dsimp only
  sl_unfold_words
  rw [View.canon_cons_unit_zero (S := S512x1024) hz]
  simp only [View.readAt_eq_ld, h1.read_unread, h2.read_unread, h3.read_unread, h4.read_unread, h5.read_unread, h6.read_unread, h7.read_unread, h8.read_unread,
    View.readCov_unit_zero (S := S512x1024) _ hz, View.ld_unit_zero (S := S512x1024) hz, View.ld_unit_zero (S := S512x512) hz, View.ld_unit_zero (S := S1x1024) hz,
    View.readCov_cons_unit_lit' (S := S512x1024) _ _ _ _ _ (congrFun hz) (congrFun hz)]
  rw [chunk7_apply, chunk6_apply, chunk5_apply, chunk4_apply, chunk3_apply, chunk2_apply, chunk1_apply, chunk0_apply]
  rw [part_ld _ _ _ 3584 7 rfl, part_ld _ _ _ 3072 6 rfl, part_ld _ _ _ 2560 5 rfl, part_ld _ _ _ 2048 4 rfl, part_ld _ _ _ 1536 3 rfl, part_ld _ _ _ 1024 2 rfl, part_ld _ _ _ 512 1 rfl, part_ld _ _ _ 0 0 rfl]
  rw [add_chunks]
  simp only [norm_ld, stream_ld]
  rfl

end Cert.OutMlpFirstIdeal.Hand

end
-- ==== Proof.FirstValue.lean ====
/-
  What the output projection and feed-forward call of the first layer leaves in its result array after the run: every
  row of the residual stream plus the mixer's output times the projection, plus the feed-forward part.
-/
module

public import proofs.«01_k».proof.Proof.FirstBlock
public import Idealize.ShloMosaic.Lib.Pipeline.Value

@[expose] public section

noncomputable section

namespace Cert.OutMlpFirstIdeal.Hand

open Cert.OutMlpFirstIdeal Cert.OutMlpFirstIdeal.Gen Cert.Rows
open Idealize.ShloMosaic Idealize.ShloMosaic.TcCoe Idealize.SL.Sem Finset

/-- The residual stream's row after the projection. -/
def stream (x : FVec Ideal S32768x1024 .f32) (a b : FVec Ideal S32768x512 .bf16) (wo : FVec Ideal S1x1024x1024 .f32) (R : Fin 32768) (l : Fin 1024) : EReal :=
  x (ix2 R l) + (∑ k : Fin 512, a (ix2 R k) * wo (ix3 (0 : Fin 1) (⟨k.val, by omega⟩ : Fin 1024) l))
    + ∑ k : Fin 512, b (ix2 R k) * wo (ix3 (0 : Fin 1) (⟨512 + k.val, by omega⟩ : Fin 1024) l)

/-- The result, from the arguments. -/
def result (x : FVec Ideal S32768x1024 .f32) (a b : FVec Ideal S32768x512 .bf16) (wo : FVec Ideal S1x1024x1024 .f32) (g : FVec Ideal S2x1024 .f32)
    (wu : FVec Ideal S2x1024x4096 .f32) (wd : FVec Ideal S2x4096x1024 .f32) : FVec Ideal S32768x1024 .f32 := fun y =>
  mlpRow (stream x a b wo (y 0)) (fun k => g (ix2 (0 : Fin 2) k)) (fun k f => wu (ix3 (0 : Fin 2) k f)) (fun f k => wd (ix3 (0 : Fin 2) f k)) (y 1)

theorem read_wo (w : FVec Ideal S1x1024x1024 .f32) (k l : Fin 1024) : (truncf .bf16 (shapeCast S1024x1024 w shapeCasts_S1x1024x1024_S1024x1024) bitsLt_bf16_f32 : FVec Ideal S1024x1024 .bf16) (ix2 k l) = w (ix3 (0 : Fin 1) k l) := by
  pointwise []

theorem read_g (w : FVec Ideal S2x1024 .f32) (k : Fin 1024) : (shapeCast S1x1024 (shapeCast S1024 (extractStridedSlice S1x1024 ![0, 0] w slices_S2x1024_S1x1024_0_0) shapeCasts_S1x1024_S1024) shapeCasts_S1024_S1x1024 : FVec Ideal S1x1024 .f32) (ix2 (0 : Fin 1) k) = w (ix2 (0 : Fin 2) k) := by
  pointwise []

theorem read_wu (w : FVec Ideal S2x1024x4096 .f32) (k : Fin 1024) (l : Fin 4096) : (truncf .bf16 (shapeCast S1024x4096 (extractStridedSlice S1x1024x4096 ![0, 0, 0] w slices_S2x1024x4096_S1x1024x4096_0_0_0) shapeCasts_S1x1024x4096_S1024x4096) bitsLt_bf16_f32 : FVec Ideal S1024x4096 .bf16) (ix2 k l) = w (ix3 (0 : Fin 2) k l) := by
  pointwise []

theorem read_wd (w : FVec Ideal S2x4096x1024 .f32) (k : Fin 4096) (l : Fin 1024) : (truncf .bf16 (shapeCast S4096x1024 (extractStridedSlice S1x4096x1024 ![0, 0, 0] w slices_S2x4096x1024_S1x4096x1024_0_0_0) shapeCasts_S1x4096x1024_S4096x1024) bitsLt_bf16_f32 : FVec Ideal S4096x1024 .bf16) (ix2 k l) = w (ix3 (0 : Fin 2) k l) := by
  pointwise []

variable (m : (ℓ : Loc nD τ sig) → Buf (Elt Ideal) ℓ) (ρ : Dev nD → PrngReg)

/-! What the region finds in the arrays the host operations wrote. -/

theorem V_wo (c : Dev nD) (k l : Fin 1024) : (V m c main_v1 : FVec Ideal S1024x1024 .bf16) (ix2 k l) = (m ((c : Thread nD τ).loc main_arg3) : FVec Ideal S1x1024x1024 .f32) (ix3 (0 : Fin 1) k l) := by
  have e : V m c main_v1 = (truncf .bf16 (shapeCast S1024x1024 (m ((c : Thread nD τ).loc main_arg3) : FVec Ideal S1x1024x1024 .f32) shapeCasts_S1x1024x1024_S1024x1024) bitsLt_bf16_f32 : FVec Ideal S1024x1024 .bf16) := by
    unfold V
    simp only [hostOps0]
    after_results <;> rfl
  exact (congrFun e _).trans (read_wo _ k l)

theorem V_g (c : Dev nD) (k : Fin 1024) : (V m c main_v4 : FVec Ideal S1x1024 .f32) (ix2 (0 : Fin 1) k) = (m ((c : Thread nD τ).loc main_arg4) : FVec Ideal S2x1024 .f32) (ix2 (0 : Fin 2) k) := by
  have e : V m c main_v4 = (shapeCast S1x1024 (shapeCast S1024 (extractStridedSlice S1x1024 ![0, 0] (m ((c : Thread nD τ).loc main_arg4) : FVec Ideal S2x1024 .f32) slices_S2x1024_S1x1024_0_0) shapeCasts_S1x1024_S1024) shapeCasts_S1024_S1x1024 : FVec Ideal S1x1024 .f32) := by
    unfold V
    simp only [hostOps0]
    after_results <;> rfl
  exact (congrFun e _).trans (read_g _ k)

theorem V_wu (c : Dev nD) (k : Fin 1024) (l : Fin 4096) : (V m c main_v7 : FVec Ideal S1024x4096 .bf16) (ix2 k l) = (m ((c : Thread nD τ).loc main_arg5) : FVec Ideal S2x1024x4096 .f32) (ix3 (0 : Fin 2) k l) := by
  have e : V m c main_v7 = (truncf .bf16 (shapeCast S1024x4096 (extractStridedSlice S1x1024x4096 ![0, 0, 0] (m ((c : Thread nD τ).loc main_arg5) : FVec Ideal S2x1024x4096 .f32) slices_S2x1024x4096_S1x1024x4096_0_0_0) shapeCasts_S1x1024x4096_S1024x4096) bitsLt_bf16_f32 : FVec Ideal S1024x4096 .bf16) := by
    unfold V
    simp only [hostOps0]
    after_results <;> rfl
  exact (congrFun e _).trans (read_wu _ k l)

theorem V_wd (c : Dev nD) (k : Fin 4096) (l : Fin 1024) : (V m c main_v10 : FVec Ideal S4096x1024 .bf16) (ix2 k l) = (m ((c : Thread nD τ).loc main_arg6) : FVec Ideal S2x4096x1024 .f32) (ix3 (0 : Fin 2) k l) := by
  have e : V m c main_v10 = (truncf .bf16 (shapeCast S4096x1024 (extractStridedSlice S1x4096x1024 ![0, 0, 0] (m ((c : Thread nD τ).loc main_arg6) : FVec Ideal S2x4096x1024 .f32) slices_S2x4096x1024_S1x4096x1024_0_0_0) shapeCasts_S1x4096x1024_S4096x1024) bitsLt_bf16_f32 : FVec Ideal S4096x1024 .bf16) := by
    unfold V
    simp only [hostOps0]
    after_results <;> rfl
  exact (congrFun e _).trans (read_wd _ k l)

/-! The index maps, decided over the grid. -/

abbrev tOf (t : Fin cfg0.N) : Fin 64 := grid0.coords t 0

theorem index0 (t : Fin cfg0.N) : win0_0.index t 0 = (grid0.coords t 0).val ∧ win0_0.index t 1 = 0 :=
  (by decide +kernel : ∀ t : Fin grid0.N, win0_0.index t 0 = (grid0.coords t 0).val ∧ win0_0.index t 1 = 0) t

theorem index1 (t : Fin cfg0.N) : win0_1.index t 0 = (grid0.coords t 0).val ∧ win0_1.index t 1 = 0 :=
  (by decide +kernel : ∀ t : Fin grid0.N, win0_1.index t 0 = (grid0.coords t 0).val ∧ win0_1.index t 1 = 0) t

theorem index2 (t : Fin cfg0.N) : win0_2.index t 0 = (grid0.coords t 0).val ∧ win0_2.index t 1 = 0 :=
  (by decide +kernel : ∀ t : Fin grid0.N, win0_2.index t 0 = (grid0.coords t 0).val ∧ win0_2.index t 1 = 0) t

theorem index3 (t : Fin cfg0.N) : win0_3.index t 0 = 0 ∧ win0_3.index t 1 = 0 :=
  (by decide +kernel : ∀ t : Fin grid0.N, win0_3.index t 0 = 0 ∧ win0_3.index t 1 = 0) t

theorem index4 (t : Fin cfg0.N) : win0_4.index t 0 = 0 ∧ win0_4.index t 1 = 0 :=
  (by decide +kernel : ∀ t : Fin grid0.N, win0_4.index t 0 = 0 ∧ win0_4.index t 1 = 0) t

theorem index5 (t : Fin cfg0.N) : win0_5.index t 0 = 0 ∧ win0_5.index t 1 = 0 :=
  (by decide +kernel : ∀ t : Fin grid0.N, win0_5.index t 0 = 0 ∧ win0_5.index t 1 = 0) t

theorem index6 (t : Fin cfg0.N) : win0_6.index t 0 = 0 ∧ win0_6.index t 1 = 0 :=
  (by decide +kernel : ∀ t : Fin grid0.N, win0_6.index t 0 = 0 ∧ win0_6.index t 1 = 0) t

theorem index8 (t : Fin cfg0.N) : win0_8.index t 0 = (grid0.coords t 0).val ∧ win0_8.index t 1 = 0 :=
  (by decide +kernel : ∀ t : Fin grid0.N, win0_8.index t 0 = (grid0.coords t 0).val ∧ win0_8.index t 1 = 0) t

/-! The windows' blocks, in the arrays. -/

theorem x_block (c : Dev nD) (t : Fin cfg0.N) (r : Fin 512) (k : Fin 1024) :
    iblk m c 0 t (ValueIdx.ix2 r k) = (m ((c : Thread nD τ).loc main_arg0) : FVec Ideal S32768x1024 .f32) (ix2 (⟨512 * (tOf t).val + r.val, by omega⟩ : Fin 32768) k) := by
  show V m c (Pipeline.arrRef spec0 0) ((win0_0.rect t).emb (ValueIdx.ix2 r k)) = _
  rw [show V m c (Pipeline.arrRef spec0 0) = m ((c : Thread nD τ).loc main_arg0) from V_main_arg0 m c]
  obtain ⟨h0, h1⟩ := index0 t
  refine congrArg _ (funext fun a => Fin.ext ?_)
  refine (win0_0.rect_emb_val t _ a).trans ?_
  match a with
  | ⟨0, _⟩ => show win0_0.index t 0 * 512 + r.val = _; rw [h0]; show (tOf t).val * 512 + r.val = 512 * (tOf t).val + r.val; omega
  | ⟨1, _⟩ => show win0_0.index t 1 * 1024 + k.val = k.val; rw [h1] <;> omega

theorem a_block (c : Dev nD) (t : Fin cfg0.N) (r : Fin 512) (k : Fin 512) :
    iblk m c 1 t (ValueIdx.ix2 r k) = (m ((c : Thread nD τ).loc main_arg1) : FVec Ideal S32768x512 .bf16) (ix2 (⟨512 * (tOf t).val + r.val, by omega⟩ : Fin 32768) k) := by
  show V m c (Pipeline.arrRef spec0 1) ((win0_1.rect t).emb (ValueIdx.ix2 r k)) = _
  rw [show V m c (Pipeline.arrRef spec0 1) = m ((c : Thread nD τ).loc main_arg1) from V_main_arg1 m c]
  obtain ⟨h0, h1⟩ := index1 t
  refine congrArg _ (funext fun a => Fin.ext ?_)
  refine (win0_1.rect_emb_val t _ a).trans ?_
  match a with
  | ⟨0, _⟩ => show win0_1.index t 0 * 512 + r.val = _; rw [h0]; show (tOf t).val * 512 + r.val = 512 * (tOf t).val + r.val; omega
  | ⟨1, _⟩ => show win0_1.index t 1 * 512 + k.val = k.val; rw [h1] <;> omega

theorem b_block (c : Dev nD) (t : Fin cfg0.N) (r : Fin 512) (k : Fin 512) :
    iblk m c 2 t (ValueIdx.ix2 r k) = (m ((c : Thread nD τ).loc main_arg2) : FVec Ideal S32768x512 .bf16) (ix2 (⟨512 * (tOf t).val + r.val, by omega⟩ : Fin 32768) k) := by
  show V m c (Pipeline.arrRef spec0 2) ((win0_2.rect t).emb (ValueIdx.ix2 r k)) = _
  rw [show V m c (Pipeline.arrRef spec0 2) = m ((c : Thread nD τ).loc main_arg2) from V_main_arg2 m c]
  obtain ⟨h0, h1⟩ := index2 t
  refine congrArg _ (funext fun a => Fin.ext ?_)
  refine (win0_2.rect_emb_val t _ a).trans ?_
  match a with
  | ⟨0, _⟩ => show win0_2.index t 0 * 512 + r.val = _; rw [h0]; show (tOf t).val * 512 + r.val = 512 * (tOf t).val + r.val; omega
  | ⟨1, _⟩ => show win0_2.index t 1 * 512 + k.val = k.val; rw [h1] <;> omega

theorem wo_block (c : Dev nD) (t : Fin cfg0.N) (k l : Fin 1024) :
    iblk m c 3 t (ValueIdx.ix2 k l) = (m ((c : Thread nD τ).loc main_arg3) : FVec Ideal S1x1024x1024 .f32) (ix3 (0 : Fin 1) k l) := by
  refine Eq.trans ?_ (V_wo m c k l)
  show V m c (Pipeline.arrRef spec0 3) ((win0_3.rect t).emb (ValueIdx.ix2 k l)) = _
  obtain ⟨h0, h1⟩ := index3 t
  refine congrArg (V m c main_v1) (funext fun a => Fin.ext ?_)
  refine (win0_3.rect_emb_val t _ a).trans ?_
  match a with
  | ⟨0, _⟩ => show win0_3.index t 0 * 1024 + k.val = k.val; rw [h0] <;> omega
  | ⟨1, _⟩ => show win0_3.index t 1 * 1024 + l.val = l.val; rw [h1] <;> omega

theorem g_block (c : Dev nD) (t : Fin cfg0.N) (k : Fin 1024) :
    iblk m c 4 t (ValueIdx.ix2 (0 : Fin 1) k) = (m ((c : Thread nD τ).loc main_arg4) : FVec Ideal S2x1024 .f32) (ix2 (0 : Fin 2) k) := by
  refine Eq.trans ?_ (V_g m c k)
  show V m c (Pipeline.arrRef spec0 4) ((win0_4.rect t).emb (ValueIdx.ix2 (0 : Fin 1) k)) = _
  obtain ⟨h0, h1⟩ := index4 t
  refine congrArg (V m c main_v4) (funext fun a => Fin.ext ?_)
  refine (win0_4.rect_emb_val t _ a).trans ?_
  match a with
  | ⟨0, _⟩ => show win0_4.index t 0 * 1 + 0 = 0; rw [h0] <;> omega
  | ⟨1, _⟩ => show win0_4.index t 1 * 1024 + k.val = k.val; rw [h1] <;> omega

theorem wu_block (c : Dev nD) (t : Fin cfg0.N) (k : Fin 1024) (l : Fin 4096) :
    iblk m c 5 t (ValueIdx.ix2 k l) = (m ((c : Thread nD τ).loc main_arg5) : FVec Ideal S2x1024x4096 .f32) (ix3 (0 : Fin 2) k l) := by
  refine Eq.trans ?_ (V_wu m c k l)
  show V m c (Pipeline.arrRef spec0 5) ((win0_5.rect t).emb (ValueIdx.ix2 k l)) = _
  obtain ⟨h0, h1⟩ := index5 t
  refine congrArg (V m c main_v7) (funext fun a => Fin.ext ?_)
  refine (win0_5.rect_emb_val t _ a).trans ?_
  match a with
  | ⟨0, _⟩ => show win0_5.index t 0 * 1024 + k.val = k.val; rw [h0] <;> omega
  | ⟨1, _⟩ => show win0_5.index t 1 * 4096 + l.val = l.val; rw [h1] <;> omega

theorem wd_block (c : Dev nD) (t : Fin cfg0.N) (k : Fin 4096) (l : Fin 1024) :
    iblk m c 6 t (ValueIdx.ix2 k l) = (m ((c : Thread nD τ).loc main_arg6) : FVec Ideal S2x4096x1024 .f32) (ix3 (0 : Fin 2) k l) := by
  refine Eq.trans ?_ (V_wd m c k l)
  show V m c (Pipeline.arrRef spec0 6) ((win0_6.rect t).emb (ValueIdx.ix2 k l)) = _
  obtain ⟨h0, h1⟩ := index6 t
  refine congrArg (V m c main_v10) (funext fun a => Fin.ext ?_)
  refine (win0_6.rect_emb_val t _ a).trans ?_
  match a with
  | ⟨0, _⟩ => show win0_6.index t 0 * 4096 + k.val = k.val; rw [h0] <;> omega
  | ⟨1, _⟩ => show win0_6.index t 1 * 1024 + l.val = l.val; rw [h1] <;> omega

/-- What a point writes back. -/
theorem block_result (c : Dev nD) (t : Fin cfg0.N) (r : Fin 512) (l : Fin 1024) :
    outsAt0 m c t (ValueIdx.ix2 r l) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (⟨512 * (tOf t).val + r.val, by omega⟩ : Fin 32768) l) := by
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ _ _ _ _ _ _ r l).trans ?_
  have es : streamRow (iblk m c 0 t) (iblk m c 1 t) (iblk m c 2 t) (iblk m c 3 t) r = stream (m ((c : Thread nD τ).loc main_arg0)) (m ((c : Thread nD τ).loc main_arg1)) (m ((c : Thread nD τ).loc main_arg2)) (m ((c : Thread nD τ).loc main_arg3)) (⟨512 * (tOf t).val + r.val, by omega⟩ : Fin 32768) := by
    funext l
    unfold streamRow stream
    exact congrArg₂ (fun s t => s + t) (congrArg₂ (fun s t => s + t) (x_block m c t r l) (sum_congr rfl fun k _ => congrArg₂ (fun s t => s * t) (a_block m c t r k) (wo_block m c t _ l)))
      (sum_congr rfl fun k _ => congrArg₂ (fun s t => s * t) (b_block m c t r k) (wo_block m c t _ l))
  have eg : (fun k : Fin 1024 => iblk m c 4 t (ValueIdx.ix2 (0 : Fin 1) k)) = fun k : Fin 1024 => (m ((c : Thread nD τ).loc main_arg4) : FVec Ideal S2x1024 .f32) (ix2 (0 : Fin 2) k) := funext fun k => g_block m c t k
  have eu : (fun (k : Fin 1024) (f : Fin 4096) => iblk m c 5 t (ValueIdx.ix2 k f)) = fun k f => (m ((c : Thread nD τ).loc main_arg5) : FVec Ideal S2x1024x4096 .f32) (ix3 (0 : Fin 2) k f) := funext fun k => funext fun f => wu_block m c t k f
  have ed : (fun (f : Fin 4096) (k : Fin 1024) => iblk m c 6 t (ValueIdx.ix2 f k)) = fun f k => (m ((c : Thread nD τ).loc main_arg6) : FVec Ideal S2x4096x1024 .f32) (ix3 (0 : Fin 2) f k) := funext fun f => funext fun k => wd_block m c t f k
  unfold result
  exact congrFun (mlpRow_congr es eg eu ed) l

/-- The blocks cover the array. -/
theorem covered (i : ℕ) (hi : i < 64) : ∃ t : Fin cfg0.N, (tOf t).val = i := by
  obtain ⟨t, h⟩ := (by decide +kernel : ∀ i : Fin 64, ∃ t : Fin grid0.N, (grid0.coords t 0).val = i.val) ⟨i, hi⟩
  exact ⟨t, h⟩

/-- The whole array. -/
theorem final (c : Dev nD) : (dats m 0 c).arrAt 8 cfg0.N
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hemb : ∀ (t : Fin cfg0.N) (r : Fin 512) (l : Fin 1024), (win0_8.rect t).emb (ValueIdx.ix2 r l) = ix2 (⟨512 * (tOf t).val + r.val, by omega⟩ : Fin 32768) l := by
    intro t r l
    obtain ⟨h0, h1⟩ := index8 t
    refine funext fun a => Fin.ext ?_
    refine (win0_8.rect_emb_val t _ a).trans ?_
    match a with
    | ⟨0, _⟩ => show win0_8.index t 0 * 512 + r.val = _; rw [h0]; show (tOf t).val * 512 + r.val = 512 * (tOf t).val + r.val; omega
    | ⟨1, _⟩ => show win0_8.index t 1 * 1024 + l.val = l.val; rw [h1] <;> omega
  refine (dats m 0 c).arrAt_eq_of_cover 8 _ (fun t _ => ?_) (fun y => ?_)
  · rw [Value.flushed8]
    funext y
    obtain ⟨r, l, rfl⟩ : ∃ (r : Fin 512) (l : Fin 1024), y = ValueIdx.ix2 r l := ⟨y 0, y 1, by
      funext a; match a with | ⟨0, _⟩ => rfl | ⟨1, _⟩ => rfl⟩
    refine (block_result m c t r l).trans ?_
    exact congrArg _ (hemb t r l).symm
  · have hT : (y 0).val < 32768 := (y 0).isLt
    obtain ⟨t, hi⟩ := covered ((y 0).val / 512) (by omega)
    refine ⟨t, flush0_8 t, ?_⟩
    have e : y = (win0_8.rect t).emb (ValueIdx.ix2 (⟨(y 0).val % 512, Nat.mod_lt _ (by norm_num)⟩ : Fin 512) (show Fin 1024 from y 1)) := by
      refine Eq.trans ?_ (hemb t _ (show Fin 1024 from y 1)).symm
      funext a
      match a with
      | ⟨0, _⟩ => exact Fin.ext (by show (y 0).val = 512 * (tOf t).val + (y 0).val % 512; rw [hi]; omega)
      | ⟨1, _⟩ => rfl
    rw [e]
    exact Finset.mem_map_of_mem _ (Finset.mem_univ _)

/-- The run, with the result named. -/
theorem run_result : θ_run defs (onTc (τ := τ) (main (F := Ideal))) ⟨m, fun _ => 0, ρ⟩ fun r => ∀ c : Dev nD,
      r.2.mem ((c : Thread nD τ).loc main_v12) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks m ρ)

end Cert.OutMlpFirstIdeal.Hand

end
-- ==== Proof.FirstReference.lean ====
/-
  What the reference of the output projection and feed-forward call of the first layer computes, element by element,
  and that the kernel's result is the same.
-/
module

public import proofs.«01_k».proof.Proof.Gen.OutMlpFirstRefIdeal.Run
public import proofs.«01_k».proof.Proof.FirstValue

@[expose] public section

noncomputable section

namespace Cert.OutMlpFirstRefIdeal.Hand

open Cert.OutMlpFirstRefIdeal Cert.OutMlpFirstRefIdeal.Gen Cert.Rows
open Idealize.ShloMosaic Idealize.ShloMosaic.TcCoe Finset

/-- The residual stream plus the mixer's output times the projection. -/
def streamR (x : FVec Ideal S32768x1024 .f32) (a b : FVec Ideal S32768x512 .bf16) (wo : FVec Ideal S1x1024x1024 .f32) : FVec Ideal S32768x1024 .f32 :=
  addf x (Host.dotGeneral dot_S32768x1024_S1024x1024_S32768x1024_1_0_0_1_n_n none (concatenate S32768x1024 1 [⟨S32768x512, (extf .f32 a bitsLt_bf16_f32)⟩, ⟨S32768x512, (extf .f32 b bitsLt_bf16_f32)⟩] concatenates_S32768x512_S32768x512_S32768x1024_d1) (shapeCast _ wo shapeCasts_S1x1024x1024_S1024x1024))

/-- The rows normalised, times the gains. -/
def normR (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The layer's gains. -/
def gainR (g : FVec Ideal S2x1024 .f32) : FVec Ideal S1024 .f32 := shapeCast _ (extractStridedSlice S1x1024 ![0, 0] g slices_S2x1024_S1x1024_0_0) shapeCasts_S1x1024_S1024

/-- The positive part of the hidden features. -/
def actR (h : FVec Ideal S32768x1024 .f32) (wu : FVec Ideal S2x1024x4096 .f32) : FVec Ideal S32768x4096 .f32 :=
  maximumf (Host.dotGeneral dot_S32768x1024_S1024x4096_S32768x4096_1_0_0_1_n_n none h (shapeCast _ (extractStridedSlice S1x1024x4096 ![0, 0, 0] wu slices_S2x1024x4096_S1x1024x4096_0_0_0) shapeCasts_S1x1024x4096_S1024x4096)) (broadcastInDim S32768x4096 ![] bcast_S_S32768x4096 (constant S_ .f32 0x00000000#32))

/-- The stream plus its feed-forward part. -/
def mlpR (x : FVec Ideal S32768x1024 .f32) (a : FVec Ideal S32768x4096 .f32) (wd : FVec Ideal S2x4096x1024 .f32) : FVec Ideal S32768x1024 .f32 :=
  addf x (Host.dotGeneral dot_S32768x4096_S4096x1024_S32768x1024_1_0_0_1_n_n none (mulf a a) (shapeCast _ (extractStridedSlice S1x4096x1024 ![0, 0, 0] wd slices_S2x4096x1024_S1x4096x1024_0_0_0) shapeCasts_S1x4096x1024_S4096x1024))

/-- The layer's feed-forward half. -/
def layerR (x : FVec Ideal S32768x1024 .f32) (g : FVec Ideal S2x1024 .f32) (wu : FVec Ideal S2x1024x4096 .f32) (wd : FVec Ideal S2x4096x1024 .f32) : FVec Ideal S32768x1024 .f32 :=
  mlpR x (actR (normR x (gainR g)) wu) wd

/-- The composed term is these stages. -/
theorem res_eq (m : (ℓ : Loc nD τ sig) → Buf (Elt Ideal) ℓ) (c : Dev nD) : Value.res_out0 m c
    = layerR (streamR (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) := rfl

theorem streamR_apply (x : FVec Ideal S32768x1024 .f32) (a b : FVec Ideal S32768x512 .bf16) (wo : FVec Ideal S1x1024x1024 .f32) (R : Fin 32768) (l : Fin 1024) :
    streamR x a b wo (ix2 R l) = OutMlpFirstIdeal.Hand.stream x a b wo R l := by
  have e : streamR x a b wo (ix2 R l) = x (ix2 R l) + ∑ k : Fin 1024, (if h : k.val < 512 then a (ix2 R (⟨k.val, h⟩ : Fin 512)) else b (ix2 R (⟨k.val - 512, by omega⟩ : Fin 512))) * wo (ix3 (0 : Fin 1) k l) := by
    pointwise [streamR]
  rw [e, sum_halves, ← add_assoc]
  rfl

theorem normR_apply (x : FVec Ideal S32768x1024 .f32) (g : FVec Ideal S1024 .f32) (R : Fin 32768) (l : Fin 1024) :
    normR x g (ix2 R l) = rmsRow (fun k => x (ix2 R k)) (fun k => g (ix1 k)) l := by
  pointwise [normR, rmsRow]

theorem gainR_apply (g : FVec Ideal S2x1024 .f32) (k : Fin 1024) : gainR g (ix1 k) = g (ix2 (0 : Fin 2) k) := by
  pointwise [gainR]

theorem actR_apply (h : FVec Ideal S32768x1024 .f32) (wu : FVec Ideal S2x1024x4096 .f32) (R : Fin 32768) (f : Fin 4096) :
    actR h wu (ix2 R f) = max (∑ k : Fin 1024, h (ix2 R k) * wu (ix3 (0 : Fin 2) k f)) 0 := by
  pointwise [actR]

theorem mlpR_apply (x : FVec Ideal S32768x1024 .f32) (a : FVec Ideal S32768x4096 .f32) (wd : FVec Ideal S2x4096x1024 .f32) (R : Fin 32768) (l : Fin 1024) :
    mlpR x a wd (ix2 R l) = x (ix2 R l) + ∑ f : Fin 4096, a (ix2 R f) * a (ix2 R f) * wd (ix3 (0 : Fin 2) f l) := by
  pointwise [mlpR]

theorem layerR_apply (x : FVec Ideal S32768x1024 .f32) (g : FVec Ideal S2x1024 .f32) (wu : FVec Ideal S2x1024x4096 .f32) (wd : FVec Ideal S2x4096x1024 .f32) (R : Fin 32768) (l : Fin 1024) :
    layerR x g wu wd (ix2 R l) = mlpRow (fun k => x (ix2 R k)) (fun k => g (ix2 (0 : Fin 2) k)) (fun k f => wu (ix3 (0 : Fin 2) k f)) (fun f k => wd (ix3 (0 : Fin 2) f k)) l := by
  unfold layerR mlpRow term
  rw [mlpR_apply]
  simp only [actR_apply, normR_apply, gainR_apply]

/-- The kernel's result is the reference's. -/
theorem equation (x : FVec Ideal S32768x1024 .f32) (a b : FVec Ideal S32768x512 .bf16) (wo : FVec Ideal S1x1024x1024 .f32) (g : FVec Ideal S2x1024 .f32) (wu : FVec Ideal S2x1024x4096 .f32) (wd : FVec Ideal S2x4096x1024 .f32) :
    layerR (streamR x a b wo) g wu wd = OutMlpFirstIdeal.Hand.result x a b wo g wu wd := by
  funext y
  obtain ⟨R, l, rfl⟩ : ∃ (R : Fin 32768) (l : Fin 1024), y = ix2 R l := ⟨y 0, y 1, by
    funext a; match a with | ⟨0, _⟩ => rfl | ⟨1, _⟩ => rfl⟩
  rw [layerR_apply]
  simp only [streamR_apply]
  rfl

end Cert.OutMlpFirstRefIdeal.Hand

end
-- ==== Proof.OutMlpClaims.lean ====
/-
  The claims on the two output projection and feed-forward calls: the frames and the equality with the reference over the
  extended reals.
-/
module

public import proofs.«01_k».proof.Defs
public import proofs.«01_k».proof.Proof.Gen.OutMlpFinal.Frame
public import proofs.«01_k».proof.Proof.Gen.OutMlpFirst.Frame
public import proofs.«01_k».proof.Proof.FinalReference
public import proofs.«01_k».proof.Proof.FirstReference
public import Idealize.ShloMosaic.Lib.Quiescent

@[expose] public section

noncomputable section

namespace Cert.OutMlpClaims

open Idealize.ShloMosaic Idealize.ShloMosaic.TcCoe Idealize.SL.Sem

theorem frame_OutMlpFinal : quiescent_OutMlpFinal (hOutMlpFinal := Cert.OutMlpFinal.Gen.facts) := fun m ρ _ => Cert.OutMlpFinal.Gen.frame m ρ

theorem frame_OutMlpFinalIdeal : quiescent_OutMlpFinalIdeal (hOutMlpFinalIdeal := Cert.OutMlpFinalIdeal.Gen.facts) := fun m ρ _ => Cert.OutMlpFinalIdeal.Gen.frame m ρ

theorem frame_OutMlpFinalRefIdeal : quiescent_OutMlpFinalRefIdeal (hOutMlpFinalRefIdeal := Cert.OutMlpFinalRefIdeal.Gen.facts) := fun m ρ _ =>
  (θ_run Cert.OutMlpFinalRefIdeal.defs _ _).mono (fun r h => ⟨fun c => (h c).2, sem_eq_zero_of_no_sems (by decide) r.2⟩) (Cert.OutMlpFinalRefIdeal.Value.run m ρ)

theorem preserves_OutMlpFinal : preserves_OutMlpFinal_OutMlpFinalIdeal := trivial

theorem algebraic_OutMlpFinal : algebraic_OutMlpFinalIdeal_OutMlpFinalRefIdeal (hOutMlpFinalIdeal := Cert.OutMlpFinalIdeal.Gen.facts) (hOutMlpFinalRefIdeal := Cert.OutMlpFinalRefIdeal.Gen.facts) := by
  intro m ρ m' ρ' _ hagree
  refine ⟨fun c : Dev Cert.OutMlpFinalIdeal.nD => Cert.OutMlpFinalIdeal.Hand.result (m ((c.tc : Thread Cert.OutMlpFinalIdeal.nD Cert.OutMlpFinalIdeal.τ).loc Cert.OutMlpFinalIdeal.main_arg0)) (m ((c.tc : Thread Cert.OutMlpFinalIdeal.nD Cert.OutMlpFinalIdeal.τ).loc Cert.OutMlpFinalIdeal.main_arg1)) (m ((c.tc : Thread Cert.OutMlpFinalIdeal.nD Cert.OutMlpFinalIdeal.τ).loc Cert.OutMlpFinalIdeal.main_arg2)) (m ((c.tc : Thread Cert.OutMlpFinalIdeal.nD Cert.OutMlpFinalIdeal.τ).loc Cert.OutMlpFinalIdeal.main_arg3)) (m ((c.tc : Thread Cert.OutMlpFinalIdeal.nD Cert.OutMlpFinalIdeal.τ).loc Cert.OutMlpFinalIdeal.main_arg4)) (m ((c.tc : Thread Cert.OutMlpFinalIdeal.nD Cert.OutMlpFinalIdeal.τ).loc Cert.OutMlpFinalIdeal.main_arg5)) (m ((c.tc : Thread Cert.OutMlpFinalIdeal.nD Cert.OutMlpFinalIdeal.τ).loc Cert.OutMlpFinalIdeal.main_arg6)), Cert.OutMlpFinalIdeal.Hand.run_result m ρ, ?_⟩
  refine (θ_run Cert.OutMlpFinalRefIdeal.defs _ _).mono (fun _ h c => ⟨(h c).1.trans ?_, (h c).2⟩) (Cert.OutMlpFinalRefIdeal.Value.run m' ρ')
  refine (Cert.OutMlpFinalRefIdeal.Hand.res_eq m' c).trans ?_
  rw [(hagree c).1, (hagree c).2.1, (hagree c).2.2.1, (hagree c).2.2.2.1, (hagree c).2.2.2.2.1, (hagree c).2.2.2.2.2.1, (hagree c).2.2.2.2.2.2]
  exact Cert.OutMlpFinalRefIdeal.Hand.equation _ _ _ _ _ _ _

theorem frame_OutMlpFirst : quiescent_OutMlpFirst (hOutMlpFirst := Cert.OutMlpFirst.Gen.facts) := fun m ρ _ => Cert.OutMlpFirst.Gen.frame m ρ

theorem frame_OutMlpFirstIdeal : quiescent_OutMlpFirstIdeal (hOutMlpFirstIdeal := Cert.OutMlpFirstIdeal.Gen.facts) := fun m ρ _ => Cert.OutMlpFirstIdeal.Gen.frame m ρ

theorem frame_OutMlpFirstRefIdeal : quiescent_OutMlpFirstRefIdeal (hOutMlpFirstRefIdeal := Cert.OutMlpFirstRefIdeal.Gen.facts) := fun m ρ _ =>
  (θ_run Cert.OutMlpFirstRefIdeal.defs _ _).mono (fun r h => ⟨fun c => (h c).2, sem_eq_zero_of_no_sems (by decide) r.2⟩) (Cert.OutMlpFirstRefIdeal.Value.run m ρ)

theorem preserves_OutMlpFirst : preserves_OutMlpFirst_OutMlpFirstIdeal := trivial

theorem algebraic_OutMlpFirst : algebraic_OutMlpFirstIdeal_OutMlpFirstRefIdeal (hOutMlpFirstIdeal := Cert.OutMlpFirstIdeal.Gen.facts) (hOutMlpFirstRefIdeal := Cert.OutMlpFirstRefIdeal.Gen.facts) := by
  intro m ρ m' ρ' _ hagree
  refine ⟨fun c : Dev Cert.OutMlpFirstIdeal.nD => Cert.OutMlpFirstIdeal.Hand.result (m ((c.tc : Thread Cert.OutMlpFirstIdeal.nD Cert.OutMlpFirstIdeal.τ).loc Cert.OutMlpFirstIdeal.main_arg0)) (m ((c.tc : Thread Cert.OutMlpFirstIdeal.nD Cert.OutMlpFirstIdeal.τ).loc Cert.OutMlpFirstIdeal.main_arg1)) (m ((c.tc : Thread Cert.OutMlpFirstIdeal.nD Cert.OutMlpFirstIdeal.τ).loc Cert.OutMlpFirstIdeal.main_arg2)) (m ((c.tc : Thread Cert.OutMlpFirstIdeal.nD Cert.OutMlpFirstIdeal.τ).loc Cert.OutMlpFirstIdeal.main_arg3)) (m ((c.tc : Thread Cert.OutMlpFirstIdeal.nD Cert.OutMlpFirstIdeal.τ).loc Cert.OutMlpFirstIdeal.main_arg4)) (m ((c.tc : Thread Cert.OutMlpFirstIdeal.nD Cert.OutMlpFirstIdeal.τ).loc Cert.OutMlpFirstIdeal.main_arg5)) (m ((c.tc : Thread Cert.OutMlpFirstIdeal.nD Cert.OutMlpFirstIdeal.τ).loc Cert.OutMlpFirstIdeal.main_arg6)), Cert.OutMlpFirstIdeal.Hand.run_result m ρ, ?_⟩
  refine (θ_run Cert.OutMlpFirstRefIdeal.defs _ _).mono (fun _ h c => ⟨(h c).1.trans ?_, (h c).2⟩) (Cert.OutMlpFirstRefIdeal.Value.run m' ρ')
  refine (Cert.OutMlpFirstRefIdeal.Hand.res_eq m' c).trans ?_
  rw [(hagree c).1, (hagree c).2.1, (hagree c).2.2.1, (hagree c).2.2.2.1, (hagree c).2.2.2.2.1, (hagree c).2.2.2.2.2.1, (hagree c).2.2.2.2.2.2.1]
  exact Cert.OutMlpFirstRefIdeal.Hand.equation _ _ _ _ _ _ _

end Cert.OutMlpClaims

end
-- ==== Proof.AbBlock.lean ====
/-
  What a grid point of the first layer's input projection writes: the values its kernel stores into its six results, read
  at an index of the block.
-/
module

public import proofs.«01_k».proof.Proof.Gen.AbInIdeal.Value
public import proofs.«01_k».proof.Proof.Rows
public import Idealize.ShloMosaic.Lib.Pipeline.ValueKit.Acc
public import Idealize.ShloMosaic.Lib.Pipeline.ValueKit.Tiles

@[expose] public section

noncomputable section

namespace Cert.AbInIdeal.Hand

open Cert.AbInIdeal Cert.AbInIdeal.Gen Cert.Rows
open Idealize.ShloMosaic Idealize.ShloMosaic.TcCoe Finset

theorem norm_apply (x : Vec Ideal S512x1024 .f32) (g : Vec Ideal S1x1024 .f32) (r : Fin 512) (l : Fin 1024) :
    k0_pay2 x g (ix2 r l) = rmsRow (fun k => x (ix2 r k)) (fun k => g (ix2 0 k)) l := by
  pointwise [k0_pay2, rmsRow]

theorem query_apply (h : Vec Ideal S512x1024 .bf16) (w : Vec Ideal S1024x512 .bf16) (r l : Fin 512) :
    k0_pay3 h w (ix2 r l) = (∑ k : Fin 1024, h (ix2 r k) * w (ix2 k l)) * Ideal.ofBits .f32 0x3E000000#32 := by
  pointwise [k0_pay3]

theorem key_apply (w h : Vec Ideal S512x1024 .bf16) (l r : Fin 512) :
    k0_pay5 (k0_pay4 w h) (ix3 (0 : Fin 1) l r) = ∑ k : Fin 1024, w (ix2 l k) * h (ix2 r k) := by
  pointwise [k0_pay5, k0_pay4]

theorem keyCast_apply (f : Vec Ideal S1x512x512 .f32) (l r : Fin 512) : k0_pay6 f (ix3 (0 : Fin 1) l r) = f (ix3 (0 : Fin 1) l r) := by
  pointwise [k0_pay6]

theorem value_apply (w h : Vec Ideal S512x1024 .bf16) (l r : Fin 512) :
    k0_pay7 w h (ix3 (0 : Fin 1) l r) = ∑ k : Fin 1024, w (ix2 l k) * h (ix2 r k) := by
  pointwise [k0_pay7]

theorem valueCast_apply (f : Vec Ideal S1x512x512 .f32) (l r : Fin 512) : k0_pay8 f (ix3 (0 : Fin 1) l r) = f (ix3 (0 : Fin 1) l r) := by
  pointwise [k0_pay8]

theorem gate_apply (h : Vec Ideal S512x1024 .bf16) (u v : Vec Ideal S1024x512 .bf16) (r l : Fin 512) :
    k0_pay1 (k0_pay9 h u) h v (ix2 r l) = (∑ k : Fin 1024, h (ix2 r k) * u (ix2 k l)) * Ideal.logistic (∑ k : Fin 1024, h (ix2 r k) * v (ix2 k l)) := by
  pointwise [k0_pay1, k0_pay9]

/-- Columns loaded from the whole weights. -/
theorem col_ld (w : Vec Ideal S1024x2560 .bf16) (n : ℕ) (i : ∀ a, (![0, n] : Fin 2 → ℕ) a + (![1024, 512] : Fin 2 → ℕ) a ≤ S1024x2560.size a) (k : Fin 1024) (l : Fin 512) (hn : n + 512 ≤ 2560) :
    View.ld w (Rect.unit (s := S1024x2560) ![0, n] ![1024, 512] i) (ix2 k l) = w (ix2 k (⟨n + l.val, by omega⟩ : Fin 2560)) :=
  View.ld_unit_apply_of _ _ _ _ _ _ fun a => match a with
    | ⟨0, _⟩ => (Nat.zero_add _).symm
    | ⟨1, _⟩ => rfl

/-- Rows loaded from the transposed weights. -/
theorem row_ld (w : Vec Ideal S1024x1024 .bf16) (n : ℕ) (i : ∀ a, (![n, 0] : Fin 2 → ℕ) a + (![512, 1024] : Fin 2 → ℕ) a ≤ S1024x1024.size a) (l : Fin 512) (k : Fin 1024) (hn : n + 512 ≤ 1024) :
    View.ld w (Rect.unit (s := S1024x1024) ![n, 0] ![512, 1024] i) (ix2 l k) = w (ix2 (⟨n + l.val, by omega⟩ : Fin 1024) k) :=
  View.ld_unit_apply_of _ _ _ _ _ _ fun a => match a with
    | ⟨0, _⟩ => rfl
    | ⟨1, _⟩ => (Nat.zero_add _).symm

/-- A row of the block, normalised. -/
def hRow (x : Vec Ideal S512x1024 .f32) (g : Vec Ideal S1x1024 .f32) (r : Fin 512) : Fin 1024 → EReal :=
  rmsRow (fun k => x (ix2 r k)) (fun k => g (ix2 0 k))

section

variable (x : Vec Ideal S512x1024 .f32) (g : Vec Ideal S1x1024 .f32) (w : Vec Ideal S1024x2560 .bf16) (v : Vec Ideal S1024x1024 .bf16) (r l : Fin 512)

/-- A normalised row times a column of the weights. -/
theorem dot_col (n : ℕ) (i : ∀ a, (![0, n] : Fin 2 → ℕ) a + (![1024, 512] : Fin 2 → ℕ) a ≤ S1024x2560.size a) (hn : n + 512 ≤ 2560) :
    (∑ k : Fin 1024, k0_pay2 x g (ix2 r k) * View.ld w (Rect.unit (s := S1024x2560) ![0, n] ![1024, 512] i) (ix2 k l))
      = ∑ k : Fin 1024, hRow x g r k * w (ix2 k (⟨n + l.val, by omega⟩ : Fin 2560)) :=
  sum_congr rfl fun k _ => congrArg₂ (· * ·) (norm_apply x g r k) (col_ld w n i k l hn)

/-- A row of the transposed weights times a normalised row. -/
theorem dot_row (n : ℕ) (i : ∀ a, (![n, 0] : Fin 2 → ℕ) a + (![512, 1024] : Fin 2 → ℕ) a ≤ S1024x1024.size a) (hn : n + 512 ≤ 1024) :
    (∑ k : Fin 1024, View.ld v (Rect.unit (s := S1024x1024) ![n, 0] ![512, 1024] i) (ix2 l k) * k0_pay2 x g (ix2 r k))
      = ∑ k : Fin 1024, v (ix2 (⟨n + l.val, by omega⟩ : Fin 1024) k) * hRow x g r k :=
  sum_congr rfl fun k _ => congrArg₂ (· * ·) (row_ld v n i l k hn) (norm_apply x g r k)

end

theorem hz : (![0, 0] : Fin 2 → ℕ) = fun _ => 0 := by decide

theorem hz3 : (![0, 0, 0] : Fin 3 → ℕ) = fun _ => 0 := by decide

section

variable (c : Dev nD) (i : grid0.Coords) (a1 : Memref sig .tc .vmem S512x1024 .f32) (h1 : a1.IsWhole) (a2 : Memref sig .tc .vmem S1x1024 .f32) (h2 : a2.IsWhole) (a3 : Memref sig .tc .vmem S1024x2560 .bf16) (h3 : a3.IsWhole) (a4 : Memref sig .tc .vmem S1024x1024 .bf16) (h4 : a4.IsWhole)
    (a5 : Memref sig .tc .vmem S512x512 .bf16) (h5 : a5.IsWhole) (a6 : Memref sig .tc .vmem S1x512x512 .bf16) (h6 : a6.IsWhole) (a7 : Memref sig .tc .vmem S1x512x512 .bf16) (h7 : a7.IsWhole) (a8 : Memref sig .tc .vmem S1x512x512 .f32) (h8 : a8.IsWhole)
    (a9 : Memref sig .tc .vmem S1x512x512 .f32) (h9 : a9.IsWhole) (a10 : Memref sig .tc .vmem S512x512 .f32) (h10 : a10.IsWhole) (a11 : Memref sig .tc .vmem S512x1024 .bf16) (h11 : a11.IsWhole)
  (x0 : Vec Ideal S512x1024 .f32) (x1 : Vec Ideal S1x1024 .f32) (x2 : Vec Ideal S1024x2560 .bf16) (x3 : Vec Ideal S1024x1024 .bf16) (r l : Fin 512)

/-- The scaled queries. -/
theorem out4_apply : out0_A_4 c i a1 h1 a2 h2 a3 h3 a4 h4 a5 h5 a6 h6 a7 h7 a8 h8 a9 h9 a10 h10 a11 h11 x0 x1 x2 x3 (ix2 r l)
      = (∑ k : Fin 1024, hRow x0 x1 r k * x2 (ix2 k (⟨0 + l.val, by omega⟩ : Fin 2560))) * Ideal.ofBits .f32 0x3E000000#32 := by
  unfold out0_A_4
  rw [View.read_writes_eq_canon _ _ _ (cover0_A_4 c i a1 h1 a2 h2 a3 h3 a4 h4 a5 h5 a6 h6 a7 h7 a8 h8 a9 h9 a10 h10 a11 h11 x0 x1 x2 x3)]
  unfold kernelRun0_A
  dsimp only
  sl_unfold_words
  rw [View.canon_cons_unit_zero (S := S512x512) hz]
  simp only [View.readAt_eq_ld, h1.read_unread, h2.read_unread, h3.read_unread, h4.read_unread, View.readCov_unit_zero (S := S512x1024) _ hz,
    View.readCov_unit_zero (S := S1x512x512) _ hz3, View.ld_unit_zero (S := S512x1024) hz, View.ld_unit_zero (S := S1x1024) hz]
  exact (query_apply _ _ r l).trans (congrArg (· * Ideal.ofBits .f32 0x3E000000#32) (dot_col x0 x1 x2 r l 0 _ (by norm_num)))

/-- The keys, transposed. -/
theorem out5_apply : out0_A_5 c i a1 h1 a2 h2 a3 h3 a4 h4 a5 h5 a6 h6 a7 h7 a8 h8 a9 h9 a10 h10 a11 h11 x0 x1 x2 x3 (ix3 (0 : Fin 1) l r)
      = ∑ k : Fin 1024, x3 (ix2 (⟨0 + l.val, by omega⟩ : Fin 1024) k) * hRow x0 x1 r k := by
  unfold out0_A_5
  rw [View.read_writes_eq_canon _ _ _ (cover0_A_5 c i a1 h1 a2 h2 a3 h3 a4 h4 a5 h5 a6 h6 a7 h7 a8 h8 a9 h9 a10 h10 a11 h11 x0 x1 x2 x3)]
  unfold kernelRun0_A
  dsimp only
  sl_unfold_words
  rw [View.canon_cons_unit_zero (S := S1x512x512) hz3]
  simp only [View.readAt_eq_ld, h1.read_unread, h2.read_unread, h3.read_unread, h4.read_unread, View.readCov_unit_zero (S := S512x1024) _ hz,
    View.readCov_unit_zero (S := S1x512x512) _ hz3, View.ld_unit_zero (S := S512x1024) hz, View.ld_unit_zero (S := S1x1024) hz]
  exact (keyCast_apply _ l r).trans ((key_apply _ _ l r).trans (dot_row x0 x1 x3 r l 0 _ (by norm_num)))

/-- The values, transposed. -/
theorem out6_apply : out0_A_6 c i a1 h1 a2 h2 a3 h3 a4 h4 a5 h5 a6 h6 a7 h7 a8 h8 a9 h9 a10 h10 a11 h11 x0 x1 x2 x3 (ix3 (0 : Fin 1) l r)
      = ∑ k : Fin 1024, x3 (ix2 (⟨512 + l.val, by omega⟩ : Fin 1024) k) * hRow x0 x1 r k := by
  unfold out0_A_6
  rw [View.read_writes_eq_canon _ _ _ (cover0_A_6 c i a1 h1 a2 h2 a3 h3 a4 h4 a5 h5 a6 h6 a7 h7 a8 h8 a9 h9 a10 h10 a11 h11 x0 x1 x2 x3)]
  unfold kernelRun0_A
  dsimp only
  sl_unfold_words
  rw [View.canon_cons_unit_zero (S := S1x512x512) hz3]
  simp only [View.readAt_eq_ld, h1.read_unread, h2.read_unread, h3.read_unread, h4.read_unread, View.readCov_unit_zero (S := S512x1024) _ hz,
    View.readCov_unit_zero (S := S1x512x512) _ hz3, View.ld_unit_zero (S := S512x1024) hz, View.ld_unit_zero (S := S1x1024) hz]
  exact (valueCast_apply _ l r).trans ((value_apply _ _ l r).trans (dot_row x0 x1 x3 r l 512 _ (by norm_num)))

/-- The keys, transposed. -/
theorem out7_apply : out0_A_7 c i a1 h1 a2 h2 a3 h3 a4 h4 a5 h5 a6 h6 a7 h7 a8 h8 a9 h9 a10 h10 a11 h11 x0 x1 x2 x3 (ix3 (0 : Fin 1) l r)
      = ∑ k : Fin 1024, x3 (ix2 (⟨0 + l.val, by omega⟩ : Fin 1024) k) * hRow x0 x1 r k := by
  unfold out0_A_7
  rw [View.read_writes_eq_canon _ _ _ (cover0_A_7 c i a1 h1 a2 h2 a3 h3 a4 h4 a5 h5 a6 h6 a7 h7 a8 h8 a9 h9 a10 h10 a11 h11 x0 x1 x2 x3)]
  unfold kernelRun0_A
  dsimp only
  sl_unfold_words
  rw [View.canon_cons_unit_zero (S := S1x512x512) hz3]
  simp only [View.readAt_eq_ld, h1.read_unread, h2.read_unread, h3.read_unread, h4.read_unread, View.readCov_unit_zero (S := S512x1024) _ hz,
    View.readCov_unit_zero (S := S1x512x512) _ hz3, View.ld_unit_zero (S := S512x1024) hz, View.ld_unit_zero (S := S1x1024) hz]
  exact (key_apply _ _ l r).trans (dot_row x0 x1 x3 r l 0 _ (by norm_num))

/-- The values, transposed. -/
theorem out8_apply : out0_A_8 c i a1 h1 a2 h2 a3 h3 a4 h4 a5 h5 a6 h6 a7 h7 a8 h8 a9 h9 a10 h10 a11 h11 x0 x1 x2 x3 (ix3 (0 : Fin 1) l r)
      = ∑ k : Fin 1024, x3 (ix2 (⟨512 + l.val, by omega⟩ : Fin 1024) k) * hRow x0 x1 r k := by
  unfold out0_A_8
  rw [View.read_writes_eq_canon _ _ _ (cover0_A_8 c i a1 h1 a2 h2 a3 h3 a4 h4 a5 h5 a6 h6 a7 h7 a8 h8 a9 h9 a10 h10 a11 h11 x0 x1 x2 x3)]
  unfold kernelRun0_A
  dsimp only
  sl_unfold_words
  rw [View.canon_cons_unit_zero (S := S1x512x512) hz3]
  simp only [View.readAt_eq_ld, h1.read_unread, h2.read_unread, h3.read_unread, h4.read_unread, View.readCov_unit_zero (S := S512x1024) _ hz,
    View.readCov_unit_zero (S := S1x512x512) _ hz3, View.ld_unit_zero (S := S512x1024) hz, View.ld_unit_zero (S := S1x1024) hz]
  exact (value_apply _ _ l r).trans (dot_row x0 x1 x3 r l 512 _ (by norm_num))

/-- The gated inputs of the convolution. -/
theorem out9_apply : out0_A_9 c i a1 h1 a2 h2 a3 h3 a4 h4 a5 h5 a6 h6 a7 h7 a8 h8 a9 h9 a10 h10 a11 h11 x0 x1 x2 x3 (ix2 r l)
      = (∑ k : Fin 1024, hRow x0 x1 r k * x2 (ix2 k (⟨1536 + l.val, by omega⟩ : Fin 2560))) * Ideal.logistic (∑ k : Fin 1024, hRow x0 x1 r k * x2 (ix2 k (⟨2048 + l.val, by omega⟩ : Fin 2560))) := by
  unfold out0_A_9
  rw [View.read_writes_eq_canon _ _ _ (cover0_A_9 c i a1 h1 a2 h2 a3 h3 a4 h4 a5 h5 a6 h6 a7 h7 a8 h8 a9 h9 a10 h10 a11 h11 x0 x1 x2 x3)]
  unfold kernelRun0_A
  dsimp only
  sl_unfold_words
  rw [View.canon_cons_unit_zero (S := S512x512) hz]
  simp only [View.readAt_eq_ld, h1.read_unread, h2.read_unread, h3.read_unread, h4.read_unread, View.readCov_unit_zero (S := S512x1024) _ hz,
    View.readCov_unit_zero (S := S1x512x512) _ hz3, View.ld_unit_zero (S := S512x1024) hz, View.ld_unit_zero (S := S1x1024) hz]
  exact (gate_apply _ _ _ r l).trans (congrArg₂ (fun s t => s * Ideal.logistic t) (dot_col x0 x1 x2 r l 1536 _ (by norm_num)) (dot_col x0 x1 x2 r l 2048 _ (by norm_num)))

end

end Cert.AbInIdeal.Hand

end
-- ==== Proof.AbValue.lean ====
/-
  What the first layer's input projection leaves in its six result arrays after the run: the normalised rows times the
  columns of the weights that make the queries, the keys, the values and the gated inputs of the convolution.
-/
module

public import proofs.«01_k».proof.Proof.AbBlock
public import Idealize.ShloMosaic.Lib.Pipeline.Value

@[expose] public section

noncomputable section

namespace Cert.AbInIdeal.Hand

open Cert.AbInIdeal Cert.AbInIdeal.Gen Cert.Rows
open Idealize.ShloMosaic Idealize.ShloMosaic.TcCoe Idealize.SL.Sem Finset

section

variable (x : FVec Ideal S16x2048x1024 .f32) (g : FVec Ideal S2x1024 .f32) (w : FVec Ideal S1x1024x2560 .f32)

/-- The normalised row of a batch element and a position, times column `j` of the weights. -/
def proj (b : Fin 16) (t : Fin 2048) (j : Fin 2560) : EReal :=
  ∑ k : Fin 1024, rmsRow (fun k => x (ix3 b t k)) (fun k => g (ix2 (0 : Fin 2) k)) k * w (ix3 (0 : Fin 1) k j)

/-- The batch element and the position of a row of all rows. -/
def bOf (R : Fin 32768) : Fin 16 := ⟨R.val / 2048, by omega⟩

def pOf (R : Fin 32768) : Fin 2048 := ⟨R.val % 2048, by omega⟩

/-- The queries, scaled. -/
def queries : FVec Ideal S32768x512 .bf16 := fun y =>
  proj x g w (bOf (y 0)) (pOf (y 0)) (⟨0 + (show Fin 512 from y 1).val, by have := (show Fin 512 from y 1).isLt; omega⟩ : Fin 2560) * Ideal.ofBits .f32 0x3E000000#32

/-- The keys, positions last. -/
def keys : FVec Ideal S16x512x2048 .f32 := fun y =>
  proj x g w (y 0) (y 2) (⟨512 + (show Fin 512 from y 1).val, by have := (show Fin 512 from y 1).isLt; omega⟩ : Fin 2560)

/-- The values, positions last. -/
def values : FVec Ideal S16x512x2048 .f32 := fun y =>
  proj x g w (y 0) (y 2) (⟨1024 + (show Fin 512 from y 1).val, by have := (show Fin 512 from y 1).isLt; omega⟩ : Fin 2560)

/-- The gated inputs of the convolution. -/
def gated : FVec Ideal S32768x512 .f32 := fun y =>
  proj x g w (bOf (y 0)) (pOf (y 0)) (⟨1536 + (show Fin 512 from y 1).val, by have := (show Fin 512 from y 1).isLt; omega⟩ : Fin 2560)
    * Ideal.logistic (proj x g w (bOf (y 0)) (pOf (y 0)) (⟨2048 + (show Fin 512 from y 1).val, by have := (show Fin 512 from y 1).isLt; omega⟩ : Fin 2560))

end

theorem read_x (w : FVec Ideal S16x2048x1024 .f32) (R : Fin 32768) (k : Fin 1024) : (shapeCast S32768x1024 w shapeCasts_S16x2048x1024_S32768x1024 : FVec Ideal S32768x1024 .f32) (ix2 R k) = w (ix3 (bOf R) (pOf R) k) := by
  pointwise [bOf, pOf]

theorem read_g (w : FVec Ideal S2x1024 .f32) (k : Fin 1024) : (shapeCast S1x1024 (shapeCast S1024 (extractStridedSlice S1x1024 ![0, 0] w slices_S2x1024_S1x1024_0_0) shapeCasts_S1x1024_S1024) shapeCasts_S1024_S1x1024 : FVec Ideal S1x1024 .f32) (ix2 (0 : Fin 1) k) = w (ix2 (0 : Fin 2) k) := by
  pointwise []

theorem read_w (w : FVec Ideal S1x1024x2560 .f32) (k : Fin 1024) (j : Fin 2560) : (truncf .bf16 (shapeCast S1024x2560 w shapeCasts_S1x1024x2560_S1024x2560) bitsLt_bf16_f32 : FVec Ideal S1024x2560 .bf16) (ix2 k j) = w (ix3 (0 : Fin 1) k j) := by
  pointwise []

theorem read_wt (w : FVec Ideal S1x1024x2560 .f32) (l k : Fin 1024) : (transpose S1024x1024 [1, 0] (extractStridedSlice S1024x1024 ![0, 512] (truncf .bf16 (shapeCast S1024x2560 w shapeCasts_S1x1024x2560_S1024x2560) bitsLt_bf16_f32) slices_S1024x2560_S1024x1024_0_512) transposes_S1024x1024_S1024x1024_1_0 : FVec Ideal S1024x1024 .bf16) (ix2 l k)
    = w (ix3 (0 : Fin 1) k (⟨512 + l.val, by omega⟩ : Fin 2560)) := by
  pointwise []

variable (m : (ℓ : Loc nD τ sig) → Buf (Elt Ideal) ℓ) (ρ : Dev nD → PrngReg)

/-! What the region finds in the arrays the host operations wrote. -/

theorem V_x (c : Dev nD) (R : Fin 32768) (k : Fin 1024) : (V m c main_v4 : FVec Ideal S32768x1024 .f32) (ix2 R k) = (m ((c : Thread nD τ).loc main_arg0) : FVec Ideal S16x2048x1024 .f32) (ix3 (bOf R) (pOf R) k) := by
  have e : V m c main_v4 = (shapeCast S32768x1024 (m ((c : Thread nD τ).loc main_arg0) : FVec Ideal S16x2048x1024 .f32) shapeCasts_S16x2048x1024_S32768x1024 : FVec Ideal S32768x1024 .f32) := by
    unfold V
    simp only [hostOps0]
    after_results <;> rfl
  exact (congrFun e _).trans (read_x _ R k)

theorem V_g (c : Dev nD) (k : Fin 1024) : (V m c main_v7 : FVec Ideal S1x1024 .f32) (ix2 (0 : Fin 1) k) = (m ((c : Thread nD τ).loc main_arg1) : FVec Ideal S2x1024 .f32) (ix2 (0 : Fin 2) k) := by
  have e : V m c main_v7 = (shapeCast S1x1024 (shapeCast S1024 (extractStridedSlice S1x1024 ![0, 0] (m ((c : Thread nD τ).loc main_arg1) : FVec Ideal S2x1024 .f32) slices_S2x1024_S1x1024_0_0) shapeCasts_S1x1024_S1024) shapeCasts_S1024_S1x1024 : FVec Ideal S1x1024 .f32) := by
    unfold V
    simp only [hostOps0]
    after_results <;> rfl
  exact (congrFun e _).trans (read_g _ k)

theorem V_w (c : Dev nD) (k : Fin 1024) (j : Fin 2560) : (V m c main_v1 : FVec Ideal S1024x2560 .bf16) (ix2 k j) = (m ((c : Thread nD τ).loc main_arg2) : FVec Ideal S1x1024x2560 .f32) (ix3 (0 : Fin 1) k j) := by
  have e : V m c main_v1 = (truncf .bf16 (shapeCast S1024x2560 (m ((c : Thread nD τ).loc main_arg2) : FVec Ideal S1x1024x2560 .f32) shapeCasts_S1x1024x2560_S1024x2560) bitsLt_bf16_f32 : FVec Ideal S1024x2560 .bf16) := by
    unfold V
    simp only [hostOps0]
    after_results <;> rfl
  exact (congrFun e _).trans (read_w _ k j)

theorem V_wt (c : Dev nD) (l k : Fin 1024) : (V m c main_v3 : FVec Ideal S1024x1024 .bf16) (ix2 l k) = (m ((c : Thread nD τ).loc main_arg2) : FVec Ideal S1x1024x2560 .f32) (ix3 (0 : Fin 1) k (⟨512 + l.val, by omega⟩ : Fin 2560)) := by
  have e : V m c main_v3 = (transpose S1024x1024 [1, 0] (extractStridedSlice S1024x1024 ![0, 512] (truncf .bf16 (shapeCast S1024x2560 (m ((c : Thread nD τ).loc main_arg2) : FVec Ideal S1x1024x2560 .f32) shapeCasts_S1x1024x2560_S1024x2560) bitsLt_bf16_f32) slices_S1024x2560_S1024x1024_0_512) transposes_S1024x1024_S1024x1024_1_0 : FVec Ideal S1024x1024 .bf16) := by
    unfold V
    simp only [hostOps0]
    after_results <;> rfl
  exact (congrFun e _).trans (read_wt _ l k)

/-! The index maps, decided over the grid. -/

abbrev tOf (t : Fin cfg0.N) : Fin 64 := grid0.coords t 0

theorem index0 (t : Fin cfg0.N) : win0_0.index t 0 = (grid0.coords t 0).val ∧ win0_0.index t 1 = 0 :=
  (by decide +kernel : ∀ t : Fin grid0.N, win0_0.index t 0 = (grid0.coords t 0).val ∧ win0_0.index t 1 = 0) t

theorem index1 (t : Fin cfg0.N) : win0_1.index t 0 = 0 ∧ win0_1.index t 1 = 0 :=
  (by decide +kernel : ∀ t : Fin grid0.N, win0_1.index t 0 = 0 ∧ win0_1.index t 1 = 0) t

theorem index2 (t : Fin cfg0.N) : win0_2.index t 0 = 0 ∧ win0_2.index t 1 = 0 :=
  (by decide +kernel : ∀ t : Fin grid0.N, win0_2.index t 0 = 0 ∧ win0_2.index t 1 = 0) t

theorem index3 (t : Fin cfg0.N) : win0_3.index t 0 = 0 ∧ win0_3.index t 1 = 0 :=
  (by decide +kernel : ∀ t : Fin grid0.N, win0_3.index t 0 = 0 ∧ win0_3.index t 1 = 0) t

theorem index4 (t : Fin cfg0.N) : win0_4.index t 0 = (grid0.coords t 0).val ∧ win0_4.index t 1 = 0 :=
  (by decide +kernel : ∀ t : Fin grid0.N, win0_4.index t 0 = (grid0.coords t 0).val ∧ win0_4.index t 1 = 0) t

theorem index9 (t : Fin cfg0.N) : win0_9.index t 0 = (grid0.coords t 0).val ∧ win0_9.index t 1 = 0 :=
  (by decide +kernel : ∀ t : Fin grid0.N, win0_9.index t 0 = (grid0.coords t 0).val ∧ win0_9.index t 1 = 0) t

theorem index5 (t : Fin cfg0.N) : win0_5.index t 0 = (grid0.coords t 0).val / 4 ∧ win0_5.index t 1 = 0 ∧ win0_5.index t 2 = (grid0.coords t 0).val % 4 :=
  (by decide +kernel : ∀ t : Fin grid0.N, win0_5.index t 0 = (grid0.coords t 0).val / 4 ∧ win0_5.index t 1 = 0 ∧ win0_5.index t 2 = (grid0.coords t 0).val % 4) t

theorem index6 (t : Fin cfg0.N) : win0_6.index t 0 = (grid0.coords t 0).val / 4 ∧ win0_6.index t 1 = 0 ∧ win0_6.index t 2 = (grid0.coords t 0).val % 4 :=
  (by decide +kernel : ∀ t : Fin grid0.N, win0_6.index t 0 = (grid0.coords t 0).val / 4 ∧ win0_6.index t 1 = 0 ∧ win0_6.index t 2 = (grid0.coords t 0).val % 4) t

theorem index7 (t : Fin cfg0.N) : win0_7.index t 0 = (grid0.coords t 0).val / 4 ∧ win0_7.index t 1 = 0 ∧ win0_7.index t 2 = (grid0.coords t 0).val % 4 :=
  (by decide +kernel : ∀ t : Fin grid0.N, win0_7.index t 0 = (grid0.coords t 0).val / 4 ∧ win0_7.index t 1 = 0 ∧ win0_7.index t 2 = (grid0.coords t 0).val % 4) t

theorem index8 (t : Fin cfg0.N) : win0_8.index t 0 = (grid0.coords t 0).val / 4 ∧ win0_8.index t 1 = 0 ∧ win0_8.index t 2 = (grid0.coords t 0).val % 4 :=
  (by decide +kernel : ∀ t : Fin grid0.N, win0_8.index t 0 = (grid0.coords t 0).val / 4 ∧ win0_8.index t 1 = 0 ∧ win0_8.index t 2 = (grid0.coords t 0).val % 4) t

/-! The windows' blocks, in the arrays. -/

/-- The row of all rows that row `r` of point `t`'s block is, and its position in its batch element. -/
def rowOf (t : Fin cfg0.N) (r : Fin 512) : Fin 32768 := ⟨512 * (tOf t).val + r.val, by omega⟩

def posOf (t : Fin cfg0.N) (r : Fin 512) : Fin 2048 := ⟨512 * ((tOf t).val % 4) + r.val, by omega⟩

def batOf (t : Fin cfg0.N) : Fin 16 := ⟨(tOf t).val / 4, by omega⟩

theorem bOf_rowOf (t : Fin cfg0.N) (r : Fin 512) : bOf (rowOf t r) = batOf t :=
  Fin.ext (by show (512 * (tOf t).val + r.val) / 2048 = (tOf t).val / 4; omega)

theorem pOf_rowOf (t : Fin cfg0.N) (r : Fin 512) : pOf (rowOf t r) = posOf t r :=
  Fin.ext (by show (512 * (tOf t).val + r.val) % 2048 = 512 * ((tOf t).val % 4) + r.val; omega)

theorem x_block (c : Dev nD) (t : Fin cfg0.N) (r : Fin 512) (k : Fin 1024) :
    iblk m c 0 t (ValueIdx.ix2 r k) = (m ((c : Thread nD τ).loc main_arg0) : FVec Ideal S16x2048x1024 .f32) (ix3 (bOf (rowOf t r)) (pOf (rowOf t r)) k) := by
  refine Eq.trans ?_ (V_x m c (rowOf t r) k)
  show V m c (Pipeline.arrRef spec0 0) ((win0_0.rect t).emb (ValueIdx.ix2 r k)) = _
  obtain ⟨h0, h1⟩ := index0 t
  refine congrArg (V m c main_v4) (funext fun a => Fin.ext ?_)
  refine (win0_0.rect_emb_val t _ a).trans ?_
  match a with
  | ⟨0, _⟩ => show win0_0.index t 0 * 512 + r.val = _; rw [h0]; show (tOf t).val * 512 + r.val = 512 * (tOf t).val + r.val; omega
  | ⟨1, _⟩ => show win0_0.index t 1 * 1024 + k.val = k.val; rw [h1] <;> omega

theorem g_block (c : Dev nD) (t : Fin cfg0.N) (k : Fin 1024) :
    iblk m c 1 t (ValueIdx.ix2 (0 : Fin 1) k) = (m ((c : Thread nD τ).loc main_arg1) : FVec Ideal S2x1024 .f32) (ix2 (0 : Fin 2) k) := by
  refine Eq.trans ?_ (V_g m c k)
  show V m c (Pipeline.arrRef spec0 1) ((win0_1.rect t).emb (ValueIdx.ix2 (0 : Fin 1) k)) = _
  obtain ⟨h0, h1⟩ := index1 t
  refine congrArg (V m c main_v7) (funext fun a => Fin.ext ?_)
  refine (win0_1.rect_emb_val t _ a).trans ?_
  match a with
  | ⟨0, _⟩ => show win0_1.index t 0 * 1 + 0 = 0; rw [h0] <;> omega
  | ⟨1, _⟩ => show win0_1.index t 1 * 1024 + k.val = k.val; rw [h1] <;> omega

theorem w_block (c : Dev nD) (t : Fin cfg0.N) (k : Fin 1024) (j : Fin 2560) :
    iblk m c 2 t (ValueIdx.ix2 k j) = (m ((c : Thread nD τ).loc main_arg2) : FVec Ideal S1x1024x2560 .f32) (ix3 (0 : Fin 1) k j) := by
  refine Eq.trans ?_ (V_w m c k j)
  show V m c (Pipeline.arrRef spec0 2) ((win0_2.rect t).emb (ValueIdx.ix2 k j)) = _
  obtain ⟨h0, h1⟩ := index2 t
  refine congrArg (V m c main_v1) (funext fun a => Fin.ext ?_)
  refine (win0_2.rect_emb_val t _ a).trans ?_
  match a with
  | ⟨0, _⟩ => show win0_2.index t 0 * 1024 + k.val = k.val; rw [h0] <;> omega
  | ⟨1, _⟩ => show win0_2.index t 1 * 2560 + j.val = j.val; rw [h1] <;> omega

theorem wt_block (c : Dev nD) (t : Fin cfg0.N) (l k : Fin 1024) :
    iblk m c 3 t (ValueIdx.ix2 l k) = (m ((c : Thread nD τ).loc main_arg2) : FVec Ideal S1x1024x2560 .f32) (ix3 (0 : Fin 1) k (⟨512 + l.val, by omega⟩ : Fin 2560)) := by
  refine Eq.trans ?_ (V_wt m c l k)
  show V m c (Pipeline.arrRef spec0 3) ((win0_3.rect t).emb (ValueIdx.ix2 l k)) = _
  obtain ⟨h0, h1⟩ := index3 t
  refine congrArg (V m c main_v3) (funext fun a => Fin.ext ?_)
  refine (win0_3.rect_emb_val t _ a).trans ?_
  match a with
  | ⟨0, _⟩ => show win0_3.index t 0 * 1024 + l.val = l.val; rw [h0] <;> omega
  | ⟨1, _⟩ => show win0_3.index t 1 * 1024 + k.val = k.val; rw [h1] <;> omega

/-- A normalised row of point `t`'s block. -/
theorem h_block (c : Dev nD) (t : Fin cfg0.N) (r : Fin 512) :
    hRow (iblk m c 0 t) (iblk m c 1 t) r = rmsRow (fun k => (m ((c : Thread nD τ).loc main_arg0) : FVec Ideal S16x2048x1024 .f32) (ix3 (bOf (rowOf t r)) (pOf (rowOf t r)) k)) (fun k => (m ((c : Thread nD τ).loc main_arg1) : FVec Ideal S2x1024 .f32) (ix2 (0 : Fin 2) k)) :=
  congrArg₂ rmsRow (funext fun k => x_block m c t r k) (funext fun k => g_block m c t k)

theorem col_block (c : Dev nD) (t : Fin cfg0.N) (r : Fin 512) (j : Fin 2560) :
    (∑ k : Fin 1024, hRow (iblk m c 0 t) (iblk m c 1 t) r k * (show Vec Ideal S1024x2560 .bf16 from iblk m c 2 t) (ix2 k j)) = proj (m ((c : Thread nD τ).loc main_arg0)) (m ((c : Thread nD τ).loc main_arg1)) (m ((c : Thread nD τ).loc main_arg2)) (bOf (rowOf t r)) (pOf (rowOf t r)) j := by
  unfold proj
  rw [h_block m c t r]
  exact sum_congr rfl fun k _ => congrArg (_ * ·) (w_block m c t k j)

theorem row_block (c : Dev nD) (t : Fin cfg0.N) (r : Fin 512) (l : Fin 1024) (j : Fin 2560) (e : j.val = 512 + l.val) :
    (∑ k : Fin 1024, (show Vec Ideal S1024x1024 .bf16 from iblk m c 3 t) (ix2 l k) * hRow (iblk m c 0 t) (iblk m c 1 t) r k) = proj (m ((c : Thread nD τ).loc main_arg0)) (m ((c : Thread nD τ).loc main_arg1)) (m ((c : Thread nD τ).loc main_arg2)) (batOf t) (posOf t r) j := by
  have ej : (⟨512 + l.val, by omega⟩ : Fin 2560) = j := Fin.ext e.symm
  unfold proj
  rw [h_block m c t r, bOf_rowOf, pOf_rowOf]
  exact sum_congr rfl fun k _ => (mul_comm _ _).trans (congrArg (_ * ·) ((wt_block m c t l k).trans (congrArg (fun j => (m ((c : Thread nD τ).loc main_arg2) : FVec Ideal S1x1024x2560 .f32) (ix3 (0 : Fin 1) k j)) ej)))

/-- The blocks cover the arrays. -/
theorem covered (i : ℕ) (hi : i < 64) : ∃ t : Fin cfg0.N, (tOf t).val = i := by
  obtain ⟨t, h⟩ := (by decide +kernel : ∀ i : Fin 64, ∃ t : Fin grid0.N, (grid0.coords t 0).val = i.val) ⟨i, hi⟩
  exact ⟨t, h⟩

/-! Result 0. -/

theorem emb4 (t : Fin cfg0.N) (r : Fin 512) (l : Fin 512) : (win0_4.rect t).emb (ValueIdx.ix2 r l) = ix2 (rowOf t r) l := by
  obtain ⟨h0, h1⟩ := index4 t
  refine funext fun a => Fin.ext ?_
  refine (win0_4.rect_emb_val t _ a).trans ?_
  match a with
  | ⟨0, _⟩ => show win0_4.index t 0 * 512 + r.val = _; rw [h0]; show (tOf t).val * 512 + r.val = 512 * (tOf t).val + r.val; omega
  | ⟨1, _⟩ => show win0_4.index t 1 * 512 + l.val = l.val; rw [h1] <;> omega

theorem block4 (c : Dev nD) (t : Fin cfg0.N) (r l : Fin 512) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (ValueIdx.ix2 r l) = queries (m ((c : Thread nD τ).loc main_arg0)) (m ((c : Thread nD τ).loc main_arg1)) (m ((c : Thread nD τ).loc main_arg2)) (ix2 (rowOf t r) l) := by
  refine (out4_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) r l).trans ?_
  exact congrArg (· * Ideal.ofBits .f32 0x3E000000#32) (col_block m c t r _)

theorem final4 (c : Dev nD) : (dats m 0 c).arrAt 4 cfg0.N = queries (m ((c : Thread nD τ).loc main_arg0)) (m ((c : Thread nD τ).loc main_arg1)) (m ((c : Thread nD τ).loc main_arg2)) := by
  refine (dats m 0 c).arrAt_eq_of_cover 4 _ (fun t _ => ?_) (fun y => ?_)
  · rw [Value.flushed4_A]
    funext y
    obtain ⟨r, l, rfl⟩ : ∃ (r : Fin 512) (l : Fin 512), y = ValueIdx.ix2 r l := ⟨y 0, y 1, by
      funext a; match a with | ⟨0, _⟩ => rfl | ⟨1, _⟩ => rfl⟩
    refine (block4 m c t r l).trans ?_
    exact congrArg _ (emb4 t r l).symm
  · have hT : (y 0).val < 32768 := (y 0).isLt
    obtain ⟨t, hi⟩ := covered ((y 0).val / 512) (by omega)
    refine ⟨t, flush0_4 t, ?_⟩
    have e : y = (win0_4.rect t).emb (ValueIdx.ix2 (⟨(y 0).val % 512, Nat.mod_lt _ (by norm_num)⟩ : Fin 512) (show Fin 512 from y 1)) := by
      refine Eq.trans ?_ (emb4 t _ (show Fin 512 from y 1)).symm
      funext a
      match a with
      | ⟨0, _⟩ => exact Fin.ext (by show (y 0).val = 512 * (tOf t).val + (y 0).val % 512; rw [hi]; omega)
      | ⟨1, _⟩ => rfl
    rw [e]
    exact Finset.mem_map_of_mem _ (Finset.mem_univ _)

/-! Result 1. -/

theorem emb5 (t : Fin cfg0.N) (l r : Fin 512) : (win0_5.rect t).emb (ValueIdx.ix3 (0 : Fin 1) l r) = ix3 (batOf t) l (posOf t r) := by
  obtain ⟨h0, h1, h2⟩ := index5 t
  refine funext fun a => Fin.ext ?_
  refine (win0_5.rect_emb_val t _ a).trans ?_
  match a with
  | ⟨0, _⟩ => show win0_5.index t 0 * 1 + 0 = _; rw [h0]; show (tOf t).val / 4 * 1 + 0 = (tOf t).val / 4; omega
  | ⟨1, _⟩ => show win0_5.index t 1 * 512 + l.val = l.val; rw [h1] <;> omega
  | ⟨2, _⟩ => show win0_5.index t 2 * 512 + r.val = _; rw [h2]; show (tOf t).val % 4 * 512 + r.val = 512 * ((tOf t).val % 4) + r.val; omega

theorem block5 (c : Dev nD) (t : Fin cfg0.N) (l r : Fin 512) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (ValueIdx.ix3 (0 : Fin 1) l r) = keys (m ((c : Thread nD τ).loc main_arg0)) (m ((c : Thread nD τ).loc main_arg1)) (m ((c : Thread nD τ).loc main_arg2)) (ix3 (batOf t) l (posOf t r)) := by
  refine (out5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) r l).trans ?_
  exact row_block m c t r _ _ (by show 512 + l.val = 512 + (0 + l.val); omega)

theorem final5 (c : Dev nD) : (dats m 0 c).arrAt 5 cfg0.N = keys (m ((c : Thread nD τ).loc main_arg0)) (m ((c : Thread nD τ).loc main_arg1)) (m ((c : Thread nD τ).loc main_arg2)) := by
  refine (dats m 0 c).arrAt_eq_of_cover 5 _ (fun t _ => ?_) (fun y => ?_)
  · rw [Value.flushed5_A]
    funext y
    obtain ⟨l, r, rfl⟩ : ∃ (l : Fin 512) (r : Fin 512), y = ValueIdx.ix3 (0 : Fin 1) l r := ⟨y 1, y 2, by
      funext a; match a with | ⟨0, _⟩ => exact Subsingleton.elim (α := Fin 1) _ _ | ⟨1, _⟩ => rfl | ⟨2, _⟩ => rfl⟩
    refine (block5 m c t l r).trans ?_
    exact congrArg _ (emb5 t l r).symm
  · have hB : (y 0).val < 16 := (y 0).isLt
    have hP : (y 2).val < 2048 := (y 2).isLt
    obtain ⟨t, hi⟩ := covered (4 * (y 0).val + (y 2).val / 512) (by omega)
    refine ⟨t, flush0_5 t, ?_⟩
    have e : y = (win0_5.rect t).emb (ValueIdx.ix3 (0 : Fin 1) (show Fin 512 from y 1) (⟨(y 2).val % 512, Nat.mod_lt _ (by norm_num)⟩ : Fin 512)) := by
      refine Eq.trans ?_ (emb5 t (show Fin 512 from y 1) _).symm
      funext a
      match a with
      | ⟨0, _⟩ => exact Fin.ext (by show (y 0).val = (tOf t).val / 4; rw [hi]; omega)
      | ⟨1, _⟩ => rfl
      | ⟨2, _⟩ => exact Fin.ext (by show (y 2).val = 512 * ((tOf t).val % 4) + (y 2).val % 512; rw [hi]; omega)
    rw [e]
    exact Finset.mem_map_of_mem _ (Finset.mem_univ _)

/-! Result 2. -/

theorem emb6 (t : Fin cfg0.N) (l r : Fin 512) : (win0_6.rect t).emb (ValueIdx.ix3 (0 : Fin 1) l r) = ix3 (batOf t) l (posOf t r) := by
  obtain ⟨h0, h1, h2⟩ := index6 t
  refine funext fun a => Fin.ext ?_
  refine (win0_6.rect_emb_val t _ a).trans ?_
  match a with
  | ⟨0, _⟩ => show win0_6.index t 0 * 1 + 0 = _; rw [h0]; show (tOf t).val / 4 * 1 + 0 = (tOf t).val / 4; omega
  | ⟨1, _⟩ => show win0_6.index t 1 * 512 + l.val = l.val; rw [h1] <;> omega
  | ⟨2, _⟩ => show win0_6.index t 2 * 512 + r.val = _; rw [h2]; show (tOf t).val % 4 * 512 + r.val = 512 * ((tOf t).val % 4) + r.val; omega

theorem block6 (c : Dev nD) (t : Fin cfg0.N) (l r : Fin 512) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (ValueIdx.ix3 (0 : Fin 1) l r) = values (m ((c : Thread nD τ).loc main_arg0)) (m ((c : Thread nD τ).loc main_arg1)) (m ((c : Thread nD τ).loc main_arg2)) (ix3 (batOf t) l (posOf t r)) := by
  refine (out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) r l).trans ?_
  exact row_block m c t r _ _ (by show 1024 + l.val = 512 + (512 + l.val); omega)

theorem final6 (c : Dev nD) : (dats m 0 c).arrAt 6 cfg0.N = values (m ((c : Thread nD τ).loc main_arg0)) (m ((c : Thread nD τ).loc main_arg1)) (m ((c : Thread nD τ).loc main_arg2)) := by
  refine (dats m 0 c).arrAt_eq_of_cover 6 _ (fun t _ => ?_) (fun y => ?_)
  · rw [Value.flushed6_A]
    funext y
    obtain ⟨l, r, rfl⟩ : ∃ (l : Fin 512) (r : Fin 512), y = ValueIdx.ix3 (0 : Fin 1) l r := ⟨y 1, y 2, by
      funext a; match a with | ⟨0, _⟩ => exact Subsingleton.elim (α := Fin 1) _ _ | ⟨1, _⟩ => rfl | ⟨2, _⟩ => rfl⟩
    refine (block6 m c t l r).trans ?_
    exact congrArg _ (emb6 t l r).symm
  · have hB : (y 0).val < 16 := (y 0).isLt
    have hP : (y 2).val < 2048 := (y 2).isLt
    obtain ⟨t, hi⟩ := covered (4 * (y 0).val + (y 2).val / 512) (by omega)
    refine ⟨t, flush0_6 t, ?_⟩
    have e : y = (win0_6.rect t).emb (ValueIdx.ix3 (0 : Fin 1) (show Fin 512 from y 1) (⟨(y 2).val % 512, Nat.mod_lt _ (by norm_num)⟩ : Fin 512)) := by
      refine Eq.trans ?_ (emb6 t (show Fin 512 from y 1) _).symm
      funext a
      match a with
      | ⟨0, _⟩ => exact Fin.ext (by show (y 0).val = (tOf t).val / 4; rw [hi]; omega)
      | ⟨1, _⟩ => rfl
      | ⟨2, _⟩ => exact Fin.ext (by show (y 2).val = 512 * ((tOf t).val % 4) + (y 2).val % 512; rw [hi]; omega)
    rw [e]
    exact Finset.mem_map_of_mem _ (Finset.mem_univ _)

/-! Result 3. -/

theorem emb7 (t : Fin cfg0.N) (l r : Fin 512) : (win0_7.rect t).emb (ValueIdx.ix3 (0 : Fin 1) l r) = ix3 (batOf t) l (posOf t r) := by
  obtain ⟨h0, h1, h2⟩ := index7 t
  refine funext fun a => Fin.ext ?_
  refine (win0_7.rect_emb_val t _ a).trans ?_
  match a with
  | ⟨0, _⟩ => show win0_7.index t 0 * 1 + 0 = _; rw [h0]; show (tOf t).val / 4 * 1 + 0 = (tOf t).val / 4; omega
  | ⟨1, _⟩ => show win0_7.index t 1 * 512 + l.val = l.val; rw [h1] <;> omega
  | ⟨2, _⟩ => show win0_7.index t 2 * 512 + r.val = _; rw [h2]; show (tOf t).val % 4 * 512 + r.val = 512 * ((tOf t).val % 4) + r.val; omega

theorem block7 (c : Dev nD) (t : Fin cfg0.N) (l r : Fin 512) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (ValueIdx.ix3 (0 : Fin 1) l r) = keys (m ((c : Thread nD τ).loc main_arg0)) (m ((c : Thread nD τ).loc main_arg1)) (m ((c : Thread nD τ).loc main_arg2)) (ix3 (batOf t) l (posOf t r)) := by
  refine (out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) r l).trans ?_
  exact row_block m c t r _ _ (by show 512 + l.val = 512 + (0 + l.val); omega)

theorem final7 (c : Dev nD) : (dats m 0 c).arrAt 7 cfg0.N = keys (m ((c : Thread nD τ).loc main_arg0)) (m ((c : Thread nD τ).loc main_arg1)) (m ((c : Thread nD τ).loc main_arg2)) := by
  refine (dats m 0 c).arrAt_eq_of_cover 7 _ (fun t _ => ?_) (fun y => ?_)
  · rw [Value.flushed7_A]
    funext y
    obtain ⟨l, r, rfl⟩ : ∃ (l : Fin 512) (r : Fin 512), y = ValueIdx.ix3 (0 : Fin 1) l r := ⟨y 1, y 2, by
      funext a; match a with | ⟨0, _⟩ => exact Subsingleton.elim (α := Fin 1) _ _ | ⟨1, _⟩ => rfl | ⟨2, _⟩ => rfl⟩
    refine (block7 m c t l r).trans ?_
    exact congrArg _ (emb7 t l r).symm
  · have hB : (y 0).val < 16 := (y 0).isLt
    have hP : (y 2).val < 2048 := (y 2).isLt
    obtain ⟨t, hi⟩ := covered (4 * (y 0).val + (y 2).val / 512) (by omega)
    refine ⟨t, flush0_7 t, ?_⟩
    have e : y = (win0_7.rect t).emb (ValueIdx.ix3 (0 : Fin 1) (show Fin 512 from y 1) (⟨(y 2).val % 512, Nat.mod_lt _ (by norm_num)⟩ : Fin 512)) := by
      refine Eq.trans ?_ (emb7 t (show Fin 512 from y 1) _).symm
      funext a
      match a with
      | ⟨0, _⟩ => exact Fin.ext (by show (y 0).val = (tOf t).val / 4; rw [hi]; omega)
      | ⟨1, _⟩ => rfl
      | ⟨2, _⟩ => exact Fin.ext (by show (y 2).val = 512 * ((tOf t).val % 4) + (y 2).val % 512; rw [hi]; omega)
    rw [e]
    exact Finset.mem_map_of_mem _ (Finset.mem_univ _)

/-! Result 4. -/

theorem emb8 (t : Fin cfg0.N) (l r : Fin 512) : (win0_8.rect t).emb (ValueIdx.ix3 (0 : Fin 1) l r) = ix3 (batOf t) l (posOf t r) := by
  obtain ⟨h0, h1, h2⟩ := index8 t
  refine funext fun a => Fin.ext ?_
  refine (win0_8.rect_emb_val t _ a).trans ?_
  match a with
  | ⟨0, _⟩ => show win0_8.index t 0 * 1 + 0 = _; rw [h0]; show (tOf t).val / 4 * 1 + 0 = (tOf t).val / 4; omega
  | ⟨1, _⟩ => show win0_8.index t 1 * 512 + l.val = l.val; rw [h1] <;> omega
  | ⟨2, _⟩ => show win0_8.index t 2 * 512 + r.val = _; rw [h2]; show (tOf t).val % 4 * 512 + r.val = 512 * ((tOf t).val % 4) + r.val; omega

theorem block8 (c : Dev nD) (t : Fin cfg0.N) (l r : Fin 512) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (ValueIdx.ix3 (0 : Fin 1) l r) = values (m ((c : Thread nD τ).loc main_arg0)) (m ((c : Thread nD τ).loc main_arg1)) (m ((c : Thread nD τ).loc main_arg2)) (ix3 (batOf t) l (posOf t r)) := by
  refine (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) r l).trans ?_
  exact row_block m c t r _ _ (by show 1024 + l.val = 512 + (512 + l.val); omega)

theorem final8 (c : Dev nD) : (dats m 0 c).arrAt 8 cfg0.N = values (m ((c : Thread nD τ).loc main_arg0)) (m ((c : Thread nD τ).loc main_arg1)) (m ((c : Thread nD τ).loc main_arg2)) := by
  refine (dats m 0 c).arrAt_eq_of_cover 8 _ (fun t _ => ?_) (fun y => ?_)
  · rw [Value.flushed8_A]
    funext y
    obtain ⟨l, r, rfl⟩ : ∃ (l : Fin 512) (r : Fin 512), y = ValueIdx.ix3 (0 : Fin 1) l r := ⟨y 1, y 2, by
      funext a; match a with | ⟨0, _⟩ => exact Subsingleton.elim (α := Fin 1) _ _ | ⟨1, _⟩ => rfl | ⟨2, _⟩ => rfl⟩
    refine (block8 m c t l r).trans ?_
    exact congrArg _ (emb8 t l r).symm
  · have hB : (y 0).val < 16 := (y 0).isLt
    have hP : (y 2).val < 2048 := (y 2).isLt
    obtain ⟨t, hi⟩ := covered (4 * (y 0).val + (y 2).val / 512) (by omega)
    refine ⟨t, flush0_8 t, ?_⟩
    have e : y = (win0_8.rect t).emb (ValueIdx.ix3 (0 : Fin 1) (show Fin 512 from y 1) (⟨(y 2).val % 512, Nat.mod_lt _ (by norm_num)⟩ : Fin 512)) := by
      refine Eq.trans ?_ (emb8 t (show Fin 512 from y 1) _).symm
      funext a
      match a with
      | ⟨0, _⟩ => exact Fin.ext (by show (y 0).val = (tOf t).val / 4; rw [hi]; omega)
      | ⟨1, _⟩ => rfl
      | ⟨2, _⟩ => exact Fin.ext (by show (y 2).val = 512 * ((tOf t).val % 4) + (y 2).val % 512; rw [hi]; omega)
    rw [e]
    exact Finset.mem_map_of_mem _ (Finset.mem_univ _)

/-! Result 5. -/

theorem emb9 (t : Fin cfg0.N) (r : Fin 512) (l : Fin 512) : (win0_9.rect t).emb (ValueIdx.ix2 r l) = ix2 (rowOf t r) l := by
  obtain ⟨h0, h1⟩ := index9 t
  refine funext fun a => Fin.ext ?_
  refine (win0_9.rect_emb_val t _ a).trans ?_
  match a with
  | ⟨0, _⟩ => show win0_9.index t 0 * 512 + r.val = _; rw [h0]; show (tOf t).val * 512 + r.val = 512 * (tOf t).val + r.val; omega
  | ⟨1, _⟩ => show win0_9.index t 1 * 512 + l.val = l.val; rw [h1] <;> omega

theorem block9 (c : Dev nD) (t : Fin cfg0.N) (r l : Fin 512) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (ValueIdx.ix2 r l) = gated (m ((c : Thread nD τ).loc main_arg0)) (m ((c : Thread nD τ).loc main_arg1)) (m ((c : Thread nD τ).loc main_arg2)) (ix2 (rowOf t r) l) := by
  refine (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) r l).trans ?_
  exact congrArg₂ (fun s t => s * Ideal.logistic t) (col_block m c t r _) (col_block m c t r _)

theorem final9 (c : Dev nD) : (dats m 0 c).arrAt 9 cfg0.N = gated (m ((c : Thread nD τ).loc main_arg0)) (m ((c : Thread nD τ).loc main_arg1)) (m ((c : Thread nD τ).loc main_arg2)) := by
  refine (dats m 0 c).arrAt_eq_of_cover 9 _ (fun t _ => ?_) (fun y => ?_)
  · rw [Value.flushed9_A]
    funext y
    obtain ⟨r, l, rfl⟩ : ∃ (r : Fin 512) (l : Fin 512), y = ValueIdx.ix2 r l := ⟨y 0, y 1, by
      funext a; match a with | ⟨0, _⟩ => rfl | ⟨1, _⟩ => rfl⟩
    refine (block9 m c t r l).trans ?_
    exact congrArg _ (emb9 t r l).symm
  · have hT : (y 0).val < 32768 := (y 0).isLt
    obtain ⟨t, hi⟩ := covered ((y 0).val / 512) (by omega)
    refine ⟨t, flush0_9 t, ?_⟩
    have e : y = (win0_9.rect t).emb (ValueIdx.ix2 (⟨(y 0).val % 512, Nat.mod_lt _ (by norm_num)⟩ : Fin 512) (show Fin 512 from y 1)) := by
      refine Eq.trans ?_ (emb9 t _ (show Fin 512 from y 1)).symm
      funext a
      match a with
      | ⟨0, _⟩ => exact Fin.ext (by show (y 0).val = 512 * (tOf t).val + (y 0).val % 512; rw [hi]; omega)
      | ⟨1, _⟩ => rfl
    rw [e]
    exact Finset.mem_map_of_mem _ (Finset.mem_univ _)

/-- The run, with the results named. -/
theorem run_result : θ_run defs (onTc (τ := τ) (main (F := Ideal))) ⟨m, fun _ => 0, ρ⟩ fun r => ∀ c : Dev nD,
      r.2.mem ((c : Thread nD τ).loc main_v8_0) = queries (m ((c : Thread nD τ).loc main_arg0)) (m ((c : Thread nD τ).loc main_arg1)) (m ((c : Thread nD τ).loc main_arg2))
      ∧ r.2.mem ((c : Thread nD τ).loc main_v8_1) = keys (m ((c : Thread nD τ).loc main_arg0)) (m ((c : Thread nD τ).loc main_arg1)) (m ((c : Thread nD τ).loc main_arg2))
      ∧ r.2.mem ((c : Thread nD τ).loc main_v8_2) = values (m ((c : Thread nD τ).loc main_arg0)) (m ((c : Thread nD τ).loc main_arg1)) (m ((c : Thread nD τ).loc main_arg2))
      ∧ r.2.mem ((c : Thread nD τ).loc main_v8_3) = keys (m ((c : Thread nD τ).loc main_arg0)) (m ((c : Thread nD τ).loc main_arg1)) (m ((c : Thread nD τ).loc main_arg2))
      ∧ r.2.mem ((c : Thread nD τ).loc main_v8_4) = values (m ((c : Thread nD τ).loc main_arg0)) (m ((c : Thread nD τ).loc main_arg1)) (m ((c : Thread nD τ).loc main_arg2))
      ∧ r.2.mem ((c : Thread nD τ).loc main_v8_5) = gated (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final4 m c), (h c).2.1.trans (final5 m c), (h c).2.2.1.trans (final6 m c), (h c).2.2.2.1.trans (final7 m c), (h c).2.2.2.2.1.trans (final8 m c), (h c).2.2.2.2.2.1.trans (final9 m c), (h c).2.2.2.2.2.2⟩) (Value.run_blocks m ρ)

end Cert.AbInIdeal.Hand

end
-- ==== Proof.AbReference.lean ====
/-
  What the reference of the first layer's input projection computes, element by element, and that the kernel's results
  are the same.
-/
module

public import proofs.«01_k».proof.Proof.Gen.AbInRefIdeal.Run
public import proofs.«01_k».proof.Proof.AbValue
public import Idealize.ShloMosaic.Lib.IdealHost

@[expose] public section

noncomputable section

namespace Cert.AbInRefIdeal.Hand

open Cert.AbInRefIdeal Cert.AbInRefIdeal.Gen Cert.Rows
open Idealize.ShloMosaic Idealize.ShloMosaic.TcCoe Finset

/-- The rows normalised, times the layer's gains. -/
def normR (x : FVec Ideal S16x2048x1024 .f32) (g : FVec Ideal S2x1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![0, 0] g slices_S2x1024_S1x1024_0_0) shapeCasts_S1x1024_S1024)))

/-- The rows times the weights. -/
def projR (x : FVec Ideal S16x2048x1024 .f32) (g : FVec Ideal S2x1024 .f32) (w : FVec Ideal S1x1024x2560 .f32) : FVec Ideal S16x2048x2560 .f32 :=
  Host.dotGeneral dot_S16x2048x1024_S1024x2560_S16x2048x2560_2_0_01_1_n_n none (normR x g) (shapeCast _ w shapeCasts_S1x1024x2560_S1024x2560)

/-- The queries, scaled, from all the products. -/
def queriesR (p : FVec Ideal S16x2048x2560 .f32) : FVec Ideal S32768x512 .bf16 :=
  shapeCast _ (truncf .bf16 (mulf (extractStridedSlice S16x2048x512 ![0, 0, 0] p slices_S16x2048x2560_S16x2048x512_0_0_0) (broadcastInDim S16x2048x512 ![] bcast_S_S16x2048x512 (constant S_ .f32 0x3E000000#32))) bitsLt_bf16_f32) shapeCasts_S16x2048x512_S32768x512

/-- The keys, positions last. -/
def keysR (p : FVec Ideal S16x2048x2560 .f32) : FVec Ideal S16x512x2048 .f32 :=
  transpose S16x512x2048 [0, 2, 1] (extractStridedSlice S16x2048x512 ![0, 0, 512] p slices_S16x2048x2560_S16x2048x512_0_0_512) transposes_S16x2048x512_S16x512x2048_0_2_1

/-- The values, positions last. -/
def valuesR (p : FVec Ideal S16x2048x2560 .f32) : FVec Ideal S16x512x2048 .f32 :=
  transpose S16x512x2048 [0, 2, 1] (extractStridedSlice S16x2048x512 ![0, 0, 1024] p slices_S16x2048x2560_S16x2048x512_0_0_1024) transposes_S16x2048x512_S16x512x2048_0_2_1

/-- The gated inputs of the convolution. -/
def gatedR (p : FVec Ideal S16x2048x2560 .f32) : FVec Ideal S32768x512 .f32 :=
  shapeCast _ (mulf (extractStridedSlice S16x2048x512 ![0, 0, 1536] p slices_S16x2048x2560_S16x2048x512_0_0_1536) (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (extractStridedSlice S16x2048x512 ![0, 0, 2048] p slices_S16x2048x2560_S16x2048x512_0_0_2048)))))) shapeCasts_S16x2048x512_S32768x512

section

variable (x : FVec Ideal S16x2048x1024 .f32) (g : FVec Ideal S2x1024 .f32) (w : FVec Ideal S1x1024x2560 .f32)

theorem normR_apply (b : Fin 16) (t : Fin 2048) (l : Fin 1024) :
    normR x g (ix3 b t l) = rmsRow (fun k => x (ix3 b t k)) (fun k => g (ix2 (0 : Fin 2) k)) l := by
  pointwise [normR, rmsRow]

theorem projR_apply (b : Fin 16) (t : Fin 2048) (j : Fin 2560) : projR x g w (ix3 b t j) = AbInIdeal.Hand.proj x g w b t j := by
  have e : projR x g w (ix3 b t j) = ∑ k : Fin 1024, normR x g (ix3 b t k) * w (ix3 (0 : Fin 1) k j) := by
    pointwise [projR]
  rw [e]
  exact sum_congr rfl fun k _ => congrArg (· * _) (normR_apply x g b t k)

end

section

variable (p : FVec Ideal S16x2048x2560 .f32)

theorem queriesR_apply (R : Fin 32768) (l : Fin 512) :
    queriesR p (ix2 R l) = p (ix3 (AbInIdeal.Hand.bOf R) (AbInIdeal.Hand.pOf R) (⟨0 + l.val, by omega⟩ : Fin 2560)) * Ideal.ofBits .f32 0x3E000000#32 := by
  pointwise [queriesR, AbInIdeal.Hand.bOf, AbInIdeal.Hand.pOf]

theorem keysR_apply (b : Fin 16) (l : Fin 512) (t : Fin 2048) : keysR p (ix3 b l t) = p (ix3 b t (⟨512 + l.val, by omega⟩ : Fin 2560)) := by
  pointwise [keysR]

theorem valuesR_apply (b : Fin 16) (l : Fin 512) (t : Fin 2048) : valuesR p (ix3 b l t) = p (ix3 b t (⟨1024 + l.val, by omega⟩ : Fin 2560)) := by
  pointwise [valuesR]

theorem gatedR_apply (R : Fin 32768) (l : Fin 512) :
    gatedR p (ix2 R l) = p (ix3 (AbInIdeal.Hand.bOf R) (AbInIdeal.Hand.pOf R) (⟨1536 + l.val, by omega⟩ : Fin 2560))
      * Ideal.logistic (p (ix3 (AbInIdeal.Hand.bOf R) (AbInIdeal.Hand.pOf R) (⟨2048 + l.val, by omega⟩ : Fin 2560))) := by
  pointwise [gatedR, Ideal.logistic, AbInIdeal.Hand.bOf, AbInIdeal.Hand.pOf]

end

section

variable (x : FVec Ideal S16x2048x1024 .f32) (g : FVec Ideal S2x1024 .f32) (w : FVec Ideal S1x1024x2560 .f32)

/-! The kernel's results are the reference's. -/

theorem queries_eq : queriesR (projR x g w) = AbInIdeal.Hand.queries x g w := by
  funext y
  obtain ⟨R, l, rfl⟩ : ∃ (R : Fin 32768) (l : Fin 512), y = ix2 R l := ⟨y 0, y 1, by
    funext a; match a with | ⟨0, _⟩ => rfl | ⟨1, _⟩ => rfl⟩
  rw [queriesR_apply, projR_apply]
  rfl

theorem keys_eq : keysR (projR x g w) = AbInIdeal.Hand.keys x g w := by
  funext y
  obtain ⟨b, l, t, rfl⟩ : ∃ (b : Fin 16) (l : Fin 512) (t : Fin 2048), y = ix3 b l t := ⟨y 0, y 1, y 2, by
    funext a; match a with | ⟨0, _⟩ => rfl | ⟨1, _⟩ => rfl | ⟨2, _⟩ => rfl⟩
  rw [keysR_apply, projR_apply]
  rfl

theorem values_eq : valuesR (projR x g w) = AbInIdeal.Hand.values x g w := by
  funext y
  obtain ⟨b, l, t, rfl⟩ : ∃ (b : Fin 16) (l : Fin 512) (t : Fin 2048), y = ix3 b l t := ⟨y 0, y 1, y 2, by
    funext a; match a with | ⟨0, _⟩ => rfl | ⟨1, _⟩ => rfl | ⟨2, _⟩ => rfl⟩
  rw [valuesR_apply, projR_apply]
  rfl

theorem gated_eq : gatedR (projR x g w) = AbInIdeal.Hand.gated x g w := by
  funext y
  obtain ⟨R, l, rfl⟩ : ∃ (R : Fin 32768) (l : Fin 512), y = ix2 R l := ⟨y 0, y 1, by
    funext a; match a with | ⟨0, _⟩ => rfl | ⟨1, _⟩ => rfl⟩
  rw [gatedR_apply, projR_apply, projR_apply]
  rfl

end

end Cert.AbInRefIdeal.Hand

end
-- ==== Proof.AbClaims.lean ====
/-
  The claims on the first layer's input projection: the frames and the equality with the reference over the extended reals.
-/
module

public import proofs.«01_k».proof.Defs
public import proofs.«01_k».proof.Proof.Gen.AbIn.Frame
public import proofs.«01_k».proof.Proof.AbReference
public import Idealize.ShloMosaic.Lib.Quiescent

@[expose] public section

noncomputable section

namespace Cert.AbClaims

open Idealize.ShloMosaic Idealize.ShloMosaic.TcCoe Idealize.SL.Sem

theorem frame_p : quiescent_AbIn (hAbIn := Cert.AbIn.Gen.facts) := fun m ρ _ => Cert.AbIn.Gen.frame m ρ

theorem frame_pi : quiescent_AbInIdeal (hAbInIdeal := Cert.AbInIdeal.Gen.facts) := fun m ρ _ => Cert.AbInIdeal.Gen.frame m ρ

theorem frame_ri : quiescent_AbInRefIdeal (hAbInRefIdeal := Cert.AbInRefIdeal.Gen.facts) := fun m ρ _ =>
  (θ_run Cert.AbInRefIdeal.defs _ _).mono (fun r h => ⟨fun c => (h c).2.2.2.2.2.2, sem_eq_zero_of_no_sems (by decide) r.2⟩) (Cert.AbInRefIdeal.Value.run m ρ)

theorem preserves : preserves_AbIn_AbInIdeal := trivial

theorem algebraic : algebraic_AbInIdeal_AbInRefIdeal (hAbInIdeal := Cert.AbInIdeal.Gen.facts) (hAbInRefIdeal := Cert.AbInRefIdeal.Gen.facts) := by
  intro m ρ m' ρ' _ hagree
  refine ⟨fun c : Dev Cert.AbInIdeal.nD => Cert.AbInIdeal.Hand.queries (m ((c.tc : Thread Cert.AbInIdeal.nD Cert.AbInIdeal.τ).loc Cert.AbInIdeal.main_arg0)) (m ((c.tc : Thread Cert.AbInIdeal.nD Cert.AbInIdeal.τ).loc Cert.AbInIdeal.main_arg1)) (m ((c.tc : Thread Cert.AbInIdeal.nD Cert.AbInIdeal.τ).loc Cert.AbInIdeal.main_arg2)), fun c : Dev Cert.AbInIdeal.nD => Cert.AbInIdeal.Hand.keys (m ((c.tc : Thread Cert.AbInIdeal.nD Cert.AbInIdeal.τ).loc Cert.AbInIdeal.main_arg0)) (m ((c.tc : Thread Cert.AbInIdeal.nD Cert.AbInIdeal.τ).loc Cert.AbInIdeal.main_arg1)) (m ((c.tc : Thread Cert.AbInIdeal.nD Cert.AbInIdeal.τ).loc Cert.AbInIdeal.main_arg2)), fun c : Dev Cert.AbInIdeal.nD => Cert.AbInIdeal.Hand.values (m ((c.tc : Thread Cert.AbInIdeal.nD Cert.AbInIdeal.τ).loc Cert.AbInIdeal.main_arg0)) (m ((c.tc : Thread Cert.AbInIdeal.nD Cert.AbInIdeal.τ).loc Cert.AbInIdeal.main_arg1)) (m ((c.tc : Thread Cert.AbInIdeal.nD Cert.AbInIdeal.τ).loc Cert.AbInIdeal.main_arg2)), fun c : Dev Cert.AbInIdeal.nD => Cert.AbInIdeal.Hand.keys (m ((c.tc : Thread Cert.AbInIdeal.nD Cert.AbInIdeal.τ).loc Cert.AbInIdeal.main_arg0)) (m ((c.tc : Thread Cert.AbInIdeal.nD Cert.AbInIdeal.τ).loc Cert.AbInIdeal.main_arg1)) (m ((c.tc : Thread Cert.AbInIdeal.nD Cert.AbInIdeal.τ).loc Cert.AbInIdeal.main_arg2)), fun c : Dev Cert.AbInIdeal.nD => Cert.AbInIdeal.Hand.values (m ((c.tc : Thread Cert.AbInIdeal.nD Cert.AbInIdeal.τ).loc Cert.AbInIdeal.main_arg0)) (m ((c.tc : Thread Cert.AbInIdeal.nD Cert.AbInIdeal.τ).loc Cert.AbInIdeal.main_arg1)) (m ((c.tc : Thread Cert.AbInIdeal.nD Cert.AbInIdeal.τ).loc Cert.AbInIdeal.main_arg2)), fun c : Dev Cert.AbInIdeal.nD => Cert.AbInIdeal.Hand.gated (m ((c.tc : Thread Cert.AbInIdeal.nD Cert.AbInIdeal.τ).loc Cert.AbInIdeal.main_arg0)) (m ((c.tc : Thread Cert.AbInIdeal.nD Cert.AbInIdeal.τ).loc Cert.AbInIdeal.main_arg1)) (m ((c.tc : Thread Cert.AbInIdeal.nD Cert.AbInIdeal.τ).loc Cert.AbInIdeal.main_arg2)), Cert.AbInIdeal.Hand.run_result m ρ, ?_⟩
  refine (θ_run Cert.AbInRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.AbInRefIdeal.Value.run m' ρ')
  · show Cert.AbInRefIdeal.Hand.queriesR (Cert.AbInRefIdeal.Hand.projR (m' ((c.tc : Thread Cert.AbInRefIdeal.nD Cert.AbInRefIdeal.τ).loc Cert.AbInRefIdeal.main_arg0)) (m' ((c.tc : Thread Cert.AbInRefIdeal.nD Cert.AbInRefIdeal.τ).loc Cert.AbInRefIdeal.main_arg1)) (m' ((c.tc : Thread Cert.AbInRefIdeal.nD Cert.AbInRefIdeal.τ).loc Cert.AbInRefIdeal.main_arg2))) = _
    rw [(hagree c).1, (hagree c).2.1, (hagree c).2.2]
    exact Cert.AbInRefIdeal.Hand.queries_eq _ _ _
  · show Cert.AbInRefIdeal.Hand.keysR (Cert.AbInRefIdeal.Hand.projR (m' ((c.tc : Thread Cert.AbInRefIdeal.nD Cert.AbInRefIdeal.τ).loc Cert.AbInRefIdeal.main_arg0)) (m' ((c.tc : Thread Cert.AbInRefIdeal.nD Cert.AbInRefIdeal.τ).loc Cert.AbInRefIdeal.main_arg1)) (m' ((c.tc : Thread Cert.AbInRefIdeal.nD Cert.AbInRefIdeal.τ).loc Cert.AbInRefIdeal.main_arg2))) = _
    rw [(hagree c).1, (hagree c).2.1, (hagree c).2.2]
    exact Cert.AbInRefIdeal.Hand.keys_eq _ _ _
  · show Cert.AbInRefIdeal.Hand.valuesR (Cert.AbInRefIdeal.Hand.projR (m' ((c.tc : Thread Cert.AbInRefIdeal.nD Cert.AbInRefIdeal.τ).loc Cert.AbInRefIdeal.main_arg0)) (m' ((c.tc : Thread Cert.AbInRefIdeal.nD Cert.AbInRefIdeal.τ).loc Cert.AbInRefIdeal.main_arg1)) (m' ((c.tc : Thread Cert.AbInRefIdeal.nD Cert.AbInRefIdeal.τ).loc Cert.AbInRefIdeal.main_arg2))) = _
    rw [(hagree c).1, (hagree c).2.1, (hagree c).2.2]
    exact Cert.AbInRefIdeal.Hand.values_eq _ _ _
  · show Cert.AbInRefIdeal.Hand.keysR (Cert.AbInRefIdeal.Hand.projR (m' ((c.tc : Thread Cert.AbInRefIdeal.nD Cert.AbInRefIdeal.τ).loc Cert.AbInRefIdeal.main_arg0)) (m' ((c.tc : Thread Cert.AbInRefIdeal.nD Cert.AbInRefIdeal.τ).loc Cert.AbInRefIdeal.main_arg1)) (m' ((c.tc : Thread Cert.AbInRefIdeal.nD Cert.AbInRefIdeal.τ).loc Cert.AbInRefIdeal.main_arg2))) = _
    rw [(hagree c).1, (hagree c).2.1, (hagree c).2.2]
    exact Cert.AbInRefIdeal.Hand.keys_eq _ _ _
  · show Cert.AbInRefIdeal.Hand.valuesR (Cert.AbInRefIdeal.Hand.projR (m' ((c.tc : Thread Cert.AbInRefIdeal.nD Cert.AbInRefIdeal.τ).loc Cert.AbInRefIdeal.main_arg0)) (m' ((c.tc : Thread Cert.AbInRefIdeal.nD Cert.AbInRefIdeal.τ).loc Cert.AbInRefIdeal.main_arg1)) (m' ((c.tc : Thread Cert.AbInRefIdeal.nD Cert.AbInRefIdeal.τ).loc Cert.AbInRefIdeal.main_arg2))) = _
    rw [(hagree c).1, (hagree c).2.1, (hagree c).2.2]
    exact Cert.AbInRefIdeal.Hand.values_eq _ _ _
  · show Cert.AbInRefIdeal.Hand.gatedR (Cert.AbInRefIdeal.Hand.projR (m' ((c.tc : Thread Cert.AbInRefIdeal.nD Cert.AbInRefIdeal.τ).loc Cert.AbInRefIdeal.main_arg0)) (m' ((c.tc : Thread Cert.AbInRefIdeal.nD Cert.AbInRefIdeal.τ).loc Cert.AbInRefIdeal.main_arg1)) (m' ((c.tc : Thread Cert.AbInRefIdeal.nD Cert.AbInRefIdeal.τ).loc Cert.AbInRefIdeal.main_arg2))) = _
    rw [(hagree c).1, (hagree c).2.1, (hagree c).2.2]
    exact Cert.AbInRefIdeal.Hand.gated_eq _ _ _

end Cert.AbClaims

end
-- ==== Proof.CBlock.lean ====
/-
  What a grid point of the second layer's input projection writes: the values its kernel stores into its five results,
  half by half, read at an index of the block.
-/
module

public import proofs.«01_k».proof.Proof.Gen.CInIdeal.Value
public import proofs.«01_k».proof.Proof.Rows
public import Idealize.ShloMosaic.Lib.Pipeline.ValueKit.Acc
public import Idealize.ShloMosaic.Lib.Pipeline.ValueKit.Tiles

@[expose] public section

noncomputable section

namespace Cert.CInIdeal.Hand

open Cert.CInIdeal Cert.CInIdeal.Gen Cert.Rows
open Idealize.ShloMosaic Idealize.ShloMosaic.TcCoe Finset

theorem norm_apply (x : Vec Ideal S512x1024 .f32) (g : Vec Ideal S1x1024 .f32) (r : Fin 512) (l : Fin 1024) :
    k0_pay1 x g (ix2 r l) = rmsRow (fun k => x (ix2 r k)) (fun k => g (ix2 0 k)) l := by
  pointwise [k0_pay1, rmsRow]

section

variable (h : Vec Ideal S512x1024 .bf16) (w : Vec Ideal S1024x512 .bf16) (v : Vec Ideal S512x1024 .bf16) (f : Vec Ideal S1x512x512 .f32) (r l : Fin 512)

theorem query0_apply : k0_pay2 h w (ix2 r l) = (∑ k : Fin 1024, h (ix2 r k) * w (ix2 k l)) * Ideal.ofBits .f32 0x3E000000#32 := by
  pointwise [k0_pay2]

theorem query1_apply : k0_pay3 h w (ix2 r l) = (∑ k : Fin 1024, h (ix2 r k) * w (ix2 k l)) * Ideal.ofBits .f32 0x3E000000#32 := by
  pointwise [k0_pay3]

theorem key0_apply : k0_pay4 v h (ix3 (0 : Fin 1) l r) = ∑ k : Fin 1024, v (ix2 l k) * h (ix2 r k) := by
  pointwise [k0_pay4]

theorem key1_apply : k0_pay6 v h (ix3 (0 : Fin 1) l r) = ∑ k : Fin 1024, v (ix2 l k) * h (ix2 r k) := by
  pointwise [k0_pay6]

theorem value0_apply : k0_pay9 v h (ix3 (0 : Fin 1) l r) = ∑ k : Fin 1024, v (ix2 l k) * h (ix2 r k) := by
  pointwise [k0_pay9]

theorem value1_apply : k0_pay11 v h (ix3 (0 : Fin 1) l r) = ∑ k : Fin 1024, v (ix2 l k) * h (ix2 r k) := by
  pointwise [k0_pay11]

theorem key0Cast_apply : k0_pay5 f (ix3 (0 : Fin 1) l r) = f (ix3 (0 : Fin 1) l r) := by
  pointwise [k0_pay5]

theorem key1Cast_apply : k0_pay8 (k0_pay7 f) (ix3 (0 : Fin 1) l r) = f (ix3 (0 : Fin 1) l r) := by
  pointwise [k0_pay8, k0_pay7]

theorem value0Cast_apply : k0_pay10 f (ix3 (0 : Fin 1) l r) = f (ix3 (0 : Fin 1) l r) := by
  pointwise [k0_pay10]

theorem value1Cast_apply : k0_pay12 f (ix3 (0 : Fin 1) l r) = f (ix3 (0 : Fin 1) l r) := by
  pointwise [k0_pay12]

end

/-- Columns loaded from the weights of the queries. -/
theorem col_ld (w : Vec Ideal S1024x1024 .bf16) (n : ℕ) (i : ∀ a, (![0, n] : Fin 2 → ℕ) a + (![1024, 512] : Fin 2 → ℕ) a ≤ S1024x1024.size a) (k : Fin 1024) (l : Fin 512) (j : Fin 1024) (e : j.val = n + l.val) :
    View.ld w (Rect.unit (s := S1024x1024) ![0, n] ![1024, 512] i) (ix2 k l) = w (ix2 k j) :=
  View.ld_unit_apply_of _ _ _ _ _ _ fun a => match a with
    | ⟨0, _⟩ => (Nat.zero_add _).symm
    | ⟨1, _⟩ => e

/-- Rows loaded from the transposed weights of the keys and values. -/
theorem row_ld (w : Vec Ideal S2048x1024 .bf16) (n : ℕ) (i : ∀ a, (![n, 0] : Fin 2 → ℕ) a + (![512, 1024] : Fin 2 → ℕ) a ≤ S2048x1024.size a) (l : Fin 512) (k : Fin 1024) (j : Fin 2048) (e : j.val = n + l.val) :
    View.ld w (Rect.unit (s := S2048x1024) ![n, 0] ![512, 1024] i) (ix2 l k) = w (ix2 j k) :=
  View.ld_unit_apply_of _ _ _ _ _ _ fun a => match a with
    | ⟨0, _⟩ => e
    | ⟨1, _⟩ => (Nat.zero_add _).symm

/-- A row of the block, normalised. -/
def hRow (x : Vec Ideal S512x1024 .f32) (g : Vec Ideal S1x1024 .f32) (r : Fin 512) : Fin 1024 → EReal :=
  rmsRow (fun k => x (ix2 r k)) (fun k => g (ix2 0 k))

section

variable (x : Vec Ideal S512x1024 .f32) (g : Vec Ideal S1x1024 .f32) (w : Vec Ideal S1024x1024 .bf16) (v : Vec Ideal S2048x1024 .bf16) (r l : Fin 512)

/-- A normalised row times a column of the weights. -/
theorem dot_col (n : ℕ) (i : ∀ a, (![0, n] : Fin 2 → ℕ) a + (![1024, 512] : Fin 2 → ℕ) a ≤ S1024x1024.size a) (j : Fin 1024) (e : j.val = n + l.val) :
    (∑ k : Fin 1024, k0_pay1 x g (ix2 r k) * View.ld w (Rect.unit (s := S1024x1024) ![0, n] ![1024, 512] i) (ix2 k l))
      = ∑ k : Fin 1024, hRow x g r k * w (ix2 k j) :=
  sum_congr rfl fun k _ => congrArg₂ (· * ·) (norm_apply x g r k) (col_ld w n i k l j e)

/-- A row of the transposed weights times a normalised row. -/
theorem dot_row (n : ℕ) (i : ∀ a, (![n, 0] : Fin 2 → ℕ) a + (![512, 1024] : Fin 2 → ℕ) a ≤ S2048x1024.size a) (j : Fin 2048) (e : j.val = n + l.val) :
    (∑ k : Fin 1024, View.ld v (Rect.unit (s := S2048x1024) ![n, 0] ![512, 1024] i) (ix2 l k) * k0_pay1 x g (ix2 r k))
      = ∑ k : Fin 1024, v (ix2 j k) * hRow x g r k :=
  sum_congr rfl fun k _ => congrArg₂ (· * ·) (row_ld v n i l k j e) (norm_apply x g r k)

end

theorem hz : (![0, 0] : Fin 2 → ℕ) = fun _ => 0 := by decide

/-- A load through the rectangle of the last store reads what was stored. -/
theorem readCov_last {sp : Space} {s : Shape} {e : EltTy} (v : View sig .tc sp s e) (r : Rect s) (w : r.shape.Idx → Elt Ideal e) (L : List (View.Piece (Elt Ideal) s e)) :
    v.readCov ((⟨r, w⟩ : View.Piece (Elt Ideal) s e) :: L) r.toLoadRect = w := by
  rw [View.readCov_eq_canon']
  funext j
  exact View.canon_cons_emb r w L j

/-- A block stored by its left and right halves. -/
theorem halves_cols {e : EltTy} (p q : S512x512.Idx → Elt Ideal e) (i : ∀ a, (![0, 512] : Fin 2 → ℕ) a + (![512, 512] : Fin 2 → ℕ) a ≤ S512x1024.size a) (j : ∀ a, (![0, 0] : Fin 2 → ℕ) a + (![512, 512] : Fin 2 → ℕ) a ≤ S512x1024.size a)
    (G : S512x1024.Idx → Elt Ideal e) (hp : ∀ r l : Fin 512, p (ix2 r l) = G (ix2 r (⟨l.val, by omega⟩ : Fin 1024))) (hq : ∀ r l : Fin 512, q (ix2 r l) = G (ix2 r (⟨512 + l.val, by omega⟩ : Fin 1024))) (y : S512x1024.Idx) :
    View.canon ([⟨Rect.unit (s := S512x1024) ![0, 512] ![512, 512] i, q⟩, ⟨Rect.unit (s := S512x1024) ![0, 0] ![512, 512] j, p⟩] : List (View.Piece (Elt Ideal) S512x1024 e)) y = G y := by
  refine View.canon_apply_of_pieces G _ ?_ y ?_
  · intro pc hpc
    rcases List.mem_cons.mp hpc with rfl | hpc
    · intro x
      obtain ⟨r, l, rfl⟩ : ∃ (r l : Fin 512), x = ix2 r l := ⟨x 0, x 1, by
        funext a; match a with | ⟨0, _⟩ => rfl | ⟨1, _⟩ => rfl⟩
      refine (hq r l).trans (congrArg G (funext fun a => Fin.ext ?_))
      match a with
      | ⟨0, _⟩ => show r.val = 0 + 1 * r.val; omega
      | ⟨1, _⟩ => show 512 + l.val = 512 + 1 * l.val; omega
    · obtain rfl := List.mem_singleton.mp hpc
      intro x
      obtain ⟨r, l, rfl⟩ : ∃ (r l : Fin 512), x = ix2 r l := ⟨x 0, x 1, by
        funext a; match a with | ⟨0, _⟩ => rfl | ⟨1, _⟩ => rfl⟩
      refine (hp r l).trans (congrArg G (funext fun a => Fin.ext ?_))
      match a with
      | ⟨0, _⟩ => show r.val = 0 + 1 * r.val; omega
      | ⟨1, _⟩ => show l.val = 0 + 1 * l.val; omega
  · have h0 : (y 0).val < 512 := (y 0).isLt
    have h1 : (y 1).val < 1024 := (y 1).isLt
    by_cases h : (y 1).val < 512
    · refine ⟨_, List.mem_cons_of_mem _ List.mem_cons_self, (Rect.mem_set_unit (inb := j)).mpr fun a => ?_⟩
      match a with
      | ⟨0, _⟩ => exact ⟨Nat.zero_le _, by show (y 0).val < 0 + 512; omega⟩
      | ⟨1, _⟩ => exact ⟨Nat.zero_le _, by show (y 1).val < 0 + 512; omega⟩
    · refine ⟨_, List.mem_cons_self, (Rect.mem_set_unit (inb := i)).mpr fun a => ?_⟩
      match a with
      | ⟨0, _⟩ => exact ⟨Nat.zero_le _, by show (y 0).val < 0 + 512; omega⟩
      | ⟨1, _⟩ => exact ⟨by show 512 ≤ (y 1).val; omega, by show (y 1).val < 512 + 512; omega⟩

/-- A block stored by its upper and lower halves. -/
theorem halves_rows {e : EltTy} (p q : S1x512x512.Idx → Elt Ideal e) (i : ∀ a, (![0, 512, 0] : Fin 3 → ℕ) a + (![1, 512, 512] : Fin 3 → ℕ) a ≤ S1x1024x512.size a) (j : ∀ a, (![0, 0, 0] : Fin 3 → ℕ) a + (![1, 512, 512] : Fin 3 → ℕ) a ≤ S1x1024x512.size a)
    (G : S1x1024x512.Idx → Elt Ideal e) (hp : ∀ l r : Fin 512, p (ix3 (0 : Fin 1) l r) = G (ix3 (0 : Fin 1) (⟨l.val, by omega⟩ : Fin 1024) r)) (hq : ∀ l r : Fin 512, q (ix3 (0 : Fin 1) l r) = G (ix3 (0 : Fin 1) (⟨512 + l.val, by omega⟩ : Fin 1024) r)) (y : S1x1024x512.Idx) :
    View.canon ([⟨Rect.unit (s := S1x1024x512) ![0, 512, 0] ![1, 512, 512] i, q⟩, ⟨Rect.unit (s := S1x1024x512) ![0, 0, 0] ![1, 512, 512] j, p⟩] : List (View.Piece (Elt Ideal) S1x1024x512 e)) y = G y := by
  refine View.canon_apply_of_pieces G _ ?_ y ?_
  · intro pc hpc
    rcases List.mem_cons.mp hpc with rfl | hpc
    · intro x
      obtain ⟨l, r, rfl⟩ : ∃ (l r : Fin 512), x = ix3 (0 : Fin 1) l r := ⟨x 1, x 2, by
        funext a; match a with | ⟨0, _⟩ => exact Subsingleton.elim (α := Fin 1) _ _ | ⟨1, _⟩ => rfl | ⟨2, _⟩ => rfl⟩
      refine (hq l r).trans (congrArg G (funext fun a => Fin.ext ?_))
      match a with
      | ⟨0, _⟩ => rfl
      | ⟨1, _⟩ => show 512 + l.val = 512 + 1 * l.val; omega
      | ⟨2, _⟩ => show r.val = 0 + 1 * r.val; omega
    · obtain rfl := List.mem_singleton.mp hpc
      intro x
      obtain ⟨l, r, rfl⟩ : ∃ (l r : Fin 512), x = ix3 (0 : Fin 1) l r := ⟨x 1, x 2, by
        funext a; match a with | ⟨0, _⟩ => exact Subsingleton.elim (α := Fin 1) _ _ | ⟨1, _⟩ => rfl | ⟨2, _⟩ => rfl⟩
      refine (hp l r).trans (congrArg G (funext fun a => Fin.ext ?_))
      match a with
      | ⟨0, _⟩ => rfl
      | ⟨1, _⟩ => show l.val = 0 + 1 * l.val; omega
      | ⟨2, _⟩ => show r.val = 0 + 1 * r.val; omega
  · have h0 : (y 0).val < 1 := (y 0).isLt
    have h1 : (y 1).val < 1024 := (y 1).isLt
    have h2 : (y 2).val < 512 := (y 2).isLt
    by_cases h : (y 1).val < 512
    · refine ⟨_, List.mem_cons_of_mem _ List.mem_cons_self, (Rect.mem_set_unit (inb := j)).mpr fun a => ?_⟩
      match a with
      | ⟨0, _⟩ => exact ⟨Nat.zero_le _, by show (y 0).val < 0 + 1; omega⟩
      | ⟨1, _⟩ => exact ⟨Nat.zero_le _, by show (y 1).val < 0 + 512; omega⟩
      | ⟨2, _⟩ => exact ⟨Nat.zero_le _, by show (y 2).val < 0 + 512; omega⟩
    · refine ⟨_, List.mem_cons_self, (Rect.mem_set_unit (inb := i)).mpr fun a => ?_⟩
      match a with
      | ⟨0, _⟩ => exact ⟨Nat.zero_le _, by show (y 0).val < 0 + 1; omega⟩
      | ⟨1, _⟩ => exact ⟨by show 512 ≤ (y 1).val; omega, by show (y 1).val < 512 + 512; omega⟩
      | ⟨2, _⟩ => exact ⟨Nat.zero_le _, by show (y 2).val < 0 + 512; omega⟩

/-- The scaled queries of a block, its keys and its values, positions last. -/
def queryBlock (x : Vec Ideal S512x1024 .f32) (g : Vec Ideal S1x1024 .f32) (w : Vec Ideal S1024x1024 .bf16) (y : S512x1024.Idx) : EReal :=
  (∑ k : Fin 1024, hRow x g (show Fin 512 from y 0) k * w (ix2 k (show Fin 1024 from y 1))) * Ideal.ofBits .f32 0x3E000000#32

def rowBlock (n : ℕ) (hn : n + 1024 ≤ 2048) (x : Vec Ideal S512x1024 .f32) (g : Vec Ideal S1x1024 .f32) (v : Vec Ideal S2048x1024 .bf16) (y : S1x1024x512.Idx) : EReal :=
  ∑ k : Fin 1024, v (ix2 (⟨n + (show Fin 1024 from y 1).val, by have := (show Fin 1024 from y 1).isLt; omega⟩ : Fin 2048) k) * hRow x g (show Fin 512 from y 2) k

section

variable (c : Dev nD) (i : grid0.Coords) (a1 : Memref sig .tc .vmem S512x1024 .f32) (h1 : a1.IsWhole) (a2 : Memref sig .tc .vmem S1x1024 .f32) (h2 : a2.IsWhole) (a3 : Memref sig .tc .vmem S1024x1024 .bf16) (h3 : a3.IsWhole) (a4 : Memref sig .tc .vmem S2048x1024 .bf16) (h4 : a4.IsWhole)
    (a5 : Memref sig .tc .vmem S512x1024 .bf16) (h5 : a5.IsWhole) (a6 : Memref sig .tc .vmem S1x1024x512 .bf16) (h6 : a6.IsWhole) (a7 : Memref sig .tc .vmem S1x1024x512 .bf16) (h7 : a7.IsWhole) (a8 : Memref sig .tc .vmem S1x1024x512 .f32) (h8 : a8.IsWhole)
    (a9 : Memref sig .tc .vmem S1x1024x512 .f32) (h9 : a9.IsWhole) (a10 : Memref sig .tc .vmem S512x1024 .bf16) (h10 : a10.IsWhole)
  (x0 : Vec Ideal S512x1024 .f32) (x1 : Vec Ideal S1x1024 .f32) (x2 : Vec Ideal S1024x1024 .bf16) (x3 : Vec Ideal S2048x1024 .bf16)

/-- The scaled queries. -/
theorem out4_apply (y : S512x1024.Idx) : out0_A_4 c i a1 h1 a2 h2 a3 h3 a4 h4 a5 h5 a6 h6 a7 h7 a8 h8 a9 h9 a10 h10 x0 x1 x2 x3 y
      = queryBlock x0 x1 x2 y := by
  unfold out0_A_4
  rw [View.read_writes_eq_canon _ _ _ (cover0_A_4 c i a1 h1 a2 h2 a3 h3 a4 h4 a5 h5 a6 h6 a7 h7 a8 h8 a9 h9 a10 h10 x0 x1 x2 x3)]
  unfold kernelRun0_A
  dsimp only
  sl_unfold_words
  simp only [View.readAt_eq_ld, h1.read_unread, h2.read_unread, h3.read_unread, h4.read_unread, View.readCov_unit_zero (S := S512x1024) _ hz,
    View.ld_unit_zero (S := S512x1024) hz, View.ld_unit_zero (S := S1x1024) hz]
  refine halves_cols (e := .bf16) _ _ _ _ (queryBlock x0 x1 x2) (fun r l => ?_) (fun r l => ?_) y
  · exact (query0_apply _ _ r l).trans (congrArg (· * Ideal.ofBits .f32 0x3E000000#32) (dot_col x0 x1 x2 r l 0 _ _ (Nat.zero_add _).symm))
  · exact (query1_apply _ _ r l).trans (congrArg (· * Ideal.ofBits .f32 0x3E000000#32) (dot_col x0 x1 x2 r l 512 _ _ rfl))

/-- The keys. -/
theorem out5_apply (y : S1x1024x512.Idx) : out0_A_5 c i a1 h1 a2 h2 a3 h3 a4 h4 a5 h5 a6 h6 a7 h7 a8 h8 a9 h9 a10 h10 x0 x1 x2 x3 y
      = rowBlock 0 (by norm_num) x0 x1 x3 y := by
  unfold out0_A_5
  rw [View.read_writes_eq_canon _ _ _ (cover0_A_5 c i a1 h1 a2 h2 a3 h3 a4 h4 a5 h5 a6 h6 a7 h7 a8 h8 a9 h9 a10 h10 x0 x1 x2 x3)]
  unfold kernelRun0_A
  dsimp only
  sl_unfold_words
  simp only [View.readAt_eq_ld, h1.read_unread, h2.read_unread, h3.read_unread, h4.read_unread, View.readCov_unit_zero (S := S512x1024) _ hz,
    View.ld_unit_zero (S := S512x1024) hz, View.ld_unit_zero (S := S1x1024) hz]
  rw [readCov_last, readCov_last]
  refine halves_rows (e := .bf16) _ _ _ _ (rowBlock 0 (by norm_num) x0 x1 x3) (fun l r => ?_) (fun l r => ?_) y
  · rw [key0Cast_apply, key0_apply]
    exact dot_row x0 x1 x3 r l 0 _ _ (by show 0 + l.val = 0 + l.val; rfl)
  · rw [key1Cast_apply, key1_apply]
    exact dot_row x0 x1 x3 r l 512 _ _ (by show 0 + (512 + l.val) = 512 + l.val; omega)

/-- The values. -/
theorem out6_apply (y : S1x1024x512.Idx) : out0_A_6 c i a1 h1 a2 h2 a3 h3 a4 h4 a5 h5 a6 h6 a7 h7 a8 h8 a9 h9 a10 h10 x0 x1 x2 x3 y
      = rowBlock 1024 (by norm_num) x0 x1 x3 y := by
  unfold out0_A_6
  rw [View.read_writes_eq_canon _ _ _ (cover0_A_6 c i a1 h1 a2 h2 a3 h3 a4 h4 a5 h5 a6 h6 a7 h7 a8 h8 a9 h9 a10 h10 x0 x1 x2 x3)]
  unfold kernelRun0_A
  dsimp only
  sl_unfold_words
  simp only [View.readAt_eq_ld, h1.read_unread, h2.read_unread, h3.read_unread, h4.read_unread, View.readCov_unit_zero (S := S512x1024) _ hz,
    View.ld_unit_zero (S := S512x1024) hz, View.ld_unit_zero (S := S1x1024) hz]
  rw [readCov_last, readCov_last]
  refine halves_rows (e := .bf16) _ _ _ _ (rowBlock 1024 (by norm_num) x0 x1 x3) (fun l r => ?_) (fun l r => ?_) y
  · rw [value0Cast_apply, value0_apply]
    exact dot_row x0 x1 x3 r l 1024 _ _ (by show 1024 + l.val = 1024 + l.val; rfl)
  · rw [value1Cast_apply, value1_apply]
    exact dot_row x0 x1 x3 r l 1536 _ _ (by show 1024 + (512 + l.val) = 1536 + l.val; omega)

/-- The keys, not rounded. -/
theorem out7_apply (y : S1x1024x512.Idx) : out0_A_7 c i a1 h1 a2 h2 a3 h3 a4 h4 a5 h5 a6 h6 a7 h7 a8 h8 a9 h9 a10 h10 x0 x1 x2 x3 y
      = rowBlock 0 (by norm_num) x0 x1 x3 y := by
  unfold out0_A_7
  rw [View.read_writes_eq_canon _ _ _ (cover0_A_7 c i a1 h1 a2 h2 a3 h3 a4 h4 a5 h5 a6 h6 a7 h7 a8 h8 a9 h9 a10 h10 x0 x1 x2 x3)]
  unfold kernelRun0_A
  dsimp only
  sl_unfold_words
  simp only [View.readAt_eq_ld, h1.read_unread, h2.read_unread, h3.read_unread, h4.read_unread, View.readCov_unit_zero (S := S512x1024) _ hz,
    View.ld_unit_zero (S := S512x1024) hz, View.ld_unit_zero (S := S1x1024) hz]
  refine halves_rows (e := .f32) _ _ _ _ (rowBlock 0 (by norm_num) x0 x1 x3) (fun l r => ?_) (fun l r => ?_) y
  · exact (key0_apply _ _ _ _).trans (dot_row x0 x1 x3 r l 0 _ _ (by show 0 + l.val = 0 + l.val; rfl))
  · exact (key1_apply _ _ _ _).trans (dot_row x0 x1 x3 r l 512 _ _ (by show 0 + (512 + l.val) = 512 + l.val; omega))

/-- The values, not rounded. -/
theorem out8_apply (y : S1x1024x512.Idx) : out0_A_8 c i a1 h1 a2 h2 a3 h3 a4 h4 a5 h5 a6 h6 a7 h7 a8 h8 a9 h9 a10 h10 x0 x1 x2 x3 y
      = rowBlock 1024 (by norm_num) x0 x1 x3 y := by
  unfold out0_A_8
  rw [View.read_writes_eq_canon _ _ _ (cover0_A_8 c i a1 h1 a2 h2 a3 h3 a4 h4 a5 h5 a6 h6 a7 h7 a8 h8 a9 h9 a10 h10 x0 x1 x2 x3)]
  unfold kernelRun0_A
  dsimp only
  sl_unfold_words
  simp only [View.readAt_eq_ld, h1.read_unread, h2.read_unread, h3.read_unread, h4.read_unread, View.readCov_unit_zero (S := S512x1024) _ hz,
    View.ld_unit_zero (S := S512x1024) hz, View.ld_unit_zero (S := S1x1024) hz]
  refine halves_rows (e := .f32) _ _ _ _ (rowBlock 1024 (by norm_num) x0 x1 x3) (fun l r => ?_) (fun l r => ?_) y
  · exact (value0_apply _ _ _ _).trans (dot_row x0 x1 x3 r l 1024 _ _ (by show 1024 + l.val = 1024 + l.val; rfl))
  · exact (value1_apply _ _ _ _).trans (dot_row x0 x1 x3 r l 1536 _ _ (by show 1024 + (512 + l.val) = 1536 + l.val; omega))

end

end Cert.CInIdeal.Hand

end
-- ==== Proof.CValue.lean ====
/-
  What the second layer's input projection leaves in its five result arrays after the run: the normalised rows times the
  columns of the weights that make the queries, the keys and the values, and the keys and values of the last positions.
-/
module

public import proofs.«01_k».proof.Proof.CBlock
public import Idealize.ShloMosaic.Lib.Pipeline.Value

@[expose] public section

noncomputable section

namespace Cert.CInIdeal.Hand

open Cert.CInIdeal Cert.CInIdeal.Gen Cert.Rows
open Idealize.ShloMosaic Idealize.ShloMosaic.TcCoe Idealize.SL.Sem Finset

section

variable (x : FVec Ideal S32768x1024 .f32) (g : FVec Ideal S2x1024 .f32) (w : FVec Ideal S1x1024x3072 .f32)

/-- A normalised row times column `j` of the weights. -/
def proj (R : Fin 32768) (j : Fin 3072) : EReal :=
  ∑ k : Fin 1024, rmsRow (fun k => x (ix2 R k)) (fun k => g (ix2 (1 : Fin 2) k)) k * w (ix3 (0 : Fin 1) k j)

/-- The row of a batch element and a position. -/
def rowAt (b : Fin 16) (p : Fin 2048) : Fin 32768 := ⟨b.val * 2048 + p.val, by omega⟩

/-- The row of a batch element and one of its last 512 positions. -/
def tailAt (b : Fin 16) (p : Fin 512) : Fin 32768 := ⟨b.val * 2048 + (1536 + p.val), by omega⟩

/-- The queries, scaled. -/
def queries : FVec Ideal S32768x1024 .bf16 := fun y =>
  proj x g w (y 0) (⟨0 + (show Fin 1024 from y 1).val, by have := (show Fin 1024 from y 1).isLt; omega⟩ : Fin 3072) * Ideal.ofBits .f32 0x3E000000#32

/-- The keys, positions last. -/
def keys : FVec Ideal S16x1024x2048 .f32 := fun y =>
  proj x g w (rowAt (y 0) (y 2)) (⟨1024 + (show Fin 1024 from y 1).val, by have := (show Fin 1024 from y 1).isLt; omega⟩ : Fin 3072)

/-- The values, positions last. -/
def values : FVec Ideal S16x1024x2048 .f32 := fun y =>
  proj x g w (rowAt (y 0) (y 2)) (⟨2048 + (show Fin 1024 from y 1).val, by have := (show Fin 1024 from y 1).isLt; omega⟩ : Fin 3072)

/-- The keys of the last positions. -/
def keyTail : FVec Ideal S16x1024x512 .f32 := fun y =>
  proj x g w (tailAt (y 0) (y 2)) (⟨1024 + (show Fin 1024 from y 1).val, by have := (show Fin 1024 from y 1).isLt; omega⟩ : Fin 3072)

/-- The values of the last positions. -/
def valueTail : FVec Ideal S16x1024x512 .f32 := fun y =>
  proj x g w (tailAt (y 0) (y 2)) (⟨2048 + (show Fin 1024 from y 1).val, by have := (show Fin 1024 from y 1).isLt; omega⟩ : Fin 3072)

end

theorem read_g (w : FVec Ideal S2x1024 .f32) (k : Fin 1024) : (shapeCast S1x1024 (shapeCast S1024 (extractStridedSlice S1x1024 ![1, 0] w slices_S2x1024_S1x1024_1_0) shapeCasts_S1x1024_S1024) shapeCasts_S1024_S1x1024 : FVec Ideal S1x1024 .f32) (ix2 (0 : Fin 1) k) = w (ix2 (1 : Fin 2) k) := by
  pointwise []

theorem read_w (w : FVec Ideal S1x1024x3072 .f32) (k l : Fin 1024) : (extractStridedSlice S1024x1024 ![0, 0] (truncf .bf16 (shapeCast S1024x3072 w shapeCasts_S1x1024x3072_S1024x3072) bitsLt_bf16_f32) slices_S1024x3072_S1024x1024_0_0 : FVec Ideal S1024x1024 .bf16) (ix2 k l) = w (ix3 (0 : Fin 1) k (⟨0 + l.val, by omega⟩ : Fin 3072)) := by
  pointwise []

theorem read_wt (w : FVec Ideal S1x1024x3072 .f32) (l : Fin 2048) (k : Fin 1024) : (transpose S2048x1024 [1, 0] (extractStridedSlice S1024x2048 ![0, 1024] (truncf .bf16 (shapeCast S1024x3072 w shapeCasts_S1x1024x3072_S1024x3072) bitsLt_bf16_f32) slices_S1024x3072_S1024x2048_0_1024) transposes_S1024x2048_S2048x1024_1_0 : FVec Ideal S2048x1024 .bf16) (ix2 l k) = w (ix3 (0 : Fin 1) k (⟨1024 + l.val, by omega⟩ : Fin 3072)) := by
  pointwise []

variable (m : (ℓ : Loc nD τ sig) → Buf (Elt Ideal) ℓ) (ρ : Dev nD → PrngReg)

/-! What the region finds in the arrays the host operations wrote. -/

theorem V_g (c : Dev nD) (k : Fin 1024) : (V m c main_v4 : FVec Ideal S1x1024 .f32) (ix2 (0 : Fin 1) k) = (m ((c : Thread nD τ).loc main_arg1) : FVec Ideal S2x1024 .f32) (ix2 (1 : Fin 2) k) := by
  have e : V m c main_v4 = (shapeCast S1x1024 (shapeCast S1024 (extractStridedSlice S1x1024 ![1, 0] (m ((c : Thread nD τ).loc main_arg1) : FVec Ideal S2x1024 .f32) slices_S2x1024_S1x1024_1_0) shapeCasts_S1x1024_S1024) shapeCasts_S1024_S1x1024 : FVec Ideal S1x1024 .f32) := by
    unfold V
    simp only [hostOps0]
    after_results <;> rfl
  exact (congrFun e _).trans (read_g _ k)

theorem V_w (c : Dev nD) (k l : Fin 1024) : (V m c main_v5 : FVec Ideal S1024x1024 .bf16) (ix2 k l) = (m ((c : Thread nD τ).loc main_arg2) : FVec Ideal S1x1024x3072 .f32) (ix3 (0 : Fin 1) k (⟨0 + l.val, by omega⟩ : Fin 3072)) := by
  have e : V m c main_v5 = (extractStridedSlice S1024x1024 ![0, 0] (truncf .bf16 (shapeCast S1024x3072 (m ((c : Thread nD τ).loc main_arg2) : FVec Ideal S1x1024x3072 .f32) shapeCasts_S1x1024x3072_S1024x3072) bitsLt_bf16_f32) slices_S1024x3072_S1024x1024_0_0 : FVec Ideal S1024x1024 .bf16) := by
    unfold V
    simp only [hostOps0]
    after_results <;> rfl
  exact (congrFun e _).trans (read_w _ k l)

theorem V_wt (c : Dev nD) (l : Fin 2048) (k : Fin 1024) : (V m c main_v7 : FVec Ideal S2048x1024 .bf16) (ix2 l k) = (m ((c : Thread nD τ).loc main_arg2) : FVec Ideal S1x1024x3072 .f32) (ix3 (0 : Fin 1) k (⟨1024 + l.val, by omega⟩ : Fin 3072)) := by
  have e : V m c main_v7 = (transpose S2048x1024 [1, 0] (extractStridedSlice S1024x2048 ![0, 1024] (truncf .bf16 (shapeCast S1024x3072 (m ((c : Thread nD τ).loc main_arg2) : FVec Ideal S1x1024x3072 .f32) shapeCasts_S1x1024x3072_S1024x3072) bitsLt_bf16_f32) slices_S1024x3072_S1024x2048_0_1024) transposes_S1024x2048_S2048x1024_1_0 : FVec Ideal S2048x1024 .bf16) := by
    unfold V
    simp only [hostOps0]
    after_results <;> rfl
  exact (congrFun e _).trans (read_wt _ l k)

theorem V_x (c : Dev nD) : V m c main_arg0 = m ((c : Thread nD τ).loc main_arg0) := by
  unfold V
  simp only [hostOps0]
  after_results <;> rfl

/-! The index maps, decided over the grid. -/

abbrev tOf (t : Fin cfg0.N) : Fin 64 := grid0.coords t 0

theorem index0 (t : Fin cfg0.N) : win0_0.index t 0 = (grid0.coords t 0).val ∧ win0_0.index t 1 = 0 :=
  (by decide +kernel : ∀ t : Fin grid0.N, win0_0.index t 0 = (grid0.coords t 0).val ∧ win0_0.index t 1 = 0) t

theorem index1 (t : Fin cfg0.N) : win0_1.index t 0 = 0 ∧ win0_1.index t 1 = 0 :=
  (by decide +kernel : ∀ t : Fin grid0.N, win0_1.index t 0 = 0 ∧ win0_1.index t 1 = 0) t

theorem index2 (t : Fin cfg0.N) : win0_2.index t 0 = 0 ∧ win0_2.index t 1 = 0 :=
  (by decide +kernel : ∀ t : Fin grid0.N, win0_2.index t 0 = 0 ∧ win0_2.index t 1 = 0) t

theorem index3 (t : Fin cfg0.N) : win0_3.index t 0 = 0 ∧ win0_3.index t 1 = 0 :=
  (by decide +kernel : ∀ t : Fin grid0.N, win0_3.index t 0 = 0 ∧ win0_3.index t 1 = 0) t

theorem index4 (t : Fin cfg0.N) : win0_4.index t 0 = (grid0.coords t 0).val ∧ win0_4.index t 1 = 0 :=
  (by decide +kernel : ∀ t : Fin grid0.N, win0_4.index t 0 = (grid0.coords t 0).val ∧ win0_4.index t 1 = 0) t

theorem index5 (t : Fin cfg0.N) : win0_5.index t 0 = (grid0.coords t 0).val / 4 ∧ win0_5.index t 1 = 0 ∧ win0_5.index t 2 = (grid0.coords t 0).val % 4 :=
  (by decide +kernel : ∀ t : Fin grid0.N, win0_5.index t 0 = (grid0.coords t 0).val / 4 ∧ win0_5.index t 1 = 0 ∧ win0_5.index t 2 = (grid0.coords t 0).val % 4) t

theorem index6 (t : Fin cfg0.N) : win0_6.index t 0 = (grid0.coords t 0).val / 4 ∧ win0_6.index t 1 = 0 ∧ win0_6.index t 2 = (grid0.coords t 0).val % 4 :=
  (by decide +kernel : ∀ t : Fin grid0.N, win0_6.index t 0 = (grid0.coords t 0).val / 4 ∧ win0_6.index t 1 = 0 ∧ win0_6.index t 2 = (grid0.coords t 0).val % 4) t

theorem index7 (t : Fin cfg0.N) : win0_7.index t 0 = (grid0.coords t 0).val / 4 ∧ win0_7.index t 1 = 0 ∧ win0_7.index t 2 = 0 :=
  (by decide +kernel : ∀ t : Fin grid0.N, win0_7.index t 0 = (grid0.coords t 0).val / 4 ∧ win0_7.index t 1 = 0 ∧ win0_7.index t 2 = 0) t

theorem index8 (t : Fin cfg0.N) : win0_8.index t 0 = (grid0.coords t 0).val / 4 ∧ win0_8.index t 1 = 0 ∧ win0_8.index t 2 = 0 :=
  (by decide +kernel : ∀ t : Fin grid0.N, win0_8.index t 0 = (grid0.coords t 0).val / 4 ∧ win0_8.index t 1 = 0 ∧ win0_8.index t 2 = 0) t

/-- The order of the points is that of their coordinate. -/
theorem tOf_val (t : Fin cfg0.N) : (tOf t).val = t.val :=
  (by decide +kernel : ∀ t : Fin grid0.N, (grid0.coords t 0).val = t.val) t

/-! The windows' blocks, in the arrays. -/

/-- The row of all rows that row `r` of point `t`'s block is, its position in its batch element, and the batch element. -/
def rowOf (t : Fin cfg0.N) (r : Fin 512) : Fin 32768 := ⟨512 * (tOf t).val + r.val, by omega⟩

def posOf (t : Fin cfg0.N) (r : Fin 512) : Fin 2048 := ⟨512 * ((tOf t).val % 4) + r.val, by omega⟩

def batOf (t : Fin cfg0.N) : Fin 16 := ⟨(tOf t).val / 4, by omega⟩

theorem rowAt_of (t : Fin cfg0.N) (r : Fin 512) : rowAt (batOf t) (posOf t r) = rowOf t r :=
  Fin.ext (by show (tOf t).val / 4 * 2048 + (512 * ((tOf t).val % 4) + r.val) = 512 * (tOf t).val + r.val; omega)

theorem tailAt_of (t : Fin cfg0.N) (h : (tOf t).val % 4 = 3) (r : Fin 512) : tailAt (batOf t) r = rowOf t r :=
  Fin.ext (by show (tOf t).val / 4 * 2048 + (1536 + r.val) = 512 * (tOf t).val + r.val; omega)

theorem x_block (c : Dev nD) (t : Fin cfg0.N) (r : Fin 512) (k : Fin 1024) :
    iblk m c 0 t (ValueIdx.ix2 r k) = (m ((c : Thread nD τ).loc main_arg0) : FVec Ideal S32768x1024 .f32) (ix2 (rowOf t r) k) := by
  refine Eq.trans ?_ (congrFun (V_x m c) (ix2 (rowOf t r) k))
  show V m c (Pipeline.arrRef spec0 0) ((win0_0.rect t).emb (ValueIdx.ix2 r k)) = _
  obtain ⟨h0, h1⟩ := index0 t
  refine congrArg (V m c main_arg0) (funext fun a => Fin.ext ?_)
  refine (win0_0.rect_emb_val t _ a).trans ?_
  match a with
  | ⟨0, _⟩ => show win0_0.index t 0 * 512 + r.val = _; rw [h0]; show (tOf t).val * 512 + r.val = 512 * (tOf t).val + r.val; omega
  | ⟨1, _⟩ => show win0_0.index t 1 * 1024 + k.val = k.val; rw [h1] <;> omega

theorem g_block (c : Dev nD) (t : Fin cfg0.N) (k : Fin 1024) :
    iblk m c 1 t (ValueIdx.ix2 (0 : Fin 1) k) = (m ((c : Thread nD τ).loc main_arg1) : FVec Ideal S2x1024 .f32) (ix2 (1 : Fin 2) k) := by
  refine Eq.trans ?_ (V_g m c k)
  show V m c (Pipeline.arrRef spec0 1) ((win0_1.rect t).emb (ValueIdx.ix2 (0 : Fin 1) k)) = _
  obtain ⟨h0, h1⟩ := index1 t
  refine congrArg (V m c main_v4) (funext fun a => Fin.ext ?_)
  refine (win0_1.rect_emb_val t _ a).trans ?_
  match a with
  | ⟨0, _⟩ => show win0_1.index t 0 * 1 + 0 = 0; rw [h0] <;> omega
  | ⟨1, _⟩ => show win0_1.index t 1 * 1024 + k.val = k.val; rw [h1] <;> omega

theorem w_block (c : Dev nD) (t : Fin cfg0.N) (k l : Fin 1024) :
    iblk m c 2 t (ValueIdx.ix2 k l) = (m ((c : Thread nD τ).loc main_arg2) : FVec Ideal S1x1024x3072 .f32) (ix3 (0 : Fin 1) k (⟨0 + l.val, by omega⟩ : Fin 3072)) := by
  refine Eq.trans ?_ (V_w m c k l)
  show V m c (Pipeline.arrRef spec0 2) ((win0_2.rect t).emb (ValueIdx.ix2 k l)) = _
  obtain ⟨h0, h1⟩ := index2 t
  refine congrArg (V m c main_v5) (funext fun a => Fin.ext ?_)
  refine (win0_2.rect_emb_val t _ a).trans ?_
  match a with
  | ⟨0, _⟩ => show win0_2.index t 0 * 1024 + k.val = k.val; rw [h0] <;> omega
  | ⟨1, _⟩ => show win0_2.index t 1 * 1024 + l.val = l.val; rw [h1] <;> omega

theorem wt_block (c : Dev nD) (t : Fin cfg0.N) (l : Fin 2048) (k : Fin 1024) :
    iblk m c 3 t (ValueIdx.ix2 l k) = (m ((c : Thread nD τ).loc main_arg2) : FVec Ideal S1x1024x3072 .f32) (ix3 (0 : Fin 1) k (⟨1024 + l.val, by omega⟩ : Fin 3072)) := by
  refine Eq.trans ?_ (V_wt m c l k)
  show V m c (Pipeline.arrRef spec0 3) ((win0_3.rect t).emb (ValueIdx.ix2 l k)) = _
  obtain ⟨h0, h1⟩ := index3 t
  refine congrArg (V m c main_v7) (funext fun a => Fin.ext ?_)
  refine (win0_3.rect_emb_val t _ a).trans ?_
  match a with
  | ⟨0, _⟩ => show win0_3.index t 0 * 2048 + l.val = l.val; rw [h0] <;> omega
  | ⟨1, _⟩ => show win0_3.index t 1 * 1024 + k.val = k.val; rw [h1] <;> omega

/-- A normalised row of point `t`'s block. -/
theorem h_block (c : Dev nD) (t : Fin cfg0.N) (r : Fin 512) :
    hRow (iblk m c 0 t) (iblk m c 1 t) r = rmsRow (fun k => (m ((c : Thread nD τ).loc main_arg0) : FVec Ideal S32768x1024 .f32) (ix2 (rowOf t r) k)) (fun k => (m ((c : Thread nD τ).loc main_arg1) : FVec Ideal S2x1024 .f32) (ix2 (1 : Fin 2) k)) :=
  congrArg₂ rmsRow (funext fun k => x_block m c t r k) (funext fun k => g_block m c t k)

theorem col_block (c : Dev nD) (t : Fin cfg0.N) (r : Fin 512) (l : Fin 1024) :
    (∑ k : Fin 1024, hRow (iblk m c 0 t) (iblk m c 1 t) r k * (show Vec Ideal S1024x1024 .bf16 from iblk m c 2 t) (ix2 k l)) = proj (m ((c : Thread nD τ).loc main_arg0)) (m ((c : Thread nD τ).loc main_arg1)) (m ((c : Thread nD τ).loc main_arg2)) (rowOf t r) (⟨0 + l.val, by omega⟩ : Fin 3072) := by
  unfold proj
  rw [h_block m c t r]
  exact sum_congr rfl fun k _ => congrArg (_ * ·) (w_block m c t k l)

theorem row_block (c : Dev nD) (t : Fin cfg0.N) (r : Fin 512) (l : Fin 2048) (j : Fin 3072) (e : j.val = 1024 + l.val) :
    (∑ k : Fin 1024, (show Vec Ideal S2048x1024 .bf16 from iblk m c 3 t) (ix2 l k) * hRow (iblk m c 0 t) (iblk m c 1 t) r k) = proj (m ((c : Thread nD τ).loc main_arg0)) (m ((c : Thread nD τ).loc main_arg1)) (m ((c : Thread nD τ).loc main_arg2)) (rowOf t r) j := by
  have ej : (⟨1024 + l.val, by omega⟩ : Fin 3072) = j := Fin.ext e.symm
  unfold proj
  rw [h_block m c t r]
  exact sum_congr rfl fun k _ => (mul_comm _ _).trans (congrArg (_ * ·) ((wt_block m c t l k).trans (congrArg (fun j => (m ((c : Thread nD τ).loc main_arg2) : FVec Ideal S1x1024x3072 .f32) (ix3 (0 : Fin 1) k j)) ej)))

/-- The blocks cover the arrays. -/
theorem covered (i : ℕ) (hi : i < 64) : ∃ t : Fin cfg0.N, (tOf t).val = i := by
  obtain ⟨t, h⟩ := (by decide +kernel : ∀ i : Fin 64, ∃ t : Fin grid0.N, (grid0.coords t 0).val = i.val) ⟨i, hi⟩
  exact ⟨t, h⟩

/-! Result 0. -/

theorem emb4 (t : Fin cfg0.N) (r : Fin 512) (l : Fin 1024) : (win0_4.rect t).emb (ValueIdx.ix2 r l) = ix2 (rowOf t r) l := by
  obtain ⟨h0, h1⟩ := index4 t
  refine funext fun a => Fin.ext ?_
  refine (win0_4.rect_emb_val t _ a).trans ?_
  match a with
  | ⟨0, _⟩ => show win0_4.index t 0 * 512 + r.val = _; rw [h0]; show (tOf t).val * 512 + r.val = 512 * (tOf t).val + r.val; omega
  | ⟨1, _⟩ => show win0_4.index t 1 * 1024 + l.val = l.val; rw [h1] <;> omega

theorem block4 (c : Dev nD) (t : Fin cfg0.N) (r : Fin 512) (l : Fin 1024) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (ValueIdx.ix2 r l) = queries (m ((c : Thread nD τ).loc main_arg0)) (m ((c : Thread nD τ).loc main_arg1)) (m ((c : Thread nD τ).loc main_arg2)) (ix2 (rowOf t r) l) := by
  refine (out4_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (ValueIdx.ix2 r l)).trans ?_
  exact congrArg (· * Ideal.ofBits .f32 0x3E000000#32) (col_block m c t r l)

theorem final4 (c : Dev nD) : (dats m 0 c).arrAt 4 cfg0.N = queries (m ((c : Thread nD τ).loc main_arg0)) (m ((c : Thread nD τ).loc main_arg1)) (m ((c : Thread nD τ).loc main_arg2)) := by
  refine (dats m 0 c).arrAt_eq_of_cover 4 _ (fun t _ => ?_) (fun y => ?_)
  · rw [Value.flushed4_A]
    funext y
    obtain ⟨r, l, rfl⟩ : ∃ (r : Fin 512) (l : Fin 1024), y = ValueIdx.ix2 r l := ⟨y 0, y 1, by
      funext a; match a with | ⟨0, _⟩ => rfl | ⟨1, _⟩ => rfl⟩
    refine (block4 m c t r l).trans ?_
    exact congrArg _ (emb4 t r l).symm
  · have hT : (y 0).val < 32768 := (y 0).isLt
    obtain ⟨t, hi⟩ := covered ((y 0).val / 512) (by omega)
    refine ⟨t, flush0_4 t, ?_⟩
    have e : y = (win0_4.rect t).emb (ValueIdx.ix2 (⟨(y 0).val % 512, Nat.mod_lt _ (by norm_num)⟩ : Fin 512) (show Fin 1024 from y 1)) := by
      refine Eq.trans ?_ (emb4 t _ (show Fin 1024 from y 1)).symm
      funext a
      match a with
      | ⟨0, _⟩ => exact Fin.ext (by show (y 0).val = 512 * (tOf t).val + (y 0).val % 512; rw [hi]; omega)
      | ⟨1, _⟩ => rfl
    rw [e]
    exact Finset.mem_map_of_mem _ (Finset.mem_univ _)

/-! Result 1. -/

theorem emb5 (t : Fin cfg0.N) (l : Fin 1024) (r : Fin 512) : (win0_5.rect t).emb (ValueIdx.ix3 (0 : Fin 1) l r) = ix3 (batOf t) l (posOf t r) := by
  obtain ⟨h0, h1, h2⟩ := index5 t
  refine funext fun a => Fin.ext ?_
  refine (win0_5.rect_emb_val t _ a).trans ?_
  match a with
  | ⟨0, _⟩ => show win0_5.index t 0 * 1 + 0 = _; rw [h0]; show (tOf t).val / 4 * 1 + 0 = (tOf t).val / 4; omega
  | ⟨1, _⟩ => show win0_5.index t 1 * 1024 + l.val = l.val; rw [h1] <;> omega
  | ⟨2, _⟩ => show win0_5.index t 2 * 512 + r.val = _; rw [h2]; show (tOf t).val % 4 * 512 + r.val = 512 * ((tOf t).val % 4) + r.val; omega

theorem block5 (c : Dev nD) (t : Fin cfg0.N) (l : Fin 1024) (r : Fin 512) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (ValueIdx.ix3 (0 : Fin 1) l r) = keys (m ((c : Thread nD τ).loc main_arg0)) (m ((c : Thread nD τ).loc main_arg1)) (m ((c : Thread nD τ).loc main_arg2)) (ix3 (batOf t) l (posOf t r)) := by
  refine (out5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (ValueIdx.ix3 (0 : Fin 1) l r)).trans ?_
  refine (row_block m c t r _ (⟨1024 + l.val, by omega⟩ : Fin 3072) (by show 1024 + l.val = 1024 + (0 + l.val); omega)).trans ?_
  exact congrArg (fun R => proj (m ((c : Thread nD τ).loc main_arg0)) (m ((c : Thread nD τ).loc main_arg1)) (m ((c : Thread nD τ).loc main_arg2)) R (⟨1024 + l.val, by omega⟩ : Fin 3072)) (rowAt_of t r).symm

theorem final5 (c : Dev nD) : (dats m 0 c).arrAt 5 cfg0.N = keys (m ((c : Thread nD τ).loc main_arg0)) (m ((c : Thread nD τ).loc main_arg1)) (m ((c : Thread nD τ).loc main_arg2)) := by
  refine (dats m 0 c).arrAt_eq_of_cover 5 _ (fun t _ => ?_) (fun y => ?_)
  · rw [Value.flushed5_A]
    funext y
    obtain ⟨l, r, rfl⟩ : ∃ (l : Fin 1024) (r : Fin 512), y = ValueIdx.ix3 (0 : Fin 1) l r := ⟨y 1, y 2, by
      funext a; match a with | ⟨0, _⟩ => exact Subsingleton.elim (α := Fin 1) _ _ | ⟨1, _⟩ => rfl | ⟨2, _⟩ => rfl⟩
    refine (block5 m c t l r).trans ?_
    exact congrArg _ (emb5 t l r).symm
  · have hB : (y 0).val < 16 := (y 0).isLt
    have hP : (y 2).val < 2048 := (y 2).isLt
    obtain ⟨t, hi⟩ := covered (4 * (y 0).val + (y 2).val / 512) (by omega)
    refine ⟨t, flush0_5 t, ?_⟩
    have e : y = (win0_5.rect t).emb (ValueIdx.ix3 (0 : Fin 1) (show Fin 1024 from y 1) (⟨(y 2).val % 512, Nat.mod_lt _ (by norm_num)⟩ : Fin 512)) := by
      refine Eq.trans ?_ (emb5 t (show Fin 1024 from y 1) _).symm
      funext a
      match a with
      | ⟨0, _⟩ => exact Fin.ext (by show (y 0).val = (tOf t).val / 4; rw [hi]; omega)
      | ⟨1, _⟩ => rfl
      | ⟨2, _⟩ => exact Fin.ext (by show (y 2).val = 512 * ((tOf t).val % 4) + (y 2).val % 512; rw [hi]; omega)
    rw [e]
    exact Finset.mem_map_of_mem _ (Finset.mem_univ _)

/-! Result 2. -/

theorem emb6 (t : Fin cfg0.N) (l : Fin 1024) (r : Fin 512) : (win0_6.rect t).emb (ValueIdx.ix3 (0 : Fin 1) l r) = ix3 (batOf t) l (posOf t r) := by
  obtain ⟨h0, h1, h2⟩ := index6 t
  refine funext fun a => Fin.ext ?_
  refine (win0_6.rect_emb_val t _ a).trans ?_
  match a with
  | ⟨0, _⟩ => show win0_6.index t 0 * 1 + 0 = _; rw [h0]; show (tOf t).val / 4 * 1 + 0 = (tOf t).val / 4; omega
  | ⟨1, _⟩ => show win0_6.index t 1 * 1024 + l.val = l.val; rw [h1] <;> omega
  | ⟨2, _⟩ => show win0_6.index t 2 * 512 + r.val = _; rw [h2]; show (tOf t).val % 4 * 512 + r.val = 512 * ((tOf t).val % 4) + r.val; omega

theorem block6 (c : Dev nD) (t : Fin cfg0.N) (l : Fin 1024) (r : Fin 512) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (ValueIdx.ix3 (0 : Fin 1) l r) = values (m ((c : Thread nD τ).loc main_arg0)) (m ((c : Thread nD τ).loc main_arg1)) (m ((c : Thread nD τ).loc main_arg2)) (ix3 (batOf t) l (posOf t r)) := by
  refine (out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (ValueIdx.ix3 (0 : Fin 1) l r)).trans ?_
  refine (row_block m c t r _ (⟨2048 + l.val, by omega⟩ : Fin 3072) (by show 2048 + l.val = 1024 + (1024 + l.val); omega)).trans ?_
  exact congrArg (fun R => proj (m ((c : Thread nD τ).loc main_arg0)) (m ((c : Thread nD τ).loc main_arg1)) (m ((c : Thread nD τ).loc main_arg2)) R (⟨2048 + l.val, by omega⟩ : Fin 3072)) (rowAt_of t r).symm

theorem final6 (c : Dev nD) : (dats m 0 c).arrAt 6 cfg0.N = values (m ((c : Thread nD τ).loc main_arg0)) (m ((c : Thread nD τ).loc main_arg1)) (m ((c : Thread nD τ).loc main_arg2)) := by
  refine (dats m 0 c).arrAt_eq_of_cover 6 _ (fun t _ => ?_) (fun y => ?_)
  · rw [Value.flushed6_A]
    funext y
    obtain ⟨l, r, rfl⟩ : ∃ (l : Fin 1024) (r : Fin 512), y = ValueIdx.ix3 (0 : Fin 1) l r := ⟨y 1, y 2, by
      funext a; match a with | ⟨0, _⟩ => exact Subsingleton.elim (α := Fin 1) _ _ | ⟨1, _⟩ => rfl | ⟨2, _⟩ => rfl⟩
    refine (block6 m c t l r).trans ?_
    exact congrArg _ (emb6 t l r).symm
  · have hB : (y 0).val < 16 := (y 0).isLt
    have hP : (y 2).val < 2048 := (y 2).isLt
    obtain ⟨t, hi⟩ := covered (4 * (y 0).val + (y 2).val / 512) (by omega)
    refine ⟨t, flush0_6 t, ?_⟩
    have e : y = (win0_6.rect t).emb (ValueIdx.ix3 (0 : Fin 1) (show Fin 1024 from y 1) (⟨(y 2).val % 512, Nat.mod_lt _ (by norm_num)⟩ : Fin 512)) := by
      refine Eq.trans ?_ (emb6 t (show Fin 1024 from y 1) _).symm
      funext a
      match a with
      | ⟨0, _⟩ => exact Fin.ext (by show (y 0).val = (tOf t).val / 4; rw [hi]; omega)
      | ⟨1, _⟩ => rfl
      | ⟨2, _⟩ => exact Fin.ext (by show (y 2).val = 512 * ((tOf t).val % 4) + (y 2).val % 512; rw [hi]; omega)
    rw [e]
    exact Finset.mem_map_of_mem _ (Finset.mem_univ _)

/-! Result 3. -/

theorem emb7 (t : Fin cfg0.N) (l : Fin 1024) (r : Fin 512) : (win0_7.rect t).emb (ValueIdx.ix3 (0 : Fin 1) l r) = ix3 (batOf t) l r := by
  obtain ⟨h0, h1, h2⟩ := index7 t
  refine funext fun a => Fin.ext ?_
  refine (win0_7.rect_emb_val t _ a).trans ?_
  match a with
  | ⟨0, _⟩ => show win0_7.index t 0 * 1 + 0 = _; rw [h0]; show (tOf t).val / 4 * 1 + 0 = (tOf t).val / 4; omega
  | ⟨1, _⟩ => show win0_7.index t 1 * 1024 + l.val = l.val; rw [h1] <;> omega
  | ⟨2, _⟩ => show win0_7.index t 2 * 512 + r.val = r.val; rw [h2] <;> omega

theorem block7 (c : Dev nD) (t : Fin cfg0.N) (h3 : (tOf t).val % 4 = 3) (l : Fin 1024) (r : Fin 512) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (ValueIdx.ix3 (0 : Fin 1) l r) = keyTail (m ((c : Thread nD τ).loc main_arg0)) (m ((c : Thread nD τ).loc main_arg1)) (m ((c : Thread nD τ).loc main_arg2)) (ix3 (batOf t) l r) := by
  refine (out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (ValueIdx.ix3 (0 : Fin 1) l r)).trans ?_
  refine (row_block m c t r _ (⟨1024 + l.val, by omega⟩ : Fin 3072) (by show 1024 + l.val = 1024 + (0 + l.val); omega)).trans ?_
  exact congrArg (fun R => proj (m ((c : Thread nD τ).loc main_arg0)) (m ((c : Thread nD τ).loc main_arg1)) (m ((c : Thread nD τ).loc main_arg2)) R (⟨1024 + l.val, by omega⟩ : Fin 3072)) (tailAt_of t h3 r).symm

theorem final7 (c : Dev nD) : (dats m 0 c).arrAt 7 cfg0.N = keyTail (m ((c : Thread nD τ).loc main_arg0)) (m ((c : Thread nD τ).loc main_arg1)) (m ((c : Thread nD τ).loc main_arg2)) := by
  refine (dats m 0 c).arrAt_eq_of_cover 7 _ (fun t ht => ?_) (fun y => ?_)
  · have h3 : (tOf t).val % 4 = 3 := by rw [tOf_val]; exact (flush0_7 t).mp ht
    rw [Value.flushed7_A]
    funext y
    obtain ⟨l, r, rfl⟩ : ∃ (l : Fin 1024) (r : Fin 512), y = ValueIdx.ix3 (0 : Fin 1) l r := ⟨y 1, y 2, by
      funext a; match a with | ⟨0, _⟩ => exact Subsingleton.elim (α := Fin 1) _ _ | ⟨1, _⟩ => rfl | ⟨2, _⟩ => rfl⟩
    refine (block7 m c t h3 l r).trans ?_
    exact congrArg _ (emb7 t l r).symm
  · have hB : (y 0).val < 16 := (y 0).isLt
    obtain ⟨t, hi⟩ := covered (4 * (y 0).val + 3) (by omega)
    refine ⟨t, (flush0_7 t).mpr (by rw [← tOf_val, hi]; omega), ?_⟩
    have e : y = (win0_7.rect t).emb (ValueIdx.ix3 (0 : Fin 1) (show Fin 1024 from y 1) (show Fin 512 from y 2)) := by
      refine Eq.trans ?_ (emb7 t (show Fin 1024 from y 1) (show Fin 512 from y 2)).symm
      funext a
      match a with
      | ⟨0, _⟩ => exact Fin.ext (by show (y 0).val = (tOf t).val / 4; rw [hi]; omega)
      | ⟨1, _⟩ => rfl
      | ⟨2, _⟩ => rfl
    rw [e]
    exact Finset.mem_map_of_mem _ (Finset.mem_univ _)

/-! Result 4. -/

theorem emb8 (t : Fin cfg0.N) (l : Fin 1024) (r : Fin 512) : (win0_8.rect t).emb (ValueIdx.ix3 (0 : Fin 1) l r) = ix3 (batOf t) l r := by
  obtain ⟨h0, h1, h2⟩ := index8 t
  refine funext fun a => Fin.ext ?_
  refine (win0_8.rect_emb_val t _ a).trans ?_
  match a with
  | ⟨0, _⟩ => show win0_8.index t 0 * 1 + 0 = _; rw [h0]; show (tOf t).val / 4 * 1 + 0 = (tOf t).val / 4; omega
  | ⟨1, _⟩ => show win0_8.index t 1 * 1024 + l.val = l.val; rw [h1] <;> omega
  | ⟨2, _⟩ => show win0_8.index t 2 * 512 + r.val = r.val; rw [h2] <;> omega

theorem block8 (c : Dev nD) (t : Fin cfg0.N) (h3 : (tOf t).val % 4 = 3) (l : Fin 1024) (r : Fin 512) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (ValueIdx.ix3 (0 : Fin 1) l r) = valueTail (m ((c : Thread nD τ).loc main_arg0)) (m ((c : Thread nD τ).loc main_arg1)) (m ((c : Thread nD τ).loc main_arg2)) (ix3 (batOf t) l r) := by
  refine (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (ValueIdx.ix3 (0 : Fin 1) l r)).trans ?_
  refine (row_block m c t r _ (⟨2048 + l.val, by omega⟩ : Fin 3072) (by show 2048 + l.val = 1024 + (1024 + l.val); omega)).trans ?_
  exact congrArg (fun R => proj (m ((c : Thread nD τ).loc main_arg0)) (m ((c : Thread nD τ).loc main_arg1)) (m ((c : Thread nD τ).loc main_arg2)) R (⟨2048 + l.val, by omega⟩ : Fin 3072)) (tailAt_of t h3 r).symm

theorem final8 (c : Dev nD) : (dats m 0 c).arrAt 8 cfg0.N = valueTail (m ((c : Thread nD τ).loc main_arg0)) (m ((c : Thread nD τ).loc main_arg1)) (m ((c : Thread nD τ).loc main_arg2)) := by
  refine (dats m 0 c).arrAt_eq_of_cover 8 _ (fun t ht => ?_) (fun y => ?_)
  · have h3 : (tOf t).val % 4 = 3 := by rw [tOf_val]; exact (flush0_8 t).mp ht
    rw [Value.flushed8_A]
    funext y
    obtain ⟨l, r, rfl⟩ : ∃ (l : Fin 1024) (r : Fin 512), y = ValueIdx.ix3 (0 : Fin 1) l r := ⟨y 1, y 2, by
      funext a; match a with | ⟨0, _⟩ => exact Subsingleton.elim (α := Fin 1) _ _ | ⟨1, _⟩ => rfl | ⟨2, _⟩ => rfl⟩
    refine (block8 m c t h3 l r).trans ?_
    exact congrArg _ (emb8 t l r).symm
  · have hB : (y 0).val < 16 := (y 0).isLt
    obtain ⟨t, hi⟩ := covered (4 * (y 0).val + 3) (by omega)
    refine ⟨t, (flush0_8 t).mpr (by rw [← tOf_val, hi]; omega), ?_⟩
    have e : y = (win0_8.rect t).emb (ValueIdx.ix3 (0 : Fin 1) (show Fin 1024 from y 1) (show Fin 512 from y 2)) := by
      refine Eq.trans ?_ (emb8 t (show Fin 1024 from y 1) (show Fin 512 from y 2)).symm
      funext a
      match a with
      | ⟨0, _⟩ => exact Fin.ext (by show (y 0).val = (tOf t).val / 4; rw [hi]; omega)
      | ⟨1, _⟩ => rfl
      | ⟨2, _⟩ => rfl
    rw [e]
    exact Finset.mem_map_of_mem _ (Finset.mem_univ _)

/-- The run, with the results named. -/
theorem run_result : θ_run defs (onTc (τ := τ) (main (F := Ideal))) ⟨m, fun _ => 0, ρ⟩ fun r => ∀ c : Dev nD,
      r.2.mem ((c : Thread nD τ).loc main_v8_0) = queries (m ((c : Thread nD τ).loc main_arg0)) (m ((c : Thread nD τ).loc main_arg1)) (m ((c : Thread nD τ).loc main_arg2))
      ∧ r.2.mem ((c : Thread nD τ).loc main_v8_1) = keys (m ((c : Thread nD τ).loc main_arg0)) (m ((c : Thread nD τ).loc main_arg1)) (m ((c : Thread nD τ).loc main_arg2))
      ∧ r.2.mem ((c : Thread nD τ).loc main_v8_2) = values (m ((c : Thread nD τ).loc main_arg0)) (m ((c : Thread nD τ).loc main_arg1)) (m ((c : Thread nD τ).loc main_arg2))
      ∧ r.2.mem ((c : Thread nD τ).loc main_v8_3) = keyTail (m ((c : Thread nD τ).loc main_arg0)) (m ((c : Thread nD τ).loc main_arg1)) (m ((c : Thread nD τ).loc main_arg2))
      ∧ r.2.mem ((c : Thread nD τ).loc main_v8_4) = valueTail (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final4 m c), (h c).2.1.trans (final5 m c), (h c).2.2.1.trans (final6 m c), (h c).2.2.2.1.trans (final7 m c), (h c).2.2.2.2.1.trans (final8 m c), (h c).2.2.2.2.2⟩) (Value.run_blocks m ρ)

end Cert.CInIdeal.Hand

end
-- ==== Proof.CReference.lean ====
/-
  What the reference of the second layer's input projection computes, element by element, and that the kernel's results
  are the same.
-/
module

public import proofs.«01_k».proof.Proof.Gen.CInRefIdeal.Run
public import proofs.«01_k».proof.Proof.CValue
public import Idealize.ShloMosaic.Lib.IdealHost

@[expose] public section

noncomputable section

namespace Cert.CInRefIdeal.Hand

open Cert.CInRefIdeal Cert.CInRefIdeal.Gen Cert.Rows
open Idealize.ShloMosaic Idealize.ShloMosaic.TcCoe Finset

/-- The rows normalised, times the layer's gains. -/
def normR (x : FVec Ideal S32768x1024 .f32) (g : FVec Ideal S2x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![1, 0] g slices_S2x1024_S1x1024_1_0) shapeCasts_S1x1024_S1024)))

/-- The rows times the weights. -/
def projR (x : FVec Ideal S32768x1024 .f32) (g : FVec Ideal S2x1024 .f32) (w : FVec Ideal S1x1024x3072 .f32) : FVec Ideal S32768x3072 .f32 :=
  Host.dotGeneral dot_S32768x1024_S1024x3072_S32768x3072_1_0_0_1_n_n none (normR x g) (shapeCast _ w shapeCasts_S1x1024x3072_S1024x3072)

/-- The queries, scaled, from all the products. -/
def queriesR (p : FVec Ideal S32768x3072 .f32) : FVec Ideal S32768x1024 .bf16 :=
  truncf .bf16 (mulf (extractStridedSlice S32768x1024 ![0, 0] p slices_S32768x3072_S32768x1024_0_0) (broadcastInDim S32768x1024 ![] bcast_S_S32768x1024 (constant S_ .f32 0x3E000000#32))) bitsLt_bf16_f32

/-- The keys, positions last. -/
def keysR (p : FVec Ideal S32768x3072 .f32) : FVec Ideal S16x1024x2048 .f32 :=
  transpose S16x1024x2048 [0, 2, 1] (shapeCast _ (extractStridedSlice S32768x1024 ![0, 1024] p slices_S32768x3072_S32768x1024_0_1024) shapeCasts_S32768x1024_S16x2048x1024) transposes_S16x2048x1024_S16x1024x2048_0_2_1

/-- The keys of the last positions. -/
def keyTailR (p : FVec Ideal S32768x3072 .f32) : FVec Ideal S16x1024x512 .f32 :=
  extractStridedSlice S16x1024x512 ![0, 0, 1536] (keysR p) slices_S16x1024x2048_S16x1024x512_0_0_1536

/-- The values, positions last. -/
def valuesR (p : FVec Ideal S32768x3072 .f32) : FVec Ideal S16x1024x2048 .f32 :=
  transpose S16x1024x2048 [0, 2, 1] (shapeCast _ (extractStridedSlice S32768x1024 ![0, 2048] p slices_S32768x3072_S32768x1024_0_2048) shapeCasts_S32768x1024_S16x2048x1024) transposes_S16x2048x1024_S16x1024x2048_0_2_1

/-- The values of the last positions. -/
def valueTailR (p : FVec Ideal S32768x3072 .f32) : FVec Ideal S16x1024x512 .f32 :=
  extractStridedSlice S16x1024x512 ![0, 0, 1536] (valuesR p) slices_S16x1024x2048_S16x1024x512_0_0_1536

section

variable (x : FVec Ideal S32768x1024 .f32) (g : FVec Ideal S2x1024 .f32) (w : FVec Ideal S1x1024x3072 .f32)

theorem normR_apply (R : Fin 32768) (l : Fin 1024) :
    normR x g (ix2 R l) = rmsRow (fun k => x (ix2 R k)) (fun k => g (ix2 (1 : Fin 2) k)) l := by
  pointwise [normR, rmsRow]

theorem projR_apply (R : Fin 32768) (j : Fin 3072) : projR x g w (ix2 R j) = CInIdeal.Hand.proj x g w R j := by
  have e : projR x g w (ix2 R j) = ∑ k : Fin 1024, normR x g (ix2 R k) * w (ix3 (0 : Fin 1) k j) := by
    pointwise [projR]
  rw [e]
  exact sum_congr rfl fun k _ => congrArg (· * _) (normR_apply x g R k)

end

section

variable (p : FVec Ideal S32768x3072 .f32)

theorem queriesR_apply (R : Fin 32768) (l : Fin 1024) : queriesR p (ix2 R l) = p (ix2 R (⟨0 + l.val, by omega⟩ : Fin 3072)) * Ideal.ofBits .f32 0x3E000000#32 := by
  pointwise [queriesR]

theorem keysR_apply (b : Fin 16) (l : Fin 1024) (t : Fin 2048) : keysR p (ix3 b l t) = p (ix2 (CInIdeal.Hand.rowAt b t) (⟨1024 + l.val, by omega⟩ : Fin 3072)) := by
  pointwise [keysR, CInIdeal.Hand.rowAt]

theorem keyTailR_apply (b : Fin 16) (l : Fin 1024) (t : Fin 512) : keyTailR p (ix3 b l t) = p (ix2 (CInIdeal.Hand.tailAt b t) (⟨1024 + l.val, by omega⟩ : Fin 3072)) := by
  pointwise [keyTailR, keysR, CInIdeal.Hand.tailAt]

theorem valuesR_apply (b : Fin 16) (l : Fin 1024) (t : Fin 2048) : valuesR p (ix3 b l t) = p (ix2 (CInIdeal.Hand.rowAt b t) (⟨2048 + l.val, by omega⟩ : Fin 3072)) := by
  pointwise [valuesR, CInIdeal.Hand.rowAt]

theorem valueTailR_apply (b : Fin 16) (l : Fin 1024) (t : Fin 512) : valueTailR p (ix3 b l t) = p (ix2 (CInIdeal.Hand.tailAt b t) (⟨2048 + l.val, by omega⟩ : Fin 3072)) := by
  pointwise [valueTailR, valuesR, CInIdeal.Hand.tailAt]

end

section

variable (x : FVec Ideal S32768x1024 .f32) (g : FVec Ideal S2x1024 .f32) (w : FVec Ideal S1x1024x3072 .f32)

/-! The kernel's results are the reference's. -/

theorem queries_eq : queriesR (projR x g w) = CInIdeal.Hand.queries x g w := by
  funext y
  obtain ⟨R, l, rfl⟩ : ∃ (R : Fin 32768) (l : Fin 1024), y = ix2 R l := ⟨y 0, y 1, by
    funext a; match a with | ⟨0, _⟩ => rfl | ⟨1, _⟩ => rfl⟩
  rw [queriesR_apply, projR_apply]
  rfl

theorem keys_eq : keysR (projR x g w) = CInIdeal.Hand.keys x g w := by
  funext y
  obtain ⟨b, l, t, rfl⟩ : ∃ (b : Fin 16) (l : Fin 1024) (t : Fin 2048), y = ix3 b l t := ⟨y 0, y 1, y 2, by
    funext a; match a with | ⟨0, _⟩ => rfl | ⟨1, _⟩ => rfl | ⟨2, _⟩ => rfl⟩
  rw [keysR_apply, projR_apply]
  rfl

theorem values_eq : valuesR (projR x g w) = CInIdeal.Hand.values x g w := by
  funext y
  obtain ⟨b, l, t, rfl⟩ : ∃ (b : Fin 16) (l : Fin 1024) (t : Fin 2048), y = ix3 b l t := ⟨y 0, y 1, y 2, by
    funext a; match a with | ⟨0, _⟩ => rfl | ⟨1, _⟩ => rfl | ⟨2, _⟩ => rfl⟩
  rw [valuesR_apply, projR_apply]
  rfl

theorem keyTail_eq : keyTailR (projR x g w) = CInIdeal.Hand.keyTail x g w := by
  funext y
  obtain ⟨b, l, t, rfl⟩ : ∃ (b : Fin 16) (l : Fin 1024) (t : Fin 512), y = ix3 b l t := ⟨y 0, y 1, y 2, by
    funext a; match a with | ⟨0, _⟩ => rfl | ⟨1, _⟩ => rfl | ⟨2, _⟩ => rfl⟩
  rw [keyTailR_apply, projR_apply]
  rfl

theorem valueTail_eq : valueTailR (projR x g w) = CInIdeal.Hand.valueTail x g w := by
  funext y
  obtain ⟨b, l, t, rfl⟩ : ∃ (b : Fin 16) (l : Fin 1024) (t : Fin 512), y = ix3 b l t := ⟨y 0, y 1, y 2, by
    funext a; match a with | ⟨0, _⟩ => rfl | ⟨1, _⟩ => rfl | ⟨2, _⟩ => rfl⟩
  rw [valueTailR_apply, projR_apply]
  rfl

end

end Cert.CInRefIdeal.Hand

end
-- ==== Proof.CClaims.lean ====
/-
  The claims on the second layer's input projection: the frames and the equality with the reference over the extended reals.
-/
module

public import proofs.«01_k».proof.Defs
public import proofs.«01_k».proof.Proof.Gen.CIn.Frame
public import proofs.«01_k».proof.Proof.CReference
public import Idealize.ShloMosaic.Lib.Quiescent

@[expose] public section

noncomputable section

namespace Cert.CClaims

open Idealize.ShloMosaic Idealize.ShloMosaic.TcCoe Idealize.SL.Sem

theorem frame_p : quiescent_CIn (hCIn := Cert.CIn.Gen.facts) := fun m ρ _ => Cert.CIn.Gen.frame m ρ

theorem frame_pi : quiescent_CInIdeal (hCInIdeal := Cert.CInIdeal.Gen.facts) := fun m ρ _ => Cert.CInIdeal.Gen.frame m ρ

theorem frame_ri : quiescent_CInRefIdeal (hCInRefIdeal := Cert.CInRefIdeal.Gen.facts) := fun m ρ _ =>
  (θ_run Cert.CInRefIdeal.defs _ _).mono (fun r h => ⟨fun c => (h c).2.2.2.2.2, sem_eq_zero_of_no_sems (by decide) r.2⟩) (Cert.CInRefIdeal.Value.run m ρ)

theorem preserves : preserves_CIn_CInIdeal := trivial

theorem algebraic : algebraic_CInIdeal_CInRefIdeal (hCInIdeal := Cert.CInIdeal.Gen.facts) (hCInRefIdeal := Cert.CInRefIdeal.Gen.facts) := by
  intro m ρ m' ρ' _ hagree
  refine ⟨fun c : Dev Cert.CInIdeal.nD => Cert.CInIdeal.Hand.queries (m ((c.tc : Thread Cert.CInIdeal.nD Cert.CInIdeal.τ).loc Cert.CInIdeal.main_arg0)) (m ((c.tc : Thread Cert.CInIdeal.nD Cert.CInIdeal.τ).loc Cert.CInIdeal.main_arg1)) (m ((c.tc : Thread Cert.CInIdeal.nD Cert.CInIdeal.τ).loc Cert.CInIdeal.main_arg2)), fun c : Dev Cert.CInIdeal.nD => Cert.CInIdeal.Hand.keys (m ((c.tc : Thread Cert.CInIdeal.nD Cert.CInIdeal.τ).loc Cert.CInIdeal.main_arg0)) (m ((c.tc : Thread Cert.CInIdeal.nD Cert.CInIdeal.τ).loc Cert.CInIdeal.main_arg1)) (m ((c.tc : Thread Cert.CInIdeal.nD Cert.CInIdeal.τ).loc Cert.CInIdeal.main_arg2)), fun c : Dev Cert.CInIdeal.nD => Cert.CInIdeal.Hand.values (m ((c.tc : Thread Cert.CInIdeal.nD Cert.CInIdeal.τ).loc Cert.CInIdeal.main_arg0)) (m ((c.tc : Thread Cert.CInIdeal.nD Cert.CInIdeal.τ).loc Cert.CInIdeal.main_arg1)) (m ((c.tc : Thread Cert.CInIdeal.nD Cert.CInIdeal.τ).loc Cert.CInIdeal.main_arg2)), fun c : Dev Cert.CInIdeal.nD => Cert.CInIdeal.Hand.keyTail (m ((c.tc : Thread Cert.CInIdeal.nD Cert.CInIdeal.τ).loc Cert.CInIdeal.main_arg0)) (m ((c.tc : Thread Cert.CInIdeal.nD Cert.CInIdeal.τ).loc Cert.CInIdeal.main_arg1)) (m ((c.tc : Thread Cert.CInIdeal.nD Cert.CInIdeal.τ).loc Cert.CInIdeal.main_arg2)), fun c : Dev Cert.CInIdeal.nD => Cert.CInIdeal.Hand.valueTail (m ((c.tc : Thread Cert.CInIdeal.nD Cert.CInIdeal.τ).loc Cert.CInIdeal.main_arg0)) (m ((c.tc : Thread Cert.CInIdeal.nD Cert.CInIdeal.τ).loc Cert.CInIdeal.main_arg1)) (m ((c.tc : Thread Cert.CInIdeal.nD Cert.CInIdeal.τ).loc Cert.CInIdeal.main_arg2)), Cert.CInIdeal.Hand.run_result m ρ, ?_⟩
  refine (θ_run Cert.CInRefIdeal.defs _ _).mono (fun _ h c => ⟨(h c).1.trans ?_, (h c).2.1.trans ?_, (h c).2.2.1.trans ?_, (h c).2.2.2.1.trans ?_, (h c).2.2.2.2.1.trans ?_, (h c).2.2.2.2.2⟩) (Cert.CInRefIdeal.Value.run m' ρ')
  · show Cert.CInRefIdeal.Hand.queriesR (Cert.CInRefIdeal.Hand.projR (m' ((c.tc : Thread Cert.CInRefIdeal.nD Cert.CInRefIdeal.τ).loc Cert.CInRefIdeal.main_arg0)) (m' ((c.tc : Thread Cert.CInRefIdeal.nD Cert.CInRefIdeal.τ).loc Cert.CInRefIdeal.main_arg1)) (m' ((c.tc : Thread Cert.CInRefIdeal.nD Cert.CInRefIdeal.τ).loc Cert.CInRefIdeal.main_arg2))) = _
    rw [(hagree c).1, (hagree c).2.1, (hagree c).2.2]
    exact Cert.CInRefIdeal.Hand.queries_eq _ _ _
  · show Cert.CInRefIdeal.Hand.keysR (Cert.CInRefIdeal.Hand.projR (m' ((c.tc : Thread Cert.CInRefIdeal.nD Cert.CInRefIdeal.τ).loc Cert.CInRefIdeal.main_arg0)) (m' ((c.tc : Thread Cert.CInRefIdeal.nD Cert.CInRefIdeal.τ).loc Cert.CInRefIdeal.main_arg1)) (m' ((c.tc : Thread Cert.CInRefIdeal.nD Cert.CInRefIdeal.τ).loc Cert.CInRefIdeal.main_arg2))) = _
    rw [(hagree c).1, (hagree c).2.1, (hagree c).2.2]
    exact Cert.CInRefIdeal.Hand.keys_eq _ _ _
  · show Cert.CInRefIdeal.Hand.valuesR (Cert.CInRefIdeal.Hand.projR (m' ((c.tc : Thread Cert.CInRefIdeal.nD Cert.CInRefIdeal.τ).loc Cert.CInRefIdeal.main_arg0)) (m' ((c.tc : Thread Cert.CInRefIdeal.nD Cert.CInRefIdeal.τ).loc Cert.CInRefIdeal.main_arg1)) (m' ((c.tc : Thread Cert.CInRefIdeal.nD Cert.CInRefIdeal.τ).loc Cert.CInRefIdeal.main_arg2))) = _
    rw [(hagree c).1, (hagree c).2.1, (hagree c).2.2]
    exact Cert.CInRefIdeal.Hand.values_eq _ _ _
  · show Cert.CInRefIdeal.Hand.keyTailR (Cert.CInRefIdeal.Hand.projR (m' ((c.tc : Thread Cert.CInRefIdeal.nD Cert.CInRefIdeal.τ).loc Cert.CInRefIdeal.main_arg0)) (m' ((c.tc : Thread Cert.CInRefIdeal.nD Cert.CInRefIdeal.τ).loc Cert.CInRefIdeal.main_arg1)) (m' ((c.tc : Thread Cert.CInRefIdeal.nD Cert.CInRefIdeal.τ).loc Cert.CInRefIdeal.main_arg2))) = _
    rw [(hagree c).1, (hagree c).2.1, (hagree c).2.2]
    exact Cert.CInRefIdeal.Hand.keyTail_eq _ _ _
  · show Cert.CInRefIdeal.Hand.valueTailR (Cert.CInRefIdeal.Hand.projR (m' ((c.tc : Thread Cert.CInRefIdeal.nD Cert.CInRefIdeal.τ).loc Cert.CInRefIdeal.main_arg0)) (m' ((c.tc : Thread Cert.CInRefIdeal.nD Cert.CInRefIdeal.τ).loc Cert.CInRefIdeal.main_arg1)) (m' ((c.tc : Thread Cert.CInRefIdeal.nD Cert.CInRefIdeal.τ).loc Cert.CInRefIdeal.main_arg2))) = _
    rw [(hagree c).1, (hagree c).2.1, (hagree c).2.2]
    exact Cert.CInRefIdeal.Hand.valueTail_eq _ _ _

end Cert.CClaims

end
-- ==== Proof.FinalSampleBlock.lean ====
/-
  What a grid point of the output projection and feed-forward call on the samples with the final norm writes: the values its kernel stores, one
  after the other, read at a row and a column.
-/
module

public import proofs.«01_k».proof.Proof.Gen.FinalSampleIdeal.Value
public import proofs.«01_k».proof.Proof.Rows
public import Idealize.ShloMosaic.Lib.Pipeline.ValueKit.Acc
public import Idealize.ShloMosaic.Lib.Pipeline.ValueKit.Tiles

@[expose] public section

noncomputable section

namespace Cert.FinalSampleIdeal.Hand

open Cert.FinalSampleIdeal Cert.FinalSampleIdeal.Gen Cert.Rows
open Idealize.ShloMosaic Idealize.ShloMosaic.TcCoe Finset

/-- What a chunk adds to the row `r`, column `l`. -/
def part (h : Vec Ideal S512x1024 .bf16) (u : Vec Ideal S1024x512 .bf16) (d : Vec Ideal S512x1024 .bf16) (r : Fin 512) (l : Fin 1024) : EReal :=
  ∑ x : Fin 512, max (∑ k : Fin 1024, h (ix2 r k) * u (ix2 k x)) 0 * max (∑ k : Fin 1024, h (ix2 r k) * u (ix2 k x)) 0 * d (ix2 x l)

section

variable (h : Vec Ideal S512x1024 .bf16) (u : Vec Ideal S1024x512 .bf16) (y : Vec Ideal S512x1024 .f32) (d : Vec Ideal S512x1024 .bf16) (r : Fin 512) (l : Fin 1024)

theorem chunk0_apply : k0_pay4 h u y d (ix2 r l) = y (ix2 r l) + part h u d r l := by
  pointwise [k0_pay4, part]

theorem chunk1_apply : k0_pay5 h u y d (ix2 r l) = y (ix2 r l) + part h u d r l := by
  pointwise [k0_pay5, part]

theorem chunk2_apply : k0_pay7 h (k0_pay6 u) (constant S512x512 .f32 0x00000000#32) y d (ix2 r l) = y (ix2 r l) + part h u d r l := by
  pointwise [k0_pay7, k0_pay6, part]

theorem chunk3_apply : k0_pay8 h u y d (ix2 r l) = y (ix2 r l) + part h u d r l := by
  pointwise [k0_pay8, part]

theorem chunk4_apply : k0_pay10 (k0_pay9 h u) (FloatOps.ofBits .f32 0x00000000#32) y d (ix2 r l) = y (ix2 r l) + part h u d r l := by
  pointwise [k0_pay10, k0_pay9, part]

theorem chunk5_apply : k0_pay11 h u y d (ix2 r l) = y (ix2 r l) + part h u d r l := by
  pointwise [k0_pay11, part]

theorem chunk6_apply : k0_pay13 (k0_pay12 h u) y d (ix2 r l) = y (ix2 r l) + part h u d r l := by
  pointwise [k0_pay13, k0_pay12, part]

theorem chunk7_apply : k0_pay14 h u y d (ix2 r l) = y (ix2 r l) + part h u d r l := by
  pointwise [k0_pay14, part]

end

theorem stream_apply (x : Vec Ideal S512x1024 .f32) (a : Vec Ideal S512x512 .bf16) (u : Vec Ideal S512x1024 .bf16) (b : Vec Ideal S512x512 .bf16) (v : Vec Ideal S512x1024 .bf16) (r : Fin 512) (l : Fin 1024) :
    k0_pay2 x a u b v (ix2 r l) = x (ix2 r l) + ∑ k : Fin 512, a (ix2 r k) * u (ix2 k l) + ∑ k : Fin 512, b (ix2 r k) * v (ix2 k l) := by
  pointwise [k0_pay2]

theorem norm_apply (x : Vec Ideal S512x1024 .f32) (a : Vec Ideal S512x512 .bf16) (u : Vec Ideal S512x1024 .bf16) (b : Vec Ideal S512x512 .bf16) (v : Vec Ideal S512x1024 .bf16) (g : Vec Ideal S1x1024 .f32) (r : Fin 512) (l : Fin 1024) :
    k0_pay3 x a u b v g (ix2 r l) = rmsRow (fun k => k0_pay2 x a u b v (ix2 r k)) (fun k => g (ix2 0 k)) l := by
  pointwise [k0_pay3, rmsRow]

theorem final_apply (y : Vec Ideal S512x1024 .f32) (g : Vec Ideal S1x1024 .f32) (r : Fin 512) (l : Fin 1024) :
    k0_pay1 (k0_pay15 y) (k0_pay16 g) (k0_pay17 y) k0_pay18 (ix2 r l) = rmsRow (fun k => y (ix2 r k)) (fun k => g (ix2 0 k)) l := by
  pointwise [k0_pay1, k0_pay15, k0_pay16, k0_pay17, k0_pay18, rmsRow]

/-- A chunk whose weights are loaded from the whole matrices at chunk `c`. -/
theorem part_ld (h : Vec Ideal S512x1024 .bf16) (wu : Vec Ideal S1024x4096 .bf16) (wd : Vec Ideal S4096x1024 .bf16) (n : ℕ) (c : Fin 8) (e : n = 512 * c.val) (i1) (i2) (r : Fin 512) (l : Fin 1024) :
    part h (View.ld wu (Rect.unit (s := S1024x4096) ![0, n] ![1024, 512] i1)) (View.ld wd (Rect.unit (s := S4096x1024) ![n, 0] ![512, 1024] i2)) r l
      = chunk (term (fun k => h (ix2 r k)) (fun k f => wu (ix2 k f)) (fun f k => wd (ix2 f k)) l) c := by
  subst e
  unfold part chunk term
  have e1 : ∀ (k : Fin 1024) (x : Fin 512), View.ld wu (Rect.unit (s := S1024x4096) ![0, 512 * c.val] ![1024, 512] i1) (ix2 k x) = wu (ix2 k (⟨512 * c.val + x.val, by omega⟩ : Fin 4096)) := fun k x =>
    View.ld_unit_apply_of _ _ _ _ _ _ fun a => match a with
      | ⟨0, _⟩ => (Nat.zero_add _).symm
      | ⟨1, _⟩ => rfl
  have e2 : ∀ (x : Fin 512), View.ld wd (Rect.unit (s := S4096x1024) ![512 * c.val, 0] ![512, 1024] i2) (ix2 x l) = wd (ix2 (⟨512 * c.val + x.val, by omega⟩ : Fin 4096) l) := fun x =>
    View.ld_unit_apply_of _ _ _ _ _ _ fun a => match a with
      | ⟨0, _⟩ => rfl
      | ⟨1, _⟩ => (Nat.zero_add _).symm
  simp only [e1, e2]

/-- The two products with the halves of the projection are one sum over the two halves. -/
theorem wo_lo (wo : Vec Ideal S1024x1024 .bf16) (i) (k : Fin 512) (l : Fin 1024) :
    View.ld wo (Rect.unit (s := S1024x1024) ![0, 0] ![512, 1024] i) (ix2 k l) = wo (ix2 (⟨k.val, by omega⟩ : Fin 1024) l) :=
  View.ld_unit_apply_of _ _ _ _ _ _ fun a => match a with
    | ⟨0, _⟩ => (Nat.zero_add _).symm
    | ⟨1, _⟩ => (Nat.zero_add _).symm

theorem wo_hi (wo : Vec Ideal S1024x1024 .bf16) (i) (k : Fin 512) (l : Fin 1024) :
    View.ld wo (Rect.unit (s := S1024x1024) ![512, 0] ![512, 1024] i) (ix2 k l) = wo (ix2 (⟨512 + k.val, by omega⟩ : Fin 1024) l) :=
  View.ld_unit_apply_of _ _ _ _ _ _ fun a => match a with
    | ⟨0, _⟩ => rfl
    | ⟨1, _⟩ => (Nat.zero_add _).symm

theorem hz : (![0, 0] : Fin 2 → ℕ) = fun _ => 0 := by decide

/-- The residual stream's row after the projection, in a point's block. -/
def streamRow (x : Vec Ideal S512x1024 .f32) (a b : Vec Ideal S512x512 .bf16) (wo : Vec Ideal S1024x1024 .bf16) (r : Fin 512) (l : Fin 1024) : EReal :=
  x (ix2 r l) + (∑ k : Fin 512, a (ix2 r k) * wo (ix2 (⟨k.val, by omega⟩ : Fin 1024) l)) + ∑ k : Fin 512, b (ix2 r k) * wo (ix2 (⟨512 + k.val, by omega⟩ : Fin 1024) l)

theorem stream_ld (x : Vec Ideal S512x1024 .f32) (a b : Vec Ideal S512x512 .bf16) (wo : Vec Ideal S1024x1024 .bf16) (i1) (i2) (r : Fin 512) (l : Fin 1024) :
    k0_pay2 x a (View.ld wo (Rect.unit (s := S1024x1024) ![0, 0] ![512, 1024] i1)) b (View.ld wo (Rect.unit (s := S1024x1024) ![512, 0] ![512, 1024] i2)) (ix2 r l)
      = streamRow x a b wo r l :=
  (stream_apply _ _ _ _ _ r l).trans (congrArg₂ (fun s t => x (ix2 r l) + s + t)
    (sum_congr rfl fun k _ => congrArg (a (ix2 r k) * ·) (wo_lo wo i1 k l)) (sum_congr rfl fun k _ => congrArg (b (ix2 r k) * ·) (wo_hi wo i2 k l)))

theorem norm_ld (x : Vec Ideal S512x1024 .f32) (a b : Vec Ideal S512x512 .bf16) (wo : Vec Ideal S1024x1024 .bf16) (i1) (i2) (g : Vec Ideal S1x1024 .f32) (r : Fin 512) (l : Fin 1024) :
    k0_pay3 x a (View.ld wo (Rect.unit (s := S1024x1024) ![0, 0] ![512, 1024] i1)) b (View.ld wo (Rect.unit (s := S1024x1024) ![512, 0] ![512, 1024] i2)) g (ix2 r l)
      = rmsRow (streamRow x a b wo r) (fun k => g (ix2 0 k)) l :=
  (norm_apply _ _ _ _ _ g r l).trans (congrArg (fun z => rmsRow z (fun k => g (ix2 0 k)) l) (funext fun k => stream_ld x a b wo i1 i2 r k))

set_option maxHeartbeats 1000000 in
/-- The block a point writes, at row `r` and column `l`. -/
theorem out_apply (c : Dev nD) (i : grid0.Coords) (a1 : Memref sig .tc .vmem S512x1024 .f32) (h1 : a1.IsWhole) (a2 : Memref sig .tc .vmem S512x512 .bf16) (h2 : a2.IsWhole) (a3 : Memref sig .tc .vmem S512x512 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1024x4096 .bf16) (h6 : a6.IsWhole) (a7 : Memref sig .tc .vmem S4096x1024 .bf16) (h7 : a7.IsWhole) (a8 : Memref sig .tc .vmem S1x1024 .f32) (h8 : a8.IsWhole) (a9 : Memref sig .tc .vmem S512x1024 .f32) (h9 : a9.IsWhole)
    (a10 : Memref sig .tc .vmem S512x1024 .bf16) (h10 : a10.IsWhole)
    (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1024x4096 .bf16) (x6 : Vec Ideal S4096x1024 .bf16) (x7 : Vec Ideal S1x1024 .f32) (r : Fin 512) (l : Fin 1024) :
    out0_A_8 c i a1 h1 a2 h2 a3 h3 a4 h4 a5 h5 a6 h6 a7 h7 a8 h8 a9 h9 a10 h10 x0 x1 x2 x3 x4 x5 x6 x7 (ix2 r l)
      = rmsRow (mlpRow (streamRow x0 x1 x2 x3 r) (fun k => x4 (ix2 0 k)) (fun k f => x5 (ix2 k f)) (fun f k => x6 (ix2 f k))) (fun k => x7 (ix2 0 k)) l := by
  unfold out0_A_8
  rw [View.read_writes_eq_canon _ _ _ (cover0_A_8 c i a1 h1 a2 h2 a3 h3 a4 h4 a5 h5 a6 h6 a7 h7 a8 h8 a9 h9 a10 h10 x0 x1 x2 x3 x4 x5 x6 x7)]
  unfold kernelRun0_A
  dsimp only
  sl_unfold_words
  rw [View.canon_cons_unit_zero (S := S512x1024) hz]
  simp only [View.readAt_eq_ld, h1.read_unread, h2.read_unread, h3.read_unread, h4.read_unread, h5.read_unread, h6.read_unread, h7.read_unread, h8.read_unread,
    View.readCov_unit_zero (S := S512x1024) _ hz, View.ld_unit_zero (S := S512x1024) hz, View.ld_unit_zero (S := S512x512) hz, View.ld_unit_zero (S := S1x1024) hz,
    View.readCov_cons_unit_lit' (S := S512x1024) _ _ _ _ _ (congrFun hz) (congrFun hz)]
  refine (final_apply _ _ r l).trans (congrArg (fun z => rmsRow z (fun k => x7 (ix2 0 k)) l) (funext fun l => ?_))
  rw [chunk7_apply, chunk6_apply, chunk5_apply, chunk4_apply, chunk3_apply, chunk2_apply, chunk1_apply, chunk0_apply]
  rw [part_ld _ _ _ 3584 7 rfl, part_ld _ _ _ 3072 6 rfl, part_ld _ _ _ 2560 5 rfl, part_ld _ _ _ 2048 4 rfl, part_ld _ _ _ 1536 3 rfl, part_ld _ _ _ 1024 2 rfl, part_ld _ _ _ 512 1 rfl, part_ld _ _ _ 0 0 rfl]
  rw [add_chunks]
  simp only [norm_ld, stream_ld]
  rfl

end Cert.FinalSampleIdeal.Hand

end
-- ==== Proof.FinalSampleValue.lean ====
/-
  What the output projection and feed-forward call on the samples with the final norm leaves in its result array after the run: every
  row of the residual stream plus the mixer's output times the projection, plus the feed-forward part, normalised.
-/
module

public import proofs.«01_k».proof.Proof.FinalSampleBlock
public import Idealize.ShloMosaic.Lib.Pipeline.Value

@[expose] public section

noncomputable section

namespace Cert.FinalSampleIdeal.Hand

open Cert.FinalSampleIdeal Cert.FinalSampleIdeal.Gen Cert.Rows
open Idealize.ShloMosaic Idealize.ShloMosaic.TcCoe Idealize.SL.Sem Finset

/-- The residual stream's row after the projection. -/
def stream (x : FVec Ideal S512x1024 .f32) (o : FVec Ideal S512x1024 .bf16) (wo : FVec Ideal S1x1024x1024 .f32) (R : Fin 512) (l : Fin 1024) : EReal :=
  x (ix2 R l) + (∑ k : Fin 512, o (ix2 R (⟨k.val, by omega⟩ : Fin 1024)) * wo (ix3 (0 : Fin 1) (⟨k.val, by omega⟩ : Fin 1024) l))
    + ∑ k : Fin 512, o (ix2 R (⟨512 + k.val, by omega⟩ : Fin 1024)) * wo (ix3 (0 : Fin 1) (⟨512 + k.val, by omega⟩ : Fin 1024) l)

/-- The result, from the arguments. -/
def result (x : FVec Ideal S512x1024 .f32) (o : FVec Ideal S512x1024 .bf16) (wo : FVec Ideal S1x1024x1024 .f32) (g : FVec Ideal S2x1024 .f32)
    (wu : FVec Ideal S2x1024x4096 .f32) (wd : FVec Ideal S2x4096x1024 .f32) (gf : FVec Ideal S1024 .f32) : FVec Ideal S512x1024 .f32 := fun y =>
  rmsRow (mlpRow (stream x o wo (y 0)) (fun k => g (ix2 (1 : Fin 2) k)) (fun k f => wu (ix3 (1 : Fin 2) k f)) (fun f k => wd (ix3 (1 : Fin 2) f k))) (fun k => gf (ix1 k)) (y 1)

theorem read_wo (w : FVec Ideal S1x1024x1024 .f32) (k l : Fin 1024) : (truncf .bf16 (shapeCast S1024x1024 w shapeCasts_S1x1024x1024_S1024x1024) bitsLt_bf16_f32 : FVec Ideal S1024x1024 .bf16) (ix2 k l) = w (ix3 (0 : Fin 1) k l) := by
  pointwise []

theorem read_g (w : FVec Ideal S2x1024 .f32) (k : Fin 1024) : (shapeCast S1x1024 (shapeCast S1024 (extractStridedSlice S1x1024 ![1, 0] w slices_S2x1024_S1x1024_1_0) shapeCasts_S1x1024_S1024) shapeCasts_S1024_S1x1024 : FVec Ideal S1x1024 .f32) (ix2 (0 : Fin 1) k) = w (ix2 (1 : Fin 2) k) := by
  pointwise []

theorem read_wu (w : FVec Ideal S2x1024x4096 .f32) (k : Fin 1024) (l : Fin 4096) : (truncf .bf16 (shapeCast S1024x4096 (extractStridedSlice S1x1024x4096 ![1, 0, 0] w slices_S2x1024x4096_S1x1024x4096_1_0_0) shapeCasts_S1x1024x4096_S1024x4096) bitsLt_bf16_f32 : FVec Ideal S1024x4096 .bf16) (ix2 k l) = w (ix3 (1 : Fin 2) k l) := by
  pointwise []

theorem read_wd (w : FVec Ideal S2x4096x1024 .f32) (k : Fin 4096) (l : Fin 1024) : (truncf .bf16 (shapeCast S4096x1024 (extractStridedSlice S1x4096x1024 ![1, 0, 0] w slices_S2x4096x1024_S1x4096x1024_1_0_0) shapeCasts_S1x4096x1024_S4096x1024) bitsLt_bf16_f32 : FVec Ideal S4096x1024 .bf16) (ix2 k l) = w (ix3 (1 : Fin 2) k l) := by
  pointwise []

theorem read_gf (w : FVec Ideal S1024 .f32) (k : Fin 1024) : (shapeCast S1x1024 w shapeCasts_S1024_S1x1024 : FVec Ideal S1x1024 .f32) (ix2 (0 : Fin 1) k) = w (ix1 k) := by
  pointwise []

variable (m : (ℓ : Loc nD τ sig) → Buf (Elt Ideal) ℓ) (ρ : Dev nD → PrngReg)

/-! What the region finds in the arrays the host operations wrote. -/

theorem V_wo (c : Dev nD) (k l : Fin 1024) : (V m c main_v1 : FVec Ideal S1024x1024 .bf16) (ix2 k l) = (m ((c : Thread nD τ).loc main_arg2) : FVec Ideal S1x1024x1024 .f32) (ix3 (0 : Fin 1) k l) := by
  have e : V m c main_v1 = (truncf .bf16 (shapeCast S1024x1024 (m ((c : Thread nD τ).loc main_arg2) : FVec Ideal S1x1024x1024 .f32) shapeCasts_S1x1024x1024_S1024x1024) bitsLt_bf16_f32 : FVec Ideal S1024x1024 .bf16) := by
    unfold V
    simp only [hostOps0]
    after_results <;> rfl
  exact (congrFun e _).trans (read_wo _ k l)

theorem V_g (c : Dev nD) (k : Fin 1024) : (V m c main_v4 : FVec Ideal S1x1024 .f32) (ix2 (0 : Fin 1) k) = (m ((c : Thread nD τ).loc main_arg3) : FVec Ideal S2x1024 .f32) (ix2 (1 : Fin 2) k) := by
  have e : V m c main_v4 = (shapeCast S1x1024 (shapeCast S1024 (extractStridedSlice S1x1024 ![1, 0] (m ((c : Thread nD τ).loc main_arg3) : FVec Ideal S2x1024 .f32) slices_S2x1024_S1x1024_1_0) shapeCasts_S1x1024_S1024) shapeCasts_S1024_S1x1024 : FVec Ideal S1x1024 .f32) := by
    unfold V
    simp only [hostOps0]
    after_results <;> rfl
  exact (congrFun e _).trans (read_g _ k)

theorem V_wu (c : Dev nD) (k : Fin 1024) (l : Fin 4096) : (V m c main_v7 : FVec Ideal S1024x4096 .bf16) (ix2 k l) = (m ((c : Thread nD τ).loc main_arg4) : FVec Ideal S2x1024x4096 .f32) (ix3 (1 : Fin 2) k l) := by
  have e : V m c main_v7 = (truncf .bf16 (shapeCast S1024x4096 (extractStridedSlice S1x1024x4096 ![1, 0, 0] (m ((c : Thread nD τ).loc main_arg4) : FVec Ideal S2x1024x4096 .f32) slices_S2x1024x4096_S1x1024x4096_1_0_0) shapeCasts_S1x1024x4096_S1024x4096) bitsLt_bf16_f32 : FVec Ideal S1024x4096 .bf16) := by
    unfold V
    simp only [hostOps0]
    after_results <;> rfl
  exact (congrFun e _).trans (read_wu _ k l)

theorem V_wd (c : Dev nD) (k : Fin 4096) (l : Fin 1024) : (V m c main_v10 : FVec Ideal S4096x1024 .bf16) (ix2 k l) = (m ((c : Thread nD τ).loc main_arg5) : FVec Ideal S2x4096x1024 .f32) (ix3 (1 : Fin 2) k l) := by
  have e : V m c main_v10 = (truncf .bf16 (shapeCast S4096x1024 (extractStridedSlice S1x4096x1024 ![1, 0, 0] (m ((c : Thread nD τ).loc main_arg5) : FVec Ideal S2x4096x1024 .f32) slices_S2x4096x1024_S1x4096x1024_1_0_0) shapeCasts_S1x4096x1024_S4096x1024) bitsLt_bf16_f32 : FVec Ideal S4096x1024 .bf16) := by
    unfold V
    simp only [hostOps0]
    after_results <;> rfl
  exact (congrFun e _).trans (read_wd _ k l)

theorem V_gf (c : Dev nD) (k : Fin 1024) : (V m c main_v11 : FVec Ideal S1x1024 .f32) (ix2 (0 : Fin 1) k) = (m ((c : Thread nD τ).loc main_arg6) : FVec Ideal S1024 .f32) (ix1 k) := by
  have e : V m c main_v11 = (shapeCast S1x1024 (m ((c : Thread nD τ).loc main_arg6) : FVec Ideal S1024 .f32) shapeCasts_S1024_S1x1024 : FVec Ideal S1x1024 .f32) := by
    unfold V
    simp only [hostOps0]
    after_results <;> rfl
  exact (congrFun e _).trans (read_gf _ k)

/-! The index maps, decided over the grid. -/

abbrev tOf (t : Fin cfg0.N) : Fin 1 := grid0.coords t 0

theorem index0 (t : Fin cfg0.N) : win0_0.index t 0 = (grid0.coords t 0).val ∧ win0_0.index t 1 = 0 :=
  (by decide +kernel : ∀ t : Fin grid0.N, win0_0.index t 0 = (grid0.coords t 0).val ∧ win0_0.index t 1 = 0) t

theorem index1 (t : Fin cfg0.N) : win0_1.index t 0 = (grid0.coords t 0).val ∧ win0_1.index t 1 = 0 :=
  (by decide +kernel : ∀ t : Fin grid0.N, win0_1.index t 0 = (grid0.coords t 0).val ∧ win0_1.index t 1 = 0) t

theorem index2 (t : Fin cfg0.N) : win0_2.index t 0 = (grid0.coords t 0).val ∧ win0_2.index t 1 = 1 :=
  (by decide +kernel : ∀ t : Fin grid0.N, win0_2.index t 0 = (grid0.coords t 0).val ∧ win0_2.index t 1 = 1) t

theorem index3 (t : Fin cfg0.N) : win0_3.index t 0 = 0 ∧ win0_3.index t 1 = 0 :=
  (by decide +kernel : ∀ t : Fin grid0.N, win0_3.index t 0 = 0 ∧ win0_3.index t 1 = 0) t

theorem index4 (t : Fin cfg0.N) : win0_4.index t 0 = 0 ∧ win0_4.index t 1 = 0 :=
  (by decide +kernel : ∀ t : Fin grid0.N, win0_4.index t 0 = 0 ∧ win0_4.index t 1 = 0) t

theorem index5 (t : Fin cfg0.N) : win0_5.index t 0 = 0 ∧ win0_5.index t 1 = 0 :=
  (by decide +kernel : ∀ t : Fin grid0.N, win0_5.index t 0 = 0 ∧ win0_5.index t 1 = 0) t

theorem index6 (t : Fin cfg0.N) : win0_6.index t 0 = 0 ∧ win0_6.index t 1 = 0 :=
  (by decide +kernel : ∀ t : Fin grid0.N, win0_6.index t 0 = 0 ∧ win0_6.index t 1 = 0) t

theorem index7 (t : Fin cfg0.N) : win0_7.index t 0 = 0 ∧ win0_7.index t 1 = 0 :=
  (by decide +kernel : ∀ t : Fin grid0.N, win0_7.index t 0 = 0 ∧ win0_7.index t 1 = 0) t

theorem index8 (t : Fin cfg0.N) : win0_8.index t 0 = (grid0.coords t 0).val ∧ win0_8.index t 1 = 0 :=
  (by decide +kernel : ∀ t : Fin grid0.N, win0_8.index t 0 = (grid0.coords t 0).val ∧ win0_8.index t 1 = 0) t

/-! The windows' blocks, in the arrays. -/

theorem x_block (c : Dev nD) (t : Fin cfg0.N) (r : Fin 512) (k : Fin 1024) :
    iblk m c 0 t (ValueIdx.ix2 r k) = (m ((c : Thread nD τ).loc main_arg0) : FVec Ideal S512x1024 .f32) (ix2 (⟨512 * (tOf t).val + r.val, by omega⟩ : Fin 512) k) := by
  show V m c (Pipeline.arrRef spec0 0) ((win0_0.rect t).emb (ValueIdx.ix2 r k)) = _
  rw [show V m c (Pipeline.arrRef spec0 0) = m ((c : Thread nD τ).loc main_arg0) from V_main_arg0 m c]
  obtain ⟨h0, h1⟩ := index0 t
  refine congrArg _ (funext fun a => Fin.ext ?_)
  refine (win0_0.rect_emb_val t _ a).trans ?_
  match a with
  | ⟨0, _⟩ => show win0_0.index t 0 * 512 + r.val = _; rw [h0]; show (tOf t).val * 512 + r.val = 512 * (tOf t).val + r.val; omega
  | ⟨1, _⟩ => show win0_0.index t 1 * 1024 + k.val = k.val; rw [h1] <;> omega

theorem a_block (c : Dev nD) (t : Fin cfg0.N) (r : Fin 512) (k : Fin 512) :
    iblk m c 1 t (ValueIdx.ix2 r k) = (m ((c : Thread nD τ).loc main_arg1) : FVec Ideal S512x1024 .bf16) (ix2 (⟨512 * (tOf t).val + r.val, by omega⟩ : Fin 512) (⟨k.val, by omega⟩ : Fin 1024)) := by
  show V m c (Pipeline.arrRef spec0 1) ((win0_1.rect t).emb (ValueIdx.ix2 r k)) = _
  rw [show V m c (Pipeline.arrRef spec0 1) = m ((c : Thread nD τ).loc main_arg1) from V_main_arg1 m c]
  obtain ⟨h0, h1⟩ := index1 t
  refine congrArg _ (funext fun a => Fin.ext ?_)
  refine (win0_1.rect_emb_val t _ a).trans ?_
  match a with
  | ⟨0, _⟩ => show win0_1.index t 0 * 512 + r.val = _; rw [h0]; show (tOf t).val * 512 + r.val = 512 * (tOf t).val + r.val; omega
  | ⟨1, _⟩ => show win0_1.index t 1 * 512 + k.val = k.val; rw [h1] <;> omega

theorem b_block (c : Dev nD) (t : Fin cfg0.N) (r : Fin 512) (k : Fin 512) :
    iblk m c 2 t (ValueIdx.ix2 r k) = (m ((c : Thread nD τ).loc main_arg1) : FVec Ideal S512x1024 .bf16) (ix2 (⟨512 * (tOf t).val + r.val, by omega⟩ : Fin 512) (⟨512 + k.val, by omega⟩ : Fin 1024)) := by
  show V m c (Pipeline.arrRef spec0 2) ((win0_2.rect t).emb (ValueIdx.ix2 r k)) = _
  rw [show V m c (Pipeline.arrRef spec0 2) = m ((c : Thread nD τ).loc main_arg1) from V_main_arg1 m c]
  obtain ⟨h0, h1⟩ := index2 t
  refine congrArg _ (funext fun a => Fin.ext ?_)
  refine (win0_2.rect_emb_val t _ a).trans ?_
  match a with
  | ⟨0, _⟩ => show win0_2.index t 0 * 512 + r.val = _; rw [h0]; show (tOf t).val * 512 + r.val = 512 * (tOf t).val + r.val; omega
  | ⟨1, _⟩ => show win0_2.index t 1 * 512 + k.val = 512 + k.val; rw [h1] <;> omega

theorem wo_block (c : Dev nD) (t : Fin cfg0.N) (k l : Fin 1024) :
    iblk m c 3 t (ValueIdx.ix2 k l) = (m ((c : Thread nD τ).loc main_arg2) : FVec Ideal S1x1024x1024 .f32) (ix3 (0 : Fin 1) k l) := by
  refine Eq.trans ?_ (V_wo m c k l)
  show V m c (Pipeline.arrRef spec0 3) ((win0_3.rect t).emb (ValueIdx.ix2 k l)) = _
  obtain ⟨h0, h1⟩ := index3 t
  refine congrArg (V m c main_v1) (funext fun a => Fin.ext ?_)
  refine (win0_3.rect_emb_val t _ a).trans ?_
  match a with
  | ⟨0, _⟩ => show win0_3.index t 0 * 1024 + k.val = k.val; rw [h0] <;> omega
  | ⟨1, _⟩ => show win0_3.index t 1 * 1024 + l.val = l.val; rw [h1] <;> omega

theorem g_block (c : Dev nD) (t : Fin cfg0.N) (k : Fin 1024) :
    iblk m c 4 t (ValueIdx.ix2 (0 : Fin 1) k) = (m ((c : Thread nD τ).loc main_arg3) : FVec Ideal S2x1024 .f32) (ix2 (1 : Fin 2) k) := by
  refine Eq.trans ?_ (V_g m c k)
  show V m c (Pipeline.arrRef spec0 4) ((win0_4.rect t).emb (ValueIdx.ix2 (0 : Fin 1) k)) = _
  obtain ⟨h0, h1⟩ := index4 t
  refine congrArg (V m c main_v4) (funext fun a => Fin.ext ?_)
  refine (win0_4.rect_emb_val t _ a).trans ?_
  match a with
  | ⟨0, _⟩ => show win0_4.index t 0 * 1 + 0 = 0; rw [h0] <;> omega
  | ⟨1, _⟩ => show win0_4.index t 1 * 1024 + k.val = k.val; rw [h1] <;> omega

theorem wu_block (c : Dev nD) (t : Fin cfg0.N) (k : Fin 1024) (l : Fin 4096) :
    iblk m c 5 t (ValueIdx.ix2 k l) = (m ((c : Thread nD τ).loc main_arg4) : FVec Ideal S2x1024x4096 .f32) (ix3 (1 : Fin 2) k l) := by
  refine Eq.trans ?_ (V_wu m c k l)
  show V m c (Pipeline.arrRef spec0 5) ((win0_5.rect t).emb (ValueIdx.ix2 k l)) = _
  obtain ⟨h0, h1⟩ := index5 t
  refine congrArg (V m c main_v7) (funext fun a => Fin.ext ?_)
  refine (win0_5.rect_emb_val t _ a).trans ?_
  match a with
  | ⟨0, _⟩ => show win0_5.index t 0 * 1024 + k.val = k.val; rw [h0] <;> omega
  | ⟨1, _⟩ => show win0_5.index t 1 * 4096 + l.val = l.val; rw [h1] <;> omega

theorem wd_block (c : Dev nD) (t : Fin cfg0.N) (k : Fin 4096) (l : Fin 1024) :
    iblk m c 6 t (ValueIdx.ix2 k l) = (m ((c : Thread nD τ).loc main_arg5) : FVec Ideal S2x4096x1024 .f32) (ix3 (1 : Fin 2) k l) := by
  refine Eq.trans ?_ (V_wd m c k l)
  show V m c (Pipeline.arrRef spec0 6) ((win0_6.rect t).emb (ValueIdx.ix2 k l)) = _
  obtain ⟨h0, h1⟩ := index6 t
  refine congrArg (V m c main_v10) (funext fun a => Fin.ext ?_)
  refine (win0_6.rect_emb_val t _ a).trans ?_
  match a with
  | ⟨0, _⟩ => show win0_6.index t 0 * 4096 + k.val = k.val; rw [h0] <;> omega
  | ⟨1, _⟩ => show win0_6.index t 1 * 1024 + l.val = l.val; rw [h1] <;> omega

theorem gf_block (c : Dev nD) (t : Fin cfg0.N) (k : Fin 1024) :
    iblk m c 7 t (ValueIdx.ix2 (0 : Fin 1) k) = (m ((c : Thread nD τ).loc main_arg6) : FVec Ideal S1024 .f32) (ix1 k) := by
  refine Eq.trans ?_ (V_gf m c k)
  show V m c (Pipeline.arrRef spec0 7) ((win0_7.rect t).emb (ValueIdx.ix2 (0 : Fin 1) k)) = _
  obtain ⟨h0, h1⟩ := index7 t
  refine congrArg (V m c main_v11) (funext fun a => Fin.ext ?_)
  refine (win0_7.rect_emb_val t _ a).trans ?_
  match a with
  | ⟨0, _⟩ => show win0_7.index t 0 * 1 + 0 = 0; rw [h0] <;> omega
  | ⟨1, _⟩ => show win0_7.index t 1 * 1024 + k.val = k.val; rw [h1] <;> omega

/-- What a point writes back. -/
theorem block_result (c : Dev nD) (t : Fin cfg0.N) (r : Fin 512) (l : Fin 1024) :
    outsAt0 m c t (ValueIdx.ix2 r l) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (⟨512 * (tOf t).val + r.val, by omega⟩ : Fin 512) l) := by
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ _ _ _ _ _ _ r l).trans ?_
  have es : streamRow (iblk m c 0 t) (iblk m c 1 t) (iblk m c 2 t) (iblk m c 3 t) r = stream (m ((c : Thread nD τ).loc main_arg0)) (m ((c : Thread nD τ).loc main_arg1)) (m ((c : Thread nD τ).loc main_arg2)) (⟨512 * (tOf t).val + r.val, by omega⟩ : Fin 512) := by
    funext l
    unfold streamRow stream
    exact congrArg₂ (fun s t => s + t) (congrArg₂ (fun s t => s + t) (x_block m c t r l) (sum_congr rfl fun k _ => congrArg₂ (fun s t => s * t) (a_block m c t r k) (wo_block m c t _ l)))
      (sum_congr rfl fun k _ => congrArg₂ (fun s t => s * t) (b_block m c t r k) (wo_block m c t _ l))
  have eg : (fun k : Fin 1024 => iblk m c 4 t (ValueIdx.ix2 (0 : Fin 1) k)) = fun k : Fin 1024 => (m ((c : Thread nD τ).loc main_arg3) : FVec Ideal S2x1024 .f32) (ix2 (1 : Fin 2) k) := funext fun k => g_block m c t k
  have eu : (fun (k : Fin 1024) (f : Fin 4096) => iblk m c 5 t (ValueIdx.ix2 k f)) = fun k f => (m ((c : Thread nD τ).loc main_arg4) : FVec Ideal S2x1024x4096 .f32) (ix3 (1 : Fin 2) k f) := funext fun k => funext fun f => wu_block m c t k f
  have ed : (fun (f : Fin 4096) (k : Fin 1024) => iblk m c 6 t (ValueIdx.ix2 f k)) = fun f k => (m ((c : Thread nD τ).loc main_arg5) : FVec Ideal S2x4096x1024 .f32) (ix3 (1 : Fin 2) f k) := funext fun f => funext fun k => wd_block m c t f k
  have ef : (fun k : Fin 1024 => iblk m c 7 t (ValueIdx.ix2 (0 : Fin 1) k)) = fun k : Fin 1024 => (m ((c : Thread nD τ).loc main_arg6) : FVec Ideal S1024 .f32) (ix1 k) := funext fun k => gf_block m c t k
  unfold result
  exact congrArg₂ (fun z w => rmsRow z w l) (mlpRow_congr es eg eu ed) ef

/-- The blocks cover the array. -/
theorem covered (i : ℕ) (hi : i < 1) : ∃ t : Fin cfg0.N, (tOf t).val = i := by
  obtain ⟨t, h⟩ := (by decide +kernel : ∀ i : Fin 1, ∃ t : Fin grid0.N, (grid0.coords t 0).val = i.val) ⟨i, hi⟩
  exact ⟨t, h⟩

/-- The whole array. -/
theorem final (c : Dev nD) : (dats m 0 c).arrAt 8 cfg0.N
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hemb : ∀ (t : Fin cfg0.N) (r : Fin 512) (l : Fin 1024), (win0_8.rect t).emb (ValueIdx.ix2 r l) = ix2 (⟨512 * (tOf t).val + r.val, by omega⟩ : Fin 512) l := by
    intro t r l
    obtain ⟨h0, h1⟩ := index8 t
    refine funext fun a => Fin.ext ?_
    refine (win0_8.rect_emb_val t _ a).trans ?_
    match a with
    | ⟨0, _⟩ => show win0_8.index t 0 * 512 + r.val = _; rw [h0]; show (tOf t).val * 512 + r.val = 512 * (tOf t).val + r.val; omega
    | ⟨1, _⟩ => show win0_8.index t 1 * 1024 + l.val = l.val; rw [h1] <;> omega
  refine (dats m 0 c).arrAt_eq_of_cover 8 _ (fun t _ => ?_) (fun y => ?_)
  · rw [Value.flushed8]
    funext y
    obtain ⟨r, l, rfl⟩ : ∃ (r : Fin 512) (l : Fin 1024), y = ValueIdx.ix2 r l := ⟨y 0, y 1, by
      funext a; match a with | ⟨0, _⟩ => rfl | ⟨1, _⟩ => rfl⟩
    refine (block_result m c t r l).trans ?_
    exact congrArg _ (hemb t r l).symm
  · have hT : (y 0).val < 512 := (y 0).isLt
    obtain ⟨t, hi⟩ := covered ((y 0).val / 512) (by omega)
    refine ⟨t, flush0_8 t, ?_⟩
    have e : y = (win0_8.rect t).emb (ValueIdx.ix2 (⟨(y 0).val % 512, Nat.mod_lt _ (by norm_num)⟩ : Fin 512) (show Fin 1024 from y 1)) := by
      refine Eq.trans ?_ (hemb t _ (show Fin 1024 from y 1)).symm
      funext a
      match a with
      | ⟨0, _⟩ => exact Fin.ext (by show (y 0).val = 512 * (tOf t).val + (y 0).val % 512; rw [hi]; omega)
      | ⟨1, _⟩ => rfl
    rw [e]
    exact Finset.mem_map_of_mem _ (Finset.mem_univ _)

/-- The run, with the result named. -/
theorem run_result : θ_run defs (onTc (τ := τ) (main (F := Ideal))) ⟨m, fun _ => 0, ρ⟩ fun r => ∀ c : Dev nD,
      r.2.mem ((c : Thread nD τ).loc main_v12) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.FinalSampleIdeal.Hand

end
-- ==== Proof.FinalSampleReference.lean ====
/-
  What the reference of the output projection and feed-forward call on the samples with the final norm computes, element by element,
  and that the kernel's result is the same.
-/
module

public import proofs.«01_k».proof.Proof.Gen.FinalSampleRefIdeal.Run
public import proofs.«01_k».proof.Proof.FinalSampleValue

@[expose] public section

noncomputable section

namespace Cert.FinalSampleRefIdeal.Hand

open Cert.FinalSampleRefIdeal Cert.FinalSampleRefIdeal.Gen Cert.Rows
open Idealize.ShloMosaic Idealize.ShloMosaic.TcCoe Finset

/-- The residual stream plus the mixer's output times the projection. -/
def streamR (x : FVec Ideal S512x1024 .f32) (o : FVec Ideal S512x1024 .bf16) (wo : FVec Ideal S1x1024x1024 .f32) : FVec Ideal S512x1024 .f32 :=
  addf x (Host.dotGeneral dot_S512x1024_S1024x1024_S512x1024_1_0_0_1_n_n none (extf .f32 o bitsLt_bf16_f32) (shapeCast _ wo shapeCasts_S1x1024x1024_S1024x1024))

/-- The rows normalised, times the gains. -/
def normR (x : FVec Ideal S512x1024 .f32) (g : FVec Ideal S1024 .f32) : FVec Ideal S512x1024 .f32 :=
  mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 g))

/-- The layer's gains. -/
def gainR (g : FVec Ideal S2x1024 .f32) : FVec Ideal S1024 .f32 := shapeCast _ (extractStridedSlice S1x1024 ![1, 0] g slices_S2x1024_S1x1024_1_0) shapeCasts_S1x1024_S1024

/-- The positive part of the hidden features. -/
def actR (h : FVec Ideal S512x1024 .f32) (wu : FVec Ideal S2x1024x4096 .f32) : FVec Ideal S512x4096 .f32 :=
  maximumf (Host.dotGeneral dot_S512x1024_S1024x4096_S512x4096_1_0_0_1_n_n none h (shapeCast _ (extractStridedSlice S1x1024x4096 ![1, 0, 0] wu slices_S2x1024x4096_S1x1024x4096_1_0_0) shapeCasts_S1x1024x4096_S1024x4096)) (broadcastInDim S512x4096 ![] bcast_S_S512x4096 (constant S_ .f32 0x00000000#32))

/-- The stream plus its feed-forward part. -/
def mlpR (x : FVec Ideal S512x1024 .f32) (a : FVec Ideal S512x4096 .f32) (wd : FVec Ideal S2x4096x1024 .f32) : FVec Ideal S512x1024 .f32 :=
  addf x (Host.dotGeneral dot_S512x4096_S4096x1024_S512x1024_1_0_0_1_n_n none (mulf a a) (shapeCast _ (extractStridedSlice S1x4096x1024 ![1, 0, 0] wd slices_S2x4096x1024_S1x4096x1024_1_0_0) shapeCasts_S1x4096x1024_S4096x1024))

/-- The layer's feed-forward half. -/
def layerR (x : FVec Ideal S512x1024 .f32) (g : FVec Ideal S2x1024 .f32) (wu : FVec Ideal S2x1024x4096 .f32) (wd : FVec Ideal S2x4096x1024 .f32) : FVec Ideal S512x1024 .f32 :=
  mlpR x (actR (normR x (gainR g)) wu) wd

/-- The composed term is these stages. -/
theorem res_eq (m : (ℓ : Loc nD τ sig) → Buf (Elt Ideal) ℓ) (c : Dev nD) : Value.res_out0 m c
    = normR (layerR (streamR (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))) (m ((c : Thread nD τ).loc main_arg6)) := rfl

theorem streamR_apply (x : FVec Ideal S512x1024 .f32) (o : FVec Ideal S512x1024 .bf16) (wo : FVec Ideal S1x1024x1024 .f32) (R : Fin 512) (l : Fin 1024) :
    streamR x o wo (ix2 R l) = FinalSampleIdeal.Hand.stream x o wo R l := by
  have e : streamR x o wo (ix2 R l) = x (ix2 R l) + ∑ k : Fin 1024, o (ix2 R k) * wo (ix3 (0 : Fin 1) k l) := by
    pointwise [streamR]
  rw [e, sum_halves, ← add_assoc]
  rfl

theorem normR_apply (x : FVec Ideal S512x1024 .f32) (g : FVec Ideal S1024 .f32) (R : Fin 512) (l : Fin 1024) :
    normR x g (ix2 R l) = rmsRow (fun k => x (ix2 R k)) (fun k => g (ix1 k)) l := by
  pointwise [normR, rmsRow]

theorem gainR_apply (g : FVec Ideal S2x1024 .f32) (k : Fin 1024) : gainR g (ix1 k) = g (ix2 (1 : Fin 2) k) := by
  pointwise [gainR]

theorem actR_apply (h : FVec Ideal S512x1024 .f32) (wu : FVec Ideal S2x1024x4096 .f32) (R : Fin 512) (f : Fin 4096) :
    actR h wu (ix2 R f) = max (∑ k : Fin 1024, h (ix2 R k) * wu (ix3 (1 : Fin 2) k f)) 0 := by
  pointwise [actR]

theorem mlpR_apply (x : FVec Ideal S512x1024 .f32) (a : FVec Ideal S512x4096 .f32) (wd : FVec Ideal S2x4096x1024 .f32) (R : Fin 512) (l : Fin 1024) :
    mlpR x a wd (ix2 R l) = x (ix2 R l) + ∑ f : Fin 4096, a (ix2 R f) * a (ix2 R f) * wd (ix3 (1 : Fin 2) f l) := by
  pointwise [mlpR]

theorem layerR_apply (x : FVec Ideal S512x1024 .f32) (g : FVec Ideal S2x1024 .f32) (wu : FVec Ideal S2x1024x4096 .f32) (wd : FVec Ideal S2x4096x1024 .f32) (R : Fin 512) (l : Fin 1024) :
    layerR x g wu wd (ix2 R l) = mlpRow (fun k => x (ix2 R k)) (fun k => g (ix2 (1 : Fin 2) k)) (fun k f => wu (ix3 (1 : Fin 2) k f)) (fun f k => wd (ix3 (1 : Fin 2) f k)) l := by
  unfold layerR mlpRow term
  rw [mlpR_apply]
  simp only [actR_apply, normR_apply, gainR_apply]

/-- The kernel's result is the reference's. -/
theorem equation (x : FVec Ideal S512x1024 .f32) (o : FVec Ideal S512x1024 .bf16) (wo : FVec Ideal S1x1024x1024 .f32) (g : FVec Ideal S2x1024 .f32) (wu : FVec Ideal S2x1024x4096 .f32) (wd : FVec Ideal S2x4096x1024 .f32) (gf : FVec Ideal S1024 .f32) :
    normR (layerR (streamR x o wo) g wu wd) gf = FinalSampleIdeal.Hand.result x o wo g wu wd gf := by
  funext y
  obtain ⟨R, l, rfl⟩ : ∃ (R : Fin 512) (l : Fin 1024), y = ix2 R l := ⟨y 0, y 1, by
    funext a; match a with | ⟨0, _⟩ => rfl | ⟨1, _⟩ => rfl⟩
  rw [normR_apply]
  simp only [layerR_apply, streamR_apply]
  rfl

end Cert.FinalSampleRefIdeal.Hand

end
-- ==== Proof.FirstSampleBlock.lean ====
/-
  What a grid point of the output projection and feed-forward call on the samples of the first layer writes: the values its kernel stores, one
  after the other, read at a row and a column.
-/
module

public import proofs.«01_k».proof.Proof.Gen.FirstSampleIdeal.Value
public import proofs.«01_k».proof.Proof.Rows
public import Idealize.ShloMosaic.Lib.Pipeline.ValueKit.Acc
public import Idealize.ShloMosaic.Lib.Pipeline.ValueKit.Tiles

@[expose] public section

noncomputable section

namespace Cert.FirstSampleIdeal.Hand

open Cert.FirstSampleIdeal Cert.FirstSampleIdeal.Gen Cert.Rows
open Idealize.ShloMosaic Idealize.ShloMosaic.TcCoe Finset

/-- What a chunk adds to the row `r`, column `l`. -/
def part (h : Vec Ideal S512x1024 .bf16) (u : Vec Ideal S1024x512 .bf16) (d : Vec Ideal S512x1024 .bf16) (r : Fin 512) (l : Fin 1024) : EReal :=
  ∑ x : Fin 512, max (∑ k : Fin 1024, h (ix2 r k) * u (ix2 k x)) 0 * max (∑ k : Fin 1024, h (ix2 r k) * u (ix2 k x)) 0 * d (ix2 x l)

section

variable (h : Vec Ideal S512x1024 .bf16) (u : Vec Ideal S1024x512 .bf16) (y : Vec Ideal S512x1024 .f32) (d : Vec Ideal S512x1024 .bf16) (r : Fin 512) (l : Fin 1024)

theorem chunk0_apply : k0_pay5 h u y d (ix2 r l) = y (ix2 r l) + part h u d r l := by
  pointwise [k0_pay5, part]

theorem chunk1_apply : k0_pay6 h u y d (ix2 r l) = y (ix2 r l) + part h u d r l := by
  pointwise [k0_pay6, part]

theorem chunk2_apply : k0_pay8 h (k0_pay7 u) (constant S512x512 .f32 0x00000000#32) y d (ix2 r l) = y (ix2 r l) + part h u d r l := by
  pointwise [k0_pay8, k0_pay7, part]

theorem chunk3_apply : k0_pay9 h u y d (ix2 r l) = y (ix2 r l) + part h u d r l := by
  pointwise [k0_pay9, part]

theorem chunk4_apply : k0_pay11 (k0_pay10 h u) (FloatOps.ofBits .f32 0x00000000#32) y d (ix2 r l) = y (ix2 r l) + part h u d r l := by
  pointwise [k0_pay11, k0_pay10, part]

theorem chunk5_apply : k0_pay12 h u y d (ix2 r l) = y (ix2 r l) + part h u d r l := by
  pointwise [k0_pay12, part]

theorem chunk6_apply : k0_pay1 (k0_pay13 h u) y d (ix2 r l) = y (ix2 r l) + part h u d r l := by
  pointwise [k0_pay1, k0_pay13, part]

theorem chunk7_apply : k0_pay2 h u y d (ix2 r l) = y (ix2 r l) + part h u d r l := by
  pointwise [k0_pay2, part]

end

theorem stream_apply (x : Vec Ideal S512x1024 .f32) (a : Vec Ideal S512x512 .bf16) (u : Vec Ideal S512x1024 .bf16) (b : Vec Ideal S512x512 .bf16) (v : Vec Ideal S512x1024 .bf16) (r : Fin 512) (l : Fin 1024) :
    k0_pay3 x a u b v (ix2 r l) = x (ix2 r l) + ∑ k : Fin 512, a (ix2 r k) * u (ix2 k l) + ∑ k : Fin 512, b (ix2 r k) * v (ix2 k l) := by
  pointwise [k0_pay3]

theorem norm_apply (x : Vec Ideal S512x1024 .f32) (a : Vec Ideal S512x512 .bf16) (u : Vec Ideal S512x1024 .bf16) (b : Vec Ideal S512x512 .bf16) (v : Vec Ideal S512x1024 .bf16) (g : Vec Ideal S1x1024 .f32) (r : Fin 512) (l : Fin 1024) :
    k0_pay4 x a u b v g (ix2 r l) = rmsRow (fun k => k0_pay3 x a u b v (ix2 r k)) (fun k => g (ix2 0 k)) l := by
  pointwise [k0_pay4, rmsRow]

/-- A chunk whose weights are loaded from the whole matrices at chunk `c`. -/
theorem part_ld (h : Vec Ideal S512x1024 .bf16) (wu : Vec Ideal S1024x4096 .bf16) (wd : Vec Ideal S4096x1024 .bf16) (n : ℕ) (c : Fin 8) (e : n = 512 * c.val) (i1) (i2) (r : Fin 512) (l : Fin 1024) :
    part h (View.ld wu (Rect.unit (s := S1024x4096) ![0, n] ![1024, 512] i1)) (View.ld wd (Rect.unit (s := S4096x1024) ![n, 0] ![512, 1024] i2)) r l
      = chunk (term (fun k => h (ix2 r k)) (fun k f => wu (ix2 k f)) (fun f k => wd (ix2 f k)) l) c := by
  subst e
  unfold part chunk term
  have e1 : ∀ (k : Fin 1024) (x : Fin 512), View.ld wu (Rect.unit (s := S1024x4096) ![0, 512 * c.val] ![1024, 512] i1) (ix2 k x) = wu (ix2 k (⟨512 * c.val + x.val, by omega⟩ : Fin 4096)) := fun k x =>
    View.ld_unit_apply_of _ _ _ _ _ _ fun a => match a with
      | ⟨0, _⟩ => (Nat.zero_add _).symm
      | ⟨1, _⟩ => rfl
  have e2 : ∀ (x : Fin 512), View.ld wd (Rect.unit (s := S4096x1024) ![512 * c.val, 0] ![512, 1024] i2) (ix2 x l) = wd (ix2 (⟨512 * c.val + x.val, by omega⟩ : Fin 4096) l) := fun x =>
    View.ld_unit_apply_of _ _ _ _ _ _ fun a => match a with
      | ⟨0, _⟩ => rfl
      | ⟨1, _⟩ => (Nat.zero_add _).symm
  simp only [e1, e2]

/-- The two products with the halves of the projection are one sum over the two halves. -/
theorem wo_lo (wo : Vec Ideal S1024x1024 .bf16) (i) (k : Fin 512) (l : Fin 1024) :
    View.ld wo (Rect.unit (s := S1024x1024) ![0, 0] ![512, 1024] i) (ix2 k l) = wo (ix2 (⟨k.val, by omega⟩ : Fin 1024) l) :=
  View.ld_unit_apply_of _ _ _ _ _ _ fun a => match a with
    | ⟨0, _⟩ => (Nat.zero_add _).symm
    | ⟨1, _⟩ => (Nat.zero_add _).symm

theorem wo_hi (wo : Vec Ideal S1024x1024 .bf16) (i) (k : Fin 512) (l : Fin 1024) :
    View.ld wo (Rect.unit (s := S1024x1024) ![512, 0] ![512, 1024] i) (ix2 k l) = wo (ix2 (⟨512 + k.val, by omega⟩ : Fin 1024) l) :=
  View.ld_unit_apply_of _ _ _ _ _ _ fun a => match a with
    | ⟨0, _⟩ => rfl
    | ⟨1, _⟩ => (Nat.zero_add _).symm

theorem hz : (![0, 0] : Fin 2 → ℕ) = fun _ => 0 := by decide

/-- The residual stream's row after the projection, in a point's block. -/
def streamRow (x : Vec Ideal S512x1024 .f32) (a b : Vec Ideal S512x512 .bf16) (wo : Vec Ideal S1024x1024 .bf16) (r : Fin 512) (l : Fin 1024) : EReal :=
  x (ix2 r l) + (∑ k : Fin 512, a (ix2 r k) * wo (ix2 (⟨k.val, by omega⟩ : Fin 1024) l)) + ∑ k : Fin 512, b (ix2 r k) * wo (ix2 (⟨512 + k.val, by omega⟩ : Fin 1024) l)

theorem stream_ld (x : Vec Ideal S512x1024 .f32) (a b : Vec Ideal S512x512 .bf16) (wo : Vec Ideal S1024x1024 .bf16) (i1) (i2) (r : Fin 512) (l : Fin 1024) :
    k0_pay3 x a (View.ld wo (Rect.unit (s := S1024x1024) ![0, 0] ![512, 1024] i1)) b (View.ld wo (Rect.unit (s := S1024x1024) ![512, 0] ![512, 1024] i2)) (ix2 r l)
      = streamRow x a b wo r l :=
  (stream_apply _ _ _ _ _ r l).trans (congrArg₂ (fun s t => x (ix2 r l) + s + t)
    (sum_congr rfl fun k _ => congrArg (a (ix2 r k) * ·) (wo_lo wo i1 k l)) (sum_congr rfl fun k _ => congrArg (b (ix2 r k) * ·) (wo_hi wo i2 k l)))

theorem norm_ld (x : Vec Ideal S512x1024 .f32) (a b : Vec Ideal S512x512 .bf16) (wo : Vec Ideal S1024x1024 .bf16) (i1) (i2) (g : Vec Ideal S1x1024 .f32) (r : Fin 512) (l : Fin 1024) :
    k0_pay4 x a (View.ld wo (Rect.unit (s := S1024x1024) ![0, 0] ![512, 1024] i1)) b (View.ld wo (Rect.unit (s := S1024x1024) ![512, 0] ![512, 1024] i2)) g (ix2 r l)
      = rmsRow (streamRow x a b wo r) (fun k => g (ix2 0 k)) l :=
  (norm_apply _ _ _ _ _ g r l).trans (congrArg (fun z => rmsRow z (fun k => g (ix2 0 k)) l) (funext fun k => stream_ld x a b wo i1 i2 r k))

set_option maxHeartbeats 1000000 in
/-- The block a point writes, at row `r` and column `l`. -/
theorem out_apply (c : Dev nD) (i : grid0.Coords) (a1 : Memref sig .tc .vmem S512x1024 .f32) (h1 : a1.IsWhole) (a2 : Memref sig .tc .vmem S512x512 .bf16) (h2 : a2.IsWhole) (a3 : Memref sig .tc .vmem S512x512 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1024x4096 .bf16) (h6 : a6.IsWhole) (a7 : Memref sig .tc .vmem S4096x1024 .bf16) (h7 : a7.IsWhole) (a8 : Memref sig .tc .vmem S1x1024 .f32) (h8 : a8.IsWhole) (a9 : Memref sig .tc .vmem S512x1024 .f32) (h9 : a9.IsWhole)
    (a10 : Memref sig .tc .vmem S512x1024 .bf16) (h10 : a10.IsWhole)
    (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1024x4096 .bf16) (x6 : Vec Ideal S4096x1024 .bf16) (x7 : Vec Ideal S1x1024 .f32) (r : Fin 512) (l : Fin 1024) :
    out0_A_8 c i a1 h1 a2 h2 a3 h3 a4 h4 a5 h5 a6 h6 a7 h7 a8 h8 a9 h9 a10 h10 x0 x1 x2 x3 x4 x5 x6 x7 (ix2 r l)
      = mlpRow (streamRow x0 x1 x2 x3 r) (fun k => x4 (ix2 0 k)) (fun k f => x5 (ix2 k f)) (fun f k => x6 (ix2 f k)) l := by
  unfold out0_A_8
  rw [View.read_writes_eq_canon _ _ _ (cover0_A_8 c i a1 h1 a2 h2 a3 h3 a4 h4 a5 h5 a6 h6 a7 h7 a8 h8 a9 h9 a10 h10 x0 x1 x2 x3 x4 x5 x6 x7)]
  unfold kernelRun0_A
  dsimp only
  sl_unfold_words
  rw [View.canon_cons_unit_zero (S := S512x1024) hz]
  simp only [View.readAt_eq_ld, h1.read_unread, h2.read_unread, h3.read_unread, h4.read_unread, h5.read_unread, h6.read_unread, h7.read_unread, h8.read_unread,
    View.readCov_unit_zero (S := S512x1024) _ hz, View.ld_unit_zero (S := S512x1024) hz, View.ld_unit_zero (S := S512x512) hz, View.ld_unit_zero (S := S1x1024) hz,
    View.readCov_cons_unit_lit' (S := S512x1024) _ _ _ _ _ (congrFun hz) (congrFun hz)]
  rw [chunk7_apply, chunk6_apply, chunk5_apply, chunk4_apply, chunk3_apply, chunk2_apply, chunk1_apply, chunk0_apply]
  rw [part_ld _ _ _ 3584 7 rfl, part_ld _ _ _ 3072 6 rfl, part_ld _ _ _ 2560 5 rfl, part_ld _ _ _ 2048 4 rfl, part_ld _ _ _ 1536 3 rfl, part_ld _ _ _ 1024 2 rfl, part_ld _ _ _ 512 1 rfl, part_ld _ _ _ 0 0 rfl]
  rw [add_chunks]
  simp only [norm_ld, stream_ld]
  rfl

end Cert.FirstSampleIdeal.Hand

end
-- ==== Proof.FirstSampleValue.lean ====
/-
  What the output projection and feed-forward call on the samples of the first layer leaves in its result array after the run: every
  row of the residual stream plus the mixer's output times the projection, plus the feed-forward part.
-/
module

public import proofs.«01_k».proof.Proof.FirstSampleBlock
public import Idealize.ShloMosaic.Lib.Pipeline.Value

@[expose] public section

noncomputable section

namespace Cert.FirstSampleIdeal.Hand

open Cert.FirstSampleIdeal Cert.FirstSampleIdeal.Gen Cert.Rows
open Idealize.ShloMosaic Idealize.ShloMosaic.TcCoe Idealize.SL.Sem Finset

/-- The residual stream's row after the projection. -/
def stream (x : FVec Ideal S512x1024 .f32) (a b : FVec Ideal S512x512 .bf16) (wo : FVec Ideal S1x1024x1024 .f32) (R : Fin 512) (l : Fin 1024) : EReal :=
  x (ix2 R l) + (∑ k : Fin 512, a (ix2 R k) * wo (ix3 (0 : Fin 1) (⟨k.val, by omega⟩ : Fin 1024) l))
    + ∑ k : Fin 512, b (ix2 R k) * wo (ix3 (0 : Fin 1) (⟨512 + k.val, by omega⟩ : Fin 1024) l)

/-- The result, from the arguments. -/
def result (x : FVec Ideal S512x1024 .f32) (a b : FVec Ideal S512x512 .bf16) (wo : FVec Ideal S1x1024x1024 .f32) (g : FVec Ideal S2x1024 .f32)
    (wu : FVec Ideal S2x1024x4096 .f32) (wd : FVec Ideal S2x4096x1024 .f32) : FVec Ideal S512x1024 .f32 := fun y =>
  mlpRow (stream x a b wo (y 0)) (fun k => g (ix2 (0 : Fin 2) k)) (fun k f => wu (ix3 (0 : Fin 2) k f)) (fun f k => wd (ix3 (0 : Fin 2) f k)) (y 1)

theorem read_wo (w : FVec Ideal S1x1024x1024 .f32) (k l : Fin 1024) : (truncf .bf16 (shapeCast S1024x1024 w shapeCasts_S1x1024x1024_S1024x1024) bitsLt_bf16_f32 : FVec Ideal S1024x1024 .bf16) (ix2 k l) = w (ix3 (0 : Fin 1) k l) := by
  pointwise []

theorem read_g (w : FVec Ideal S2x1024 .f32) (k : Fin 1024) : (shapeCast S1x1024 (shapeCast S1024 (extractStridedSlice S1x1024 ![0, 0] w slices_S2x1024_S1x1024_0_0) shapeCasts_S1x1024_S1024) shapeCasts_S1024_S1x1024 : FVec Ideal S1x1024 .f32) (ix2 (0 : Fin 1) k) = w (ix2 (0 : Fin 2) k) := by
  pointwise []

theorem read_wu (w : FVec Ideal S2x1024x4096 .f32) (k : Fin 1024) (l : Fin 4096) : (truncf .bf16 (shapeCast S1024x4096 (extractStridedSlice S1x1024x4096 ![0, 0, 0] w slices_S2x1024x4096_S1x1024x4096_0_0_0) shapeCasts_S1x1024x4096_S1024x4096) bitsLt_bf16_f32 : FVec Ideal S1024x4096 .bf16) (ix2 k l) = w (ix3 (0 : Fin 2) k l) := by
  pointwise []

theorem read_wd (w : FVec Ideal S2x4096x1024 .f32) (k : Fin 4096) (l : Fin 1024) : (truncf .bf16 (shapeCast S4096x1024 (extractStridedSlice S1x4096x1024 ![0, 0, 0] w slices_S2x4096x1024_S1x4096x1024_0_0_0) shapeCasts_S1x4096x1024_S4096x1024) bitsLt_bf16_f32 : FVec Ideal S4096x1024 .bf16) (ix2 k l) = w (ix3 (0 : Fin 2) k l) := by
  pointwise []

variable (m : (ℓ : Loc nD τ sig) → Buf (Elt Ideal) ℓ) (ρ : Dev nD → PrngReg)

/-! What the region finds in the arrays the host operations wrote. -/

theorem V_wo (c : Dev nD) (k l : Fin 1024) : (V m c main_v1 : FVec Ideal S1024x1024 .bf16) (ix2 k l) = (m ((c : Thread nD τ).loc main_arg3) : FVec Ideal S1x1024x1024 .f32) (ix3 (0 : Fin 1) k l) := by
  have e : V m c main_v1 = (truncf .bf16 (shapeCast S1024x1024 (m ((c : Thread nD τ).loc main_arg3) : FVec Ideal S1x1024x1024 .f32) shapeCasts_S1x1024x1024_S1024x1024) bitsLt_bf16_f32 : FVec Ideal S1024x1024 .bf16) := by
    unfold V
    simp only [hostOps0]
    after_results <;> rfl
  exact (congrFun e _).trans (read_wo _ k l)

theorem V_g (c : Dev nD) (k : Fin 1024) : (V m c main_v4 : FVec Ideal S1x1024 .f32) (ix2 (0 : Fin 1) k) = (m ((c : Thread nD τ).loc main_arg4) : FVec Ideal S2x1024 .f32) (ix2 (0 : Fin 2) k) := by
  have e : V m c main_v4 = (shapeCast S1x1024 (shapeCast S1024 (extractStridedSlice S1x1024 ![0, 0] (m ((c : Thread nD τ).loc main_arg4) : FVec Ideal S2x1024 .f32) slices_S2x1024_S1x1024_0_0) shapeCasts_S1x1024_S1024) shapeCasts_S1024_S1x1024 : FVec Ideal S1x1024 .f32) := by
    unfold V
    simp only [hostOps0]
    after_results <;> rfl
  exact (congrFun e _).trans (read_g _ k)

theorem V_wu (c : Dev nD) (k : Fin 1024) (l : Fin 4096) : (V m c main_v7 : FVec Ideal S1024x4096 .bf16) (ix2 k l) = (m ((c : Thread nD τ).loc main_arg5) : FVec Ideal S2x1024x4096 .f32) (ix3 (0 : Fin 2) k l) := by
  have e : V m c main_v7 = (truncf .bf16 (shapeCast S1024x4096 (extractStridedSlice S1x1024x4096 ![0, 0, 0] (m ((c : Thread nD τ).loc main_arg5) : FVec Ideal S2x1024x4096 .f32) slices_S2x1024x4096_S1x1024x4096_0_0_0) shapeCasts_S1x1024x4096_S1024x4096) bitsLt_bf16_f32 : FVec Ideal S1024x4096 .bf16) := by
    unfold V
    simp only [hostOps0]
    after_results <;> rfl
  exact (congrFun e _).trans (read_wu _ k l)

theorem V_wd (c : Dev nD) (k : Fin 4096) (l : Fin 1024) : (V m c main_v10 : FVec Ideal S4096x1024 .bf16) (ix2 k l) = (m ((c : Thread nD τ).loc main_arg6) : FVec Ideal S2x4096x1024 .f32) (ix3 (0 : Fin 2) k l) := by
  have e : V m c main_v10 = (truncf .bf16 (shapeCast S4096x1024 (extractStridedSlice S1x4096x1024 ![0, 0, 0] (m ((c : Thread nD τ).loc main_arg6) : FVec Ideal S2x4096x1024 .f32) slices_S2x4096x1024_S1x4096x1024_0_0_0) shapeCasts_S1x4096x1024_S4096x1024) bitsLt_bf16_f32 : FVec Ideal S4096x1024 .bf16) := by
    unfold V
    simp only [hostOps0]
    after_results <;> rfl
  exact (congrFun e _).trans (read_wd _ k l)

/-! The index maps, decided over the grid. -/

abbrev tOf (t : Fin cfg0.N) : Fin 1 := grid0.coords t 0

theorem index0 (t : Fin cfg0.N) : win0_0.index t 0 = (grid0.coords t 0).val ∧ win0_0.index t 1 = 0 :=
  (by decide +kernel : ∀ t : Fin grid0.N, win0_0.index t 0 = (grid0.coords t 0).val ∧ win0_0.index t 1 = 0) t

theorem index1 (t : Fin cfg0.N) : win0_1.index t 0 = (grid0.coords t 0).val ∧ win0_1.index t 1 = 0 :=
  (by decide +kernel : ∀ t : Fin grid0.N, win0_1.index t 0 = (grid0.coords t 0).val ∧ win0_1.index t 1 = 0) t

theorem index2 (t : Fin cfg0.N) : win0_2.index t 0 = (grid0.coords t 0).val ∧ win0_2.index t 1 = 0 :=
  (by decide +kernel : ∀ t : Fin grid0.N, win0_2.index t 0 = (grid0.coords t 0).val ∧ win0_2.index t 1 = 0) t

theorem index3 (t : Fin cfg0.N) : win0_3.index t 0 = 0 ∧ win0_3.index t 1 = 0 :=
  (by decide +kernel : ∀ t : Fin grid0.N, win0_3.index t 0 = 0 ∧ win0_3.index t 1 = 0) t

theorem index4 (t : Fin cfg0.N) : win0_4.index t 0 = 0 ∧ win0_4.index t 1 = 0 :=
  (by decide +kernel : ∀ t : Fin grid0.N, win0_4.index t 0 = 0 ∧ win0_4.index t 1 = 0) t

theorem index5 (t : Fin cfg0.N) : win0_5.index t 0 = 0 ∧ win0_5.index t 1 = 0 :=
  (by decide +kernel : ∀ t : Fin grid0.N, win0_5.index t 0 = 0 ∧ win0_5.index t 1 = 0) t

theorem index6 (t : Fin cfg0.N) : win0_6.index t 0 = 0 ∧ win0_6.index t 1 = 0 :=
  (by decide +kernel : ∀ t : Fin grid0.N, win0_6.index t 0 = 0 ∧ win0_6.index t 1 = 0) t

theorem index8 (t : Fin cfg0.N) : win0_8.index t 0 = (grid0.coords t 0).val ∧ win0_8.index t 1 = 0 :=
  (by decide +kernel : ∀ t : Fin grid0.N, win0_8.index t 0 = (grid0.coords t 0).val ∧ win0_8.index t 1 = 0) t

/-! The windows' blocks, in the arrays. -/

theorem x_block (c : Dev nD) (t : Fin cfg0.N) (r : Fin 512) (k : Fin 1024) :
    iblk m c 0 t (ValueIdx.ix2 r k) = (m ((c : Thread nD τ).loc main_arg0) : FVec Ideal S512x1024 .f32) (ix2 (⟨512 * (tOf t).val + r.val, by omega⟩ : Fin 512) k) := by
  show V m c (Pipeline.arrRef spec0 0) ((win0_0.rect t).emb (ValueIdx.ix2 r k)) = _
  rw [show V m c (Pipeline.arrRef spec0 0) = m ((c : Thread nD τ).loc main_arg0) from V_main_arg0 m c]
  obtain ⟨h0, h1⟩ := index0 t
  refine congrArg _ (funext fun a => Fin.ext ?_)
  refine (win0_0.rect_emb_val t _ a).trans ?_
  match a with
  | ⟨0, _⟩ => show win0_0.index t 0 * 512 + r.val = _; rw [h0]; show (tOf t).val * 512 + r.val = 512 * (tOf t).val + r.val; omega
  | ⟨1, _⟩ => show win0_0.index t 1 * 1024 + k.val = k.val; rw [h1] <;> omega

theorem a_block (c : Dev nD) (t : Fin cfg0.N) (r : Fin 512) (k : Fin 512) :
    iblk m c 1 t (ValueIdx.ix2 r k) = (m ((c : Thread nD τ).loc main_arg1) : FVec Ideal S512x512 .bf16) (ix2 (⟨512 * (tOf t).val + r.val, by omega⟩ : Fin 512) k) := by
  show V m c (Pipeline.arrRef spec0 1) ((win0_1.rect t).emb (ValueIdx.ix2 r k)) = _
  rw [show V m c (Pipeline.arrRef spec0 1) = m ((c : Thread nD τ).loc main_arg1) from V_main_arg1 m c]
  obtain ⟨h0, h1⟩ := index1 t
  refine congrArg _ (funext fun a => Fin.ext ?_)
  refine (win0_1.rect_emb_val t _ a).trans ?_
  match a with
  | ⟨0, _⟩ => show win0_1.index t 0 * 512 + r.val = _; rw [h0]; show (tOf t).val * 512 + r.val = 512 * (tOf t).val + r.val; omega
  | ⟨1, _⟩ => show win0_1.index t 1 * 512 + k.val = k.val; rw [h1] <;> omega

theorem b_block (c : Dev nD) (t : Fin cfg0.N) (r : Fin 512) (k : Fin 512) :
    iblk m c 2 t (ValueIdx.ix2 r k) = (m ((c : Thread nD τ).loc main_arg2) : FVec Ideal S512x512 .bf16) (ix2 (⟨512 * (tOf t).val + r.val, by omega⟩ : Fin 512) k) := by
  show V m c (Pipeline.arrRef spec0 2) ((win0_2.rect t).emb (ValueIdx.ix2 r k)) = _
  rw [show V m c (Pipeline.arrRef spec0 2) = m ((c : Thread nD τ).loc main_arg2) from V_main_arg2 m c]
  obtain ⟨h0, h1⟩ := index2 t
  refine congrArg _ (funext fun a => Fin.ext ?_)
  refine (win0_2.rect_emb_val t _ a).trans ?_
  match a with
  | ⟨0, _⟩ => show win0_2.index t 0 * 512 + r.val = _; rw [h0]; show (tOf t).val * 512 + r.val = 512 * (tOf t).val + r.val; omega
  | ⟨1, _⟩ => show win0_2.index t 1 * 512 + k.val = k.val; rw [h1] <;> omega

theorem wo_block (c : Dev nD) (t : Fin cfg0.N) (k l : Fin 1024) :
    iblk m c 3 t (ValueIdx.ix2 k l) = (m ((c : Thread nD τ).loc main_arg3) : FVec Ideal S1x1024x1024 .f32) (ix3 (0 : Fin 1) k l) := by
  refine Eq.trans ?_ (V_wo m c k l)
  show V m c (Pipeline.arrRef spec0 3) ((win0_3.rect t).emb (ValueIdx.ix2 k l)) = _
  obtain ⟨h0, h1⟩ := index3 t
  refine congrArg (V m c main_v1) (funext fun a => Fin.ext ?_)
  refine (win0_3.rect_emb_val t _ a).trans ?_
  match a with
  | ⟨0, _⟩ => show win0_3.index t 0 * 1024 + k.val = k.val; rw [h0] <;> omega
  | ⟨1, _⟩ => show win0_3.index t 1 * 1024 + l.val = l.val; rw [h1] <;> omega

theorem g_block (c : Dev nD) (t : Fin cfg0.N) (k : Fin 1024) :
    iblk m c 4 t (ValueIdx.ix2 (0 : Fin 1) k) = (m ((c : Thread nD τ).loc main_arg4) : FVec Ideal S2x1024 .f32) (ix2 (0 : Fin 2) k) := by
  refine Eq.trans ?_ (V_g m c k)
  show V m c (Pipeline.arrRef spec0 4) ((win0_4.rect t).emb (ValueIdx.ix2 (0 : Fin 1) k)) = _
  obtain ⟨h0, h1⟩ := index4 t
  refine congrArg (V m c main_v4) (funext fun a => Fin.ext ?_)
  refine (win0_4.rect_emb_val t _ a).trans ?_
  match a with
  | ⟨0, _⟩ => show win0_4.index t 0 * 1 + 0 = 0; rw [h0] <;> omega
  | ⟨1, _⟩ => show win0_4.index t 1 * 1024 + k.val = k.val; rw [h1] <;> omega

theorem wu_block (c : Dev nD) (t : Fin cfg0.N) (k : Fin 1024) (l : Fin 4096) :
    iblk m c 5 t (ValueIdx.ix2 k l) = (m ((c : Thread nD τ).loc main_arg5) : FVec Ideal S2x1024x4096 .f32) (ix3 (0 : Fin 2) k l) := by
  refine Eq.trans ?_ (V_wu m c k l)
  show V m c (Pipeline.arrRef spec0 5) ((win0_5.rect t).emb (ValueIdx.ix2 k l)) = _
  obtain ⟨h0, h1⟩ := index5 t
  refine congrArg (V m c main_v7) (funext fun a => Fin.ext ?_)
  refine (win0_5.rect_emb_val t _ a).trans ?_
  match a with
  | ⟨0, _⟩ => show win0_5.index t 0 * 1024 + k.val = k.val; rw [h0] <;> omega
  | ⟨1, _⟩ => show win0_5.index t 1 * 4096 + l.val = l.val; rw [h1] <;> omega

theorem wd_block (c : Dev nD) (t : Fin cfg0.N) (k : Fin 4096) (l : Fin 1024) :
    iblk m c 6 t (ValueIdx.ix2 k l) = (m ((c : Thread nD τ).loc main_arg6) : FVec Ideal S2x4096x1024 .f32) (ix3 (0 : Fin 2) k l) := by
  refine Eq.trans ?_ (V_wd m c k l)
  show V m c (Pipeline.arrRef spec0 6) ((win0_6.rect t).emb (ValueIdx.ix2 k l)) = _
  obtain ⟨h0, h1⟩ := index6 t
  refine congrArg (V m c main_v10) (funext fun a => Fin.ext ?_)
  refine (win0_6.rect_emb_val t _ a).trans ?_
  match a with
  | ⟨0, _⟩ => show win0_6.index t 0 * 4096 + k.val = k.val; rw [h0] <;> omega
  | ⟨1, _⟩ => show win0_6.index t 1 * 1024 + l.val = l.val; rw [h1] <;> omega

/-- What a point writes back. -/
theorem block_result (c : Dev nD) (t : Fin cfg0.N) (r : Fin 512) (l : Fin 1024) :
    outsAt0 m c t (ValueIdx.ix2 r l) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (⟨512 * (tOf t).val + r.val, by omega⟩ : Fin 512) l) := by
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ _ _ _ _ _ _ r l).trans ?_
  have es : streamRow (iblk m c 0 t) (iblk m c 1 t) (iblk m c 2 t) (iblk m c 3 t) r = stream (m ((c : Thread nD τ).loc main_arg0)) (m ((c : Thread nD τ).loc main_arg1)) (m ((c : Thread nD τ).loc main_arg2)) (m ((c : Thread nD τ).loc main_arg3)) (⟨512 * (tOf t).val + r.val, by omega⟩ : Fin 512) := by
    funext l
    unfold streamRow stream
    exact congrArg₂ (fun s t => s + t) (congrArg₂ (fun s t => s + t) (x_block m c t r l) (sum_congr rfl fun k _ => congrArg₂ (fun s t => s * t) (a_block m c t r k) (wo_block m c t _ l)))
      (sum_congr rfl fun k _ => congrArg₂ (fun s t => s * t) (b_block m c t r k) (wo_block m c t _ l))
  have eg : (fun k : Fin 1024 => iblk m c 4 t (ValueIdx.ix2 (0 : Fin 1) k)) = fun k : Fin 1024 => (m ((c : Thread nD τ).loc main_arg4) : FVec Ideal S2x1024 .f32) (ix2 (0 : Fin 2) k) := funext fun k => g_block m c t k
  have eu : (fun (k : Fin 1024) (f : Fin 4096) => iblk m c 5 t (ValueIdx.ix2 k f)) = fun k f => (m ((c : Thread nD τ).loc main_arg5) : FVec Ideal S2x1024x4096 .f32) (ix3 (0 : Fin 2) k f) := funext fun k => funext fun f => wu_block m c t k f
  have ed : (fun (f : Fin 4096) (k : Fin 1024) => iblk m c 6 t (ValueIdx.ix2 f k)) = fun f k => (m ((c : Thread nD τ).loc main_arg6) : FVec Ideal S2x4096x1024 .f32) (ix3 (0 : Fin 2) f k) := funext fun f => funext fun k => wd_block m c t f k
  unfold result
  exact congrFun (mlpRow_congr es eg eu ed) l

/-- The blocks cover the array. -/
theorem covered (i : ℕ) (hi : i < 1) : ∃ t : Fin cfg0.N, (tOf t).val = i := by
  obtain ⟨t, h⟩ := (by decide +kernel : ∀ i : Fin 1, ∃ t : Fin grid0.N, (grid0.coords t 0).val = i.val) ⟨i, hi⟩
  exact ⟨t, h⟩

/-- The whole array. -/
theorem final (c : Dev nD) : (dats m 0 c).arrAt 8 cfg0.N
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hemb : ∀ (t : Fin cfg0.N) (r : Fin 512) (l : Fin 1024), (win0_8.rect t).emb (ValueIdx.ix2 r l) = ix2 (⟨512 * (tOf t).val + r.val, by omega⟩ : Fin 512) l := by
    intro t r l
    obtain ⟨h0, h1⟩ := index8 t
    refine funext fun a => Fin.ext ?_
    refine (win0_8.rect_emb_val t _ a).trans ?_
    match a with
    | ⟨0, _⟩ => show win0_8.index t 0 * 512 + r.val = _; rw [h0]; show (tOf t).val * 512 + r.val = 512 * (tOf t).val + r.val; omega
    | ⟨1, _⟩ => show win0_8.index t 1 * 1024 + l.val = l.val; rw [h1] <;> omega
  refine (dats m 0 c).arrAt_eq_of_cover 8 _ (fun t _ => ?_) (fun y => ?_)
  · rw [Value.flushed8]
    funext y
    obtain ⟨r, l, rfl⟩ : ∃ (r : Fin 512) (l : Fin 1024), y = ValueIdx.ix2 r l := ⟨y 0, y 1, by
      funext a; match a with | ⟨0, _⟩ => rfl | ⟨1, _⟩ => rfl⟩
    refine (block_result m c t r l).trans ?_
    exact congrArg _ (hemb t r l).symm
  · have hT : (y 0).val < 512 := (y 0).isLt
    obtain ⟨t, hi⟩ := covered ((y 0).val / 512) (by omega)
    refine ⟨t, flush0_8 t, ?_⟩
    have e : y = (win0_8.rect t).emb (ValueIdx.ix2 (⟨(y 0).val % 512, Nat.mod_lt _ (by norm_num)⟩ : Fin 512) (show Fin 1024 from y 1)) := by
      refine Eq.trans ?_ (hemb t _ (show Fin 1024 from y 1)).symm
      funext a
      match a with
      | ⟨0, _⟩ => exact Fin.ext (by show (y 0).val = 512 * (tOf t).val + (y 0).val % 512; rw [hi]; omega)
      | ⟨1, _⟩ => rfl
    rw [e]
    exact Finset.mem_map_of_mem _ (Finset.mem_univ _)

/-- The run, with the result named. -/
theorem run_result : θ_run defs (onTc (τ := τ) (main (F := Ideal))) ⟨m, fun _ => 0, ρ⟩ fun r => ∀ c : Dev nD,
      r.2.mem ((c : Thread nD τ).loc main_v12) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks m ρ)

end Cert.FirstSampleIdeal.Hand

end
-- ==== Proof.FirstSampleReference.lean ====
/-
  What the reference of the output projection and feed-forward call on the samples of the first layer computes, element by element,
  and that the kernel's result is the same.
-/
module

public import proofs.«01_k».proof.Proof.Gen.FirstSampleRefIdeal.Run
public import proofs.«01_k».proof.Proof.FirstSampleValue

@[expose] public section

noncomputable section

namespace Cert.FirstSampleRefIdeal.Hand

open Cert.FirstSampleRefIdeal Cert.FirstSampleRefIdeal.Gen Cert.Rows
open Idealize.ShloMosaic Idealize.ShloMosaic.TcCoe Finset

/-- The residual stream plus the mixer's output times the projection. -/
def streamR (x : FVec Ideal S512x1024 .f32) (a b : FVec Ideal S512x512 .bf16) (wo : FVec Ideal S1x1024x1024 .f32) : FVec Ideal S512x1024 .f32 :=
  addf x (Host.dotGeneral dot_S512x1024_S1024x1024_S512x1024_1_0_0_1_n_n none (concatenate S512x1024 1 [⟨S512x512, (extf .f32 a bitsLt_bf16_f32)⟩, ⟨S512x512, (extf .f32 b bitsLt_bf16_f32)⟩] concatenates_S512x512_S512x512_S512x1024_d1) (shapeCast _ wo shapeCasts_S1x1024x1024_S1024x1024))

/-- The rows normalised, times the gains. -/
def normR (x : FVec Ideal S512x1024 .f32) (g : FVec Ideal S1024 .f32) : FVec Ideal S512x1024 .f32 :=
  mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 g))

/-- The layer's gains. -/
def gainR (g : FVec Ideal S2x1024 .f32) : FVec Ideal S1024 .f32 := shapeCast _ (extractStridedSlice S1x1024 ![0, 0] g slices_S2x1024_S1x1024_0_0) shapeCasts_S1x1024_S1024

/-- The positive part of the hidden features. -/
def actR (h : FVec Ideal S512x1024 .f32) (wu : FVec Ideal S2x1024x4096 .f32) : FVec Ideal S512x4096 .f32 :=
  maximumf (Host.dotGeneral dot_S512x1024_S1024x4096_S512x4096_1_0_0_1_n_n none h (shapeCast _ (extractStridedSlice S1x1024x4096 ![0, 0, 0] wu slices_S2x1024x4096_S1x1024x4096_0_0_0) shapeCasts_S1x1024x4096_S1024x4096)) (broadcastInDim S512x4096 ![] bcast_S_S512x4096 (constant S_ .f32 0x00000000#32))

/-- The stream plus its feed-forward part. -/
def mlpR (x : FVec Ideal S512x1024 .f32) (a : FVec Ideal S512x4096 .f32) (wd : FVec Ideal S2x4096x1024 .f32) : FVec Ideal S512x1024 .f32 :=
  addf x (Host.dotGeneral dot_S512x4096_S4096x1024_S512x1024_1_0_0_1_n_n none (mulf a a) (shapeCast _ (extractStridedSlice S1x4096x1024 ![0, 0, 0] wd slices_S2x4096x1024_S1x4096x1024_0_0_0) shapeCasts_S1x4096x1024_S4096x1024))

/-- The layer's feed-forward half. -/
def layerR (x : FVec Ideal S512x1024 .f32) (g : FVec Ideal S2x1024 .f32) (wu : FVec Ideal S2x1024x4096 .f32) (wd : FVec Ideal S2x4096x1024 .f32) : FVec Ideal S512x1024 .f32 :=
  mlpR x (actR (normR x (gainR g)) wu) wd

/-- The composed term is these stages. -/
theorem res_eq (m : (ℓ : Loc nD τ sig) → Buf (Elt Ideal) ℓ) (c : Dev nD) : Value.res_out0 m c
    = layerR (streamR (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) := rfl

theorem streamR_apply (x : FVec Ideal S512x1024 .f32) (a b : FVec Ideal S512x512 .bf16) (wo : FVec Ideal S1x1024x1024 .f32) (R : Fin 512) (l : Fin 1024) :
    streamR x a b wo (ix2 R l) = FirstSampleIdeal.Hand.stream x a b wo R l := by
  have e : streamR x a b wo (ix2 R l) = x (ix2 R l) + ∑ k : Fin 1024, (if h : k.val < 512 then a (ix2 R (⟨k.val, h⟩ : Fin 512)) else b (ix2 R (⟨k.val - 512, by omega⟩ : Fin 512))) * wo (ix3 (0 : Fin 1) k l) := by
    pointwise [streamR]
  rw [e, sum_halves, ← add_assoc]
  rfl

theorem normR_apply (x : FVec Ideal S512x1024 .f32) (g : FVec Ideal S1024 .f32) (R : Fin 512) (l : Fin 1024) :
    normR x g (ix2 R l) = rmsRow (fun k => x (ix2 R k)) (fun k => g (ix1 k)) l := by
  pointwise [normR, rmsRow]

theorem gainR_apply (g : FVec Ideal S2x1024 .f32) (k : Fin 1024) : gainR g (ix1 k) = g (ix2 (0 : Fin 2) k) := by
  pointwise [gainR]

theorem actR_apply (h : FVec Ideal S512x1024 .f32) (wu : FVec Ideal S2x1024x4096 .f32) (R : Fin 512) (f : Fin 4096) :
    actR h wu (ix2 R f) = max (∑ k : Fin 1024, h (ix2 R k) * wu (ix3 (0 : Fin 2) k f)) 0 := by
  pointwise [actR]

theorem mlpR_apply (x : FVec Ideal S512x1024 .f32) (a : FVec Ideal S512x4096 .f32) (wd : FVec Ideal S2x4096x1024 .f32) (R : Fin 512) (l : Fin 1024) :
    mlpR x a wd (ix2 R l) = x (ix2 R l) + ∑ f : Fin 4096, a (ix2 R f) * a (ix2 R f) * wd (ix3 (0 : Fin 2) f l) := by
  pointwise [mlpR]

theorem layerR_apply (x : FVec Ideal S512x1024 .f32) (g : FVec Ideal S2x1024 .f32) (wu : FVec Ideal S2x1024x4096 .f32) (wd : FVec Ideal S2x4096x1024 .f32) (R : Fin 512) (l : Fin 1024) :
    layerR x g wu wd (ix2 R l) = mlpRow (fun k => x (ix2 R k)) (fun k => g (ix2 (0 : Fin 2) k)) (fun k f => wu (ix3 (0 : Fin 2) k f)) (fun f k => wd (ix3 (0 : Fin 2) f k)) l := by
  unfold layerR mlpRow term
  rw [mlpR_apply]
  simp only [actR_apply, normR_apply, gainR_apply]

/-- The kernel's result is the reference's. -/
theorem equation (x : FVec Ideal S512x1024 .f32) (a b : FVec Ideal S512x512 .bf16) (wo : FVec Ideal S1x1024x1024 .f32) (g : FVec Ideal S2x1024 .f32) (wu : FVec Ideal S2x1024x4096 .f32) (wd : FVec Ideal S2x4096x1024 .f32) :
    layerR (streamR x a b wo) g wu wd = FirstSampleIdeal.Hand.result x a b wo g wu wd := by
  funext y
  obtain ⟨R, l, rfl⟩ : ∃ (R : Fin 512) (l : Fin 1024), y = ix2 R l := ⟨y 0, y 1, by
    funext a; match a with | ⟨0, _⟩ => rfl | ⟨1, _⟩ => rfl⟩
  rw [layerR_apply]
  simp only [streamR_apply]
  rfl

end Cert.FirstSampleRefIdeal.Hand

end
-- ==== Proof.OutMlpSampleClaims.lean ====
/-
  The claims on the two output projection and feed-forward calls on the samples: the frames and the equality with the reference over the
  extended reals.
-/
module

public import proofs.«01_k».proof.Defs
public import proofs.«01_k».proof.Proof.Gen.FinalSample.Frame
public import proofs.«01_k».proof.Proof.Gen.FirstSample.Frame
public import proofs.«01_k».proof.Proof.FinalSampleReference
public import proofs.«01_k».proof.Proof.FirstSampleReference
public import Idealize.ShloMosaic.Lib.Quiescent

@[expose] public section

noncomputable section

namespace Cert.OutMlpSampleClaims

open Idealize.ShloMosaic Idealize.ShloMosaic.TcCoe Idealize.SL.Sem

theorem frame_FinalSample : quiescent_FinalSample (hFinalSample := Cert.FinalSample.Gen.facts) := fun m ρ _ => Cert.FinalSample.Gen.frame m ρ

theorem frame_FinalSampleIdeal : quiescent_FinalSampleIdeal (hFinalSampleIdeal := Cert.FinalSampleIdeal.Gen.facts) := fun m ρ _ => Cert.FinalSampleIdeal.Gen.frame m ρ

theorem frame_FinalSampleRefIdeal : quiescent_FinalSampleRefIdeal (hFinalSampleRefIdeal := Cert.FinalSampleRefIdeal.Gen.facts) := fun m ρ _ =>
  (θ_run Cert.FinalSampleRefIdeal.defs _ _).mono (fun r h => ⟨fun c => (h c).2, sem_eq_zero_of_no_sems (by decide) r.2⟩) (Cert.FinalSampleRefIdeal.Value.run m ρ)

theorem preserves_FinalSample : preserves_FinalSample_FinalSampleIdeal := trivial

theorem algebraic_FinalSample : algebraic_FinalSampleIdeal_FinalSampleRefIdeal (hFinalSampleIdeal := Cert.FinalSampleIdeal.Gen.facts) (hFinalSampleRefIdeal := Cert.FinalSampleRefIdeal.Gen.facts) := by
  intro m ρ m' ρ' _ hagree
  refine ⟨fun c : Dev Cert.FinalSampleIdeal.nD => Cert.FinalSampleIdeal.Hand.result (m ((c.tc : Thread Cert.FinalSampleIdeal.nD Cert.FinalSampleIdeal.τ).loc Cert.FinalSampleIdeal.main_arg0)) (m ((c.tc : Thread Cert.FinalSampleIdeal.nD Cert.FinalSampleIdeal.τ).loc Cert.FinalSampleIdeal.main_arg1)) (m ((c.tc : Thread Cert.FinalSampleIdeal.nD Cert.FinalSampleIdeal.τ).loc Cert.FinalSampleIdeal.main_arg2)) (m ((c.tc : Thread Cert.FinalSampleIdeal.nD Cert.FinalSampleIdeal.τ).loc Cert.FinalSampleIdeal.main_arg3)) (m ((c.tc : Thread Cert.FinalSampleIdeal.nD Cert.FinalSampleIdeal.τ).loc Cert.FinalSampleIdeal.main_arg4)) (m ((c.tc : Thread Cert.FinalSampleIdeal.nD Cert.FinalSampleIdeal.τ).loc Cert.FinalSampleIdeal.main_arg5)) (m ((c.tc : Thread Cert.FinalSampleIdeal.nD Cert.FinalSampleIdeal.τ).loc Cert.FinalSampleIdeal.main_arg6)), Cert.FinalSampleIdeal.Hand.run_result m ρ, ?_⟩
  refine (θ_run Cert.FinalSampleRefIdeal.defs _ _).mono (fun _ h c => ⟨(h c).1.trans ?_, (h c).2⟩) (Cert.FinalSampleRefIdeal.Value.run m' ρ')
  refine (Cert.FinalSampleRefIdeal.Hand.res_eq m' c).trans ?_
  rw [(hagree c).1, (hagree c).2.1, (hagree c).2.2.1, (hagree c).2.2.2.1, (hagree c).2.2.2.2.1, (hagree c).2.2.2.2.2.1, (hagree c).2.2.2.2.2.2]
  exact Cert.FinalSampleRefIdeal.Hand.equation _ _ _ _ _ _ _

theorem frame_FirstSample : quiescent_FirstSample (hFirstSample := Cert.FirstSample.Gen.facts) := fun m ρ _ => Cert.FirstSample.Gen.frame m ρ

theorem frame_FirstSampleIdeal : quiescent_FirstSampleIdeal (hFirstSampleIdeal := Cert.FirstSampleIdeal.Gen.facts) := fun m ρ _ => Cert.FirstSampleIdeal.Gen.frame m ρ

theorem frame_FirstSampleRefIdeal : quiescent_FirstSampleRefIdeal (hFirstSampleRefIdeal := Cert.FirstSampleRefIdeal.Gen.facts) := fun m ρ _ =>
  (θ_run Cert.FirstSampleRefIdeal.defs _ _).mono (fun r h => ⟨fun c => (h c).2, sem_eq_zero_of_no_sems (by decide) r.2⟩) (Cert.FirstSampleRefIdeal.Value.run m ρ)

theorem preserves_FirstSample : preserves_FirstSample_FirstSampleIdeal := trivial

theorem algebraic_FirstSample : algebraic_FirstSampleIdeal_FirstSampleRefIdeal (hFirstSampleIdeal := Cert.FirstSampleIdeal.Gen.facts) (hFirstSampleRefIdeal := Cert.FirstSampleRefIdeal.Gen.facts) := by
  intro m ρ m' ρ' _ hagree
  refine ⟨fun c : Dev Cert.FirstSampleIdeal.nD => Cert.FirstSampleIdeal.Hand.result (m ((c.tc : Thread Cert.FirstSampleIdeal.nD Cert.FirstSampleIdeal.τ).loc Cert.FirstSampleIdeal.main_arg0)) (m ((c.tc : Thread Cert.FirstSampleIdeal.nD Cert.FirstSampleIdeal.τ).loc Cert.FirstSampleIdeal.main_arg1)) (m ((c.tc : Thread Cert.FirstSampleIdeal.nD Cert.FirstSampleIdeal.τ).loc Cert.FirstSampleIdeal.main_arg2)) (m ((c.tc : Thread Cert.FirstSampleIdeal.nD Cert.FirstSampleIdeal.τ).loc Cert.FirstSampleIdeal.main_arg3)) (m ((c.tc : Thread Cert.FirstSampleIdeal.nD Cert.FirstSampleIdeal.τ).loc Cert.FirstSampleIdeal.main_arg4)) (m ((c.tc : Thread Cert.FirstSampleIdeal.nD Cert.FirstSampleIdeal.τ).loc Cert.FirstSampleIdeal.main_arg5)) (m ((c.tc : Thread Cert.FirstSampleIdeal.nD Cert.FirstSampleIdeal.τ).loc Cert.FirstSampleIdeal.main_arg6)), Cert.FirstSampleIdeal.Hand.run_result m ρ, ?_⟩
  refine (θ_run Cert.FirstSampleRefIdeal.defs _ _).mono (fun _ h c => ⟨(h c).1.trans ?_, (h c).2⟩) (Cert.FirstSampleRefIdeal.Value.run m' ρ')
  refine (Cert.FirstSampleRefIdeal.Hand.res_eq m' c).trans ?_
  rw [(hagree c).1, (hagree c).2.1, (hagree c).2.2.1, (hagree c).2.2.2.1, (hagree c).2.2.2.2.1, (hagree c).2.2.2.2.2.1, (hagree c).2.2.2.2.2.2.1]
  exact Cert.FirstSampleRefIdeal.Hand.equation _ _ _ _ _ _ _

end Cert.OutMlpSampleClaims

end
-- ==== Proof.AbSampleBlock.lean ====
/-
  What the first layer's input projection of the samples writes: the values its kernel stores into its six results, read
  at an index of the block.
-/
module

public import proofs.«01_k».proof.Proof.Gen.AbSampleIdeal.Value
public import proofs.«01_k».proof.Proof.Rows
public import Idealize.ShloMosaic.Lib.Pipeline.ValueKit.Acc
public import Idealize.ShloMosaic.Lib.Pipeline.ValueKit.Tiles

@[expose] public section

noncomputable section

namespace Cert.AbSampleIdeal.Hand

open Cert.AbSampleIdeal Cert.AbSampleIdeal.Gen Cert.Rows
open Idealize.ShloMosaic Idealize.ShloMosaic.TcCoe Finset

theorem norm_apply (x : Vec Ideal S512x1024 .f32) (g : Vec Ideal S1x1024 .f32) (r : Fin 512) (l : Fin 1024) :
    k0_pay2 x g (ix2 r l) = rmsRow (fun k => x (ix2 r k)) (fun k => g (ix2 0 k)) l := by
  pointwise [k0_pay2, rmsRow]

theorem query_apply (h : Vec Ideal S512x1024 .bf16) (w : Vec Ideal S1024x512 .bf16) (r l : Fin 512) :
    k0_pay3 h w (ix2 r l) = (∑ k : Fin 1024, h (ix2 r k) * w (ix2 k l)) * Ideal.ofBits .f32 0x3E000000#32 := by
  pointwise [k0_pay3]

theorem key_apply (h : Vec Ideal S512x1024 .bf16) (w : Vec Ideal S1024x512 .bf16) (r l : Fin 512) :
    k0_pay5 (k0_pay4 h w) (ix2 r l) = ∑ k : Fin 1024, h (ix2 r k) * w (ix2 k l) := by
  pointwise [k0_pay5, k0_pay4]

theorem keyCast_apply (f : Vec Ideal S512x512 .f32) (r l : Fin 512) : k0_pay6 f (ix2 r l) = f (ix2 r l) := by
  pointwise [k0_pay6]

theorem value_apply (h : Vec Ideal S512x1024 .bf16) (w : Vec Ideal S1024x512 .bf16) (r l : Fin 512) :
    k0_pay9 (k0_pay8 h w) (ix2 r l) = ∑ k : Fin 1024, h (ix2 r k) * w (ix2 k l) := by
  pointwise [k0_pay9, k0_pay8]

theorem valueCast_apply (f : Vec Ideal S512x512 .f32) (r l : Fin 512) : k0_pay10 f (ix2 r l) = f (ix2 r l) := by
  pointwise [k0_pay10]

theorem gate_apply (h : Vec Ideal S512x1024 .bf16) (u v : Vec Ideal S1024x512 .bf16) (r l : Fin 512) :
    k0_pay1 h (k0_pay12 u) (constant S512x512 .f32 0x00000000#32) h v (ix2 r l) = (∑ k : Fin 1024, h (ix2 r k) * u (ix2 k l)) * Ideal.logistic (∑ k : Fin 1024, h (ix2 r k) * v (ix2 k l)) := by
  pointwise [k0_pay1, k0_pay12]

/-- Eight blocks of columns stacked as heads: head `h` is block `h`. -/
theorem keyHeads_apply (v : Fin 8 → Vec Ideal S512x64 .f32) (r : Fin 512) (h : Fin 8) (l : Fin 64) :
    k0_pay7 (v 0) (v 1) (v 2) (v 3) (v 4) (v 5) (v 6) (v 7) (ix3 r h l) = v h (ix2 r l) := by
  fin_cases h <;> pointwise [k0_pay7]

theorem valueHeads_apply (v : Fin 8 → Vec Ideal S512x64 .f32) (r : Fin 512) (h : Fin 8) (l : Fin 64) :
    k0_pay11 (v 0) (v 1) (v 2) (v 3) (v 4) (v 5) (v 6) (v 7) (ix3 r h l) = v h (ix2 r l) := by
  fin_cases h <;> pointwise [k0_pay11]

theorem hz : (![0, 0] : Fin 2 → ℕ) = fun _ => 0 := by decide

theorem hz3 : (![0, 0, 0] : Fin 3 → ℕ) = fun _ => 0 := by decide

/-- Columns loaded from the whole weights. -/
theorem col_ld (w : Vec Ideal S1024x2560 .bf16) (n : ℕ) (i : ∀ a, (![0, n] : Fin 2 → ℕ) a + (![1024, 512] : Fin 2 → ℕ) a ≤ S1024x2560.size a) (k : Fin 1024) (l : Fin 512) (hn : n + 512 ≤ 2560) :
    View.ld w (Rect.unit (s := S1024x2560) ![0, n] ![1024, 512] i) (ix2 k l) = w (ix2 k (⟨n + l.val, by omega⟩ : Fin 2560)) :=
  View.ld_unit_apply_of _ _ _ _ _ _ fun a => match a with
    | ⟨0, _⟩ => (Nat.zero_add _).symm
    | ⟨1, _⟩ => rfl

/-- Sixty-four columns loaded from a block that was stored whole. -/
theorem head_ld {sp : Space} (v : View sig .tc sp S512x512 .f32) (w : Vec Ideal S512x512 .f32) (i : ∀ a, (![0, 0] : Fin 2 → ℕ) a + (![512, 512] : Fin 2 → ℕ) a ≤ S512x512.size a) (n : ℕ)
    (j : ∀ a, (![0, n] : Fin 2 → ℕ) a + (![512, 64] : Fin 2 → ℕ) a ≤ S512x512.size a) (r : Fin 512) (l : Fin 64) (h : Fin 512) (e : h.val = n + l.val) :
    v.readCov [⟨Rect.unit (s := S512x512) ![0, 0] ![512, 512] i, w⟩] (Rect.unit (s := S512x512) ![0, n] ![512, 64] j).toLoadRect (ix2 r l) = w (ix2 r h) := by
  rw [View.readCov_eq_canon', View.canon_cons_unit_zero (S := S512x512) hz]
  exact View.ld_unit_apply_of (Val := Elt Ideal) (e := .f32) _ _ _ _ _ _ fun a => match a with
    | ⟨0, _⟩ => (Nat.zero_add _).symm
    | ⟨1, _⟩ => e

/-- A row of the block, normalised. -/
def hRow (x : Vec Ideal S512x1024 .f32) (g : Vec Ideal S1x1024 .f32) (r : Fin 512) : Fin 1024 → EReal :=
  rmsRow (fun k => x (ix2 r k)) (fun k => g (ix2 0 k))

section

variable (x : Vec Ideal S512x1024 .f32) (g : Vec Ideal S1x1024 .f32) (w : Vec Ideal S1024x2560 .bf16) (r l : Fin 512)

/-- A normalised row times a column of the weights. -/
theorem dot_col (n : ℕ) (i : ∀ a, (![0, n] : Fin 2 → ℕ) a + (![1024, 512] : Fin 2 → ℕ) a ≤ S1024x2560.size a) (hn : n + 512 ≤ 2560) :
    (∑ k : Fin 1024, k0_pay2 x g (ix2 r k) * View.ld w (Rect.unit (s := S1024x2560) ![0, n] ![1024, 512] i) (ix2 k l))
      = ∑ k : Fin 1024, hRow x g r k * w (ix2 k (⟨n + l.val, by omega⟩ : Fin 2560)) :=
  sum_congr rfl fun k _ => congrArg₂ (· * ·) (norm_apply x g r k) (col_ld w n i k l hn)

end

section

variable (c : Dev nD) (i : grid0.Coords) (a1 : Memref sig .tc .vmem S512x1024 .f32) (h1 : a1.IsWhole) (a2 : Memref sig .tc .vmem S1x1024 .f32) (h2 : a2.IsWhole) (a3 : Memref sig .tc .vmem S1024x2560 .bf16) (h3 : a3.IsWhole) (a4 : Memref sig .tc .vmem S512x512 .bf16) (h4 : a4.IsWhole)
    (a5 : Memref sig .tc .vmem S512x512 .bf16) (h5 : a5.IsWhole) (a6 : Memref sig .tc .vmem S512x512 .bf16) (h6 : a6.IsWhole) (a7 : Memref sig .tc .vmem S512x8x64 .f32) (h7 : a7.IsWhole) (a8 : Memref sig .tc .vmem S512x8x64 .f32) (h8 : a8.IsWhole)
    (a9 : Memref sig .tc .vmem S512x512 .f32) (h9 : a9.IsWhole) (a10 : Memref sig .tc .vmem S512x1024 .bf16) (h10 : a10.IsWhole) (a11 : Memref sig .tc .vmem S512x512 .f32) (h11 : a11.IsWhole) (a12 : Memref sig .tc .vmem S512x512 .f32) (h12 : a12.IsWhole)

  (x0 : Vec Ideal S512x1024 .f32) (x1 : Vec Ideal S1x1024 .f32) (x2 : Vec Ideal S1024x2560 .bf16) (r l : Fin 512)

/-- The scaled queries. -/
theorem out3_apply : out0_A_3 c i a1 h1 a2 h2 a3 h3 a4 h4 a5 h5 a6 h6 a7 h7 a8 h8 a9 h9 a10 h10 a11 h11 a12 h12 x0 x1 x2 (ix2 r l)
      = (∑ k : Fin 1024, hRow x0 x1 r k * x2 (ix2 k (⟨0 + l.val, by omega⟩ : Fin 2560))) * Ideal.ofBits .f32 0x3E000000#32 := by
  unfold out0_A_3
  rw [View.read_writes_eq_canon _ _ _ (cover0_A_3 c i a1 h1 a2 h2 a3 h3 a4 h4 a5 h5 a6 h6 a7 h7 a8 h8 a9 h9 a10 h10 a11 h11 a12 h12 x0 x1 x2)]
  unfold kernelRun0_A
  dsimp only
  sl_unfold_words
  rw [View.canon_cons_unit_zero (S := S512x512) hz]
  simp only [View.readAt_eq_ld, h1.read_unread, h2.read_unread, h3.read_unread, View.readCov_unit_zero (S := S512x1024) _ hz,
    View.readCov_unit_zero (S := S512x512) _ hz, View.ld_unit_zero (S := S512x1024) hz, View.ld_unit_zero (S := S1x1024) hz]
  exact (query_apply _ _ r l).trans (congrArg (· * Ideal.ofBits .f32 0x3E000000#32) (dot_col x0 x1 x2 r l 0 _ (by norm_num)))

/-- The keys. -/
theorem out4_apply : out0_A_4 c i a1 h1 a2 h2 a3 h3 a4 h4 a5 h5 a6 h6 a7 h7 a8 h8 a9 h9 a10 h10 a11 h11 a12 h12 x0 x1 x2 (ix2 r l)
      = (∑ k : Fin 1024, hRow x0 x1 r k * x2 (ix2 k (⟨512 + l.val, by omega⟩ : Fin 2560))) := by
  unfold out0_A_4
  rw [View.read_writes_eq_canon _ _ _ (cover0_A_4 c i a1 h1 a2 h2 a3 h3 a4 h4 a5 h5 a6 h6 a7 h7 a8 h8 a9 h9 a10 h10 a11 h11 a12 h12 x0 x1 x2)]
  unfold kernelRun0_A
  dsimp only
  sl_unfold_words
  rw [View.canon_cons_unit_zero (S := S512x512) hz]
  simp only [View.readAt_eq_ld, h1.read_unread, h2.read_unread, h3.read_unread, View.readCov_unit_zero (S := S512x1024) _ hz,
    View.readCov_unit_zero (S := S512x512) _ hz, View.ld_unit_zero (S := S512x1024) hz, View.ld_unit_zero (S := S1x1024) hz]
  rw [keyCast_apply, key_apply]
  exact dot_col x0 x1 x2 r l 512 _ (by norm_num)

/-- The values. -/
theorem out5_apply : out0_A_5 c i a1 h1 a2 h2 a3 h3 a4 h4 a5 h5 a6 h6 a7 h7 a8 h8 a9 h9 a10 h10 a11 h11 a12 h12 x0 x1 x2 (ix2 r l)
      = (∑ k : Fin 1024, hRow x0 x1 r k * x2 (ix2 k (⟨1024 + l.val, by omega⟩ : Fin 2560))) := by
  unfold out0_A_5
  rw [View.read_writes_eq_canon _ _ _ (cover0_A_5 c i a1 h1 a2 h2 a3 h3 a4 h4 a5 h5 a6 h6 a7 h7 a8 h8 a9 h9 a10 h10 a11 h11 a12 h12 x0 x1 x2)]
  unfold kernelRun0_A
  dsimp only
  sl_unfold_words
  rw [View.canon_cons_unit_zero (S := S512x512) hz]
  simp only [View.readAt_eq_ld, h1.read_unread, h2.read_unread, h3.read_unread, View.readCov_unit_zero (S := S512x1024) _ hz,
    View.readCov_unit_zero (S := S512x512) _ hz, View.ld_unit_zero (S := S512x1024) hz, View.ld_unit_zero (S := S1x1024) hz]
  rw [valueCast_apply, value_apply]
  exact dot_col x0 x1 x2 r l 1024 _ (by norm_num)

theorem head_inb (h : Fin 8) (a : Fin 2) : (![0, h.val * 64] : Fin 2 → ℕ) a + (![512, 64] : Fin 2 → ℕ) a ≤ S512x512.size a :=
  match a with
  | ⟨0, _⟩ => Nat.le_refl 512
  | ⟨1, _⟩ => by show h.val * 64 + 64 ≤ 512; omega

/-- The keys, head by head. -/
theorem out6_apply (h : Fin 8) (d : Fin 64) : out0_A_6 c i a1 h1 a2 h2 a3 h3 a4 h4 a5 h5 a6 h6 a7 h7 a8 h8 a9 h9 a10 h10 a11 h11 a12 h12 x0 x1 x2 (ix3 r h d)
      = (∑ k : Fin 1024, hRow x0 x1 r k * x2 (ix2 k (⟨512 + (h.val * 64 + d.val), by omega⟩ : Fin 2560))) := by
  unfold out0_A_6
  rw [View.read_writes_eq_canon _ _ _ (cover0_A_6 c i a1 h1 a2 h2 a3 h3 a4 h4 a5 h5 a6 h6 a7 h7 a8 h8 a9 h9 a10 h10 a11 h11 a12 h12 x0 x1 x2)]
  unfold kernelRun0_A
  dsimp only
  sl_unfold_words
  rw [View.canon_cons_unit_zero (S := S512x8x64) hz3]
  simp only [View.readAt_eq_ld, h1.read_unread, h2.read_unread, h3.read_unread, View.readCov_unit_zero (S := S512x1024) _ hz,
    View.readCov_unit_zero (S := S512x512) _ hz, View.ld_unit_zero (S := S512x1024) hz, View.ld_unit_zero (S := S1x1024) hz]
  refine (keyHeads_apply (fun h => a11.view.readCov [⟨Rect.unit ![0, 0] ![512, 512] inb_S512x512_S512x512_0_0, k0_pay5 (k0_pay4 (k0_pay2 x0 x1) (View.ld x2 (Rect.unit ![0, 512] ![1024, 512] inb_S1024x2560_S1024x512_0_512)))⟩]
    (Rect.unit ![0, h.val * 64] ![512, 64] (head_inb h)).toLoadRect) r h d).trans ?_
  have hl : h.val * 64 + d.val < 512 := by omega
  rw [head_ld _ _ _ (h.val * 64) (head_inb h) r d ⟨h.val * 64 + d.val, hl⟩ rfl, key_apply]
  exact dot_col x0 x1 x2 r ⟨h.val * 64 + d.val, hl⟩ 512 _ (by norm_num)

/-- The values, head by head. -/
theorem out7_apply (h : Fin 8) (d : Fin 64) : out0_A_7 c i a1 h1 a2 h2 a3 h3 a4 h4 a5 h5 a6 h6 a7 h7 a8 h8 a9 h9 a10 h10 a11 h11 a12 h12 x0 x1 x2 (ix3 r h d)
      = (∑ k : Fin 1024, hRow x0 x1 r k * x2 (ix2 k (⟨1024 + (h.val * 64 + d.val), by omega⟩ : Fin 2560))) := by
  unfold out0_A_7
  rw [View.read_writes_eq_canon _ _ _ (cover0_A_7 c i a1 h1 a2 h2 a3 h3 a4 h4 a5 h5 a6 h6 a7 h7 a8 h8 a9 h9 a10 h10 a11 h11 a12 h12 x0 x1 x2)]
  unfold kernelRun0_A
  dsimp only
  sl_unfold_words
  rw [View.canon_cons_unit_zero (S := S512x8x64) hz3]
  simp only [View.readAt_eq_ld, h1.read_unread, h2.read_unread, h3.read_unread, View.readCov_unit_zero (S := S512x1024) _ hz,
    View.readCov_unit_zero (S := S512x512) _ hz, View.ld_unit_zero (S := S512x1024) hz, View.ld_unit_zero (S := S1x1024) hz]
  refine (valueHeads_apply (fun h => a12.view.readCov [⟨Rect.unit ![0, 0] ![512, 512] inb_S512x512_S512x512_0_0, k0_pay9 (k0_pay8 (k0_pay2 x0 x1) (View.ld x2 (Rect.unit ![0, 1024] ![1024, 512] inb_S1024x2560_S1024x512_0_1024)))⟩]
    (Rect.unit ![0, h.val * 64] ![512, 64] (head_inb h)).toLoadRect) r h d).trans ?_
  have hl : h.val * 64 + d.val < 512 := by omega
  rw [head_ld _ _ _ (h.val * 64) (head_inb h) r d ⟨h.val * 64 + d.val, hl⟩ rfl, value_apply]
  exact dot_col x0 x1 x2 r ⟨h.val * 64 + d.val, hl⟩ 1024 _ (by norm_num)

/-- The gated inputs of the convolution. -/
theorem out8_apply : out0_A_8 c i a1 h1 a2 h2 a3 h3 a4 h4 a5 h5 a6 h6 a7 h7 a8 h8 a9 h9 a10 h10 a11 h11 a12 h12 x0 x1 x2 (ix2 r l)
      = (∑ k : Fin 1024, hRow x0 x1 r k * x2 (ix2 k (⟨1536 + l.val, by omega⟩ : Fin 2560))) * Ideal.logistic (∑ k : Fin 1024, hRow x0 x1 r k * x2 (ix2 k (⟨2048 + l.val, by omega⟩ : Fin 2560))) := by
  unfold out0_A_8
  rw [View.read_writes_eq_canon _ _ _ (cover0_A_8 c i a1 h1 a2 h2 a3 h3 a4 h4 a5 h5 a6 h6 a7 h7 a8 h8 a9 h9 a10 h10 a11 h11 a12 h12 x0 x1 x2)]
  unfold kernelRun0_A
  dsimp only
  sl_unfold_words
  rw [View.canon_cons_unit_zero (S := S512x512) hz]
  simp only [View.readAt_eq_ld, h1.read_unread, h2.read_unread, h3.read_unread, View.readCov_unit_zero (S := S512x1024) _ hz,
    View.readCov_unit_zero (S := S512x512) _ hz, View.ld_unit_zero (S := S512x1024) hz, View.ld_unit_zero (S := S1x1024) hz]
  exact (gate_apply _ _ _ r l).trans (congrArg₂ (fun s t => s * Ideal.logistic t) (dot_col x0 x1 x2 r l 1536 _ (by norm_num)) (dot_col x0 x1 x2 r l 2048 _ (by norm_num)))

end

end Cert.AbSampleIdeal.Hand

end
-- ==== Proof.AbSampleValue.lean ====
/-
  What the first layer's input projection of the samples leaves in its six result arrays after the run: the
  normalised rows times the columns of the weights that make the queries, the keys, the values and the gated inputs of the convolution.
-/
module

public import proofs.«01_k».proof.Proof.AbSampleBlock
public import Idealize.ShloMosaic.Lib.Pipeline.Value

@[expose] public section

noncomputable section

namespace Cert.AbSampleIdeal.Hand

open Cert.AbSampleIdeal Cert.AbSampleIdeal.Gen Cert.Rows
open Idealize.ShloMosaic Idealize.ShloMosaic.TcCoe Idealize.SL.Sem Finset

section

variable (x : FVec Ideal S32x16x1024 .f32) (g : FVec Ideal S2x1024 .f32) (w : FVec Ideal S1x1024x2560 .f32)

/-- The sample and the position of a row of all rows. -/
def bOf (R : Fin 512) : Fin 32 := ⟨R.val / 16, by omega⟩

def pOf (R : Fin 512) : Fin 16 := ⟨R.val % 16, by omega⟩

/-- A normalised row times column `j` of the weights. -/
def proj (R : Fin 512) (j : Fin 2560) : EReal :=
  ∑ k : Fin 1024, rmsRow (fun k => x (ix3 (bOf R) (pOf R) k)) (fun k => g (ix2 (0 : Fin 2) k)) k * w (ix3 (0 : Fin 1) k j)

/-- The queries, scaled. -/
def queries : FVec Ideal S512x512 .bf16 := fun y =>
  proj x g w (y 0) (⟨0 + (show Fin 512 from y 1).val, by have := (show Fin 512 from y 1).isLt; omega⟩ : Fin 2560) * Ideal.ofBits .f32 0x3E000000#32

/-- The keys. -/
def keys : FVec Ideal S512x512 .bf16 := fun y =>
  proj x g w (y 0) (⟨512 + (show Fin 512 from y 1).val, by have := (show Fin 512 from y 1).isLt; omega⟩ : Fin 2560)

/-- The values. -/
def values : FVec Ideal S512x512 .bf16 := fun y =>
  proj x g w (y 0) (⟨1024 + (show Fin 512 from y 1).val, by have := (show Fin 512 from y 1).isLt; omega⟩ : Fin 2560)

/-- The keys, head by head. -/
def keyHeads : FVec Ideal S512x8x64 .f32 := fun y =>
  proj x g w (y 0) (⟨512 + ((show Fin 8 from y 1).val * 64 + (show Fin 64 from y 2).val), by have := (show Fin 8 from y 1).isLt; have := (show Fin 64 from y 2).isLt; omega⟩ : Fin 2560)

/-- The values, head by head. -/
def valueHeads : FVec Ideal S512x8x64 .f32 := fun y =>
  proj x g w (y 0) (⟨1024 + ((show Fin 8 from y 1).val * 64 + (show Fin 64 from y 2).val), by have := (show Fin 8 from y 1).isLt; have := (show Fin 64 from y 2).isLt; omega⟩ : Fin 2560)

/-- The gated inputs of the convolution. -/
def gated : FVec Ideal S512x512 .f32 := fun y =>
  proj x g w (y 0) (⟨1536 + (show Fin 512 from y 1).val, by have := (show Fin 512 from y 1).isLt; omega⟩ : Fin 2560) * Ideal.logistic (proj x g w (y 0) (⟨2048 + (show Fin 512 from y 1).val, by have := (show Fin 512 from y 1).isLt; omega⟩ : Fin 2560))

end

theorem read_x (w : FVec Ideal S32x16x1024 .f32) (R : Fin 512) (k : Fin 1024) : (shapeCast S512x1024 w shapeCasts_S32x16x1024_S512x1024 : FVec Ideal S512x1024 .f32) (ix2 R k) = w (ix3 (bOf R) (pOf R) k) := by
  pointwise [bOf, pOf]

theorem read_g (w : FVec Ideal S2x1024 .f32) (k : Fin 1024) : (shapeCast S1x1024 (shapeCast S1024 (extractStridedSlice S1x1024 ![0, 0] w slices_S2x1024_S1x1024_0_0) shapeCasts_S1x1024_S1024) shapeCasts_S1024_S1x1024 : FVec Ideal S1x1024 .f32) (ix2 (0 : Fin 1) k) = w (ix2 (0 : Fin 2) k) := by
  pointwise []

theorem read_w (w : FVec Ideal S1x1024x2560 .f32) (k : Fin 1024) (j : Fin 2560) : (truncf .bf16 (shapeCast S1024x2560 w shapeCasts_S1x1024x2560_S1024x2560) bitsLt_bf16_f32 : FVec Ideal S1024x2560 .bf16) (ix2 k j) = w (ix3 (0 : Fin 1) k j) := by
  pointwise []

variable (m : (ℓ : Loc nD τ sig) → Buf (Elt Ideal) ℓ) (ρ : Dev nD → PrngReg)

/-! What the region finds in the arrays the host operations wrote. -/

theorem V_x (c : Dev nD) (R : Fin 512) (k : Fin 1024) : (V m c main_v0 : FVec Ideal S512x1024 .f32) (ix2 R k) = (m ((c : Thread nD τ).loc main_arg0) : FVec Ideal S32x16x1024 .f32) (ix3 (bOf R) (pOf R) k) := by
  have e : V m c main_v0 = (shapeCast S512x1024 (m ((c : Thread nD τ).loc main_arg0) : FVec Ideal S32x16x1024 .f32) shapeCasts_S32x16x1024_S512x1024 : FVec Ideal S512x1024 .f32) := by
    unfold V
    simp only [hostOps0]
    after_results <;> rfl
  exact (congrFun e _).trans (read_x _ R k)

theorem V_g (c : Dev nD) (k : Fin 1024) : (V m c main_v3 : FVec Ideal S1x1024 .f32) (ix2 (0 : Fin 1) k) = (m ((c : Thread nD τ).loc main_arg1) : FVec Ideal S2x1024 .f32) (ix2 (0 : Fin 2) k) := by
  have e : V m c main_v3 = (shapeCast S1x1024 (shapeCast S1024 (extractStridedSlice S1x1024 ![0, 0] (m ((c : Thread nD τ).loc main_arg1) : FVec Ideal S2x1024 .f32) slices_S2x1024_S1x1024_0_0) shapeCasts_S1x1024_S1024) shapeCasts_S1024_S1x1024 : FVec Ideal S1x1024 .f32) := by
    unfold V
    simp only [hostOps0]
    after_results <;> rfl
  exact (congrFun e _).trans (read_g _ k)

theorem V_w (c : Dev nD) (k : Fin 1024) (j : Fin 2560) : (V m c main_v5 : FVec Ideal S1024x2560 .bf16) (ix2 k j) = (m ((c : Thread nD τ).loc main_arg2) : FVec Ideal S1x1024x2560 .f32) (ix3 (0 : Fin 1) k j) := by
  have e : V m c main_v5 = (truncf .bf16 (shapeCast S1024x2560 (m ((c : Thread nD τ).loc main_arg2) : FVec Ideal S1x1024x2560 .f32) shapeCasts_S1x1024x2560_S1024x2560) bitsLt_bf16_f32 : FVec Ideal S1024x2560 .bf16) := by
    unfold V
    simp only [hostOps0]
    after_results <;> rfl
  exact (congrFun e _).trans (read_w _ k j)

/-! The index maps, decided over the grid: every block is its whole array. -/

theorem index0 (t : Fin cfg0.N) : win0_0.index t 0 = 0 ∧ win0_0.index t 1 = 0 :=
  (by decide +kernel : ∀ t : Fin grid0.N, win0_0.index t 0 = 0 ∧ win0_0.index t 1 = 0) t

theorem index1 (t : Fin cfg0.N) : win0_1.index t 0 = 0 ∧ win0_1.index t 1 = 0 :=
  (by decide +kernel : ∀ t : Fin grid0.N, win0_1.index t 0 = 0 ∧ win0_1.index t 1 = 0) t

theorem index2 (t : Fin cfg0.N) : win0_2.index t 0 = 0 ∧ win0_2.index t 1 = 0 :=
  (by decide +kernel : ∀ t : Fin grid0.N, win0_2.index t 0 = 0 ∧ win0_2.index t 1 = 0) t

theorem index3 (t : Fin cfg0.N) : win0_3.index t 0 = 0 ∧ win0_3.index t 1 = 0 :=
  (by decide +kernel : ∀ t : Fin grid0.N, win0_3.index t 0 = 0 ∧ win0_3.index t 1 = 0) t

theorem index4 (t : Fin cfg0.N) : win0_4.index t 0 = 0 ∧ win0_4.index t 1 = 0 :=
  (by decide +kernel : ∀ t : Fin grid0.N, win0_4.index t 0 = 0 ∧ win0_4.index t 1 = 0) t

theorem index5 (t : Fin cfg0.N) : win0_5.index t 0 = 0 ∧ win0_5.index t 1 = 0 :=
  (by decide +kernel : ∀ t : Fin grid0.N, win0_5.index t 0 = 0 ∧ win0_5.index t 1 = 0) t

theorem index6 (t : Fin cfg0.N) : win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0) t

theorem index7 (t : Fin cfg0.N) : win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0) t

theorem index8 (t : Fin cfg0.N) : win0_8.index t 0 = 0 ∧ win0_8.index t 1 = 0 :=
  (by decide +kernel : ∀ t : Fin grid0.N, win0_8.index t 0 = 0 ∧ win0_8.index t 1 = 0) t

/-! The windows' blocks, in the arrays. -/

theorem x_block (c : Dev nD) (t : Fin cfg0.N) (R : Fin 512) (k : Fin 1024) :
    iblk m c 0 t (ValueIdx.ix2 R k) = (m ((c : Thread nD τ).loc main_arg0) : FVec Ideal S32x16x1024 .f32) (ix3 (bOf R) (pOf R) k) := by
  refine Eq.trans ?_ (V_x m c R k)
  show V m c (Pipeline.arrRef spec0 0) ((win0_0.rect t).emb (ValueIdx.ix2 R k)) = _
  obtain ⟨h0, h1⟩ := index0 t
  refine congrArg (V m c main_v0) (funext fun a => Fin.ext ?_)
  refine (win0_0.rect_emb_val t _ a).trans ?_
  match a with
  | ⟨0, _⟩ => show win0_0.index t 0 * 512 + R.val = R.val; rw [h0] <;> omega
  | ⟨1, _⟩ => show win0_0.index t 1 * 1024 + k.val = k.val; rw [h1] <;> omega

theorem g_block (c : Dev nD) (t : Fin cfg0.N) (k : Fin 1024) :
    iblk m c 1 t (ValueIdx.ix2 (0 : Fin 1) k) = (m ((c : Thread nD τ).loc main_arg1) : FVec Ideal S2x1024 .f32) (ix2 (0 : Fin 2) k) := by
  refine Eq.trans ?_ (V_g m c k)
  show V m c (Pipeline.arrRef spec0 1) ((win0_1.rect t).emb (ValueIdx.ix2 (0 : Fin 1) k)) = _
  obtain ⟨h0, h1⟩ := index1 t
  refine congrArg (V m c main_v3) (funext fun a => Fin.ext ?_)
  refine (win0_1.rect_emb_val t _ a).trans ?_
  match a with
  | ⟨0, _⟩ => show win0_1.index t 0 * 1 + 0 = 0; rw [h0] <;> omega
  | ⟨1, _⟩ => show win0_1.index t 1 * 1024 + k.val = k.val; rw [h1] <;> omega

theorem w_block (c : Dev nD) (t : Fin cfg0.N) (k : Fin 1024) (j : Fin 2560) :
    iblk m c 2 t (ValueIdx.ix2 k j) = (m ((c : Thread nD τ).loc main_arg2) : FVec Ideal S1x1024x2560 .f32) (ix3 (0 : Fin 1) k j) := by
  refine Eq.trans ?_ (V_w m c k j)
  show V m c (Pipeline.arrRef spec0 2) ((win0_2.rect t).emb (ValueIdx.ix2 k j)) = _
  obtain ⟨h0, h1⟩ := index2 t
  refine congrArg (V m c main_v5) (funext fun a => Fin.ext ?_)
  refine (win0_2.rect_emb_val t _ a).trans ?_
  match a with
  | ⟨0, _⟩ => show win0_2.index t 0 * 1024 + k.val = k.val; rw [h0] <;> omega
  | ⟨1, _⟩ => show win0_2.index t 1 * 2560 + j.val = j.val; rw [h1] <;> omega

/-- A normalised row times a column. -/
theorem col_block (c : Dev nD) (t : Fin cfg0.N) (R : Fin 512) (j : Fin 2560) :
    (∑ k : Fin 1024, hRow (iblk m c 0 t) (iblk m c 1 t) R k * (show Vec Ideal S1024x2560 .bf16 from iblk m c 2 t) (ix2 k j)) = proj (m ((c : Thread nD τ).loc main_arg0)) (m ((c : Thread nD τ).loc main_arg1)) (m ((c : Thread nD τ).loc main_arg2)) R j := by
  have hr : hRow (iblk m c 0 t) (iblk m c 1 t) R = rmsRow (fun k => (m ((c : Thread nD τ).loc main_arg0) : FVec Ideal S32x16x1024 .f32) (ix3 (bOf R) (pOf R) k)) (fun k => (m ((c : Thread nD τ).loc main_arg1) : FVec Ideal S2x1024 .f32) (ix2 (0 : Fin 2) k)) :=
    congrArg₂ rmsRow (funext fun k => x_block m c t R k) (funext fun k => g_block m c t k)
  unfold proj
  rw [hr]
  exact sum_congr rfl fun k _ => congrArg (_ * ·) (w_block m c t k j)

/-- The grid's point. -/
theorem point : ∃ _ : Fin cfg0.N, True := by
  obtain ⟨t, _⟩ := (by decide +kernel : ∃ t : Fin grid0.N, (grid0.coords t 0).val = 0)
  exact ⟨t, trivial⟩

/-! Result 0. -/

theorem emb3 (t : Fin cfg0.N) (r : Fin 512) (l : Fin 512) : (win0_3.rect t).emb (ValueIdx.ix2 r l) = ix2 r l := by
  obtain ⟨h0, h1⟩ := index3 t
  refine funext fun a => Fin.ext ?_
  refine (win0_3.rect_emb_val t _ a).trans ?_
  match a with
  | ⟨0, _⟩ => show win0_3.index t 0 * 512 + r.val = r.val; rw [h0] <;> omega
  | ⟨1, _⟩ => show win0_3.index t 1 * 512 + l.val = l.val; rw [h1] <;> omega

theorem block3 (c : Dev nD) (t : Fin cfg0.N) (r : Fin 512) (l : Fin 512) :
    out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (ValueIdx.ix2 r l) = queries (m ((c : Thread nD τ).loc main_arg0)) (m ((c : Thread nD τ).loc main_arg1)) (m ((c : Thread nD τ).loc main_arg2)) (ix2 r l) := by
  refine (out3_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) r l).trans ?_
  exact congrArg (· * Ideal.ofBits .f32 0x3E000000#32) (col_block m c t r _)

theorem final3 (c : Dev nD) : (dats m 0 c).arrAt 3 cfg0.N = queries (m ((c : Thread nD τ).loc main_arg0)) (m ((c : Thread nD τ).loc main_arg1)) (m ((c : Thread nD τ).loc main_arg2)) := by
  refine (dats m 0 c).arrAt_eq_of_cover 3 _ (fun t _ => ?_) (fun y => ?_)
  · rw [Value.flushed3_A]
    funext y
    obtain ⟨r, l, rfl⟩ : ∃ (r : Fin 512) (l : Fin 512), y = (ValueIdx.ix2 r l) := ⟨y 0, y 1, by
      funext a; match a with | ⟨0, _⟩ => rfl | ⟨1, _⟩ => rfl⟩
    refine (block3 m c t r l).trans ?_
    exact congrArg _ (emb3 t r l).symm
  · obtain ⟨t, _⟩ := point
    refine ⟨t, flush0_3 t, ?_⟩
    have e : y = (win0_3.rect t).emb (ValueIdx.ix2 (show Fin 512 from y 0) (show Fin 512 from y 1)) := by
      refine Eq.trans ?_ (emb3 t (show Fin 512 from y 0) (show Fin 512 from y 1)).symm
      funext a
      match a with | ⟨0, _⟩ => rfl | ⟨1, _⟩ => rfl
    rw [e]
    exact Finset.mem_map_of_mem _ (Finset.mem_univ _)

/-! Result 1. -/

theorem emb4 (t : Fin cfg0.N) (r : Fin 512) (l : Fin 512) : (win0_4.rect t).emb (ValueIdx.ix2 r l) = ix2 r l := by
  obtain ⟨h0, h1⟩ := index4 t
  refine funext fun a => Fin.ext ?_
  refine (win0_4.rect_emb_val t _ a).trans ?_
  match a with
  | ⟨0, _⟩ => show win0_4.index t 0 * 512 + r.val = r.val; rw [h0] <;> omega
  | ⟨1, _⟩ => show win0_4.index t 1 * 512 + l.val = l.val; rw [h1] <;> omega

theorem block4 (c : Dev nD) (t : Fin cfg0.N) (r : Fin 512) (l : Fin 512) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (ValueIdx.ix2 r l) = keys (m ((c : Thread nD τ).loc main_arg0)) (m ((c : Thread nD τ).loc main_arg1)) (m ((c : Thread nD τ).loc main_arg2)) (ix2 r l) := by
  refine (out4_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) r l).trans ?_
  exact col_block m c t r _

theorem final4 (c : Dev nD) : (dats m 0 c).arrAt 4 cfg0.N = keys (m ((c : Thread nD τ).loc main_arg0)) (m ((c : Thread nD τ).loc main_arg1)) (m ((c : Thread nD τ).loc main_arg2)) := by
  refine (dats m 0 c).arrAt_eq_of_cover 4 _ (fun t _ => ?_) (fun y => ?_)
  · rw [Value.flushed4_A]
    funext y
    obtain ⟨r, l, rfl⟩ : ∃ (r : Fin 512) (l : Fin 512), y = (ValueIdx.ix2 r l) := ⟨y 0, y 1, by
      funext a; match a with | ⟨0, _⟩ => rfl | ⟨1, _⟩ => rfl⟩
    refine (block4 m c t r l).trans ?_
    exact congrArg _ (emb4 t r l).symm
  · obtain ⟨t, _⟩ := point
    refine ⟨t, flush0_4 t, ?_⟩
    have e : y = (win0_4.rect t).emb (ValueIdx.ix2 (show Fin 512 from y 0) (show Fin 512 from y 1)) := by
      refine Eq.trans ?_ (emb4 t (show Fin 512 from y 0) (show Fin 512 from y 1)).symm
      funext a
      match a with | ⟨0, _⟩ => rfl | ⟨1, _⟩ => rfl
    rw [e]
    exact Finset.mem_map_of_mem _ (Finset.mem_univ _)

/-! Result 2. -/

theorem emb5 (t : Fin cfg0.N) (r : Fin 512) (l : Fin 512) : (win0_5.rect t).emb (ValueIdx.ix2 r l) = ix2 r l := by
  obtain ⟨h0, h1⟩ := index5 t
  refine funext fun a => Fin.ext ?_
  refine (win0_5.rect_emb_val t _ a).trans ?_
  match a with
  | ⟨0, _⟩ => show win0_5.index t 0 * 512 + r.val = r.val; rw [h0] <;> omega
  | ⟨1, _⟩ => show win0_5.index t 1 * 512 + l.val = l.val; rw [h1] <;> omega

theorem block5 (c : Dev nD) (t : Fin cfg0.N) (r : Fin 512) (l : Fin 512) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (ValueIdx.ix2 r l) = values (m ((c : Thread nD τ).loc main_arg0)) (m ((c : Thread nD τ).loc main_arg1)) (m ((c : Thread nD τ).loc main_arg2)) (ix2 r l) := by
  refine (out5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) r l).trans ?_
  exact col_block m c t r _

theorem final5 (c : Dev nD) : (dats m 0 c).arrAt 5 cfg0.N = values (m ((c : Thread nD τ).loc main_arg0)) (m ((c : Thread nD τ).loc main_arg1)) (m ((c : Thread nD τ).loc main_arg2)) := by
  refine (dats m 0 c).arrAt_eq_of_cover 5 _ (fun t _ => ?_) (fun y => ?_)
  · rw [Value.flushed5_A]
    funext y
    obtain ⟨r, l, rfl⟩ : ∃ (r : Fin 512) (l : Fin 512), y = (ValueIdx.ix2 r l) := ⟨y 0, y 1, by
      funext a; match a with | ⟨0, _⟩ => rfl | ⟨1, _⟩ => rfl⟩
    refine (block5 m c t r l).trans ?_
    exact congrArg _ (emb5 t r l).symm
  · obtain ⟨t, _⟩ := point
    refine ⟨t, flush0_5 t, ?_⟩
    have e : y = (win0_5.rect t).emb (ValueIdx.ix2 (show Fin 512 from y 0) (show Fin 512 from y 1)) := by
      refine Eq.trans ?_ (emb5 t (show Fin 512 from y 0) (show Fin 512 from y 1)).symm
      funext a
      match a with | ⟨0, _⟩ => rfl | ⟨1, _⟩ => rfl
    rw [e]
    exact Finset.mem_map_of_mem _ (Finset.mem_univ _)

/-! Result 3. -/

theorem emb6 (t : Fin cfg0.N) (r : Fin 512) (h : Fin 8) (d : Fin 64) : (win0_6.rect t).emb (ValueIdx.ix3 r h d) = ix3 r h d := by
  obtain ⟨h0, h1, h2⟩ := index6 t
  refine funext fun a => Fin.ext ?_
  refine (win0_6.rect_emb_val t _ a).trans ?_
  match a with
  | ⟨0, _⟩ => show win0_6.index t 0 * 512 + r.val = r.val; rw [h0] <;> omega
  | ⟨1, _⟩ => show win0_6.index t 1 * 8 + h.val = h.val; rw [h1] <;> omega
  | ⟨2, _⟩ => show win0_6.index t 2 * 64 + d.val = d.val; rw [h2] <;> omega

theorem block6 (c : Dev nD) (t : Fin cfg0.N) (r : Fin 512) (h : Fin 8) (d : Fin 64) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (ValueIdx.ix3 r h d) = keyHeads (m ((c : Thread nD τ).loc main_arg0)) (m ((c : Thread nD τ).loc main_arg1)) (m ((c : Thread nD τ).loc main_arg2)) (ix3 r h d) := by
  refine (out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) r h d).trans ?_
  exact col_block m c t r _

theorem final6 (c : Dev nD) : (dats m 0 c).arrAt 6 cfg0.N = keyHeads (m ((c : Thread nD τ).loc main_arg0)) (m ((c : Thread nD τ).loc main_arg1)) (m ((c : Thread nD τ).loc main_arg2)) := by
  refine (dats m 0 c).arrAt_eq_of_cover 6 _ (fun t _ => ?_) (fun y => ?_)
  · rw [Value.flushed6_A]
    funext y
    obtain ⟨r, h, d, rfl⟩ : ∃ (r : Fin 512) (h : Fin 8) (d : Fin 64), y = (ValueIdx.ix3 r h d) := ⟨y 0, y 1, y 2, by
      funext a; match a with | ⟨0, _⟩ => rfl | ⟨1, _⟩ => rfl | ⟨2, _⟩ => rfl⟩
    refine (block6 m c t r h d).trans ?_
    exact congrArg _ (emb6 t r h d).symm
  · obtain ⟨t, _⟩ := point
    refine ⟨t, flush0_6 t, ?_⟩
    have e : y = (win0_6.rect t).emb (ValueIdx.ix3 (show Fin 512 from y 0) (show Fin 8 from y 1) (show Fin 64 from y 2)) := by
      refine Eq.trans ?_ (emb6 t (show Fin 512 from y 0) (show Fin 8 from y 1) (show Fin 64 from y 2)).symm
      funext a
      match a with | ⟨0, _⟩ => rfl | ⟨1, _⟩ => rfl | ⟨2, _⟩ => rfl
    rw [e]
    exact Finset.mem_map_of_mem _ (Finset.mem_univ _)

/-! Result 4. -/

theorem emb7 (t : Fin cfg0.N) (r : Fin 512) (h : Fin 8) (d : Fin 64) : (win0_7.rect t).emb (ValueIdx.ix3 r h d) = ix3 r h d := by
  obtain ⟨h0, h1, h2⟩ := index7 t
  refine funext fun a => Fin.ext ?_
  refine (win0_7.rect_emb_val t _ a).trans ?_
  match a with
  | ⟨0, _⟩ => show win0_7.index t 0 * 512 + r.val = r.val; rw [h0] <;> omega
  | ⟨1, _⟩ => show win0_7.index t 1 * 8 + h.val = h.val; rw [h1] <;> omega
  | ⟨2, _⟩ => show win0_7.index t 2 * 64 + d.val = d.val; rw [h2] <;> omega

theorem block7 (c : Dev nD) (t : Fin cfg0.N) (r : Fin 512) (h : Fin 8) (d : Fin 64) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (ValueIdx.ix3 r h d) = valueHeads (m ((c : Thread nD τ).loc main_arg0)) (m ((c : Thread nD τ).loc main_arg1)) (m ((c : Thread nD τ).loc main_arg2)) (ix3 r h d) := by
  refine (out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) r h d).trans ?_
  exact col_block m c t r _

theorem final7 (c : Dev nD) : (dats m 0 c).arrAt 7 cfg0.N = valueHeads (m ((c : Thread nD τ).loc main_arg0)) (m ((c : Thread nD τ).loc main_arg1)) (m ((c : Thread nD τ).loc main_arg2)) := by
  refine (dats m 0 c).arrAt_eq_of_cover 7 _ (fun t _ => ?_) (fun y => ?_)
  · rw [Value.flushed7_A]
    funext y
    obtain ⟨r, h, d, rfl⟩ : ∃ (r : Fin 512) (h : Fin 8) (d : Fin 64), y = (ValueIdx.ix3 r h d) := ⟨y 0, y 1, y 2, by
      funext a; match a with | ⟨0, _⟩ => rfl | ⟨1, _⟩ => rfl | ⟨2, _⟩ => rfl⟩
    refine (block7 m c t r h d).trans ?_
    exact congrArg _ (emb7 t r h d).symm
  · obtain ⟨t, _⟩ := point
    refine ⟨t, flush0_7 t, ?_⟩
    have e : y = (win0_7.rect t).emb (ValueIdx.ix3 (show Fin 512 from y 0) (show Fin 8 from y 1) (show Fin 64 from y 2)) := by
      refine Eq.trans ?_ (emb7 t (show Fin 512 from y 0) (show Fin 8 from y 1) (show Fin 64 from y 2)).symm
      funext a
      match a with | ⟨0, _⟩ => rfl | ⟨1, _⟩ => rfl | ⟨2, _⟩ => rfl
    rw [e]
    exact Finset.mem_map_of_mem _ (Finset.mem_univ _)

/-! Result 5. -/

theorem emb8 (t : Fin cfg0.N) (r : Fin 512) (l : Fin 512) : (win0_8.rect t).emb (ValueIdx.ix2 r l) = ix2 r l := by
  obtain ⟨h0, h1⟩ := index8 t
  refine funext fun a => Fin.ext ?_
  refine (win0_8.rect_emb_val t _ a).trans ?_
  match a with
  | ⟨0, _⟩ => show win0_8.index t 0 * 512 + r.val = r.val; rw [h0] <;> omega
  | ⟨1, _⟩ => show win0_8.index t 1 * 512 + l.val = l.val; rw [h1] <;> omega

theorem block8 (c : Dev nD) (t : Fin cfg0.N) (r : Fin 512) (l : Fin 512) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (ValueIdx.ix2 r l) = gated (m ((c : Thread nD τ).loc main_arg0)) (m ((c : Thread nD τ).loc main_arg1)) (m ((c : Thread nD τ).loc main_arg2)) (ix2 r l) := by
  refine (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) r l).trans ?_
  exact congrArg₂ (fun s t => s * Ideal.logistic t) (col_block m c t r _) (col_block m c t r _)

theorem final8 (c : Dev nD) : (dats m 0 c).arrAt 8 cfg0.N = gated (m ((c : Thread nD τ).loc main_arg0)) (m ((c : Thread nD τ).loc main_arg1)) (m ((c : Thread nD τ).loc main_arg2)) := by
  refine (dats m 0 c).arrAt_eq_of_cover 8 _ (fun t _ => ?_) (fun y => ?_)
  · rw [Value.flushed8_A]
    funext y
    obtain ⟨r, l, rfl⟩ : ∃ (r : Fin 512) (l : Fin 512), y = (ValueIdx.ix2 r l) := ⟨y 0, y 1, by
      funext a; match a with | ⟨0, _⟩ => rfl | ⟨1, _⟩ => rfl⟩
    refine (block8 m c t r l).trans ?_
    exact congrArg _ (emb8 t r l).symm
  · obtain ⟨t, _⟩ := point
    refine ⟨t, flush0_8 t, ?_⟩
    have e : y = (win0_8.rect t).emb (ValueIdx.ix2 (show Fin 512 from y 0) (show Fin 512 from y 1)) := by
      refine Eq.trans ?_ (emb8 t (show Fin 512 from y 0) (show Fin 512 from y 1)).symm
      funext a
      match a with | ⟨0, _⟩ => rfl | ⟨1, _⟩ => rfl
    rw [e]
    exact Finset.mem_map_of_mem _ (Finset.mem_univ _)

/-- The run, with the results named. -/
theorem run_result : θ_run defs (onTc (τ := τ) (main (F := Ideal))) ⟨m, fun _ => 0, ρ⟩ fun r => ∀ c : Dev nD,
      r.2.mem ((c : Thread nD τ).loc main_v6_0) = queries (m ((c : Thread nD τ).loc main_arg0)) (m ((c : Thread nD τ).loc main_arg1)) (m ((c : Thread nD τ).loc main_arg2))
      ∧ r.2.mem ((c : Thread nD τ).loc main_v6_1) = keys (m ((c : Thread nD τ).loc main_arg0)) (m ((c : Thread nD τ).loc main_arg1)) (m ((c : Thread nD τ).loc main_arg2))
      ∧ r.2.mem ((c : Thread nD τ).loc main_v6_2) = values (m ((c : Thread nD τ).loc main_arg0)) (m ((c : Thread nD τ).loc main_arg1)) (m ((c : Thread nD τ).loc main_arg2))
      ∧ r.2.mem ((c : Thread nD τ).loc main_v6_3) = keyHeads (m ((c : Thread nD τ).loc main_arg0)) (m ((c : Thread nD τ).loc main_arg1)) (m ((c : Thread nD τ).loc main_arg2))
      ∧ r.2.mem ((c : Thread nD τ).loc main_v6_4) = valueHeads (m ((c : Thread nD τ).loc main_arg0)) (m ((c : Thread nD τ).loc main_arg1)) (m ((c : Thread nD τ).loc main_arg2))
      ∧ r.2.mem ((c : Thread nD τ).loc main_v6_5) = gated (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2.1.trans (final5 m c), (h c).2.2.2.1.trans (final6 m c), (h c).2.2.2.2.1.trans (final7 m c), (h c).2.2.2.2.2.1.trans (final8 m c), (h c).2.2.2.2.2.2⟩) (Value.run_blocks m ρ)

end Cert.AbSampleIdeal.Hand

end
-- ==== Proof.AbSampleReference.lean ====
/-
  What the reference of the first layer's input projection of the samples computes, element by element, and that the
  kernel's results are the same.
-/
module

public import proofs.«01_k».proof.Proof.Gen.AbSampleRefIdeal.Run
public import proofs.«01_k».proof.Proof.AbSampleValue
public import Idealize.ShloMosaic.Lib.IdealHost

@[expose] public section

noncomputable section

namespace Cert.AbSampleRefIdeal.Hand

open Cert.AbSampleRefIdeal Cert.AbSampleRefIdeal.Gen Cert.Rows
open Idealize.ShloMosaic Idealize.ShloMosaic.TcCoe Finset

/-- The rows normalised, times the layer's gains. -/
def normR (x : FVec Ideal S32x16x1024 .f32) (g : FVec Ideal S2x1024 .f32) : FVec Ideal S32x16x1024 .f32 :=
  mulf (mulf x (broadcastInDim S32x16x1024 ![0, 1, 2] bcast_S32x16x1_S32x16x1024_0_1_2 (Host.rsqrt (addf (Host.divf (broadcastInDim S32x16x1 ![0, 1] bcast_S32x16_S32x16x1_0_1 (Host.reduceAdd (mulf x x) (constant S_ .f32 0x00000000#32) reducesTo_S32x16x1024_S32x16_d2 h_S_)) (broadcastInDim S32x16x1 ![] bcast_S_S32x16x1 (constant S_ .f32 0x44800000#32))) (broadcastInDim S32x16x1 ![] bcast_S_S32x16x1 (constant S_ .f32 0x358637BD#32)))))) (broadcastInDim S32x16x1024 ![0, 1, 2] bcast_S1x1x1024_S32x16x1024_0_1_2 (broadcastInDim S1x1x1024 ![2] bcast_S1024_S1x1x1024_2 (shapeCast _ (extractStridedSlice S1x1024 ![0, 0] g slices_S2x1024_S1x1024_0_0) shapeCasts_S1x1024_S1024)))

/-- The rows times the weights. -/
def projR (x : FVec Ideal S32x16x1024 .f32) (g : FVec Ideal S2x1024 .f32) (w : FVec Ideal S1x1024x2560 .f32) : FVec Ideal S32x16x2560 .f32 :=
  Host.dotGeneral dot_S32x16x1024_S1024x2560_S32x16x2560_2_0_01_1_n_n none (normR x g) (shapeCast _ w shapeCasts_S1x1024x2560_S1024x2560)

/-- The queries, scaled, from all the products. -/
def queriesR (p : FVec Ideal S32x16x2560 .f32) : FVec Ideal S512x512 .bf16 :=
  shapeCast _ (truncf .bf16 (mulf (extractStridedSlice S32x16x512 ![0, 0, 0] p slices_S32x16x2560_S32x16x512_0_0_0) (broadcastInDim S32x16x512 ![] bcast_S_S32x16x512 (constant S_ .f32 0x3E000000#32))) bitsLt_bf16_f32) shapeCasts_S32x16x512_S512x512

/-- The keys. -/
def keysR (p : FVec Ideal S32x16x2560 .f32) : FVec Ideal S512x512 .bf16 :=
  shapeCast _ (truncf .bf16 (extractStridedSlice S32x16x512 ![0, 0, 512] p slices_S32x16x2560_S32x16x512_0_0_512) bitsLt_bf16_f32) shapeCasts_S32x16x512_S512x512

/-- The values. -/
def valuesR (p : FVec Ideal S32x16x2560 .f32) : FVec Ideal S512x512 .bf16 :=
  shapeCast _ (truncf .bf16 (extractStridedSlice S32x16x512 ![0, 0, 1024] p slices_S32x16x2560_S32x16x512_0_0_1024) bitsLt_bf16_f32) shapeCasts_S32x16x512_S512x512

/-- The keys, head by head. -/
def keyHeadsR (p : FVec Ideal S32x16x2560 .f32) : FVec Ideal S512x8x64 .f32 :=
  shapeCast _ (extractStridedSlice S32x16x512 ![0, 0, 512] p slices_S32x16x2560_S32x16x512_0_0_512) shapeCasts_S32x16x512_S512x8x64

/-- The values, head by head. -/
def valueHeadsR (p : FVec Ideal S32x16x2560 .f32) : FVec Ideal S512x8x64 .f32 :=
  shapeCast _ (extractStridedSlice S32x16x512 ![0, 0, 1024] p slices_S32x16x2560_S32x16x512_0_0_1024) shapeCasts_S32x16x512_S512x8x64

/-- The gated inputs of the convolution. -/
def gatedR (p : FVec Ideal S32x16x2560 .f32) : FVec Ideal S512x512 .f32 :=
  shapeCast _ (mulf (extractStridedSlice S32x16x512 ![0, 0, 1536] p slices_S32x16x2560_S32x16x512_0_0_1536) (Host.divf (broadcastInDim S32x16x512 ![] bcast_S_S32x16x512 (constant S_ .f32 0x3F800000#32)) (addf (broadcastInDim S32x16x512 ![] bcast_S_S32x16x512 (constant S_ .f32 0x3F800000#32)) (Host.exp (Host.negf (extractStridedSlice S32x16x512 ![0, 0, 2048] p slices_S32x16x2560_S32x16x512_0_0_2048)))))) shapeCasts_S32x16x512_S512x512

section

variable (x : FVec Ideal S32x16x1024 .f32) (g : FVec Ideal S2x1024 .f32) (w : FVec Ideal S1x1024x2560 .f32)

theorem normR_apply (b : Fin 32) (t : Fin 16) (l : Fin 1024) :
    normR x g (ix3 b t l) = rmsRow (fun k => x (ix3 b t k)) (fun k => g (ix2 (0 : Fin 2) k)) l := by
  pointwise [normR, rmsRow]

theorem projR_sum (b : Fin 32) (t : Fin 16) (j : Fin 2560) : projR x g w (ix3 b t j) = ∑ k : Fin 1024, normR x g (ix3 b t k) * w (ix3 (0 : Fin 1) k j) := by
  pointwise [projR]

theorem projR_apply (R : Fin 512) (j : Fin 2560) : projR x g w (ix3 (AbSampleIdeal.Hand.bOf R) (AbSampleIdeal.Hand.pOf R) j) = AbSampleIdeal.Hand.proj x g w R j := by
  rw [projR_sum]
  exact sum_congr rfl fun k _ => congrArg (· * _) (normR_apply x g (AbSampleIdeal.Hand.bOf R) (AbSampleIdeal.Hand.pOf R) k)

end

section

variable (p : FVec Ideal S32x16x2560 .f32)

theorem queriesR_apply (R : Fin 512) (l : Fin 512) :
    queriesR p (ix2 R l) = p (ix3 (AbSampleIdeal.Hand.bOf R) (AbSampleIdeal.Hand.pOf R) (⟨0 + l.val, by omega⟩ : Fin 2560)) * Ideal.ofBits .f32 0x3E000000#32 := by
  pointwise [queriesR, AbSampleIdeal.Hand.bOf, AbSampleIdeal.Hand.pOf]

theorem keysR_apply (R : Fin 512) (l : Fin 512) :
    keysR p (ix2 R l) = p (ix3 (AbSampleIdeal.Hand.bOf R) (AbSampleIdeal.Hand.pOf R) (⟨512 + l.val, by omega⟩ : Fin 2560)) := by
  pointwise [keysR, AbSampleIdeal.Hand.bOf, AbSampleIdeal.Hand.pOf]

theorem valuesR_apply (R : Fin 512) (l : Fin 512) :
    valuesR p (ix2 R l) = p (ix3 (AbSampleIdeal.Hand.bOf R) (AbSampleIdeal.Hand.pOf R) (⟨1024 + l.val, by omega⟩ : Fin 2560)) := by
  pointwise [valuesR, AbSampleIdeal.Hand.bOf, AbSampleIdeal.Hand.pOf]

theorem keyHeadsR_apply (R : Fin 512) (h : Fin 8) (d : Fin 64) :
    keyHeadsR p (ix3 R h d) = p (ix3 (AbSampleIdeal.Hand.bOf R) (AbSampleIdeal.Hand.pOf R) (⟨512 + (h.val * 64 + d.val), by omega⟩ : Fin 2560)) := by
  pointwise [keyHeadsR, AbSampleIdeal.Hand.bOf, AbSampleIdeal.Hand.pOf]

theorem valueHeadsR_apply (R : Fin 512) (h : Fin 8) (d : Fin 64) :
    valueHeadsR p (ix3 R h d) = p (ix3 (AbSampleIdeal.Hand.bOf R) (AbSampleIdeal.Hand.pOf R) (⟨1024 + (h.val * 64 + d.val), by omega⟩ : Fin 2560)) := by
  pointwise [valueHeadsR, AbSampleIdeal.Hand.bOf, AbSampleIdeal.Hand.pOf]

theorem gatedR_apply (R : Fin 512) (l : Fin 512) :
    gatedR p (ix2 R l) = p (ix3 (AbSampleIdeal.Hand.bOf R) (AbSampleIdeal.Hand.pOf R) (⟨1536 + l.val, by omega⟩ : Fin 2560))
      * Ideal.logistic (p (ix3 (AbSampleIdeal.Hand.bOf R) (AbSampleIdeal.Hand.pOf R) (⟨2048 + l.val, by omega⟩ : Fin 2560))) := by
  pointwise [gatedR, Ideal.logistic, AbSampleIdeal.Hand.bOf, AbSampleIdeal.Hand.pOf]

end

section

variable (x : FVec Ideal S32x16x1024 .f32) (g : FVec Ideal S2x1024 .f32) (w : FVec Ideal S1x1024x2560 .f32)

/-! The kernel's results are the reference's. -/

theorem queries_eq : queriesR (projR x g w) = AbSampleIdeal.Hand.queries x g w := by
  funext y
  obtain ⟨R, l, rfl⟩ : ∃ (R : Fin 512) (l : Fin 512), y = ix2 R l := ⟨y 0, y 1, by
    funext a; match a with | ⟨0, _⟩ => rfl | ⟨1, _⟩ => rfl⟩
  rw [queriesR_apply, projR_apply]
  rfl

theorem keys_eq : keysR (projR x g w) = AbSampleIdeal.Hand.keys x g w := by
  funext y
  obtain ⟨R, l, rfl⟩ : ∃ (R : Fin 512) (l : Fin 512), y = ix2 R l := ⟨y 0, y 1, by
    funext a; match a with | ⟨0, _⟩ => rfl | ⟨1, _⟩ => rfl⟩
  rw [keysR_apply, projR_apply]
  rfl

theorem values_eq : valuesR (projR x g w) = AbSampleIdeal.Hand.values x g w := by
  funext y
  obtain ⟨R, l, rfl⟩ : ∃ (R : Fin 512) (l : Fin 512), y = ix2 R l := ⟨y 0, y 1, by
    funext a; match a with | ⟨0, _⟩ => rfl | ⟨1, _⟩ => rfl⟩
  rw [valuesR_apply, projR_apply]
  rfl

theorem keyHeads_eq : keyHeadsR (projR x g w) = AbSampleIdeal.Hand.keyHeads x g w := by
  funext y
  obtain ⟨R, h, d, rfl⟩ : ∃ (R : Fin 512) (h : Fin 8) (d : Fin 64), y = ix3 R h d := ⟨y 0, y 1, y 2, by
    funext a; match a with | ⟨0, _⟩ => rfl | ⟨1, _⟩ => rfl | ⟨2, _⟩ => rfl⟩
  rw [keyHeadsR_apply, projR_apply]
  rfl

theorem valueHeads_eq : valueHeadsR (projR x g w) = AbSampleIdeal.Hand.valueHeads x g w := by
  funext y
  obtain ⟨R, h, d, rfl⟩ : ∃ (R : Fin 512) (h : Fin 8) (d : Fin 64), y = ix3 R h d := ⟨y 0, y 1, y 2, by
    funext a; match a with | ⟨0, _⟩ => rfl | ⟨1, _⟩ => rfl | ⟨2, _⟩ => rfl⟩
  rw [valueHeadsR_apply, projR_apply]
  rfl

theorem gated_eq : gatedR (projR x g w) = AbSampleIdeal.Hand.gated x g w := by
  funext y
  obtain ⟨R, l, rfl⟩ : ∃ (R : Fin 512) (l : Fin 512), y = ix2 R l := ⟨y 0, y 1, by
    funext a; match a with | ⟨0, _⟩ => rfl | ⟨1, _⟩ => rfl⟩
  rw [gatedR_apply, projR_apply, projR_apply]
  rfl

end

end Cert.AbSampleRefIdeal.Hand

end
-- ==== Proof.AbSampleClaims.lean ====
/-
  The claims on the first layer's input projection of the samples: the frames and the equality with the reference over the extended reals.
-/
module

public import proofs.«01_k».proof.Defs
public import proofs.«01_k».proof.Proof.Gen.AbSample.Frame
public import proofs.«01_k».proof.Proof.AbSampleReference
public import Idealize.ShloMosaic.Lib.Quiescent

@[expose] public section

noncomputable section

namespace Cert.AbSampleClaims

open Idealize.ShloMosaic Idealize.ShloMosaic.TcCoe Idealize.SL.Sem

theorem frame_p : quiescent_AbSample (hAbSample := Cert.AbSample.Gen.facts) := fun m ρ _ => Cert.AbSample.Gen.frame m ρ

theorem frame_pi : quiescent_AbSampleIdeal (hAbSampleIdeal := Cert.AbSampleIdeal.Gen.facts) := fun m ρ _ => Cert.AbSampleIdeal.Gen.frame m ρ

theorem frame_ri : quiescent_AbSampleRefIdeal (hAbSampleRefIdeal := Cert.AbSampleRefIdeal.Gen.facts) := fun m ρ _ =>
  (θ_run Cert.AbSampleRefIdeal.defs _ _).mono (fun r h => ⟨fun c => (h c).2.2.2.2.2.2, sem_eq_zero_of_no_sems (by decide) r.2⟩) (Cert.AbSampleRefIdeal.Value.run m ρ)

theorem preserves : preserves_AbSample_AbSampleIdeal := trivial

theorem algebraic : algebraic_AbSampleIdeal_AbSampleRefIdeal (hAbSampleIdeal := Cert.AbSampleIdeal.Gen.facts) (hAbSampleRefIdeal := Cert.AbSampleRefIdeal.Gen.facts) := by
  intro m ρ m' ρ' _ hagree
  refine ⟨fun c : Dev Cert.AbSampleIdeal.nD => Cert.AbSampleIdeal.Hand.queries (m ((c.tc : Thread Cert.AbSampleIdeal.nD Cert.AbSampleIdeal.τ).loc Cert.AbSampleIdeal.main_arg0)) (m ((c.tc : Thread Cert.AbSampleIdeal.nD Cert.AbSampleIdeal.τ).loc Cert.AbSampleIdeal.main_arg1)) (m ((c.tc : Thread Cert.AbSampleIdeal.nD Cert.AbSampleIdeal.τ).loc Cert.AbSampleIdeal.main_arg2)), fun c : Dev Cert.AbSampleIdeal.nD => Cert.AbSampleIdeal.Hand.keys (m ((c.tc : Thread Cert.AbSampleIdeal.nD Cert.AbSampleIdeal.τ).loc Cert.AbSampleIdeal.main_arg0)) (m ((c.tc : Thread Cert.AbSampleIdeal.nD Cert.AbSampleIdeal.τ).loc Cert.AbSampleIdeal.main_arg1)) (m ((c.tc : Thread Cert.AbSampleIdeal.nD Cert.AbSampleIdeal.τ).loc Cert.AbSampleIdeal.main_arg2)), fun c : Dev Cert.AbSampleIdeal.nD => Cert.AbSampleIdeal.Hand.values (m ((c.tc : Thread Cert.AbSampleIdeal.nD Cert.AbSampleIdeal.τ).loc Cert.AbSampleIdeal.main_arg0)) (m ((c.tc : Thread Cert.AbSampleIdeal.nD Cert.AbSampleIdeal.τ).loc Cert.AbSampleIdeal.main_arg1)) (m ((c.tc : Thread Cert.AbSampleIdeal.nD Cert.AbSampleIdeal.τ).loc Cert.AbSampleIdeal.main_arg2)), fun c : Dev Cert.AbSampleIdeal.nD => Cert.AbSampleIdeal.Hand.keyHeads (m ((c.tc : Thread Cert.AbSampleIdeal.nD Cert.AbSampleIdeal.τ).loc Cert.AbSampleIdeal.main_arg0)) (m ((c.tc : Thread Cert.AbSampleIdeal.nD Cert.AbSampleIdeal.τ).loc Cert.AbSampleIdeal.main_arg1)) (m ((c.tc : Thread Cert.AbSampleIdeal.nD Cert.AbSampleIdeal.τ).loc Cert.AbSampleIdeal.main_arg2)), fun c : Dev Cert.AbSampleIdeal.nD => Cert.AbSampleIdeal.Hand.valueHeads (m ((c.tc : Thread Cert.AbSampleIdeal.nD Cert.AbSampleIdeal.τ).loc Cert.AbSampleIdeal.main_arg0)) (m ((c.tc : Thread Cert.AbSampleIdeal.nD Cert.AbSampleIdeal.τ).loc Cert.AbSampleIdeal.main_arg1)) (m ((c.tc : Thread Cert.AbSampleIdeal.nD Cert.AbSampleIdeal.τ).loc Cert.AbSampleIdeal.main_arg2)), fun c : Dev Cert.AbSampleIdeal.nD => Cert.AbSampleIdeal.Hand.gated (m ((c.tc : Thread Cert.AbSampleIdeal.nD Cert.AbSampleIdeal.τ).loc Cert.AbSampleIdeal.main_arg0)) (m ((c.tc : Thread Cert.AbSampleIdeal.nD Cert.AbSampleIdeal.τ).loc Cert.AbSampleIdeal.main_arg1)) (m ((c.tc : Thread Cert.AbSampleIdeal.nD Cert.AbSampleIdeal.τ).loc Cert.AbSampleIdeal.main_arg2)), Cert.AbSampleIdeal.Hand.run_result m ρ, ?_⟩
  refine (θ_run Cert.AbSampleRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.AbSampleRefIdeal.Value.run m' ρ')
  · show Cert.AbSampleRefIdeal.Hand.queriesR (Cert.AbSampleRefIdeal.Hand.projR (m' ((c.tc : Thread Cert.AbSampleRefIdeal.nD Cert.AbSampleRefIdeal.τ).loc Cert.AbSampleRefIdeal.main_arg0)) (m' ((c.tc : Thread Cert.AbSampleRefIdeal.nD Cert.AbSampleRefIdeal.τ).loc Cert.AbSampleRefIdeal.main_arg1)) (m' ((c.tc : Thread Cert.AbSampleRefIdeal.nD Cert.AbSampleRefIdeal.τ).loc Cert.AbSampleRefIdeal.main_arg2))) = _
    rw [(hagree c).1, (hagree c).2.1, (hagree c).2.2]
    exact Cert.AbSampleRefIdeal.Hand.queries_eq _ _ _
  · show Cert.AbSampleRefIdeal.Hand.keysR (Cert.AbSampleRefIdeal.Hand.projR (m' ((c.tc : Thread Cert.AbSampleRefIdeal.nD Cert.AbSampleRefIdeal.τ).loc Cert.AbSampleRefIdeal.main_arg0)) (m' ((c.tc : Thread Cert.AbSampleRefIdeal.nD Cert.AbSampleRefIdeal.τ).loc Cert.AbSampleRefIdeal.main_arg1)) (m' ((c.tc : Thread Cert.AbSampleRefIdeal.nD Cert.AbSampleRefIdeal.τ).loc Cert.AbSampleRefIdeal.main_arg2))) = _
    rw [(hagree c).1, (hagree c).2.1, (hagree c).2.2]
    exact Cert.AbSampleRefIdeal.Hand.keys_eq _ _ _
  · show Cert.AbSampleRefIdeal.Hand.valuesR (Cert.AbSampleRefIdeal.Hand.projR (m' ((c.tc : Thread Cert.AbSampleRefIdeal.nD Cert.AbSampleRefIdeal.τ).loc Cert.AbSampleRefIdeal.main_arg0)) (m' ((c.tc : Thread Cert.AbSampleRefIdeal.nD Cert.AbSampleRefIdeal.τ).loc Cert.AbSampleRefIdeal.main_arg1)) (m' ((c.tc : Thread Cert.AbSampleRefIdeal.nD Cert.AbSampleRefIdeal.τ).loc Cert.AbSampleRefIdeal.main_arg2))) = _
    rw [(hagree c).1, (hagree c).2.1, (hagree c).2.2]
    exact Cert.AbSampleRefIdeal.Hand.values_eq _ _ _
  · show Cert.AbSampleRefIdeal.Hand.keyHeadsR (Cert.AbSampleRefIdeal.Hand.projR (m' ((c.tc : Thread Cert.AbSampleRefIdeal.nD Cert.AbSampleRefIdeal.τ).loc Cert.AbSampleRefIdeal.main_arg0)) (m' ((c.tc : Thread Cert.AbSampleRefIdeal.nD Cert.AbSampleRefIdeal.τ).loc Cert.AbSampleRefIdeal.main_arg1)) (m' ((c.tc : Thread Cert.AbSampleRefIdeal.nD Cert.AbSampleRefIdeal.τ).loc Cert.AbSampleRefIdeal.main_arg2))) = _
    rw [(hagree c).1, (hagree c).2.1, (hagree c).2.2]
    exact Cert.AbSampleRefIdeal.Hand.keyHeads_eq _ _ _
  · show Cert.AbSampleRefIdeal.Hand.valueHeadsR (Cert.AbSampleRefIdeal.Hand.projR (m' ((c.tc : Thread Cert.AbSampleRefIdeal.nD Cert.AbSampleRefIdeal.τ).loc Cert.AbSampleRefIdeal.main_arg0)) (m' ((c.tc : Thread Cert.AbSampleRefIdeal.nD Cert.AbSampleRefIdeal.τ).loc Cert.AbSampleRefIdeal.main_arg1)) (m' ((c.tc : Thread Cert.AbSampleRefIdeal.nD Cert.AbSampleRefIdeal.τ).loc Cert.AbSampleRefIdeal.main_arg2))) = _
    rw [(hagree c).1, (hagree c).2.1, (hagree c).2.2]
    exact Cert.AbSampleRefIdeal.Hand.valueHeads_eq _ _ _
  · show Cert.AbSampleRefIdeal.Hand.gatedR (Cert.AbSampleRefIdeal.Hand.projR (m' ((c.tc : Thread Cert.AbSampleRefIdeal.nD Cert.AbSampleRefIdeal.τ).loc Cert.AbSampleRefIdeal.main_arg0)) (m' ((c.tc : Thread Cert.AbSampleRefIdeal.nD Cert.AbSampleRefIdeal.τ).loc Cert.AbSampleRefIdeal.main_arg1)) (m' ((c.tc : Thread Cert.AbSampleRefIdeal.nD Cert.AbSampleRefIdeal.τ).loc Cert.AbSampleRefIdeal.main_arg2))) = _
    rw [(hagree c).1, (hagree c).2.1, (hagree c).2.2]
    exact Cert.AbSampleRefIdeal.Hand.gated_eq _ _ _

end Cert.AbSampleClaims

end
-- ==== Proof.CSampleBlock.lean ====
/-
  What the second layer's input projection of the samples writes: the values its kernel stores into its five results, read
  at an index of the block. The kernel works by halves of the columns, so a block is put together from two stores.
-/
module

public import proofs.«01_k».proof.Proof.Gen.CSampleIdeal.Value
public import proofs.«01_k».proof.Proof.Rows
public import Idealize.ShloMosaic.Lib.Pipeline.ValueKit.Acc
public import Idealize.ShloMosaic.Lib.Pipeline.ValueKit.Tiles

@[expose] public section

noncomputable section

namespace Cert.CSampleIdeal.Hand

open Cert.CSampleIdeal Cert.CSampleIdeal.Gen Cert.Rows
open Idealize.ShloMosaic Idealize.ShloMosaic.TcCoe Finset

theorem norm_apply (x : Vec Ideal S512x1024 .f32) (g : Vec Ideal S1x1024 .f32) (r : Fin 512) (l : Fin 1024) :
    k0_pay15 x g (ix2 r l) = rmsRow (fun k => x (ix2 r k)) (fun k => g (ix2 0 k)) l := by
  pointwise [k0_pay15, rmsRow]

section

variable (h : Vec Ideal S512x1024 .bf16) (w : Vec Ideal S1024x512 .bf16) (f : Vec Ideal S512x512 .f32) (r l : Fin 512)

theorem query0_apply : k0_pay16 h w (ix2 r l) = (∑ k : Fin 1024, h (ix2 r k) * w (ix2 k l)) * Ideal.ofBits .f32 0x3E000000#32 := by
  pointwise [k0_pay16]

theorem query1_apply : k0_pay22 h w (ix2 r l) = (∑ k : Fin 1024, h (ix2 r k) * w (ix2 k l)) * Ideal.ofBits .f32 0x3E000000#32 := by
  pointwise [k0_pay22]

theorem key0_apply : k0_pay18 (k0_pay17 h w) (ix2 r l) = ∑ k : Fin 1024, h (ix2 r k) * w (ix2 k l) := by
  pointwise [k0_pay17, k0_pay18]

theorem key1_apply : k0_pay24 (k0_pay23 h w) (ix2 r l) = ∑ k : Fin 1024, h (ix2 r k) * w (ix2 k l) := by
  pointwise [k0_pay23, k0_pay24]

theorem value0_apply : k0_pay20 h w (ix2 r l) = ∑ k : Fin 1024, h (ix2 r k) * w (ix2 k l) := by
  pointwise [k0_pay20]

theorem value1_apply : k0_pay26 h w (ix2 r l) = ∑ k : Fin 1024, h (ix2 r k) * w (ix2 k l) := by
  pointwise [k0_pay26]

theorem key0Cast_apply : k0_pay19 f (ix2 r l) = f (ix2 r l) := by
  pointwise [k0_pay19]

theorem key1Cast_apply : k0_pay25 f (ix2 r l) = f (ix2 r l) := by
  pointwise [k0_pay25]

theorem value0Cast_apply : k0_pay21 f (ix2 r l) = f (ix2 r l) := by
  pointwise [k0_pay21]

theorem value1Cast_apply : k0_pay27 f (ix2 r l) = f (ix2 r l) := by
  pointwise [k0_pay27]

end

/-- Sixteen blocks of columns stacked as heads: head `h` is block `h`. -/
theorem keyHeads_apply (v : Fin 16 → Vec Ideal S512x64 .f32) (r : Fin 512) (h : Fin 16) (d : Fin 64) :
    k0_pay13 (v 12) (v 13) (v 14) (v 15) (k0_pay1 (v 0)) (k0_pay2 (v 1)) (k0_pay3 (v 2)) (k0_pay4 (v 3)) (k0_pay5 (v 4)) (k0_pay6 (v 5)) (k0_pay7 (v 6)) (k0_pay8 (v 7)) (k0_pay9 (v 8)) (k0_pay10 (v 9)) (k0_pay11 (v 10)) (k0_pay12 (v 11)) (ix3 r h d) = v h (ix2 r d) := by
  fin_cases h <;> pointwise [k0_pay13, k0_pay1, k0_pay2, k0_pay3, k0_pay4, k0_pay5, k0_pay6, k0_pay7, k0_pay8, k0_pay9, k0_pay10, k0_pay11, k0_pay12]

theorem valueHeads_apply (v : Fin 16 → Vec Ideal S512x64 .f32) (r : Fin 512) (h : Fin 16) (d : Fin 64) :
    k0_pay28 (v 1) (v 2) (v 3) (v 4) (v 5) (v 6) (v 7) (v 8) (v 9) (v 10) (v 11) (v 12) (v 13) (v 14) (v 15) (k0_pay14 (v 0)) (ix3 r h d) = v h (ix2 r d) := by
  fin_cases h <;> pointwise [k0_pay28, k0_pay14]

theorem head_inb (h : Fin 16) (a : Fin 2) : (![0, h.val * 64] : Fin 2 → ℕ) a + (![512, 64] : Fin 2 → ℕ) a ≤ S512x1024.size a :=
  match a with
  | ⟨0, _⟩ => Nat.le_refl 512
  | ⟨1, _⟩ => by show h.val * 64 + 64 ≤ 1024; omega

/-- Head `h`'s columns loaded from a block. -/
def headOf {sp : Space} (v : View sig .tc sp S512x1024 .f32) (L : List (View.Piece (Elt Ideal) S512x1024 .f32)) (h : Fin 16) : Vec Ideal S512x64 .f32 :=
  v.readCov L (Rect.unit (s := S512x1024) ![0, h.val * 64] ![512, 64] (head_inb h)).toLoadRect

theorem keyHeads_load {sp : Space} (v : View sig .tc sp S512x1024 .f32) (L : List (View.Piece (Elt Ideal) S512x1024 .f32)) (r : Fin 512) (h : Fin 16) (d : Fin 64) :
    k0_pay13 (headOf v L 12) (headOf v L 13) (headOf v L 14) (headOf v L 15) (k0_pay1 (headOf v L 0)) (k0_pay2 (headOf v L 1)) (k0_pay3 (headOf v L 2)) (k0_pay4 (headOf v L 3)) (k0_pay5 (headOf v L 4)) (k0_pay6 (headOf v L 5)) (k0_pay7 (headOf v L 6)) (k0_pay8 (headOf v L 7)) (k0_pay9 (headOf v L 8)) (k0_pay10 (headOf v L 9)) (k0_pay11 (headOf v L 10)) (k0_pay12 (headOf v L 11)) (ix3 r h d) = headOf v L h (ix2 r d) :=
  keyHeads_apply (headOf v L) r h d

theorem valueHeads_load {sp : Space} (v : View sig .tc sp S512x1024 .f32) (L : List (View.Piece (Elt Ideal) S512x1024 .f32)) (r : Fin 512) (h : Fin 16) (d : Fin 64) :
    k0_pay28 (headOf v L 1) (headOf v L 2) (headOf v L 3) (headOf v L 4) (headOf v L 5) (headOf v L 6) (headOf v L 7) (headOf v L 8) (headOf v L 9) (headOf v L 10) (headOf v L 11) (headOf v L 12) (headOf v L 13) (headOf v L 14) (headOf v L 15) (k0_pay14 (headOf v L 0)) (ix3 r h d) = headOf v L h (ix2 r d) :=
  valueHeads_apply (headOf v L) r h d

/-- Columns loaded from the whole weights. -/
theorem col_ld (w : Vec Ideal S1024x3072 .bf16) (n : ℕ) (i : ∀ a, (![0, n] : Fin 2 → ℕ) a + (![1024, 512] : Fin 2 → ℕ) a ≤ S1024x3072.size a) (k : Fin 1024) (l : Fin 512) (j : Fin 3072) (e : j.val = n + l.val) :
    View.ld w (Rect.unit (s := S1024x3072) ![0, n] ![1024, 512] i) (ix2 k l) = w (ix2 k j) :=
  View.ld_unit_apply_of _ _ _ _ _ _ fun a => match a with
    | ⟨0, _⟩ => (Nat.zero_add _).symm
    | ⟨1, _⟩ => e

/-- A row of the block, normalised. -/
def hRow (x : Vec Ideal S512x1024 .f32) (g : Vec Ideal S1x1024 .f32) (r : Fin 512) : Fin 1024 → EReal :=
  rmsRow (fun k => x (ix2 r k)) (fun k => g (ix2 0 k))

/-- A normalised row times a column of the weights. -/
theorem dot_col (x : Vec Ideal S512x1024 .f32) (g : Vec Ideal S1x1024 .f32) (w : Vec Ideal S1024x3072 .bf16) (r l : Fin 512)
    (n : ℕ) (i : ∀ a, (![0, n] : Fin 2 → ℕ) a + (![1024, 512] : Fin 2 → ℕ) a ≤ S1024x3072.size a) (j : Fin 3072) (e : j.val = n + l.val) :
    (∑ k : Fin 1024, k0_pay15 x g (ix2 r k) * View.ld w (Rect.unit (s := S1024x3072) ![0, n] ![1024, 512] i) (ix2 k l))
      = ∑ k : Fin 1024, hRow x g r k * w (ix2 k j) :=
  sum_congr rfl fun k _ => congrArg₂ (· * ·) (norm_apply x g r k) (col_ld w n i k l j e)

theorem hz : (![0, 0] : Fin 2 → ℕ) = fun _ => 0 := by decide

theorem hz3 : (![0, 0, 0] : Fin 3 → ℕ) = fun _ => 0 := by decide

/-- A load through the rectangle of the last store reads what was stored. -/
theorem readCov_last {sp : Space} {s : Shape} {e : EltTy} (v : View sig .tc sp s e) (r : Rect s) (w : r.shape.Idx → Elt Ideal e) (L : List (View.Piece (Elt Ideal) s e)) :
    v.readCov ((⟨r, w⟩ : View.Piece (Elt Ideal) s e) :: L) r.toLoadRect = w := by
  rw [View.readCov_eq_canon']
  funext j
  exact View.canon_cons_emb r w L j

/-- A block stored by its left and right halves. -/
theorem halves_cols {e : EltTy} (p q : S512x512.Idx → Elt Ideal e) (i : ∀ a, (![0, 512] : Fin 2 → ℕ) a + (![512, 512] : Fin 2 → ℕ) a ≤ S512x1024.size a) (j : ∀ a, (![0, 0] : Fin 2 → ℕ) a + (![512, 512] : Fin 2 → ℕ) a ≤ S512x1024.size a)
    (G : S512x1024.Idx → Elt Ideal e) (hp : ∀ r l : Fin 512, p (ix2 r l) = G (ix2 r (⟨l.val, by omega⟩ : Fin 1024))) (hq : ∀ r l : Fin 512, q (ix2 r l) = G (ix2 r (⟨512 + l.val, by omega⟩ : Fin 1024))) (y : S512x1024.Idx) :
    View.canon ([⟨Rect.unit (s := S512x1024) ![0, 512] ![512, 512] i, q⟩, ⟨Rect.unit (s := S512x1024) ![0, 0] ![512, 512] j, p⟩] : List (View.Piece (Elt Ideal) S512x1024 e)) y = G y := by
  refine View.canon_apply_of_pieces G _ ?_ y ?_
  · intro pc hpc
    rcases List.mem_cons.mp hpc with rfl | hpc
    · intro x
      obtain ⟨r, l, rfl⟩ : ∃ (r l : Fin 512), x = ix2 r l := ⟨x 0, x 1, by
        funext a; match a with | ⟨0, _⟩ => rfl | ⟨1, _⟩ => rfl⟩
      refine (hq r l).trans (congrArg G (funext fun a => Fin.ext ?_))
      match a with
      | ⟨0, _⟩ => show r.val = 0 + 1 * r.val; omega
      | ⟨1, _⟩ => show 512 + l.val = 512 + 1 * l.val; omega
    · obtain rfl := List.mem_singleton.mp hpc
      intro x
      obtain ⟨r, l, rfl⟩ : ∃ (r l : Fin 512), x = ix2 r l := ⟨x 0, x 1, by
        funext a; match a with | ⟨0, _⟩ => rfl | ⟨1, _⟩ => rfl⟩
      refine (hp r l).trans (congrArg G (funext fun a => Fin.ext ?_))
      match a with
      | ⟨0, _⟩ => show r.val = 0 + 1 * r.val; omega
      | ⟨1, _⟩ => show l.val = 0 + 1 * l.val; omega
  · have h0 : (y 0).val < 512 := (y 0).isLt
    have h1 : (y 1).val < 1024 := (y 1).isLt
    by_cases h : (y 1).val < 512
    · refine ⟨_, List.mem_cons_of_mem _ List.mem_cons_self, (Rect.mem_set_unit (inb := j)).mpr fun a => ?_⟩
      match a with
      | ⟨0, _⟩ => exact ⟨Nat.zero_le _, by show (y 0).val < 0 + 512; omega⟩
      | ⟨1, _⟩ => exact ⟨Nat.zero_le _, by show (y 1).val < 0 + 512; omega⟩
    · refine ⟨_, List.mem_cons_self, (Rect.mem_set_unit (inb := i)).mpr fun a => ?_⟩
      match a with
      | ⟨0, _⟩ => exact ⟨Nat.zero_le _, by show (y 0).val < 0 + 512; omega⟩
      | ⟨1, _⟩ => exact ⟨by show 512 ≤ (y 1).val; omega, by show (y 1).val < 512 + 512; omega⟩

/-- A head's columns of a block stored by its halves. -/
theorem head_halves {sp : Space} (v : View sig .tc sp S512x1024 .f32) (p q : Vec Ideal S512x512 .f32) (i : ∀ a, (![0, 512] : Fin 2 → ℕ) a + (![512, 512] : Fin 2 → ℕ) a ≤ S512x1024.size a) (j : ∀ a, (![0, 0] : Fin 2 → ℕ) a + (![512, 512] : Fin 2 → ℕ) a ≤ S512x1024.size a)
    (G : S512x1024.Idx → EReal) (hp : ∀ r l : Fin 512, p (ix2 r l) = G (ix2 r (⟨l.val, by omega⟩ : Fin 1024))) (hq : ∀ r l : Fin 512, q (ix2 r l) = G (ix2 r (⟨512 + l.val, by omega⟩ : Fin 1024)))
    (r : Fin 512) (h : Fin 16) (d : Fin 64) :
    headOf v [⟨Rect.unit (s := S512x1024) ![0, 512] ![512, 512] i, q⟩, ⟨Rect.unit (s := S512x1024) ![0, 0] ![512, 512] j, p⟩] h (ix2 r d) = G (ix2 r (⟨h.val * 64 + d.val, by omega⟩ : Fin 1024)) := by
  unfold headOf
  rw [View.readCov_eq_canon']
  refine (halves_cols (e := .f32) p q i j G hp hq _).trans (congrArg G (funext fun a => Fin.ext ?_))
  match a with
  | ⟨0, _⟩ => show 0 + 1 * r.val = r.val; omega
  | ⟨1, _⟩ => show h.val * 64 + 1 * d.val = h.val * 64 + d.val; omega

/-- The scaled queries of a block, and its products with the columns from `n` on. -/
def queryBlock (x : Vec Ideal S512x1024 .f32) (g : Vec Ideal S1x1024 .f32) (w : Vec Ideal S1024x3072 .bf16) (y : S512x1024.Idx) : EReal :=
  (∑ k : Fin 1024, hRow x g (show Fin 512 from y 0) k * w (ix2 k (⟨0 + (show Fin 1024 from y 1).val, by have := (show Fin 1024 from y 1).isLt; omega⟩ : Fin 3072))) * Ideal.ofBits .f32 0x3E000000#32

def colBlock (n : ℕ) (hn : n + 1024 ≤ 3072) (x : Vec Ideal S512x1024 .f32) (g : Vec Ideal S1x1024 .f32) (w : Vec Ideal S1024x3072 .bf16) (y : S512x1024.Idx) : EReal :=
  ∑ k : Fin 1024, hRow x g (show Fin 512 from y 0) k * w (ix2 k (⟨n + (show Fin 1024 from y 1).val, by have := (show Fin 1024 from y 1).isLt; omega⟩ : Fin 3072))

section

variable (c : Dev nD) (i : grid0.Coords) (a1 : Memref sig .tc .vmem S512x1024 .f32) (h1 : a1.IsWhole) (a2 : Memref sig .tc .vmem S1x1024 .f32) (h2 : a2.IsWhole) (a3 : Memref sig .tc .vmem S1024x3072 .bf16) (h3 : a3.IsWhole) (a4 : Memref sig .tc .vmem S512x1024 .bf16) (h4 : a4.IsWhole)
    (a5 : Memref sig .tc .vmem S512x1024 .bf16) (h5 : a5.IsWhole) (a6 : Memref sig .tc .vmem S512x1024 .bf16) (h6 : a6.IsWhole) (a7 : Memref sig .tc .vmem S512x16x64 .f32) (h7 : a7.IsWhole) (a8 : Memref sig .tc .vmem S512x16x64 .f32) (h8 : a8.IsWhole)
    (a9 : Memref sig .tc .vmem S512x1024 .bf16) (h9 : a9.IsWhole) (a10 : Memref sig .tc .vmem S512x1024 .f32) (h10 : a10.IsWhole) (a11 : Memref sig .tc .vmem S512x1024 .f32) (h11 : a11.IsWhole) (hc : cond0_0 i)
  (x0 : Vec Ideal S512x1024 .f32) (x1 : Vec Ideal S1x1024 .f32) (x2 : Vec Ideal S1024x3072 .bf16)

/-- The scaled queries. -/
theorem out3_apply (r : Fin 512) (l : Fin 1024) : out0_A_3 c i a1 h1 a2 h2 a3 h3 a4 h4 a5 h5 a6 h6 a7 h7 a8 h8 a9 h9 a10 h10 a11 h11 hc x0 x1 x2 (ix2 r l)
      = (∑ k : Fin 1024, hRow x0 x1 r k * x2 (ix2 k (⟨0 + l.val, by omega⟩ : Fin 3072))) * Ideal.ofBits .f32 0x3E000000#32 := by
  unfold out0_A_3
  rw [View.read_writes_eq_canon _ _ _ (cover0_A_3 c i a1 h1 a2 h2 a3 h3 a4 h4 a5 h5 a6 h6 a7 h7 a8 h8 a9 h9 a10 h10 a11 h11 hc x0 x1 x2)]
  unfold kernelRun0_A
  dsimp only
  sl_unfold_words
  simp only [View.readAt_eq_ld, h1.read_unread, h2.read_unread, h3.read_unread, View.readCov_unit_zero (S := S512x1024) _ hz,
    View.ld_unit_zero (S := S512x1024) hz, View.ld_unit_zero (S := S1x1024) hz]
  refine halves_cols (e := .bf16) _ _ _ _ (queryBlock x0 x1 x2) (fun r l => ?_) (fun r l => ?_) (ix2 r l)
  · exact (query0_apply _ _ r l).trans (congrArg (· * Ideal.ofBits .f32 0x3E000000#32) (dot_col x0 x1 x2 r l 0 _ _ rfl))
  · exact (query1_apply _ _ r l).trans (congrArg (· * Ideal.ofBits .f32 0x3E000000#32) (dot_col x0 x1 x2 r l 512 _ _ (by show 0 + (512 + l.val) = 512 + l.val; omega)))

/-- The keys. -/
theorem out4_apply (r : Fin 512) (l : Fin 1024) : out0_A_4 c i a1 h1 a2 h2 a3 h3 a4 h4 a5 h5 a6 h6 a7 h7 a8 h8 a9 h9 a10 h10 a11 h11 hc x0 x1 x2 (ix2 r l)
      = (∑ k : Fin 1024, hRow x0 x1 r k * x2 (ix2 k (⟨1024 + l.val, by omega⟩ : Fin 3072))) := by
  unfold out0_A_4
  rw [View.read_writes_eq_canon _ _ _ (cover0_A_4 c i a1 h1 a2 h2 a3 h3 a4 h4 a5 h5 a6 h6 a7 h7 a8 h8 a9 h9 a10 h10 a11 h11 hc x0 x1 x2)]
  unfold kernelRun0_A
  dsimp only
  sl_unfold_words
  simp only [View.readAt_eq_ld, h1.read_unread, h2.read_unread, h3.read_unread, View.readCov_unit_zero (S := S512x1024) _ hz,
    View.ld_unit_zero (S := S512x1024) hz, View.ld_unit_zero (S := S1x1024) hz]
  rw [readCov_last, readCov_last]
  refine halves_cols (e := .bf16) _ _ _ _ (colBlock 1024 (by norm_num) x0 x1 x2) (fun r l => ?_) (fun r l => ?_) (ix2 r l)
  · rw [key0Cast_apply, key0_apply]
    exact dot_col x0 x1 x2 r l 1024 _ _ rfl
  · rw [key1Cast_apply, key1_apply]
    exact dot_col x0 x1 x2 r l 1536 _ _ (by show 1024 + (512 + l.val) = 1536 + l.val; omega)

/-- The values. -/
theorem out5_apply (r : Fin 512) (l : Fin 1024) : out0_A_5 c i a1 h1 a2 h2 a3 h3 a4 h4 a5 h5 a6 h6 a7 h7 a8 h8 a9 h9 a10 h10 a11 h11 hc x0 x1 x2 (ix2 r l)
      = (∑ k : Fin 1024, hRow x0 x1 r k * x2 (ix2 k (⟨2048 + l.val, by omega⟩ : Fin 3072))) := by
  unfold out0_A_5
  rw [View.read_writes_eq_canon _ _ _ (cover0_A_5 c i a1 h1 a2 h2 a3 h3 a4 h4 a5 h5 a6 h6 a7 h7 a8 h8 a9 h9 a10 h10 a11 h11 hc x0 x1 x2)]
  unfold kernelRun0_A
  dsimp only
  sl_unfold_words
  simp only [View.readAt_eq_ld, h1.read_unread, h2.read_unread, h3.read_unread, View.readCov_unit_zero (S := S512x1024) _ hz,
    View.ld_unit_zero (S := S512x1024) hz, View.ld_unit_zero (S := S1x1024) hz]
  rw [readCov_last, readCov_last]
  refine halves_cols (e := .bf16) _ _ _ _ (colBlock 2048 (by norm_num) x0 x1 x2) (fun r l => ?_) (fun r l => ?_) (ix2 r l)
  · rw [value0Cast_apply, value0_apply]
    exact dot_col x0 x1 x2 r l 2048 _ _ rfl
  · rw [value1Cast_apply, value1_apply]
    exact dot_col x0 x1 x2 r l 2560 _ _ (by show 2048 + (512 + l.val) = 2560 + l.val; omega)

/-- The keys, head by head. -/
theorem out6_apply (r : Fin 512) (h : Fin 16) (d : Fin 64) : out0_A_6 c i a1 h1 a2 h2 a3 h3 a4 h4 a5 h5 a6 h6 a7 h7 a8 h8 a9 h9 a10 h10 a11 h11 hc x0 x1 x2 (ix3 r h d)
      = (∑ k : Fin 1024, hRow x0 x1 r k * x2 (ix2 k (⟨1024 + (h.val * 64 + d.val), by omega⟩ : Fin 3072))) := by
  unfold out0_A_6
  rw [View.read_writes_eq_canon _ _ _ (cover0_A_6 c i a1 h1 a2 h2 a3 h3 a4 h4 a5 h5 a6 h6 a7 h7 a8 h8 a9 h9 a10 h10 a11 h11 hc x0 x1 x2)]
  unfold kernelRun0_A
  dsimp only
  sl_unfold_words
  rw [View.canon_cons_unit_zero (S := S512x16x64) hz3]
  refine (keyHeads_load a10.view _ r h d).trans ?_
  simp only [View.readAt_eq_ld, h1.read_unread, h2.read_unread, h3.read_unread, View.readCov_unit_zero (S := S512x1024) _ hz,
    View.ld_unit_zero (S := S512x1024) hz, View.ld_unit_zero (S := S1x1024) hz]
  refine (head_halves _ _ _ _ _ (colBlock 1024 (by norm_num) x0 x1 x2) (fun r l => ?_) (fun r l => ?_) r h d).trans rfl
  · rw [key0_apply]
    exact dot_col x0 x1 x2 r l 1024 _ _ rfl
  · rw [key1_apply]
    exact dot_col x0 x1 x2 r l 1536 _ _ (by show 1024 + (512 + l.val) = 1536 + l.val; omega)

/-- The values, head by head. -/
theorem out7_apply (r : Fin 512) (h : Fin 16) (d : Fin 64) : out0_A_7 c i a1 h1 a2 h2 a3 h3 a4 h4 a5 h5 a6 h6 a7 h7 a8 h8 a9 h9 a10 h10 a11 h11 hc x0 x1 x2 (ix3 r h d)
      = (∑ k : Fin 1024, hRow x0 x1 r k * x2 (ix2 k (⟨2048 + (h.val * 64 + d.val), by omega⟩ : Fin 3072))) := by
  unfold out0_A_7
  rw [View.read_writes_eq_canon _ _ _ (cover0_A_7 c i a1 h1 a2 h2 a3 h3 a4 h4 a5 h5 a6 h6 a7 h7 a8 h8 a9 h9 a10 h10 a11 h11 hc x0 x1 x2)]
  unfold kernelRun0_A
  dsimp only
  sl_unfold_words
  rw [View.canon_cons_unit_zero (S := S512x16x64) hz3]
  refine (valueHeads_load a11.view _ r h d).trans ?_
  simp only [View.readAt_eq_ld, h1.read_unread, h2.read_unread, h3.read_unread, View.readCov_unit_zero (S := S512x1024) _ hz,
    View.ld_unit_zero (S := S512x1024) hz, View.ld_unit_zero (S := S1x1024) hz]
  refine (head_halves _ _ _ _ _ (colBlock 2048 (by norm_num) x0 x1 x2) (fun r l => ?_) (fun r l => ?_) r h d).trans rfl
  · rw [value0_apply]
    exact dot_col x0 x1 x2 r l 2048 _ _ rfl
  · rw [value1_apply]
    exact dot_col x0 x1 x2 r l 2560 _ _ (by show 2048 + (512 + l.val) = 2560 + l.val; omega)

end

end Cert.CSampleIdeal.Hand

end
-- ==== Proof.CSampleValue.lean ====
/-
  What the second layer's input projection of the samples leaves in its five result arrays after the run: the
  normalised rows times the columns of the weights that make the queries, the keys and the values.
-/
module

public import proofs.«01_k».proof.Proof.CSampleBlock
public import Idealize.ShloMosaic.Lib.Pipeline.Value

@[expose] public section

noncomputable section

namespace Cert.CSampleIdeal.Hand

open Cert.CSampleIdeal Cert.CSampleIdeal.Gen Cert.Rows
open Idealize.ShloMosaic Idealize.ShloMosaic.TcCoe Idealize.SL.Sem Finset

section

variable (x : FVec Ideal S512x1024 .f32) (g : FVec Ideal S2x1024 .f32) (w : FVec Ideal S1x1024x3072 .f32)

/-- A normalised row times column `j` of the weights. -/
def proj (R : Fin 512) (j : Fin 3072) : EReal :=
  ∑ k : Fin 1024, rmsRow (fun k => x (ix2 R k)) (fun k => g (ix2 (1 : Fin 2) k)) k * w (ix3 (0 : Fin 1) k j)

/-- The queries, scaled. -/
def queries : FVec Ideal S512x1024 .bf16 := fun y =>
  proj x g w (y 0) (⟨0 + (show Fin 1024 from y 1).val, by have := (show Fin 1024 from y 1).isLt; omega⟩ : Fin 3072) * Ideal.ofBits .f32 0x3E000000#32

/-- The keys. -/
def keys : FVec Ideal S512x1024 .bf16 := fun y =>
  proj x g w (y 0) (⟨1024 + (show Fin 1024 from y 1).val, by have := (show Fin 1024 from y 1).isLt; omega⟩ : Fin 3072)

/-- The values. -/
def values : FVec Ideal S512x1024 .bf16 := fun y =>
  proj x g w (y 0) (⟨2048 + (show Fin 1024 from y 1).val, by have := (show Fin 1024 from y 1).isLt; omega⟩ : Fin 3072)

/-- The keys, head by head. -/
def keyHeads : FVec Ideal S512x16x64 .f32 := fun y =>
  proj x g w (y 0) (⟨1024 + ((show Fin 16 from y 1).val * 64 + (show Fin 64 from y 2).val), by have := (show Fin 16 from y 1).isLt; have := (show Fin 64 from y 2).isLt; omega⟩ : Fin 3072)

/-- The values, head by head. -/
def valueHeads : FVec Ideal S512x16x64 .f32 := fun y =>
  proj x g w (y 0) (⟨2048 + ((show Fin 16 from y 1).val * 64 + (show Fin 64 from y 2).val), by have := (show Fin 16 from y 1).isLt; have := (show Fin 64 from y 2).isLt; omega⟩ : Fin 3072)

end

theorem read_g (w : FVec Ideal S2x1024 .f32) (k : Fin 1024) : (shapeCast S1x1024 (shapeCast S1024 (extractStridedSlice S1x1024 ![1, 0] w slices_S2x1024_S1x1024_1_0) shapeCasts_S1x1024_S1024) shapeCasts_S1024_S1x1024 : FVec Ideal S1x1024 .f32) (ix2 (0 : Fin 1) k) = w (ix2 (1 : Fin 2) k) := by
  pointwise []

theorem read_w (w : FVec Ideal S1x1024x3072 .f32) (k : Fin 1024) (j : Fin 3072) : (truncf .bf16 (shapeCast S1024x3072 w shapeCasts_S1x1024x3072_S1024x3072) bitsLt_bf16_f32 : FVec Ideal S1024x3072 .bf16) (ix2 k j) = w (ix3 (0 : Fin 1) k j) := by
  pointwise []

variable (m : (ℓ : Loc nD τ sig) → Buf (Elt Ideal) ℓ) (ρ : Dev nD → PrngReg)

/-! What the region finds in the arrays the host operations wrote. -/

theorem V_x (c : Dev nD) (R : Fin 512) (k : Fin 1024) : (V m c main_arg0 : FVec Ideal S512x1024 .f32) (ix2 R k) = (m ((c : Thread nD τ).loc main_arg0) : FVec Ideal S512x1024 .f32) (ix2 R k) :=
  congrFun (V_main_arg0 m c) _

theorem V_g (c : Dev nD) (k : Fin 1024) : (V m c main_v2 : FVec Ideal S1x1024 .f32) (ix2 (0 : Fin 1) k) = (m ((c : Thread nD τ).loc main_arg1) : FVec Ideal S2x1024 .f32) (ix2 (1 : Fin 2) k) := by
  have e : V m c main_v2 = (shapeCast S1x1024 (shapeCast S1024 (extractStridedSlice S1x1024 ![1, 0] (m ((c : Thread nD τ).loc main_arg1) : FVec Ideal S2x1024 .f32) slices_S2x1024_S1x1024_1_0) shapeCasts_S1x1024_S1024) shapeCasts_S1024_S1x1024 : FVec Ideal S1x1024 .f32) := by
    unfold V
    simp only [hostOps0]
    after_results <;> rfl
  exact (congrFun e _).trans (read_g _ k)

theorem V_w (c : Dev nD) (k : Fin 1024) (j : Fin 3072) : (V m c main_v4 : FVec Ideal S1024x3072 .bf16) (ix2 k j) = (m ((c : Thread nD τ).loc main_arg2) : FVec Ideal S1x1024x3072 .f32) (ix3 (0 : Fin 1) k j) := by
  have e : V m c main_v4 = (truncf .bf16 (shapeCast S1024x3072 (m ((c : Thread nD τ).loc main_arg2) : FVec Ideal S1x1024x3072 .f32) shapeCasts_S1x1024x3072_S1024x3072) bitsLt_bf16_f32 : FVec Ideal S1024x3072 .bf16) := by
    unfold V
    simp only [hostOps0]
    after_results <;> rfl
  exact (congrFun e _).trans (read_w _ k j)

/-! The index maps, decided over the grid: every block is its whole array. -/

theorem index0 (t : Fin cfg0.N) : win0_0.index t 0 = 0 ∧ win0_0.index t 1 = 0 :=
  (by decide +kernel : ∀ t : Fin grid0.N, win0_0.index t 0 = 0 ∧ win0_0.index t 1 = 0) t

theorem index1 (t : Fin cfg0.N) : win0_1.index t 0 = 0 ∧ win0_1.index t 1 = 0 :=
  (by decide +kernel : ∀ t : Fin grid0.N, win0_1.index t 0 = 0 ∧ win0_1.index t 1 = 0) t

theorem index2 (t : Fin cfg0.N) : win0_2.index t 0 = 0 ∧ win0_2.index t 1 = 0 :=
  (by decide +kernel : ∀ t : Fin grid0.N, win0_2.index t 0 = 0 ∧ win0_2.index t 1 = 0) t

theorem index3 (t : Fin cfg0.N) : win0_3.index t 0 = 0 ∧ win0_3.index t 1 = 0 :=
  (by decide +kernel : ∀ t : Fin grid0.N, win0_3.index t 0 = 0 ∧ win0_3.index t 1 = 0) t

theorem index4 (t : Fin cfg0.N) : win0_4.index t 0 = 0 ∧ win0_4.index t 1 = 0 :=
  (by decide +kernel : ∀ t : Fin grid0.N, win0_4.index t 0 = 0 ∧ win0_4.index t 1 = 0) t

theorem index5 (t : Fin cfg0.N) : win0_5.index t 0 = 0 ∧ win0_5.index t 1 = 0 :=
  (by decide +kernel : ∀ t : Fin grid0.N, win0_5.index t 0 = 0 ∧ win0_5.index t 1 = 0) t

theorem index6 (t : Fin cfg0.N) : win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0) t

theorem index7 (t : Fin cfg0.N) : win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0) t

/-! The windows' blocks, in the arrays. -/

theorem x_block (c : Dev nD) (t : Fin cfg0.N) (R : Fin 512) (k : Fin 1024) :
    iblk m c 0 t (ValueIdx.ix2 R k) = (m ((c : Thread nD τ).loc main_arg0) : FVec Ideal S512x1024 .f32) (ix2 R k) := by
  refine Eq.trans ?_ (V_x m c R k)
  show V m c (Pipeline.arrRef spec0 0) ((win0_0.rect t).emb (ValueIdx.ix2 R k)) = _
  obtain ⟨h0, h1⟩ := index0 t
  refine congrArg (V m c main_arg0) (funext fun a => Fin.ext ?_)
  refine (win0_0.rect_emb_val t _ a).trans ?_
  match a with
  | ⟨0, _⟩ => show win0_0.index t 0 * 512 + R.val = R.val; rw [h0] <;> omega
  | ⟨1, _⟩ => show win0_0.index t 1 * 1024 + k.val = k.val; rw [h1] <;> omega

theorem g_block (c : Dev nD) (t : Fin cfg0.N) (k : Fin 1024) :
    iblk m c 1 t (ValueIdx.ix2 (0 : Fin 1) k) = (m ((c : Thread nD τ).loc main_arg1) : FVec Ideal S2x1024 .f32) (ix2 (1 : Fin 2) k) := by
  refine Eq.trans ?_ (V_g m c k)
  show V m c (Pipeline.arrRef spec0 1) ((win0_1.rect t).emb (ValueIdx.ix2 (0 : Fin 1) k)) = _
  obtain ⟨h0, h1⟩ := index1 t
  refine congrArg (V m c main_v2) (funext fun a => Fin.ext ?_)
  refine (win0_1.rect_emb_val t _ a).trans ?_
  match a with
  | ⟨0, _⟩ => show win0_1.index t 0 * 1 + 0 = 0; rw [h0] <;> omega
  | ⟨1, _⟩ => show win0_1.index t 1 * 1024 + k.val = k.val; rw [h1] <;> omega

theorem w_block (c : Dev nD) (t : Fin cfg0.N) (k : Fin 1024) (j : Fin 3072) :
    iblk m c 2 t (ValueIdx.ix2 k j) = (m ((c : Thread nD τ).loc main_arg2) : FVec Ideal S1x1024x3072 .f32) (ix3 (0 : Fin 1) k j) := by
  refine Eq.trans ?_ (V_w m c k j)
  show V m c (Pipeline.arrRef spec0 2) ((win0_2.rect t).emb (ValueIdx.ix2 k j)) = _
  obtain ⟨h0, h1⟩ := index2 t
  refine congrArg (V m c main_v4) (funext fun a => Fin.ext ?_)
  refine (win0_2.rect_emb_val t _ a).trans ?_
  match a with
  | ⟨0, _⟩ => show win0_2.index t 0 * 1024 + k.val = k.val; rw [h0] <;> omega
  | ⟨1, _⟩ => show win0_2.index t 1 * 3072 + j.val = j.val; rw [h1] <;> omega

/-- A normalised row times a column. -/
theorem col_block (c : Dev nD) (t : Fin cfg0.N) (R : Fin 512) (j : Fin 3072) :
    (∑ k : Fin 1024, hRow (iblk m c 0 t) (iblk m c 1 t) R k * (show Vec Ideal S1024x3072 .bf16 from iblk m c 2 t) (ix2 k j)) = proj (m ((c : Thread nD τ).loc main_arg0)) (m ((c : Thread nD τ).loc main_arg1)) (m ((c : Thread nD τ).loc main_arg2)) R j := by
  have hr : hRow (iblk m c 0 t) (iblk m c 1 t) R = rmsRow (fun k => (m ((c : Thread nD τ).loc main_arg0) : FVec Ideal S512x1024 .f32) (ix2 R k)) (fun k => (m ((c : Thread nD τ).loc main_arg1) : FVec Ideal S2x1024 .f32) (ix2 (1 : Fin 2) k)) :=
    congrArg₂ rmsRow (funext fun k => x_block m c t R k) (funext fun k => g_block m c t k)
  unfold proj
  rw [hr]
  exact sum_congr rfl fun k _ => congrArg (_ * ·) (w_block m c t k j)

/-- The grid's point. -/
theorem point : ∃ _ : Fin cfg0.N, True := by
  obtain ⟨t, _⟩ := (by decide +kernel : ∃ t : Fin grid0.N, (grid0.coords t 0).val = 0)
  exact ⟨t, trivial⟩

/-! Result 0. -/

theorem emb3 (t : Fin cfg0.N) (r : Fin 512) (l : Fin 1024) : (win0_3.rect t).emb (ValueIdx.ix2 r l) = ix2 r l := by
  obtain ⟨h0, h1⟩ := index3 t
  refine funext fun a => Fin.ext ?_
  refine (win0_3.rect_emb_val t _ a).trans ?_
  match a with
  | ⟨0, _⟩ => show win0_3.index t 0 * 512 + r.val = r.val; rw [h0] <;> omega
  | ⟨1, _⟩ => show win0_3.index t 1 * 1024 + l.val = l.val; rw [h1] <;> omega

theorem block3 (c : Dev nD) (t : Fin cfg0.N) (r : Fin 512) (l : Fin 1024) :
    out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (hcond0_0 t) (iblk m c 0 t) (iblk m c 1 t) (iblk m c 2 t) (ValueIdx.ix2 r l) = queries (m ((c : Thread nD τ).loc main_arg0)) (m ((c : Thread nD τ).loc main_arg1)) (m ((c : Thread nD τ).loc main_arg2)) (ix2 r l) := by
  refine (out3_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (hcond0_0 t) (iblk m c 0 t) (iblk m c 1 t) (iblk m c 2 t) r l).trans ?_
  exact congrArg (· * Ideal.ofBits .f32 0x3E000000#32) (col_block m c t r _)

theorem final3 (c : Dev nD) : (dats m 0 c).arrAt 3 cfg0.N = queries (m ((c : Thread nD τ).loc main_arg0)) (m ((c : Thread nD τ).loc main_arg1)) (m ((c : Thread nD τ).loc main_arg2)) := by
  refine (dats m 0 c).arrAt_eq_of_cover 3 _ (fun t _ => ?_) (fun y => ?_)
  · rw [Value.flushed3_A]
    funext y
    obtain ⟨r, l, rfl⟩ : ∃ (r : Fin 512) (l : Fin 1024), y = (ValueIdx.ix2 r l) := ⟨y 0, y 1, by
      funext a; match a with | ⟨0, _⟩ => rfl | ⟨1, _⟩ => rfl⟩
    refine (block3 m c t r l).trans ?_
    exact congrArg _ (emb3 t r l).symm
  · obtain ⟨t, _⟩ := point
    refine ⟨t, flush0_3 t, ?_⟩
    have e : y = (win0_3.rect t).emb (ValueIdx.ix2 (show Fin 512 from y 0) (show Fin 1024 from y 1)) := by
      refine Eq.trans ?_ (emb3 t (show Fin 512 from y 0) (show Fin 1024 from y 1)).symm
      funext a
      match a with | ⟨0, _⟩ => rfl | ⟨1, _⟩ => rfl
    rw [e]
    exact Finset.mem_map_of_mem _ (Finset.mem_univ _)

/-! Result 1. -/

theorem emb4 (t : Fin cfg0.N) (r : Fin 512) (l : Fin 1024) : (win0_4.rect t).emb (ValueIdx.ix2 r l) = ix2 r l := by
  obtain ⟨h0, h1⟩ := index4 t
  refine funext fun a => Fin.ext ?_
  refine (win0_4.rect_emb_val t _ a).trans ?_
  match a with
  | ⟨0, _⟩ => show win0_4.index t 0 * 512 + r.val = r.val; rw [h0] <;> omega
  | ⟨1, _⟩ => show win0_4.index t 1 * 1024 + l.val = l.val; rw [h1] <;> omega

theorem block4 (c : Dev nD) (t : Fin cfg0.N) (r : Fin 512) (l : Fin 1024) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (hcond0_0 t) (iblk m c 0 t) (iblk m c 1 t) (iblk m c 2 t) (ValueIdx.ix2 r l) = keys (m ((c : Thread nD τ).loc main_arg0)) (m ((c : Thread nD τ).loc main_arg1)) (m ((c : Thread nD τ).loc main_arg2)) (ix2 r l) := by
  refine (out4_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (hcond0_0 t) (iblk m c 0 t) (iblk m c 1 t) (iblk m c 2 t) r l).trans ?_
  exact col_block m c t r _

theorem final4 (c : Dev nD) : (dats m 0 c).arrAt 4 cfg0.N = keys (m ((c : Thread nD τ).loc main_arg0)) (m ((c : Thread nD τ).loc main_arg1)) (m ((c : Thread nD τ).loc main_arg2)) := by
  refine (dats m 0 c).arrAt_eq_of_cover 4 _ (fun t _ => ?_) (fun y => ?_)
  · rw [Value.flushed4_A]
    funext y
    obtain ⟨r, l, rfl⟩ : ∃ (r : Fin 512) (l : Fin 1024), y = (ValueIdx.ix2 r l) := ⟨y 0, y 1, by
      funext a; match a with | ⟨0, _⟩ => rfl | ⟨1, _⟩ => rfl⟩
    refine (block4 m c t r l).trans ?_
    exact congrArg _ (emb4 t r l).symm
  · obtain ⟨t, _⟩ := point
    refine ⟨t, flush0_4 t, ?_⟩
    have e : y = (win0_4.rect t).emb (ValueIdx.ix2 (show Fin 512 from y 0) (show Fin 1024 from y 1)) := by
      refine Eq.trans ?_ (emb4 t (show Fin 512 from y 0) (show Fin 1024 from y 1)).symm
      funext a
      match a with | ⟨0, _⟩ => rfl | ⟨1, _⟩ => rfl
    rw [e]
    exact Finset.mem_map_of_mem _ (Finset.mem_univ _)

/-! Result 2. -/

theorem emb5 (t : Fin cfg0.N) (r : Fin 512) (l : Fin 1024) : (win0_5.rect t).emb (ValueIdx.ix2 r l) = ix2 r l := by
  obtain ⟨h0, h1⟩ := index5 t
  refine funext fun a => Fin.ext ?_
  refine (win0_5.rect_emb_val t _ a).trans ?_
  match a with
  | ⟨0, _⟩ => show win0_5.index t 0 * 512 + r.val = r.val; rw [h0] <;> omega
  | ⟨1, _⟩ => show win0_5.index t 1 * 1024 + l.val = l.val; rw [h1] <;> omega

theorem block5 (c : Dev nD) (t : Fin cfg0.N) (r : Fin 512) (l : Fin 1024) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (hcond0_0 t) (iblk m c 0 t) (iblk m c 1 t) (iblk m c 2 t) (ValueIdx.ix2 r l) = values (m ((c : Thread nD τ).loc main_arg0)) (m ((c : Thread nD τ).loc main_arg1)) (m ((c : Thread nD τ).loc main_arg2)) (ix2 r l) := by
  refine (out5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (hcond0_0 t) (iblk m c 0 t) (iblk m c 1 t) (iblk m c 2 t) r l).trans ?_
  exact col_block m c t r _

theorem final5 (c : Dev nD) : (dats m 0 c).arrAt 5 cfg0.N = values (m ((c : Thread nD τ).loc main_arg0)) (m ((c : Thread nD τ).loc main_arg1)) (m ((c : Thread nD τ).loc main_arg2)) := by
  refine (dats m 0 c).arrAt_eq_of_cover 5 _ (fun t _ => ?_) (fun y => ?_)
  · rw [Value.flushed5_A]
    funext y
    obtain ⟨r, l, rfl⟩ : ∃ (r : Fin 512) (l : Fin 1024), y = (ValueIdx.ix2 r l) := ⟨y 0, y 1, by
      funext a; match a with | ⟨0, _⟩ => rfl | ⟨1, _⟩ => rfl⟩
    refine (block5 m c t r l).trans ?_
    exact congrArg _ (emb5 t r l).symm
  · obtain ⟨t, _⟩ := point
    refine ⟨t, flush0_5 t, ?_⟩
    have e : y = (win0_5.rect t).emb (ValueIdx.ix2 (show Fin 512 from y 0) (show Fin 1024 from y 1)) := by
      refine Eq.trans ?_ (emb5 t (show Fin 512 from y 0) (show Fin 1024 from y 1)).symm
      funext a
      match a with | ⟨0, _⟩ => rfl | ⟨1, _⟩ => rfl
    rw [e]
    exact Finset.mem_map_of_mem _ (Finset.mem_univ _)

/-! Result 3. -/

theorem emb6 (t : Fin cfg0.N) (r : Fin 512) (h : Fin 16) (d : Fin 64) : (win0_6.rect t).emb (ValueIdx.ix3 r h d) = ix3 r h d := by
  obtain ⟨h0, h1, h2⟩ := index6 t
  refine funext fun a => Fin.ext ?_
  refine (win0_6.rect_emb_val t _ a).trans ?_
  match a with
  | ⟨0, _⟩ => show win0_6.index t 0 * 512 + r.val = r.val; rw [h0] <;> omega
  | ⟨1, _⟩ => show win0_6.index t 1 * 16 + h.val = h.val; rw [h1] <;> omega
  | ⟨2, _⟩ => show win0_6.index t 2 * 64 + d.val = d.val; rw [h2] <;> omega

theorem block6 (c : Dev nD) (t : Fin cfg0.N) (r : Fin 512) (h : Fin 16) (d : Fin 64) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (hcond0_0 t) (iblk m c 0 t) (iblk m c 1 t) (iblk m c 2 t) (ValueIdx.ix3 r h d) = keyHeads (m ((c : Thread nD τ).loc main_arg0)) (m ((c : Thread nD τ).loc main_arg1)) (m ((c : Thread nD τ).loc main_arg2)) (ix3 r h d) := by
  refine (out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (hcond0_0 t) (iblk m c 0 t) (iblk m c 1 t) (iblk m c 2 t) r h d).trans ?_
  exact col_block m c t r _

theorem final6 (c : Dev nD) : (dats m 0 c).arrAt 6 cfg0.N = keyHeads (m ((c : Thread nD τ).loc main_arg0)) (m ((c : Thread nD τ).loc main_arg1)) (m ((c : Thread nD τ).loc main_arg2)) := by
  refine (dats m 0 c).arrAt_eq_of_cover 6 _ (fun t _ => ?_) (fun y => ?_)
  · rw [Value.flushed6_A]
    funext y
    obtain ⟨r, h, d, rfl⟩ : ∃ (r : Fin 512) (h : Fin 16) (d : Fin 64), y = (ValueIdx.ix3 r h d) := ⟨y 0, y 1, y 2, by
      funext a; match a with | ⟨0, _⟩ => rfl | ⟨1, _⟩ => rfl | ⟨2, _⟩ => rfl⟩
    refine (block6 m c t r h d).trans ?_
    exact congrArg _ (emb6 t r h d).symm
  · obtain ⟨t, _⟩ := point
    refine ⟨t, flush0_6 t, ?_⟩
    have e : y = (win0_6.rect t).emb (ValueIdx.ix3 (show Fin 512 from y 0) (show Fin 16 from y 1) (show Fin 64 from y 2)) := by
      refine Eq.trans ?_ (emb6 t (show Fin 512 from y 0) (show Fin 16 from y 1) (show Fin 64 from y 2)).symm
      funext a
      match a with | ⟨0, _⟩ => rfl | ⟨1, _⟩ => rfl | ⟨2, _⟩ => rfl
    rw [e]
    exact Finset.mem_map_of_mem _ (Finset.mem_univ _)

/-! Result 4. -/

theorem emb7 (t : Fin cfg0.N) (r : Fin 512) (h : Fin 16) (d : Fin 64) : (win0_7.rect t).emb (ValueIdx.ix3 r h d) = ix3 r h d := by
  obtain ⟨h0, h1, h2⟩ := index7 t
  refine funext fun a => Fin.ext ?_
  refine (win0_7.rect_emb_val t _ a).trans ?_
  match a with
  | ⟨0, _⟩ => show win0_7.index t 0 * 512 + r.val = r.val; rw [h0] <;> omega
  | ⟨1, _⟩ => show win0_7.index t 1 * 16 + h.val = h.val; rw [h1] <;> omega
  | ⟨2, _⟩ => show win0_7.index t 2 * 64 + d.val = d.val; rw [h2] <;> omega

theorem block7 (c : Dev nD) (t : Fin cfg0.N) (r : Fin 512) (h : Fin 16) (d : Fin 64) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (hcond0_0 t) (iblk m c 0 t) (iblk m c 1 t) (iblk m c 2 t) (ValueIdx.ix3 r h d) = valueHeads (m ((c : Thread nD τ).loc main_arg0)) (m ((c : Thread nD τ).loc main_arg1)) (m ((c : Thread nD τ).loc main_arg2)) (ix3 r h d) := by
  refine (out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (hcond0_0 t) (iblk m c 0 t) (iblk m c 1 t) (iblk m c 2 t) r h d).trans ?_
  exact col_block m c t r _

theorem final7 (c : Dev nD) : (dats m 0 c).arrAt 7 cfg0.N = valueHeads (m ((c : Thread nD τ).loc main_arg0)) (m ((c : Thread nD τ).loc main_arg1)) (m ((c : Thread nD τ).loc main_arg2)) := by
  refine (dats m 0 c).arrAt_eq_of_cover 7 _ (fun t _ => ?_) (fun y => ?_)
  · rw [Value.flushed7_A]
    funext y
    obtain ⟨r, h, d, rfl⟩ : ∃ (r : Fin 512) (h : Fin 16) (d : Fin 64), y = (ValueIdx.ix3 r h d) := ⟨y 0, y 1, y 2, by
      funext a; match a with | ⟨0, _⟩ => rfl | ⟨1, _⟩ => rfl | ⟨2, _⟩ => rfl⟩
    refine (block7 m c t r h d).trans ?_
    exact congrArg _ (emb7 t r h d).symm
  · obtain ⟨t, _⟩ := point
    refine ⟨t, flush0_7 t, ?_⟩
    have e : y = (win0_7.rect t).emb (ValueIdx.ix3 (show Fin 512 from y 0) (show Fin 16 from y 1) (show Fin 64 from y 2)) := by
      refine Eq.trans ?_ (emb7 t (show Fin 512 from y 0) (show Fin 16 from y 1) (show Fin 64 from y 2)).symm
      funext a
      match a with | ⟨0, _⟩ => rfl | ⟨1, _⟩ => rfl | ⟨2, _⟩ => rfl
    rw [e]
    exact Finset.mem_map_of_mem _ (Finset.mem_univ _)

/-- The run, with the results named. -/
theorem run_result : θ_run defs (onTc (τ := τ) (main (F := Ideal))) ⟨m, fun _ => 0, ρ⟩ fun r => ∀ c : Dev nD,
      r.2.mem ((c : Thread nD τ).loc main_v5_0) = queries (m ((c : Thread nD τ).loc main_arg0)) (m ((c : Thread nD τ).loc main_arg1)) (m ((c : Thread nD τ).loc main_arg2))
      ∧ r.2.mem ((c : Thread nD τ).loc main_v5_1) = keys (m ((c : Thread nD τ).loc main_arg0)) (m ((c : Thread nD τ).loc main_arg1)) (m ((c : Thread nD τ).loc main_arg2))
      ∧ r.2.mem ((c : Thread nD τ).loc main_v5_2) = values (m ((c : Thread nD τ).loc main_arg0)) (m ((c : Thread nD τ).loc main_arg1)) (m ((c : Thread nD τ).loc main_arg2))
      ∧ r.2.mem ((c : Thread nD τ).loc main_v5_3) = keyHeads (m ((c : Thread nD τ).loc main_arg0)) (m ((c : Thread nD τ).loc main_arg1)) (m ((c : Thread nD τ).loc main_arg2))
      ∧ r.2.mem ((c : Thread nD τ).loc main_v5_4) = valueHeads (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2.1.trans (final5 m c), (h c).2.2.2.1.trans (final6 m c), (h c).2.2.2.2.1.trans (final7 m c), (h c).2.2.2.2.2⟩) (Value.run_blocks m ρ)

end Cert.CSampleIdeal.Hand

end
-- ==== Proof.CSampleReference.lean ====
/-
  What the reference of the second layer's input projection of the samples computes, element by element, and that the
  kernel's results are the same.
-/
module

public import proofs.«01_k».proof.Proof.Gen.CSampleRefIdeal.Run
public import proofs.«01_k».proof.Proof.CSampleValue
public import Idealize.ShloMosaic.Lib.IdealHost

@[expose] public section

noncomputable section

namespace Cert.CSampleRefIdeal.Hand

open Cert.CSampleRefIdeal Cert.CSampleRefIdeal.Gen Cert.Rows
open Idealize.ShloMosaic Idealize.ShloMosaic.TcCoe Finset

/-- The rows normalised, times the layer's gains. -/
def normR (x : FVec Ideal S512x1024 .f32) (g : FVec Ideal S2x1024 .f32) : FVec Ideal S512x1024 .f32 :=
  mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 (shapeCast _ (extractStridedSlice S1x1024 ![1, 0] g slices_S2x1024_S1x1024_1_0) shapeCasts_S1x1024_S1024)))

/-- The rows times the weights. -/
def projR (x : FVec Ideal S512x1024 .f32) (g : FVec Ideal S2x1024 .f32) (w : FVec Ideal S1x1024x3072 .f32) : FVec Ideal S512x3072 .f32 :=
  Host.dotGeneral dot_S512x1024_S1024x3072_S512x3072_1_0_0_1_n_n none (normR x g) (shapeCast _ w shapeCasts_S1x1024x3072_S1024x3072)

/-- The queries, scaled, from all the products. -/
def queriesR (p : FVec Ideal S512x3072 .f32) : FVec Ideal S512x1024 .bf16 :=
  truncf .bf16 (mulf (extractStridedSlice S512x1024 ![0, 0] p slices_S512x3072_S512x1024_0_0) (broadcastInDim S512x1024 ![] bcast_S_S512x1024 (constant S_ .f32 0x3E000000#32))) bitsLt_bf16_f32

/-- The keys. -/
def keysR (p : FVec Ideal S512x3072 .f32) : FVec Ideal S512x1024 .bf16 :=
  truncf .bf16 (extractStridedSlice S512x1024 ![0, 1024] p slices_S512x3072_S512x1024_0_1024) bitsLt_bf16_f32

/-- The values. -/
def valuesR (p : FVec Ideal S512x3072 .f32) : FVec Ideal S512x1024 .bf16 :=
  truncf .bf16 (extractStridedSlice S512x1024 ![0, 2048] p slices_S512x3072_S512x1024_0_2048) bitsLt_bf16_f32

/-- The keys, head by head. -/
def keyHeadsR (p : FVec Ideal S512x3072 .f32) : FVec Ideal S512x16x64 .f32 :=
  shapeCast _ (extractStridedSlice S512x1024 ![0, 1024] p slices_S512x3072_S512x1024_0_1024) shapeCasts_S512x1024_S512x16x64

/-- The values, head by head. -/
def valueHeadsR (p : FVec Ideal S512x3072 .f32) : FVec Ideal S512x16x64 .f32 :=
  shapeCast _ (extractStridedSlice S512x1024 ![0, 2048] p slices_S512x3072_S512x1024_0_2048) shapeCasts_S512x1024_S512x16x64

section

variable (x : FVec Ideal S512x1024 .f32) (g : FVec Ideal S2x1024 .f32) (w : FVec Ideal S1x1024x3072 .f32)

theorem normR_apply (R : Fin 512) (l : Fin 1024) :
    normR x g (ix2 R l) = rmsRow (fun k => x (ix2 R k)) (fun k => g (ix2 (1 : Fin 2) k)) l := by
  pointwise [normR, rmsRow]

theorem projR_sum (R : Fin 512) (j : Fin 3072) : projR x g w (ix2 R j) = ∑ k : Fin 1024, normR x g (ix2 R k) * w (ix3 (0 : Fin 1) k j) := by
  pointwise [projR]

theorem projR_apply (R : Fin 512) (j : Fin 3072) : projR x g w (ix2 R j) = CSampleIdeal.Hand.proj x g w R j := by
  rw [projR_sum]
  exact sum_congr rfl fun k _ => congrArg (· * _) (normR_apply x g R k)

end

section

variable (p : FVec Ideal S512x3072 .f32)

theorem queriesR_apply (R : Fin 512) (l : Fin 1024) :
    queriesR p (ix2 R l) = p (ix2 R (⟨0 + l.val, by omega⟩ : Fin 3072)) * Ideal.ofBits .f32 0x3E000000#32 := by
  pointwise [queriesR]

theorem keysR_apply (R : Fin 512) (l : Fin 1024) :
    keysR p (ix2 R l) = p (ix2 R (⟨1024 + l.val, by omega⟩ : Fin 3072)) := by
  pointwise [keysR]

theorem valuesR_apply (R : Fin 512) (l : Fin 1024) :
    valuesR p (ix2 R l) = p (ix2 R (⟨2048 + l.val, by omega⟩ : Fin 3072)) := by
  pointwise [valuesR]

theorem keyHeadsR_apply (R : Fin 512) (h : Fin 16) (d : Fin 64) :
    keyHeadsR p (ix3 R h d) = p (ix2 R (⟨1024 + (h.val * 64 + d.val), by omega⟩ : Fin 3072)) := by
  pointwise [keyHeadsR]

theorem valueHeadsR_apply (R : Fin 512) (h : Fin 16) (d : Fin 64) :
    valueHeadsR p (ix3 R h d) = p (ix2 R (⟨2048 + (h.val * 64 + d.val), by omega⟩ : Fin 3072)) := by
  pointwise [valueHeadsR]

end

section

variable (x : FVec Ideal S512x1024 .f32) (g : FVec Ideal S2x1024 .f32) (w : FVec Ideal S1x1024x3072 .f32)

/-! The kernel's results are the reference's. -/

theorem queries_eq : queriesR (projR x g w) = CSampleIdeal.Hand.queries x g w := by
  funext y
  obtain ⟨R, l, rfl⟩ : ∃ (R : Fin 512) (l : Fin 1024), y = ix2 R l := ⟨y 0, y 1, by
    funext a; match a with | ⟨0, _⟩ => rfl | ⟨1, _⟩ => rfl⟩
  rw [queriesR_apply, projR_apply]
  rfl

theorem keys_eq : keysR (projR x g w) = CSampleIdeal.Hand.keys x g w := by
  funext y
  obtain ⟨R, l, rfl⟩ : ∃ (R : Fin 512) (l : Fin 1024), y = ix2 R l := ⟨y 0, y 1, by
    funext a; match a with | ⟨0, _⟩ => rfl | ⟨1, _⟩ => rfl⟩
  rw [keysR_apply, projR_apply]
  rfl

theorem values_eq : valuesR (projR x g w) = CSampleIdeal.Hand.values x g w := by
  funext y
  obtain ⟨R, l, rfl⟩ : ∃ (R : Fin 512) (l : Fin 1024), y = ix2 R l := ⟨y 0, y 1, by
    funext a; match a with | ⟨0, _⟩ => rfl | ⟨1, _⟩ => rfl⟩
  rw [valuesR_apply, projR_apply]
  rfl

theorem keyHeads_eq : keyHeadsR (projR x g w) = CSampleIdeal.Hand.keyHeads x g w := by
  funext y
  obtain ⟨R, h, d, rfl⟩ : ∃ (R : Fin 512) (h : Fin 16) (d : Fin 64), y = ix3 R h d := ⟨y 0, y 1, y 2, by
    funext a; match a with | ⟨0, _⟩ => rfl | ⟨1, _⟩ => rfl | ⟨2, _⟩ => rfl⟩
  rw [keyHeadsR_apply, projR_apply]
  rfl

theorem valueHeads_eq : valueHeadsR (projR x g w) = CSampleIdeal.Hand.valueHeads x g w := by
  funext y
  obtain ⟨R, h, d, rfl⟩ : ∃ (R : Fin 512) (h : Fin 16) (d : Fin 64), y = ix3 R h d := ⟨y 0, y 1, y 2, by
    funext a; match a with | ⟨0, _⟩ => rfl | ⟨1, _⟩ => rfl | ⟨2, _⟩ => rfl⟩
  rw [valueHeadsR_apply, projR_apply]
  rfl

end

end Cert.CSampleRefIdeal.Hand

end
-- ==== Proof.CSampleClaims.lean ====
/-
  The claims on the second layer's input projection of the samples: the frames and the equality with the reference over the extended reals.
-/
module

public import proofs.«01_k».proof.Defs
public import proofs.«01_k».proof.Proof.Gen.CSample.Frame
public import proofs.«01_k».proof.Proof.CSampleReference
public import Idealize.ShloMosaic.Lib.Quiescent

@[expose] public section

noncomputable section

namespace Cert.CSampleClaims

open Idealize.ShloMosaic Idealize.ShloMosaic.TcCoe Idealize.SL.Sem

theorem frame_p : quiescent_CSample (hCSample := Cert.CSample.Gen.facts) := fun m ρ _ => Cert.CSample.Gen.frame m ρ

theorem frame_pi : quiescent_CSampleIdeal (hCSampleIdeal := Cert.CSampleIdeal.Gen.facts) := fun m ρ _ => Cert.CSampleIdeal.Gen.frame m ρ

theorem frame_ri : quiescent_CSampleRefIdeal (hCSampleRefIdeal := Cert.CSampleRefIdeal.Gen.facts) := fun m ρ _ =>
  (θ_run Cert.CSampleRefIdeal.defs _ _).mono (fun r h => ⟨fun c => (h c).2.2.2.2.2, sem_eq_zero_of_no_sems (by decide) r.2⟩) (Cert.CSampleRefIdeal.Value.run m ρ)

theorem preserves : preserves_CSample_CSampleIdeal := trivial

theorem algebraic : algebraic_CSampleIdeal_CSampleRefIdeal (hCSampleIdeal := Cert.CSampleIdeal.Gen.facts) (hCSampleRefIdeal := Cert.CSampleRefIdeal.Gen.facts) := by
  intro m ρ m' ρ' _ hagree
  refine ⟨fun c : Dev Cert.CSampleIdeal.nD => Cert.CSampleIdeal.Hand.queries (m ((c.tc : Thread Cert.CSampleIdeal.nD Cert.CSampleIdeal.τ).loc Cert.CSampleIdeal.main_arg0)) (m ((c.tc : Thread Cert.CSampleIdeal.nD Cert.CSampleIdeal.τ).loc Cert.CSampleIdeal.main_arg1)) (m ((c.tc : Thread Cert.CSampleIdeal.nD Cert.CSampleIdeal.τ).loc Cert.CSampleIdeal.main_arg2)), fun c : Dev Cert.CSampleIdeal.nD => Cert.CSampleIdeal.Hand.keys (m ((c.tc : Thread Cert.CSampleIdeal.nD Cert.CSampleIdeal.τ).loc Cert.CSampleIdeal.main_arg0)) (m ((c.tc : Thread Cert.CSampleIdeal.nD Cert.CSampleIdeal.τ).loc Cert.CSampleIdeal.main_arg1)) (m ((c.tc : Thread Cert.CSampleIdeal.nD Cert.CSampleIdeal.τ).loc Cert.CSampleIdeal.main_arg2)), fun c : Dev Cert.CSampleIdeal.nD => Cert.CSampleIdeal.Hand.values (m ((c.tc : Thread Cert.CSampleIdeal.nD Cert.CSampleIdeal.τ).loc Cert.CSampleIdeal.main_arg0)) (m ((c.tc : Thread Cert.CSampleIdeal.nD Cert.CSampleIdeal.τ).loc Cert.CSampleIdeal.main_arg1)) (m ((c.tc : Thread Cert.CSampleIdeal.nD Cert.CSampleIdeal.τ).loc Cert.CSampleIdeal.main_arg2)), fun c : Dev Cert.CSampleIdeal.nD => Cert.CSampleIdeal.Hand.keyHeads (m ((c.tc : Thread Cert.CSampleIdeal.nD Cert.CSampleIdeal.τ).loc Cert.CSampleIdeal.main_arg0)) (m ((c.tc : Thread Cert.CSampleIdeal.nD Cert.CSampleIdeal.τ).loc Cert.CSampleIdeal.main_arg1)) (m ((c.tc : Thread Cert.CSampleIdeal.nD Cert.CSampleIdeal.τ).loc Cert.CSampleIdeal.main_arg2)), fun c : Dev Cert.CSampleIdeal.nD => Cert.CSampleIdeal.Hand.valueHeads (m ((c.tc : Thread Cert.CSampleIdeal.nD Cert.CSampleIdeal.τ).loc Cert.CSampleIdeal.main_arg0)) (m ((c.tc : Thread Cert.CSampleIdeal.nD Cert.CSampleIdeal.τ).loc Cert.CSampleIdeal.main_arg1)) (m ((c.tc : Thread Cert.CSampleIdeal.nD Cert.CSampleIdeal.τ).loc Cert.CSampleIdeal.main_arg2)), Cert.CSampleIdeal.Hand.run_result m ρ, ?_⟩
  refine (θ_run Cert.CSampleRefIdeal.defs _ _).mono (fun _ h c => ⟨(h c).1.trans ?_, (h c).2.1.trans ?_, (h c).2.2.1.trans ?_, (h c).2.2.2.1.trans ?_, (h c).2.2.2.2.1.trans ?_, (h c).2.2.2.2.2⟩) (Cert.CSampleRefIdeal.Value.run m' ρ')
  · show Cert.CSampleRefIdeal.Hand.queriesR (Cert.CSampleRefIdeal.Hand.projR (m' ((c.tc : Thread Cert.CSampleRefIdeal.nD Cert.CSampleRefIdeal.τ).loc Cert.CSampleRefIdeal.main_arg0)) (m' ((c.tc : Thread Cert.CSampleRefIdeal.nD Cert.CSampleRefIdeal.τ).loc Cert.CSampleRefIdeal.main_arg1)) (m' ((c.tc : Thread Cert.CSampleRefIdeal.nD Cert.CSampleRefIdeal.τ).loc Cert.CSampleRefIdeal.main_arg2))) = _
    rw [(hagree c).1, (hagree c).2.1, (hagree c).2.2]
    exact Cert.CSampleRefIdeal.Hand.queries_eq _ _ _
  · show Cert.CSampleRefIdeal.Hand.keysR (Cert.CSampleRefIdeal.Hand.projR (m' ((c.tc : Thread Cert.CSampleRefIdeal.nD Cert.CSampleRefIdeal.τ).loc Cert.CSampleRefIdeal.main_arg0)) (m' ((c.tc : Thread Cert.CSampleRefIdeal.nD Cert.CSampleRefIdeal.τ).loc Cert.CSampleRefIdeal.main_arg1)) (m' ((c.tc : Thread Cert.CSampleRefIdeal.nD Cert.CSampleRefIdeal.τ).loc Cert.CSampleRefIdeal.main_arg2))) = _
    rw [(hagree c).1, (hagree c).2.1, (hagree c).2.2]
    exact Cert.CSampleRefIdeal.Hand.keys_eq _ _ _
  · show Cert.CSampleRefIdeal.Hand.valuesR (Cert.CSampleRefIdeal.Hand.projR (m' ((c.tc : Thread Cert.CSampleRefIdeal.nD Cert.CSampleRefIdeal.τ).loc Cert.CSampleRefIdeal.main_arg0)) (m' ((c.tc : Thread Cert.CSampleRefIdeal.nD Cert.CSampleRefIdeal.τ).loc Cert.CSampleRefIdeal.main_arg1)) (m' ((c.tc : Thread Cert.CSampleRefIdeal.nD Cert.CSampleRefIdeal.τ).loc Cert.CSampleRefIdeal.main_arg2))) = _
    rw [(hagree c).1, (hagree c).2.1, (hagree c).2.2]
    exact Cert.CSampleRefIdeal.Hand.values_eq _ _ _
  · show Cert.CSampleRefIdeal.Hand.keyHeadsR (Cert.CSampleRefIdeal.Hand.projR (m' ((c.tc : Thread Cert.CSampleRefIdeal.nD Cert.CSampleRefIdeal.τ).loc Cert.CSampleRefIdeal.main_arg0)) (m' ((c.tc : Thread Cert.CSampleRefIdeal.nD Cert.CSampleRefIdeal.τ).loc Cert.CSampleRefIdeal.main_arg1)) (m' ((c.tc : Thread Cert.CSampleRefIdeal.nD Cert.CSampleRefIdeal.τ).loc Cert.CSampleRefIdeal.main_arg2))) = _
    rw [(hagree c).1, (hagree c).2.1, (hagree c).2.2]
    exact Cert.CSampleRefIdeal.Hand.keyHeads_eq _ _ _
  · show Cert.CSampleRefIdeal.Hand.valueHeadsR (Cert.CSampleRefIdeal.Hand.projR (m' ((c.tc : Thread Cert.CSampleRefIdeal.nD Cert.CSampleRefIdeal.τ).loc Cert.CSampleRefIdeal.main_arg0)) (m' ((c.tc : Thread Cert.CSampleRefIdeal.nD Cert.CSampleRefIdeal.τ).loc Cert.CSampleRefIdeal.main_arg1)) (m' ((c.tc : Thread Cert.CSampleRefIdeal.nD Cert.CSampleRefIdeal.τ).loc Cert.CSampleRefIdeal.main_arg2))) = _
    rw [(hagree c).1, (hagree c).2.1, (hagree c).2.2]
    exact Cert.CSampleRefIdeal.Hand.valueHeads_eq _ _ _

end Cert.CSampleClaims

end
-- ==== Proof.ConvRow.lean ====
/-
  Rows of the convolution, over the extended reals: the sum over the taps, and the normalisation with the gate behind it.
-/
module

public import Idealize.ShloMosaic.Lib.Pointwise

@[expose] public section

noncomputable section

namespace Cert.ConvRow

open Idealize.ShloMosaic Finset

/-- A bias plus the first `n` taps, each a row's element times its weight. -/
def taps (b : EReal) (e w : ℕ → EReal) : ℕ → EReal
  | 0 => b
  | n + 1 => taps b e w n + e n * w n

theorem taps_congr {b b' : EReal} {e e' w w' : ℕ → EReal} (n : ℕ) (hb : b = b') (he : ∀ k, k < n → e k = e' k) (hw : ∀ k, k < n → w k = w' k) :
    taps b e w n = taps b' e' w' n := by
  induction n with
  | zero => exact hb
  | succ n ih =>
    show taps b e w n + e n * w n = taps b' e' w' n + e' n * w' n
    rw [ih (fun k hk => he k (by omega)) (fun k hk => hw k (by omega)), he n (by omega), hw n (by omega)]

/-- The bias may as well be added last. -/
theorem taps_bias_last (b : EReal) (e w : ℕ → EReal) (n : ℕ) : taps b e w n = taps 0 e w n + b := by
  induction n with
  | zero => exact (zero_add b).symm
  | succ n ih =>
    show taps b e w n + e n * w n = taps 0 e w n + e n * w n + b
    rw [ih, add_right_comm]

/-- A row's mean. -/
def mean (y : Fin 512 → EReal) : EReal := Ideal.div (∑ k, y k) (Ideal.ofBits .f32 0x44000000#32)

/-- The row less its mean, divided by the root of its variance, times the gains plus the shifts. -/
def lnRow (y g b : Fin 512 → EReal) (l : Fin 512) : EReal :=
  (y l - mean y) * Ideal.rsqrt (Ideal.div (∑ k, (y k - mean y) * (y k - mean y)) (Ideal.ofBits .f32 0x44000000#32) + Ideal.ofBits .f32 0x3727C5AC#32) * g l + b l

/-- The normalised row times its logistic function. -/
def gatedRow (y g b : Fin 512 → EReal) (l : Fin 512) : EReal := lnRow y g b l * Ideal.logistic (lnRow y g b l)

theorem gatedRow_congr {y y' g g' b b' : Fin 512 → EReal} (hy : ∀ k, y k = y' k) (hg : ∀ k, g k = g' k) (hb : ∀ k, b k = b' k) (l : Fin 512) :
    gatedRow y g b l = gatedRow y' g' b' l := by
  rw [funext hy, funext hg, funext hb]

end Cert.ConvRow

end
-- ==== Proof.ConvSampleBlock.lean ====
/-
  What the convolution of the samples writes for one sample: the rows of the cache and the new rows stand one below the
  other in a buffer; seven shifted copies of it stand in another, and each tap is loaded from one of the eight.
-/
module

public import proofs.«01_k».proof.Proof.Gen.ConvSampleIdeal.Value
public import proofs.«01_k».proof.Proof.ConvRow
public import Idealize.ShloMosaic.Lib.Pipeline.ValueKit.Acc
public import Idealize.ShloMosaic.Lib.Pipeline.ValueKit.Tiles

@[expose] public section

noncomputable section

namespace Cert.ConvSampleIdeal.Hand

open Cert.ConvSampleIdeal Cert.ConvSampleIdeal.Gen Cert.ConvRow
open Idealize.ShloMosaic Idealize.ShloMosaic.TcCoe Finset

/-- Row `n` of the buffer: thirty-two rows of history, then sixteen new ones. -/
def buf (u : Vec Ideal S1x16x512 .f32) (h : Vec Ideal S1x32x512 .f32) (n : ℕ) (l : Fin 512) : EReal :=
  if hn : n < 32 then h (ix3 (0 : Fin 1) (⟨n, hn⟩ : Fin 32) l) else if hn : n - 32 < 16 then u (ix3 (0 : Fin 1) (⟨n - 32, hn⟩ : Fin 16) l) else 0

/-- The weights of tap `n`. -/
def weight (w : Vec Ideal S32x512 .f32) (n : ℕ) (l : Fin 512) : EReal :=
  if hn : n < 32 then w (ix2 (⟨n, hn⟩ : Fin 32) l) else 0

section

variable (r : Fin 16) (l : Fin 512)

theorem gated_apply (a0 : FVec Ideal S16x512 .f32) (a1 : Vec Ideal S1x16x512 .f32) (a2 : Vec Ideal S1x512 .f32) (a3 : Vec Ideal S1x16x512 .f32) (a4 : Vec Ideal S1x512 .f32) (a5 : Vec Ideal S1x16x512 .f32) (a6 : Vec Ideal S1x512 .f32) (a7 : Vec Ideal S16x512 .f32) (a8 : Vec Ideal S1x512 .f32) (g b : Vec Ideal S1x512 .f32) :
    k0_pay1 (k0_pay23 a0 a1 a2 a3 a4 a5 a6 a7 a8) (k0_pay24 a0 a1 a2 a3 a4 a5 a6 a7 a8) g b (ix3 (0 : Fin 1) r l)
      = gatedRow (fun k => k0_pay21 a0 a1 a2 a3 a4 a5 a6 a7 a8 (ix2 r k)) (fun k => g (ix2 (0 : Fin 1) k)) (fun k => b (ix2 (0 : Fin 1) k)) l := by
  pointwise [k0_pay1, k0_pay23, k0_pay24, k0_pay22, gatedRow, lnRow, mean]

theorem pay2_apply (v : Vec Ideal S1x32x512 .f32) (n : Fin 32) : k0_pay2 v (ix2 n l) = v (ix3 (0 : Fin 1) n l) := by
  pointwise [k0_pay2]

theorem pay3_apply (v : Vec Ideal S1x16x512 .f32) : k0_pay3 v (ix2 r l) = v (ix3 (0 : Fin 1) r l) := by
  pointwise [k0_pay3]

/-! The running sum over the taps. -/

theorem pay11_apply (b : Vec Ideal S1x512 .f32) (e0 : Vec Ideal S1x16x512 .f32) (w0 : Vec Ideal S1x512 .f32) :
    k0_pay11 b e0 w0 (ix2 r l) = b (ix2 (0 : Fin 1) l) + e0 (ix3 (0 : Fin 1) r l) * w0 (ix2 (0 : Fin 1) l) := by
  pointwise [k0_pay11]

theorem pay12_apply (e : Vec Ideal S1x16x512 .f32) : k0_pay12 e (ix2 r l) = e (ix3 (0 : Fin 1) r l) := by pointwise [k0_pay12]

theorem pay13_apply (w : Vec Ideal S1x512 .f32) : k0_pay13 w (ix2 (0 : Fin 1) l) = w (ix2 (0 : Fin 1) l) := by pointwise [k0_pay13]

theorem pay14_apply (s : FVec Ideal S16x512 .f32) (e1 : FVec Ideal S16x512 .f32) (w1 : FVec Ideal S1x512 .f32) (e2 : Vec Ideal S1x16x512 .f32) (w2 : Vec Ideal S1x512 .f32) (e3 : Vec Ideal S1x16x512 .f32) (w3 : Vec Ideal S1x512 .f32) (e4 : Vec Ideal S1x16x512 .f32) (w4 : Vec Ideal S1x512 .f32) (e5 : Vec Ideal S1x16x512 .f32) (w5 : Vec Ideal S1x512 .f32) :
    k0_pay14 s e1 w1 e2 w2 e3 w3 e4 w4 e5 w5 (ix2 r l) = s (ix2 r l) + e1 (ix2 r l) * w1 (ix2 (0 : Fin 1) l) + e2 (ix3 (0 : Fin 1) r l) * w2 (ix2 (0 : Fin 1) l) + e3 (ix3 (0 : Fin 1) r l) * w3 (ix2 (0 : Fin 1) l) + e4 (ix3 (0 : Fin 1) r l) * w4 (ix2 (0 : Fin 1) l) + e5 (ix3 (0 : Fin 1) r l) * w5 (ix2 (0 : Fin 1) l) := by
  pointwise [k0_pay14]

theorem pay15_apply  (e6 : Vec Ideal S16x512 .f32) (w6 : Vec Ideal S1x512 .f32) :
    k0_pay15  e6 w6 (ix2 r l) = e6 (ix2 r l) * w6 (ix2 (0 : Fin 1) l) := by
  pointwise [k0_pay15]

theorem pay16_apply (s : FVec Ideal S16x512 .f32) (t : FVec Ideal S16x512 .f32) (e7 : Vec Ideal S1x16x512 .f32) (w7 : Vec Ideal S1x512 .f32) (e8 : Vec Ideal S1x16x512 .f32) (w8 : Vec Ideal S1x512 .f32) (e9 : Vec Ideal S1x16x512 .f32) (w9 : Vec Ideal S1x512 .f32) (e10 : Vec Ideal S1x16x512 .f32) (w10 : Vec Ideal S1x512 .f32) :
    k0_pay16 s t e7 w7 e8 w8 e9 w9 e10 w10 (ix2 r l) = s (ix2 r l) + t (ix2 r l) + e7 (ix3 (0 : Fin 1) r l) * w7 (ix2 (0 : Fin 1) l) + e8 (ix3 (0 : Fin 1) r l) * w8 (ix2 (0 : Fin 1) l) + e9 (ix3 (0 : Fin 1) r l) * w9 (ix2 (0 : Fin 1) l) + e10 (ix3 (0 : Fin 1) r l) * w10 (ix2 (0 : Fin 1) l) := by
  pointwise [k0_pay16]

theorem pay17_apply  (e11 : Vec Ideal S1x16x512 .f32) (w11 : Vec Ideal S1x512 .f32) :
    k0_pay17  e11 w11 (ix2 r l) = e11 (ix3 (0 : Fin 1) r l) * w11 (ix2 (0 : Fin 1) l) := by
  pointwise [k0_pay17]

theorem pay18_apply (s : FVec Ideal S16x512 .f32) (t : FVec Ideal S16x512 .f32) (e12 : Vec Ideal S1x16x512 .f32) (w12 : Vec Ideal S1x512 .f32) (e13 : Vec Ideal S1x16x512 .f32) (w13 : Vec Ideal S1x512 .f32) (e14 : Vec Ideal S16x512 .f32) (w14 : Vec Ideal S1x512 .f32) (e15 : Vec Ideal S1x16x512 .f32) (w15 : Vec Ideal S1x512 .f32) (e16 : Vec Ideal S1x16x512 .f32) (w16 : Vec Ideal S1x512 .f32) :
    k0_pay18 s t e12 w12 e13 w13 e14 w14 e15 w15 e16 w16 (ix2 r l) = s (ix2 r l) + t (ix2 r l) + e12 (ix3 (0 : Fin 1) r l) * w12 (ix2 (0 : Fin 1) l) + e13 (ix3 (0 : Fin 1) r l) * w13 (ix2 (0 : Fin 1) l) + e14 (ix2 r l) * w14 (ix2 (0 : Fin 1) l) + e15 (ix3 (0 : Fin 1) r l) * w15 (ix2 (0 : Fin 1) l) + e16 (ix3 (0 : Fin 1) r l) * w16 (ix2 (0 : Fin 1) l) := by
  pointwise [k0_pay18]

theorem pay19_apply (s : FVec Ideal S16x512 .f32) (e17 : Vec Ideal S1x16x512 .f32) (w17 : Vec Ideal S1x512 .f32) (e18 : Vec Ideal S1x16x512 .f32) (w18 : Vec Ideal S1x512 .f32) (e19 : Vec Ideal S1x16x512 .f32) (w19 : Vec Ideal S1x512 .f32) (e20 : Vec Ideal S1x16x512 .f32) (w20 : Vec Ideal S1x512 .f32) (e21 : Vec Ideal S1x16x512 .f32) (w21 : Vec Ideal S1x512 .f32) :
    k0_pay19 s e17 w17 e18 w18 e19 w19 e20 w20 e21 w21 (ix2 r l) = s (ix2 r l) + e17 (ix3 (0 : Fin 1) r l) * w17 (ix2 (0 : Fin 1) l) + e18 (ix3 (0 : Fin 1) r l) * w18 (ix2 (0 : Fin 1) l) + e19 (ix3 (0 : Fin 1) r l) * w19 (ix2 (0 : Fin 1) l) + e20 (ix3 (0 : Fin 1) r l) * w20 (ix2 (0 : Fin 1) l) + e21 (ix3 (0 : Fin 1) r l) * w21 (ix2 (0 : Fin 1) l) := by
  pointwise [k0_pay19]

theorem pay20_apply (s : FVec Ideal S16x512 .f32) (e22 : Vec Ideal S16x512 .f32) (w22 : Vec Ideal S1x512 .f32) (e23 : Vec Ideal S1x16x512 .f32) (w23 : Vec Ideal S1x512 .f32) (e24 : Vec Ideal S1x16x512 .f32) (w24 : Vec Ideal S1x512 .f32) (e25 : Vec Ideal S1x16x512 .f32) (w25 : Vec Ideal S1x512 .f32) (e26 : Vec Ideal S1x16x512 .f32) (w26 : Vec Ideal S1x512 .f32) :
    k0_pay20 s e22 w22 e23 w23 e24 w24 e25 w25 e26 w26 (ix2 r l) = s (ix2 r l) + e22 (ix2 r l) * w22 (ix2 (0 : Fin 1) l) + e23 (ix3 (0 : Fin 1) r l) * w23 (ix2 (0 : Fin 1) l) + e24 (ix3 (0 : Fin 1) r l) * w24 (ix2 (0 : Fin 1) l) + e25 (ix3 (0 : Fin 1) r l) * w25 (ix2 (0 : Fin 1) l) + e26 (ix3 (0 : Fin 1) r l) * w26 (ix2 (0 : Fin 1) l) := by
  pointwise [k0_pay20]

theorem pay21_apply (s : FVec Ideal S16x512 .f32) (e27 : Vec Ideal S1x16x512 .f32) (w27 : Vec Ideal S1x512 .f32) (e28 : Vec Ideal S1x16x512 .f32) (w28 : Vec Ideal S1x512 .f32) (e29 : Vec Ideal S1x16x512 .f32) (w29 : Vec Ideal S1x512 .f32) (e30 : Vec Ideal S16x512 .f32) (w30 : Vec Ideal S1x512 .f32) :
    k0_pay21 s e27 w27 e28 w28 e29 w29 e30 w30 (ix2 r l) = s (ix2 r l) + e27 (ix3 (0 : Fin 1) r l) * w27 (ix2 (0 : Fin 1) l) + e28 (ix3 (0 : Fin 1) r l) * w28 (ix2 (0 : Fin 1) l) + e29 (ix3 (0 : Fin 1) r l) * w29 (ix2 (0 : Fin 1) l) + e30 (ix2 r l) * w30 (ix2 (0 : Fin 1) l) := by
  pointwise [k0_pay21]

variable (n : Fin 40) (v : Vec Ideal S40x512 .f32)

theorem pay4_apply : k0_pay4 v (ix3 (0 : Fin 1) n l) = v (ix2 n l) := by pointwise [k0_pay4]
theorem pay5_apply : k0_pay5 v (ix3 (0 : Fin 1) n l) = v (ix2 n l) := by pointwise [k0_pay5]
theorem pay6_apply : k0_pay6 v (ix3 (0 : Fin 1) n l) = v (ix2 n l) := by pointwise [k0_pay6]
theorem pay7_apply : k0_pay7 v (ix3 (0 : Fin 1) n l) = v (ix2 n l) := by pointwise [k0_pay7]
theorem pay8_apply : k0_pay8 v (ix3 (0 : Fin 1) n l) = v (ix2 n l) := by pointwise [k0_pay8]
theorem pay9_apply : k0_pay9 v (ix3 (0 : Fin 1) n l) = v (ix2 n l) := by pointwise [k0_pay9]
theorem pay10_apply : k0_pay10 v (ix3 (0 : Fin 1) n l) = v (ix2 n l) := by pointwise [k0_pay10]

end

/-- The stores to the buffer. -/
abbrev rowPieces (u : Vec Ideal S1x16x512 .f32) (h : Vec Ideal S1x32x512 .f32) : List (View.Piece (Elt Ideal) S48x512 .f32) :=
  [⟨Rect.unit ![32, 0] ![16, 512] inb_S48x512_S16x512_32_0, k0_pay3 u⟩, ⟨Rect.unit ![0, 0] ![32, 512] inb_S48x512_S32x512_0_0, k0_pay2 h⟩]

theorem rows_canon (u : Vec Ideal S1x16x512 .f32) (h : Vec Ideal S1x32x512 .f32) (y : S48x512.Idx) :
    View.canon (rowPieces u h) y = buf u h (y 0).val (show Fin 512 from y 1) := by
  refine View.canon_apply_of_pieces (Val := Elt Ideal) (e := .f32) (fun y : S48x512.Idx => (buf u h (y 0).val (show Fin 512 from y 1) : EReal)) _ ?_ y ?_
  · intro pc hpc
    rcases List.mem_cons.mp hpc with rfl | hpc
    · intro x
      obtain ⟨r, l, rfl⟩ : ∃ (r : Fin 16) (l : Fin 512), x = ix2 r l := ⟨x 0, x 1, by
        funext a; match a with | ⟨0, _⟩ => rfl | ⟨1, _⟩ => rfl⟩
      have hl : (⟨0 + 1 * l.val, by omega⟩ : Fin 512) = l := Fin.ext (by show 0 + 1 * l.val = l.val; omega)
      have hr : 32 + 1 * r.val - 32 = r.val := by omega
      refine (pay3_apply r l u).trans ?_
      show _ = buf u h (32 + 1 * r.val) (⟨0 + 1 * l.val, by omega⟩ : Fin 512)
      unfold buf
      rw [hl, dif_neg (by omega), dif_pos (by omega)]
      exact congrArg (fun q => u (ix3 (0 : Fin 1) q l)) (Fin.ext hr.symm)
    · obtain rfl := List.mem_singleton.mp hpc
      intro x
      obtain ⟨r, l, rfl⟩ : ∃ (r : Fin 32) (l : Fin 512), x = ix2 r l := ⟨x 0, x 1, by
        funext a; match a with | ⟨0, _⟩ => rfl | ⟨1, _⟩ => rfl⟩
      have hl : (⟨0 + 1 * l.val, by omega⟩ : Fin 512) = l := Fin.ext (by show 0 + 1 * l.val = l.val; omega)
      have hr : 0 + 1 * r.val = r.val := by omega
      refine (pay2_apply l h r).trans ?_
      show _ = buf u h (0 + 1 * r.val) (⟨0 + 1 * l.val, by omega⟩ : Fin 512)
      unfold buf
      rw [hl, dif_pos (by omega)]
      exact congrArg (fun q => h (ix3 (0 : Fin 1) q l)) (Fin.ext hr.symm)
  · have h0 : (y 0).val < 48 := (y 0).isLt
    have h1 : (y 1).val < 512 := (y 1).isLt
    by_cases hy : (y 0).val < 32
    · refine ⟨_, List.mem_cons_of_mem _ List.mem_cons_self, (Rect.mem_set_unit (inb := inb_S48x512_S32x512_0_0)).mpr fun a => ?_⟩
      match a with
      | ⟨0, _⟩ => exact ⟨Nat.zero_le _, by show (y 0).val < 0 + 32; omega⟩
      | ⟨1, _⟩ => exact ⟨Nat.zero_le _, by show (y 1).val < 0 + 512; omega⟩
    · refine ⟨_, List.mem_cons_self, (Rect.mem_set_unit (inb := inb_S48x512_S16x512_32_0)).mpr fun a => ?_⟩
      match a with
      | ⟨0, _⟩ => exact ⟨by show 32 ≤ (y 0).val; omega, by show (y 0).val < 32 + 16; omega⟩
      | ⟨1, _⟩ => exact ⟨Nat.zero_le _, by show (y 1).val < 0 + 512; omega⟩

/-- Rows loaded from the buffer. -/
theorem rows_apply {sp : Space} (v : View sig .tc sp S48x512 .f32) (u : Vec Ideal S1x16x512 .f32) (h : Vec Ideal S1x32x512 .f32) (o m : ℕ)
    (inb : ∀ a, (![o, 0] : Fin 2 → ℕ) a + (![m, 512] : Fin 2 → ℕ) a ≤ S48x512.size a) (r : Fin m) (l : Fin 512) :
    v.readCov (rowPieces u h) (Rect.unit (s := S48x512) ![o, 0] ![m, 512] inb).toLoadRect (ix2 r l) = buf u h (r.val + o) l := by
  rw [View.readCov_eq_canon']
  refine (rows_canon u h _).trans ?_
  show buf u h (o + 1 * r.val) (⟨0 + 1 * l.val, by omega⟩ : Fin 512) = _
  have hl : (⟨0 + 1 * l.val, by omega⟩ : Fin 512) = l := Fin.ext (by show 0 + 1 * l.val = l.val; omega)
  rw [hl, show o + 1 * r.val = r.val + o by omega]

/-- One of the seven stores to the shifted copies. -/
abbrev shiftPiece (s : ℕ) (inb : ∀ a, (![s, 0, 0] : Fin 3 → ℕ) a + (![1, 40, 512] : Fin 3 → ℕ) a ≤ S7x40x512.size a) (p : Vec Ideal S1x40x512 .f32) : View.Piece (Elt Ideal) S7x40x512 .f32 :=
  ⟨Rect.unit ![s, 0, 0] ![1, 40, 512] inb, p⟩

theorem shift_piece (u : Vec Ideal S1x16x512 .f32) (h : Vec Ideal S1x32x512 .f32) (s : ℕ) (inb) (p : Vec Ideal S1x40x512 .f32)
    (hp : ∀ (n : Fin 40) (l : Fin 512), p (ix3 (0 : Fin 1) n l) = buf u h (n.val + (s + 1)) l) (x : (shiftPiece s inb p).1.shape.Idx) :
    (shiftPiece s inb p).2 x = (fun y : S7x40x512.Idx => buf u h ((y 1).val + ((y 0).val + 1)) (show Fin 512 from y 2)) ((shiftPiece s inb p).1.idx x) := by
  obtain ⟨z, n, l, rfl⟩ : ∃ (z : Fin 1) (n : Fin 40) (l : Fin 512), x = ix3 z n l := ⟨x 0, x 1, x 2, by
    funext a; match a with | ⟨0, _⟩ => rfl | ⟨1, _⟩ => rfl | ⟨2, _⟩ => rfl⟩
  obtain rfl : z = 0 := Subsingleton.elim _ _
  have hl : (⟨0 + 1 * l.val, by omega⟩ : Fin 512) = l := Fin.ext (by show 0 + 1 * l.val = l.val; omega)
  refine (hp n l).trans ?_
  show _ = buf u h (0 + 1 * n.val + (s + 1 * 0 + 1)) (⟨0 + 1 * l.val, by omega⟩ : Fin 512)
  rw [hl, show 0 + 1 * n.val + (s + 1 * 0 + 1) = n.val + (s + 1) by omega]

theorem mem_shiftPiece (s : ℕ) (inb) (p : Vec Ideal S1x40x512 .f32) (y : S7x40x512.Idx) (h : (y 0).val = s) : y ∈ (shiftPiece s inb p).1.set := by
  refine (Rect.mem_set_unit (inb := inb)).mpr fun a => ?_
  have h1 : (y 1).val < 40 := (y 1).isLt
  have h2 : (y 2).val < 512 := (y 2).isLt
  match a with
  | ⟨0, _⟩ => exact ⟨by show s ≤ (y 0).val; omega, by show (y 0).val < s + 1; omega⟩
  | ⟨1, _⟩ => exact ⟨Nat.zero_le _, by show (y 1).val < 0 + 40; omega⟩
  | ⟨2, _⟩ => exact ⟨Nat.zero_le _, by show (y 2).val < 0 + 512; omega⟩

/-- The stores to the shifted copies. -/
abbrev shiftPieces {sp : Space} (v : View sig .tc sp S48x512 .f32) (u : Vec Ideal S1x16x512 .f32) (h : Vec Ideal S1x32x512 .f32) : List (View.Piece (Elt Ideal) S7x40x512 .f32) :=
  [⟨Rect.unit ![6, 0, 0] ![1, 40, 512] inb_S7x40x512_S1x40x512_6_0_0, k0_pay10 (v.readCov (rowPieces u h) (Rect.unit ![7, 0] ![40, 512] inb_S48x512_S40x512_7_0).toLoadRect)⟩,
    ⟨Rect.unit ![5, 0, 0] ![1, 40, 512] inb_S7x40x512_S1x40x512_5_0_0, k0_pay9 (v.readCov (rowPieces u h) (Rect.unit ![6, 0] ![40, 512] inb_S48x512_S40x512_6_0).toLoadRect)⟩,
    ⟨Rect.unit ![4, 0, 0] ![1, 40, 512] inb_S7x40x512_S1x40x512_4_0_0, k0_pay8 (v.readCov (rowPieces u h) (Rect.unit ![5, 0] ![40, 512] inb_S48x512_S40x512_5_0).toLoadRect)⟩,
    ⟨Rect.unit ![3, 0, 0] ![1, 40, 512] inb_S7x40x512_S1x40x512_3_0_0, k0_pay7 (v.readCov (rowPieces u h) (Rect.unit ![4, 0] ![40, 512] inb_S48x512_S40x512_4_0).toLoadRect)⟩,
    ⟨Rect.unit ![2, 0, 0] ![1, 40, 512] inb_S7x40x512_S1x40x512_2_0_0, k0_pay6 (v.readCov (rowPieces u h) (Rect.unit ![3, 0] ![40, 512] inb_S48x512_S40x512_3_0).toLoadRect)⟩,
    ⟨Rect.unit ![1, 0, 0] ![1, 40, 512] inb_S7x40x512_S1x40x512_1_0_0, k0_pay5 (v.readCov (rowPieces u h) (Rect.unit ![2, 0] ![40, 512] inb_S48x512_S40x512_2_0).toLoadRect)⟩,
    ⟨Rect.unit ![0, 0, 0] ![1, 40, 512] inb_S7x40x512_S1x40x512_0_0_0, k0_pay4 (v.readCov (rowPieces u h) (Rect.unit ![1, 0] ![40, 512] inb_S48x512_S40x512_1_0).toLoadRect)⟩]

theorem shift_canon {sp : Space} (v : View sig .tc sp S48x512 .f32) (u : Vec Ideal S1x16x512 .f32) (h : Vec Ideal S1x32x512 .f32) (y : S7x40x512.Idx) :
    View.canon (shiftPieces v u h) y = buf u h ((y 1).val + ((y 0).val + 1)) (show Fin 512 from y 2) := by
  refine View.canon_apply_of_pieces (Val := Elt Ideal) (e := .f32) (fun y : S7x40x512.Idx => (buf u h ((y 1).val + ((y 0).val + 1)) (show Fin 512 from y 2) : EReal)) _ ?_ y ?_
  · intro pc hpc
    simp only [List.mem_cons, List.mem_nil_iff, or_false] at hpc
    rcases hpc with rfl | rfl | rfl | rfl | rfl | rfl | rfl
    · exact shift_piece u h 6 _ _ fun n l => (pay10_apply l n _).trans (rows_apply v u h 7 40 _ n l)
    · exact shift_piece u h 5 _ _ fun n l => (pay9_apply l n _).trans (rows_apply v u h 6 40 _ n l)
    · exact shift_piece u h 4 _ _ fun n l => (pay8_apply l n _).trans (rows_apply v u h 5 40 _ n l)
    · exact shift_piece u h 3 _ _ fun n l => (pay7_apply l n _).trans (rows_apply v u h 4 40 _ n l)
    · exact shift_piece u h 2 _ _ fun n l => (pay6_apply l n _).trans (rows_apply v u h 3 40 _ n l)
    · exact shift_piece u h 1 _ _ fun n l => (pay5_apply l n _).trans (rows_apply v u h 2 40 _ n l)
    · exact shift_piece u h 0 _ _ fun n l => (pay4_apply l n _).trans (rows_apply v u h 1 40 _ n l)
  · have h0 : (y 0).val < 7 := (y 0).isLt
    obtain h | h | h | h | h | h | h : (y 0).val = 6 ∨ (y 0).val = 5 ∨ (y 0).val = 4 ∨ (y 0).val = 3 ∨ (y 0).val = 2 ∨ (y 0).val = 1 ∨ (y 0).val = 0 := by omega
    · exact ⟨_, List.mem_cons_self, mem_shiftPiece 6 _ _ y h⟩
    · exact ⟨_, List.mem_cons_of_mem _ List.mem_cons_self, mem_shiftPiece 5 _ _ y h⟩
    · exact ⟨_, List.mem_cons_of_mem _ (List.mem_cons_of_mem _ List.mem_cons_self), mem_shiftPiece 4 _ _ y h⟩
    · exact ⟨_, List.mem_cons_of_mem _ (List.mem_cons_of_mem _ (List.mem_cons_of_mem _ List.mem_cons_self)), mem_shiftPiece 3 _ _ y h⟩
    · exact ⟨_, List.mem_cons_of_mem _ (List.mem_cons_of_mem _ (List.mem_cons_of_mem _ (List.mem_cons_of_mem _ List.mem_cons_self))), mem_shiftPiece 2 _ _ y h⟩
    · exact ⟨_, List.mem_cons_of_mem _ (List.mem_cons_of_mem _ (List.mem_cons_of_mem _ (List.mem_cons_of_mem _ (List.mem_cons_of_mem _ List.mem_cons_self)))), mem_shiftPiece 1 _ _ y h⟩
    · exact ⟨_, List.mem_cons_of_mem _ (List.mem_cons_of_mem _ (List.mem_cons_of_mem _ (List.mem_cons_of_mem _ (List.mem_cons_of_mem _ (List.mem_cons_of_mem _ List.mem_cons_self))))), mem_shiftPiece 0 _ _ y h⟩

/-- Rows loaded from the shifted copies. -/
theorem shift_apply {sp sp' : Space} (v' : View sig .tc sp' S7x40x512 .f32) (v : View sig .tc sp S48x512 .f32) (u : Vec Ideal S1x16x512 .f32) (h : Vec Ideal S1x32x512 .f32) (s a : ℕ)
    (inb : ∀ b, (![s, a, 0] : Fin 3 → ℕ) b + (![1, 16, 512] : Fin 3 → ℕ) b ≤ S7x40x512.size b) (r : Fin 16) (l : Fin 512) :
    v'.readCov (shiftPieces v u h) (Rect.unit (s := S7x40x512) ![s, a, 0] ![1, 16, 512] inb).toLoadRect (ix3 (0 : Fin 1) r l) = buf u h (r.val + (a + (s + 1))) l := by
  rw [View.readCov_eq_canon']
  refine (shift_canon v u h _).trans ?_
  show buf u h (a + 1 * r.val + (s + 1 * 0 + 1)) (⟨0 + 1 * l.val, by omega⟩ : Fin 512) = _
  have hl : (⟨0 + 1 * l.val, by omega⟩ : Fin 512) = l := Fin.ext (by show 0 + 1 * l.val = l.val; omega)
  rw [hl, show a + 1 * r.val + (s + 1 * 0 + 1) = r.val + (a + (s + 1)) by omega]

/-- The row of weights of a tap. -/
theorem weight_apply (x : Vec Ideal S32x512 .f32) (n : ℕ) (inb : ∀ a, (![n, 0] : Fin 2 → ℕ) a + (![1, 512] : Fin 2 → ℕ) a ≤ S32x512.size a) (l : Fin 512) :
    View.ld (Val := Elt Ideal) (e' := .f32) x (Rect.unit (s := S32x512) ![n, 0] ![1, 512] inb) (ix2 (0 : Fin 1) l) = weight x n l := by
  have hn : n + 1 ≤ 32 := inb 0
  unfold weight
  rw [dif_pos (by omega)]
  exact View.ld_unit_apply_of (Val := Elt Ideal) (e := .f32) _ _ _ _ _ _ fun a => match a with
    | ⟨0, _⟩ => by show n = n + 0; omega
    | ⟨1, _⟩ => by show l.val = 0 + l.val; omega

section

variable (c : Dev nD) (i : grid0.Coords) (a2 : Memref sig .tc .vmem S1x16x512 .f32) (h2 : a2.IsWhole) (a3 : Memref sig .tc .vmem S1x32x512 .f32) (h3 : a3.IsWhole) (a4 : Memref sig .tc .vmem S32x512 .f32) (h4 : a4.IsWhole) (a5 : Memref sig .tc .vmem S1x512 .f32) (h5 : a5.IsWhole)
    (a6 : Memref sig .tc .vmem S1x512 .f32) (h6 : a6.IsWhole) (a7 : Memref sig .tc .vmem S1x512 .f32) (h7 : a7.IsWhole) (a8 : Memref sig .tc .vmem S1x16x512 .bf16) (h8 : a8.IsWhole) (a9 : Memref sig .tc .vmem S48x512 .f32) (h9 : a9.IsWhole) (a10 : Memref sig .tc .vmem S7x40x512 .f32) (h10 : a10.IsWhole)
  (x0 : Vec Ideal S1x16x512 .f32) (x1 : Vec Ideal S1x32x512 .f32) (x2 : Vec Ideal S32x512 .f32) (x3 x4 x5 : Vec Ideal S1x512 .f32)

theorem hz2 : (![0, 0] : Fin 2 → ℕ) = fun _ => 0 := by decide

theorem hz3 : (![0, 0, 0] : Fin 3 → ℕ) = fun _ => 0 := by decide

theorem out6_apply (r : Fin 16) (l : Fin 512) : out0_A_6 c i a2 h2 a3 h3 a4 h4 a5 h5 a6 h6 a7 h7 a8 h8 a9 h9 a10 h10 x0 x1 x2 x3 x4 x5 (ix3 (0 : Fin 1) r l)
      = gatedRow (fun k => taps (x3 (ix2 (0 : Fin 1) k)) (fun n => buf x0 x1 (r.val + (2 + n)) k) (fun n => weight x2 n k) 31) (fun k => x4 (ix2 (0 : Fin 1) k)) (fun k => x5 (ix2 (0 : Fin 1) k)) l := by
  unfold out0_A_6
  rw [View.read_writes_eq_canon _ _ _ (cover0_A_6 c i a2 h2 a3 h3 a4 h4 a5 h5 a6 h6 a7 h7 a8 h8 a9 h9 a10 h10 x0 x1 x2 x3 x4 x5)]
  unfold kernelRun0_A
  dsimp only
  sl_unfold_words
  rw [View.canon_cons_unit_zero (S := S1x16x512) hz3]
  simp only [View.readAt_eq_ld, h2.read_unread, h3.read_unread, h4.read_unread, h5.read_unread, h6.read_unread, h7.read_unread,
    View.ld_unit_zero (S := S1x512) hz2, View.ld_unit_zero (S := S1x16x512) hz3, View.ld_unit_zero (S := S1x32x512) hz3]
  rw [gated_apply]
  refine congrArg (fun y => gatedRow y _ _ l) (funext fun k => ?_)
  simp only [pay11_apply, pay12_apply, pay13_apply, pay14_apply, pay15_apply, pay16_apply, pay17_apply, pay18_apply, pay19_apply, pay20_apply, pay21_apply,
    shift_apply, rows_apply, weight_apply x2, taps, Nat.reduceAdd, add_assoc]

end

end Cert.ConvSampleIdeal.Hand

end
-- ==== Proof.ConvSampleValue.lean ====
/-
  What the convolution of the samples leaves in its result array after the run: for each new row, the sum over the taps
  of the rows before it, from the cache and from the new rows, normalised and gated.
-/
module

public import proofs.«01_k».proof.Proof.ConvSampleBlock
public import Idealize.ShloMosaic.Lib.Pipeline.Value
public import Idealize.ShloMosaic.Lib.KernelVsHost

@[expose] public section

noncomputable section

namespace Cert.ConvSampleIdeal.Hand

open Cert.ConvSampleIdeal Cert.ConvSampleIdeal.Gen Cert.ConvRow
open Idealize.ShloMosaic Idealize.ShloMosaic.TcCoe Idealize.SL.Sem Finset

section

variable (u : FVec Ideal S32x16x512 .f32) (h : FVec Ideal S1x32x30x512 .f32) (w : FVec Ideal S1x31x512 .f32) (b g s : FVec Ideal S1x512 .f32)

/-- Row `n` of sample `t`: thirty rows of the cache, then the new ones. -/
def extRow (t : Fin 32) (n : ℕ) (l : Fin 512) : EReal :=
  if hn : n < 30 then h (ix4 (0 : Fin 1) t (⟨n, hn⟩ : Fin 30) l) else if hn : n - 30 < 16 then u (ix3 t (⟨n - 30, hn⟩ : Fin 16) l) else 0

/-- The weights of tap `n`. -/
def tapWeight (n : ℕ) (l : Fin 512) : EReal :=
  if hn : n < 31 then w (ix3 (0 : Fin 1) (⟨n, hn⟩ : Fin 31) l) else 0

/-- The sum over the taps, for row `r` of sample `t`. -/
def conv (t : Fin 32) (r : Fin 16) (k : Fin 512) : EReal :=
  taps (b (ix2 (0 : Fin 1) k)) (fun n => extRow u h t (r.val + n) k) (fun n => tapWeight w n k) 31

/-- The result. -/
def result : FVec Ideal S32x16x512 .bf16 := fun y =>
  gatedRow (conv u h w b (y 0) (y 1)) (fun k => g (ix2 (0 : Fin 1) k)) (fun k => s (ix2 (0 : Fin 1) k)) (y 2)

end

/-! The layouts the host gives the kernel's arguments. -/

theorem read_h (x : FVec Ideal S1x32x30x512 .f32) (z : FVec Ideal S_ .f32) (t : Fin 32) (n : Fin 30) (l : Fin 512) :
    pad S32x32x512 ![0, 2, 0] ![0, 0, 0] ![0, 0, 0] (shapeCast S32x30x512 x shapeCasts_S1x32x30x512_S32x30x512) z pads_S32x30x512_S32x32x512_000_200_000 h_S_ (ix3 t (⟨2 + n.val, by omega⟩ : Fin 32) l)
      = x (ix4 (0 : Fin 1) t n l) := by
  refine (pad_apply_of_inside _ _ _ _ _ _ _ _ (ix3 t n l) fun a => ?_).trans ?_
  · match a with
    | ⟨0, _⟩ => show t.val = 0 + t.val * 1; omega
    | ⟨1, _⟩ => show 2 + n.val = 2 + n.val * 1; omega
    | ⟨2, _⟩ => show l.val = 0 + l.val * 1; omega
  · pointwise []

theorem read_w (x : FVec Ideal S1x31x512 .f32) (z : FVec Ideal S_ .f32) (n : Fin 31) (l : Fin 512) :
    pad S32x512 ![0, 0] ![1, 0] ![0, 0] (shapeCast S31x512 x shapeCasts_S1x31x512_S31x512) z pads_S31x512_S32x512_010_000 h_S_ (ix2 (⟨n.val, by omega⟩ : Fin 32) l)
      = x (ix3 (0 : Fin 1) n l) := by
  refine (pad_apply_of_inside _ _ _ _ _ _ _ _ (ix2 n l) fun a => ?_).trans ?_
  · match a with
    | ⟨0, _⟩ => show n.val = 0 + n.val * 1; omega
    | ⟨1, _⟩ => show l.val = 0 + l.val * 1; omega
  · pointwise []

theorem read_row (x : FVec Ideal S1x512 .f32) (l : Fin 512) :
    (shapeCast S1x512 (shapeCast S512 x shapeCasts_S1x512_S512) shapeCasts_S512_S1x512 : FVec Ideal S1x512 .f32) (ix2 (0 : Fin 1) l) = x (ix2 (0 : Fin 1) l) := by
  pointwise []

variable (m : (ℓ : Loc nD τ sig) → Buf (Elt Ideal) ℓ) (ρ : Dev nD → PrngReg)

theorem V_h (c : Dev nD) : V m c main_v3 = (pad S32x32x512 ![0, 2, 0] ![0, 0, 0] ![0, 0, 0] (shapeCast S32x30x512 (m ((c : Thread nD τ).loc main_arg1) : FVec Ideal S1x32x30x512 .f32) shapeCasts_S1x32x30x512_S32x30x512) (sitofp .f32 (constantI S_ 32 0#32)) pads_S32x30x512_S32x32x512_000_200_000 h_S_ : FVec Ideal S32x32x512 .f32) := by
  unfold V
  simp only [hostOps0, hostOps0_1, hostOps0_2, hostOps0_3, hostOps0_4, List.flatten_cons, List.flatten_nil, List.append_nil, List.cons_append, List.nil_append]
  after_results <;> rfl

theorem V_w (c : Dev nD) : V m c main_v1 = (pad S32x512 ![0, 0] ![1, 0] ![0, 0] (shapeCast S31x512 (m ((c : Thread nD τ).loc main_arg2) : FVec Ideal S1x31x512 .f32) shapeCasts_S1x31x512_S31x512) (sitofp .f32 (constantI S_ 32 0#32)) pads_S31x512_S32x512_010_000 h_S_ : FVec Ideal S32x512 .f32) := by
  unfold V
  simp only [hostOps0, hostOps0_1, hostOps0_2, hostOps0_3, hostOps0_4, List.flatten_cons, List.flatten_nil, List.append_nil, List.cons_append, List.nil_append]
  after_results <;> rfl

theorem V_b (c : Dev nD) : V m c main_v5 = (shapeCast S1x512 (shapeCast S512 (m ((c : Thread nD τ).loc main_arg3) : FVec Ideal S1x512 .f32) shapeCasts_S1x512_S512) shapeCasts_S512_S1x512 : FVec Ideal S1x512 .f32) := by
  unfold V
  simp only [hostOps0, hostOps0_1, hostOps0_2, hostOps0_3, hostOps0_4, List.flatten_cons, List.flatten_nil, List.append_nil, List.cons_append, List.nil_append]
  after_results <;> rfl

theorem V_g (c : Dev nD) : V m c main_v7 = (shapeCast S1x512 (shapeCast S512 (m ((c : Thread nD τ).loc main_arg4) : FVec Ideal S1x512 .f32) shapeCasts_S1x512_S512) shapeCasts_S512_S1x512 : FVec Ideal S1x512 .f32) := by
  unfold V
  simp only [hostOps0, hostOps0_1, hostOps0_2, hostOps0_3, hostOps0_4, List.flatten_cons, List.flatten_nil, List.append_nil, List.cons_append, List.nil_append]
  after_results <;> rfl

theorem V_s (c : Dev nD) : V m c main_v9 = (shapeCast S1x512 (shapeCast S512 (m ((c : Thread nD τ).loc main_arg5) : FVec Ideal S1x512 .f32) shapeCasts_S1x512_S512) shapeCasts_S512_S1x512 : FVec Ideal S1x512 .f32) := by
  unfold V
  simp only [hostOps0, hostOps0_1, hostOps0_2, hostOps0_3, hostOps0_4, List.flatten_cons, List.flatten_nil, List.append_nil, List.cons_append, List.nil_append]
  after_results <;> rfl

/-! The index maps, decided over the grid: a point's blocks of rows are its sample's, the others whole arrays. -/

theorem size_grid : cfg0.N = 32 := by decide +kernel

/-- The sample of a grid point. -/
def sampleOf (t : Fin cfg0.N) : Fin 32 := ⟨t.val, by have := t.isLt; have := size_grid; omega⟩

theorem index0 (t : Fin cfg0.N) : win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0) t

theorem index1 (t : Fin cfg0.N) : win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0) t

theorem index2 (t : Fin cfg0.N) : win0_2.index t 0 = 0 ∧ win0_2.index t 1 = 0 :=
  (by decide +kernel : ∀ t : Fin grid0.N, win0_2.index t 0 = 0 ∧ win0_2.index t 1 = 0) t

theorem index3 (t : Fin cfg0.N) : win0_3.index t 0 = 0 ∧ win0_3.index t 1 = 0 :=
  (by decide +kernel : ∀ t : Fin grid0.N, win0_3.index t 0 = 0 ∧ win0_3.index t 1 = 0) t

theorem index4 (t : Fin cfg0.N) : win0_4.index t 0 = 0 ∧ win0_4.index t 1 = 0 :=
  (by decide +kernel : ∀ t : Fin grid0.N, win0_4.index t 0 = 0 ∧ win0_4.index t 1 = 0) t

theorem index5 (t : Fin cfg0.N) : win0_5.index t 0 = 0 ∧ win0_5.index t 1 = 0 :=
  (by decide +kernel : ∀ t : Fin grid0.N, win0_5.index t 0 = 0 ∧ win0_5.index t 1 = 0) t

theorem index6 (t : Fin cfg0.N) : win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0) t

/-! The windows' blocks, in the arrays. -/

theorem u_block (c : Dev nD) (t : Fin cfg0.N) (r : Fin 16) (l : Fin 512) :
    iblk m c 0 t (ValueIdx.ix3 (0 : Fin 1) r l) = (m ((c : Thread nD τ).loc main_arg0) : FVec Ideal S32x16x512 .f32) (ix3 (sampleOf t) r l) := by
  refine Eq.trans ?_ (congrFun (V_main_arg0 m c) (ix3 (sampleOf t) r l))
  show V m c (Pipeline.arrRef spec0 0) ((win0_0.rect t).emb (ValueIdx.ix3 (0 : Fin 1) r l)) = _
  obtain ⟨h0, h1, h2⟩ := index0 t
  refine congrArg (V m c main_arg0) (funext fun a => Fin.ext ?_)
  refine (win0_0.rect_emb_val t _ a).trans ?_
  match a with
  | ⟨0, _⟩ => show win0_0.index t 0 * 1 + 0 = t.val; rw [h0] <;> omega
  | ⟨1, _⟩ => show win0_0.index t 1 * 16 + r.val = r.val; rw [h1] <;> omega
  | ⟨2, _⟩ => show win0_0.index t 2 * 512 + l.val = l.val; rw [h2] <;> omega

theorem h_block (c : Dev nD) (t : Fin cfg0.N) (n : Fin 30) (l : Fin 512) :
    iblk m c 1 t (ValueIdx.ix3 (0 : Fin 1) (⟨2 + n.val, by omega⟩ : Fin 32) l) = (m ((c : Thread nD τ).loc main_arg1) : FVec Ideal S1x32x30x512 .f32) (ix4 (0 : Fin 1) (sampleOf t) n l) := by
  refine Eq.trans ?_ ((congrFun (V_h m c) (ix3 (sampleOf t) (⟨2 + n.val, by omega⟩ : Fin 32) l)).trans (read_h _ _ (sampleOf t) n l))
  show V m c (Pipeline.arrRef spec0 1) ((win0_1.rect t).emb (ValueIdx.ix3 (0 : Fin 1) (⟨2 + n.val, by omega⟩ : Fin 32) l)) = _
  obtain ⟨h0, h1, h2⟩ := index1 t
  refine congrArg (V m c main_v3) (funext fun a => Fin.ext ?_)
  refine (win0_1.rect_emb_val t _ a).trans ?_
  match a with
  | ⟨0, _⟩ => show win0_1.index t 0 * 1 + 0 = t.val; rw [h0] <;> omega
  | ⟨1, _⟩ => show win0_1.index t 1 * 32 + (2 + n.val) = 2 + n.val; rw [h1] <;> omega
  | ⟨2, _⟩ => show win0_1.index t 2 * 512 + l.val = l.val; rw [h2] <;> omega

theorem w_block (c : Dev nD) (t : Fin cfg0.N) (n : Fin 31) (l : Fin 512) :
    iblk m c 2 t (ValueIdx.ix2 (⟨n.val, by omega⟩ : Fin 32) l) = (m ((c : Thread nD τ).loc main_arg2) : FVec Ideal S1x31x512 .f32) (ix3 (0 : Fin 1) n l) := by
  refine Eq.trans ?_ ((congrFun (V_w m c) (ix2 (⟨n.val, by omega⟩ : Fin 32) l)).trans (read_w _ _ n l))
  show V m c (Pipeline.arrRef spec0 2) ((win0_2.rect t).emb (ValueIdx.ix2 (⟨n.val, by omega⟩ : Fin 32) l)) = _
  obtain ⟨h0, h1⟩ := index2 t
  refine congrArg (V m c main_v1) (funext fun a => Fin.ext ?_)
  refine (win0_2.rect_emb_val t _ a).trans ?_
  match a with
  | ⟨0, _⟩ => show win0_2.index t 0 * 32 + n.val = n.val; rw [h0] <;> omega
  | ⟨1, _⟩ => show win0_2.index t 1 * 512 + l.val = l.val; rw [h1] <;> omega

theorem b_block (c : Dev nD) (t : Fin cfg0.N) (l : Fin 512) :
    iblk m c 3 t (ValueIdx.ix2 (0 : Fin 1) l) = (m ((c : Thread nD τ).loc main_arg3) : FVec Ideal S1x512 .f32) (ix2 (0 : Fin 1) l) := by
  refine Eq.trans ?_ ((congrFun (V_b m c) (ix2 (0 : Fin 1) l)).trans (read_row _ l))
  show V m c (Pipeline.arrRef spec0 3) ((win0_3.rect t).emb (ValueIdx.ix2 (0 : Fin 1) l)) = _
  obtain ⟨h0, h1⟩ := index3 t
  refine congrArg (V m c main_v5) (funext fun a => Fin.ext ?_)
  refine (win0_3.rect_emb_val t _ a).trans ?_
  match a with
  | ⟨0, _⟩ => show win0_3.index t 0 * 1 + 0 = 0; rw [h0] <;> omega
  | ⟨1, _⟩ => show win0_3.index t 1 * 512 + l.val = l.val; rw [h1] <;> omega

theorem g_block (c : Dev nD) (t : Fin cfg0.N) (l : Fin 512) :
    iblk m c 4 t (ValueIdx.ix2 (0 : Fin 1) l) = (m ((c : Thread nD τ).loc main_arg4) : FVec Ideal S1x512 .f32) (ix2 (0 : Fin 1) l) := by
  refine Eq.trans ?_ ((congrFun (V_g m c) (ix2 (0 : Fin 1) l)).trans (read_row _ l))
  show V m c (Pipeline.arrRef spec0 4) ((win0_4.rect t).emb (ValueIdx.ix2 (0 : Fin 1) l)) = _
  obtain ⟨h0, h1⟩ := index4 t
  refine congrArg (V m c main_v7) (funext fun a => Fin.ext ?_)
  refine (win0_4.rect_emb_val t _ a).trans ?_
  match a with
  | ⟨0, _⟩ => show win0_4.index t 0 * 1 + 0 = 0; rw [h0] <;> omega
  | ⟨1, _⟩ => show win0_4.index t 1 * 512 + l.val = l.val; rw [h1] <;> omega

theorem s_block (c : Dev nD) (t : Fin cfg0.N) (l : Fin 512) :
    iblk m c 5 t (ValueIdx.ix2 (0 : Fin 1) l) = (m ((c : Thread nD τ).loc main_arg5) : FVec Ideal S1x512 .f32) (ix2 (0 : Fin 1) l) := by
  refine Eq.trans ?_ ((congrFun (V_s m c) (ix2 (0 : Fin 1) l)).trans (read_row _ l))
  show V m c (Pipeline.arrRef spec0 5) ((win0_5.rect t).emb (ValueIdx.ix2 (0 : Fin 1) l)) = _
  obtain ⟨h0, h1⟩ := index5 t
  refine congrArg (V m c main_v9) (funext fun a => Fin.ext ?_)
  refine (win0_5.rect_emb_val t _ a).trans ?_
  match a with
  | ⟨0, _⟩ => show win0_5.index t 0 * 1 + 0 = 0; rw [h0] <;> omega
  | ⟨1, _⟩ => show win0_5.index t 1 * 512 + l.val = l.val; rw [h1] <;> omega

/-- A row of the buffer, two below a row of the cache and the new rows. -/
theorem buf_block (c : Dev nD) (t : Fin cfg0.N) (n : ℕ) (hn : n < 46) (l : Fin 512) :
    buf (iblk m c 0 t) (iblk m c 1 t) (2 + n) l = extRow (m ((c : Thread nD τ).loc main_arg0)) (m ((c : Thread nD τ).loc main_arg1)) (sampleOf t) n l := by
  unfold buf extRow
  by_cases h : n < 30
  · rw [dif_pos (by omega), dif_pos h]
    exact h_block m c t ⟨n, h⟩ l
  · have e : 2 + n - 32 = n - 30 := by omega
    rw [dif_neg (by omega), dif_neg h, dif_pos (by omega), dif_pos (by omega)]
    refine Eq.trans ?_ (u_block m c t (⟨n - 30, by omega⟩ : Fin 16) l)
    exact congrArg (fun q => (show Vec Ideal S1x16x512 .f32 from iblk m c 0 t) (ix3 (0 : Fin 1) q l)) (Fin.ext e)

theorem weight_block (c : Dev nD) (t : Fin cfg0.N) (n : ℕ) (hn : n < 31) (l : Fin 512) :
    weight (iblk m c 2 t) n l = tapWeight (m ((c : Thread nD τ).loc main_arg2)) n l := by
  unfold weight tapWeight
  rw [dif_pos (by omega), dif_pos hn]
  exact w_block m c t ⟨n, hn⟩ l

theorem emb6 (t : Fin cfg0.N) (r : Fin 16) (l : Fin 512) : (win0_6.rect t).emb (ValueIdx.ix3 (0 : Fin 1) r l) = ix3 (sampleOf t) r l := by
  obtain ⟨h0, h1, h2⟩ := index6 t
  refine funext fun a => Fin.ext ?_
  refine (win0_6.rect_emb_val t _ a).trans ?_
  match a with
  | ⟨0, _⟩ => show win0_6.index t 0 * 1 + 0 = t.val; rw [h0] <;> omega
  | ⟨1, _⟩ => show win0_6.index t 1 * 16 + r.val = r.val; rw [h1] <;> omega
  | ⟨2, _⟩ => show win0_6.index t 2 * 512 + l.val = l.val; rw [h2] <;> omega

theorem block6 (c : Dev nD) (t : Fin cfg0.N) (r : Fin 16) (l : Fin 512) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) (ValueIdx.ix3 (0 : Fin 1) r l)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (sampleOf t) r l) := by
  refine (out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) r l).trans ?_
  refine gatedRow_congr (fun k => ?_) (fun k => g_block m c t k) (fun k => s_block m c t k) l
  refine taps_congr 31 (b_block m c t k) (fun n hn => ?_) (fun n hn => weight_block m c t n hn k)
  rw [show r.val + (2 + n) = 2 + (r.val + n) by omega]
  exact buf_block m c t (r.val + n) (by omega) k

theorem final6 (c : Dev nD) : (dats m 0 c).arrAt 6 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 6 _ (fun t _ => ?_) (fun y => ?_)
  · rw [Value.flushed6_A]
    funext y
    obtain ⟨z, r, l, rfl⟩ : ∃ (z : Fin 1) (r : Fin 16) (l : Fin 512), y = (ValueIdx.ix3 z r l) := ⟨y 0, y 1, y 2, by
      funext a; match a with | ⟨0, _⟩ => rfl | ⟨1, _⟩ => rfl | ⟨2, _⟩ => rfl⟩
    obtain rfl : z = 0 := Subsingleton.elim _ _
    refine (block6 m c t r l).trans ?_
    exact congrArg _ (emb6 t r l).symm
  · have hy : (y 0).val < 32 := (y 0).isLt
    obtain ⟨t, ht⟩ : ∃ t : Fin cfg0.N, t.val = (y 0).val := ⟨⟨(y 0).val, by have := size_grid; omega⟩, rfl⟩
    refine ⟨t, flush0_6 t, ?_⟩
    have e : y = (win0_6.rect t).emb (ValueIdx.ix3 (0 : Fin 1) (show Fin 16 from y 1) (show Fin 512 from y 2)) := by
      refine Eq.trans ?_ (emb6 t (show Fin 16 from y 1) (show Fin 512 from y 2)).symm
      funext a
      match a with | ⟨0, _⟩ => exact Fin.ext ht.symm | ⟨1, _⟩ => rfl | ⟨2, _⟩ => rfl
    rw [e]
    exact Finset.mem_map_of_mem _ (Finset.mem_univ _)

/-- The run, with the result named. -/
theorem run_result : θ_run defs (onTc (τ := τ) (main (F := Ideal))) ⟨m, fun _ => 0, ρ⟩ fun r => ∀ c : Dev nD,
      r.2.mem ((c : Thread nD τ).loc main_v10) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2⟩) (Value.run_blocks m ρ)

end Cert.ConvSampleIdeal.Hand

end
-- ==== Proof.ConvSampleReference.lean ====
/-
  What the reference of the convolution of the samples computes, element by element, and that the kernel's result is the
  same.
-/
module

public import proofs.«01_k».proof.Proof.Gen.ConvSampleRefIdeal.Run
public import proofs.«01_k».proof.Proof.ConvSampleValue
public import Idealize.ShloMosaic.Lib.IdealHost

@[expose] public section

noncomputable section

namespace Cert.ConvSampleRefIdeal.Hand

open Cert.ConvSampleRefIdeal Cert.ConvSampleRefIdeal.Gen Cert.ConvSampleRefIdeal.Value Cert.ConvRow
open Cert.ConvSampleIdeal.Hand (extRow tapWeight conv result)
open Idealize.ShloMosaic Idealize.ShloMosaic.TcCoe Finset

/-- The cached rows with the new ones below. -/
def rowsR (u : FVec Ideal S32x16x512 .f32) (h : FVec Ideal S1x32x30x512 .f32) : FVec Ideal S32x46x512 .f32 :=
  concatenate S32x46x512 1 [⟨S32x30x512, (shapeCast _ h shapeCasts_S1x32x30x512_S32x30x512)⟩, ⟨S32x16x512, u⟩] concatenates_S32x30x512_S32x16x512_S32x46x512_d1

/-- A row of numbers laid over all rows. -/
abbrev overRows (x : FVec Ideal S1x512 .f32) : FVec Ideal S32x16x512 .f32 :=
  broadcastInDim S32x16x512 ![0, 1, 2] bcast_S1x1x512_S32x16x512_0_1_2 (broadcastInDim S1x1x512 ![2] bcast_S512_S1x1x512_2 (shapeCast _ x shapeCasts_S1x512_S512))

/-- The means of the rows. -/
def meanR (y : FVec Ideal S32x16x512 .f32) : FVec Ideal S32x16x1 .f32 :=
  Host.divf (broadcastInDim S32x16x1 ![0, 1] bcast_S32x16_S32x16x1_0_1 (Host.reduceAdd y (constant S_ .f32 0x00000000#32) reducesTo_S32x16x512_S32x16_d2 h_S_)) (broadcastInDim S32x16x1 ![] bcast_S_S32x16x1 (constant S_ .f32 0x44000000#32))

/-- The rows less their means. -/
def centredR (y : FVec Ideal S32x16x512 .f32) : FVec Ideal S32x16x512 .f32 :=
  subf y (broadcastInDim S32x16x512 ![0, 1, 2] bcast_S32x16x1_S32x16x512_0_1_2 (meanR y))

/-- The rows normalised. -/
def normR (y : FVec Ideal S32x16x512 .f32) (g s : FVec Ideal S1x512 .f32) : FVec Ideal S32x16x512 .f32 :=
  addf (mulf (mulf (centredR y) (broadcastInDim S32x16x512 ![0, 1, 2] bcast_S32x16x1_S32x16x512_0_1_2 (Host.rsqrt (addf (meanR (mulf (centredR y) (centredR y))) (broadcastInDim S32x16x1 ![] bcast_S_S32x16x1 (constant S_ .f32 0x3727C5AC#32)))))) (overRows g)) (overRows s)

/-- The normalised rows gated. -/
def gatedR (z : FVec Ideal S32x16x512 .f32) : FVec Ideal S32x16x512 .bf16 :=
  truncf .bf16 (mulf z (Host.divf (broadcastInDim S32x16x512 ![] bcast_S_S32x16x512 (constant S_ .f32 0x3F800000#32)) (addf (broadcastInDim S32x16x512 ![] bcast_S_S32x16x512 (constant S_ .f32 0x3F800000#32)) (Host.exp (Host.negf z))))) bitsLt_bf16_f32

section

variable (t : Fin 32) (r : Fin 16) (l : Fin 512)

theorem rowsR_apply (u : FVec Ideal S32x16x512 .f32) (h : FVec Ideal S1x32x30x512 .f32) (n : Fin 46) : rowsR u h (ix3 t n l) = extRow u h t n.val l := by
  have hn := n.isLt
  have e : rowsR u h (ix3 t n l) = if hn : n.val < 30 then h (ix4 (0 : Fin 1) t (⟨n.val, hn⟩ : Fin 30) l) else u (ix3 t (⟨n.val - 30, by omega⟩ : Fin 16) l) := by
    pointwise [rowsR]
  unfold extRow
  rw [e, dif_pos (show n.val - 30 < 16 by omega)]

theorem tapR_apply (u : FVec Ideal S32x16x512 .f32) (h : FVec Ideal S1x32x30x512 .f32) (w : FVec Ideal S1x31x512 .f32) (o : ℕ) (hs : S32x46x512.Slices ![0, o, 0] S32x16x512) (hw : S1x31x512.Slices ![0, o, 0] S1x1x512) :
    mulf (extractStridedSlice S32x16x512 ![0, o, 0] (rowsR u h) hs) (broadcastInDim S32x16x512 ![0, 1, 2] bcast_S1x1x512_S32x16x512_0_1_2 (broadcastInDim S1x1x512 ![2] bcast_S512_S1x1x512_2 (shapeCast S512 (extractStridedSlice S1x1x512 ![0, o, 0] w hw) shapeCasts_S1x1x512_S512))) (ix3 t r l)
      = extRow u h t (r.val + o) l * tapWeight w o l := by
  have h1 : o + 16 ≤ 46 := hs.2 (1 : Fin 3)
  have hr := r.isLt
  unfold tapWeight
  rw [dif_pos (by omega), show r.val + o = o + r.val by omega, ← rowsR_apply t l u h (⟨o + r.val, by omega⟩ : Fin 46)]
  pointwise []

theorem overRows_apply (x : FVec Ideal S1x512 .f32) :
    broadcastInDim S32x16x512 ![0, 1, 2] bcast_S1x1x512_S32x16x512_0_1_2 (broadcastInDim S1x1x512 ![2] bcast_S512_S1x1x512_2 (shapeCast S512 x shapeCasts_S1x512_S512)) (ix3 t r l) = x (ix2 (0 : Fin 1) l) := by
  pointwise []

theorem addf_apply (x y : FVec Ideal S32x16x512 .f32) : addf x y (ix3 t r l) = x (ix3 t r l) + y (ix3 t r l) := by
  pointwise []

theorem normR_apply (y : FVec Ideal S32x16x512 .f32) (g s : FVec Ideal S1x512 .f32) :
    normR y g s (ix3 t r l) = lnRow (fun k => y (ix3 t r k)) (fun k => g (ix2 (0 : Fin 1) k)) (fun k => s (ix2 (0 : Fin 1) k)) l := by
  pointwise [normR, centredR, meanR, lnRow, mean]

theorem gatedR_apply (z : FVec Ideal S32x16x512 .f32) : gatedR z (ix3 t r l) = z (ix3 t r l) * Ideal.logistic (z (ix3 t r l)) := by
  pointwise [gatedR, Ideal.logistic]

end

variable (V0 : Valuation τ sig (Elt Ideal))

/-- The sum over the taps with the bias behind it, where the kernel begins with the bias. -/
theorem sum_apply (t : Fin 32) (r : Fin 16) (l : Fin 512) : (res_main_v221 V0 : FVec Ideal S32x16x512 .f32) (ix3 t r l)
      = conv (V0 (Proc.devRef .tc main_arg0)) (V0 (Proc.devRef .tc main_arg1)) (V0 (Proc.devRef .tc main_arg2)) (V0 (Proc.devRef .tc main_arg3)) t r l := by
  have e : res_main_v1 V0 = rowsR (V0 (Proc.devRef .tc main_arg0)) (V0 (Proc.devRef .tc main_arg1)) := rfl
  unfold res_main_v221 res_main_v154 res_main_v77
  rw [e, conv, taps_bias_last]
  simp only [addf_apply, tapR_apply t r l (V0 (Proc.devRef .tc main_arg0)) (V0 (Proc.devRef .tc main_arg1)) (V0 (Proc.devRef .tc main_arg2)), overRows_apply t r l (V0 (Proc.devRef .tc main_arg3)), taps, zero_add]

/-- The result is the kernel's. -/
theorem result_eq : gatedR (res_main_v247 V0)
      = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  have e : res_main_v247 V0 = normR (res_main_v221 V0) (V0 (Proc.devRef .tc main_arg4)) (V0 (Proc.devRef .tc main_arg5)) := rfl
  funext y
  obtain ⟨t, r, l, rfl⟩ : ∃ (t : Fin 32) (r : Fin 16) (l : Fin 512), y = ix3 t r l := ⟨y 0, y 1, y 2, by
    funext a; match a with | ⟨0, _⟩ => rfl | ⟨1, _⟩ => rfl | ⟨2, _⟩ => rfl⟩
  rw [gatedR_apply, e, normR_apply]
  exact gatedRow_congr (fun k => sum_apply V0 t r k) (fun _ => rfl) (fun _ => rfl) l

end Cert.ConvSampleRefIdeal.Hand

end
-- ==== Proof.ConvSampleClaims.lean ====
/-
  The claims on the convolution of the samples: the frames and the equality with the reference over the extended reals.
-/
module

public import proofs.«01_k».proof.Defs
public import proofs.«01_k».proof.Proof.Gen.ConvSample.Frame
public import proofs.«01_k».proof.Proof.ConvSampleReference
public import Idealize.ShloMosaic.Lib.Quiescent

@[expose] public section

noncomputable section

namespace Cert.ConvSampleClaims

open Idealize.ShloMosaic Idealize.ShloMosaic.TcCoe Idealize.SL.Sem

theorem frame_p : quiescent_ConvSample (hConvSample := Cert.ConvSample.Gen.facts) := fun m ρ _ => Cert.ConvSample.Gen.frame m ρ

theorem frame_pi : quiescent_ConvSampleIdeal (hConvSampleIdeal := Cert.ConvSampleIdeal.Gen.facts) := fun m ρ _ => Cert.ConvSampleIdeal.Gen.frame m ρ

theorem frame_ri : quiescent_ConvSampleRefIdeal (hConvSampleRefIdeal := Cert.ConvSampleRefIdeal.Gen.facts) := fun m ρ _ =>
  (θ_run Cert.ConvSampleRefIdeal.defs _ _).mono (fun r h => ⟨fun c => (h c).2, sem_eq_zero_of_no_sems (by decide) r.2⟩) (Cert.ConvSampleRefIdeal.Value.run m ρ)

theorem preserves : preserves_ConvSample_ConvSampleIdeal := trivial

theorem algebraic : algebraic_ConvSampleIdeal_ConvSampleRefIdeal (hConvSampleIdeal := Cert.ConvSampleIdeal.Gen.facts) (hConvSampleRefIdeal := Cert.ConvSampleRefIdeal.Gen.facts) := by
  intro m ρ m' ρ' _ hagree
  refine ⟨fun c : Dev Cert.ConvSampleIdeal.nD => Cert.ConvSampleIdeal.Hand.result (m ((c.tc : Thread Cert.ConvSampleIdeal.nD Cert.ConvSampleIdeal.τ).loc Cert.ConvSampleIdeal.main_arg0)) (m ((c.tc : Thread Cert.ConvSampleIdeal.nD Cert.ConvSampleIdeal.τ).loc Cert.ConvSampleIdeal.main_arg1)) (m ((c.tc : Thread Cert.ConvSampleIdeal.nD Cert.ConvSampleIdeal.τ).loc Cert.ConvSampleIdeal.main_arg2)) (m ((c.tc : Thread Cert.ConvSampleIdeal.nD Cert.ConvSampleIdeal.τ).loc Cert.ConvSampleIdeal.main_arg3)) (m ((c.tc : Thread Cert.ConvSampleIdeal.nD Cert.ConvSampleIdeal.τ).loc Cert.ConvSampleIdeal.main_arg4)) (m ((c.tc : Thread Cert.ConvSampleIdeal.nD Cert.ConvSampleIdeal.τ).loc Cert.ConvSampleIdeal.main_arg5)), Cert.ConvSampleIdeal.Hand.run_result m ρ, ?_⟩
  refine (θ_run Cert.ConvSampleRefIdeal.defs _ _).mono (fun _ h c => ⟨(h c).1.trans ?_, (h c).2⟩) (Cert.ConvSampleRefIdeal.Value.run m' ρ')
  refine (Cert.ConvSampleRefIdeal.Hand.result_eq (StableHlo.launchContents m' c)).trans ?_
  show Cert.ConvSampleIdeal.Hand.result (m' ((c.tc : Thread Cert.ConvSampleRefIdeal.nD Cert.ConvSampleRefIdeal.τ).loc Cert.ConvSampleRefIdeal.main_arg0)) (m' ((c.tc : Thread Cert.ConvSampleRefIdeal.nD Cert.ConvSampleRefIdeal.τ).loc Cert.ConvSampleRefIdeal.main_arg1)) (m' ((c.tc : Thread Cert.ConvSampleRefIdeal.nD Cert.ConvSampleRefIdeal.τ).loc Cert.ConvSampleRefIdeal.main_arg2)) (m' ((c.tc : Thread Cert.ConvSampleRefIdeal.nD Cert.ConvSampleRefIdeal.τ).loc Cert.ConvSampleRefIdeal.main_arg3)) (m' ((c.tc : Thread Cert.ConvSampleRefIdeal.nD Cert.ConvSampleRefIdeal.τ).loc Cert.ConvSampleRefIdeal.main_arg4)) (m' ((c.tc : Thread Cert.ConvSampleRefIdeal.nD Cert.ConvSampleRefIdeal.τ).loc Cert.ConvSampleRefIdeal.main_arg5)) = _
  rw [(hagree c).1, (hagree c).2.1, (hagree c).2.2.1, (hagree c).2.2.2.1, (hagree c).2.2.2.2.1, (hagree c).2.2.2.2.2]

end Cert.ConvSampleClaims

end
-- ==== Proof.lean ====
/-
  The proof of `Cert.Claim`: each claim's proof stands in a module of its own and is put in its place here, behind the
  witnesses of the side conditions that the programs state.
-/
module

public import proofs.«01_k».proof.Defs
public import proofs.«01_k».proof.Proof.Gen.SbPrompt
public import proofs.«01_k».proof.Proof.Gen.SbPrompt.Skeleton
public import proofs.«01_k».proof.Proof.Gen.SbPrompt.Loops
public import proofs.«01_k».proof.Proof.Gen.SbPrompt.Launch
public import proofs.«01_k».proof.Proof.Gen.SbPrompt.Points
public import proofs.«01_k».proof.Proof.Gen.SbPrompt.Frame
public import proofs.«01_k».proof.Proof.Gen.SbPromptIdeal
public import proofs.«01_k».proof.Proof.Gen.SbPromptIdeal.Skeleton
public import proofs.«01_k».proof.Proof.Gen.SbPromptIdeal.Loops
public import proofs.«01_k».proof.Proof.Gen.SbPromptIdeal.Launch
public import proofs.«01_k».proof.Proof.Gen.SbPromptIdeal.Points
public import proofs.«01_k».proof.Proof.Gen.SbPromptIdeal.Frame
public import proofs.«01_k».proof.Proof.Gen.SbPromptRefIdeal
public import proofs.«01_k».proof.Proof.Gen.SbPromptRefIdeal.Run
public import proofs.«01_k».proof.Proof.Gen.OutMlpFinalIdeal.Value
public import proofs.«01_k».proof.Proof.Gen.OutMlpFinalRefIdeal.Run
public import proofs.«01_k».proof.Proof.Gen.OutMlpFirstIdeal.Value
public import proofs.«01_k».proof.Proof.Gen.OutMlpFirstRefIdeal.Run
public import proofs.«01_k».proof.Proof.Gen.ConvSample.Frame
public import proofs.«01_k».proof.Proof.Gen.ConvSampleIdeal.Value
public import proofs.«01_k».proof.Proof.Gen.ConvSampleRefIdeal.Run
public import proofs.«01_k».proof.Proof.Gen.AbInIdeal.Value
public import proofs.«01_k».proof.Proof.Gen.AbInRefIdeal.Run
public import proofs.«01_k».proof.Proof.Gen.CInIdeal.Value
public import proofs.«01_k».proof.Proof.Gen.CInRefIdeal.Run
public import proofs.«01_k».proof.Proof.Gen.OutMlpFinal.Frame
public import proofs.«01_k».proof.Proof.Gen.OutMlpFinalIdeal.Frame
public import proofs.«01_k».proof.Proof.Gen.OutMlpFirst.Frame
public import proofs.«01_k».proof.Proof.Gen.OutMlpFirstIdeal.Frame
public import proofs.«01_k».proof.Proof.Gen.AbIn.Frame
public import proofs.«01_k».proof.Proof.Gen.AbInIdeal.Frame
public import proofs.«01_k».proof.Proof.Gen.CIn.Frame
public import proofs.«01_k».proof.Proof.Gen.CInIdeal.Frame
public import proofs.«01_k».proof.Proof.Gen.FinalSampleIdeal.Value
public import proofs.«01_k».proof.Proof.Gen.FinalSampleRefIdeal.Run
public import proofs.«01_k».proof.Proof.Gen.FinalSample.Frame
public import proofs.«01_k».proof.Proof.Gen.FinalSampleIdeal.Frame
public import proofs.«01_k».proof.Proof.Gen.FirstSampleIdeal.Value
public import proofs.«01_k».proof.Proof.Gen.FirstSampleRefIdeal.Run
public import proofs.«01_k».proof.Proof.Gen.FirstSample.Frame
public import proofs.«01_k».proof.Proof.Gen.FirstSampleIdeal.Frame
public import proofs.«01_k».proof.Proof.Gen.AbSampleIdeal.Value
public import proofs.«01_k».proof.Proof.Gen.AbSampleRefIdeal.Run
public import proofs.«01_k».proof.Proof.Gen.AbSample.Frame
public import proofs.«01_k».proof.Proof.Gen.AbSampleIdeal.Frame
public import proofs.«01_k».proof.Proof.Gen.CSampleIdeal.Value
public import proofs.«01_k».proof.Proof.Gen.CSampleRefIdeal.Run
public import proofs.«01_k».proof.Proof.Gen.CSample.Frame
public import proofs.«01_k».proof.Proof.Gen.CSampleIdeal.Frame
public import proofs.«01_k».proof.Proof.SbClaims
public import proofs.«01_k».proof.Proof.OutMlpClaims
public import proofs.«01_k».proof.Proof.AbClaims
public import proofs.«01_k».proof.Proof.CClaims
public import proofs.«01_k».proof.Proof.OutMlpSampleClaims
public import proofs.«01_k».proof.Proof.AbSampleClaims
public import proofs.«01_k».proof.Proof.CSampleClaims
public import proofs.«01_k».proof.Proof.ConvSampleClaims
public import Idealize.ShloMosaic.Adequacy
public import Idealize.ShloMosaic.Init

@[expose] public section

noncomputable section

namespace Cert.Proof

open Idealize.ShloMosaic Idealize.SL.Sem Cert.SbPrompt

theorem claim : Cert.Claim := ⟨Cert.SbPrompt.Gen.facts, Cert.SbPromptIdeal.Gen.facts, Cert.SbPromptRefIdeal.Gen.facts,
  Cert.OutMlpFinal.Gen.facts, Cert.OutMlpFinalIdeal.Gen.facts, Cert.OutMlpFinalRefIdeal.Gen.facts,
  Cert.OutMlpFirst.Gen.facts, Cert.OutMlpFirstIdeal.Gen.facts, Cert.OutMlpFirstRefIdeal.Gen.facts,
  Cert.AbIn.Gen.facts, Cert.AbInIdeal.Gen.facts, Cert.AbInRefIdeal.Gen.facts,
  Cert.CIn.Gen.facts, Cert.CInIdeal.Gen.facts, Cert.CInRefIdeal.Gen.facts,
  Cert.FinalSample.Gen.facts, Cert.FinalSampleIdeal.Gen.facts, Cert.FinalSampleRefIdeal.Gen.facts,
  Cert.FirstSample.Gen.facts, Cert.FirstSampleIdeal.Gen.facts, Cert.FirstSampleRefIdeal.Gen.facts,
  Cert.AbSample.Gen.facts, Cert.AbSampleIdeal.Gen.facts, Cert.AbSampleRefIdeal.Gen.facts,
  Cert.CSample.Gen.facts, Cert.CSampleIdeal.Gen.facts, Cert.CSampleRefIdeal.Gen.facts,
  Cert.ConvSample.Gen.facts, Cert.ConvSampleIdeal.Gen.facts, Cert.ConvSampleRefIdeal.Gen.facts,
  Cert.Pre_finite.Hand.facts,
  Cert.SbClaims.frame_p, Cert.SbClaims.frame_pi, Cert.SbClaims.frame_pi_finite, Cert.SbClaims.frame_ri, Cert.SbClaims.frame_ri_finite,
  Cert.OutMlpClaims.frame_OutMlpFinal, Cert.OutMlpClaims.frame_OutMlpFinalIdeal, Cert.OutMlpClaims.frame_OutMlpFinalRefIdeal,
  Cert.OutMlpClaims.frame_OutMlpFirst, Cert.OutMlpClaims.frame_OutMlpFirstIdeal, Cert.OutMlpClaims.frame_OutMlpFirstRefIdeal,
  Cert.AbClaims.frame_p, Cert.AbClaims.frame_pi, Cert.AbClaims.frame_ri,
  Cert.CClaims.frame_p, Cert.CClaims.frame_pi, Cert.CClaims.frame_ri,
  Cert.OutMlpSampleClaims.frame_FinalSample, Cert.OutMlpSampleClaims.frame_FinalSampleIdeal, Cert.OutMlpSampleClaims.frame_FinalSampleRefIdeal,
  Cert.OutMlpSampleClaims.frame_FirstSample, Cert.OutMlpSampleClaims.frame_FirstSampleIdeal, Cert.OutMlpSampleClaims.frame_FirstSampleRefIdeal,
  Cert.AbSampleClaims.frame_p, Cert.AbSampleClaims.frame_pi, Cert.AbSampleClaims.frame_ri,
  Cert.CSampleClaims.frame_p, Cert.CSampleClaims.frame_pi, Cert.CSampleClaims.frame_ri,
  Cert.ConvSampleClaims.frame_p, Cert.ConvSampleClaims.frame_pi, Cert.ConvSampleClaims.frame_ri,
  Cert.SbClaims.preserves, Cert.SbClaims.algebraic,
  Cert.OutMlpClaims.preserves_OutMlpFinal, Cert.OutMlpClaims.algebraic_OutMlpFinal,
  Cert.OutMlpClaims.preserves_OutMlpFirst, Cert.OutMlpClaims.algebraic_OutMlpFirst,
  Cert.AbClaims.preserves, Cert.AbClaims.algebraic, Cert.CClaims.preserves, Cert.CClaims.algebraic,
  Cert.OutMlpSampleClaims.preserves_FinalSample, Cert.OutMlpSampleClaims.algebraic_FinalSample,
  Cert.OutMlpSampleClaims.preserves_FirstSample, Cert.OutMlpSampleClaims.algebraic_FirstSample,
  Cert.AbSampleClaims.preserves, Cert.AbSampleClaims.algebraic, Cert.CSampleClaims.preserves, Cert.CSampleClaims.algebraic,
  Cert.ConvSampleClaims.preserves, Cert.ConvSampleClaims.algebraic⟩

end Cert.Proof

end
